-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v31_4)) (v5 : (c : Dev Cert.Kernel2Ideal.nD) → Buf (Elt Ideal) ((c.tc : Thread Cert.Kernel2Ideal.nD Cert.Kernel2Ideal.τ).loc Cert.Kernel2Ideal.main_v31_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v31_4) = v4 c
          ∧ r.2.mem ((c.tc : Thread Cert.Kernel2Ideal.nD Cert.Kernel2Ideal.τ).loc Cert.Kernel2Ideal.main_v31_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v167) = v0 c
          ∧ r.2.mem ((c.tc : Thread Cert.Reference2Ideal.nD Cert.Reference2Ideal.τ).loc Cert.Reference2Ideal.main_v169) = v1 c
          ∧ r.2.mem ((c.tc : Thread Cert.Reference2Ideal.nD Cert.Reference2Ideal.τ).loc Cert.Reference2Ideal.main_v171) = v2 c
          ∧ r.2.mem ((c.tc : Thread Cert.Reference2Ideal.nD Cert.Reference2Ideal.τ).loc Cert.Reference2Ideal.main_v173) = v3 c
          ∧ r.2.mem ((c.tc : Thread Cert.Reference2Ideal.nD Cert.Reference2Ideal.τ).loc Cert.Reference2Ideal.main_v175) = v4 c
          ∧ r.2.mem ((c.tc : Thread Cert.Reference2Ideal.nD Cert.Reference2Ideal.τ).loc Cert.Reference2Ideal.main_v177) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v71_0)) (v1 : (c : Dev Cert.Kernel3Ideal.nD) → Buf (Elt Ideal) ((c.tc : Thread Cert.Kernel3Ideal.nD Cert.Kernel3Ideal.τ).loc Cert.Kernel3Ideal.main_v71_1)) (v2 : (c : Dev Cert.Kernel3Ideal.nD) → Buf (Elt Ideal) ((c.tc : Thread Cert.Kernel3Ideal.nD Cert.Kernel3Ideal.τ).loc Cert.Kernel3Ideal.main_v71_2)) (v3 : (c : Dev Cert.Kernel3Ideal.nD) → Buf (Elt Ideal) ((c.tc : Thread Cert.Kernel3Ideal.nD Cert.Kernel3Ideal.τ).loc Cert.Kernel3Ideal.main_v71_3)) (v4 : (c : Dev Cert.Kernel3Ideal.nD) → Buf (Elt Ideal) ((c.tc : Thread Cert.Kernel3Ideal.nD Cert.Kernel3Ideal.τ).loc Cert.Kernel3Ideal.main_v71_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71_0) = v0 c
          ∧ r.2.mem ((c.tc : Thread Cert.Kernel3Ideal.nD Cert.Kernel3Ideal.τ).loc Cert.Kernel3Ideal.main_v71_1) = v1 c
          ∧ r.2.mem ((c.tc : Thread Cert.Kernel3Ideal.nD Cert.Kernel3Ideal.τ).loc Cert.Kernel3Ideal.main_v71_2) = v2 c
          ∧ r.2.mem ((c.tc : Thread Cert.Kernel3Ideal.nD Cert.Kernel3Ideal.τ).loc Cert.Kernel3Ideal.main_v71_3) = v3 c
          ∧ r.2.mem ((c.tc : Thread Cert.Kernel3Ideal.nD Cert.Kernel3Ideal.τ).loc Cert.Kernel3Ideal.main_v71_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v128) = v0 c
          ∧ r.2.mem ((c.tc : Thread Cert.Reference4Ideal.nD Cert.Reference4Ideal.τ).loc Cert.Reference4Ideal.main_v133) = v1 c
          ∧ r.2.mem ((c.tc : Thread Cert.Reference4Ideal.nD Cert.Reference4Ideal.τ).loc Cert.Reference4Ideal.main_v131) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x1024 : Shape := ⟨2, ![4096, 1024]⟩
abbrev S1024x1024 : Shape := ⟨2, ![1024, 1024]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

class Facts : Prop where
  slices_S4x3072_S1x1024_2_2048 : S4x3072.Slices ![2, 2048] S1x1024
  shapeCasts_S1x1024_S1024 : S1x1024.ShapeCasts S1024
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S4x3072 .f32) (main_arg5 : FVec F S4x1024 .f32) (main_arg6 : FVec F S2x1024 .f32) : IVec S4096x1024 1 × IVec S4096x1024 1 × IVec S1024x1024 1 × IVec S1024 1 :=
  let main_v0 : FVec F S1x1024 .f32 := (extractStridedSlice S1x1024 ![2, 2048] · slices_S4x3072_S1x1024_2_2048) main_arg4
  let main_v1 : FVec F S1024 .f32 := shapeCast S1024 main_v0 shapeCasts_S1x1024_S1024
  let main_v2 : FVec F S4096x1024 .f32 := Host.absf main_arg0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S1024x1024 .f32 := Host.absf main_arg3
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024 .f32 := Host.absf main_v1
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  (main_v4, main_v7, main_v10, main_v13)
-- ==== Pre_finite2.lean ====
abbrev S4096x16x64 : Shape := ⟨3, ![4096, 16, 64]⟩
abbrev S4096x4x64 : Shape := ⟨3, ![4096, 4, 64]⟩
abbrev S2x16 : Shape := ⟨2, ![2, 16]⟩
abbrev S_ : Shape := ⟨0, ![]⟩

class Facts : Prop where
  bcast_S_S4096x16x64 : S_.BroadcastsInDim S4096x16x64 (![] : Fin 0 → Fin S4096x16x64.rank)
  bcast_S_S4096x4x64 : S_.BroadcastsInDim S4096x4x64 (![] : Fin 0 → Fin S4096x4x64.rank)
  bcast_S_S2x16 : S_.BroadcastsInDim S2x16 (![] : Fin 0 → Fin S2x16.rank)

variable [Facts]

def fn {F : FTy → Type} [FloatOps F] (main_arg0 : FVec F S4096x16x64 .f32) (main_arg1 : FVec F S4096x4x64 .f32) (main_arg2 : FVec F S4096x4x64 .f32) (main_arg3 : FVec F S2x16 .f32) (main_arg4 : FVec F S4096x16x64 .f32) : IVec S4096x16x64 1 × IVec S4096x4x64 1 × IVec S4096x4x64 1 × IVec S2x16 1 × IVec S4096x16x64 1 :=
  let main_v0 : FVec F S4096x16x64 .f32 := Host.absf main_arg0
  let main_cst : FVec F S_ .f32 := constant S_ .f32 0x7F800000#32
  let main_v1 : FVec F S4096x16x64 .f32 := broadcastInDim S4096x16x64 ![] bcast_S_S4096x16x64 main_cst
  let main_v2 : IVec S4096x16x64 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x4x64 .f32 := Host.absf main_arg2
  let main_cst_1 : FVec F S_ .f32 := constant S_ .f32 0x7F800000#32
  let main_v7 : FVec F S4096x4x64 .f32 := broadcastInDim S4096x4x64 ![] bcast_S_S4096x4x64 main_cst_1
  let main_v8 : IVec S4096x4x64 1 := cmpf .olt main_v6 main_v7
  let main_v9 : FVec F S2x16 .f32 := Host.absf main_arg3
  let main_cst_2 : FVec F S_ .f32 := constant S_ .f32 0x7F800000#32
  let main_v10 : FVec F S2x16 .f32 := broadcastInDim S2x16 ![] bcast_S_S2x16 main_cst_2
  let main_v11 : IVec S2x16 1 := cmpf .olt main_v9 main_v10
  let main_v12 : FVec F S4096x16x64 .f32 := Host.absf main_arg4
  let main_cst_3 : FVec F S_ .f32 := constant S_ .f32 0x7F800000#32
  let main_v13 : FVec F S4096x16x64 .f32 := broadcastInDim S4096x16x64 ![] bcast_S_S4096x16x64 main_cst_3
  let main_v14 : IVec S4096x16x64 1 := cmpf .olt main_v12 main_v13
  (main_v2, main_v5, main_v8, main_v11, main_v14)
-- ==== Pre_finite3.lean ====
abbrev S4096x1024 : Shape := ⟨2, ![4096, 1024]⟩
abbrev S4x256x256 : Shape := ⟨3, ![4, 256, 256]⟩
abbrev S1024x1024 : Shape := ⟨2, ![1024, 1024]⟩
abbrev S2x1024 : Shape := ⟨2, ![2, 1024]⟩
abbrev S4x3072 : Shape := ⟨2, ![4, 3072]⟩
abbrev S4x1024 : Shape := ⟨2, ![4, 1024]⟩
abbrev S1x1024 : Shape := ⟨2, ![1, 1024]⟩
abbrev S1024 : Shape := ⟨1, ![1024]⟩
abbrev S_ : Shape := ⟨0, ![]⟩

class Facts : Prop where
  slices_S2x1024_S1x1024_0_0 : S2x1024.Slices ![0, 0] S1x1024
  shapeCasts_S1x1024_S1024 : S1x1024.ShapeCasts S1024
  slices_S4x3072_S1x1024_1_2048 : S4x3072.Slices ![1, 2048] S1x1024
  bcast_S_S4096x1024 : S_.BroadcastsInDim S4096x1024 (![] : Fin 0 → Fin S4096x1024.rank)
  bcast_S_S4x256x256 : S_.BroadcastsInDim S4x256x256 (![] : Fin 0 → Fin S4x256x256.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_v3 : FVec F S1024 .f32) (main_v6 : IVec S4096x1024 1) (main_v9 : IVec S4096x1024 1) (main_v12 : IVec S4x256x256 1) (main_v15 : IVec S1024x1024 1) (main_v18 : IVec S1024 1) : IVec S4096x1024 1 × IVec S4096x1024 1 × IVec S4x256x256 1 × IVec S1024x1024 1 × IVec S1024 1 × IVec S1024 1 :=
  let main_v19 : FVec F S1024 .f32 := Host.absf main_v3
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  (main_v6, main_v9, main_v12, main_v15, main_v18, main_v21)

def fn {F : FTy → Type} [FloatOps F] (main_arg0 : FVec F S4096x1024 .f32) (main_arg1 : FVec F S4096x1024 .f32) (main_arg2 : FVec F S4096x1024 .f32) (main_arg3 : FVec F S4x256x256 .f32) (main_arg4 : FVec F S1024x1024 .f32) (main_arg5 : FVec F S2x1024 .f32) (main_arg6 : FVec F S4x3072 .f32) (main_arg7 : FVec F S4x1024 .f32) : IVec S4096x1024 1 × IVec S4096x1024 1 × IVec S4x256x256 1 × IVec S1024x1024 1 × IVec S1024 1 × IVec S1024 1 :=
  let main_v0 : FVec F S1x1024 .f32 := (extractStridedSlice S1x1024 ![0, 0] · slices_S2x1024_S1x1024_0_0) main_arg5
  let main_v1 : FVec F S1024 .f32 := shapeCast S1024 main_v0 shapeCasts_S1x1024_S1024
  let main_v2 : FVec F S1x1024 .f32 := (extractStridedSlice S1x1024 ![1, 2048] · slices_S4x3072_S1x1024_1_2048) main_arg6
  let main_v3 : FVec F S1024 .f32 := shapeCast S1024 main_v2 shapeCasts_S1x1024_S1024
  let main_v4 : FVec F S4096x1024 .f32 := Host.absf main_arg0
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  let main_v7 : FVec F S4096x1024 .f32 := Host.absf main_arg1
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S4x256x256 .f32 := Host.absf main_arg3
  let main_cst_1 : FVec F S_ .f32 := constant S_ .f32 0x7F800000#32
  let main_v11 : FVec F S4x256x256 .f32 := broadcastInDim S4x256x256 ![] bcast_S_S4x256x256 main_cst_1
  let main_v12 : IVec S4x256x256 1 := cmpf .olt main_v10 main_v11
  let main_v13 : FVec F S1024x1024 .f32 := Host.absf main_arg4
  let main_cst_2 : FVec F S_ .f32 := constant S_ .f32 0x7F800000#32
  let main_v14 : FVec F S1024x1024 .f32 := broadcastInDim S1024x1024 ![] bcast_S_S1024x1024 main_cst_2
  let main_v15 : IVec S1024x1024 1 := cmpf .olt main_v13 main_v14
  let main_v16 : FVec F S1024 .f32 := Host.absf main_v1
  let main_cst_3 : FVec F S_ .f32 := constant S_ .f32 0x7F800000#32
  let main_v17 : FVec F S1024 .f32 := broadcastInDim S1024 ![] bcast_S_S1024 main_cst_3
  let main_v18 : IVec S1024 1 := cmpf .olt main_v16 main_v17
  fn_part1 (F := F) main_v3 main_v6 main_v9 main_v12 main_v15 main_v18
-- ==== Pre_finite4.lean ====
abbrev S4096x1024 : Shape := ⟨2, ![4096, 1024]⟩
abbrev S1024x2048 : Shape := ⟨2, ![1024, 2048]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

class Facts : Prop where
  slices_S4x1024_S1x1024_1_0 : S4x1024.Slices ![1, 0] S1x1024
  shapeCasts_S1x1024_S1024 : S1x1024.ShapeCasts S1024
  slices_S4x3072_S1x1024_1_1024 : S4x3072.Slices ![1, 1024] S1x1024
  bcast_S_S4096x1024 : S_.BroadcastsInDim S4096x1024 (![] : Fin 0 → Fin S4096x1024.rank)
  bcast_S_S1024x2048 : S_.BroadcastsInDim S1024x2048 (![] : Fin 0 → Fin S1024x2048.rank)
  bcast_S_S1024 : S_.BroadcastsInDim S1024 (![] : Fin 0 → Fin S1024.rank)

variable [Facts]

def fn_part1 {F : FTy → Type} [FloatOps F] (main_v3 : FVec F S1024 .f32) (main_v6 : IVec S4096x1024 1) (main_v9 : IVec S4096x1024 1) (main_v12 : IVec S4096x1024 1) (main_v15 : IVec S1024x2048 1) (main_v18 : IVec S1024 1) : IVec S4096x1024 1 × IVec S4096x1024 1 × IVec S4096x1024 1 × IVec S1024x2048 1 × IVec S1024 1 × IVec S1024 1 :=
  let main_v19 : FVec F S1024 .f32 := Host.absf main_v3
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  (main_v6, main_v9, main_v12, main_v15, main_v18, main_v21)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024x2048 .f32) (main_arg5 : FVec F S4x3072 .f32) (main_arg6 : FVec F S4x1024 .f32) (main_arg7 : FVec F S2x1024 .f32) : IVec S4096x1024 1 × IVec S4096x1024 1 × IVec S4096x1024 1 × IVec S1024x2048 1 × IVec S1024 1 × IVec S1024 1 :=
  let main_v0 : FVec F S1x1024 .f32 := (extractStridedSlice S1x1024 ![1, 0] · slices_S4x1024_S1x1024_1_0) main_arg6
  let main_v1 : FVec F S1024 .f32 := shapeCast S1024 main_v0 shapeCasts_S1x1024_S1024
  let main_v2 : FVec F S1x1024 .f32 := (extractStridedSlice S1x1024 ![1, 1024] · slices_S4x3072_S1x1024_1_1024) main_arg5
  let main_v3 : FVec F S1024 .f32 := shapeCast S1024 main_v2 shapeCasts_S1x1024_S1024
  let main_v4 : FVec F S4096x1024 .f32 := Host.absf main_arg0
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  let main_v7 : FVec F S4096x1024 .f32 := Host.absf main_arg2
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S4096x1024 .f32 := Host.absf main_arg3
  let main_cst_1 : FVec F S_ .f32 := constant S_ .f32 0x7F800000#32
  let main_v11 : FVec F S4096x1024 .f32 := broadcastInDim S4096x1024 ![] bcast_S_S4096x1024 main_cst_1
  let main_v12 : IVec S4096x1024 1 := cmpf .olt main_v10 main_v11
  let main_v13 : FVec F S1024x2048 .f32 := Host.absf main_arg4
  let main_cst_2 : FVec F S_ .f32 := constant S_ .f32 0x7F800000#32
  let main_v14 : FVec F S1024x2048 .f32 := broadcastInDim S1024x2048 ![] bcast_S_S1024x2048 main_cst_2
  let main_v15 : IVec S1024x2048 1 := cmpf .olt main_v13 main_v14
  let main_v16 : FVec F S1024 .f32 := Host.absf main_v1
  let main_cst_3 : FVec F S_ .f32 := constant S_ .f32 0x7F800000#32
  let main_v17 : FVec F S1024 .f32 := broadcastInDim S1024 ![] bcast_S_S1024 main_cst_3
  let main_v18 : IVec S1024 1 := cmpf .olt main_v16 main_v17
  fn_part1 (F := F) main_v3 main_v6 main_v9 main_v12 main_v15 main_v18
-- ==== Kernel.lean ====
abbrev S4096x1024 : Shape := ⟨2, ![4096, 1024]⟩
abbrev S1024x1024 : Shape := ⟨2, ![1024, 1024]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S8x128 : Shape := ⟨2, ![8, 128]⟩
abbrev S4096x2048 : Shape := ⟨2, ![4096, 2048]⟩
abbrev S512x1024 : Shape := ⟨2, ![512, 1024]⟩
abbrev S1x8x1024 : Shape := ⟨3, ![1, 8, 1024]⟩
abbrev S512x2048 : Shape := ⟨2, ![512, 2048]⟩
abbrev S1x1x1024 : Shape := ⟨3, ![1, 1, 1024]⟩
abbrev S512x128 : Shape := ⟨2, ![512, 128]⟩

abbrev nBuf : Space → Nat
  | .hbm => 51
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4x3072, .f32⟩
  | .hbm, ⟨5, _⟩ => ⟨S4x1024, .f32⟩
  | .hbm, ⟨6, _⟩ => ⟨S2x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4x1024, .f32⟩
  | .hbm, ⟨24, _⟩ => ⟨S4x3x1024, .f32⟩
  | .hbm, ⟨25, _⟩ => ⟨S4x1x1024, .f32⟩
  | .hbm, ⟨26, _⟩ => ⟨S4x1x1024, .f32⟩
  | .hbm, ⟨27, _⟩ => ⟨S_, .f32⟩
  | .hbm, ⟨28, _⟩ => ⟨S4x3x1024, .f32⟩
  | .hbm, ⟨29, _⟩ => ⟨S4x8x1024, .f32⟩
  | .hbm, ⟨30, _⟩ => ⟨S4096x1024, .bf16⟩
  | .hbm, ⟨31, _⟩ => ⟨S4096x1024, .bf16⟩
  | .hbm, ⟨32, _⟩ => ⟨S1024x1024, .bf16⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S_, .f32⟩
  | .hbm, ⟨46, _⟩ => ⟨S8x128, .f32⟩
  | .hbm, ⟨47, _⟩ => ⟨S4096x2048, .bf16⟩
  | .hbm, ⟨48, _⟩ => ⟨S4096x1024, .bf16⟩
  | .hbm, ⟨49, _⟩ => ⟨S1024x1024, .bf16⟩
  | .hbm, ⟨50, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x8x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v130 : BitVec 1 := Scalar.cmpi .eq arg0 c7_i32
  let v131 : BitVec 32 := Scalar.extui v130
  let c0_i32_62 : BitVec 32 := 0#32
  let v132 : BitVec 1 := Scalar.cmpi .ne v131 c0_i32_62
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1024x1024 : Shape := ⟨2, ![1024, 1024]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096x8x2x64 : Shape := ⟨4, ![4096, 8, 2, 64]⟩
abbrev S4096x8x1x64 : Shape := ⟨4, ![4096, 8, 1, 64]⟩
abbrev S4096x8x64 : Shape := ⟨3, ![4096, 8, 64]⟩
abbrev S4096x8x128 : Shape := ⟨3, ![4096, 8, 128]⟩
abbrev S4096x8x1x128 : Shape := ⟨4, ![4096, 8, 1, 128]⟩
abbrev S4096x8x2x128 : Shape := ⟨4, ![4096, 8, 2, 128]⟩
abbrev S4096x2048 : Shape := ⟨2, ![4096, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4x3072, .f32⟩
  | .hbm, ⟨5, _⟩ => ⟨S4x1024, .f32⟩
  | .hbm, ⟨6, _⟩ => ⟨S2x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x8x2x64, .f32⟩
  | .hbm, ⟨48, _⟩ => ⟨S4096x8x1x64, .f32⟩
  | .hbm, ⟨49, _⟩ => ⟨S4096x8x64, .f32⟩
  | .hbm, ⟨50, _⟩ => ⟨S_, .i32⟩
  | .hbm, ⟨51, _⟩ => ⟨S_, .f32⟩
  | .hbm, ⟨52, _⟩ => ⟨S4096x8x128, .f32⟩
  | .hbm, ⟨53, _⟩ => ⟨S4096x8x1x64, .f32⟩
  | .hbm, ⟨54, _⟩ => ⟨S4096x8x64, .f32⟩
  | .hbm, ⟨55, _⟩ => ⟨S_, .i32⟩
  | .hbm, ⟨56, _⟩ => ⟨S_, .f32⟩
  | .hbm, ⟨57, _⟩ => ⟨S4096x8x128, .f32⟩
  | .hbm, ⟨58, _⟩ => ⟨S4096x8x1x128, .f32⟩
  | .hbm, ⟨59, _⟩ => ⟨S4096x8x1x128, .f32⟩
  | .hbm, ⟨60, _⟩ => ⟨S4096x8x2x128, .f32⟩
  | .hbm, ⟨61, _⟩ => ⟨S4096x2048, .f32⟩
  | .hbm, ⟨62, _⟩ => ⟨S4096x2048, .bf16⟩
  | .hbm, ⟨63, _⟩ => ⟨S4096x1024, .bf16⟩
  | .hbm, ⟨64, _⟩ => ⟨S1024x1024, .bf16⟩
  | .hbm, ⟨65, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v6_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v6_1 : Ref sig .tc := ⟨.hbm, 24, rfl⟩
abbrev main_v6_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_1 : Ref sig .tc := ⟨.hbm, 55, rfl⟩
abbrev main_call3_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== Kernel2.lean ====
abbrev S4096x16x64 : Shape := ⟨3, ![4096, 16, 64]⟩
abbrev S4096x4x64 : Shape := ⟨3, ![4096, 4, 64]⟩
abbrev S2x16 : Shape := ⟨2, ![2, 16]⟩
abbrev S_ : Shape := ⟨0, ![]⟩
abbrev S4096x8x128 : Shape := ⟨3, ![4096, 8, 128]⟩
abbrev S128 : Shape := ⟨1, ![128]⟩
abbrev S4096x8x1x128 : Shape := ⟨4, ![4096, 8, 1, 128]⟩
abbrev S4096x8x2x128 : Shape := ⟨4, ![4096, 8, 2, 128]⟩
abbrev S4096x2048 : Shape := ⟨2, ![4096, 2048]⟩
abbrev S4096x4x128 : Shape := ⟨3, ![4096, 4, 128]⟩
abbrev S4096x512 : Shape := ⟨2, ![4096, 512]⟩
abbrev S8x128 : Shape := ⟨2, ![8, 128]⟩
abbrev S4096x1024 : Shape := ⟨2, ![4096, 1024]⟩
abbrev S16x128x256 : Shape := ⟨3, ![16, 128, 256]⟩
abbrev S1x128 : Shape := ⟨2, ![1, 128]⟩
abbrev S256x2048 : Shape := ⟨2, ![256, 2048]⟩
abbrev S128x512 : Shape := ⟨2, ![128, 512]⟩
abbrev S256x512 : Shape := ⟨2, ![256, 512]⟩
abbrev S256x1024 : Shape := ⟨2, ![256, 1024]⟩
abbrev S1x128x256 : Shape := ⟨3, ![1, 128, 256]⟩
abbrev S128x256 : Shape := ⟨2, ![128, 256]⟩
abbrev S8x256 : Shape := ⟨2, ![8, 256]⟩
abbrev S128x128 : Shape := ⟨2, ![128, 128]⟩
abbrev S1x256 : Shape := ⟨2, ![1, 256]⟩
abbrev S256x128 : Shape := ⟨2, ![256, 128]⟩
abbrev S256x256 : Shape := ⟨2, ![256, 256]⟩
abbrev S1x1 : Shape := ⟨2, ![1, 1]⟩
abbrev S256 : Shape := ⟨1, ![256]⟩
abbrev S1 : Shape := ⟨1, ![1]⟩

abbrev nBuf : Space → Nat
  | .hbm => 62
  | .vmem => 26
  | .smem => 1
  | _ => 0

abbrev bufTy : (tb : Table) → Fin (tcTables nBuf tb) → BufTy
  | .hbm, ⟨0, _⟩ => ⟨S4096x16x64, .f32⟩
  | .hbm, ⟨1, _⟩ => ⟨S4096x4x64, .f32⟩
  | .hbm, ⟨2, _⟩ => ⟨S4096x4x64, .f32⟩
  | .hbm, ⟨3, _⟩ => ⟨S2x16, .f32⟩
  | .hbm, ⟨4, _⟩ => ⟨S4096x16x64, .f32⟩
  | .hbm, ⟨5, _⟩ => ⟨S_, .f32⟩
  | .hbm, ⟨6, _⟩ => ⟨S4096x16x64, .f32⟩
  | .hbm, ⟨7, _⟩ => ⟨S4096x16x64, .f32⟩
  | .hbm, ⟨8, _⟩ => ⟨S4096x8x128, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .f32⟩
  | .hbm, ⟨14, _⟩ => ⟨S_, .f32⟩
  | .hbm, ⟨15, _⟩ => ⟨S4096x8x128, .i1⟩
  | .hbm, ⟨16, _⟩ => ⟨S4096x8x128, .f32⟩
  | .hbm, ⟨17, _⟩ => ⟨S4096x8x128, .f32⟩
  | .hbm, ⟨18, _⟩ => ⟨S_, .f32⟩
  | .hbm, ⟨19, _⟩ => ⟨S_, .f32⟩
  | .hbm, ⟨20, _⟩ => ⟨S4096x8x128, .i1⟩
  | .hbm, ⟨21, _⟩ => ⟨S4096x8x128, .f32⟩
  | .hbm, ⟨22, _⟩ => ⟨S4096x8x128, .f32⟩
  | .hbm, ⟨23, _⟩ => ⟨S4096x8x1x128, .f32⟩
  | .hbm, ⟨24, _⟩ => ⟨S4096x8x1x128, .f32⟩
  | .hbm, ⟨25, _⟩ => ⟨S4096x8x2x128, .f32⟩
  | .hbm, ⟨26, _⟩ => ⟨S4096x2048, .f32⟩
  | .hbm, ⟨27, _⟩ => ⟨S4096x2048, .bf16⟩
  | .hbm, ⟨28, _⟩ => ⟨S4096x8x128, .f32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .f32⟩
  | .hbm, ⟨34, _⟩ => ⟨S_, .f32⟩
  | .hbm, ⟨35, _⟩ => ⟨S4096x8x128, .i1⟩
  | .hbm, ⟨36, _⟩ => ⟨S4096x8x128, .f32⟩
  | .hbm, ⟨37, _⟩ => ⟨S4096x8x128, .f32⟩
  | .hbm, ⟨38, _⟩ => ⟨S_, .f32⟩
  | .hbm, ⟨39, _⟩ => ⟨S_, .f32⟩
  | .hbm, ⟨40, _⟩ => ⟨S4096x8x128, .i1⟩
  | .hbm, ⟨41, _⟩ => ⟨S4096x8x128, .f32⟩
  | .hbm, ⟨42, _⟩ => ⟨S4096x8x128, .f32⟩
  | .hbm, ⟨43, _⟩ => ⟨S4096x8x1x128, .f32⟩
  | .hbm, ⟨44, _⟩ => ⟨S4096x8x1x128, .f32⟩
  | .hbm, ⟨45, _⟩ => ⟨S4096x8x2x128, .f32⟩
  | .hbm, ⟨46, _⟩ => ⟨S4096x2048, .f32⟩
  | .hbm, ⟨47, _⟩ => ⟨S4096x2048, .bf16⟩
  | .hbm, ⟨48, _⟩ => ⟨S4096x4x128, .f32⟩
  | .hbm, ⟨49, _⟩ => ⟨S4096x512, .f32⟩
  | .hbm, ⟨50, _⟩ => ⟨S4096x512, .bf16⟩
  | .hbm, ⟨51, _⟩ => ⟨S4096x4x128, .f32⟩
  | .hbm, ⟨52, _⟩ => ⟨S4096x512, .f32⟩
  | .hbm, ⟨53, _⟩ => ⟨S4096x512, .bf16⟩
  | .hbm, ⟨54, _⟩ => ⟨S_, .f32⟩
  | .hbm, ⟨55, _⟩ => ⟨S8x128, .f32⟩
  | .hbm, ⟨56, _⟩ => ⟨S4096x1024, .f32⟩
  | .hbm, ⟨57, _⟩ => ⟨S16x128x256, .f32⟩
  | .hbm, ⟨58, _⟩ => ⟨S16x128x256, .f32⟩
  | .hbm, ⟨59, _⟩ => ⟨S16x128x256, .bf16⟩
  | .hbm, ⟨60, _⟩ => ⟨S16x128x256, .bf16⟩
  | .hbm, ⟨61, _⟩ => ⟨S1x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S128x512, .bf16⟩
  | .local _ .vmem, ⟨5, _⟩ => ⟨S128x512, .bf16⟩
  | .local _ .vmem, ⟨6, _⟩ => ⟨S256x512, .bf16⟩
  | .local _ .vmem, ⟨7, _⟩ => ⟨S256x512, .bf16⟩
  | .local _ .vmem, ⟨8, _⟩ => ⟨S128x512, .bf16⟩
  | .local _ .vmem, ⟨9, _⟩ => ⟨S128x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128, .f32⟩
  | .local _ .vmem, ⟨23, _⟩ => ⟨S128x256, .f32⟩
  | .local _ .vmem, ⟨24, _⟩ => ⟨S128x256, .f32⟩
  | .local _ .vmem, ⟨25, _⟩ => ⟨S8x256, .f32⟩
  | .local _ .smem, ⟨0, _⟩ => ⟨S2x16, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v17 : Ref sig .tc := ⟨.hbm, 37, rfl⟩
abbrev main_cst_4 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v31_2 : Ref sig .tc := ⟨.hbm, 58, rfl⟩
abbrev main_v31_3 : Ref sig .tc := ⟨.hbm, 59, rfl⟩
abbrev main_v31_4 : Ref sig .tc := ⟨.hbm, 60, rfl⟩
abbrev main_v31_5 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S4096x16x64 : Shape := ⟨3, ![4096, 16, 64]⟩
abbrev S4096x4x64 : Shape := ⟨3, ![4096, 4, 64]⟩
abbrev S2x16 : Shape := ⟨2, ![2, 16]⟩
abbrev S1x16 : Shape := ⟨2, ![1, 16]⟩
abbrev S16 : Shape := ⟨1, ![16]⟩
abbrev S32x128x4x4x64 : Shape := ⟨5, ![32, 128, 4, 4, 64]⟩
abbrev S_ : Shape := ⟨0, ![]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S4096x1024 : Shape := ⟨2, ![4096, 1024]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S16x2x128x256 : Shape := ⟨4, ![16, 2, 128, 256]⟩
abbrev S16x1x128x256 : Shape := ⟨4, ![16, 1, 128, 256]⟩
abbrev S16x128x256 : Shape := ⟨3, ![16, 128, 256]⟩
abbrev S1x128 : Shape := ⟨2, ![1, 128]⟩

abbrev nBuf : Space → Nat
  | .hbm => 227
  | .vmem => 0
  | .smem => 0
  | _ => 0

abbrev hbmTy0_0 (i : Nat) : BufTy := match i % 128 with
  | 0 => ⟨S4096x16x64, .f32⟩
  | 1 => ⟨S4096x4x64, .f32⟩
  | 2 => ⟨S4096x4x64, .f32⟩
  | 3 => ⟨S2x16, .f32⟩
  | 4 => ⟨S4096x16x64, .f32⟩
  | 5 => ⟨S1x16, .f32⟩
  | 6 => ⟨S16, .f32⟩
  | 7 => ⟨S32x128x4x4x64, .f32⟩
  | 8 => ⟨S_, .f32⟩
  | 9 => ⟨S128x4x64, .f32⟩
  | 10 => ⟨S4224x4x64, .f32⟩
  | 11 => ⟨S_, .f32⟩
  | 12 => ⟨S128x4x64, .f32⟩
  | 13 => ⟨S33x128x4x64, .f32⟩
  | 14 => ⟨S32x128x4x64, .f32⟩
  | 15 => ⟨S32x128x4x64, .f32⟩
  | 16 => ⟨S32x256x4x64, .f32⟩
  | 17 => ⟨S_, .f32⟩
  | 18 => ⟨S128x4x64, .f32⟩
  | 19 => ⟨S4224x4x64, .f32⟩
  | 20 => ⟨S_, .f32⟩
  | 21 => ⟨S128x4x64, .f32⟩
  | 22 => ⟨S33x128x4x64, .f32⟩
  | 23 => ⟨S32x128x4x64, .f32⟩
  | 24 => ⟨S32x128x4x64, .f32⟩
  | 25 => ⟨S32x256x4x64, .f32⟩
  | 26 => ⟨S32x4x256x128x4, .f32⟩
  | 27 => ⟨S32x4x4x128x256, .f32⟩
  | 28 => ⟨S_, .f32⟩
  | 29 => ⟨S32x4x4x128x256, .f32⟩
  | 30 => ⟨S32x4x4x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S32, .i32⟩
  | 49 => ⟨S32x1x1, .i32⟩
  | 50 => ⟨S_, .i32⟩
  | 51 => ⟨S32x1x1, .i32⟩
  | 52 => ⟨S32x1x1, .i32⟩
  | 53 => ⟨S1x1x256, .i32⟩
  | 54 => ⟨S32x1x256, .i32⟩
  | 55 => ⟨S32x1x256, .i32⟩
  | 56 => ⟨S32x1x256, .i32⟩
  | 57 => ⟨S_, .i32⟩
  | 58 => ⟨S32x1x256, .i32⟩
  | 59 => ⟨S32x1x256, .i32⟩
  | 60 => ⟨S1x128x256, .i1⟩
  | 61 => ⟨S_, .i32⟩
  | 62 => ⟨S32x1x256, .i32⟩
  | 63 => ⟨S32x1x256, .i1⟩
  | 64 => ⟨S32x128x256, .i1⟩
  | 65 => ⟨S32x128x256, .i1⟩
  | 66 => ⟨S32x128x256, .i1⟩
  | 67 => ⟨S32x1x1x128x256, .i1⟩
  | 68 => ⟨S_, .f32⟩
  | 69 => ⟨S_, .f32⟩
  | 70 => ⟨S32x4x4x128x256, .i1⟩
  | 71 => ⟨S32x4x4x128x256, .f32⟩
  | 72 => ⟨S32x4x4x128x256, .f32⟩
  | 73 => ⟨S_, .f32⟩
  | 74 => ⟨S32x4x4x128x256, .f32⟩
  | 75 => ⟨S4x4, .f32⟩
  | 76 => ⟨S1x4x4x1x1, .f32⟩
  | 77 => ⟨S_, .f32⟩
  | 78 => ⟨S32x4x4x128, .f32⟩
  | 79 => ⟨S32x4x4x128x1, .f32⟩
  | 80 => ⟨S32x4x4x128x256, .f32⟩
  | 81 => ⟨S32x4x4x128x256, .i1⟩
  | 82 => ⟨S32x4x4x128x256, .f32⟩
  | 83 => ⟨S_, .f32⟩
  | 84 => ⟨S32x4x4x128, .f32⟩
  | 85 => ⟨S32x4x4x128x1, .f32⟩
  | 86 => ⟨S32x4x4x128x1, .f32⟩
  | 87 => ⟨S32x4x4x128x1, .f32⟩
  | 88 => ⟨S32x4x4x128x1, .f32⟩
  | 89 => ⟨S32x4x4x128x1, .i1⟩
  | 90 => ⟨S32x4x4x128x1, .f32⟩
  | 91 => ⟨S32x4x4x128x1, .i1⟩
  | 92 => ⟨S_, .f32⟩
  | 93 => ⟨S32x4x4x128x1, .f32⟩
  | 94 => ⟨S_, .f32⟩
  | 95 => ⟨S32x4x4x128x1, .f32⟩
  | 96 => ⟨S_, .f32⟩
  | 97 => ⟨S32x4x4x128x1, .f32⟩
  | 98 => ⟨S32x4x4x128x1, .f32⟩
  | 99 => ⟨S32x4x4x128x1, .f32⟩
  | 100 => ⟨S32x4x4x128x1, .f32⟩
  | 101 => ⟨S32x4x4x128x1, .i1⟩
  | 102 => ⟨S32x4x4x128x1, .f32⟩
  | 103 => ⟨S32x4x4x128x1, .i1⟩
  | 104 => ⟨S_, .f32⟩
  | 105 => ⟨S32x4x4x128x1, .f32⟩
  | 106 => ⟨S_, .f32⟩
  | 107 => ⟨S32x4x4x128x1, .f32⟩
  | 108 => ⟨S_, .f32⟩
  | 109 => ⟨S32x4x4x128x1, .f32⟩
  | 110 => ⟨S32x4x4x128x1, .f32⟩
  | 111 => ⟨S32x4x4x128x1, .f32⟩
  | 112 => ⟨S32x4x4x128x256, .f32⟩
  | 113 => ⟨S32x4x4x128x256, .f32⟩
  | 114 => ⟨S32x4x4x128x256, .f32⟩
  | 115 => ⟨S_, .f32⟩
  | 116 => ⟨S32x4x4x128, .f32⟩
  | 117 => ⟨S32x4x4x128x1, .f32⟩
  | 118 => ⟨S32x4x4x128x1, .f32⟩
  | 119 => ⟨S32x4x4x128x1, .f32⟩
  | 120 => ⟨S32x4x4x128x1, .f32⟩
  | 121 => ⟨S32x4x4x128x1, .f32⟩
  | 122 => ⟨S32x4x4x128x256, .f32⟩
  | 123 => ⟨S32x4x4x128x256, .f32⟩
  | 124 => ⟨S32x4x4x128x1, .f32⟩
  | 125 => ⟨S_, .f32⟩
  | 126 => ⟨S32x4x4x128x1, .f32⟩
  | 127 => ⟨S32x4x4x128x1, .f32⟩
  | _ => ⟨S4096x16x64, .f32⟩

abbrev hbmTy0_1 (i : Nat) : BufTy := match i % 128 with
  | 0 => ⟨S32x4x64x4x128, .f32⟩
  | 1 => ⟨S32x128x4x4x64, .f32⟩
  | 2 => ⟨S4096x1024, .f32⟩
  | 3 => ⟨S4096x1024, .f32⟩
  | 4 => ⟨S32x128x4x4x64, .f32⟩
  | 5 => ⟨S32x4x64x4x128, .f32⟩
  | 6 => ⟨S32x4x4x128x256, .f32⟩
  | 7 => ⟨S32x4x64x256, .f32⟩
  | 8 => ⟨S32x256x4x64, .f32⟩
  | 9 => ⟨S32x4x4x128x256, .f32⟩
  | 10 => ⟨S32x4x4x128x256, .f32⟩
  | 11 => ⟨S32x4x4x128x256, .f32⟩
  | 12 => ⟨S_, .f32⟩
  | 13 => ⟨S32x4x4x128, .f32⟩
  | 14 => ⟨S32x4x4x128x1, .f32⟩
  | 15 => ⟨S32x4x4x128x1, .f32⟩
  | 16 => ⟨S32x4x4x128x256, .f32⟩
  | 17 => ⟨S32x4x4x128x256, .f32⟩
  | 18 => ⟨S32x4x4x128x1, .f32⟩
  | 19 => ⟨S_, .f32⟩
  | 20 => ⟨S4x4x1, .f32⟩
  | 21 => ⟨S1x4x4x1x1, .f32⟩
  | 22 => ⟨S32x4x4x128x1, .f32⟩
  | 23 => ⟨S_, .f32⟩
  | 24 => ⟨S32x4x4x128, .f32⟩
  | 25 => ⟨S32x4x4x128x256, .f32⟩
  | 26 => ⟨S32x4x4x128x256, .f32⟩
  | 27 => ⟨S32x4x4x128x256, .f32⟩
  | 28 => ⟨S32x4x4x128x256, .f32⟩
  | 29 => ⟨S_, .f32⟩
  | 30 => ⟨S32x4x4x128, .f32⟩
  | 31 => ⟨S32x4x4x128x1, .f32⟩
  | 32 => ⟨S32x4x4x128x1, .f32⟩
  | 33 => ⟨S32x4x4x128x1, .f32⟩
  | 34 => ⟨S_, .f32⟩
  | 35 => ⟨S4x4x1, .f32⟩
  | 36 => ⟨S1x4x4x1x1, .f32⟩
  | 37 => ⟨S1x4x4x1x1, .f32⟩
  | 38 => ⟨S32x4x4x128x1, .f32⟩
  | 39 => ⟨S_, .f32⟩
  | 40 => ⟨S32x4x4x128, .f32⟩
  | 41 => ⟨S32x4x4x128, .f32⟩
  | 42 => ⟨S32x4x4x128x256, .f32⟩
  | 43 => ⟨S32x4x4x128x256, .f32⟩
  | 44 => ⟨S32x4x4x128x256, .f32⟩
  | 45 => ⟨S_, .f32⟩
  | 46 => ⟨S4x4, .f32⟩
  | 47 => ⟨S16, .f32⟩
  | 48 => ⟨S_, .f32⟩
  | 49 => ⟨S32x4x4x128x256, .f32⟩
  | 50 => ⟨S32x4x4x128x256, .f32⟩
  | 51 => ⟨S_, .f32⟩
  | 52 => ⟨S32x4x4x128x256, .f32⟩
  | 53 => ⟨S32x4x4x128x256, .f32⟩
  | 54 => ⟨S32x4x256x128x4, .f32⟩
  | 55 => ⟨S32x4x128x4x64, .f32⟩
  | 56 => ⟨S32x128x4x4x64, .f32⟩
  | 57 => ⟨S32x4x256x64, .f32⟩
  | 58 => ⟨S32x256x4x64, .f32⟩
  | 59 => ⟨S32x128x4x64, .f32⟩
  | 60 => ⟨S32x128x4x64, .f32⟩
  | 61 => ⟨S_, .f32⟩
  | 62 => ⟨S33x128x4x64, .f32⟩
  | 63 => ⟨S_, .f32⟩
  | 64 => ⟨S33x128x4x64, .f32⟩
  | 65 => ⟨S33x128x4x64, .f32⟩
  | 66 => ⟨S4224x4x64, .f32⟩
  | 67 => ⟨S128x4x64, .f32⟩
  | 68 => ⟨S4096x4x64, .f32⟩
  | 69 => ⟨S32x128x4x64, .f32⟩
  | 70 => ⟨S32x128x4x64, .f32⟩
  | 71 => ⟨S_, .f32⟩
  | 72 => ⟨S33x128x4x64, .f32⟩
  | 73 => ⟨S_, .f32⟩
  | 74 => ⟨S33x128x4x64, .f32⟩
  | 75 => ⟨S33x128x4x64, .f32⟩
  | 76 => ⟨S4224x4x64, .f32⟩
  | 77 => ⟨S128x4x64, .f32⟩
  | 78 => ⟨S4096x4x64, .f32⟩
  | 79 => ⟨S4096x16x64, .f32⟩
  | 80 => ⟨S16x2x128x256, .f32⟩
  | 81 => ⟨S16x2x128x256, .f32⟩
  | 82 => ⟨S16x2x128x256, .bf16⟩
  | 83 => ⟨S4096x1024, .f32⟩
  | 84 => ⟨S_, .f32⟩
  | 85 => ⟨S4096x1024, .f32⟩
  | 86 => ⟨S4096x1024, .f32⟩
  | 87 => ⟨S16x1x128x256, .f32⟩
  | 88 => ⟨S16x128x256, .f32⟩
  | 89 => ⟨S16x1x128x256, .f32⟩
  | 90 => ⟨S16x128x256, .f32⟩
  | 91 => ⟨S16x1x128x256, .bf16⟩
  | 92 => ⟨S16x128x256, .bf16⟩
  | 93 => ⟨S16x1x128x256, .bf16⟩
  | 94 => ⟨S16x128x256, .bf16⟩
  | 95 => ⟨S1x16, .f32⟩
  | 96 => ⟨S_, .i32⟩
  | 97 => ⟨S_, .f32⟩
  | 98 => ⟨S1x128, .f32⟩
  | _ => ⟨S4096x16x64, .f32⟩

abbrev hbmTy (i : Nat) : BufTy := match i / 128 with
  | 0 => hbmTy0_0 i
  | 1 => hbmTy0_1 i
  | _ => ⟨S4096x16x64, .f32⟩

abbrev bufTy : (tb : Table) → Fin (tcTables nBuf tb) → BufTy
  | .hbm, ⟨i, _⟩ => hbmTy i
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_call0_v0 : Ref sig .tc := ⟨.hbm, 69, rfl⟩
abbrev main_v52_1 : Ref sig .tc := ⟨.hbm, 70, rfl⟩
abbrev main_call0_v2 : Ref sig .tc := ⟨.hbm, 71, rfl⟩
abbrev main_v52_0 : Ref sig .tc := ⟨.hbm, 72, rfl⟩
abbrev main_call0_cst : Ref sig .tc := ⟨.hbm, 73, rfl⟩
abbrev main_v52_2 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_20 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_22 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_24 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_25 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_26 : Ref sig .tc := ⟨.hbm, 173, rfl⟩
abbrev main_v135 : Ref sig .tc := ⟨.hbm, 174, rfl⟩
abbrev main_v136 : Ref sig .tc := ⟨.hbm, 175, rfl⟩
abbrev main_call1_cst : Ref sig .tc := ⟨.hbm, 176, rfl⟩
abbrev main_call1_v0 : Ref sig .tc := ⟨.hbm, 177, rfl⟩
abbrev main_v137 : Ref sig .tc := ⟨.hbm, 178, rfl⟩
abbrev main_cst_27 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_28 : Ref sig .tc := ⟨.hbm, 189, rfl⟩
abbrev main_v147 : Ref sig .tc := ⟨.hbm, 190, rfl⟩
abbrev main_cst_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_30 : Ref sig .tc := ⟨.hbm, 199, rfl⟩
abbrev main_v155 : Ref sig .tc := ⟨.hbm, 200, rfl⟩
abbrev main_cst_31 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_32 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_c_33 : Ref sig .tc := ⟨.hbm, 224, rfl⟩
abbrev main_call2_v0 : Ref sig .tc := ⟨.hbm, 225, rfl⟩
abbrev main_v177 : Ref sig .tc := ⟨.hbm, 226, rfl⟩

abbrev nD : Nat := 1
abbrev τ : Topo := Topo.v7x

variable {F : FTy → Type} [FloatOps F]
-- ==== Kernel3.lean ====
abbrev S4096x1024 : Shape := ⟨2, ![4096, 1024]⟩
abbrev S4x256x256 : Shape := ⟨3, ![4, 256, 256]⟩
abbrev S1024x1024 : Shape := ⟨2, ![1024, 1024]⟩
abbrev S2x1024 : Shape := ⟨2, ![2, 1024]⟩
abbrev S4x3072 : Shape := ⟨2, ![4, 3072]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S4x8x1x1024 : Shape := ⟨4, ![4, 8, 1, 1024]⟩
abbrev S4096x4x256 : Shape := ⟨3, ![4096, 4, 256]⟩
abbrev S4094x1x256 : Shape := ⟨3, ![4094, 1, 256]⟩
abbrev S4096x1x256 : Shape := ⟨3, ![4096, 1, 256]⟩
abbrev S4092x1x256 : Shape := ⟨3, ![4092, 1, 256]⟩
abbrev S4088x1x256 : Shape := ⟨3, ![4088, 1, 256]⟩
abbrev S4080x1x256 : Shape := ⟨3, ![4080, 1, 256]⟩
abbrev S4096 : Shape := ⟨1, ![4096]⟩
abbrev S4096x1 : Shape := ⟨2, ![4096, 1]⟩
abbrev S4096x4 : Shape := ⟨2, ![4096, 4]⟩
abbrev S4096x4x1 : Shape := ⟨3, ![4096, 4, 1]⟩
abbrev S4x256x4096 : Shape := ⟨3, ![4, 256, 4096]⟩
abbrev S8x128 : Shape := ⟨2, ![8, 128]⟩
abbrev S8x1024 : Shape := ⟨2, ![8, 1024]⟩
abbrev S512x1024 : Shape := ⟨2, ![512, 1024]⟩
abbrev S16x1024 : Shape := ⟨2, ![16, 1024]⟩
abbrev S1x1x1x1024 : Shape := ⟨4, ![1, 1, 1, 1024]⟩
abbrev S1x8x1024 : Shape := ⟨3, ![1, 8, 1024]⟩
abbrev S2x536x1024 : Shape := ⟨3, ![2, 536, 1024]⟩
abbrev S1x16x1024 : Shape := ⟨3, ![1, 16, 1024]⟩
abbrev S1x512x1024 : Shape := ⟨3, ![1, 512, 1024]⟩
abbrev S512x1 : Shape := ⟨2, ![512, 1]⟩
abbrev S1x528x256 : Shape := ⟨3, ![1, 528, 256]⟩
abbrev S528x256 : Shape := ⟨2, ![528, 256]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S1x1x1024 : Shape := ⟨3, ![1, 1, 1024]⟩

abbrev nBuf : Space → Nat
  | .hbm => 107
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S1024x1024, .f32⟩
  | .hbm, ⟨5, _⟩ => ⟨S2x1024, .f32⟩
  | .hbm, ⟨6, _⟩ => ⟨S4x3072, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x1024, .f32⟩
  | .hbm, ⟨25, _⟩ => ⟨S4x3x1024, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S4x3x1024, .f32⟩
  | .hbm, ⟨30, _⟩ => ⟨S4x8x1024, .f32⟩
  | .hbm, ⟨31, _⟩ => ⟨S4x8x1x1024, .f32⟩
  | .hbm, ⟨32, _⟩ => ⟨S4096x1024, .bf16⟩
  | .hbm, ⟨33, _⟩ => ⟨S4096x1024, .bf16⟩
  | .hbm, ⟨34, _⟩ => ⟨S4x256x256, .bf16⟩
  | .hbm, ⟨35, _⟩ => ⟨S1024x1024, .bf16⟩
  | .hbm, ⟨36, _⟩ => ⟨S4096x4x256, .f32⟩
  | .hbm, ⟨37, _⟩ => ⟨S_, .f32⟩
  | .hbm, ⟨38, _⟩ => ⟨S_, .f32⟩
  | .hbm, ⟨39, _⟩ => ⟨S4096x4x256, .f32⟩
  | .hbm, ⟨40, _⟩ => ⟨S4094x1x256, .f32⟩
  | .hbm, ⟨41, _⟩ => ⟨S_, .f32⟩
  | .hbm, ⟨42, _⟩ => ⟨S4096x1x256, .f32⟩
  | .hbm, ⟨43, _⟩ => ⟨S4092x1x256, .f32⟩
  | .hbm, ⟨44, _⟩ => ⟨S_, .f32⟩
  | .hbm, ⟨45, _⟩ => ⟨S4096x1x256, .f32⟩
  | .hbm, ⟨46, _⟩ => ⟨S4088x1x256, .f32⟩
  | .hbm, ⟨47, _⟩ => ⟨S_, .f32⟩
  | .hbm, ⟨48, _⟩ => ⟨S4096x1x256, .f32⟩
  | .hbm, ⟨49, _⟩ => ⟨S4080x1x256, .f32⟩
  | .hbm, ⟨50, _⟩ => ⟨S_, .f32⟩
  | .hbm, ⟨51, _⟩ => ⟨S4096x1x256, .f32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x1, .i32⟩
  | .hbm, ⟨70, _⟩ => ⟨S4096x1, .i32⟩
  | .hbm, ⟨71, _⟩ => ⟨S4096x1, .i32⟩
  | .hbm, ⟨72, _⟩ => ⟨S4096x4, .i32⟩
  | .hbm, ⟨73, _⟩ => ⟨S4096x4, .f32⟩
  | .hbm, ⟨74, _⟩ => ⟨S4096x4x256, .f32⟩
  | .hbm, ⟨75, _⟩ => ⟨S4096x4x256, .f32⟩
  | .hbm, ⟨76, _⟩ => ⟨S4096x4x1, .f32⟩
  | .hbm, ⟨77, _⟩ => ⟨S4096x4x256, .f32⟩
  | .hbm, ⟨78, _⟩ => ⟨S4096x4x256, .f32⟩
  | .hbm, ⟨79, _⟩ => ⟨S4096x4x256, .f32⟩
  | .hbm, ⟨80, _⟩ => ⟨S4x256x4096, .f32⟩
  | .hbm, ⟨81, _⟩ => ⟨S4096x4x256, .f32⟩
  | .hbm, ⟨82, _⟩ => ⟨S4096x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S_, .f32⟩
  | .hbm, ⟨101, _⟩ => ⟨S8x128, .f32⟩
  | .hbm, ⟨102, _⟩ => ⟨S4096x1024, .f32⟩
  | .hbm, ⟨103, _⟩ => ⟨S4096x1024, .bf16⟩
  | .hbm, ⟨104, _⟩ => ⟨S1024x1024, .bf16⟩
  | .hbm, ⟨105, _⟩ => ⟨S4x256x256, .bf16⟩
  | .hbm, ⟨106, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S4x256x256, .bf16⟩
  | .local _ .vmem, ⟨11, _⟩ => ⟨S1024x1024, .bf16⟩
  | .local _ .vmem, ⟨12, _⟩ => ⟨S1x1x1x1024, .f32⟩
  | .local _ .vmem, ⟨13, _⟩ => ⟨S1x8x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S4x256x256, .bf16⟩
  | .local _ .vmem, ⟨20, _⟩ => ⟨S8x1024, .f32⟩
  | .local _ .vmem, ⟨21, _⟩ => ⟨S2x536x1024, .f32⟩
  | .local _ .vmem, ⟨22, _⟩ => ⟨S1024x1024, .f32⟩
  | .local _ .vmem, ⟨23, _⟩ => ⟨S4x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_10 : Ref sig .tc := ⟨.hbm, 100, rfl⟩
abbrev main_v70 : Ref sig .tc := ⟨.hbm, 101, rfl⟩
abbrev main_v71_0 : Ref sig .tc := ⟨.hbm, 102, rfl⟩
abbrev main_v71_1 : Ref sig .tc := ⟨.hbm, 103, rfl⟩
abbrev main_v71_2 : Ref sig .tc := ⟨.hbm, 104, rfl⟩
abbrev main_v71_3 : Ref sig .tc := ⟨.hbm, 105, rfl⟩
abbrev main_v71_4 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v300 : BitVec 1 := Scalar.cmpi .eq arg0 c7_i32
  let v301 : BitVec 32 := Scalar.extui v300
  let c0_i32_227 : BitVec 32 := 0#32
  let v302 : BitVec 1 := Scalar.cmpi .ne v301 c0_i32_227
  v302

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, c4_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S4096x1024 : Shape := ⟨2, ![4096, 1024]⟩
abbrev S4x256x256 : Shape := ⟨3, ![4, 256, 256]⟩
abbrev S1024x1024 : Shape := ⟨2, ![1024, 1024]⟩
abbrev S2x1024 : Shape := ⟨2, ![2, 1024]⟩
abbrev S4x3072 : Shape := ⟨2, ![4, 3072]⟩
abbrev S4x1024 : Shape := ⟨2, ![4, 1024]⟩
abbrev S1x1024 : Shape := ⟨2, ![1, 1024]⟩
abbrev S1024 : Shape := ⟨1, ![1024]⟩
abbrev S4096x4x256 : Shape := ⟨3, ![4096, 4, 256]⟩
abbrev S_ : Shape := ⟨0, ![]⟩
abbrev S4094x1x256 : Shape := ⟨3, ![4094, 1, 256]⟩
abbrev S4096x1x256 : Shape := ⟨3, ![4096, 1, 256]⟩
abbrev S4092x1x256 : Shape := ⟨3, ![4092, 1, 256]⟩
abbrev S4088x1x256 : Shape := ⟨3, ![4088, 1, 256]⟩
abbrev S4080x1x256 : Shape := ⟨3, ![4080, 1, 256]⟩
abbrev S4096 : Shape := ⟨1, ![4096]⟩
abbrev S4096x1 : Shape := ⟨2, ![4096, 1]⟩
abbrev S4096x4 : Shape := ⟨2, ![4096, 4]⟩
abbrev S4096x4x1 : Shape := ⟨3, ![4096, 4, 1]⟩
abbrev S4x256x4096 : Shape := ⟨3, ![4, 256, 4096]⟩
abbrev S4x4096x256 : Shape := ⟨3, ![4, 4096, 256]⟩
abbrev S6x1024 : Shape := ⟨2, ![6, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S1024x1024, .f32⟩
  | .hbm, ⟨5, _⟩ => ⟨S2x1024, .f32⟩
  | .hbm, ⟨6, _⟩ => ⟨S4x3072, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S4096x4x256, .f32⟩
  | .hbm, ⟨11, _⟩ => ⟨S_, .f32⟩
  | .hbm, ⟨12, _⟩ => ⟨S_, .f32⟩
  | .hbm, ⟨13, _⟩ => ⟨S4096x4x256, .f32⟩
  | .hbm, ⟨14, _⟩ => ⟨S4094x1x256, .f32⟩
  | .hbm, ⟨15, _⟩ => ⟨S_, .f32⟩
  | .hbm, ⟨16, _⟩ => ⟨S4096x1x256, .f32⟩
  | .hbm, ⟨17, _⟩ => ⟨S4092x1x256, .f32⟩
  | .hbm, ⟨18, _⟩ => ⟨S_, .f32⟩
  | .hbm, ⟨19, _⟩ => ⟨S4096x1x256, .f32⟩
  | .hbm, ⟨20, _⟩ => ⟨S4088x1x256, .f32⟩
  | .hbm, ⟨21, _⟩ => ⟨S_, .f32⟩
  | .hbm, ⟨22, _⟩ => ⟨S4096x1x256, .f32⟩
  | .hbm, ⟨23, _⟩ => ⟨S4080x1x256, .f32⟩
  | .hbm, ⟨24, _⟩ => ⟨S_, .f32⟩
  | .hbm, ⟨25, _⟩ => ⟨S4096x1x256, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1, .i32⟩
  | .hbm, ⟨44, _⟩ => ⟨S4096x1, .i32⟩
  | .hbm, ⟨45, _⟩ => ⟨S4096x1, .i32⟩
  | .hbm, ⟨46, _⟩ => ⟨S4096x4, .i32⟩
  | .hbm, ⟨47, _⟩ => ⟨S4096x4, .f32⟩
  | .hbm, ⟨48, _⟩ => ⟨S4096x4x256, .f32⟩
  | .hbm, ⟨49, _⟩ => ⟨S4096x4x256, .f32⟩
  | .hbm, ⟨50, _⟩ => ⟨S4096x4x1, .f32⟩
  | .hbm, ⟨51, _⟩ => ⟨S4096x4x256, .f32⟩
  | .hbm, ⟨52, _⟩ => ⟨S4096x4x256, .f32⟩
  | .hbm, ⟨53, _⟩ => ⟨S4096x4x256, .f32⟩
  | .hbm, ⟨54, _⟩ => ⟨S1x1024, .f32⟩
  | .hbm, ⟨55, _⟩ => ⟨S1024, .f32⟩
  | .hbm, ⟨56, _⟩ => ⟨S4x256x4096, .f32⟩
  | .hbm, ⟨57, _⟩ => ⟨S4096x4x256, .f32⟩
  | .hbm, ⟨58, _⟩ => ⟨S4096x1024, .f32⟩
  | .hbm, ⟨59, _⟩ => ⟨S1x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S1024x1024, .f32⟩
  | .hbm, ⟨87, _⟩ => ⟨S1024x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S4096x4x256, .f32⟩
  | .hbm, ⟨106, _⟩ => ⟨S4x256x4096, .f32⟩
  | .hbm, ⟨107, _⟩ => ⟨S4x4096x256, .f32⟩
  | .hbm, ⟨108, _⟩ => ⟨S4096x4x256, .f32⟩
  | .hbm, ⟨109, _⟩ => ⟨S4x256x256, .f32⟩
  | .hbm, ⟨110, _⟩ => ⟨S4x256x256, .f32⟩
  | .hbm, ⟨111, _⟩ => ⟨S1x1024, .f32⟩
  | .hbm, ⟨112, _⟩ => ⟨S1x1024, .f32⟩
  | .hbm, ⟨113, _⟩ => ⟨S_, .f32⟩
  | .hbm, ⟨114, _⟩ => ⟨S6x1024, .f32⟩
  | .hbm, ⟨115, _⟩ => ⟨S8x1024, .f32⟩
  | .hbm, ⟨116, _⟩ => ⟨S4096x1024, .f32⟩
  | .hbm, ⟨117, _⟩ => ⟨S4096x1024, .bf16⟩
  | .hbm, ⟨118, _⟩ => ⟨S1024x1024, .bf16⟩
  | .hbm, ⟨119, _⟩ => ⟨S4x256x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Kernel4.lean ====
abbrev S4096x1024 : Shape := ⟨2, ![4096, 1024]⟩
abbrev S1024x2048 : Shape := ⟨2, ![1024, 2048]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S4x8x1x1024 : Shape := ⟨4, ![4, 8, 1, 1024]⟩
abbrev S2048x1024 : Shape := ⟨2, ![2048, 1024]⟩
abbrev S8x128 : Shape := ⟨2, ![8, 128]⟩
abbrev S8x1024 : Shape := ⟨2, ![8, 1024]⟩
abbrev S256x1024 : Shape := ⟨2, ![256, 1024]⟩
abbrev S16x1024 : Shape := ⟨2, ![16, 1024]⟩
abbrev S1x1x1x1024 : Shape := ⟨4, ![1, 1, 1, 1024]⟩
abbrev S1x8x1024 : Shape := ⟨3, ![1, 8, 1024]⟩
abbrev S2x280x1024 : Shape := ⟨3, ![2, 280, 1024]⟩
abbrev S256x2048 : Shape := ⟨2, ![256, 2048]⟩
abbrev S256x1 : Shape := ⟨2, ![256, 1]⟩
abbrev S256x256 : Shape := ⟨2, ![256, 256]⟩
abbrev S1x256x256 : Shape := ⟨3, ![1, 256, 256]⟩
abbrev S16x256 : Shape := ⟨2, ![16, 256]⟩
abbrev S1x16x256 : Shape := ⟨3, ![1, 16, 256]⟩
abbrev S1x272x256 : Shape := ⟨3, ![1, 272, 256]⟩
abbrev S272x256 : Shape := ⟨2, ![272, 256]⟩
abbrev S1x1x1024 : Shape := ⟨3, ![1, 1, 1024]⟩
abbrev S256 : Shape := ⟨1, ![256]⟩

abbrev nBuf : Space → Nat
  | .hbm => 40
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S4x3072, .f32⟩
  | .hbm, ⟨6, _⟩ => ⟨S4x1024, .f32⟩
  | .hbm, ⟨7, _⟩ => ⟨S2x1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x1024, .f32⟩
  | .hbm, ⟨25, _⟩ => ⟨S4x3x1024, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S4x3x1024, .f32⟩
  | .hbm, ⟨30, _⟩ => ⟨S4x8x1024, .f32⟩
  | .hbm, ⟨31, _⟩ => ⟨S4x8x1x1024, .f32⟩
  | .hbm, ⟨32, _⟩ => ⟨S4096x1024, .bf16⟩
  | .hbm, ⟨33, _⟩ => ⟨S2048x1024, .f32⟩
  | .hbm, ⟨34, _⟩ => ⟨S2048x1024, .bf16⟩
  | .hbm, ⟨35, _⟩ => ⟨S_, .f32⟩
  | .hbm, ⟨36, _⟩ => ⟨S8x128, .f32⟩
  | .hbm, ⟨37, _⟩ => ⟨S4096x1024, .f32⟩
  | .hbm, ⟨38, _⟩ => ⟨S2048x1024, .bf16⟩
  | .hbm, ⟨39, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S16x1024, .f32⟩
  | .local _ .vmem, ⟨8, _⟩ => ⟨S256x1024, .bf16⟩
  | .local _ .vmem, ⟨9, _⟩ => ⟨S256x1024, .bf16⟩
  | .local _ .vmem, ⟨10, _⟩ => ⟨S1x1x1x1024, .f32⟩
  | .local _ .vmem, ⟨11, _⟩ => ⟨S1x8x1024, .f32⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | .local _ .vmem, ⟨15, _⟩ => ⟨S2048x1024, .bf16⟩
  | .local _ .vmem, ⟨16, _⟩ => ⟨S8x1024, .f32⟩
  | .local _ .vmem, ⟨17, _⟩ => ⟨S2x280x1024, .f32⟩
  | .local _ .vmem, ⟨18, _⟩ => ⟨S256x2048, .bf16⟩
  | .local _ .vmem, ⟨19, _⟩ => ⟨S2048x1024, .f32⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v7 : BitVec 1 := Scalar.cmpi .eq arg0 c15_i32
  let v278 : BitVec 32 := Scalar.extui v7
  let c0_i32_214 : BitVec 32 := 0#32
  let v279 : BitVec 1 := Scalar.cmpi .ne v278 c0_i32_214
  v279

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x1024 : Shape := ⟨2, ![4096, 1024]⟩
abbrev S1024x2048 : Shape := ⟨2, ![1024, 2048]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x4x256 : Shape := ⟨3, ![4096, 4, 256]⟩
abbrev S2x1x256 : Shape := ⟨3, ![2, 1, 256]⟩
abbrev S4094x1x256 : Shape := ⟨3, ![4094, 1, 256]⟩
abbrev S4096x1x256 : Shape := ⟨3, ![4096, 1, 256]⟩
abbrev S4x1x256 : Shape := ⟨3, ![4, 1, 256]⟩
abbrev S4092x1x256 : Shape := ⟨3, ![4092, 1, 256]⟩
abbrev S8x1x256 : Shape := ⟨3, ![8, 1, 256]⟩
abbrev S4088x1x256 : Shape := ⟨3, ![4088, 1, 256]⟩
abbrev S16x1x256 : Shape := ⟨3, ![16, 1, 256]⟩
abbrev S4080x1x256 : Shape := ⟨3, ![4080, 1, 256]⟩
abbrev S4096x4 : Shape := ⟨2, ![4096, 4]⟩
abbrev S4096x4x1 : Shape := ⟨3, ![4096, 4, 1]⟩
abbrev S2048x1024 : Shape := ⟨2, ![2048, 1024]⟩
abbrev S1024 : Shape := ⟨1, ![1024]⟩
abbrev S8x1024 : Shape := ⟨2, ![8, 1024]⟩

abbrev nBuf : Space → Nat
  | .hbm => 178
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1024x2048, .f32⟩
  | 5 => ⟨S4x3072, .f32⟩
  | 6 => ⟨S4x1024, .f32⟩
  | 7 => ⟨S2x1024, .f32⟩
  | 8 => ⟨S1x1024, .f32⟩
  | 9 => ⟨S1x1024, .f32⟩
  | 10 => ⟨S1x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S1x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x2048, .f32⟩
  | 38 => ⟨S4096x1024, .f32⟩
  | 39 => ⟨S4096x4x256, .f32⟩
  | 40 => ⟨S_, .f32⟩
  | 41 => ⟨S_, .f32⟩
  | 42 => ⟨S4096x4x256, .f32⟩
  | 43 => ⟨S_, .f32⟩
  | 44 => ⟨S2x1x256, .f32⟩
  | 45 => ⟨S4094x1x256, .f32⟩
  | 46 => ⟨S4096x1x256, .f32⟩
  | 47 => ⟨S_, .f32⟩
  | 48 => ⟨S2x1x256, .f32⟩
  | 49 => ⟨S_, .f32⟩
  | 50 => ⟨S4x1x256, .f32⟩
  | 51 => ⟨S4092x1x256, .f32⟩
  | 52 => ⟨S4096x1x256, .f32⟩
  | 53 => ⟨S_, .f32⟩
  | 54 => ⟨S4x1x256, .f32⟩
  | 55 => ⟨S_, .f32⟩
  | 56 => ⟨S8x1x256, .f32⟩
  | 57 => ⟨S4088x1x256, .f32⟩
  | 58 => ⟨S4096x1x256, .f32⟩
  | 59 => ⟨S_, .f32⟩
  | 60 => ⟨S8x1x256, .f32⟩
  | 61 => ⟨S_, .f32⟩
  | 62 => ⟨S16x1x256, .f32⟩
  | 63 => ⟨S4080x1x256, .f32⟩
  | 64 => ⟨S4096x1x256, .f32⟩
  | 65 => ⟨S_, .f32⟩
  | 66 => ⟨S16x1x256, .f32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096x1, .i32⟩
  | 84 => ⟨S4096x1, .i32⟩
  | 85 => ⟨S4096x1, .i32⟩
  | 86 => ⟨S4096x1, .i32⟩
  | 87 => ⟨S4096x4, .i32⟩
  | 88 => ⟨S4096x4, .f32⟩
  | 89 => ⟨S4096x4x256, .f32⟩
  | 90 => ⟨S4096x4x256, .f32⟩
  | 91 => ⟨S4096x4x1, .f32⟩
  | 92 => ⟨S4096x4x256, .f32⟩
  | 93 => ⟨S4096x4x256, .f32⟩
  | 94 => ⟨S4096x4x256, .f32⟩
  | 95 => ⟨S4096x1024, .f32⟩
  | 96 => ⟨S4096x4x256, .f32⟩
  | 97 => ⟨S_, .f32⟩
  | 98 => ⟨S4096x2048, .f32⟩
  | 99 => ⟨S4096x4x256, .f32⟩
  | 100 => ⟨S4096x4x256, .f32⟩
  | 101 => ⟨S4096x4x256, .f32⟩
  | 102 => ⟨S4096x4x256, .f32⟩
  | 103 => ⟨S4096x1x256, .f32⟩
  | 104 => ⟨S4096x1x256, .f32⟩
  | 105 => ⟨S4096x1x256, .f32⟩
  | 106 => ⟨S4096x1x256, .f32⟩
  | 107 => ⟨S16x1x256, .f32⟩
  | 108 => ⟨S4080x1x256, .f32⟩
  | 109 => ⟨S_, .f32⟩
  | 110 => ⟨S4096x4x256, .f32⟩
  | 111 => ⟨S4096x4x256, .f32⟩
  | 112 => ⟨S8x1x256, .f32⟩
  | 113 => ⟨S4088x1x256, .f32⟩
  | 114 => ⟨S_, .f32⟩
  | 115 => ⟨S4096x4x256, .f32⟩
  | 116 => ⟨S4096x4x256, .f32⟩
  | 117 => ⟨S4x1x256, .f32⟩
  | 118 => ⟨S4092x1x256, .f32⟩
  | 119 => ⟨S_, .f32⟩
  | 120 => ⟨S4096x4x256, .f32⟩
  | 121 => ⟨S4096x4x256, .f32⟩
  | 122 => ⟨S2x1x256, .f32⟩
  | 123 => ⟨S4094x1x256, .f32⟩
  | 124 => ⟨S_, .f32⟩
  | 125 => ⟨S4096x4x256, .f32⟩
  | 126 => ⟨S4096x4x256, .f32⟩
  | 127 => ⟨S_, .f32⟩
  | _ => ⟨S4096x1024, .f32⟩

abbrev hbmTy0_1 (i : Nat) : BufTy := match i % 128 with
  | 0 => ⟨S_, .f32⟩
  | 1 => ⟨S4096x4x256, .f32⟩
  | 2 => ⟨S4096x4x256, .f32⟩
  | 3 => ⟨S4096x1024, .f32⟩
  | 4 => ⟨S_, .f32⟩
  | 5 => ⟨S4096x2048, .f32⟩
  | 6 => ⟨S4096x2048, .f32⟩
  | 7 => ⟨S2048x1024, .f32⟩
  | 8 => ⟨S1024x2048, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S4096x1024, .f32⟩
  | 30 => ⟨S4096x1024, .f32⟩
  | 31 => ⟨S4096x1024, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S1x1024, .f32⟩
  | 45 => ⟨S_, .f32⟩
  | 46 => ⟨S4x1024, .f32⟩
  | 47 => ⟨S8x1024, .f32⟩
  | 48 => ⟨S2048x1024, .f32⟩
  | 49 => ⟨S2048x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩
abbrev main_v46 : Ref sig .tc := ⟨.hbm, 70, rfl⟩
abbrev main_c_12 : Ref sig .tc := ⟨.hbm, 71, rfl⟩
abbrev main_v47 : Ref sig .tc := ⟨.hbm, 72, rfl⟩
abbrev main_v48 : Ref sig .tc := ⟨.hbm, 73, rfl⟩
abbrev main_c_13 : Ref sig .tc := ⟨.hbm, 74, rfl⟩
abbrev main_v49 : Ref sig .tc := ⟨.hbm, 75, rfl⟩
abbrev main_v50 : Ref sig .tc := ⟨.hbm, 76, rfl⟩
abbrev main_c_14 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_call1_cst : Ref sig .tc := ⟨.hbm, 127, rfl⟩
abbrev main_call1_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_22 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_23 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_24 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_25 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_26 : Ref sig .tc := ⟨.hbm, 161, rfl⟩
abbrev main_v121 : Ref sig .tc := ⟨.hbm, 162, rfl⟩
abbrev main_v122 : Ref sig .tc := ⟨.hbm, 163, rfl⟩
abbrev main_cst_27 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_cst_29 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]
-- ==== Kernel5.lean ====
abbrev S4096x1024 : Shape := ⟨2, ![4096, 1024]⟩
abbrev S4096x256 : Shape := ⟨2, ![4096, 256]⟩
abbrev S4096 : Shape := ⟨1, ![4096]⟩
abbrev S1024x2560 : Shape := ⟨2, ![1024, 2560]⟩
abbrev S64 : Shape := ⟨1, ![64]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S4x8x1x1024 : Shape := ⟨4, ![4, 8, 1, 1024]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x384 : Shape := ⟨2, ![4096, 384]⟩
abbrev S1024x1280 : Shape := ⟨2, ![1024, 1280]⟩
abbrev S4096x1280 : Shape := ⟨2, ![4096, 1280]⟩
abbrev S16x2x128x256 : Shape := ⟨4, ![16, 2, 128, 256]⟩
abbrev S16x1x128x256 : Shape := ⟨4, ![16, 1, 128, 256]⟩
abbrev S16x128x256 : Shape := ⟨3, ![16, 128, 256]⟩
abbrev S2560x1024 : Shape := ⟨2, ![2560, 1024]⟩
abbrev S8x1024 : Shape := ⟨2, ![8, 1024]⟩
abbrev S256x1024 : Shape := ⟨2, ![256, 1024]⟩
abbrev S256x384 : Shape := ⟨2, ![256, 384]⟩
abbrev S256x1280 : Shape := ⟨2, ![256, 1280]⟩
abbrev S1x128x256 : Shape := ⟨3, ![1, 128, 256]⟩
abbrev S1x1x1x1024 : Shape := ⟨4, ![1, 1, 1, 1024]⟩
abbrev S1x8x1024 : Shape := ⟨3, ![1, 8, 1024]⟩
abbrev S256x2560 : Shape := ⟨2, ![256, 2560]⟩
abbrev S256x128 : Shape := ⟨2, ![256, 128]⟩
abbrev S1x128x128 : Shape := ⟨3, ![1, 128, 128]⟩
abbrev S128x256 : Shape := ⟨2, ![128, 256]⟩
abbrev S1x1x1024 : Shape := ⟨3, ![1, 1, 1024]⟩
abbrev S256x1 : Shape := ⟨2, ![256, 1]⟩

abbrev nBuf : Space → Nat
  | .hbm => 173
  | .vmem => 33
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x256, .f32⟩
  | 4 => ⟨S4096x256, .f32⟩
  | 5 => ⟨S4096x1024, .f32⟩
  | 6 => ⟨S4096, .i32⟩
  | 7 => ⟨S1024x2560, .f32⟩
  | 8 => ⟨S64, .f32⟩
  | 9 => ⟨S64, .f32⟩
  | 10 => ⟨S4x3072, .f32⟩
  | 11 => ⟨S4x1024, .f32⟩
  | 12 => ⟨S2x1024, .f32⟩
  | 13 => ⟨S1x1024, .f32⟩
  | 14 => ⟨S1024, .f32⟩
  | 15 => ⟨S_, .f32⟩
  | 16 => ⟨S1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S1024, .f32⟩
  | 23 => ⟨S1x1024, .f32⟩
  | 24 => ⟨S1024, .f32⟩
  | 25 => ⟨S1x1024, .f32⟩
  | 26 => ⟨S1x1024, .f32⟩
  | 27 => ⟨S1x1024, .f32⟩
  | 28 => ⟨S1x1024, .f32⟩
  | 29 => ⟨S4x1024, .f32⟩
  | 30 => ⟨S4x3x1024, .f32⟩
  | 31 => ⟨S4x1x1024, .f32⟩
  | 32 => ⟨S4x1x1024, .f32⟩
  | 33 => ⟨S_, .f32⟩
  | 34 => ⟨S4x3x1024, .f32⟩
  | 35 => ⟨S4x8x1024, .f32⟩
  | 36 => ⟨S4x8x1x1024, .f32⟩
  | 37 => ⟨S1x64, .f32⟩
  | 38 => ⟨S16x64, .f32⟩
  | 39 => ⟨S1024, .f32⟩
  | 40 => ⟨S1x64, .f32⟩
  | 41 => ⟨S4x64, .f32⟩
  | 42 => ⟨S256, .f32⟩
  | 43 => ⟨S1280, .f32⟩
  | 44 => ⟨S1x1280, .f32⟩
  | 45 => ⟨S128, .i32⟩
  | 46 => ⟨S128x1, .i32⟩
  | 47 => ⟨S_, .i32⟩
  | 48 => ⟨S_, .i32⟩
  | 49 => ⟨S128x1, .i32⟩
  | 50 => ⟨S128x1, .i32⟩
  | 51 => ⟨S128x1, .i32⟩
  | 52 => ⟨S_, .i32⟩
  | 53 => ⟨S128x1, .i32⟩
  | 54 => ⟨S128x1, .i1⟩
  | 55 => ⟨S128x1, .i32⟩
  | 56 => ⟨S128x1, .i32⟩
  | 57 => ⟨S_, .i32⟩
  | 58 => ⟨S128x1, .i32⟩
  | 59 => ⟨S128x1, .i1⟩
  | 60 => ⟨S128x1, .i1⟩
  | 61 => ⟨S_, .i32⟩
  | 62 => ⟨S128x1, .i32⟩
  | 63 => ⟨S128x1, .i32⟩
  | 64 => ⟨S128x1, .i32⟩
  | 65 => ⟨S1x128, .i32⟩
  | 66 => ⟨S_, .i32⟩
  | 67 => ⟨S_, .i32⟩
  | 68 => ⟨S1x128, .i32⟩
  | 69 => ⟨S1x128, .i32⟩
  | 70 => ⟨S1x128, .i32⟩
  | 71 => ⟨S_, .i32⟩
  | 72 => ⟨S1x128, .i32⟩
  | 73 => ⟨S1x128, .i1⟩
  | 74 => ⟨S1x128, .i32⟩
  | 75 => ⟨S1x128, .i32⟩
  | 76 => ⟨S_, .i32⟩
  | 77 => ⟨S1x128, .i32⟩
  | 78 => ⟨S1x128, .i1⟩
  | 79 => ⟨S1x128, .i1⟩
  | 80 => ⟨S_, .i32⟩
  | 81 => ⟨S1x128, .i32⟩
  | 82 => ⟨S1x128, .i32⟩
  | 83 => ⟨S1x128, .i32⟩
  | 84 => ⟨S128x128, .i32⟩
  | 85 => ⟨S128x128, .i32⟩
  | 86 => ⟨S128x128, .i1⟩
  | 87 => ⟨S128x128, .f32⟩
  | 88 => ⟨S128x128, .bf16⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S4096, .f32⟩
  | 101 => ⟨S4096x1, .f32⟩
  | 102 => ⟨S1x8, .f32⟩
  | 103 => ⟨S4096x8, .f32⟩
  | 104 => ⟨S4096x8, .f32⟩
  | 105 => ⟨S4096x8, .f32⟩
  | 106 => ⟨S4096x8, .f32⟩
  | 107 => ⟨S4096x8, .f32⟩
  | 108 => ⟨S_, .f32⟩
  | 109 => ⟨S4096x48, .f32⟩
  | 110 => ⟨S_, .f32⟩
  | 111 => ⟨S4096x48, .f32⟩
  | 112 => ⟨S_, .f32⟩
  | 113 => ⟨S4096x8, .f32⟩
  | 114 => ⟨S4096x64, .f32⟩
  | 115 => ⟨S4096x8, .f32⟩
  | 116 => ⟨S4096x64, .f32⟩
  | 117 => ⟨S4096x64, .f32⟩
  | 118 => ⟨S4096x384, .f32⟩
  | 119 => ⟨S4x1024, .f32⟩
  | 120 => ⟨S4x1024, .f32⟩
  | 121 => ⟨S4x1024, .f32⟩
  | 122 => ⟨S1x1024, .f32⟩
  | 123 => ⟨S1024, .f32⟩
  | 124 => ⟨S1x1024, .f32⟩
  | 125 => ⟨S1024, .f32⟩
  | 126 => ⟨S1x1024, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S1024, .f32⟩
  | 19 => ⟨S1x1024, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S1024x1280, .f32⟩
  | 26 => ⟨S4096x1280, .f32⟩
  | 27 => ⟨S16x2x128x256, .f32⟩
  | 28 => ⟨S16x2x128x256, .f32⟩
  | 29 => ⟨S16x2x128x256, .bf16⟩
  | 30 => ⟨S16x1x128x256, .f32⟩
  | 31 => ⟨S16x128x256, .f32⟩
  | 32 => ⟨S16x1x128x256, .f32⟩
  | 33 => ⟨S16x128x256, .f32⟩
  | 34 => ⟨S16x1x128x256, .bf16⟩
  | 35 => ⟨S16x128x256, .bf16⟩
  | 36 => ⟨S16x1x128x256, .bf16⟩
  | 37 => ⟨S16x128x256, .bf16⟩
  | 38 => ⟨S4096x1024, .bf16⟩
  | 39 => ⟨S2560x1024, .f32⟩
  | 40 => ⟨S2560x1024, .bf16⟩
  | 41 => ⟨S4096x1024, .f32⟩
  | 42 => ⟨S2560x1024, .bf16⟩
  | 43 => ⟨S8x1024, .f32⟩
  | 44 => ⟨S1x1280, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x384, .f32⟩
  | .local _ .vmem, ⟨5, _⟩ => ⟨S256x384, .f32⟩
  | .local _ .vmem, ⟨6, _⟩ => ⟨S256x1280, .f32⟩
  | .local _ .vmem, ⟨7, _⟩ => ⟨S256x1280, .f32⟩
  | .local _ .vmem, ⟨8, _⟩ => ⟨S256x1024, .f32⟩
  | .local _ .vmem, ⟨9, _⟩ => ⟨S256x1024, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S256x1024, .bf16⟩
  | .local _ .vmem, ⟨19, _⟩ => ⟨S256x1024, .bf16⟩
  | .local _ .vmem, ⟨20, _⟩ => ⟨S1x1x1x1024, .f32⟩
  | .local _ .vmem, ⟨21, _⟩ => ⟨S1x8x1024, .f32⟩
  | .local _ .vmem, ⟨22, _⟩ => ⟨S2560x1024, .bf16⟩
  | .local _ .vmem, ⟨23, _⟩ => ⟨S1x1280, .f32⟩
  | .local _ .vmem, ⟨24, _⟩ => ⟨S128x128, .bf16⟩
  | .local _ .vmem, ⟨25, _⟩ => ⟨S256x1024, .f32⟩
  | .local _ .vmem, ⟨26, _⟩ => ⟨S256x1024, .f32⟩
  | .local _ .vmem, ⟨27, _⟩ => ⟨S2560x1024, .bf16⟩
  | .local _ .vmem, ⟨28, _⟩ => ⟨S8x1024, .f32⟩
  | .local _ .vmem, ⟨29, _⟩ => ⟨S1x1280, .f32⟩
  | .local _ .vmem, ⟨30, _⟩ => ⟨S256x2560, .bf16⟩
  | .local _ .vmem, ⟨31, _⟩ => ⟨S2560x1024, .f32⟩
  | .local _ .vmem, ⟨32, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v31 : Ref sig .tc := ⟨.hbm, 64, rfl⟩
abbrev main_v32 : Ref sig .tc := ⟨.hbm, 65, rfl⟩
abbrev main_c_2 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_3 : Ref sig .tc := ⟨.hbm, 91, rfl⟩
abbrev main_v41 : Ref sig .tc := ⟨.hbm, 92, rfl⟩
abbrev main_v42 : Ref sig .tc := ⟨.hbm, 93, rfl⟩
abbrev main_cst_4 : Ref sig .tc := ⟨.hbm, 94, rfl⟩
abbrev main_v43 : Ref sig .tc := ⟨.hbm, 95, rfl⟩
abbrev main_v44 : Ref sig .tc := ⟨.hbm, 96, rfl⟩
abbrev main_cst_5 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_6 : Ref sig .tc := ⟨.hbm, 108, rfl⟩
abbrev main_v55 : Ref sig .tc := ⟨.hbm, 109, rfl⟩
abbrev main_cst_7 : Ref sig .tc := ⟨.hbm, 110, rfl⟩
abbrev main_v56 : Ref sig .tc := ⟨.hbm, 111, rfl⟩
abbrev main_cst_8 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_9 : Ref sig .tc := ⟨.hbm, 129, rfl⟩
abbrev main_v73 : Ref sig .tc := ⟨.hbm, 130, rfl⟩
abbrev main_v74 : Ref sig .tc := ⟨.hbm, 131, rfl⟩
abbrev main_cst_10 : Ref sig .tc := ⟨.hbm, 132, rfl⟩
abbrev main_v75 : Ref sig .tc := ⟨.hbm, 133, rfl⟩
abbrev main_v76 : Ref sig .tc := ⟨.hbm, 134, rfl⟩
abbrev main_cst_11 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_12 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109_0 : Ref sig .tc := ⟨.hbm, 169, rfl⟩
abbrev main_v109_1 : Ref sig .tc := ⟨.hbm, 170, rfl⟩
abbrev main_v109_2 : Ref sig .tc := ⟨.hbm, 171, rfl⟩
abbrev main_v109_3 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v539 : BitVec 1 := Scalar.cmpi .eq arg0 c15_i32
  let v540 : BitVec 32 := Scalar.extui v539
  let c0_i32_266 : BitVec 32 := 0#32
  let v541 : BitVec 1 := Scalar.cmpi .ne v540 c0_i32_266
  v541

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, c3_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2560x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2560x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1280 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S4096x1024 : Shape := ⟨2, ![4096, 1024]⟩
abbrev S4096x256 : Shape := ⟨2, ![4096, 256]⟩
abbrev S4096 : Shape := ⟨1, ![4096]⟩
abbrev S1024x2560 : Shape := ⟨2, ![1024, 2560]⟩
abbrev S64 : Shape := ⟨1, ![64]⟩
abbrev S4x3072 : Shape := ⟨2, ![4, 3072]⟩
abbrev S4x1024 : Shape := ⟨2, ![4, 1024]⟩
abbrev S2x1024 : Shape := ⟨2, ![2, 1024]⟩
abbrev S16x64 : Shape := ⟨2, ![16, 64]⟩
abbrev S4x64 : Shape := ⟨2, ![4, 64]⟩
abbrev S4096x16x64 : Shape := ⟨3, ![4096, 16, 64]⟩
abbrev S4096x4x64 : Shape := ⟨3, ![4096, 4, 64]⟩
abbrev S1x1024 : Shape := ⟨2, ![1, 1024]⟩
abbrev S1024 : Shape := ⟨1, ![1024]⟩
abbrev S_ : Shape := ⟨0, ![]⟩
abbrev S4096x1 : Shape := ⟨2, ![4096, 1]⟩
abbrev S4096x2560 : Shape := ⟨2, ![4096, 2560]⟩
abbrev S4096x16 : Shape := ⟨2, ![4096, 16]⟩
abbrev S4096x16x1 : Shape := ⟨3, ![4096, 16, 1]⟩
abbrev S1x16x64 : Shape := ⟨3, ![1, 16, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S4096x16x8 : Shape := ⟨3, ![4096, 16, 8]⟩
abbrev S4096x16x16 : Shape := ⟨3, ![4096, 16, 16]⟩
abbrev S4096x16x48 : Shape := ⟨3, ![4096, 16, 48]⟩
abbrev S4096x4 : Shape := ⟨2, ![4096, 4]⟩
abbrev S4096x4x1 : Shape := ⟨3, ![4096, 4, 1]⟩
abbrev S1x4x64 : Shape := ⟨3, ![1, 4, 64]⟩
abbrev S4096x4x8 : Shape := ⟨3, ![4096, 4, 8]⟩
abbrev S4096x4x16 : Shape := ⟨3, ![4096, 4, 16]⟩
abbrev S4096x4x48 : Shape := ⟨3, ![4096, 4, 48]⟩
abbrev S2560x1024 : Shape := ⟨2, ![2560, 1024]⟩
abbrev S8x1024 : Shape := ⟨2, ![8, 1024]⟩
abbrev S256 : Shape := ⟨1, ![256]⟩
abbrev S1280 : Shape := ⟨1, ![1280]⟩
abbrev S1x1280 : Shape := ⟨2, ![1, 1280]⟩

abbrev nBuf : Space → Nat
  | .hbm => 335
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x256, .f32⟩
  | 4 => ⟨S4096x256, .f32⟩
  | 5 => ⟨S4096x1024, .f32⟩
  | 6 => ⟨S4096, .i32⟩
  | 7 => ⟨S1024x2560, .f32⟩
  | 8 => ⟨S64, .f32⟩
  | 9 => ⟨S64, .f32⟩
  | 10 => ⟨S4x3072, .f32⟩
  | 11 => ⟨S4x1024, .f32⟩
  | 12 => ⟨S2x1024, .f32⟩
  | 13 => ⟨S4x1024, .f32⟩
  | 14 => ⟨S4x1024, .f32⟩
  | 15 => ⟨S4x1024, .f32⟩
  | 16 => ⟨S16x64, .f32⟩
  | 17 => ⟨S4x64, .f32⟩
  | 18 => ⟨S4096x16x64, .f32⟩
  | 19 => ⟨S4096x4x64, .f32⟩
  | 20 => ⟨S1x1024, .f32⟩
  | 21 => ⟨S1024, .f32⟩
  | 22 => ⟨S1x1024, .f32⟩
  | 23 => ⟨S1024, .f32⟩
  | 24 => ⟨S1x1024, .f32⟩
  | 25 => ⟨S1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S_, .f32⟩
  | 47 => ⟨S1024, .f32⟩
  | 48 => ⟨S1024, .f32⟩
  | 49 => ⟨S1x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S4096x2560, .f32⟩
  | 56 => ⟨S4096x1024, .f32⟩
  | 57 => ⟨S4096x256, .f32⟩
  | 58 => ⟨S4096x256, .f32⟩
  | 59 => ⟨S4096x1024, .f32⟩
  | 60 => ⟨S4096x16x64, .f32⟩
  | 61 => ⟨S4096x16x64, .f32⟩
  | 62 => ⟨S_, .f32⟩
  | 63 => ⟨S4096x16, .f32⟩
  | 64 => ⟨S4096x16x1, .f32⟩
  | 65 => ⟨S_, .f32⟩
  | 66 => ⟨S4096x16x1, .f32⟩
  | 67 => ⟨S4096x16x1, .f32⟩
  | 68 => ⟨S_, .f32⟩
  | 69 => ⟨S4096x16x1, .f32⟩
  | 70 => ⟨S4096x16x1, .f32⟩
  | 71 => ⟨S4096x16x1, .f32⟩
  | 72 => ⟨S4096x16x1, .f32⟩
  | 73 => ⟨S_, .f32⟩
  | 74 => ⟨S4096x16x1, .f32⟩
  | 75 => ⟨S4096x16x1, .f32⟩
  | 76 => ⟨S4096x16x64, .f32⟩
  | 77 => ⟨S4096x16x64, .f32⟩
  | 78 => ⟨S1x16x64, .f32⟩
  | 79 => ⟨S4096x16x64, .f32⟩
  | 80 => ⟨S4096x16x64, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S4096, .f32⟩
  | 93 => ⟨S4096x1, .f32⟩
  | 94 => ⟨S1x8, .f32⟩
  | 95 => ⟨S4096x8, .f32⟩
  | 96 => ⟨S4096x8, .f32⟩
  | 97 => ⟨S4096x8, .f32⟩
  | 98 => ⟨S4096x8, .f32⟩
  | 99 => ⟨S4096x8, .f32⟩
  | 100 => ⟨S4096x1x8, .f32⟩
  | 101 => ⟨S4096x1x8, .f32⟩
  | 102 => ⟨S4096x16x8, .f32⟩
  | 103 => ⟨S4096x16x8, .f32⟩
  | 104 => ⟨S4096x16x8, .f32⟩
  | 105 => ⟨S4096x16x8, .f32⟩
  | 106 => ⟨S4096x16x8, .f32⟩
  | 107 => ⟨S4096x16x8, .f32⟩
  | 108 => ⟨S4096x16x8, .f32⟩
  | 109 => ⟨S4096x16x8, .f32⟩
  | 110 => ⟨S4096x16x8, .f32⟩
  | 111 => ⟨S4096x16x8, .f32⟩
  | 112 => ⟨S4096x16x8, .f32⟩
  | 113 => ⟨S4096x16x8, .f32⟩
  | 114 => ⟨S4096x16x16, .f32⟩
  | 115 => ⟨S4096x16x48, .f32⟩
  | 116 => ⟨S4096x16x64, .f32⟩
  | 117 => ⟨S4096x4x64, .f32⟩
  | 118 => ⟨S4096x4x64, .f32⟩
  | 119 => ⟨S_, .f32⟩
  | 120 => ⟨S4096x4, .f32⟩
  | 121 => ⟨S4096x4x1, .f32⟩
  | 122 => ⟨S_, .f32⟩
  | 123 => ⟨S4096x4x1, .f32⟩
  | 124 => ⟨S4096x4x1, .f32⟩
  | 125 => ⟨S_, .f32⟩
  | 126 => ⟨S4096x4x1, .f32⟩
  | 127 => ⟨S4096x4x1, .f32⟩
  | _ => ⟨S4096x1024, .f32⟩

abbrev hbmTy0_1 (i : Nat) : BufTy := match i % 128 with
  | 0 => ⟨S4096x4x1, .f32⟩
  | 1 => ⟨S4096x4x1, .f32⟩
  | 2 => ⟨S_, .f32⟩
  | 3 => ⟨S4096x4x1, .f32⟩
  | 4 => ⟨S4096x4x1, .f32⟩
  | 5 => ⟨S4096x4x64, .f32⟩
  | 6 => ⟨S4096x4x64, .f32⟩
  | 7 => ⟨S1x4x64, .f32⟩
  | 8 => ⟨S4096x4x64, .f32⟩
  | 9 => ⟨S4096x4x64, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x8, .f32⟩
  | 29 => ⟨S4096x1x8, .f32⟩
  | 30 => ⟨S4096x1x8, .f32⟩
  | 31 => ⟨S4096x4x8, .f32⟩
  | 32 => ⟨S4096x4x8, .f32⟩
  | 33 => ⟨S4096x4x8, .f32⟩
  | 34 => ⟨S4096x4x8, .f32⟩
  | 35 => ⟨S4096x4x8, .f32⟩
  | 36 => ⟨S4096x4x8, .f32⟩
  | 37 => ⟨S4096x4x8, .f32⟩
  | 38 => ⟨S4096x4x8, .f32⟩
  | 39 => ⟨S4096x4x8, .f32⟩
  | 40 => ⟨S4096x4x8, .f32⟩
  | 41 => ⟨S4096x4x8, .f32⟩
  | 42 => ⟨S4096x4x8, .f32⟩
  | 43 => ⟨S4096x4x16, .f32⟩
  | 44 => ⟨S4096x4x48, .f32⟩
  | 45 => ⟨S4096x4x64, .f32⟩
  | 46 => ⟨S_, .f32⟩
  | 47 => ⟨S4096x16x64, .f32⟩
  | 48 => ⟨S4096x16x64, .f32⟩
  | 49 => ⟨S_, .f32⟩
  | 50 => ⟨S4096x16x64, .f32⟩
  | 51 => ⟨S4096x16x64, .f32⟩
  | 52 => ⟨S4096x4x16, .f32⟩
  | 53 => ⟨S4096x4x48, .f32⟩
  | 54 => ⟨S_, .f32⟩
  | 55 => ⟨S4096x4x64, .f32⟩
  | 56 => ⟨S4096x4x8, .f32⟩
  | 57 => ⟨S4096x4x8, .f32⟩
  | 58 => ⟨S4096x4x8, .f32⟩
  | 59 => ⟨S4096x4x8, .f32⟩
  | 60 => ⟨S4096x4x8, .f32⟩
  | 61 => ⟨S4096x4x8, .f32⟩
  | 62 => ⟨S4096x4x8, .f32⟩
  | 63 => ⟨S4096x4x8, .f32⟩
  | 64 => ⟨S4096x4x8, .f32⟩
  | 65 => ⟨S4096x4x8, .f32⟩
  | 66 => ⟨S4096x4x8, .f32⟩
  | 67 => ⟨S4096x4x8, .f32⟩
  | 68 => ⟨S4096x4x8, .f32⟩
  | 69 => ⟨S_, .f32⟩
  | 70 => ⟨S4096x4x64, .f32⟩
  | 71 => ⟨S4096x4x64, .f32⟩
  | 72 => ⟨S_, .f32⟩
  | 73 => ⟨S4096x4x64, .f32⟩
  | 74 => ⟨S4096x4x64, .f32⟩
  | 75 => ⟨S4096x4x64, .f32⟩
  | 76 => ⟨S_, .f32⟩
  | 77 => ⟨S4x64, .f32⟩
  | 78 => ⟨S1x4x64, .f32⟩
  | 79 => ⟨S4096x4x64, .f32⟩
  | 80 => ⟨S4096x4x64, .f32⟩
  | 81 => ⟨S_, .f32⟩
  | 82 => ⟨S4x64, .f32⟩
  | 83 => ⟨S4096x4x64, .f32⟩
  | 84 => ⟨S_, .f32⟩
  | 85 => ⟨S4096x4, .f32⟩
  | 86 => ⟨S4096x4x1, .f32⟩
  | 87 => ⟨S4096x4x64, .f32⟩
  | 88 => ⟨S4096x4x64, .f32⟩
  | 89 => ⟨S4096x4x1, .f32⟩
  | 90 => ⟨S_, .f32⟩
  | 91 => ⟨S4096x4x1, .f32⟩
  | 92 => ⟨S4096x4x1, .f32⟩
  | 93 => ⟨S_, .f32⟩
  | 94 => ⟨S4096x4, .f32⟩
  | 95 => ⟨S4096x4x64, .f32⟩
  | 96 => ⟨S4096x4x64, .f32⟩
  | 97 => ⟨S4096x4x64, .f32⟩
  | 98 => ⟨S4096x4x64, .f32⟩
  | 99 => ⟨S4096x4x64, .f32⟩
  | 100 => ⟨S4096x256, .f32⟩
  | 101 => ⟨S4096x16x16, .f32⟩
  | 102 => ⟨S4096x16x48, .f32⟩
  | 103 => ⟨S_, .f32⟩
  | 104 => ⟨S4096x16x64, .f32⟩
  | 105 => ⟨S4096x16x8, .f32⟩
  | 106 => ⟨S4096x16x8, .f32⟩
  | 107 => ⟨S4096x16x8, .f32⟩
  | 108 => ⟨S4096x16x8, .f32⟩
  | 109 => ⟨S4096x16x8, .f32⟩
  | 110 => ⟨S4096x16x8, .f32⟩
  | 111 => ⟨S4096x16x8, .f32⟩
  | 112 => ⟨S4096x16x8, .f32⟩
  | 113 => ⟨S4096x16x8, .f32⟩
  | 114 => ⟨S4096x16x8, .f32⟩
  | 115 => ⟨S4096x16x8, .f32⟩
  | 116 => ⟨S4096x16x8, .f32⟩
  | 117 => ⟨S4096x16x8, .f32⟩
  | 118 => ⟨S_, .f32⟩
  | 119 => ⟨S4096x16x64, .f32⟩
  | 120 => ⟨S4096x16x64, .f32⟩
  | 121 => ⟨S_, .f32⟩
  | 122 => ⟨S4096x16x64, .f32⟩
  | 123 => ⟨S4096x16x64, .f32⟩
  | 124 => ⟨S4096x16x64, .f32⟩
  | 125 => ⟨S_, .f32⟩
  | 126 => ⟨S16x64, .f32⟩
  | 127 => ⟨S1x16x64, .f32⟩
  | _ => ⟨S4096x1024, .f32⟩

abbrev hbmTy0_2 (i : Nat) : BufTy := match i % 128 with
  | 0 => ⟨S4096x16x64, .f32⟩
  | 1 => ⟨S4096x16x64, .f32⟩
  | 2 => ⟨S_, .f32⟩
  | 3 => ⟨S16x64, .f32⟩
  | 4 => ⟨S4096x16x64, .f32⟩
  | 5 => ⟨S_, .f32⟩
  | 6 => ⟨S4096x16, .f32⟩
  | 7 => ⟨S4096x16x1, .f32⟩
  | 8 => ⟨S4096x16x64, .f32⟩
  | 9 => ⟨S4096x16x64, .f32⟩
  | 10 => ⟨S4096x16x1, .f32⟩
  | 11 => ⟨S_, .f32⟩
  | 12 => ⟨S4096x16x1, .f32⟩
  | 13 => ⟨S4096x16x1, .f32⟩
  | 14 => ⟨S_, .f32⟩
  | 15 => ⟨S4096x16, .f32⟩
  | 16 => ⟨S4096x16x64, .f32⟩
  | 17 => ⟨S4096x16x64, .f32⟩
  | 18 => ⟨S4096x16x64, .f32⟩
  | 19 => ⟨S4096x16x64, .f32⟩
  | 20 => ⟨S4096x16x64, .f32⟩
  | 21 => ⟨S4096x1024, .f32⟩
  | 22 => ⟨S4096x2560, .f32⟩
  | 23 => ⟨S2560x1024, .f32⟩
  | 24 => ⟨S1024x2560, .f32⟩
  | 25 => ⟨S4096x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S_, .f32⟩
  | 38 => ⟨S1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S_, .f32⟩
  | 46 => ⟨S1024, .f32⟩
  | 47 => ⟨S4096x1024, .f32⟩
  | 48 => ⟨S_, .f32⟩
  | 49 => ⟨S4096, .f32⟩
  | 50 => ⟨S4096x1, .f32⟩
  | 51 => ⟨S4096x1024, .f32⟩
  | 52 => ⟨S4096x1024, .f32⟩
  | 53 => ⟨S4096x1024, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S4x1024, .f32⟩
  | 72 => ⟨S8x1024, .f32⟩
  | 73 => ⟨S1024, .f32⟩
  | 74 => ⟨S256, .f32⟩
  | 75 => ⟨S1280, .f32⟩
  | 76 => ⟨S1x1280, .f32⟩
  | 77 => ⟨S2560x1024, .f32⟩
  | 78 => ⟨S2560x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_11 : Ref sig .tc := ⟨.hbm, 119, rfl⟩
abbrev main_v94 : Ref sig .tc := ⟨.hbm, 120, rfl⟩
abbrev main_v95 : Ref sig .tc := ⟨.hbm, 121, rfl⟩
abbrev main_cst_12 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_14 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_15 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_v113 : Ref sig .tc := ⟨.hbm, 144, rfl⟩
abbrev main_v114 : Ref sig .tc := ⟨.hbm, 145, rfl⟩
abbrev main_cst_17 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_18 : Ref sig .tc := ⟨.hbm, 174, rfl⟩
abbrev main_v142 : Ref sig .tc := ⟨.hbm, 175, rfl⟩
abbrev main_v143 : Ref sig .tc := ⟨.hbm, 176, rfl⟩
abbrev main_cst_19 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_20 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_21 : Ref sig .tc := ⟨.hbm, 197, rfl⟩
abbrev main_v162 : Ref sig .tc := ⟨.hbm, 198, rfl⟩
abbrev main_v163 : Ref sig .tc := ⟨.hbm, 199, rfl⟩
abbrev main_cst_22 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_23 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_24 : Ref sig .tc := ⟨.hbm, 209, rfl⟩
abbrev main_v171 : Ref sig .tc := ⟨.hbm, 210, rfl⟩
abbrev main_v172 : Ref sig .tc := ⟨.hbm, 211, rfl⟩
abbrev main_cst_25 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_cst_26 : Ref sig .tc := ⟨.hbm, 218, rfl⟩
abbrev main_v178 : Ref sig .tc := ⟨.hbm, 219, rfl⟩
abbrev main_v179 : Ref sig .tc := ⟨.hbm, 220, rfl⟩
abbrev main_cst_27 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_28 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_cst_29 : Ref sig .tc := ⟨.hbm, 246, rfl⟩
abbrev main_v203 : Ref sig .tc := ⟨.hbm, 247, rfl⟩
abbrev main_v204 : Ref sig .tc := ⟨.hbm, 248, rfl⟩
abbrev main_cst_30 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_cst_31 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_32 : Ref sig .tc := ⟨.hbm, 258, rfl⟩
abbrev main_v212 : Ref sig .tc := ⟨.hbm, 259, rfl⟩
abbrev main_v213 : Ref sig .tc := ⟨.hbm, 260, rfl⟩
abbrev main_cst_33 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_cst_34 : Ref sig .tc := ⟨.hbm, 267, rfl⟩
abbrev main_v219 : Ref sig .tc := ⟨.hbm, 268, rfl⟩
abbrev main_v220 : Ref sig .tc := ⟨.hbm, 269, rfl⟩
abbrev main_cst_35 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_cst_36 : Ref sig .tc := ⟨.hbm, 282, rfl⟩
abbrev main_v232 : Ref sig .tc := ⟨.hbm, 283, rfl⟩
abbrev main_v233 : Ref sig .tc := ⟨.hbm, 284, rfl⟩
abbrev main_cst_37 : Ref sig .tc := ⟨.hbm, 285, rfl⟩
abbrev main_v234 : Ref sig .tc := ⟨.hbm, 286, rfl⟩
abbrev main_v235 : Ref sig .tc := ⟨.hbm, 287, rfl⟩
abbrev main_cst_38 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_39 : Ref sig .tc := ⟨.hbm, 293, rfl⟩
abbrev main_v240 : Ref sig .tc := ⟨.hbm, 294, rfl⟩
abbrev main_v241 : Ref sig .tc := ⟨.hbm, 295, rfl⟩
abbrev main_cst_40 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_41 : Ref sig .tc := ⟨.hbm, 301, rfl⟩
abbrev main_v246 : Ref sig .tc := ⟨.hbm, 302, rfl⟩
abbrev main_v247 : Ref sig .tc := ⟨.hbm, 303, rfl⟩
abbrev main_cst_42 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_cst_43 : Ref sig .tc := ⟨.hbm, 311, rfl⟩
abbrev main_v254 : Ref sig .tc := ⟨.hbm, 312, rfl⟩
abbrev main_v255 : Ref sig .tc := ⟨.hbm, 313, rfl⟩
abbrev main_cst_44 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_cst_45 : Ref sig .tc := ⟨.hbm, 323, rfl⟩
abbrev main_v264 : Ref sig .tc := ⟨.hbm, 324, rfl⟩
abbrev main_v265 : Ref sig .tc := ⟨.hbm, 325, rfl⟩
abbrev main_cst_46 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S512x1024 : Shape := ⟨2, ![512, 1024]⟩
abbrev S1x8x1024 : Shape := ⟨3, ![1, 8, 1024]⟩
abbrev S1x1x1024 : Shape := ⟨3, ![1, 1, 1024]⟩

abbrev nBuf : Space → Nat
  | .hbm => 35
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4x3072, .f32⟩
  | .hbm, ⟨5, _⟩ => ⟨S4x1024, .f32⟩
  | .hbm, ⟨6, _⟩ => ⟨S2x1024, .f32⟩
  | .hbm, ⟨7, _⟩ => ⟨S4096x1024, .bf16⟩
  | .hbm, ⟨8, _⟩ => ⟨S4096x1024, .bf16⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S4x1024, .f32⟩
  | .hbm, ⟨27, _⟩ => ⟨S4x3x1024, .f32⟩
  | .hbm, ⟨28, _⟩ => ⟨S4x1x1024, .f32⟩
  | .hbm, ⟨29, _⟩ => ⟨S4x1x1024, .f32⟩
  | .hbm, ⟨30, _⟩ => ⟨S_, .f32⟩
  | .hbm, ⟨31, _⟩ => ⟨S4x3x1024, .f32⟩
  | .hbm, ⟨32, _⟩ => ⟨S4x8x1024, .f32⟩
  | .hbm, ⟨33, _⟩ => ⟨S4096x1024, .f32⟩
  | .hbm, ⟨34, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x1024 : Shape := ⟨2, ![4096, 1024]⟩
abbrev S1024x1024 : Shape := ⟨2, ![1024, 1024]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4x3072, .f32⟩
  | .hbm, ⟨5, _⟩ => ⟨S4x1024, .f32⟩
  | .hbm, ⟨6, _⟩ => ⟨S2x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel7.lean ====
abbrev S4096x1024 : Shape := ⟨2, ![4096, 1024]⟩
abbrev S1024x2048 : Shape := ⟨2, ![1024, 2048]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4x3x1024 : Shape := ⟨3, ![4, 3, 1024]⟩
abbrev S4x1x1024 : Shape := ⟨3, ![4, 1, 1024]⟩
abbrev S4x8x1024 : Shape := ⟨3, ![4, 8, 1024]⟩
abbrev S4x8x1x1024 : Shape := ⟨4, ![4, 8, 1, 1024]⟩
abbrev S2048x1024 : Shape := ⟨2, ![2048, 1024]⟩
abbrev S512x1024 : Shape := ⟨2, ![512, 1024]⟩
abbrev S1x1x1x1024 : Shape := ⟨4, ![1, 1, 1, 1024]⟩
abbrev S1x8x1024 : Shape := ⟨3, ![1, 8, 1024]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 33
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4x3072, .f32⟩
  | .hbm, ⟨3, _⟩ => ⟨S4x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4x1024, .f32⟩
  | .hbm, ⟨22, _⟩ => ⟨S4x3x1024, .f32⟩
  | .hbm, ⟨23, _⟩ => ⟨S4x1x1024, .f32⟩
  | .hbm, ⟨24, _⟩ => ⟨S4x1x1024, .f32⟩
  | .hbm, ⟨25, _⟩ => ⟨S_, .f32⟩
  | .hbm, ⟨26, _⟩ => ⟨S4x3x1024, .f32⟩
  | .hbm, ⟨27, _⟩ => ⟨S4x8x1024, .f32⟩
  | .hbm, ⟨28, _⟩ => ⟨S4x8x1x1024, .f32⟩
  | .hbm, ⟨29, _⟩ => ⟨S2048x1024, .f32⟩
  | .hbm, ⟨30, _⟩ => ⟨S2048x1024, .bf16⟩
  | .hbm, ⟨31, _⟩ => ⟨S4096x1024, .bf16⟩
  | .hbm, ⟨32, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x8x1024, .f32⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1024x2048 : Shape := ⟨2, ![1024, 2048]⟩
abbrev S4x3072 : Shape := ⟨2, ![4, 3072]⟩
abbrev S4x1024 : Shape := ⟨2, ![4, 1024]⟩
abbrev S2x1024 : Shape := ⟨2, ![2, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4x3072, .f32⟩
  | .hbm, ⟨3, _⟩ => ⟨S4x1024, .f32⟩
  | .hbm, ⟨4, _⟩ => ⟨S2x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Common.Finite.lean ====
/-
  Finiteness as a program states it, `|x| < ∞`, and sums and products of finite numbers.
-/
module

public import Idealize.ShloMosaic.Lib.Pointwise

@[expose] public section

noncomputable section

namespace Cert.Step

open Idealize.ShloMosaic

/-- An extended real that is a real number. -/
def IsReal (x : EReal) : Prop := ∃ a : ℝ, x = a

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type*} (s : Finset ι) {f : ι → EReal} (h : ∀ i, IsReal (f i)) : IsReal (∑ i ∈ s, f i) := by
  classical
  induction s using Finset.induction_on with
  | empty => exact ⟨0, by simp⟩
  | insert i s hi ih => rw [Finset.sum_insert hi]; exact (h i).add ih

theorem ofBits_inf : Ideal.ofBits .f32 2139095040#32 = ⊤ := by
  unfold Ideal.ofBits; rfl

/-- The test `|x| < ∞` holds of real numbers alone. -/
theorem fin_of_lt (x : EReal) (h : BitVec.ofBool (decide (max x (-x) < Ideal.ofBits .f32 2139095040#32)) = 1#1) : IsReal x := by
  rw [ofBits_inf] at h
  induction x using EReal.rec with
  | bot => simp at h
  | top => simp at h
  | coe a => exact ⟨a, rfl⟩

end Cert.Step
-- ==== Proof.Gate.Block.lean ====
/-
  What one grid point of the gate's backward kernel leaves in its output blocks and in its accumulators, as payload terms
  of the point's input blocks, at any float values.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Gate

open Cert.KernelIdeal Cert.KernelIdeal.Gen

variable {F : FTy → Type} [FloatOps F]
variable (m : (ℓ : Loc nD τ sig) → Buf (Elt F) ℓ) (c : Dev nD) (t : Fin cfg0.N)

theorem hz2 : (![0, 0] : Fin 2 → Nat) = fun _ => 0 := funext fun a => by fin_cases a <;> rfl

/-- The point's row of the layer's modulation table that holds the adaLN gate. -/
abbrev gateRow : Vec F S1x1x1024 .f32 :=
  View.ld (iblk m c 5 t) (Rect.unit ![0, 2, 0] ![1, 1, 1024] inb_S1x8x1024_S1x1x1024_0_2_0)

/-- The point's gradient at the gated attention output. -/
abbrev duBlk : FVec F S512x1024 .f32 := k0_pay8 (iblk m c 0 t) (gateRow m c t) (iblk m c 4 t)

/-- The literal one. -/
abbrev oneF : F .f32 := FloatOps.ofBits .f32 1065353216#32

/-- A point is the first one, the last one, or between them. -/
theorem three : (t.val % 8 = 0 ∧ ¬t.val % 8 = 7) ∨ (¬t.val % 8 = 0 ∧ ¬t.val % 8 = 7) ∨ (¬t.val % 8 = 0 ∧ t.val % 8 = 7) := by
  omega

/-- The block of the gate input's gradient. -/
theorem out7 : (outsAt0 m c t.val t.isLt).2.1
    = k0_pay14 (k0_pay4 (iblk m c 2 t)) (k0_pay5 (iblk m c 3 t)) (duBlk m c t) (k0_pay9 (iblk m c 3 t)) oneF := by
  rcases three t with ⟨h0, h1⟩ | ⟨h0, h1⟩ | ⟨h0, h1⟩
  on_goal 1 =>
    rw [outsAt0_A m c t h0 h1]; dsimp only; unfold out0_A_7
    rw [View.read_writes_eq_canon _ _ _ (fun y => cover0_A_7 (y := y) ..)]; unfold kernelRun0_A
  on_goal 2 =>
    rw [outsAt0_B m c t h0 h1]; dsimp only; unfold out0_B_7
    rw [View.read_writes_eq_canon _ _ _ (fun y => cover0_B_7 (y := y) ..)]; unfold kernelRun0_B
  on_goal 3 =>
    rw [outsAt0_C m c t h0 h1]; dsimp only; unfold out0_C_7
    rw [View.read_writes_eq_canon _ _ _ (fun y => cover0_C_7 (y := y) ..)]; unfold kernelRun0_C
  all_goals
    dsimp only
    rw [View.canon_unit_zero hz2]
    sl_unfold_words
    simp only [View.readAt_eq_ld, (hs0_0 t).read_unread, (hs0_2 t).read_unread, (hs0_3 t).read_unread, (hs0_4 t).read_unread,
      (hs0_5 t).read_unread, View.ld_unit_zero (S := S512x1024) hz2, View.ld_unit_zero (S := S1024x1024) hz2]
    rfl

/-- The projection gradient accumulated so far: the first point adds its product to zero. -/
theorem acc_zero (h0 : t.val % 8 = 0) : (outsAt0 m c t.val t.isLt).2.2.2.2
    = k0_pay12 (k0_pay4 (iblk m c 2 t)) (k0_pay5 (iblk m c 3 t)) (k0_pay7 (iblk m c 0 t) (gateRow m c t)) (k0_pay9 (iblk m c 3 t)) oneF k0_pay2 := by
  rw [outsAt0_A m c t h0 (by omega)]; dsimp only; unfold sout0_A_0
  rw [View.read_writes_eq_canon _ _ _ (fun y => scover0_A_0 (y := y) ..)]; unfold kernelRun0_A
  dsimp only
  sl_unfold_words
  rw [View.canon_cons_unit_zero (S := S1024x1024) hz2, View.readCov_unit_zero (S := S1024x1024) _ hz2]
  simp only [View.readAt_eq_ld, (hs0_0 t).read_unread, (hs0_2 t).read_unread, (hs0_3 t).read_unread,
    (hs0_5 t).read_unread, View.ld_unit_zero (S := S512x1024) hz2, View.ld_unit_zero (S := S1024x1024) hz2]
  rfl

/-- A later point adds its product to what the point before left. -/
theorem acc_later (h0 : ¬t.val % 8 = 0) : (outsAt0 m c t.val t.isLt).2.2.2.2
    = k0_pay12 (k0_pay4 (iblk m c 2 t)) (k0_pay5 (iblk m c 3 t)) (k0_pay7 (iblk m c 0 t) (gateRow m c t)) (k0_pay9 (iblk m c 3 t)) oneF
        (outsAt0 m c (t.val - 1) (Nat.lt_of_le_of_lt (Nat.sub_le _ _) t.isLt)).2.2.2.2 := by
  by_cases h1 : t.val % 8 = 7
  on_goal 1 =>
    rw [outsAt0_C m c t h0 h1]; dsimp only; unfold sout0_C_0
    rw [View.read_writes_eq_canon _ _ _ (fun y => scover0_C_0 (y := y) ..)]; unfold kernelRun0_C
  on_goal 2 =>
    rw [outsAt0_B m c t h0 h1]; dsimp only; unfold sout0_B_0
    rw [View.read_writes_eq_canon _ _ _ (fun y => scover0_B_0 (y := y) ..)]; unfold kernelRun0_B
  all_goals
    dsimp only
    sl_unfold_words
    rw [View.canon_unit_zero hz2]
    simp only [View.readAt_eq_ld, (hs0_0 t).read_unread, (hs0_2 t).read_unread, (hs0_3 t).read_unread, (Memref.isWhole_whole _).read_unread,
      (hs0_5 t).read_unread, View.ld_unit_zero (S := S512x1024) hz2, View.ld_unit_zero (S := S1024x1024) hz2]
    rfl

/-- The adaLN gate's gradient accumulated so far: the first point adds its column sums to zero. -/
theorem ada_zero (h0 : t.val % 8 = 0) : (outsAt0 m c t.val t.isLt).2.2.2.1
    = k0_pay6 (iblk m c 0 t) k0_pay3 (iblk m c 1 t) := by
  rw [outsAt0_A m c t h0 (by omega)]; dsimp only; unfold out0_A_9
  rw [View.read_writes_eq_canon _ _ _ (fun y => cover0_A_9 (y := y) ..)]; unfold kernelRun0_A
  dsimp only
  sl_unfold_words
  rw [View.canon_cons_unit_zero (S := S1x1024) hz2, View.readCov_unit_zero (S := S1x1024) _ hz2]
  simp only [View.readAt_eq_ld, (hs0_0 t).read_unread, (hs0_1 t).read_unread, View.ld_unit_zero (S := S512x1024) hz2]

/-- A later point adds its column sums to what the point before left. -/
theorem ada_later (h0 : ¬t.val % 8 = 0) : (outsAt0 m c t.val t.isLt).2.2.2.1
    = k0_pay6 (iblk m c 0 t) (outsAt0 m c (t.val - 1) (Nat.lt_of_le_of_lt (Nat.sub_le _ _) t.isLt)).2.2.2.1 (iblk m c 1 t) := by
  by_cases h1 : t.val % 8 = 7
  on_goal 1 =>
    rw [outsAt0_C m c t h0 h1]; dsimp only; unfold out0_C_9
    rw [View.read_writes_eq_canon _ _ _ (fun y => cover0_C_9 (y := y) ..)]; unfold kernelRun0_C
  on_goal 2 =>
    rw [outsAt0_B m c t h0 h1]; dsimp only; unfold out0_B_9
    rw [View.read_writes_eq_canon _ _ _ (fun y => cover0_B_9 (y := y) ..)]; unfold kernelRun0_B
  all_goals
    dsimp only
    try sl_unfold_words
    rw [View.canon_unit_zero hz2]
    simp only [View.readAt_eq_ld, (hs0_0 t).read_unread, (hs0_1 t).read_unread, (hs0_9 t).read_unread,
      View.ld_unit_zero (S := S512x1024) hz2, View.ld_unit_zero (S := S1x1024) hz2]

/-- The projection gradient's block, stored at the last point: the accumulator, its own product included, rounded. -/
theorem out8 (h1 : t.val % 8 = 7) : (outsAt0 m c t.val t.isLt).2.2.1
    = k0_pay1 (outsAt0 m c t.val t.isLt).2.2.2.2 := by
  have h0 : ¬t.val % 8 = 0 := by omega
  rw [outsAt0_C m c t h0 h1]; dsimp only; unfold out0_C_8 sout0_C_0
  rw [View.read_writes_eq_canon _ _ _ (fun y => cover0_C_8 (y := y) ..), View.read_writes_eq_canon _ _ _ (fun y => scover0_C_0 (y := y) ..)]; unfold kernelRun0_C
  dsimp only
  sl_unfold_words
  rw [View.canon_unit_zero hz2, View.canon_unit_zero hz2, View.readCov_unit_zero (S := S1024x1024) _ hz2]

end Cert.KernelIdeal.Gate
-- ==== Proof.Common.Silu.lean ====
/-
  The gate x ↦ x·σ(x) with σ(x) = 1 / (1 + e⁻ˣ), on the extended reals, and the two spellings of its derivative.
-/
module

public import Idealize.ShloMosaic.PureOps.Ideal.Laws

@[expose] public section

noncomputable section

namespace Cert.Step

open Idealize.ShloMosaic

/-- The logistic function as both programs spell it. -/
def logistic (x : EReal) : EReal := Ideal.div 1 (1 + Ideal.exp (-x))

theorem logistic_top : logistic ⊤ = 1 := Ideal.logistic_top

theorem logistic_bot : logistic ⊥ = 0 := Ideal.logistic_bot

theorem logistic_coe (x : ℝ) : logistic x = ((1 / (1 + Real.exp (-x)) : ℝ) : EReal) := by
  have hp : (1 + Real.exp (-x)) ≠ 0 := by positivity
  have h : (1 : EReal) + Ideal.exp (-(x : EReal)) = ((1 + Real.exp (-x) : ℝ) : EReal) := by
    rw [← EReal.coe_neg, Ideal.exp_coe]; norm_cast
  rw [logistic, h, Ideal.div_coe hp, one_mul]

/-- σ is a real number everywhere. -/
theorem logistic_real (x : EReal) : ∃ s : ℝ, logistic x = s := by
  induction x using EReal.rec with
  | bot => exact ⟨0, logistic_bot⟩
  | coe x => exact ⟨_, logistic_coe x⟩
  | top => exact ⟨1, logistic_top⟩

/-- The gate. -/
def silu (x : EReal) : EReal := x * logistic x

/-- For a finite cotangent `a`, the factored derivative `a·(σ·(1 + g·(1 − σ)))` of the gate is the product rule's
    `a·σ + (a·g)·(σ·(1 − σ))`, at every extended real `g`. -/
theorem silu_grad (a : ℝ) (g : EReal) :
    (a : EReal) * (logistic g * (1 + g * (1 - logistic g))) = a * logistic g + (a * g) * (logistic g * (1 - logistic g)) := by
  induction g using EReal.rec with
  | bot => simp [logistic_bot]
  | top =>
    have h : (1 : EReal) - 1 = 0 := by rw [← EReal.coe_one, ← EReal.coe_sub, sub_self, EReal.coe_zero]
    simp [logistic_top, h]
  | coe g =>
    obtain ⟨s, hs⟩ := logistic_real g
    rw [hs]
    norm_cast
    ring

end Cert.Step
-- ==== Proof.Gate.Formula.lean ====
/-
  The gate's backward pass, as functions of whole arrays: `X` the cotangent of the layer's output, `γ` the layer's adaLN
  gate, `O` the attention's output, `G` the gate's input, `W` the output projection, `BR` the branch the forward pass saved.
-/
module

public import proofs.«01_k».proof.Proof.Common.Silu

@[expose] public section

noncomputable section

namespace Cert.Step.Gate

open Cert.Step

variable {N D : ℕ} (X O G BR : Fin N → Fin D → EReal) (γ : Fin D → EReal) (W : Fin D → Fin D → EReal)

/-- The gradient that reaches the gated attention output: the cotangent times the adaLN gate, back through `W`. -/
def du (r : Fin N) (k : Fin D) : EReal := ∑ d, X r d * γ d * W k d

/-- The gradient of the attention output. -/
def dOut (r : Fin N) (k : Fin D) : EReal := du X γ W r k * silu (G r k)

/-- Heads of width 64 laid out in blocks of 128 columns, an even and an odd one after another: column `l` of block
    `2·b + h` is column `128·b + l` where `l` is in half `h`, else zero. -/
def halves (f : Fin 1024 → EReal) (q : Fin 2048) : EReal :=
  if (q.val % 128 < 64 ↔ q.val / 128 % 2 = 0) then f ⟨128 * (q.val / 256) + q.val % 128, by omega⟩ else 0

theorem halves_even (f : Fin 1024 → EReal) (q : Fin 2048) (n l : ℕ) (hl : l < 128) (hn : n % 128 = 0) (hq : q.val = 2 * n + l) :
    halves f q = if l < 64 then f ⟨n + l, by omega⟩ else 0 := by
  have h1 : q.val % 128 = l := by omega
  have h2 : q.val / 128 % 2 = 0 := by omega
  unfold halves
  simp only [h1, h2, iff_true]
  split
  · exact congrArg f (Fin.ext (by dsimp only; omega))
  · rfl

theorem halves_odd (f : Fin 1024 → EReal) (q : Fin 2048) (n l : ℕ) (hl : l < 128) (hn : n % 128 = 0) (hq : q.val = 2 * n + 128 + l) :
    halves f q = if l < 64 then 0 else f ⟨n + l, by omega⟩ := by
  have h1 : q.val % 128 = l := by omega
  have h2 : q.val / 128 % 2 = 1 := by omega
  unfold halves
  simp only [h1, h2, one_ne_zero, iff_false]
  by_cases h : l < 64
  · rw [if_neg (by omega), if_pos h]
  · rw [if_pos h, if_neg h]
    exact congrArg f (Fin.ext (by dsimp only; omega))

/-- The gradient of the gate's input, with the gate's derivative in factored form. -/
def dGate (r : Fin N) (k : Fin D) : EReal :=
  du X γ W r k * O r k * (logistic (G r k) * (1 + G r k * (1 - logistic (G r k))))

/-- The gradient of the output projection. -/
def dProj (i j : Fin D) : EReal := ∑ r, O r i * silu (G r i) * (X r j * γ j)

/-- The gradient of the adaLN gate. -/
def dAda (j : Fin D) : EReal := ∑ r, X r j * BR r j

/-- The branch: the gated attention output through the projection. -/
def branch (r : Fin N) (j : Fin D) : EReal := ∑ k, O r k * silu (G r k) * W k j

end Cert.Step.Gate
-- ==== Proof.Common.Sums.lean ====
/-
  Sums over the rows of an array that a grid visits in blocks: a value that starts with the first block's contribution
  and takes the next block's at every later point is the sum over the points, and the double sum over the points and the
  rows of a block is the sum over all rows.
-/
module

public import Idealize.ShloMosaic.Lib.Pointwise

@[expose] public section

namespace Cert.Step

open Idealize.ShloMosaic

/-- An index of a rank-2 shape is the pair of its coordinates. -/
theorem idx2 {A B : ℕ} (y : (⟨2, ![A, B]⟩ : Shape).Idx) : ∃ (r : Fin A) (k : Fin B), y = ix2 r k :=
  ⟨y 0, y 1, by funext a; fin_cases a <;> rfl⟩

/-- An index of a rank-3 shape is the triple of its coordinates. -/
theorem idx3 {A B C : ℕ} (y : (⟨3, ![A, B, C]⟩ : Shape).Idx) : ∃ (a : Fin A) (r : Fin B) (k : Fin C), y = ix3 a r k :=
  ⟨y 0, y 1, y 2, by funext a; fin_cases a <;> rfl⟩

/-- A value that is the first point's contribution at point 0 and adds each later point's is the sum of the contributions. -/
theorem fold_eq_sum {N : ℕ} {β : Type*} [AddCommMonoid β] (f M : (n : ℕ) → n < N → β)
    (h0 : ∀ h, f 0 h = M 0 h) (hs : ∀ n (h : n + 1 < N), f (n + 1) h = f n (Nat.lt_of_succ_lt h) + M (n + 1) h) :
    ∀ n (h : n < N), f n h = ∑ s : Fin (n + 1), M s.val (lt_of_lt_of_le s.isLt h)
  | 0, h => by rw [h0]; simp
  | n + 1, h => by
    rw [hs, fold_eq_sum f M h0 hs n, Fin.sum_univ_castSucc (n := n + 1)]
    rfl

/-- The rows of an array of `J` blocks of `T` rows: row `t` of block `j`. -/
def row {N : ℕ} (T J : ℕ) (hN : T * J = N) (j : Fin J) (t : Fin T) : Fin N :=
  ⟨T * j.val + t.val, by
    have hj := j.isLt; have ht := t.isLt; subst hN
    calc T * j.val + t.val < T * j.val + T := by omega
      _ = T * (j.val + 1) := by rw [Nat.mul_add, Nat.mul_one]
      _ ≤ T * J := Nat.mul_le_mul_left _ hj⟩

/-- Every row is row `R % T` of block `R / T`. -/
theorem row_div_mod {N : ℕ} (T J : ℕ) (hN : T * J = N) (R : Fin N) (h1 : R.val / T < J) (h2 : R.val % T < T) :
    row T J hN ⟨R.val / T, h1⟩ ⟨R.val % T, h2⟩ = R :=
  Fin.ext (Nat.div_add_mod R.val T)

/-- Summing the blocks' row sums sums all the rows. -/
theorem sum_rows {N : ℕ} {M : Type*} [AddCommMonoid M] (T J : ℕ) (hN : T * J = N) (f : Fin N → M) :
    ∑ j : Fin J, ∑ t : Fin T, f (row T J hN j t) = ∑ R : Fin N, f R := by
  rw [Idealize.ShloMosaic.Fin.sum_univ_tiles J T (by rw [Nat.mul_comm]; exact hN) f]
  refine Finset.sum_congr rfl fun j _ => Finset.sum_congr rfl fun t _ => congrArg f (Fin.ext ?_)
  show T * j.val + t.val = j.val * T + t.val
  rw [Nat.mul_comm]

end Cert.Step
-- ==== Proof.Gate.Value.lean ====
/-
  The gate's backward kernel: its four result arrays, on the extended reals, as functions of the arrays its windows read.
-/
module

public import proofs.«01_k».proof.Proof.Gate.Block
public import proofs.«01_k».proof.Proof.Gate.Formula
public import proofs.«01_k».proof.Proof.Common.Sums
public import proofs.«01_k».proof.Proof.Gen.KernelIdeal.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Gate

open Cert.KernelIdeal Cert.KernelIdeal.Gen Cert.Step Cert.Step.Gate

variable (m : (ℓ : Loc nD τ sig) → Buf (Elt Ideal) ℓ) (c : Dev nD)

/-- The arrays the windows read: the cotangent, the branch, the attention output, the gate's input, the projection and the adaLN gate. -/
def xA (r : Fin 4096) (d : Fin 1024) : EReal := V m c main_arg0 (ix2 r d)
def brA (r : Fin 4096) (d : Fin 1024) : EReal := V m c main_v26 (ix2 r d)
def oA (r : Fin 4096) (d : Fin 1024) : EReal := V m c main_v20 (ix2 r d)
def gA (r : Fin 4096) (d : Fin 1024) : EReal := V m c main_v21 (ix2 r d)
def wA (k d : Fin 1024) : EReal := V m c main_v22 (ix2 k d)
def gamA (d : Fin 1024) : EReal := V m c main_v19 (ix3 2 2 d)

/-- Row `r` of point `t`'s block. -/
abbrev rowOf (t : Fin cfg0.N) (r : Fin 512) : Fin 4096 := row 512 8 rfl (t.cast N_0) r

/-! ### The windows' blocks -/

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_6.index t 0 = t.val ∧ win0_6.index t 1 = 0) ∧ (win0_7.index t 0 = t.val ∧ win0_7.index t 1 = 0) :=
  (by decide +kernel : ∀ t : Fin grid0.N, _)

/-- An index of a rank-2 array is known by its two coordinates. -/
theorem at_rows {A B : ℕ} {α : Type*} (v : (⟨2, ![A, B]⟩ : Shape).Idx → α) (j : (⟨2, ![A, B]⟩ : Shape).Idx) (r : Fin A) (d : Fin B)
    (h0 : (j 0).val = r.val) (h1 : (j 1).val = d.val) : v j = v (ix2 r d) :=
  congrArg v (funext fun a => Fin.ext (match a with | ⟨0, _⟩ => h0 | ⟨1, _⟩ => h1))

theorem iblk0_apply (t : Fin cfg0.N) (r : Fin 512) (d : Fin 1024) : iblk m c 0 t (ix2 r d) = xA m c (rowOf t r) d :=
  at_rows (V m c main_arg0) _ _ _
    (by show win0_0.index t 0 * 512 + 1 * r.val = 512 * t.val + r.val; rw [(index_rows t).1.1]; omega)
    (by show win0_0.index t 1 * 1024 + 1 * d.val = d.val; rw [(index_rows t).1.2]; omega)

theorem iblk1_apply (t : Fin cfg0.N) (r : Fin 512) (d : Fin 1024) : iblk m c 1 t (ix2 r d) = brA m c (rowOf t r) d :=
  at_rows (V m c main_v26) _ _ _
    (by show win0_1.index t 0 * 512 + 1 * r.val = 512 * t.val + r.val; rw [(index_rows t).2.1.1]; omega)
    (by show win0_1.index t 1 * 1024 + 1 * d.val = d.val; rw [(index_rows t).2.1.2]; omega)

theorem iblk2_apply (t : Fin cfg0.N) (r : Fin 512) (d : Fin 1024) : iblk m c 2 t (ix2 r d) = oA m c (rowOf t r) d :=
  at_rows (V m c main_v20) _ _ _
    (by show win0_2.index t 0 * 512 + 1 * r.val = 512 * t.val + r.val; rw [(index_rows t).2.2.1.1]; omega)
    (by show win0_2.index t 1 * 1024 + 1 * d.val = d.val; rw [(index_rows t).2.2.1.2]; omega)

theorem iblk3_apply (t : Fin cfg0.N) (r : Fin 512) (d : Fin 1024) : iblk m c 3 t (ix2 r d) = gA m c (rowOf t r) d :=
  at_rows (V m c main_v21) _ _ _
    (by show win0_3.index t 0 * 512 + 1 * r.val = 512 * t.val + r.val; rw [(index_rows t).2.2.2.1.1]; omega)
    (by show win0_3.index t 1 * 1024 + 1 * d.val = d.val; rw [(index_rows t).2.2.2.1.2]; omega)

theorem index_whole : ∀ t : Fin cfg0.N, (win0_4.index t 0 = 0 ∧ win0_4.index t 1 = 0)
    ∧ (win0_5.index t 0 = 2 ∧ win0_5.index t 1 = 0 ∧ win0_5.index t 2 = 0)
    ∧ (win0_8.index t 0 = 0 ∧ win0_8.index t 1 = 0) ∧ (win0_9.index t 0 = 0 ∧ win0_9.index t 1 = 0) :=
  (by decide +kernel : ∀ t : Fin grid0.N, _)

theorem iblk4_apply (t : Fin cfg0.N) (k d : Fin 1024) : iblk m c 4 t (ix2 k d) = wA m c k d :=
  at_rows (V m c main_v22) _ _ _
    (by show win0_4.index t 0 * 1024 + 1 * k.val = k.val; rw [(index_whole t).1.1]; omega)
    (by show win0_4.index t 1 * 1024 + 1 * d.val = d.val; rw [(index_whole t).1.2]; omega)

theorem iblk5_apply (t : Fin cfg0.N) (d : Fin 1024) : iblk m c 5 t (ix3 0 2 d) = gamA m c d :=
  congrArg (V m c main_v19) (funext fun a => Fin.ext (match a with
    | ⟨0, _⟩ => by show win0_5.index t 0 * 1 + 1 * 0 = 2; rw [(index_whole t).2.1.1]
    | ⟨1, _⟩ => by show win0_5.index t 1 * 8 + 1 * 2 = 2; rw [(index_whole t).2.1.2.1]
    | ⟨2, _⟩ => by show win0_5.index t 2 * 1024 + 1 * d.val = d.val; rw [(index_whole t).2.1.2.2]; omega))

/-! ### One point's values at an index -/

theorem out7_apply (t : Fin cfg0.N) (r : Fin 512) (k : Fin 1024) : (outsAt0 m c t.val t.isLt).2.1 (ix2 r k)
    = dGate (xA m c) (oA m c) (gA m c) (gamA m c) (wA m c) (rowOf t r) k := by
  rw [out7]
  pointwise [k0_pay14, k0_pay4, k0_pay5, k0_pay7, k0_pay8, k0_pay9, k0_pay10, duBlk, oneF, gateRow]
  simp only [iblk0_apply, iblk2_apply, iblk3_apply, iblk4_apply, iblk5_apply, zero_sub]
  rfl

/-- The rows of point `n` in the projection gradient. -/
def projPart (i j : Fin 1024) (n : ℕ) (h : n < cfg0.N) : EReal :=
  ∑ r : Fin 512, oA m c (rowOf ⟨n, h⟩ r) i * silu (gA m c (rowOf ⟨n, h⟩ r) i) * (xA m c (rowOf ⟨n, h⟩ r) j * gamA m c j)

theorem acc_zero_apply (i j : Fin 1024) (t : Fin cfg0.N) (h0 : t.val % 8 = 0) :
    (outsAt0 m c t.val t.isLt).2.2.2.2 (ix2 i j) = projPart m c i j t.val t.isLt := by
  rw [acc_zero m c t h0]
  pointwise [k0_pay2, k0_pay11, k0_pay12, k0_pay4, k0_pay5, k0_pay7, k0_pay9, k0_pay10, oneF, gateRow]
  simp only [iblk0_apply, iblk2_apply, iblk3_apply, iblk5_apply, zero_sub]
  rfl

theorem acc_later_apply (i j : Fin 1024) (t : Fin cfg0.N) (h0 : ¬t.val % 8 = 0) (hp : t.val - 1 < cfg0.N) :
    (outsAt0 m c t.val t.isLt).2.2.2.2 (ix2 i j) = (outsAt0 m c (t.val - 1) hp).2.2.2.2 (ix2 i j) + projPart m c i j t.val t.isLt := by
  rw [acc_later m c t h0]
  generalize (outsAt0 m c (t.val - 1) _).2.2.2.2 = y
  pointwise [k0_pay11, k0_pay12, k0_pay4, k0_pay5, k0_pay7, k0_pay9, k0_pay10, oneF, gateRow]
  simp only [iblk0_apply, iblk2_apply, iblk3_apply, iblk5_apply, zero_sub]
  rfl

theorem acc_apply (i j : Fin 1024) (n : ℕ) (h : n < cfg0.N) : (outsAt0 m c n h).2.2.2.2 (ix2 i j)
    = ∑ s : Fin (n + 1), projPart m c i j s.val (lt_of_lt_of_le s.isLt h) := by
  refine fold_eq_sum (fun n h => (outsAt0 m c n h).2.2.2.2 (ix2 i j)) (projPart m c i j) (fun h => ?_) (fun n h => ?_) n h
  · exact acc_zero_apply m c i j ⟨0, h⟩ rfl
  · have hN : cfg0.N = 8 := N_0
    exact acc_later_apply m c i j ⟨n + 1, h⟩ (by dsimp only; omega) _

/-- The rows of point `n` in the adaLN gate's gradient. -/
def adaPart (j : Fin 1024) (n : ℕ) (h : n < cfg0.N) : EReal :=
  ∑ r : Fin 512, xA m c (rowOf ⟨n, h⟩ r) j * brA m c (rowOf ⟨n, h⟩ r) j

theorem ada_zero_apply (z : Fin 1) (j : Fin 1024) (t : Fin cfg0.N) (h0 : t.val % 8 = 0) :
    (outsAt0 m c t.val t.isLt).2.2.2.1 (ix2 z j) = adaPart m c j t.val t.isLt := by
  rw [ada_zero m c t h0]
  pointwise [k0_pay3, k0_pay6]
  simp only [iblk0_apply, iblk1_apply]
  rfl

theorem ada_later_apply (z : Fin 1) (j : Fin 1024) (t : Fin cfg0.N) (h0 : ¬t.val % 8 = 0) (hp : t.val - 1 < cfg0.N) :
    (outsAt0 m c t.val t.isLt).2.2.2.1 (ix2 z j) = (outsAt0 m c (t.val - 1) hp).2.2.2.1 (ix2 z j) + adaPart m c j t.val t.isLt := by
  rw [ada_later m c t h0]
  generalize (outsAt0 m c (t.val - 1) _).2.2.2.1 = y
  pointwise [k0_pay6]
  simp only [iblk0_apply, iblk1_apply]
  obtain rfl : z = 0 := Subsingleton.elim _ _
  rfl

theorem ada_apply (z : Fin 1) (j : Fin 1024) (n : ℕ) (h : n < cfg0.N) : (outsAt0 m c n h).2.2.2.1 (ix2 z j)
    = ∑ s : Fin (n + 1), adaPart m c j s.val (lt_of_lt_of_le s.isLt h) := by
  refine fold_eq_sum (fun n h => (outsAt0 m c n h).2.2.2.1 (ix2 z j)) (adaPart m c j) (fun h => ?_) (fun n h => ?_) n h
  · exact ada_zero_apply m c z j ⟨0, h⟩ rfl
  · have hN : cfg0.N = 8 := N_0
    exact ada_later_apply m c z j ⟨n + 1, h⟩ (by dsimp only; omega) _

/-- After the last point the accumulators hold the sums over all rows. -/
theorem acc_last (t : Fin cfg0.N) (ht : t.val % 8 = 7) (i j : Fin 1024) : (outsAt0 m c t.val t.isLt).2.2.2.2 (ix2 i j)
    = dProj (xA m c) (oA m c) (gA m c) (gamA m c) i j := by
  have hN : cfg0.N = 8 := N_0
  obtain rfl : t = ⟨7, by rw [hN]; decide⟩ := Fin.ext (by have := t.isLt; show t.val = 7; omega)
  rw [acc_apply]
  exact sum_rows 512 8 rfl (fun R => oA m c R i * silu (gA m c R i) * (xA m c R j * gamA m c j))

theorem ada_last (t : Fin cfg0.N) (ht : t.val % 8 = 7) (z : Fin 1) (j : Fin 1024) : (outsAt0 m c t.val t.isLt).2.2.2.1 (ix2 z j)
    = dAda (xA m c) (brA m c) j := by
  have hN : cfg0.N = 8 := N_0
  obtain rfl : t = ⟨7, by rw [hN]; decide⟩ := Fin.ext (by have := t.isLt; show t.val = 7; omega)
  rw [ada_apply]
  exact sum_rows 512 8 rfl (fun R => xA m c R j * brA m c R j)

end Cert.KernelIdeal.Gate
-- ==== Proof.Gate.Halves.lean ====
/-
  The block of the attention output's gradient that one point stores: sixteen stores, each an even or an odd half of
  128 columns of the gradient.
-/
module

public import proofs.«01_k».proof.Proof.Gate.Value

@[expose] public section

noncomputable section

open Idealize.ShloMosaic Idealize.ShloMosaic.TcCoe Idealize.SL.Sem

namespace Cert.KernelIdeal.Gate

open Cert.KernelIdeal Cert.KernelIdeal.Gen Cert.Step Cert.Step.Gate

/-- The mask of the low half, at a column. -/
theorem low_apply (r : Fin 512) (l : Fin 128) : (k0_pay15 : IVec S512x128 1) (ix2 r l) = if l.val < 64 then 1#1 else 0#1 := by
  pointwise [k0_pay15]
  exact (by decide +kernel : ∀ l : Fin 128, IntOp.cmpi .slt (BitVec.ofNat 32 l.val) 64#32 = if l.val < 64 then 1#1 else 0#1) l

/-- An even store: the low half of 128 columns, zeros above. -/
theorem even_piece (y : FVec Ideal S512x1024 .f32) (n : ℕ) (hs : S512x1024.Slices ![0, n] S512x128) (x : S512x128.Idx) (i : S512x2048.Idx)
    (hn : n % 128 = 0) (h0 : (i 0).val = 0 + 1 * (x 0).val) (h1 : (i 1).val = 2 * n + 1 * (x 1).val) :
    (truncf .bf16 (select k0_pay15 (extractStridedSlice S512x128 ![0, n] y hs) (broadcast S512x128 (Scalar.ofBits (F := Ideal) .f32 0x00000000#32))) bitsLt_bf16_f32 : FVec Ideal S512x128 .bf16) x
      = halves (fun d => y (ix2 (i 0) d)) (i 1) := by
  obtain ⟨r, l, rfl⟩ : ∃ (r : Fin 512) (l : Fin 128), x = ix2 r l := ⟨x 0, x 1, by funext a; fin_cases a <;> rfl⟩
  have hr : (i 0 : Fin 512) = r := Fin.ext (by rw [h0]; show 0 + 1 * r.val = r.val; omega)
  rw [halves_even _ (i 1) n l.val l.isLt hn (by rw [h1]; show 2 * n + 1 * l.val = _; omega)]
  pointwise
  rw [low_apply, hr]
  split <;> rfl

/-- An odd store: zeros in the low half, the high half of 128 columns. -/
theorem odd_piece (y : FVec Ideal S512x1024 .f32) (n : ℕ) (hs : S512x1024.Slices ![0, n] S512x128) (x : S512x128.Idx) (i : S512x2048.Idx)
    (hn : n % 128 = 0) (h0 : (i 0).val = 0 + 1 * (x 0).val) (h1 : (i 1).val = 2 * n + 128 + 1 * (x 1).val) :
    (truncf .bf16 (select k0_pay15 (broadcast S512x128 (Scalar.ofBits (F := Ideal) .f32 0x00000000#32)) (extractStridedSlice S512x128 ![0, n] y hs)) bitsLt_bf16_f32 : FVec Ideal S512x128 .bf16) x
      = halves (fun d => y (ix2 (i 0) d)) (i 1) := by
  obtain ⟨r, l, rfl⟩ : ∃ (r : Fin 512) (l : Fin 128), x = ix2 r l := ⟨x 0, x 1, by funext a; fin_cases a <;> rfl⟩
  have hr : (i 0 : Fin 512) = r := Fin.ext (by rw [h0]; show 0 + 1 * r.val = r.val; omega)
  rw [halves_odd _ (i 1) n l.val l.isLt hn (by rw [h1]; show 2 * n + 128 + 1 * l.val = _; omega)]
  pointwise
  rw [low_apply, hr]
  split <;> rfl

variable (m : (ℓ : Loc nD τ sig) → Buf (Elt Ideal) ℓ) (c : Dev nD)

/-- The point's gradient at the attention's output. -/
abbrev doBlk (t : Fin cfg0.N) : FVec Ideal S512x1024 .f32 :=
  k0_pay13 (k0_pay5 (iblk m c 3 t)) (duBlk m c t) (k0_pay9 (iblk m c 3 t)) oneF

theorem doBlk_apply (t : Fin cfg0.N) (r : Fin 512) (k : Fin 1024) : doBlk m c t (ix2 r k)
    = dOut (xA m c) (gA m c) (gamA m c) (wA m c) (rowOf t r) k := by
  pointwise [k0_pay13, k0_pay11, k0_pay5, k0_pay7, k0_pay8, k0_pay9, k0_pay10, duBlk, oneF, gateRow]
  simp only [iblk0_apply, iblk3_apply, iblk4_apply, iblk5_apply, zero_sub]
  rfl

/-- What the point stores, as one function of the block's index. -/
def dosBlk (t : Fin cfg0.N) : FVec Ideal S512x2048 .bf16 := fun y => halves (fun d => doBlk m c t (ix2 (y 0) d)) (y 1)

set_option maxHeartbeats 2000000 in
theorem out6_block (t : Fin cfg0.N) (y : S512x2048.Idx) : (outsAt0 m c t.val t.isLt).1 y = dosBlk m c t y := by
  rcases three t with ⟨h0, h1⟩ | ⟨h0, h1⟩ | ⟨h0, h1⟩
  on_goal 1 =>
    rw [outsAt0_A m c t h0 h1]; dsimp only; unfold out0_A_6
    rw [View.read_writes_eq_canon _ _ _ (fun y => cover0_A_6 (y := y) ..)]
    refine View.canon_apply_of_pieces (Val := Elt Ideal) (e := .bf16) (dosBlk m c t) _ ?_ y (cover0_A_6 (y := y) ..)
    unfold kernelRun0_A
  on_goal 2 =>
    rw [outsAt0_B m c t h0 h1]; dsimp only; unfold out0_B_6
    rw [View.read_writes_eq_canon _ _ _ (fun y => cover0_B_6 (y := y) ..)]
    refine View.canon_apply_of_pieces (Val := Elt Ideal) (e := .bf16) (dosBlk m c t) _ ?_ y (cover0_B_6 (y := y) ..)
    unfold kernelRun0_B
  on_goal 3 =>
    rw [outsAt0_C m c t h0 h1]; dsimp only; unfold out0_C_6
    rw [View.read_writes_eq_canon _ _ _ (fun y => cover0_C_6 (y := y) ..)]
    refine View.canon_apply_of_pieces (Val := Elt Ideal) (e := .bf16) (dosBlk m c t) _ ?_ y (cover0_C_6 (y := y) ..)
    unfold kernelRun0_C
  all_goals
    dsimp only
    sl_unfold_words
    simp only [View.readAt_eq_ld, (hs0_0 t).read_unread, (hs0_2 t).read_unread, (hs0_3 t).read_unread, (hs0_4 t).read_unread,
      (hs0_5 t).read_unread, View.ld_unit_zero (S := S512x1024) hz2, View.ld_unit_zero (S := S1024x1024) hz2]
    repeat' refine List.forall_mem_cons.mpr ⟨fun x => ?_, ?_⟩
    on_goal 17 => exact List.forall_mem_nil _
  iterate 24
    on_goal 1 => exact odd_piece (doBlk m c t) _ (by decide) x _ (by decide) rfl rfl
    on_goal 1 => exact even_piece (doBlk m c t) _ (by decide) x _ (by decide) rfl rfl

theorem out6_apply (t : Fin cfg0.N) (r : Fin 512) (q : Fin 2048) : (outsAt0 m c t.val t.isLt).1 (ix2 r q)
    = halves (dOut (xA m c) (gA m c) (gamA m c) (wA m c) (rowOf t r)) q := by
  rw [out6_block]
  exact congrArg (fun f => halves f q) (funext fun d => doBlk_apply m c t r d)

end Cert.KernelIdeal.Gate
-- ==== Proof.Gate.Arrays.lean ====
/-
  The gate's backward kernel: its four result arrays after the run.
-/
module

public import proofs.«01_k».proof.Proof.Gate.Halves
public import Idealize.ShloMosaic.Lib.Pipeline.ValueKit

@[expose] public section

noncomputable section

open Idealize.ShloMosaic Idealize.ShloMosaic.TcCoe Idealize.SL.Sem
open Idealize.ShloMosaic.Pipeline (Dat)

namespace Cert.KernelIdeal.Gate

open Cert.KernelIdeal Cert.KernelIdeal.Gen Cert.Step Cert.Step.Gate

variable (m : (ℓ : Loc nD τ sig) → Buf (Elt Ideal) ℓ) (c : Dev nD)

/-- The four results as functions of the arrays the windows read. -/
def dosR : FVec Ideal S4096x2048 .bf16 := fun i => halves (dOut (xA m c) (gA m c) (gamA m c) (wA m c) (i 0)) (i 1)
def dgR : FVec Ideal S4096x1024 .bf16 := fun i => dGate (xA m c) (oA m c) (gA m c) (gamA m c) (wA m c) (i 0) (i 1)
def dwR : FVec Ideal S1024x1024 .bf16 := fun i => dProj (xA m c) (oA m c) (gA m c) (gamA m c) (i 0) (i 1)
def dgateR : FVec Ideal S1x1024 .f32 := fun i => dAda (xA m c) (brA m c) (i 1)

theorem arr6 : (dats m 0 c).arrAt 6 cfg0.N = dosR m c := by
  refine (dats m 0 c).arrAt_eq_of_covers 6 _ (by decide +kernel) fun t hf y => ?_
  blk_simp
  rw [after0_6]
  obtain ⟨r, q, rfl⟩ := idx2 (A := 512) (B := 2048) y
  refine (out6_apply m c t r q).trans (congrArg₂ (fun R q => halves (dOut (xA m c) (gA m c) (gamA m c) (wA m c) R) q) (Fin.ext ?_) (Fin.ext ?_))
  · show 512 * t.val + r.val = win0_6.index t 0 * 512 + 1 * r.val; rw [(index_rows t).2.2.2.2.1.1]; omega
  · show q.val = win0_6.index t 1 * 2048 + 1 * q.val; rw [(index_rows t).2.2.2.2.1.2]; omega

theorem arr7 : (dats m 0 c).arrAt 7 cfg0.N = dgR m c := by
  refine (dats m 0 c).arrAt_eq_of_covers 7 _ (by decide +kernel) fun t hf y => ?_
  blk_simp
  rw [after0_7]
  obtain ⟨r, k, rfl⟩ := idx2 (A := 512) (B := 1024) y
  refine (out7_apply m c t r k).trans (congrArg₂ (fun R q => dGate (xA m c) (oA m c) (gA m c) (gamA m c) (wA m c) R q) (Fin.ext ?_) (Fin.ext ?_))
  · show 512 * t.val + r.val = win0_7.index t 0 * 512 + 1 * r.val; rw [(index_rows t).2.2.2.2.2.1]; omega
  · show k.val = win0_7.index t 1 * 1024 + 1 * k.val; rw [(index_rows t).2.2.2.2.2.2]; omega

theorem arr8 : (dats m 0 c).arrAt 8 cfg0.N = dwR m c := by
  refine (dats m 0 c).arrAt_eq_of_covers 8 _ (by decide +kernel) fun t hf y => ?_
  have h7 : t.val % 8 = 7 := (flush0_8 t).mp hf
  blk_simp
  rw [after0_8, out8 m c t h7]
  obtain ⟨i, j, rfl⟩ := idx2 (A := 1024) (B := 1024) y
  refine (acc_last m c t h7 i j).trans (congrArg₂ (fun i j => dProj (xA m c) (oA m c) (gA m c) (gamA m c) i j) (Fin.ext ?_) (Fin.ext ?_))
  · show i.val = win0_8.index t 0 * 1024 + 1 * i.val; rw [(index_whole t).2.2.1.1]; omega
  · show j.val = win0_8.index t 1 * 1024 + 1 * j.val; rw [(index_whole t).2.2.1.2]; omega

theorem arr9 : (dats m 0 c).arrAt 9 cfg0.N = dgateR m c := by
  refine (dats m 0 c).arrAt_eq_of_covers 9 _ (by decide +kernel) fun t hf y => ?_
  have h7 : t.val % 8 = 7 := (flush0_9 t).mp hf
  blk_simp
  rw [after0_9]
  obtain ⟨z, j, rfl⟩ := idx2 (A := 1) (B := 1024) y
  refine (ada_last m c t h7 z j).trans (congrArg (fun j => dAda (xA m c) (brA m c) j) (Fin.ext ?_))
  show j.val = win0_9.index t 1 * 1024 + 1 * j.val; rw [(index_whole t).2.2.2.2]; omega

end Cert.KernelIdeal.Gate
-- ==== Proof.Gate.Entry.lean ====
/-
  The arrays the gate's backward kernel reads, as functions of the program's arguments: what the host prepared before the call.
-/
module

public import proofs.«01_k».proof.Proof.Gate.Arrays

@[expose] public section

noncomputable section

open Idealize.ShloMosaic Idealize.ShloMosaic.TcCoe Idealize.SL.Sem

namespace Cert.KernelIdeal.Gate

open Cert.KernelIdeal Cert.KernelIdeal.Gen Cert.Step Cert.Step.Gate

variable (m : (ℓ : Loc nD τ sig) → Buf (Elt Ideal) ℓ) (c : Dev nD)

/-- The program's arguments. -/
abbrev a0 : FVec Ideal S4096x1024 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)
abbrev a3 : FVec Ideal S1024x1024 .f32 := m ((c : Thread nD τ).loc main_arg3)
abbrev a4 : FVec Ideal S4x3072 .f32 := m ((c : Thread nD τ).loc main_arg4)

theorem xA_eq (r : Fin 4096) (d : Fin 1024) : xA m c r d = a0 m c (ix2 r d) := by
  unfold xA; rw [V_main_arg0]

theorem oA_eq (r : Fin 4096) (d : Fin 1024) : oA m c r d = a1 m c (ix2 r d) := by
  unfold oA
  simp only [V, hostOps0, hostOps0_1, hostOps0_2, List.flatten_cons, List.flatten_nil, List.append_nil, List.cons_append, List.nil_append]
  after_results_simp
  pointwise

theorem gA_eq (r : Fin 4096) (d : Fin 1024) : gA m c r d = a2 m c (ix2 r d) := by
  unfold gA
  simp only [V, hostOps0, hostOps0_1, hostOps0_2, List.flatten_cons, List.flatten_nil, List.append_nil, List.cons_append, List.nil_append]
  after_results_simp
  pointwise

theorem wA_eq (k d : Fin 1024) : wA m c k d = a3 m c (ix2 k d) := by
  unfold wA
  simp only [V, hostOps0, hostOps0_1, hostOps0_2, List.flatten_cons, List.flatten_nil, List.append_nil, List.cons_append, List.nil_append]
  after_results_simp
  pointwise

theorem gamA_eq (d : Fin 1024) : gamA m c d = a4 m c (ix2 2 ⟨2048 + d.val, by omega⟩) := by
  unfold gamA
  simp only [V, hostOps0, hostOps0_1, hostOps0_2, List.flatten_cons, List.flatten_nil, List.append_nil, List.cons_append, List.nil_append]
  after_results_simp
  pointwise
  after_results_simp
  pointwise
/-- The saved branch is the reference's own: the gated attention output through the projection. -/
theorem brA_eq (r : Fin 4096) (d : Fin 1024) : brA m c r d = branch (fun r k => a1 m c (ix2 r k)) (fun r k => a2 m c (ix2 r k)) (fun k j => a3 m c (ix2 k j)) r d := by
  unfold brA
  simp only [V, hostOps0, hostOps0_1, hostOps0_2, List.flatten_cons, List.flatten_nil, List.append_nil, List.cons_append, List.nil_append]
  simp only [StableHlo.TRef.binary, StableHlo.TRef.nullary, StableHlo.TRef.unary, StableHlo.TRef.toBuf, StableHlo.TRef.ofBuf, cast_eq]
  after_results_simp
  pointwise
  rfl

end Cert.KernelIdeal.Gate
-- ==== Proof.Gate.Reference.lean ====
/-
  The gate's gradient as the reference computes it, read at an index.
-/
module

public import proofs.«01_k».proof.Proof.Gate.Formula
public import proofs.«01_k».proof.Proof.Gen.ReferenceIdeal.Read
public import Idealize.ShloMosaic.Lib.Pointwise

@[expose] public section

noncomputable section

open Idealize.ShloMosaic Idealize.ShloMosaic.TcCoe Idealize.SL.Sem

namespace Cert.ReferenceIdeal.Gate

open Cert.ReferenceIdeal Cert.ReferenceIdeal.Gen Cert.ReferenceIdeal.Read Cert.Step Cert.Step.Gate

variable (x0 x1 x2 : FVec Ideal S4096x1024 .f32) (x3 : FVec Ideal S1024x1024 .f32) (x4 : FVec Ideal S4x3072 .f32)

/-- The arrays as functions of their two coordinates, and the layer's adaLN gate. -/
def mat {A B : ℕ} (x : FVec Ideal ⟨2, ![A, B]⟩ .f32) (r : Fin A) (d : Fin B) : EReal := x (ix2 r d)
def gateOf (x : FVec Ideal S4x3072 .f32) (d : Fin 1024) : EReal := x (ix2 2 ⟨2048 + d.val, by omega⟩)

theorem gate_apply (d : Fin 1024) : (val_main_v4 (F := Ideal) x4) (ix1 d) = gateOf x4 d := by
  pointwise [val_main_v4, val_main_v3, val_main_v2]
  rfl

theorem dbr_apply (r : Fin 4096) (d : Fin 1024) : (val_main_v12 (F := Ideal) x0 x4) (ix2 r d) = mat x0 r d * gateOf x4 d := by
  pointwise [val_main_v12, val_main_v11, val_main_v5]
  rw [gate_apply, mul_comm]
  rfl

theorem du_apply (r : Fin 4096) (d : Fin 1024) : (val_main_v18 (F := Ideal) x0 x3 x4) (ix2 r d) = du (mat x0) (gateOf x4) (mat x3) r d := by
  pointwise [val_main_v18]
  exact Finset.sum_congr rfl fun k _ => by rw [dbr_apply]; rfl

theorem sig_apply (r : Fin 4096) (d : Fin 1024) : (val_main_v6_2 (F := Ideal) x2) (ix2 r d) = Step.logistic (mat x2 r d) := by
  pointwise [val_main_v6_2, val_main_call0_v4, val_main_call0_cst_0, val_main_call0_v3, val_main_call0_v2, val_main_call0_v1, val_main_call0_v0, val_main_call0_cst]
  rfl

theorem silu_apply (r : Fin 4096) (d : Fin 1024) : (val_main_v6_0 (F := Ideal) x2) (ix2 r d) = silu (mat x2 r d) := by
  pointwise [val_main_v6_0]
  rw [sig_apply]
  rfl

theorem do_apply (r : Fin 4096) (d : Fin 1024) : (val_main_v20 (F := Ideal) x0 x2 x3 x4) (ix2 r d) = dOut (mat x0) (mat x2) (gateOf x4) (mat x3) r d := by
  pointwise [val_main_v20]
  rw [du_apply, silu_apply]
  rfl

/-- The gate input's gradient by the product rule. -/
theorem dg_apply (r : Fin 4096) (d : Fin 1024) : (val_main_v35 (F := Ideal) x0 x1 x2 x3 x4) (ix2 r d)
    = mat x1 r d * du (mat x0) (gateOf x4) (mat x3) r d * Step.logistic (mat x2 r d)
      + mat x2 r d * (mat x1 r d * du (mat x0) (gateOf x4) (mat x3) r d) * (Step.logistic (mat x2 r d) * (1 - Step.logistic (mat x2 r d))) := by
  pointwise [val_main_v35, val_main_v21, val_main_call1_v0, val_main_call1_v1, val_main_call1_v2, val_main_v19, val_main_v6_1, val_main_call0_v7, val_main_call0_v6, val_main_call0_cst_1]
  simp only [du_apply, sig_apply]
  rfl

theorem dw_apply (i j : Fin 1024) : (val_main_v36 (F := Ideal) x0 x1 x2 x4) (ix2 i j) = dProj (mat x0) (mat x1) (mat x2) (gateOf x4) i j := by
  pointwise [val_main_v36, val_main_v17, val_main_v16, val_main_v7]
  simp only [dbr_apply, silu_apply]
  exact Finset.sum_congr rfl fun r _ => mul_comm _ _

theorem branch_apply (r : Fin 4096) (j : Fin 1024) : (val_main_v8 (F := Ideal) x1 x2 x3) (ix2 r j) = branch (mat x1) (mat x2) (mat x3) r j := by
  pointwise [val_main_v8, val_main_v7]
  simp only [silu_apply]
  rfl

theorem dgate_apply (z : Fin 1) (j : Fin 1024) : (val_main_v37 (F := Ideal) x0 x1 x2 x3) (ix2 z j) = dAda (mat x0) (branch (mat x1) (mat x2) (mat x3)) j := by
  pointwise [val_main_v37, val_main_v22, val_main_v15, val_main_v14, val_main_v13, val_main_cst, val_main_cst_0]
  simp only [branch_apply]
  exact Fin.sum_univ_one _

/-- The number zero the padding carries, converted from an integer. -/
theorem sitofp_zero : (FloatOps.sitofp (F := Ideal) .f32 (0#32) : EReal) = 0 := by
  show (((0#32).toInt : ℝ) : EReal) = 0
  simp

/-- Block `2·b` of the padded gradient. -/
theorem even_apply (r : Fin 4096) (b : Fin 8) (l : Fin 128) : (val_main_v32 (F := Ideal) x0 x2 x3 x4) (ix4 r b 0 l)
    = if l.val < 64 then dOut (mat x0) (mat x2) (gateOf x4) (mat x3) r ⟨128 * b.val + l.val, by omega⟩ else 0 := by
  pointwise [val_main_v32, val_main_v30, val_main_v26, val_main_v25, val_main_v24, val_main_v23, val_main_call2_v0, val_main_c]
  split
  · rw [do_apply]
    exact congrArg _ (Fin.ext (by dsimp only; omega))
  · exact sitofp_zero

/-- Block `2·b + 1`. -/
theorem odd_apply (r : Fin 4096) (b : Fin 8) (l : Fin 128) : (val_main_v32 (F := Ideal) x0 x2 x3 x4) (ix4 r b 1 l)
    = if l.val < 64 then 0 else dOut (mat x0) (mat x2) (gateOf x4) (mat x3) r ⟨128 * b.val + l.val, by omega⟩ := by
  pointwise [val_main_v32, val_main_v31, val_main_v29, val_main_v28, val_main_v27, val_main_v23, val_main_call3_v0, val_main_c_1]
  by_cases h : l.val < 64
  · rw [dif_neg (by omega), if_pos h]
    exact sitofp_zero
  · rw [dif_pos (by omega), if_neg h, do_apply]
    exact congrArg _ (Fin.ext (by dsimp only; omega))

theorem dos_apply (r : Fin 4096) (q : Fin 2048) : (val_main_v34 (F := Ideal) x0 x2 x3 x4) (ix2 r q)
    = halves (dOut (mat x0) (mat x2) (gateOf x4) (mat x3) r) q := by
  pointwise [val_main_v34, val_main_v33]
  rcases (show q.val / 128 % 2 = 0 ∨ q.val / 128 % 2 = 1 by omega) with h | h
  · rw [show (⟨q.val / 128 % 2, by omega⟩ : Fin 2) = 0 from Fin.ext h, even_apply, halves_even _ q (128 * (q.val / 256)) (q.val % 128) (by omega) (by omega) (by omega)]
  · rw [show (⟨q.val / 128 % 2, by omega⟩ : Fin 2) = 1 from Fin.ext h, odd_apply, halves_odd _ q (128 * (q.val / 256)) (q.val % 128) (by omega) (by omega) (by omega)]

end Cert.ReferenceIdeal.Gate
-- ==== Proof.Gate.Equation.lean ====
/-
  The precondition read at an index, and the equation between the kernel's results and the reference's.
-/
module

public import proofs.«01_k».proof.Defs
public import proofs.«01_k».proof.Proof.Common.Finite
public import proofs.«01_k».proof.Proof.Gate.Entry
public import proofs.«01_k».proof.Proof.Gate.Reference
public import proofs.«01_k».proof.Proof.Gen.Pre_finite

@[expose] public section

noncomputable section

open Idealize.ShloMosaic Idealize.ShloMosaic.TcCoe Idealize.SL.Sem

namespace Cert.Step.Gate

section Pre

variable (x0 x1 x2 : FVec Ideal Cert.Pre_finite.S4096x1024 .f32) (x3 : FVec Ideal Cert.Pre_finite.S1024x1024 .f32)
  (x4 : FVec Ideal Cert.Pre_finite.S4x3072 .f32) (x5 : FVec Ideal Cert.Pre_finite.S4x1024 .f32) (x6 : FVec Ideal Cert.Pre_finite.S2x1024 .f32)

theorem pre0 (h : (Cert.Pre_finite.fn (F := Ideal) x0 x1 x2 x3 x4 x5 x6).1 = fun _ => 1#1) (r : Fin 4096) (d : Fin 1024) : IsReal (x0 (ix2 r d)) := by
  have := congrFun h (ix2 r d)
  pointwise [Cert.Pre_finite.fn] at this
  exact fin_of_lt _ this

theorem pre1 (h : (Cert.Pre_finite.fn (F := Ideal) x0 x1 x2 x3 x4 x5 x6).2.1 = fun _ => 1#1) (r : Fin 4096) (d : Fin 1024) : IsReal (x1 (ix2 r d)) := by
  have := congrFun h (ix2 r d)
  pointwise [Cert.Pre_finite.fn] at this
  exact fin_of_lt _ this

theorem pre2 (h : (Cert.Pre_finite.fn (F := Ideal) x0 x1 x2 x3 x4 x5 x6).2.2.1 = fun _ => 1#1) (k d : Fin 1024) : IsReal (x3 (ix2 k d)) := by
  have := congrFun h (ix2 k d)
  pointwise [Cert.Pre_finite.fn] at this
  exact fin_of_lt _ this

theorem pre3 (h : (Cert.Pre_finite.fn (F := Ideal) x0 x1 x2 x3 x4 x5 x6).2.2.2 = fun _ => 1#1) (d : Fin 1024) : IsReal (x4 (ix2 2 ⟨2048 + d.val, by omega⟩)) := by
  have := congrFun h (ix1 d)
  pointwise [Cert.Pre_finite.fn] at this
  exact fin_of_lt _ this

end Pre

/-- With a finite cotangent, projection, adaLN gate and attention output, the factored derivative of the gate is the
    product rule's, at any gate input. -/
theorem dGate_eq {N D : ℕ} (X O G : Fin N → Fin D → EReal) (γ : Fin D → EReal) (W : Fin D → Fin D → EReal)
    (hX : ∀ r d, IsReal (X r d)) (hO : ∀ r d, IsReal (O r d)) (hγ : ∀ d, IsReal (γ d)) (hW : ∀ k d, IsReal (W k d)) (r : Fin N) (k : Fin D) :
    dGate X O G γ W r k = O r k * du X γ W r k * logistic (G r k) + G r k * (O r k * du X γ W r k) * (logistic (G r k) * (1 - logistic (G r k))) := by
  obtain ⟨a, ha⟩ : IsReal (O r k * du X γ W r k) := (hO r k).mul (IsReal.sum _ fun d => ((hX r d).mul (hγ d)).mul (hW k d))
  unfold dGate
  rw [mul_comm (du X γ W r k), ha, silu_grad, mul_comm (G r k)]

section Final

open Cert.KernelIdeal Cert.KernelIdeal.Gate

variable (m : (ℓ : Loc nD τ sig) → Buf (Elt Ideal) ℓ) (c : Dev nD)

/-- The arrays the kernel reads are the arguments. -/
theorem arrays : xA m c = Cert.ReferenceIdeal.Gate.mat (a0 m c) ∧ oA m c = Cert.ReferenceIdeal.Gate.mat (a1 m c)
    ∧ gA m c = Cert.ReferenceIdeal.Gate.mat (a2 m c) ∧ wA m c = Cert.ReferenceIdeal.Gate.mat (a3 m c)
    ∧ gamA m c = Cert.ReferenceIdeal.Gate.gateOf (a4 m c)
    ∧ brA m c = branch (Cert.ReferenceIdeal.Gate.mat (a1 m c)) (Cert.ReferenceIdeal.Gate.mat (a2 m c)) (Cert.ReferenceIdeal.Gate.mat (a3 m c)) :=
  ⟨funext₂ (xA_eq m c), funext₂ (oA_eq m c), funext₂ (gA_eq m c), funext₂ (wA_eq m c), funext (gamA_eq m c), funext₂ (brA_eq m c)⟩

open Cert.ReferenceIdeal.Read Cert.ReferenceIdeal.Gate

theorem dos_eq : dosR m c = val_main_v34 (F := Ideal) (a0 m c) (a2 m c) (a3 m c) (a4 m c) := by
  obtain ⟨hx, ho, hg, hw, hγ, hb⟩ := arrays m c
  funext i
  obtain ⟨r, q, rfl⟩ := idx2 (A := 4096) (B := 2048) i
  refine Eq.trans ?_ (dos_apply _ _ _ _ r q).symm
  show halves (dOut (xA m c) (gA m c) (gamA m c) (wA m c) r) q = _
  rw [hx, hg, hγ, hw]

theorem dw_eq : dwR m c = val_main_v36 (F := Ideal) (a0 m c) (a1 m c) (a2 m c) (a4 m c) := by
  obtain ⟨hx, ho, hg, hw, hγ, hb⟩ := arrays m c
  funext i
  obtain ⟨i, j, rfl⟩ := idx2 (A := 1024) (B := 1024) i
  refine Eq.trans ?_ (dw_apply _ _ _ _ i j).symm
  show dProj (xA m c) (oA m c) (gA m c) (gamA m c) i j = _
  rw [hx, hg, hγ, ho]

theorem dgate_eq : dgateR m c = val_main_v37 (F := Ideal) (a0 m c) (a1 m c) (a2 m c) (a3 m c) := by
  obtain ⟨hx, ho, hg, hw, hγ, hb⟩ := arrays m c
  funext i
  obtain ⟨z, j, rfl⟩ := idx2 (A := 1) (B := 1024) i
  refine Eq.trans ?_ (dgate_apply _ _ _ _ z j).symm
  show dAda (xA m c) (brA m c) j = _
  rw [hx, hb]

theorem dg_eq (hpre : Cert.Pre_KernelIdeal_finite m) : dgR m c = val_main_v35 (F := Ideal) (a0 m c) (a1 m c) (a2 m c) (a3 m c) (a4 m c) := by
  obtain ⟨hx, ho, hg, hw, hγ, hb⟩ := arrays m c
  obtain ⟨p0, p1, p2, p3⟩ := hpre c
  funext i
  obtain ⟨r, k, rfl⟩ := idx2 (A := 4096) (B := 1024) i
  refine Eq.trans ?_ (dg_apply _ _ _ _ _ r k).symm
  show dGate (xA m c) (oA m c) (gA m c) (gamA m c) (wA m c) r k = _
  rw [hx, ho, hg, hγ, hw]
  exact dGate_eq _ _ _ _ _ (pre0 _ _ _ _ _ _ _ p0) (pre1 _ _ _ _ _ _ _ p1) (pre3 _ _ _ _ _ _ _ p3) (pre2 _ _ _ _ _ _ _ p2) r k

end Final

end Cert.Step.Gate
-- ==== Proof.Band.Column.lean ====
/-
  One query of a banded attention with a sink, and its gradient, over the real numbers: `x` are the scores of the keys, `ok`
  says which keys the query sees, `σ` is the sink's score, `y` the products of the output's cotangent with the values. Both
  programs subtract a maximum before they exponentiate; the results do not depend on the number that is subtracted, which
  need only be real.
-/
module

public import Idealize.ShloMosaic.Lib.Pointwise
public import proofs.«01_k».proof.Proof.Common.Finite

@[expose] public section

noncomputable section

namespace Cert.Band

open Idealize.ShloMosaic

variable {ι : Type} [Fintype ι] (ok : ι → Prop) [DecidablePred ok] (x : ι → ℝ) (σ : ℝ) (y : ι → ℝ)

/-- The unnormalised weight of a key. -/
def weight (s : ι) : ℝ := if ok s then Real.exp (x s) else 0
/-- The sum of the weights, the sink's included. -/
def total : ℝ := ∑ s, weight ok x s + Real.exp σ
/-- The probability of a key. -/
def prob (s : ι) : ℝ := weight ok x s / total ok x σ
/-- The mean of `y` under the probabilities. -/
def mean : ℝ := ∑ s, prob ok x σ s * y s
/-- The gradient at a score. -/
def dscore (s : ι) : ℝ := prob ok x σ s * y s - prob ok x σ s * mean ok x σ y
/-- Minus the gradient at the sink's score. -/
def dsinkScore : ℝ := Real.exp σ / total ok x σ * mean ok x σ y
/-- A score as the programs hold it: −∞ where the key is not seen. -/
def masked (s : ι) : EReal := if ok s then (x s : EReal) else ⊥

theorem weight_nonneg (s : ι) : 0 ≤ weight ok x s := by
  unfold weight; split
  · exact (Real.exp_pos _).le
  · exact le_rfl

theorem total_pos : 0 < total ok x σ :=
  add_pos_of_nonneg_of_pos (Finset.sum_nonneg fun s _ => weight_nonneg ok x s) (Real.exp_pos σ)

theorem prob_masked (s : ι) (h : ¬ok s) : prob ok x σ s = 0 := by
  unfold prob weight; rw [if_neg h, zero_div]

theorem dscore_masked (s : ι) (h : ¬ok s) : dscore ok x σ y s = 0 := by
  unfold dscore; rw [prob_masked ok x σ s h]; ring

section congr
variable {ok x σ y} {ok' : ι → Prop} [DecidablePred ok'] {x' y' : ι → ℝ} (ho : ∀ s, ok s ↔ ok' s) (hx : ∀ s, ok s → x s = x' s)
include ho hx

/-! The results depend on the keys the query sees alone. -/

theorem weight_congr (s : ι) : weight ok x s = weight ok' x' s := by
  unfold weight
  by_cases h : ok s
  · rw [if_pos h, if_pos ((ho s).mp h), hx s h]
  · rw [if_neg h, if_neg fun h' => h ((ho s).mpr h')]

theorem total_congr : total ok x σ = total ok' x' σ := by
  unfold total; rw [Finset.sum_congr rfl fun s _ => weight_congr ho hx s]

theorem prob_congr (s : ι) : prob ok x σ s = prob ok' x' σ s := by
  unfold prob; rw [weight_congr ho hx s, total_congr ho hx]

variable (hy : ∀ s, ok s → y s = y' s)
include hy

theorem prob_mul_congr (s : ι) : prob ok x σ s * y s = prob ok' x' σ s * y' s := by
  rw [← prob_congr ho hx s]
  by_cases h : ok s
  · rw [hy s h]
  · rw [prob_masked ok x σ s h, zero_mul, zero_mul]

theorem mean_congr : mean ok x σ y = mean ok' x' σ y' := Finset.sum_congr rfl fun s _ => prob_mul_congr ho hx hy s

theorem dscore_congr (s : ι) : dscore ok x σ y s = dscore ok' x' σ y' s := by
  unfold dscore; rw [prob_mul_congr ho hx hy s, prob_congr ho hx s, mean_congr ho hx hy]

theorem dsinkScore_congr : dsinkScore ok x σ y = dsinkScore ok' x' σ y' := by
  unfold dsinkScore; rw [total_congr ho hx, mean_congr ho hx hy]

end congr

/-- The maximum of the scores and the sink's score is real. -/
theorem max_real : ∃ M : ℝ, max (Finset.fold max (⊥ : EReal) (fun s => masked ok x s) Finset.univ) (σ : EReal) = (M : EReal) := by
  have hlt : max (Finset.fold max (⊥ : EReal) (fun s => masked ok x s) Finset.univ) (σ : EReal) < ⊤ := by
    refine max_lt ?_ (EReal.coe_lt_top σ)
    rw [Finset.fold_max_lt]
    refine ⟨bot_lt_top, fun s _ => ?_⟩
    unfold masked; split
    · exact EReal.coe_lt_top _
    · exact bot_lt_top
  have hgt : ⊥ < max (Finset.fold max (⊥ : EReal) (fun s => masked ok x s) Finset.univ) (σ : EReal) :=
    lt_of_lt_of_le (EReal.bot_lt_coe σ) (le_max_right _ _)
  exact ⟨_, (EReal.coe_toReal hlt.ne hgt.ne').symm⟩

theorem exp_masked (M : ℝ) (s : ι) : Ideal.exp (masked ok x s - (M : EReal)) = ((weight ok x s * Real.exp (-M) : ℝ) : EReal) := by
  unfold masked weight
  split
  · rw [← EReal.coe_sub, ← Real.exp_add, ← sub_eq_add_neg]; rfl
  · rw [EReal.bot_sub, zero_mul]; rfl

theorem exp_sink (M : ℝ) : Ideal.exp ((σ : EReal) - (M : EReal)) = ((Real.exp σ * Real.exp (-M) : ℝ) : EReal) := by
  rw [← EReal.coe_sub, ← Real.exp_add, ← sub_eq_add_neg]; rfl

theorem coe_sum (f : ι → ℝ) : (∑ s, (f s : EReal)) = ((∑ s, f s : ℝ) : EReal) := by
  classical
  have h : ∀ A : Finset ι, (∑ s ∈ A, (f s : EReal)) = ((∑ s ∈ A, f s : ℝ) : EReal) := fun A => by
    induction A using Finset.induction_on with
    | empty => simp
    | insert a A ha ih => rw [Finset.sum_insert ha, Finset.sum_insert ha, ih, EReal.coe_add]
  exact h _

/-- The denominator both programs divide by. -/
theorem denominator (M : ℝ) : (∑ s, ((weight ok x s * Real.exp (-M) : ℝ) : EReal)) + ((Real.exp σ * Real.exp (-M) : ℝ) : EReal)
    = ((total ok x σ * Real.exp (-M) : ℝ) : EReal) := by
  rw [coe_sum, ← EReal.coe_add]; unfold total; rw [add_mul, Finset.sum_mul]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem shifted_ne (M : ℝ) : total ok x σ * Real.exp (-M) ≠ 0 := mul_ne_zero (total_pos ok x σ).ne' (Real.exp_pos _).ne'

/-- A weight over the denominator is the probability. -/
theorem shifted_div (M w : ℝ) : w * Real.exp (-M) / (total ok x σ * Real.exp (-M)) = w / total ok x σ :=
  mul_div_mul_right _ _ (Real.exp_pos _).ne'

theorem shifted_mul_inv (M w : ℝ) : w * Real.exp (-M) * (1 / (total ok x σ * Real.exp (-M))) = w / total ok x σ := by
  rw [mul_one_div, shifted_div]

/-! The reference's gradient, which divides by the denominator and by its square. -/

theorem sum_prob : ∑ s, prob ok x σ s = 1 - Real.exp σ / total ok x σ := by
  have h := total_pos ok x σ
  unfold prob
  rw [← Finset.sum_div, eq_sub_iff_add_eq, ← add_div]
  exact div_self h.ne'

theorem square_sum (M : ℝ) : ∑ s, y s * (1 / ((total ok x σ * Real.exp (-M)) * (total ok x σ * Real.exp (-M)))) * (weight ok x s * Real.exp (-M))
    = mean ok x σ y / (total ok x σ * Real.exp (-M)) := by
  unfold mean prob
  rw [Finset.sum_div]
  refine Finset.sum_congr rfl fun s _ => ?_
  have h1 := (total_pos ok x σ).ne'
  have h2 := (Real.exp_pos (-M)).ne'
  field_simp

theorem dscore_div (M : ℝ) (s : ι) : (y s / (total ok x σ * Real.exp (-M)) + -(mean ok x σ y / (total ok x σ * Real.exp (-M)))) * (weight ok x s * Real.exp (-M))
    = dscore ok x σ y s := by
  unfold dscore prob
  have h1 := (total_pos ok x σ).ne'
  have h2 := (Real.exp_pos (-M)).ne'
  field_simp
  ring

theorem dsink_div (M : ℝ) : -(mean ok x σ y / (total ok x σ * Real.exp (-M))) * (Real.exp σ * Real.exp (-M)) = -dsinkScore ok x σ y := by
  unfold dsinkScore
  have h1 := (total_pos ok x σ).ne'
  have h2 := (Real.exp_pos (-M)).ne'
  field_simp

/-- What reaches the subtracted maximum is zero. -/
theorem max_gradient : dsinkScore ok x σ y + ∑ s, -dscore ok x σ y s = 0 := by
  have h : ∑ s, dscore ok x σ y s = mean ok x σ y - (1 - Real.exp σ / total ok x σ) * mean ok x σ y := by
    unfold dscore
    rw [Finset.sum_sub_distrib, ← Finset.sum_mul, sum_prob]; rfl
  rw [Finset.sum_neg_distrib, h]; unfold dsinkScore; ring

end Cert.Band

end
-- ==== Proof.Band.Formula.lean ====
/-
  The gradient of the banded attention with sinks, over the real numbers: 32 blocks of 128 queries, each against the keys of
  its own block and of the block before.
-/
module

public import proofs.«01_k».proof.Proof.Band.Column

@[expose] public section

noncomputable section

namespace Cert.Band

/-- The query in row `r` of its block sees key `s`: a key up to itself and no more than 127 back; `first` says that there is
no block before, and then the key is one of its own block. -/
def Seen (first : Prop) (r s : ℕ) : Prop := s ≤ 128 + r ∧ r < s ∧ (¬first ∨ 128 ≤ s)

instance (first : Prop) [Decidable first] (r s : ℕ) : Decidable (Seen first r s) := by unfold Seen; infer_instance

/-- The queries, keys, values, sinks and the output's cotangent. -/
structure Data where
  q : Fin 4096 → Fin 16 → Fin 64 → ℝ
  k : Fin 4096 → Fin 4 → Fin 64 → ℝ
  v : Fin 4096 → Fin 4 → Fin 64 → ℝ
  s : Fin 16 → ℝ
  d : Fin 4096 → Fin 16 → Fin 64 → ℝ

/-- The head of keys and values that a query head uses. -/
def kvOf (h : Fin 16) : Fin 4 := ⟨h.val / 4, by omega⟩
/-- Query head `i` of the four that use head `j`. -/
def headOf (j i : Fin 4) : Fin 16 := ⟨4 * j.val + i.val, by omega⟩
/-- Row `r` of block `b`. -/
def rowAt (b : Fin 32) (r : Fin 128) : Fin 4096 := ⟨128 * b.val + r.val, by omega⟩
/-- Key `s` of the band of block `b`; before the first block there is zero. -/
def band (a : Fin 4096 → Fin 4 → Fin 64 → ℝ) (b : Fin 32) (s : Fin 256) (j : Fin 4) (l : Fin 64) : ℝ :=
  if h : 128 ≤ 128 * b.val + s.val then a ⟨128 * b.val + s.val - 128, by omega⟩ j l else 0
/-- What a band collects, block by block: a row of keys has its own block's part and the next block's. -/
def folded (f : Fin 32 → Fin 256 → ℝ) (b : Fin 32) (r : Fin 128) : ℝ :=
  f b ⟨128 + r.val, by omega⟩ + if h : b.val + 1 < 32 then f ⟨b.val + 1, h⟩ ⟨r.val, by omega⟩ else 0

namespace Data
variable (D : Data)

abbrev ok (b : Fin 32) (r : Fin 128) (s : Fin 256) : Prop := Seen (b.val = 0) r.val s.val
def score (b : Fin 32) (h : Fin 16) (r : Fin 128) (s : Fin 256) : ℝ := (∑ l, D.q (rowAt b r) h l * band D.k b s (kvOf h) l) * (1 / 8)
def dprob (b : Fin 32) (h : Fin 16) (r : Fin 128) (s : Fin 256) : ℝ := ∑ l, D.d (rowAt b r) h l * band D.v b s (kvOf h) l
/-- The probabilities. -/
def P (b : Fin 32) (h : Fin 16) (r : Fin 128) (s : Fin 256) : ℝ := prob (ok b r) (D.score b h r) (D.s h) s
/-- The gradients at the scores. -/
def G (b : Fin 32) (h : Fin 16) (r : Fin 128) (s : Fin 256) : ℝ := dscore (ok b r) (D.score b h r) (D.s h) (D.dprob b h r) s
/-- Minus the gradients at the sink's scores. -/
def GS (b : Fin 32) (h : Fin 16) (r : Fin 128) : ℝ := dsinkScore (ok b r) (D.score b h r) (D.s h) (D.dprob b h r)
/-- The gradient at the scaled queries. -/
def dQ (b : Fin 32) (r : Fin 128) (h : Fin 16) (l : Fin 64) : ℝ := ∑ s, D.G b h r s * band D.k b s (kvOf h) l
/-- The gradients at a block's band of keys and of values. -/
def bandK (j : Fin 4) (l : Fin 64) (b : Fin 32) (s : Fin 256) : ℝ := ∑ i, ∑ r, D.G b (headOf j i) r s * (D.q (rowAt b r) (headOf j i) l * (1 / 8))
def bandV (j : Fin 4) (l : Fin 64) (b : Fin 32) (s : Fin 256) : ℝ := ∑ i, ∑ r, D.P b (headOf j i) r s * D.d (rowAt b r) (headOf j i) l
/-- The gradients at the keys, at the values and at the sinks. -/
def dK (b : Fin 32) (r : Fin 128) (j : Fin 4) (l : Fin 64) : ℝ := folded (D.bandK j l) b r
def dV (b : Fin 32) (r : Fin 128) (j : Fin 4) (l : Fin 64) : ℝ := folded (D.bandV j l) b r
def dS (h : Fin 16) : ℝ := -∑ b, ∑ r, D.GS b h r

end Data

end Cert.Band

end
-- ==== Proof.Band.RefForward.lean ====
/-
  The attention gradient as the reference computes it: the scores, the mask and the probabilities, read at an index.
-/
module

public import proofs.«01_k».proof.Proof.Band.Formula
public import proofs.«01_k».proof.Proof.Gen.Reference2Ideal.Read
public import Idealize.ShloMosaic.Lib.Pointwise
public import Idealize.ShloMosaic.Lib.WordCmp

@[expose] public section

noncomputable section

open Idealize.ShloMosaic Idealize.ShloMosaic.TcCoe Idealize.ShloMosaic.WordCmp Idealize.SL.Sem

namespace Cert.Band.Ref

open Cert.Reference2Ideal Cert.Reference2Ideal.Gen Cert.Reference2Ideal.Read

/-- The arguments hold these numbers. -/
structure Of (D : Data) (x0 : FVec Ideal S4096x16x64 .f32) (x1 x2 : FVec Ideal S4096x4x64 .f32) (x3 : FVec Ideal S2x16 .f32) (x4 : FVec Ideal S4096x16x64 .f32) : Prop where
  q : ∀ r h l, x0 (ix3 r h l) = (D.q r h l : EReal)
  k : ∀ r j l, x1 (ix3 r j l) = (D.k r j l : EReal)
  v : ∀ r j l, x2 (ix3 r j l) = (D.v r j l : EReal)
  s : ∀ h, x3 (ix2 1 h) = (D.s h : EReal)
  d : ∀ r h l, x4 (ix3 r h l) = (D.d r h l : EReal)

theorem row_val (b : Fin 32) (r : Fin 128) (p : b.val * 128 + r.val < 4096) : (⟨b.val * 128 + r.val, p⟩ : Fin 4096) = rowAt b r := Fin.ext (by show b.val * 128 + r.val = 128 * b.val + r.val; omega)
theorem head_val (j i : Fin 4) (p : j.val * 4 + i.val < 16) : (⟨j.val * 4 + i.val, p⟩ : Fin 16) = headOf j i := Fin.ext (by show j.val * 4 + i.val = 4 * j.val + i.val; omega)
theorem kv_head (j i : Fin 4) : kvOf (headOf j i) = j := Fin.ext (by show (4 * j.val + i.val) / 4 = j.val; omega)

/-- A band's row out of the rows with a block of zeros before them. -/
theorem band_pick (a : Fin 4096 → Fin 4 → Fin 64 → ℝ) (b : Fin 32) (s : Fin 256) (j : Fin 4) (l : Fin 64) (u : Fin 4224 → EReal)
    (hu : ∀ n : Fin 4224, u n = if h : n.val < 128 then 0 else (a ⟨n.val - 128, by omega⟩ j l : EReal)) (p : s.val < 128 → b.val * 128 + s.val < 4224)
    (p' : ¬s.val < 128 → (1 + b.val) * 128 + (s.val - 128) < 4224) :
    (if h : s.val < 128 then u ⟨b.val * 128 + s.val, p h⟩ else u ⟨(1 + b.val) * 128 + (s.val - 128), p' h⟩) = (band a b s j l : EReal) := by
  have e : (if h : s.val < 128 then u ⟨b.val * 128 + s.val, p h⟩ else u ⟨(1 + b.val) * 128 + (s.val - 128), p' h⟩) = u ⟨128 * b.val + s.val, by omega⟩ := by
    split_ifs
    · exact congrArg u (Fin.ext (by show b.val * 128 + s.val = 128 * b.val + s.val; omega))
    · exact congrArg u (Fin.ext (by show (1 + b.val) * 128 + (s.val - 128) = 128 * b.val + s.val; omega))
  rw [e, hu]
  unfold band
  by_cases h : 128 ≤ 128 * b.val + s.val
  · rw [dif_neg (by show ¬(128 * b.val + s.val < 128); omega), dif_pos h]
  · rw [dif_pos (by show 128 * b.val + s.val < 128; omega), dif_neg h]; rfl

/-- The reference's mask. -/
theorem mask_bit (b : Fin 32) (r : Fin 128) (s : Fin 256) :
    IntOp.andi
      (IntOp.andi
        (IntOp.cmpi .sge (IntOp.subi (IntOp.addi (BitVec.ofNat 32 r.val) 128#32) (BitVec.ofNat 32 s.val)) 0#32)
        (IntOp.cmpi .slt (IntOp.subi (IntOp.addi (BitVec.ofNat 32 r.val) 128#32) (BitVec.ofNat 32 s.val)) 128#32))
      (IntOp.cmpi .sge (IntOp.subi (IntOp.addi (IntOp.muli (BitVec.ofNat 32 b.val) 128#32) (BitVec.ofNat 32 s.val)) 128#32) 0#32)
    = if Seen (b.val = 0) r.val s.val then 1#1 else 0#1 := by
  have hb := b.isLt
  have hr := r.isLt
  have hs := s.isLt
  have w1 : (BitVec.ofNat 32 r.val).toInt = r.val := toInt_ofNat_of_lt (by omega)
  have w2 : (BitVec.ofNat 32 s.val).toInt = s.val := toInt_ofNat_of_lt (by omega)
  have w3 : (BitVec.ofNat 32 (b.val * 128)).toInt = ((b.val * 128 : ℕ) : ℤ) := toInt_ofNat_of_lt (by omega)
  have w4 : (128#32).toInt = 128 := by decide
  have h1 : (IntOp.subi (IntOp.addi (BitVec.ofNat 32 r.val) 128#32) (BitVec.ofNat 32 s.val)).toInt = (r.val : ℤ) + 128 - s.val := by
    show ((BitVec.ofNat 32 r.val + 128#32) - BitVec.ofNat 32 s.val).toInt = _
    rw [BitVec.toInt_sub, BitVec.toInt_add, w1, w2, w4]
    rw [Int.bmod_eq_of_le (n := (r.val : ℤ) + 128) (by omega) (by omega), Int.bmod_eq_of_le (by omega) (by omega)]
  have hm : BitVec.ofNat 32 b.val * 128#32 = BitVec.ofNat 32 (b.val * 128) := by
    show BitVec.ofNat 32 b.val * BitVec.ofNat 32 128 = _
    rw [← BitVec.ofNat_mul]
  have h2 : (IntOp.subi (IntOp.addi (IntOp.muli (BitVec.ofNat 32 b.val) 128#32) (BitVec.ofNat 32 s.val)) 128#32).toInt = (b.val : ℤ) * 128 + s.val - 128 := by
    show ((BitVec.ofNat 32 b.val * 128#32 + BitVec.ofNat 32 s.val) - 128#32).toInt = _
    rw [hm, BitVec.toInt_sub, BitVec.toInt_add, w2, w3, w4]
    rw [Int.bmod_eq_of_le (n := ((b.val * 128 : ℕ) : ℤ) + s.val) (by omega) (by omega), Int.bmod_eq_of_le (by omega) (by omega)]
    omega
  rw [cmpi_sge_eq, cmpi_slt_eq, cmpi_sge_eq, h1, h2, andi_ofBool, andi_ofBool, show (0#32).toInt = 0 by decide, show (128#32).toInt = 128 by decide]
  have hc : (decide ((0 : ℤ) ≤ (r.val : ℤ) + 128 - s.val) && decide ((r.val : ℤ) + 128 - s.val < (128 : ℤ)) && decide ((0 : ℤ) ≤ (b.val : ℤ) * 128 + s.val - 128))
      = decide (Seen (b.val = 0) r.val s.val) := by
    rw [Bool.eq_iff_iff, decide_eq_true_eq]
    simp only [Bool.and_eq_true, decide_eq_true_eq]
    unfold Seen
    omega
  rw [hc]
  by_cases h : Seen (b.val = 0) r.val s.val
  · rw [if_pos h, decide_eq_true h]; rfl
  · rw [if_neg h, decide_eq_false h]; rfl

theorem eighth : Ideal.ofBits .f32 0x3E000000#32 = ((1 / 8 : ℝ) : EReal) := by
  simp [Ideal.ofBits, Ideal.ieee, -EReal.coe_mul]; norm_num

theorem lowest : Ideal.ofBits .f32 0xFF800000#32 = ⊥ := by
  simp [Ideal.ofBits, Ideal.ieee]

section
variable {x0 : FVec Ideal S4096x16x64 .f32} {x1 x2 : FVec Ideal S4096x4x64 .f32} {x3 : FVec Ideal S2x16 .f32} {x4 : FVec Ideal S4096x16x64 .f32} {D : Data}
  (hD : Of D x0 x1 x2 x3 x4) (b : Fin 32) (j i : Fin 4) (r : Fin 128)

theorem mask_apply (s : Fin 256) : (val_main_v52_1 (F := Ideal)) (ix5 b j i r s) = if Data.ok b r s then 1#1 else 0#1 := by
  pointwise [val_main_v52_1, val_main_v51, val_main_v50, val_main_v49, val_main_v48, val_main_v47, val_main_v46, val_main_c_8, val_main_v45, val_main_v44, val_main_v43, val_main_c_7,
    val_main_v42, val_main_v41, val_main_v40, val_main_v39, val_main_v38, val_main_v37, val_main_c_6, val_main_v36, val_main_v35, val_main_v34, val_main_v33, val_main_v32, val_main_c_5,
    val_main_v31, val_main_v30, val_main_c_4, val_main_v29, val_main_v28, val_main_v27, val_main_v26, val_main_v25, val_main_v24, val_main_v23, val_main_c, val_main_v22, val_main_v21]
  exact mask_bit b r s

include hD

theorem q_apply (l : Fin 64) : (val_main_v2 (F := Ideal) x0) (ix5 b r j i l) = (D.q (rowAt b r) (headOf j i) l : EReal) := by
  pointwise [val_main_v2]
  rw [row_val, head_val]
  exact hD.q _ _ _

theorem keys_apply (s : Fin 256) (l : Fin 64) : (val_main_v9 (F := Ideal) x1) (ix4 b s j l) = (band D.k b s j l : EReal) := by
  have h6 : ∀ (b : Fin 33) (s : Fin 128), (val_main_v6 (F := Ideal) x1) (ix4 b s j l) = (val_main_v4 (F := Ideal) x1) (ix3 ⟨b.val * 128 + s.val, by omega⟩ j l) := fun b s => by
    pointwise [val_main_v6]
  have h4 : ∀ n : Fin 4224, (val_main_v4 (F := Ideal) x1) (ix3 n j l) = if h : n.val < 128 then 0 else (D.k ⟨n.val - 128, by omega⟩ j l : EReal) := fun n => by
    pointwise [val_main_v4, val_main_v3, val_main_cst]
    simp only [hD.k]
  pointwise [val_main_v9, val_main_v7, val_main_v8]
  simp only [h6]
  exact band_pick D.k b s j l (fun n => (val_main_v4 (F := Ideal) x1) (ix3 n j l)) h4 _ _

theorem values_apply (s : Fin 256) (l : Fin 64) : (val_main_v16 (F := Ideal) x2) (ix4 b s j l) = (band D.v b s j l : EReal) := by
  have h6 : ∀ (b : Fin 33) (s : Fin 128), (val_main_v13 (F := Ideal) x2) (ix4 b s j l) = (val_main_v11 (F := Ideal) x2) (ix3 ⟨b.val * 128 + s.val, by omega⟩ j l) := fun b s => by
    pointwise [val_main_v13]
  have h4 : ∀ n : Fin 4224, (val_main_v11 (F := Ideal) x2) (ix3 n j l) = if h : n.val < 128 then 0 else (D.v ⟨n.val - 128, by omega⟩ j l : EReal) := fun n => by
    pointwise [val_main_v11, val_main_v10, val_main_cst_1]
    simp only [hD.v]
  pointwise [val_main_v16, val_main_v14, val_main_v15]
  simp only [h6]
  exact band_pick D.v b s j l (fun n => (val_main_v11 (F := Ideal) x2) (ix3 n j l)) h4 _ _

theorem score_apply (s : Fin 256) : (val_main_v20 (F := Ideal) x0 x1) (ix5 b j i r s) = (D.score b (headOf j i) r s : EReal) := by
  pointwise [val_main_v20, val_main_v19, val_main_v18, val_main_v17, val_main_cst_3]
  simp only [keys_apply hD, q_apply hD, eighth, ← EReal.coe_mul, coe_sum]
  unfold Data.score
  rw [kv_head]
  exact congrArg Real.toEReal (congrArg (· * (1 / 8)) (Finset.sum_congr rfl fun l _ => mul_comm _ _))

theorem sink_apply : (val_main_v54 (F := Ideal) x3) (ix5 0 j i 0 0) = (D.s (headOf j i) : EReal) := by
  pointwise [val_main_v54, val_main_v53, val_main_v1, val_main_v0]
  rw [head_val]
  exact hD.s _

theorem masked_apply (s : Fin 256) : (val_main_v52_0 (F := Ideal) x0 x1) (ix5 b j i r s) = masked (Data.ok b r) (D.score b (headOf j i) r) s := by
  pointwise [val_main_v52_0, val_main_call0_v2, val_main_call0_v0, val_main_cst_9]
  rw [mask_apply, score_apply hD]
  unfold masked
  split_ifs <;> rfl

theorem top_apply : (val_main_v55 (F := Ideal) x0 x1) (ix4 b j i r) = Finset.fold max (⊥ : EReal) (fun s => masked (Data.ok b r) (D.score b (headOf j i) r) s) Finset.univ := by
  pointwise [val_main_v55, val_main_cst_10]
  simp only [masked_apply hD]
  rw [lowest]

omit hD in
theorem shift_max : (val_main_v63 (F := Ideal) x0 x1 x3) (ix5 b j i r 0)
    = max ((val_main_v55 (F := Ideal) x0 x1) (ix4 b j i r)) ((val_main_v54 (F := Ideal) x3) (ix5 0 j i 0 0)) := by
  have e1 : idx_main_v61 (ix5 b j i r 0) = ix4 b j i r := funext fun a => by fin_cases a <;> rfl
  have e2 : idx_main_v62 (ix5 b j i r 0) = ix5 0 j i 0 0 := funext fun a => by fin_cases a <;> rfl
  rw [val_main_v63_apply, val_main_v61_apply, val_main_v62_apply, e1, e2]
  generalize val_main_v55 (F := Ideal) x0 x1 (ix4 b j i r) = u
  generalize val_main_v54 (F := Ideal) x3 _ = w
  rfl

/-- The shift: the largest score, a real number. -/
theorem shift_apply : ∃ M : ℝ, (val_main_v63 (F := Ideal) x0 x1 x3) (ix5 b j i r 0) = (M : EReal) := by
  rw [shift_max, top_apply hD, sink_apply hD]
  exact max_real _ _ _

variable {b j i r} {M : ℝ} (hM : (val_main_v63 (F := Ideal) x0 x1 x3) (ix5 b j i r 0) = (M : EReal))
include hM

theorem weight_apply (s : Fin 256) : (val_main_v84 (F := Ideal) x0 x1 x3) (ix5 b j i r s)
    = ((weight (Data.ok b r) (D.score b (headOf j i) r) s * Real.exp (-M) : ℝ) : EReal) := by
  pointwise [val_main_v84, val_main_v83, val_main_v82]
  rw [hM, masked_apply hD]
  exact exp_masked _ _ M s

theorem sinkWeight_apply : (val_main_v89 (F := Ideal) x0 x1 x3) (ix5 b j i r 0) = ((Real.exp (D.s (headOf j i)) * Real.exp (-M) : ℝ) : EReal) := by
  pointwise [val_main_v89, val_main_v88, val_main_v87]
  rw [hM, sink_apply hD]
  exact exp_sink _ M

theorem total_apply : (val_main_v90 (F := Ideal) x0 x1 x3) (ix5 b j i r 0)
    = ((total (Data.ok b r) (D.score b (headOf j i) r) (D.s (headOf j i)) * Real.exp (-M) : ℝ) : EReal) := by
  pointwise [val_main_v90, val_main_v86, val_main_v85, val_main_cst_18]
  simp only [weight_apply hD hM, sinkWeight_apply hD hM]
  exact denominator _ _ _ M

theorem prob_apply (s : Fin 256) : (val_main_v92 (F := Ideal) x0 x1 x3) (ix5 b j i r s) = (D.P b (headOf j i) r s : EReal) := by
  pointwise [val_main_v92, val_main_v91]
  rw [weight_apply hD hM, total_apply hD hM, div_real _ _ (shifted_ne _ _ _ M), shifted_div]
  rfl

end

end Cert.Band.Ref

end
-- ==== Proof.Band.RefSteps.lean ====
/-
  The reference's gradient, operation by operation: each array read at an index of the one before.
-/
module

public import proofs.«01_k».proof.Proof.Band.RefForward

@[expose] public section

noncomputable section

open Idealize.ShloMosaic Idealize.ShloMosaic.TcCoe Idealize.SL.Sem

namespace Cert.Band.Ref

open Cert.Reference2Ideal Cert.Reference2Ideal.Gen Cert.Reference2Ideal.Read

theorem idx5 {A B C D E : Nat} (y : (⟨5, ![A, B, C, D, E]⟩ : Shape).Idx) : ∃ a b c d e, y = ix5 a b c d e :=
  ⟨y 0, y 1, y 2, y 3, y 4, funext fun a => by fin_cases a <;> rfl⟩

/-- A sum over the first and the fourth axis. -/
theorem sum_two (u : FVec Ideal S32x4x4x128x1 .f32) (j i : Fin 4) :
    Ideal.hostReduceAdd reducesTo_S32x4x4x128x1_S4x4x1_d0_3 u 0 (ix3 j i 0) = ∑ b, ∑ r, u (ix5 b j i r 0) := by
  have hd : ∀ (b : Fin 32) (j i : Fin 4) (r : Fin 128) (z : Fin 1),
      reducesTo_S32x4x4x128x1_S4x4x1_d0_3.drop (ix5 b j i r z) = ix3 j i z := fun b j i r z => funext fun a => by fin_cases a <;> rfl
  unfold Ideal.hostReduceAdd
  rw [zero_add, ← Fintype.sum_prod_type']
  refine (Finset.sum_bij (fun p _ => ix5 p.1 j i p.2 0) (fun p _ => ?_) (fun p _ p' _ h => ?_) (fun y h => ?_) (fun _ _ => rfl)).symm
  · exact Finset.mem_filter.mpr ⟨Finset.mem_univ _, hd _ _ _ _ _⟩
  · exact Prod.ext (congrFun h 0) (congrFun h 3)
  · obtain ⟨b, j', i', r, z, rfl⟩ := idx5 y
    have h := (Finset.mem_filter.mp h).2
    rw [hd] at h
    obtain rfl : j' = j := congrFun h 0
    obtain rfl : i' = i := congrFun h 1
    obtain rfl : z = 0 := Subsingleton.elim _ _
    exact ⟨(b, r), Finset.mem_univ _, rfl⟩

/-- A sum over axes of length one. -/
theorem sum_unit (u : FVec Ideal S1x4x4x1x1 .f32) (j i : Fin 4) :
    Ideal.hostReduceAdd reducesTo_S1x4x4x1x1_S4x4_d0_3_4 u 0 (ix2 j i) = u (ix5 0 j i 0 0) := by
  have hd : ∀ (b : Fin 1) (j i : Fin 4) (r z : Fin 1),
      reducesTo_S1x4x4x1x1_S4x4_d0_3_4.drop (ix5 b j i r z) = ix2 j i := fun b j i r z => funext fun a => by fin_cases a <;> rfl
  unfold Ideal.hostReduceAdd
  rw [zero_add]
  refine (Finset.sum_eq_single_of_mem (ix5 0 j i 0 0) (Finset.mem_filter.mpr ⟨Finset.mem_univ _, hd _ _ _ _ _⟩) fun y h hn => ?_)
  obtain ⟨b, j', i', r, z, rfl⟩ := idx5 y
  have h := (Finset.mem_filter.mp h).2
  rw [hd] at h
  obtain rfl : j' = j := congrFun h 0
  obtain rfl : i' = i := congrFun h 1
  exact absurd (by rw [Subsingleton.elim b 0, Subsingleton.elim r 0, Subsingleton.elim z 0]) hn

theorem sitofp_zero : (FloatOps.sitofp (F := Ideal) .f32 (0#32) : EReal) = 0 := by
  show (((0#32).toInt : ℝ) : EReal) = 0
  simp

section
variable {x0 : FVec Ideal S4096x16x64 .f32} {x1 x2 : FVec Ideal S4096x4x64 .f32} {x3 : FVec Ideal S2x16 .f32} {x4 : FVec Ideal S4096x16x64 .f32}
  (b : Fin 32) (j i : Fin 4) (r : Fin 128) (s : Fin 256) (l : Fin 64) (h : Fin 16) (a : Fin 33) (n : Fin 4224) (m : Fin 4096) (p : Fin 16) (z : Fin 2) (L : Fin 1024) (w : Fin 128)

theorem op101 : (val_main_v101 (F := Ideal) x4) (ix5 b j l i r) = (val_main_v100 (F := Ideal) x4) (ix5 b r j i l) := by
  unfold val_main_v101
  generalize val_main_v100 (F := Ideal) x4 = u0
  pointwise []
theorem op100 : (val_main_v100 (F := Ideal) x4) (ix5 b r j i l) = (val_main_v99 (F := Ideal) x4) (ix2 ⟨b.val * 128 + r.val, by omega⟩ ⟨j.val * 256 + i.val * 64 + l.val, by omega⟩) := by
  unfold val_main_v100
  generalize val_main_v99 (F := Ideal) x4 = u0
  pointwise []
theorem op102 : (val_main_v102 (F := Ideal) x2 x4) (ix5 b j i r s) = ∑ l, (val_main_v101 (F := Ideal) x4) (ix5 b j l i r) * (val_main_v16 (F := Ideal) x2) (ix4 b s j l) := by
  unfold val_main_v102
  generalize val_main_v101 (F := Ideal) x4 = u0
  generalize val_main_v16 (F := Ideal) x2 = u1
  pointwise []
theorem op94 : (val_main_v94 (F := Ideal)) (ix5 b j i r 0) = 1 := by
  unfold val_main_v94
  pointwise [val_main_cst_19]
theorem op103 : (val_main_v103 (F := Ideal) x0 x1 x3 x4) (ix4 b j l s) = ∑ i, ∑ r, (val_main_v101 (F := Ideal) x4) (ix5 b j l i r) * (val_main_v92 (F := Ideal) x0 x1 x3) (ix5 b j i r s) := by
  unfold val_main_v103
  generalize val_main_v101 (F := Ideal) x4 = u0
  generalize val_main_v92 (F := Ideal) x0 x1 x3 = u1
  pointwise []
theorem op104 : (val_main_v104 (F := Ideal) x0 x1 x3 x4) (ix4 b s j l) = (val_main_v103 (F := Ideal) x0 x1 x3 x4) (ix4 b j l s) := by
  unfold val_main_v104
  generalize val_main_v103 (F := Ideal) x0 x1 x3 x4 = u0
  pointwise []
theorem op105 : (val_main_v105 (F := Ideal) x0 x1 x3) (ix5 b j i r s) = (val_main_v95 (F := Ideal) x0 x1 x3) (ix5 b j i r 0) := by
  unfold val_main_v105
  generalize val_main_v95 (F := Ideal) x0 x1 x3 = u0
  pointwise []
theorem op108 : (val_main_v108 (F := Ideal) x0 x1 x2 x3 x4) (ix4 b j i r) = ∑ s, (val_main_v107 (F := Ideal) x0 x1 x2 x3 x4) (ix5 b j i r s) := by
  unfold val_main_v108
  generalize val_main_v107 (F := Ideal) x0 x1 x2 x3 x4 = u0
  pointwise [val_main_cst_20]
theorem op109 : (val_main_v109 (F := Ideal) x0 x1 x2 x3 x4) (ix5 b j i r 0) = (val_main_v108 (F := Ideal) x0 x1 x2 x3 x4) (ix4 b j i r) := by
  unfold val_main_v109
  generalize val_main_v108 (F := Ideal) x0 x1 x2 x3 x4 = u0
  pointwise []
theorem op111 : (val_main_v111 (F := Ideal) x0 x1 x3) (ix5 b j i r s) = (val_main_v90 (F := Ideal) x0 x1 x3) (ix5 b j i r 0) := by
  unfold val_main_v111
  generalize val_main_v90 (F := Ideal) x0 x1 x3 = u0
  pointwise []
theorem op114 : (val_main_v114 (F := Ideal) x0 x1 x2 x3 x4) (ix3 j i 0) = ∑ b, ∑ r, (val_main_v113 (F := Ideal) x0 x1 x2 x3 x4) (ix5 b j i r 0) := by
  unfold val_main_v114
  generalize val_main_v113 (F := Ideal) x0 x1 x2 x3 x4 = u
  pointwise [val_main_cst_21]
  exact sum_two u j i
theorem op115 : (val_main_v115 (F := Ideal) x0 x1 x2 x3 x4) (ix5 0 j i 0 0) = (val_main_v114 (F := Ideal) x0 x1 x2 x3 x4) (ix3 j i 0) := by
  unfold val_main_v115
  generalize val_main_v114 (F := Ideal) x0 x1 x2 x3 x4 = u0
  pointwise []
theorem op117 : (val_main_v117 (F := Ideal) x0 x1 x2 x3 x4) (ix4 b j i r) = ∑ s, (val_main_v110 (F := Ideal) x0 x1 x2 x3 x4) (ix5 b j i r s) := by
  unfold val_main_v117
  generalize val_main_v110 (F := Ideal) x0 x1 x2 x3 x4 = u0
  pointwise [val_main_cst_22]
theorem op118 : (val_main_v118 (F := Ideal) x0 x1 x2 x3 x4) (ix5 b j i r s) = (val_main_v117 (F := Ideal) x0 x1 x2 x3 x4) (ix4 b j i r) := by
  unfold val_main_v118
  generalize val_main_v117 (F := Ideal) x0 x1 x2 x3 x4 = u0
  pointwise []
theorem op122 : (val_main_v122 (F := Ideal) x0 x1 x2 x3 x4) (ix4 b j i r) = ∑ s, (val_main_v121 (F := Ideal) x0 x1 x2 x3 x4) (ix5 b j i r s) := by
  unfold val_main_v122
  generalize val_main_v121 (F := Ideal) x0 x1 x2 x3 x4 = u0
  pointwise [val_main_cst_23]
theorem op123 : (val_main_v123 (F := Ideal) x0 x1 x2 x3 x4) (ix5 b j i r 0) = (val_main_v122 (F := Ideal) x0 x1 x2 x3 x4) (ix4 b j i r) := by
  unfold val_main_v123
  generalize val_main_v122 (F := Ideal) x0 x1 x2 x3 x4 = u0
  pointwise []
theorem op126 : (val_main_v126 (F := Ideal) x0 x1 x2 x3 x4) (ix3 j i 0) = ∑ b, ∑ r, (val_main_v125 (F := Ideal) x0 x1 x2 x3 x4) (ix5 b j i r 0) := by
  unfold val_main_v126
  generalize val_main_v125 (F := Ideal) x0 x1 x2 x3 x4 = u
  pointwise [val_main_cst_24]
  exact sum_two u j i
theorem op127 : (val_main_v127 (F := Ideal) x0 x1 x2 x3 x4) (ix5 0 j i 0 0) = (val_main_v126 (F := Ideal) x0 x1 x2 x3 x4) (ix3 j i 0) := by
  unfold val_main_v127
  generalize val_main_v126 (F := Ideal) x0 x1 x2 x3 x4 = u0
  pointwise []
theorem op130 : (val_main_v130 (F := Ideal) x0 x1 x2 x3 x4) (ix4 b j i r) = ∑ s, (val_main_v129 (F := Ideal) x0 x1 x2 x3 x4) (ix5 b j i r s) := by
  unfold val_main_v130
  generalize val_main_v129 (F := Ideal) x0 x1 x2 x3 x4 = u0
  pointwise [val_main_cst_25]
theorem op132 : (val_main_v132 (F := Ideal) x0 x1 x2 x3 x4) (ix5 b j i r s) = (val_main_v131 (F := Ideal) x0 x1 x2 x3 x4) (ix4 b j i r) := by
  unfold val_main_v132
  generalize val_main_v131 (F := Ideal) x0 x1 x2 x3 x4 = u0
  pointwise []
theorem op135 : (val_main_v135 (F := Ideal) x0 x1 x2 x3 x4) (ix2 j i) = (val_main_v128 (F := Ideal) x0 x1 x2 x3 x4) (ix5 0 j i 0 0) := by
  unfold val_main_v135
  generalize val_main_v128 (F := Ideal) x0 x1 x2 x3 x4 = u
  pointwise [val_main_cst_26]
  exact sum_unit u j i
theorem op136 : (val_main_v136 (F := Ideal) x0 x1 x2 x3 x4) (ix1 h) = (val_main_v135 (F := Ideal) x0 x1 x2 x3 x4) (ix2 ⟨h.val / 4, by omega⟩ ⟨h.val % 4, by omega⟩) := by
  unfold val_main_v136
  generalize val_main_v135 (F := Ideal) x0 x1 x2 x3 x4 = u0
  pointwise []
theorem op57 : (val_main_v57 (F := Ideal) x0 x1) (ix5 b j i r s) = (val_main_v56 (F := Ideal) x0 x1) (ix5 b j i r 0) := by
  unfold val_main_v57
  generalize val_main_v56 (F := Ideal) x0 x1 = u0
  pointwise []
theorem op56 : (val_main_v56 (F := Ideal) x0 x1) (ix5 b j i r 0) = (val_main_v55 (F := Ideal) x0 x1) (ix4 b j i r) := by
  unfold val_main_v56
  generalize val_main_v55 (F := Ideal) x0 x1 = u0
  pointwise []
theorem op60 : (val_main_v60 (F := Ideal) x0 x1) (ix4 b j i r) = ∑ s, (val_main_v59 (F := Ideal) x0 x1) (ix5 b j i r s) := by
  unfold val_main_v60
  generalize val_main_v59 (F := Ideal) x0 x1 = u0
  pointwise [val_main_cst_11]
theorem op139 : (val_main_v139 (F := Ideal) x0 x1 x2 x3 x4) (ix5 b j i r s) = (val_main_v137 (F := Ideal) x0 x1 x2 x3 x4) (ix5 b j i r s) * Ideal.ofBits .f32 0x3E000000#32 := by
  unfold val_main_v139
  generalize val_main_v137 (F := Ideal) x0 x1 x2 x3 x4 = u0
  pointwise [val_main_v138, val_main_cst_27]
theorem op140 : (val_main_v140 (F := Ideal) x0 x1 x2 x3 x4) (ix5 b j s r i) = (val_main_v139 (F := Ideal) x0 x1 x2 x3 x4) (ix5 b j i r s) := by
  unfold val_main_v140
  generalize val_main_v139 (F := Ideal) x0 x1 x2 x3 x4 = u0
  pointwise []
theorem op141 : (val_main_v141 (F := Ideal) x0 x1 x2 x3 x4) (ix5 b j r i l) = ∑ s, (val_main_v140 (F := Ideal) x0 x1 x2 x3 x4) (ix5 b j s r i) * (val_main_v9 (F := Ideal) x1) (ix4 b s j l) := by
  unfold val_main_v141
  generalize val_main_v140 (F := Ideal) x0 x1 x2 x3 x4 = u0
  generalize val_main_v9 (F := Ideal) x1 = u1
  pointwise []
theorem op142 : (val_main_v142 (F := Ideal) x0 x1 x2 x3 x4) (ix5 b r j i l) = (val_main_v141 (F := Ideal) x0 x1 x2 x3 x4) (ix5 b j r i l) := by
  unfold val_main_v142
  generalize val_main_v141 (F := Ideal) x0 x1 x2 x3 x4 = u0
  pointwise []
theorem op143 : (val_main_v143 (F := Ideal) x0 x1 x2 x3 x4) (ix4 b j s l) = ∑ r, ∑ i, (val_main_v140 (F := Ideal) x0 x1 x2 x3 x4) (ix5 b j s r i) * (val_main_v2 (F := Ideal) x0) (ix5 b r j i l) := by
  unfold val_main_v143
  generalize val_main_v140 (F := Ideal) x0 x1 x2 x3 x4 = u0
  generalize val_main_v2 (F := Ideal) x0 = u1
  pointwise []
theorem op144 : (val_main_v144 (F := Ideal) x0 x1 x2 x3 x4) (ix4 b s j l) = (val_main_v143 (F := Ideal) x0 x1 x2 x3 x4) (ix4 b j s l) := by
  unfold val_main_v144
  generalize val_main_v143 (F := Ideal) x0 x1 x2 x3 x4 = u0
  pointwise []
theorem op145 : (val_main_v145 (F := Ideal) x0 x1 x3 x4) (ix4 b r j l) = (val_main_v104 (F := Ideal) x0 x1 x3 x4) (ix4 b ⟨r.val, by omega⟩ j l) := by
  unfold val_main_v145
  generalize val_main_v104 (F := Ideal) x0 x1 x3 x4 = u0
  pointwise []
theorem op146 : (val_main_v146 (F := Ideal) x0 x1 x3 x4) (ix4 b r j l) = (val_main_v104 (F := Ideal) x0 x1 x3 x4) (ix4 b ⟨128 + r.val, by omega⟩ j l) := by
  unfold val_main_v146
  generalize val_main_v104 (F := Ideal) x0 x1 x3 x4 = u0
  pointwise []
theorem op147 : (val_main_v147 (F := Ideal) x0 x1 x3 x4) (ix4 a r j l) = if h : 1 ≤ a.val ∧ a.val - 1 < 32 then (val_main_v146 (F := Ideal) x0 x1 x3 x4) (ix4 ⟨a.val - 1, h.2⟩ r j l) else 0 := by
  unfold val_main_v147
  generalize val_main_v146 (F := Ideal) x0 x1 x3 x4 = u0
  pointwise [val_main_cst_28]
theorem op148 : (val_main_v148 (F := Ideal) x0 x1 x3 x4) (ix4 a r j l) = if h : a.val < 32 then (val_main_v145 (F := Ideal) x0 x1 x3 x4) (ix4 ⟨a.val, h⟩ r j l) else 0 := by
  unfold val_main_v148
  generalize val_main_v145 (F := Ideal) x0 x1 x3 x4 = u0
  pointwise [val_main_cst_29]
theorem op150 : (val_main_v150 (F := Ideal) x0 x1 x3 x4) (ix3 n j l) = (val_main_v149 (F := Ideal) x0 x1 x3 x4) (ix4 ⟨n.val / 128, by omega⟩ ⟨n.val % 128, by omega⟩ j l) := by
  unfold val_main_v150
  generalize val_main_v149 (F := Ideal) x0 x1 x3 x4 = u0
  pointwise []
theorem op152 : (val_main_v152 (F := Ideal) x0 x1 x3 x4) (ix3 m j l) = (val_main_v150 (F := Ideal) x0 x1 x3 x4) (ix3 ⟨128 + m.val, by omega⟩ j l) := by
  unfold val_main_v152
  generalize val_main_v150 (F := Ideal) x0 x1 x3 x4 = u0
  pointwise []
theorem op153 : (val_main_v153 (F := Ideal) x0 x1 x2 x3 x4) (ix4 b r j l) = (val_main_v144 (F := Ideal) x0 x1 x2 x3 x4) (ix4 b ⟨r.val, by omega⟩ j l) := by
  unfold val_main_v153
  generalize val_main_v144 (F := Ideal) x0 x1 x2 x3 x4 = u0
  pointwise []
theorem op154 : (val_main_v154 (F := Ideal) x0 x1 x2 x3 x4) (ix4 b r j l) = (val_main_v144 (F := Ideal) x0 x1 x2 x3 x4) (ix4 b ⟨128 + r.val, by omega⟩ j l) := by
  unfold val_main_v154
  generalize val_main_v144 (F := Ideal) x0 x1 x2 x3 x4 = u0
  pointwise []
theorem op155 : (val_main_v155 (F := Ideal) x0 x1 x2 x3 x4) (ix4 a r j l) = if h : 1 ≤ a.val ∧ a.val - 1 < 32 then (val_main_v154 (F := Ideal) x0 x1 x2 x3 x4) (ix4 ⟨a.val - 1, h.2⟩ r j l) else 0 := by
  unfold val_main_v155
  generalize val_main_v154 (F := Ideal) x0 x1 x2 x3 x4 = u0
  pointwise [val_main_cst_30]
theorem op156 : (val_main_v156 (F := Ideal) x0 x1 x2 x3 x4) (ix4 a r j l) = if h : a.val < 32 then (val_main_v153 (F := Ideal) x0 x1 x2 x3 x4) (ix4 ⟨a.val, h⟩ r j l) else 0 := by
  unfold val_main_v156
  generalize val_main_v153 (F := Ideal) x0 x1 x2 x3 x4 = u0
  pointwise [val_main_cst_31]
theorem op158 : (val_main_v158 (F := Ideal) x0 x1 x2 x3 x4) (ix3 n j l) = (val_main_v157 (F := Ideal) x0 x1 x2 x3 x4) (ix4 ⟨n.val / 128, by omega⟩ ⟨n.val % 128, by omega⟩ j l) := by
  unfold val_main_v158
  generalize val_main_v157 (F := Ideal) x0 x1 x2 x3 x4 = u0
  pointwise []
theorem op160 : (val_main_v160 (F := Ideal) x0 x1 x2 x3 x4) (ix3 m j l) = (val_main_v158 (F := Ideal) x0 x1 x2 x3 x4) (ix3 ⟨128 + m.val, by omega⟩ j l) := by
  unfold val_main_v160
  generalize val_main_v158 (F := Ideal) x0 x1 x2 x3 x4 = u0
  pointwise []
theorem op161 : (val_main_v161 (F := Ideal) x0 x1 x2 x3 x4) (ix3 m h l) = (val_main_v142 (F := Ideal) x0 x1 x2 x3 x4) (ix5 ⟨m.val / 128, by omega⟩ ⟨m.val % 128, by omega⟩ ⟨h.val / 4, by omega⟩ ⟨h.val % 4, by omega⟩ l) := by
  unfold val_main_v161
  generalize val_main_v142 (F := Ideal) x0 x1 x2 x3 x4 = u0
  pointwise []
theorem op165 : (val_main_v165 (F := Ideal) x0 x1 x2 x3 x4) (ix2 m L) = (val_main_v161 (F := Ideal) x0 x1 x2 x3 x4) (ix3 m ⟨L.val / 64, by omega⟩ ⟨L.val % 64, by omega⟩) := by
  unfold val_main_v165
  generalize val_main_v161 (F := Ideal) x0 x1 x2 x3 x4 = u0
  pointwise []
theorem op162 : (val_main_v162 (F := Ideal) x0 x1 x2 x3 x4) (ix4 p z r s) = (val_main_v160 (F := Ideal) x0 x1 x2 x3 x4) (ix3 ⟨p.val * 256 + z.val * 128 + r.val, by omega⟩ ⟨s.val / 64, by omega⟩ ⟨s.val % 64, by omega⟩) := by
  unfold val_main_v162
  generalize val_main_v160 (F := Ideal) x0 x1 x2 x3 x4 = u0
  pointwise []
theorem op163 : (val_main_v163 (F := Ideal) x0 x1 x3 x4) (ix4 p z r s) = (val_main_v152 (F := Ideal) x0 x1 x3 x4) (ix3 ⟨p.val * 256 + z.val * 128 + r.val, by omega⟩ ⟨s.val / 64, by omega⟩ ⟨s.val % 64, by omega⟩) := by
  unfold val_main_v163
  generalize val_main_v152 (F := Ideal) x0 x1 x3 x4 = u0
  pointwise []
theorem op164 : (val_main_v164 (F := Ideal) x0 x1 x3 x4) (ix4 p z r s) = (val_main_v163 (F := Ideal) x0 x1 x3 x4) (ix4 p z r s) := by
  unfold val_main_v164
  generalize val_main_v163 (F := Ideal) x0 x1 x3 x4 = u0
  pointwise []
theorem op168 : (val_main_v168 (F := Ideal) x0 x1 x2 x3 x4) (ix4 p 0 r s) = (val_main_v162 (F := Ideal) x0 x1 x2 x3 x4) (ix4 p 0 r s) := by
  unfold val_main_v168
  generalize val_main_v162 (F := Ideal) x0 x1 x2 x3 x4 = u0
  pointwise []
theorem op169 : (val_main_v169 (F := Ideal) x0 x1 x2 x3 x4) (ix3 p r s) = (val_main_v168 (F := Ideal) x0 x1 x2 x3 x4) (ix4 p 0 r s) := by
  unfold val_main_v169
  generalize val_main_v168 (F := Ideal) x0 x1 x2 x3 x4 = u0
  pointwise []
theorem op170 : (val_main_v170 (F := Ideal) x0 x1 x2 x3 x4) (ix4 p 0 r s) = (val_main_v162 (F := Ideal) x0 x1 x2 x3 x4) (ix4 p 1 r s) := by
  unfold val_main_v170
  generalize val_main_v162 (F := Ideal) x0 x1 x2 x3 x4 = u0
  pointwise []
theorem op171 : (val_main_v171 (F := Ideal) x0 x1 x2 x3 x4) (ix3 p r s) = (val_main_v170 (F := Ideal) x0 x1 x2 x3 x4) (ix4 p 0 r s) := by
  unfold val_main_v171
  generalize val_main_v170 (F := Ideal) x0 x1 x2 x3 x4 = u0
  pointwise []
theorem op172 : (val_main_v172 (F := Ideal) x0 x1 x3 x4) (ix4 p 0 r s) = (val_main_v164 (F := Ideal) x0 x1 x3 x4) (ix4 p 0 r s) := by
  unfold val_main_v172
  generalize val_main_v164 (F := Ideal) x0 x1 x3 x4 = u0
  pointwise []
theorem op173 : (val_main_v173 (F := Ideal) x0 x1 x3 x4) (ix3 p r s) = (val_main_v172 (F := Ideal) x0 x1 x3 x4) (ix4 p 0 r s) := by
  unfold val_main_v173
  generalize val_main_v172 (F := Ideal) x0 x1 x3 x4 = u0
  pointwise []
theorem op174 : (val_main_v174 (F := Ideal) x0 x1 x3 x4) (ix4 p 0 r s) = (val_main_v164 (F := Ideal) x0 x1 x3 x4) (ix4 p 1 r s) := by
  unfold val_main_v174
  generalize val_main_v164 (F := Ideal) x0 x1 x3 x4 = u0
  pointwise []
theorem op175 : (val_main_v175 (F := Ideal) x0 x1 x3 x4) (ix3 p r s) = (val_main_v174 (F := Ideal) x0 x1 x3 x4) (ix4 p 0 r s) := by
  unfold val_main_v175
  generalize val_main_v174 (F := Ideal) x0 x1 x3 x4 = u0
  pointwise []
theorem op176 : (val_main_v176 (F := Ideal) x0 x1 x2 x3 x4) (ix2 0 h) = (val_main_v136 (F := Ideal) x0 x1 x2 x3 x4) (ix1 h) := by
  unfold val_main_v176
  generalize val_main_v136 (F := Ideal) x0 x1 x2 x3 x4 = u0
  pointwise []
theorem op177 : (val_main_v177 (F := Ideal) x0 x1 x2 x3 x4) (ix2 0 w) = if h : w.val < 16 then (val_main_v176 (F := Ideal) x0 x1 x2 x3 x4) (ix2 0 ⟨w.val, h⟩) else 0 := by
  unfold val_main_v177
  generalize val_main_v176 (F := Ideal) x0 x1 x2 x3 x4 = u0
  pointwise [val_main_call2_v0, val_main_c_33]
  simp only [sitofp_zero]

end

end Cert.Band.Ref

end
-- ==== Proof.Band.RefGradient.lean ====
/-
  The reference's gradient at the scores. It divides by the denominator and by the denominator's square, and it sends a
  gradient through the maximum that is subtracted; that gradient is zero.
-/
module

public import proofs.«01_k».proof.Proof.Band.RefSteps

@[expose] public section

noncomputable section

open Idealize.ShloMosaic Idealize.ShloMosaic.TcCoe Idealize.SL.Sem

namespace Cert.Band

/-- A maximum is attained. -/
theorem fold_max_attained (f : Fin 256 → EReal) : ∃ s, f s = Finset.fold max (⊥ : EReal) f Finset.univ := by
  have hle : ∀ s, f s ≤ Finset.fold max (⊥ : EReal) f Finset.univ := fun s => (Finset.le_fold_max _).mpr (.inr ⟨s, Finset.mem_univ _, le_rfl⟩)
  rcases (Finset.le_fold_max _).mp (le_refl (Finset.fold max (⊥ : EReal) f Finset.univ)) with h | ⟨s, _, h⟩
  · exact ⟨0, le_antisymm (hle 0) (h.trans bot_le)⟩
  · exact ⟨s, le_antisymm (hle s) h⟩

/-- The number of places where the maximum is attained is not zero. -/
theorem count_attained (f : Fin 256 → EReal) : (∑ s, if f s = Finset.fold max (⊥ : EReal) f Finset.univ then (1 : EReal) else 0) ≠ 0 := by
  obtain ⟨s, hs⟩ := fold_max_attained f
  have h : (1 : EReal) ≤ ∑ s, if f s = Finset.fold max (⊥ : EReal) f Finset.univ then (1 : EReal) else 0 :=
    le_trans (by rw [if_pos hs]) (Finset.single_le_sum (f := fun s => if f s = Finset.fold max (⊥ : EReal) f Finset.univ then (1 : EReal) else 0)
      (fun s _ => by split_ifs <;> norm_num) (Finset.mem_univ s))
  exact fun h0 => absurd (h0 ▸ h) (by norm_num)

namespace Ref

open Cert.Reference2Ideal Cert.Reference2Ideal.Gen Cert.Reference2Ideal.Read

theorem mul_eq (a b : Ideal .f32) : FloatOps.mulf a b = (a * b : EReal) := rfl
theorem add_eq (a b : Ideal .f32) : FloatOps.addf a b = (a + b : EReal) := rfl
theorem div_eq (a b : Ideal .f32) : FloatOps.hostDivf a b = Ideal.div a b := rfl
theorem neg_eq (a : Ideal .f32) : FloatOps.hostNegf a = (-a : EReal) := rfl
theorem indicator (a c : Ideal .f32) : (FloatOps.uitofp .f32 (FloatOps.cmpf .oeq a c) : Ideal .f32) = if (a : EReal) = c then (1 : EReal) else 0 := by
  show (((BitVec.ofBool (decide ((a : EReal) = c))).toNat : ℝ) : EReal) = _
  by_cases h : (a : EReal) = c
  · rw [if_pos h, decide_eq_true h]; simp
  · rw [if_neg h, decide_eq_false h]; simp

variable {x0 : FVec Ideal S4096x16x64 .f32} {x1 x2 : FVec Ideal S4096x4x64 .f32} {x3 : FVec Ideal S2x16 .f32} {x4 : FVec Ideal S4096x16x64 .f32} {D : Data}
  (hD : Of D x0 x1 x2 x3 x4) (b : Fin 32) (j i : Fin 4) (r : Fin 128)
include hD

theorem cotangent_apply (l : Fin 64) : (val_main_v101 (F := Ideal) x4) (ix5 b j l i r) = (D.d (rowAt b r) (headOf j i) l : EReal) := by
  have h99 : ∀ (R : Fin 4096) (L : Fin 1024), (val_main_v99 (F := Ideal) x4) (ix2 R L) = x4 (ix3 R ⟨L.val / 64, by omega⟩ ⟨L.val % 64, by omega⟩) := fun R L => by
    unfold val_main_v99
    pointwise []
  rw [op101, op100, h99, hD.d]
  have e1 : (⟨b.val * 128 + r.val, by omega⟩ : Fin 4096) = rowAt b r := row_val b r _
  have e2 : (⟨(j.val * 256 + i.val * 64 + l.val) / 64, by omega⟩ : Fin 16) = headOf j i := Fin.ext (by show (j.val * 256 + i.val * 64 + l.val) / 64 = 4 * j.val + i.val; omega)
  have e3 : (⟨(j.val * 256 + i.val * 64 + l.val) % 64, by omega⟩ : Fin 64) = l := Fin.ext (by show (j.val * 256 + i.val * 64 + l.val) % 64 = l.val; omega)
  rw [e1, e2, e3]

theorem dprob_apply (s : Fin 256) : (val_main_v102 (F := Ideal) x2 x4) (ix5 b j i r s) = (D.dprob b (headOf j i) r s : EReal) := by
  rw [op102]
  simp only [cotangent_apply hD, values_apply hD, ← EReal.coe_mul, coe_sum]
  unfold Data.dprob
  rw [kv_head]

theorem count_ne : (val_main_v60 (F := Ideal) x0 x1) (ix4 b j i r) ≠ (0 : EReal) := by
  rw [op60]
  simp only [val_main_v59_apply, val_main_v58_apply, op57, op56, indicator, top_apply hD, masked_apply hD]
  exact count_attained _

section
variable {b j i r} {M : ℝ} (hM : (val_main_v63 (F := Ideal) x0 x1 x3) (ix5 b j i r 0) = (M : EReal))
include hM

theorem inverse_apply : (val_main_v95 (F := Ideal) x0 x1 x3) (ix5 b j i r 0)
    = ((1 / ((total (Data.ok b r) (D.score b (headOf j i) r) (D.s (headOf j i)) * Real.exp (-M)) * (total (Data.ok b r) (D.score b (headOf j i) r) (D.s (headOf j i)) * Real.exp (-M))) : ℝ) : EReal) := by
  rw [val_main_v95_apply, op94, val_main_v93_apply, total_apply hD hM, div_eq, mul_eq, ← EReal.coe_mul, ← EReal.coe_one,
    div_real _ _ (mul_ne_zero (shifted_ne _ _ _ M) (shifted_ne _ _ _ M))]

/-- The mean of the products over the denominator, with a minus. -/
theorem mean_apply : (val_main_v110 (F := Ideal) x0 x1 x2 x3 x4) (ix5 b j i r 0)
    = ((-(mean (Data.ok b r) (D.score b (headOf j i) r) (D.s (headOf j i)) (D.dprob b (headOf j i) r)
      / (total (Data.ok b r) (D.score b (headOf j i) r) (D.s (headOf j i)) * Real.exp (-M))) : ℝ) : EReal) := by
  rw [val_main_v110_apply, neg_eq, op109, op108]
  simp only [val_main_v107_apply, val_main_v106_apply, op105, mul_eq, inverse_apply hD hM, dprob_apply hD, weight_apply hD hM, ← EReal.coe_mul, coe_sum]
  rw [square_sum, ← EReal.coe_neg]

theorem sink_gradient_apply : (val_main_v113 (F := Ideal) x0 x1 x2 x3 x4) (ix5 b j i r 0) = ((-D.GS b (headOf j i) r : ℝ) : EReal) := by
  rw [val_main_v113_apply, mul_eq, mean_apply hD hM, sinkWeight_apply hD hM, ← EReal.coe_mul, dsink_div]
  rfl

theorem unmasked_apply (s : Fin 256) : (val_main_v120 (F := Ideal) x0 x1 x2 x3 x4) (ix5 b j i r s) = (D.G b (headOf j i) r s : EReal) := by
  rw [val_main_v120_apply, val_main_v119_apply, val_main_v112_apply, op111, op118, op117, Fin.sum_univ_one, mul_eq, add_eq, div_eq, dprob_apply hD, total_apply hD hM,
    div_real _ _ (shifted_ne _ _ _ M), mean_apply hD hM, weight_apply hD hM, ← EReal.coe_add, ← EReal.coe_mul, dscore_div]
  rfl

/-- What reaches the maximum. -/
theorem max_gradient_apply : (val_main_v124 (F := Ideal) x0 x1 x2 x3 x4) (ix5 b j i r 0) = (0 : EReal) := by
  rw [val_main_v124_apply, add_eq, val_main_v116_apply, neg_eq, sink_gradient_apply hD hM, op123, op122]
  simp only [val_main_v121_apply, neg_eq, unmasked_apply hD hM, ← EReal.coe_neg, coe_sum, ← EReal.coe_add]
  rw [neg_neg, ← EReal.coe_zero]
  exact congrArg Real.toEReal (max_gradient _ _ _ _)

theorem spread_apply (s : Fin 256) : (val_main_v133 (F := Ideal) x0 x1 x2 x3 x4) (ix5 b j i r s) = (0 : EReal) := by
  have h : (val_main_v131 (F := Ideal) x0 x1 x2 x3 x4) (ix4 b j i r) = (0 : EReal) := by
    rw [val_main_v131_apply, div_eq, op130, Fin.sum_univ_one, val_main_v129_apply, mul_eq, max_gradient_apply hD hM, zero_mul]
    unfold Ideal.div
    rw [if_neg (count_ne hD b j i r), zero_mul]
  rw [val_main_v133_apply, mul_eq, op132, h, zero_mul]

end

theorem probability (s : Fin 256) : (val_main_v92 (F := Ideal) x0 x1 x3) (ix5 b j i r s) = (D.P b (headOf j i) r s : EReal) := by
  obtain ⟨M, hM⟩ := shift_apply hD b j i r
  exact prob_apply hD hM s

theorem sink_gradient : (val_main_v113 (F := Ideal) x0 x1 x2 x3 x4) (ix5 b j i r 0) = ((-D.GS b (headOf j i) r : ℝ) : EReal) := by
  obtain ⟨M, hM⟩ := shift_apply hD b j i r
  exact sink_gradient_apply hD hM

theorem sink_max_gradient : (val_main_v125 (F := Ideal) x0 x1 x2 x3 x4) (ix5 b j i r 0) = (0 : EReal) := by
  obtain ⟨M, hM⟩ := shift_apply hD b j i r
  rw [val_main_v125_apply, mul_eq, max_gradient_apply hD hM, zero_mul]

/-- The gradients at the scores. -/
theorem score_gradient (s : Fin 256) : (val_main_v137 (F := Ideal) x0 x1 x2 x3 x4) (ix5 b j i r s) = (D.G b (headOf j i) r s : EReal) := by
  obtain ⟨M, hM⟩ := shift_apply hD b j i r
  rw [val_main_v137_apply, mask_apply, val_main_v134_apply, add_eq, unmasked_apply hD hM, spread_apply hD hM, add_zero]
  by_cases h : Data.ok b r s
  · rw [if_pos h]; rfl
  · rw [if_neg h]
    unfold Data.G
    rw [dscore_masked _ _ _ _ _ h]
    pointwise [val_main_call1_v0, val_main_call1_cst]
    rfl

end Ref

end Cert.Band

end
-- ==== Proof.Band.RunFirst.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp

@[expose] public section

set_option maxRecDepth 16384

noncomputable section

/-! The body of the attention gradient at the first point. -/

namespace Cert.Band

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch is taken: at the first point only, where it clears the scratch buffers. -/
abbrev first (i : grid0.Coords) : Prop := (Scalar.cmpi .ne (Scalar.extui (Scalar.cmpi .eq (BitVec.ofNat 32 (i 0).val) 0#32)) 0#32) = 1#1
/-- The body's second branch is taken: at every point that has a block of queries. -/
abbrev inside (i : grid0.Coords) : Prop := k0_cond2 i = 1#1
/-- The body's third branch is taken: at the last point, which only writes what is carried. -/
abbrev last (i : grid0.Coords) : Prop := k0_cond3 i = 1#1

variable (c : Dev nD) (i : grid0.Coords)
  (arg1 : Memref sig .tc .smem S2x16 .f32) (harg1 : arg1.IsWhole)
  (arg2 : Memref sig .tc .vmem S256x2048 .bf16) (harg2 : arg2.IsWhole)
  (arg3 : Memref sig .tc .vmem S256x2048 .bf16) (harg3 : arg3.IsWhole)
  (arg4 : Memref sig .tc .vmem S128x512 .bf16) (harg4 : arg4.IsWhole)
  (arg5 : Memref sig .tc .vmem S256x512 .bf16) (harg5 : arg5.IsWhole)
  (arg6 : Memref sig .tc .vmem S128x512 .bf16) (harg6 : arg6.IsWhole)
  (arg7 : Memref sig .tc .vmem S256x512 .bf16) (harg7 : arg7.IsWhole)
  (arg9 : Memref sig .tc .vmem S256x1024 .f32) (harg9 : arg9.IsWhole)
  (arg10 : Memref sig .tc .vmem S1x128x256 .f32) (harg10 : arg10.IsWhole)
  (arg11 : Memref sig .tc .vmem S1x128x256 .f32) (harg11 : arg11.IsWhole)
  (arg12 : Memref sig .tc .vmem S1x128x256 .bf16) (harg12 : arg12.IsWhole)
  (arg13 : Memref sig .tc .vmem S1x128x256 .bf16) (harg13 : arg13.IsWhole)
  (arg14 : Memref sig .tc .vmem S1x128 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x256 .f32) (harg17 : arg17.IsWhole)
  (x0 : Vec F S2x16 .f32) (x1 : Vec F S256x2048 .bf16) (x2 : Vec F S256x2048 .bf16) (x3 : Vec F S128x512 .bf16) (x4 : Vec F S256x512 .bf16) (x5 : Vec F S128x512 .bf16) (x6 : Vec F S256x512 .bf16)

set_option maxHeartbeats 4000000 in
/-- The body at the first point: what it stores in each output and in each scratch buffer, as pieces, last first. The scratch buffers are cleared first, so that what they held before does not matter; the output of the sinks is handed back as it was. -/
noncomputable def runFirst (hc0 : first i) (hc1 : inside i) (hc2 : ¬last i) :
    Σ' (L9 : List (View.Piece (Elt F) S256x1024 .f32)), Σ' (L10 : List (View.Piece (Elt F) S1x128x256 .f32)), Σ' (L11 : List (View.Piece (Elt F) S1x128x256 .f32)), Σ' (L12 : List (View.Piece (Elt F) S1x128x256 .bf16)), Σ' (L13 : List (View.Piece (Elt F) S1x128x256 .bf16)), Σ' (L15 : List (View.Piece (Elt F) S128x256 .f32)), Σ' (L16 : List (View.Piece (Elt F) S128x256 .f32)), { L17 : List (View.Piece (Elt F) S8x256 .f32) //
      ∀ (y14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare y14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_attn_backward_1 i arg1 harg1 arg2 harg2 arg3 harg3 arg4 harg4 arg5 harg5 arg6 harg6 arg7 harg7 (Memref.whole main_v30) (Memref.isWhole_whole _) arg9 harg9 arg10 harg10 arg11 harg11 arg12 harg12 arg13 harg13 arg14 harg14 arg15 harg15 arg16 harg16 arg17 harg17) K } := by
  refine ⟨?_, ?_, ?_, ?_, ?_, ?_, ?_, ?_, fun y14 E K => ?run⟩
  case run =>
    simp only [cc0_attn_backward_1_eq_skeleton]; unfold cc0_attn_backward_1_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg14.eq_unread hf14
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; isplitr; · ipureintro; exact harg14.read_unread _
      iexact H14
    isplitl [H15]
    · iexists _; iexact H15
    isplitl [H16]
    · iexists _; iexact H16
    iexists _; iexact H17

end Cert.Band

end
-- ==== Proof.Band.RunInside.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp
public import proofs.«01_k».proof.Proof.Band.RunFirst

@[expose] public section

set_option maxRecDepth 16384

noncomputable section

/-! The body of the attention gradient at a point that has a block of queries, after the first. -/

namespace Cert.Band

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .smem S2x16 .f32) (harg1 : arg1.IsWhole)
  (arg2 : Memref sig .tc .vmem S256x2048 .bf16) (harg2 : arg2.IsWhole)
  (arg3 : Memref sig .tc .vmem S256x2048 .bf16) (harg3 : arg3.IsWhole)
  (arg4 : Memref sig .tc .vmem S128x512 .bf16) (harg4 : arg4.IsWhole)
  (arg5 : Memref sig .tc .vmem S256x512 .bf16) (harg5 : arg5.IsWhole)
  (arg6 : Memref sig .tc .vmem S128x512 .bf16) (harg6 : arg6.IsWhole)
  (arg7 : Memref sig .tc .vmem S256x512 .bf16) (harg7 : arg7.IsWhole)
  (arg9 : Memref sig .tc .vmem S256x1024 .f32) (harg9 : arg9.IsWhole)
  (arg10 : Memref sig .tc .vmem S1x128x256 .f32) (harg10 : arg10.IsWhole)
  (arg11 : Memref sig .tc .vmem S1x128x256 .f32) (harg11 : arg11.IsWhole)
  (arg12 : Memref sig .tc .vmem S1x128x256 .bf16) (harg12 : arg12.IsWhole)
  (arg13 : Memref sig .tc .vmem S1x128x256 .bf16) (harg13 : arg13.IsWhole)
  (arg14 : Memref sig .tc .vmem S1x128 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x256 .f32) (harg17 : arg17.IsWhole)
  (x0 : Vec F S2x16 .f32) (x1 : Vec F S256x2048 .bf16) (x2 : Vec F S256x2048 .bf16) (x3 : Vec F S128x512 .bf16) (x4 : Vec F S256x512 .bf16) (x5 : Vec F S128x512 .bf16) (x6 : Vec F S256x512 .bf16)

set_option maxHeartbeats 4000000 in
/-- The body at a point between the first and the last, as pieces, last first: the scratch buffers hold what the point before left. -/
noncomputable def runInside (hc0 : ¬first i) (hc1 : inside i) (hc2 : ¬last i) (s15 : Vec F S128x256 .f32) (s16 : Vec F S128x256 .f32) (s17 : Vec F S8x256 .f32) :
    Σ' (L9 : List (View.Piece (Elt F) S256x1024 .f32)), Σ' (L10 : List (View.Piece (Elt F) S1x128x256 .f32)), Σ' (L11 : List (View.Piece (Elt F) S1x128x256 .f32)), Σ' (L12 : List (View.Piece (Elt F) S1x128x256 .bf16)), Σ' (L13 : List (View.Piece (Elt F) S1x128x256 .bf16)), Σ' (L15 : List (View.Piece (Elt F) S128x256 .f32)), Σ' (L16 : List (View.Piece (Elt F) S128x256 .f32)), { L17 : List (View.Piece (Elt F) S8x256 .f32) //
      ∀ (y14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare s15 ∗ owns (c : Thread nD τ) arg16 fullShare s16 ∗ owns (c : Thread nD τ) arg17 fullShare s17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare y14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_attn_backward_1 i arg1 harg1 arg2 harg2 arg3 harg3 arg4 harg4 arg5 harg5 arg6 harg6 arg7 harg7 (Memref.whole main_v30) (Memref.isWhole_whole _) arg9 harg9 arg10 harg10 arg11 harg11 arg12 harg12 arg13 harg13 arg14 harg14 arg15 harg15 arg16 harg16 arg17 harg17) K } := by
  refine ⟨?_, ?_, ?_, ?_, ?_, ?_, ?_, ?_, fun y14 E K => ?run⟩
  case run =>
    simp only [cc0_attn_backward_1_eq_skeleton]; unfold cc0_attn_backward_1_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; isplitr; · ipureintro; exact harg14.read_unread _
      iexact H14
    isplitl [H15]
    · iexists _; iexact H15
    isplitl [H16]
    · iexists _; iexact H16
    iexists _; iexact H17

end Cert.Band

end
-- ==== Proof.Band.RunLast.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp
public import proofs.«01_k».proof.Proof.Band.RunInside

@[expose] public section

set_option maxRecDepth 16384

noncomputable section

/-! The body of the attention gradient at the last point. -/

namespace Cert.Band

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .smem S2x16 .f32) (harg1 : arg1.IsWhole)
  (arg2 : Memref sig .tc .vmem S256x2048 .bf16) (harg2 : arg2.IsWhole)
  (arg3 : Memref sig .tc .vmem S256x2048 .bf16) (harg3 : arg3.IsWhole)
  (arg4 : Memref sig .tc .vmem S128x512 .bf16) (harg4 : arg4.IsWhole)
  (arg5 : Memref sig .tc .vmem S256x512 .bf16) (harg5 : arg5.IsWhole)
  (arg6 : Memref sig .tc .vmem S128x512 .bf16) (harg6 : arg6.IsWhole)
  (arg7 : Memref sig .tc .vmem S256x512 .bf16) (harg7 : arg7.IsWhole)
  (arg9 : Memref sig .tc .vmem S256x1024 .f32) (harg9 : arg9.IsWhole)
  (arg10 : Memref sig .tc .vmem S1x128x256 .f32) (harg10 : arg10.IsWhole)
  (arg11 : Memref sig .tc .vmem S1x128x256 .f32) (harg11 : arg11.IsWhole)
  (arg12 : Memref sig .tc .vmem S1x128x256 .bf16) (harg12 : arg12.IsWhole)
  (arg13 : Memref sig .tc .vmem S1x128x256 .bf16) (harg13 : arg13.IsWhole)
  (arg14 : Memref sig .tc .vmem S1x128 .f32) (harg14 : arg14.IsWhole)
  (arg15 : Memref sig .tc .vmem S128x256 .f32) (harg15 : arg15.IsWhole)
  (arg16 : Memref sig .tc .vmem S128x256 .f32) (harg16 : arg16.IsWhole)
  (arg17 : Memref sig .tc .vmem S8x256 .f32) (harg17 : arg17.IsWhole)
  (x0 : Vec F S2x16 .f32) (x1 : Vec F S256x2048 .bf16) (x2 : Vec F S256x2048 .bf16) (x3 : Vec F S128x512 .bf16) (x4 : Vec F S256x512 .bf16) (x5 : Vec F S128x512 .bf16) (x6 : Vec F S256x512 .bf16)

set_option maxHeartbeats 4000000 in
/-- The body at the last point, as pieces: it writes the carried halves and the sums of the sinks; the query gradient and the even halves are handed back as they were, and so are the scratch buffers. -/
noncomputable def runLast (hc0 : ¬first i) (hc1 : ¬inside i) (hc2 : last i) (s15 : Vec F S128x256 .f32) (s16 : Vec F S128x256 .f32) (s17 : Vec F S8x256 .f32) :
    Σ' (L11 : List (View.Piece (Elt F) S1x128x256 .f32)), Σ' (L13 : List (View.Piece (Elt F) S1x128x256 .bf16)), { L14 : List (View.Piece (Elt F) S1x128 .f32) //
      ∀ (y9 : Vec F S256x1024 .f32) (y10 : Vec F S1x128x256 .f32) (y12 : Vec F S1x128x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare y9 ∗ owns (c : Thread nD τ) arg10 fullShare y10 ∗ (∃ d, owns (c : Thread nD τ) arg11 fullShare d) ∗ owns (c : Thread nD τ) arg12 fullShare y12 ∗ (∃ d, owns (c : Thread nD τ) arg13 fullShare d) ∗ (∃ d, owns (c : Thread nD τ) arg14 fullShare d) ∗ owns (c : Thread nD τ) arg15 fullShare s15 ∗ owns (c : Thread nD τ) arg16 fullShare s16 ∗ owns (c : Thread nD τ) arg17 fullShare s17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare y9 ∗ owns (c : Thread nD τ) arg10 fullShare y10 ∗ (∃ f, arg11.view.loc (c : Thread nD τ) ↦[arg11.view.set]{fullShare} arg11.view.writes (Elt F) f L11) ∗ owns (c : Thread nD τ) arg12 fullShare y12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ owns (c : Thread nD τ) arg15 fullShare s15 ∗ owns (c : Thread nD τ) arg16 fullShare s16 ∗ owns (c : Thread nD τ) arg17 fullShare s17) -∗ K ⟨⟩))
          ⊢ wp frame (wpE (defs₀ (F := F)) Variants.none c none) E (cc0_attn_backward_1 i arg1 harg1 arg2 harg2 arg3 harg3 arg4 harg4 arg5 harg5 arg6 harg6 arg7 harg7 (Memref.whole main_v30) (Memref.isWhole_whole _) arg9 harg9 arg10 harg10 arg11 harg11 arg12 harg12 arg13 harg13 arg14 harg14 arg15 harg15 arg16 harg16 arg17 harg17) K } := by
  refine ⟨?_, ?_, ?_, fun y9 y10 y12 E K => ?run⟩
  case run =>
    simp only [cc0_attn_backward_1_eq_skeleton]; unfold cc0_attn_backward_1_skel
    simp only [k0_part38_eq_skeleton, k0_part39_eq_skeleton, k0_part40_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg12.eq_unread hf12; obtain rfl := harg15.eq_unread hf15; obtain rfl := harg16.eq_unread hf16; obtain rfl := harg17.eq_unread hf17
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; iexact H13
    isplitl [H14]
    · iexists _; iexact H14
    isplitl [H15]
    · iexists _; isplitr; · ipureintro; exact harg15.read_unread _
      iexact H15
    isplitl [H16]
    · iexists _; isplitr; · ipureintro; exact harg16.read_unread _
      iexact H16
    iexists _; isplitr; · ipureintro; exact harg17.read_unread _
    iexact H17

end Cert.Band

end
-- ==== Proof.Band.State.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp
public import proofs.«01_k».proof.Proof.Band.RunLast

@[expose] public section

set_option maxRecDepth 16384

noncomputable section

/-! What the buffers of the attention gradient hold after each point of its grid. -/

namespace Cert.Band

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The staging buffer of each window at a point, and the three scratch buffers. -/

abbrev stg0 (t : Fin cfg0.N) : Memref sig .tc .smem S2x16 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S256x2048 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S256x2048 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S128x512 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x512 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S128x512 .bf16 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x512 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S256x1024 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S1x128x256 .f32 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x128x256 .f32 := win0_9.stage (cfg0.slots t 9)
abbrev whole9 (t : Fin cfg0.N) : (stg9 t).IsWhole := hstage0_9 ((cfg0.slots t 9).cast nbuf0_9)
abbrev stg10 (t : Fin cfg0.N) : Memref sig .tc .vmem S1x128x256 .bf16 := win0_10.stage (cfg0.slots t 10)
abbrev whole10 (t : Fin cfg0.N) : (stg10 t).IsWhole := hstage0_10 ((cfg0.slots t 10).cast nbuf0_10)
abbrev stg11 (t : Fin cfg0.N) : Memref sig .tc .vmem S1x128x256 .bf16 := win0_11.stage (cfg0.slots t 11)
abbrev whole11 (t : Fin cfg0.N) : (stg11 t).IsWhole := hstage0_11 ((cfg0.slots t 11).cast nbuf0_11)
abbrev stg12 (t : Fin cfg0.N) : Memref sig .tc .vmem S1x128 .f32 := win0_12.stage (cfg0.slots t 12)
abbrev whole12 (t : Fin cfg0.N) : (stg12 t).IsWhole := hstage0_12 ((cfg0.slots t 12).cast nbuf0_12)
abbrev scr15 : Memref sig .tc .vmem S128x256 .f32 := Memref.whole cc0_scratch0
abbrev scr16 : Memref sig .tc .vmem S128x256 .f32 := Memref.whole cc0_scratch1
abbrev scr17 : Memref sig .tc .vmem S8x256 .f32 := Memref.whole cc0_scratch2

/-! Which branch is taken at which point. -/

theorem first_iff (t : Fin cfg0.N) : first (grid0.coords t) ↔ t.val = 0 :=
  (by decide +kernel : ∀ t : Fin grid0.N, first (grid0.coords t) ↔ t.val = 0) t
theorem inside_iff (t : Fin cfg0.N) : inside (grid0.coords t) ↔ t.val < 16 :=
  (by decide +kernel : ∀ t : Fin grid0.N, inside (grid0.coords t) ↔ t.val < 16) t
theorem last_iff (t : Fin cfg0.N) : last (grid0.coords t) ↔ t.val = 16 :=
  (by decide +kernel : ∀ t : Fin grid0.N, last (grid0.coords t) ↔ t.val = 16) t

variable (m : (ℓ : Loc nD τ sig) → Buf (Elt F) ℓ) (ρ : Dev nD → PrngReg)

/-- What the outputs' staging buffers and the scratch buffers hold between two points. -/
structure State (F : FTy → Type) where
  dq : Vec F S256x1024 .f32
  dkEven : Vec F S1x128x256 .f32
  dkOdd : Vec F S1x128x256 .f32
  dvEven : Vec F S1x128x256 .bf16
  dvOdd : Vec F S1x128x256 .bf16
  dsink : Vec F S1x128 .f32
  carryK : Vec F S128x256 .f32
  carryV : Vec F S128x256 .f32
  sums : Vec F S8x256 .f32

/-- The body's run at the first point, on that point's buffers and blocks. -/
noncomputable abbrev atFirst (c : Dev nD) (t : Fin cfg0.N) (h : t.val = 0) :=
  runFirst (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr15 (Memref.isWhole_whole _) scr16 (Memref.isWhole_whole _) scr17 (Memref.isWhole_whole _) (iblk m c 0 t) (iblk m c 1 t) (iblk m c 2 t) (iblk m c 3 t) (iblk m c 4 t) (iblk m c 5 t) (iblk m c 6 t)
    ((first_iff t).mpr h) ((inside_iff t).mpr (by omega)) (fun k => by have := (last_iff t).mp k; omega)
/-- The body's run at a later point that has a block of queries, from the scratch buffers of the point before. -/
noncomputable abbrev atInside (c : Dev nD) (t : Fin cfg0.N) (h : t.val ≠ 0) (h' : t.val < 16) (s : State F) :=
  runInside (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr15 (Memref.isWhole_whole _) scr16 (Memref.isWhole_whole _) scr17 (Memref.isWhole_whole _) (iblk m c 0 t) (iblk m c 1 t) (iblk m c 2 t) (iblk m c 3 t) (iblk m c 4 t) (iblk m c 5 t) (iblk m c 6 t)
    (fun k => h ((first_iff t).mp k)) ((inside_iff t).mpr h') (fun k => by have := (last_iff t).mp k; omega) s.carryK s.carryV s.sums
/-- The body's run at the last point, from the scratch buffers of the point before. -/
noncomputable abbrev atLast (c : Dev nD) (t : Fin cfg0.N) (h : t.val = 16) (s : State F) :=
  runLast (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr15 (Memref.isWhole_whole _) scr16 (Memref.isWhole_whole _) scr17 (Memref.isWhole_whole _) (iblk m c 0 t) (iblk m c 1 t) (iblk m c 2 t) (iblk m c 3 t) (iblk m c 4 t) (iblk m c 5 t) (iblk m c 6 t)
    (fun k => by have := (first_iff t).mp k; omega) (fun k => by have := (inside_iff t).mp k; omega) ((last_iff t).mpr h) s.carryK s.carryV s.sums

/-- The state after the first point. -/
def stateFirst (c : Dev nD) (t : Fin cfg0.N) (h : t.val = 0) : State F :=
  { dq := View.canon (atFirst m c t h).1,
    dkEven := View.canon (atFirst m c t h).2.1,
    dkOdd := View.canon (atFirst m c t h).2.2.1,
    dvEven := View.canon (atFirst m c t h).2.2.2.1,
    dvOdd := View.canon (atFirst m c t h).2.2.2.2.1,
    dsink := View.canon [],
    carryK := View.canon (atFirst m c t h).2.2.2.2.2.1,
    carryV := View.canon (atFirst m c t h).2.2.2.2.2.2.1,
    sums := View.canon (atFirst m c t h).2.2.2.2.2.2.2.1 }
/-- The state after a later point that has a block of queries. -/
def stateInside (c : Dev nD) (t : Fin cfg0.N) (h : t.val ≠ 0) (h' : t.val < 16) (s : State F) : State F :=
  { dq := View.canon (atInside m c t h h' s).1,
    dkEven := View.canon (atInside m c t h h' s).2.1,
    dkOdd := View.canon (atInside m c t h h' s).2.2.1,
    dvEven := View.canon (atInside m c t h h' s).2.2.2.1,
    dvOdd := View.canon (atInside m c t h h' s).2.2.2.2.1,
    dsink := s.dsink,
    carryK := View.canon (atInside m c t h h' s).2.2.2.2.2.1,
    carryV := View.canon (atInside m c t h h' s).2.2.2.2.2.2.1,
    sums := View.canon (atInside m c t h h' s).2.2.2.2.2.2.2.1 }
/-- The state after the last point. -/
def stateLast (c : Dev nD) (t : Fin cfg0.N) (h : t.val = 16) (s : State F) : State F :=
  { dq := s.dq,
    dkEven := s.dkEven,
    dkOdd := View.canon (atLast m c t h s).1,
    dvEven := s.dvEven,
    dvOdd := View.canon (atLast m c t h s).2.1,
    dsink := View.canon (atLast m c t h s).2.2.1,
    carryK := s.carryK,
    carryV := s.carryV,
    sums := s.sums }

/-- The state after point `n`. -/
def after (c : Dev nD) : (n : ℕ) → n < cfg0.N → State F
  | 0, hn => stateFirst m c ⟨0, hn⟩ rfl
  | n + 1, hn =>
    if h : n + 1 < 16 then stateInside m c ⟨n + 1, hn⟩ (Nat.succ_ne_zero n) h (after c n (Nat.lt_of_succ_lt hn))
    else stateLast m c ⟨n + 1, hn⟩ (by have : cfg0.N = 17 := N_0; simp only; omega) (after c n (Nat.lt_of_succ_lt hn))

theorem after_first (c : Dev nD) (t : Fin cfg0.N) (h : t.val = 0) : after m c t.val t.isLt = stateFirst m c t h := by
  obtain ⟨n, hn⟩ := t
  cases n with
  | zero => rfl
  | succ n => exact absurd h (Nat.succ_ne_zero n)

/-- The point before. -/
abbrev pred (t : Fin cfg0.N) : t.val - 1 < cfg0.N := Nat.lt_of_le_of_lt (Nat.sub_le _ _) t.isLt

theorem after_inside (c : Dev nD) (t : Fin cfg0.N) (h : t.val ≠ 0) (h' : t.val < 16) :
    after m c t.val t.isLt = stateInside m c t h h' (after m c (t.val - 1) (pred t)) := by
  obtain ⟨n, hn⟩ := t
  cases n with
  | zero => exact absurd rfl h
  | succ n => exact dif_pos h'

theorem after_last (c : Dev nD) (t : Fin cfg0.N) (h : t.val = 16) :
    after m c t.val t.isLt = stateLast m c t h (after m c (t.val - 1) (pred t)) := by
  obtain ⟨n, hn⟩ := t
  cases n with
  | zero => simp only at h; omega
  | succ n => exact dif_neg (by simp only at h; omega)

/-! The stores of a point cover each buffer they touch. -/

theorem coverFirst_dq (c : Dev nD) (t : Fin cfg0.N) (h : t.val = 0) (y : S256x1024.Idx) :
    ∃ p ∈ (atFirst m c t h).1, y ∈ p.1.set :=
  View.cover_of_tiledL (atFirst m c t h).1 S128x128.size (by sl_kernel_rfl) y
theorem coverFirst_dkEven (c : Dev nD) (t : Fin cfg0.N) (h : t.val = 0) (y : S1x128x256.Idx) :
    ∃ p ∈ (atFirst m c t h).2.1, y ∈ p.1.set :=
  View.cover_of_tiledL (atFirst m c t h).2.1 S1x128x256.size (by sl_kernel_rfl) y
theorem coverFirst_dkOdd (c : Dev nD) (t : Fin cfg0.N) (h : t.val = 0) (y : S1x128x256.Idx) :
    ∃ p ∈ (atFirst m c t h).2.2.1, y ∈ p.1.set :=
  View.cover_of_tiledL (atFirst m c t h).2.2.1 S1x128x256.size (by sl_kernel_rfl) y
theorem coverFirst_dvEven (c : Dev nD) (t : Fin cfg0.N) (h : t.val = 0) (y : S1x128x256.Idx) :
    ∃ p ∈ (atFirst m c t h).2.2.2.1, y ∈ p.1.set :=
  View.cover_of_tiledL (atFirst m c t h).2.2.2.1 S1x128x256.size (by sl_kernel_rfl) y
theorem coverFirst_dvOdd (c : Dev nD) (t : Fin cfg0.N) (h : t.val = 0) (y : S1x128x256.Idx) :
    ∃ p ∈ (atFirst m c t h).2.2.2.2.1, y ∈ p.1.set :=
  View.cover_of_tiledL (atFirst m c t h).2.2.2.2.1 S1x128x256.size (by sl_kernel_rfl) y
theorem coverFirst_carryK (c : Dev nD) (t : Fin cfg0.N) (h : t.val = 0) (y : S128x256.Idx) :
    ∃ p ∈ (atFirst m c t h).2.2.2.2.2.1, y ∈ p.1.set :=
  View.cover_of_tiledL (atFirst m c t h).2.2.2.2.2.1 S128x256.size (by sl_kernel_rfl) y
theorem coverFirst_carryV (c : Dev nD) (t : Fin cfg0.N) (h : t.val = 0) (y : S128x256.Idx) :
    ∃ p ∈ (atFirst m c t h).2.2.2.2.2.2.1, y ∈ p.1.set :=
  View.cover_of_tiledL (atFirst m c t h).2.2.2.2.2.2.1 S128x256.size (by sl_kernel_rfl) y
theorem coverFirst_sums (c : Dev nD) (t : Fin cfg0.N) (h : t.val = 0) (y : S8x256.Idx) :
    ∃ p ∈ (atFirst m c t h).2.2.2.2.2.2.2.1, y ∈ p.1.set :=
  View.cover_of_tiledL (atFirst m c t h).2.2.2.2.2.2.2.1 S1x256.size (by sl_kernel_rfl) y
theorem coverInside_dq (c : Dev nD) (t : Fin cfg0.N) (h : t.val ≠ 0) (h' : t.val < 16) (s : State F) (y : S256x1024.Idx) :
    ∃ p ∈ (atInside m c t h h' s).1, y ∈ p.1.set :=
  View.cover_of_tiledL (atInside m c t h h' s).1 S128x128.size (by sl_kernel_rfl) y
theorem coverInside_dkEven (c : Dev nD) (t : Fin cfg0.N) (h : t.val ≠ 0) (h' : t.val < 16) (s : State F) (y : S1x128x256.Idx) :
    ∃ p ∈ (atInside m c t h h' s).2.1, y ∈ p.1.set :=
  View.cover_of_tiledL (atInside m c t h h' s).2.1 S1x128x256.size (by sl_kernel_rfl) y
theorem coverInside_dkOdd (c : Dev nD) (t : Fin cfg0.N) (h : t.val ≠ 0) (h' : t.val < 16) (s : State F) (y : S1x128x256.Idx) :
    ∃ p ∈ (atInside m c t h h' s).2.2.1, y ∈ p.1.set :=
  View.cover_of_tiledL (atInside m c t h h' s).2.2.1 S1x128x256.size (by sl_kernel_rfl) y
theorem coverInside_dvEven (c : Dev nD) (t : Fin cfg0.N) (h : t.val ≠ 0) (h' : t.val < 16) (s : State F) (y : S1x128x256.Idx) :
    ∃ p ∈ (atInside m c t h h' s).2.2.2.1, y ∈ p.1.set :=
  View.cover_of_tiledL (atInside m c t h h' s).2.2.2.1 S1x128x256.size (by sl_kernel_rfl) y
theorem coverInside_dvOdd (c : Dev nD) (t : Fin cfg0.N) (h : t.val ≠ 0) (h' : t.val < 16) (s : State F) (y : S1x128x256.Idx) :
    ∃ p ∈ (atInside m c t h h' s).2.2.2.2.1, y ∈ p.1.set :=
  View.cover_of_tiledL (atInside m c t h h' s).2.2.2.2.1 S1x128x256.size (by sl_kernel_rfl) y
theorem coverInside_carryK (c : Dev nD) (t : Fin cfg0.N) (h : t.val ≠ 0) (h' : t.val < 16) (s : State F) (y : S128x256.Idx) :
    ∃ p ∈ (atInside m c t h h' s).2.2.2.2.2.1, y ∈ p.1.set :=
  View.cover_of_tiledL (atInside m c t h h' s).2.2.2.2.2.1 S128x256.size (by sl_kernel_rfl) y
theorem coverInside_carryV (c : Dev nD) (t : Fin cfg0.N) (h : t.val ≠ 0) (h' : t.val < 16) (s : State F) (y : S128x256.Idx) :
    ∃ p ∈ (atInside m c t h h' s).2.2.2.2.2.2.1, y ∈ p.1.set :=
  View.cover_of_tiledL (atInside m c t h h' s).2.2.2.2.2.2.1 S128x256.size (by sl_kernel_rfl) y
theorem coverInside_sums (c : Dev nD) (t : Fin cfg0.N) (h : t.val ≠ 0) (h' : t.val < 16) (s : State F) (y : S8x256.Idx) :
    ∃ p ∈ (atInside m c t h h' s).2.2.2.2.2.2.2.1, y ∈ p.1.set :=
  View.cover_of_tiledL (atInside m c t h h' s).2.2.2.2.2.2.2.1 S1x256.size (by sl_kernel_rfl) y
theorem coverLast_dkOdd (c : Dev nD) (t : Fin cfg0.N) (h : t.val = 16) (s : State F) (y : S1x128x256.Idx) :
    ∃ p ∈ (atLast m c t h s).1, y ∈ p.1.set :=
  View.cover_of_tiledL (atLast m c t h s).1 S1x128x256.size (by sl_kernel_rfl) y
theorem coverLast_dvOdd (c : Dev nD) (t : Fin cfg0.N) (h : t.val = 16) (s : State F) (y : S1x128x256.Idx) :
    ∃ p ∈ (atLast m c t h s).2.1, y ∈ p.1.set :=
  View.cover_of_tiledL (atLast m c t h s).2.1 S1x128x256.size (by sl_kernel_rfl) y
theorem coverLast_dsink (c : Dev nD) (t : Fin cfg0.N) (h : t.val = 16) (s : State F) (y : S1x128.Idx) :
    ∃ p ∈ (atLast m c t h s).2.2.1, y ∈ p.1.set :=
  View.cover_of_tiledL (atLast m c t h s).2.2.1 S1x128.size (by sl_kernel_rfl) y
end Cert.Band

end
-- ==== Proof.Band.Entry.lean ====
/-
  The arrays the attention gradient's windows read, as functions of the program's arguments: what the host prepared.
-/
module

public import proofs.«01_k».proof.Proof.Band.State
public import Idealize.ShloMosaic.Lib.Pointwise
public import Idealize.ShloMosaic.Lib.ValueIdx
public import Idealize.ShloMosaic.Lib.WordCmp

@[expose] public section

noncomputable section

namespace Cert.Band

open Cert.Kernel2Ideal Cert.Kernel2Ideal.Gen
open Idealize.ShloMosaic Idealize.ShloMosaic.TcCoe Idealize.ShloMosaic.Tactic Idealize.ShloMosaic.WordCmp Idealize.SL.Sem

variable (m : (ℓ : Loc nD τ sig) → Buf (Elt Ideal) ℓ) (c : Dev nD)

/-- The program's arguments. -/
abbrev argQ : FVec Ideal S4096x16x64 .f32 := m ((c : Thread nD τ).loc main_arg0)
abbrev argK : FVec Ideal S4096x4x64 .f32 := m ((c : Thread nD τ).loc main_arg1)
abbrev argV : FVec Ideal S4096x4x64 .f32 := m ((c : Thread nD τ).loc main_arg2)
abbrev argS : FVec Ideal S2x16 .f32 := m ((c : Thread nD τ).loc main_arg3)
abbrev argD : FVec Ideal S4096x16x64 .f32 := m ((c : Thread nD τ).loc main_arg4)

theorem select_lt (n : ℕ) (hn : n < 128) {A : Type} (a b : A) :
    Scalar.select (IntOp.cmpi .slt (BitVec.ofNat 32 n) 64#32) a b = if n < 64 then a else b := by
  show Scalar.select (IntOp.cmpi .slt (BitVec.ofNat 32 n) (BitVec.ofNat 32 64)) a b = _
  rw [cmpi_slt_eq, toInt_ofNat_of_lt (by omega), toInt_ofNat_of_lt (by omega)]
  by_cases h : n < 64
  · rw [if_pos h, decide_eq_true (by omega)]; rfl
  · rw [if_neg h, decide_eq_false (by omega)]; rfl

theorem eighth : Ideal.ofBits .f32 0x3E000000#32 = ((1 / 8 : ℝ) : EReal) := by
  simp [Ideal.ofBits, Ideal.ieee, -EReal.coe_mul]; norm_num

/-- A head's lanes stand in the half of its 128 lanes that the head's parity names. -/
theorem half_select (x : Fin 16 → Fin 64 → EReal) (h : Fin 16) (l : Fin 128) (z y : EReal) (hz : z = 0)
    (h0 : (128 * h.val + l.val) / 128 % 2 < 1 → y = Scalar.select (IntOp.cmpi .slt (BitVec.ofNat 32 ((128 * h.val + l.val) % 128)) 64#32)
        (x ⟨(128 * h.val + l.val) / 256 * 2 + (128 * h.val + l.val) % 128 / 64, by omega⟩ ⟨(128 * h.val + l.val) % 128 % 64, by omega⟩) z)
    (h1 : ¬(128 * h.val + l.val) / 128 % 2 < 1 → y = Scalar.select (IntOp.cmpi .slt (BitVec.ofNat 32 ((128 * h.val + l.val) % 128)) 64#32) z
        (x ⟨(128 * h.val + l.val) / 256 * 2 + (128 * h.val + l.val) % 128 / 64, by omega⟩ ⟨(128 * h.val + l.val) % 128 % 64, by omega⟩)) :
    y = if l.val / 64 = h.val % 2 then x h ⟨l.val % 64, by omega⟩ else 0 := by
  subst hz
  rw [select_lt _ (by omega)] at h0 h1
  have e2 : (⟨(128 * h.val + l.val) % 128 % 64, by omega⟩ : Fin 64) = ⟨l.val % 64, by omega⟩ := Fin.ext (by show _ % _ % _ = _ % _; omega)
  have e1 : l.val / 64 = h.val % 2 → (⟨(128 * h.val + l.val) / 256 * 2 + (128 * h.val + l.val) % 128 / 64, by omega⟩ : Fin 16) = h :=
    fun hl => Fin.ext (by show _ / _ * _ + _ = _; omega)
  rw [e2] at h0 h1
  by_cases hp : (128 * h.val + l.val) / 128 % 2 < 1
  · rw [h0 hp]
    by_cases hl : l.val / 64 = h.val % 2
    · rw [if_pos hl, e1 hl]
      split_ifs <;> first | rfl | omega
    · rw [if_neg hl]
      split_ifs <;> first | rfl | omega
  · rw [h1 hp]
    by_cases hl : l.val / 64 = h.val % 2
    · rw [if_pos hl, e1 hl]
      split_ifs <;> first | rfl | omega
    · rw [if_neg hl]
      split_ifs <;> first | rfl | omega

/-- The keys, each head's lanes twice. -/
theorem keys_entry (r : Fin 4096) (kv : Fin 4) (l : Fin 128) : (V m c main_v26 : FVec Ideal S4096x512 .bf16) (ix2 r ⟨128 * kv.val + l.val, by omega⟩)
    = argK m c (ix3 r kv ⟨l.val % 64, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise
  after_results_simp
  pointwise
  by_cases h : (128 * kv.val + l.val) % 128 < 64
  · rw [dif_pos h]
    exact congrArg₂ (fun a b => argK m c (ix3 r a b)) (Fin.ext (by show _ / _ = _; omega)) (Fin.ext (by show _ % _ = _ % _; omega))
  · rw [dif_neg h]
    exact congrArg₂ (fun a b => argK m c (ix3 r a b)) (Fin.ext (by show _ / _ = _; omega)) (Fin.ext (by show _ % _ - _ = _ % _; omega))

/-- The values, each head's lanes twice. -/
theorem values_entry (r : Fin 4096) (kv : Fin 4) (l : Fin 128) : (V m c main_v29 : FVec Ideal S4096x512 .bf16) (ix2 r ⟨128 * kv.val + l.val, by omega⟩)
    = argV m c (ix3 r kv ⟨l.val % 64, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  pointwise
  after_results_simp
  pointwise
  by_cases h : (128 * kv.val + l.val) % 128 < 64
  · rw [dif_pos h]
    exact congrArg₂ (fun a b => argV m c (ix3 r a b)) (Fin.ext (by show _ / _ = _; omega)) (Fin.ext (by show _ % _ = _ % _; omega))
  · rw [dif_neg h]
    exact congrArg₂ (fun a b => argV m c (ix3 r a b)) (Fin.ext (by show _ / _ = _; omega)) (Fin.ext (by show _ % _ - _ = _ % _; omega))

/-- The queries, scaled, each head in its half of the lanes. -/
theorem query_entry (r : Fin 4096) (h : Fin 16) (l : Fin 128) : (V m c main_v12 : FVec Ideal S4096x2048 .bf16) (ix2 r ⟨128 * h.val + l.val, by omega⟩)
    = if l.val / 64 = h.val % 2 then argQ m c (ix3 r h ⟨l.val % 64, by omega⟩) * ((1 / 8 : ℝ) : EReal) else 0 := by
  rw [← eighth]
  refine half_select (fun h d => argQ m c (ix3 r h d) * Ideal.ofBits .f32 0x3E000000#32) h l ((id (constant S_ FTy.f32 0#32) : FVec Ideal S_ .f32) ix0) _ Ideal.ofBits_zero_f32 (fun hp => ?_) (fun hp => ?_)
  all_goals simp only [V, hostOps0, hostOps0_1, hostOps0_2, hostOps0_3, hostOps0_4, hostOps0_5, hostOps0_6, hostOps0_7, hostOps0_8, List.flatten_cons, List.flatten_nil, List.append_nil, List.cons_append, List.nil_append]
  all_goals simp only [StableHlo.TRef.binary, StableHlo.TRef.nullary, StableHlo.TRef.unary, StableHlo.TRef.ternary, StableHlo.TRef.toBuf, StableHlo.TRef.ofBuf, cast_eq]
  all_goals
    after_results_simp
    pointwise
    after_results_simp
    pointwise
  on_goal 1 => rw [dif_pos hp]
  on_goal 1 => rw [dif_neg hp]

/-- The cotangents, each head in its half of the lanes. -/
theorem cotangent_entry (r : Fin 4096) (h : Fin 16) (l : Fin 128) : (V m c main_v23 : FVec Ideal S4096x2048 .bf16) (ix2 r ⟨128 * h.val + l.val, by omega⟩)
    = if l.val / 64 = h.val % 2 then argD m c (ix3 r h ⟨l.val % 64, by omega⟩) else 0 := by
  refine half_select (fun h d => argD m c (ix3 r h d)) h l ((id (constant S_ FTy.f32 0#32) : FVec Ideal S_ .f32) ix0) _ Ideal.ofBits_zero_f32 (fun hp => ?_) (fun hp => ?_)
  all_goals simp only [V, hostOps0, hostOps0_1, hostOps0_2, hostOps0_3, hostOps0_4, hostOps0_5, hostOps0_6, hostOps0_7, hostOps0_8, List.flatten_cons, List.flatten_nil, List.append_nil, List.cons_append, List.nil_append]
  all_goals simp only [StableHlo.TRef.binary, StableHlo.TRef.nullary, StableHlo.TRef.unary, StableHlo.TRef.ternary, StableHlo.TRef.toBuf, StableHlo.TRef.ofBuf, cast_eq]
  all_goals
    after_results_simp
    pointwise
    after_results_simp
    pointwise
  on_goal 1 => rw [dif_pos hp]
  on_goal 1 => rw [dif_neg hp]

end Cert.Band

end
-- ==== Proof.Band.Group.lean ====
/-
  The body of the attention gradient at one point, told uniformly: a point works on two blocks of 128 queries, four key and
  value heads and, of the four query heads of each, the two even and the two odd ones; each of these sixteen groups does the
  same to its own inputs.
-/
module

public import proofs.«01_k».proof.Proof.Band.State

@[expose] public section

set_option maxRecDepth 16384

noncomputable section

namespace Cert.Band

open Cert.Kernel2Ideal Cert.Kernel2Ideal.Gen
open Idealize.ShloMosaic Idealize.ShloMosaic.TcCoe Idealize.ShloMosaic.Tactic

variable {F : FTy → Type} [FloatOps F] [Named F]

/-- What a group works on: the number that says whether there is a block before, the queries and the cotangents of its two
heads one below the other, the keys and values of two blocks, the sinks of the two heads. -/
structure Group (F : FTy → Type) where
  word : BitVec 32
  q : FVec F S256x128 .bf16
  d : FVec F S256x128 .bf16
  keys : FVec F S256x128 .bf16
  values : FVec F S256x128 .bf16
  sinkA : Elt F .f32
  sinkB : Elt F .f32

namespace Group
variable (g : Group F)

/-- Rows times rows, over the lanes. -/
def prods (u v : FVec F S256x128 .bf16) : FVec F S256x256 .f32 :=
  matmul dot_S256x128_S256x128_S256x256_1_1_0_0_n_n none u v (constant S256x256 .f32 0x00000000#32)
/-- The lanes of the group's first head. -/
def firstHead : IVec S1x256 1 := k0_pay18 (iota .tc S1x256 32 [1] iota_S1x256_d1_w32)
/-- The masked scores, keys on the rows. -/
def scores : FVec F S256x256 .f32 := k0_pay17 g.word (prods g.keys g.q)
/-- The values times the cotangents. -/
def dprobs : FVec F S256x256 .f32 := prods g.values g.d
/-- The probabilities. -/
def probs : FVec F S256x256 .f32 := k0_pay24 g.scores firstHead g.sinkA g.sinkB
/-- The gradients at the scores. -/
def dscores : FVec F S256x256 .bf16 := k0_pay27 g.dprobs g.scores firstHead g.sinkA g.sinkB
/-- Minus the gradients at the sink's scores. -/
def sinkRow : FVec F S1x256 .f32 :=
  mulf (mulf (k0_pay22 g.scores firstHead g.sinkA g.sinkB) (k0_pay23 g.scores firstHead g.sinkA g.sinkB))
    (k0_pay26 g.dprobs g.scores firstHead g.sinkA g.sinkB)
/-- The group's part of the keys' gradient. -/
def dk : FVec F S256x128 .f32 := k0_pay29 g.q g.dprobs g.scores firstHead g.sinkA g.sinkB
/-- The group's part of the values' gradient. -/
def dv : FVec F S256x128 .f32 := k0_pay30 g.d g.scores firstHead g.sinkA g.sinkB
/-- The queries' gradient, in the group's own lanes right. -/
def dq : FVec F S256x128 .f32 := k0_pay31 g.keys g.dprobs g.scores firstHead g.sinkA g.sinkB

end Group

/-- What a point reads: the number of the point, the sinks of the layer, the queries and cotangents by block and head, the
keys and values before the first block, of the first block, and of both blocks, by head. -/
structure Inputs (F : FTy → Type) where
  word : BitVec 32
  sink : Fin 16 → Elt F .f32
  q : Fin 2 → Fin 16 → Vec F S128x128 .bf16
  d : Fin 2 → Fin 16 → Vec F S128x128 .bf16
  keysBefore : Fin 4 → Vec F S128x128 .bf16
  keysFirst : Fin 4 → Vec F S128x128 .bf16
  keysBoth : Fin 4 → Vec F S256x128 .bf16
  valuesBefore : Fin 4 → Vec F S128x128 .bf16
  valuesFirst : Fin 4 → Vec F S128x128 .bf16
  valuesBoth : Fin 4 → Vec F S256x128 .bf16

theorem inb_cut (blk : Fin 2) (h : Fin 16) : ∀ a : Fin 2, (![128 * blk.val, 128 * h.val] : Fin 2 → ℕ) a + S128x128.size a ≤ S256x2048.size a := by
  have := blk.isLt; have := h.isLt
  intro a; fin_cases a
  · show 128 * blk.val + 128 ≤ 256; omega
  · show 128 * h.val + 128 ≤ 2048; omega
theorem inb_before (kv : Fin 4) : ∀ a : Fin 2, (![0, 128 * kv.val] : Fin 2 → ℕ) a + S128x128.size a ≤ S128x512.size a := by
  have := kv.isLt
  intro a; fin_cases a
  · show 0 + 128 ≤ 128; omega
  · show 128 * kv.val + 128 ≤ 512; omega
theorem inb_here (kv : Fin 4) : ∀ a : Fin 2, (![0, 128 * kv.val] : Fin 2 → ℕ) a + S128x128.size a ≤ S256x512.size a := by
  have := kv.isLt
  intro a; fin_cases a
  · show 0 + 128 ≤ 256; omega
  · show 128 * kv.val + 128 ≤ 512; omega
theorem inb_both (kv : Fin 4) : ∀ a : Fin 2, (![0, 128 * kv.val] : Fin 2 → ℕ) a + S256x128.size a ≤ S256x512.size a := by
  have := kv.isLt
  intro a; fin_cases a
  · show 0 + 256 ≤ 256; omega
  · show 128 * kv.val + 128 ≤ 512; omega
theorem inb_sink (h : Fin 16) : ∀ a : Fin 2, (![1, h.val] : Fin 2 → ℕ) a + S1x1.size a ≤ S2x16.size a := by
  have := h.isLt
  intro a; fin_cases a
  · show 1 + 1 ≤ 2; omega
  · show h.val + 1 ≤ 16; omega
theorem inb_tile (blk : Fin 2) (b : Fin 8) : ∀ a : Fin 2, (![128 * blk.val, 128 * b.val] : Fin 2 → ℕ) a + S128x128.size a ≤ S256x1024.size a := by
  have := blk.isLt; have := b.isLt
  intro a; fin_cases a
  · show 128 * blk.val + 128 ≤ 256; omega
  · show 128 * b.val + 128 ≤ 1024; omega

/-- The two blocks of keys or values that a block of queries sees. -/
def seen (before first : Vec F S128x128 .bf16) (both : Vec F S256x128 .bf16) : Fin 2 → FVec F S256x128 .bf16
  | 0 => k0_pay6 before first
  | 1 => shapeCast S256x128 both shapeCasts_S256x128_S256x128
/-- Query head `4 kv + 2 i + half`. -/
def head (kv : Fin 4) (i half : Fin 2) : Fin 16 := ⟨4 * kv.val + 2 * i.val + half.val, by omega⟩

namespace Inputs
variable (X : Inputs F)

/-- A point's group. -/
def group (blk : Fin 2) (kv : Fin 4) (half : Fin 2) : Group F where
  word := match blk with | 0 => X.word | 1 => 1#32
  q := k0_pay6 (X.q blk (head kv 0 half)) (X.q blk (head kv 1 half))
  d := k0_pay6 (X.d blk (head kv 0 half)) (X.d blk (head kv 1 half))
  keys := seen (X.keysBefore kv) (X.keysFirst kv) (X.keysBoth kv) blk
  values := seen (X.valuesBefore kv) (X.valuesFirst kv) (X.valuesBoth kv) blk
  sinkA := X.sink (head kv 0 half)
  sinkB := X.sink (head kv 1 half)

/-- The 128 lanes of the queries' gradient that belong to the two heads `4 kv + 2 i` and `4 kv + 2 i + 1`. -/
def dqTile (blk : Fin 2) (kv : Fin 4) : Fin 2 → FVec F S128x128 .f32
  | 0 => select k0_pay5 (extractStridedSlice S128x128 ![0, 0] (X.group blk kv 0).dq slices_S256x128_o0_0_S128x128)
      (extractStridedSlice S128x128 ![0, 0] (X.group blk kv 1).dq slices_S256x128_o0_0_S128x128)
  | 1 => select k0_pay5 (extractStridedSlice S128x128 ![128, 0] (X.group blk kv 0).dq slices_S256x128_o128_0_S128x128)
      (extractStridedSlice S128x128 ![128, 0] (X.group blk kv 1).dq slices_S256x128_o128_0_S128x128)

/-- A gradient of two heads' halves, plus itself turned by half the lanes. -/
def bothHalves (u v : FVec F S256x128 .f32) : FVec F S256x128 .f32 := k0_pay54 (addf u v)
/-- The keys' gradient from one block of queries and one head of keys. -/
def dkFull (blk : Fin 2) (kv : Fin 4) : FVec F S256x128 .f32 := bothHalves (X.group blk kv 0).dk (X.group blk kv 1).dk
/-- The values' gradient from one block of queries and one head of values. -/
def dvFull (blk : Fin 2) (kv : Fin 4) : FVec F S256x128 .f32 := bothHalves (X.group blk kv 0).dv (X.group blk kv 1).dv

/-- The rows of the block before, the four heads side by side. -/
def rowsBefore (p : Fin 4 → FVec F S256x128 .f32) : FVec F S128x256 .f32 :=
  concatenate S128x256 1
    [⟨S128x128, select k0_pay5 (extractStridedSlice S128x128 ![0, 0] (p 0) slices_S256x128_o0_0_S128x128) (extractStridedSlice S128x128 ![0, 0] (p 1) slices_S256x128_o0_0_S128x128)⟩,
     ⟨S128x128, select k0_pay5 (extractStridedSlice S128x128 ![0, 0] (p 2) slices_S256x128_o0_0_S128x128) (extractStridedSlice S128x128 ![0, 0] (p 3) slices_S256x128_o0_0_S128x128)⟩]
    concatenates_S128x128_S128x128_S128x256_d1
/-- The rows of the queries' own block, the four heads side by side. -/
def rowsHere (p : Fin 4 → FVec F S256x128 .f32) : FVec F S128x256 .f32 :=
  concatenate S128x256 1
    [⟨S128x128, select k0_pay5 (extractStridedSlice S128x128 ![128, 0] (p 0) slices_S256x128_o128_0_S128x128) (extractStridedSlice S128x128 ![128, 0] (p 1) slices_S256x128_o128_0_S128x128)⟩,
     ⟨S128x128, select k0_pay5 (extractStridedSlice S128x128 ![128, 0] (p 2) slices_S256x128_o128_0_S128x128) (extractStridedSlice S128x128 ![128, 0] (p 3) slices_S256x128_o128_0_S128x128)⟩]
    concatenates_S128x128_S128x128_S128x256_d1

/-- The stores of the queries' gradient, last first. -/
def dqOrder : List (Fin 2 × Fin 4 × Fin 2) :=
  [(1, 3, 1), (1, 3, 0), (1, 2, 1), (1, 2, 0), (1, 1, 1), (1, 1, 0), (1, 0, 1), (1, 0, 0),
   (0, 3, 1), (0, 3, 0), (0, 2, 1), (0, 2, 0), (0, 1, 1), (0, 1, 0), (0, 0, 1), (0, 0, 0)]
def dqPiece (p : Fin 2 × Fin 4 × Fin 2) : View.Piece (Elt F) S256x1024 .f32 :=
  ⟨Rect.unit ![128 * p.1.val, 128 * (2 * p.2.1.val + p.2.2.val)] S128x128.size (inb_tile p.1 ⟨2 * p.2.1.val + p.2.2.val, by omega⟩), X.dqTile p.1 p.2.1 p.2.2⟩

end Inputs

variable (m : (ℓ : Loc nD τ sig) → Buf (Elt F) ℓ) (c : Dev nD) (t : Fin cfg0.N)

/-- What the body reads at a point. -/
def inputs : Inputs F where
  word := BitVec.ofNat 32 (grid0.coords t 0).val
  sink h := (View.readAt (Elt F) (stg0 t).view (Rect.unit (s := S2x16) ![1, h.val] S1x1.size (inb_sink h)).toLoadRect ((whole0 t).unread (iblk m c 0 t)) : Vec F S1x1 .f32) (Shape.Idx.first (show 0 < Shape.numel S1x1 by decide))
  q blk h := View.readAt (Elt F) (stg1 t).view (Rect.unit (s := S256x2048) ![128 * blk.val, 128 * h.val] S128x128.size (inb_cut blk h)).toLoadRect ((whole1 t).unread (iblk m c 1 t))
  d blk h := View.readAt (Elt F) (stg2 t).view (Rect.unit (s := S256x2048) ![128 * blk.val, 128 * h.val] S128x128.size (inb_cut blk h)).toLoadRect ((whole2 t).unread (iblk m c 2 t))
  keysBefore kv := View.readAt (Elt F) (stg3 t).view (Rect.unit (s := S128x512) ![0, 128 * kv.val] S128x128.size (inb_before kv)).toLoadRect ((whole3 t).unread (iblk m c 3 t))
  keysFirst kv := View.readAt (Elt F) (stg4 t).view (Rect.unit (s := S256x512) ![0, 128 * kv.val] S128x128.size (inb_here kv)).toLoadRect ((whole4 t).unread (iblk m c 4 t))
  keysBoth kv := View.readAt (Elt F) (stg4 t).view (Rect.unit (s := S256x512) ![0, 128 * kv.val] S256x128.size (inb_both kv)).toLoadRect ((whole4 t).unread (iblk m c 4 t))
  valuesBefore kv := View.readAt (Elt F) (stg5 t).view (Rect.unit (s := S128x512) ![0, 128 * kv.val] S128x128.size (inb_before kv)).toLoadRect ((whole5 t).unread (iblk m c 5 t))
  valuesFirst kv := View.readAt (Elt F) (stg6 t).view (Rect.unit (s := S256x512) ![0, 128 * kv.val] S128x128.size (inb_here kv)).toLoadRect ((whole6 t).unread (iblk m c 6 t))
  valuesBoth kv := View.readAt (Elt F) (stg6 t).view (Rect.unit (s := S256x512) ![0, 128 * kv.val] S256x128.size (inb_both kv)).toLoadRect ((whole6 t).unread (iblk m c 6 t))

end Cert.Band

end
-- ==== Proof.Band.Mask.lean ====
/-
  The keys a query sees: of the 256 keys of the block before and of its own block, those up to itself and no more than 127
  back; where there is no block before, those of its own block alone.
-/
module

public import proofs.«01_k».proof.Proof.Gen.Kernel2Ideal.Skeleton
public import proofs.«01_k».proof.Proof.Band.Formula
public import Idealize.ShloMosaic.Lib.Pointwise
public import Idealize.ShloMosaic.Lib.ValueIdx
public import Idealize.ShloMosaic.Lib.WordCmp

@[expose] public section

noncomputable section

namespace Cert.Band

open Cert.Kernel2Ideal Cert.Kernel2Ideal.Gen
open Idealize.ShloMosaic Idealize.ShloMosaic.TcCoe Idealize.ShloMosaic.Tactic Idealize.ShloMosaic.WordCmp

theorem row_word (c : ℕ) : IntOp.andi (BitVec.ofNat 32 c) 127#32 = BitVec.ofNat 32 (c % 128) := by
  apply BitVec.eq_of_toNat_eq
  show ((BitVec.ofNat 32 c) &&& 127#32).toNat = _
  rw [BitVec.toNat_and, BitVec.toNat_ofNat, BitVec.toNat_ofNat, BitVec.toNat_ofNat]
  rw [show 127 % 2 ^ 32 = 2 ^ 7 - 1 by decide, Nat.and_two_pow_sub_one_eq_mod]
  omega

/-- The distance from the query back to the key, as a signed number. -/
theorem distance (r k : ℕ) (hr : r < 128) (hk : k < 256) :
    (IntOp.subi (IntOp.addi (128#32) (BitVec.ofNat 32 r)) (BitVec.ofNat 32 k)).toInt = 128 + (r : ℤ) - k := by
  show ((128#32 + BitVec.ofNat 32 r) - BitVec.ofNat 32 k).toInt = _
  have h1 : (BitVec.ofNat 32 k).toInt = k := toInt_ofNat_of_lt (by omega)
  have h2 : (BitVec.ofNat 32 r).toInt = r := toInt_ofNat_of_lt (by omega)
  have h3 : (128#32).toInt = 128 := by decide
  rw [BitVec.toInt_sub, BitVec.toInt_add, h1, h2, h3]
  rw [Int.bmod_eq_of_le (n := 128 + (r : ℤ)) (by omega) (by omega), Int.bmod_eq_of_le (by omega) (by omega)]

/-- The kernel's selection by its mask is the selection by what the query sees. -/
theorem mask_apply {A : Type} (n : ℕ) (hn : n < 2 ^ 31) (cl k : Fin 256) (a b : A) :
    Scalar.select
      (IntOp.andi
        (IntOp.andi
          (IntOp.cmpi .sge (IntOp.subi (IntOp.addi (128#32) (IntOp.andi (BitVec.ofNat 32 cl.val) 127#32)) (BitVec.ofNat 32 k.val)) 0#32)
          (IntOp.cmpi .slt (IntOp.subi (IntOp.addi (128#32) (IntOp.andi (BitVec.ofNat 32 cl.val) 127#32)) (BitVec.ofNat 32 k.val)) 128#32))
        (IntOp.cmpi .sge (BitVec.ofNat 32 k.val) (Scalar.select (Scalar.cmpi .sgt (BitVec.ofNat 32 n) 0#32) 0#32 128#32))) a b
    = if Seen (n = 0) (cl.val % 128) k.val then a else b := by
  have hk := k.isLt
  have hr : cl.val % 128 < 128 := Nat.mod_lt _ (by decide)
  have hs : Scalar.select (Scalar.cmpi .sgt (BitVec.ofNat 32 n) 0#32) 0#32 128#32 = BitVec.ofNat 32 (if n = 0 then 128 else 0) := by
    show Scalar.select (IntOp.cmpi .sgt (BitVec.ofNat 32 n) (BitVec.ofNat 32 0)) 0#32 128#32 = _
    rw [cmpi_sgt_eq, toInt_ofNat_of_lt (by omega), toInt_ofNat_of_lt (by omega)]
    rcases Nat.eq_zero_or_pos n with h | h
    · subst h; rfl
    · rw [if_neg (by omega), decide_eq_true (by omega)]; rfl
  have h1 : (BitVec.ofNat 32 k.val).toInt = k.val := toInt_ofNat_of_lt (by omega)
  have h2 : (BitVec.ofNat 32 (if n = 0 then 128 else 0)).toInt = ((if n = 0 then 128 else 0 : ℕ) : ℤ) := by split <;> rfl
  have h3 : (0#32).toInt = 0 := by decide
  have h4 : (128#32).toInt = 128 := by decide
  rw [hs, row_word, cmpi_sge_eq, cmpi_slt_eq, cmpi_sge_eq, distance _ _ hr hk, andi_ofBool, andi_ofBool, h1, h2, h3, h4]
  have hb : (decide ((0 : ℤ) ≤ 128 + ((cl.val % 128 : ℕ) : ℤ) - k.val) && decide (128 + ((cl.val % 128 : ℕ) : ℤ) - k.val < (128 : ℤ))
      && decide (((if n = 0 then 128 else 0 : ℕ) : ℤ) ≤ (k.val : ℤ))) = decide (Seen (n = 0) (cl.val % 128) k.val) := by
    rw [Bool.eq_iff_iff, decide_eq_true_eq]
    simp only [Bool.and_eq_true, decide_eq_true_eq]
    unfold Seen
    split_ifs with h <;> omega
  rw [hb]
  by_cases h : Seen (n = 0) (cl.val % 128) k.val
  · rw [if_pos h, decide_eq_true h]; rfl
  · rw [if_neg h, decide_eq_false h]; rfl

end Cert.Band

end
-- ==== Proof.Band.GroupValue.lean ====
/-
  What a group computes, over the real numbers.
-/
module

public import proofs.«01_k».proof.Proof.Band.Group
public import proofs.«01_k».proof.Proof.Band.Column
public import proofs.«01_k».proof.Proof.Band.Mask

@[expose] public section

noncomputable section

namespace Cert.Band

open Cert.Kernel2Ideal Cert.Kernel2Ideal.Gen
open Idealize.ShloMosaic Idealize.ShloMosaic.TcCoe Idealize.ShloMosaic.Tactic Idealize.ShloMosaic.WordCmp

/-- A group's inputs as real numbers: rows and lanes. -/
structure RealGroup where
  n : ℕ
  q : Fin 256 → Fin 128 → ℝ
  d : Fin 256 → Fin 128 → ℝ
  keys : Fin 256 → Fin 128 → ℝ
  values : Fin 256 → Fin 128 → ℝ
  sinkA : ℝ
  sinkB : ℝ

namespace RealGroup
variable (R : RealGroup)

abbrev ok (cl : Fin 256) (s : Fin 256) : Prop := Seen (R.n = 0) (cl.val % 128) s.val
def x (cl s : Fin 256) : ℝ := ∑ l, R.keys s l * R.q cl l
def y (cl s : Fin 256) : ℝ := ∑ l, R.values s l * R.d cl l
def σ (cl : Fin 256) : ℝ := if cl.val < 128 then R.sinkA else R.sinkB
def p (cl s : Fin 256) : ℝ := prob (R.ok cl) (R.x cl) (R.σ cl) s
def ds (cl s : Fin 256) : ℝ := dscore (R.ok cl) (R.x cl) (R.σ cl) (R.y cl) s
def dsink (cl : Fin 256) : ℝ := dsinkScore (R.ok cl) (R.x cl) (R.σ cl) (R.y cl)

/-- The group holds these numbers. -/
structure Holds (g : Group Ideal) : Prop where
  word : g.word = BitVec.ofNat 32 R.n
  small : R.n < 2 ^ 31
  q : ∀ r l, g.q (ix2 r l) = (R.q r l : EReal)
  d : ∀ r l, g.d (ix2 r l) = (R.d r l : EReal)
  keys : ∀ r l, g.keys (ix2 r l) = (R.keys r l : EReal)
  values : ∀ r l, g.values (ix2 r l) = (R.values r l : EReal)
  sinkA : g.sinkA = (R.sinkA : EReal)
  sinkB : g.sinkB = (R.sinkB : EReal)

end RealGroup

theorem coe_dot {n : ℕ} (f h : Fin n → ℝ) : (∑ l, (f l : EReal) * (h l : EReal)) = ((∑ l, f l * h l : ℝ) : EReal) := by
  rw [← coe_sum]; exact Finset.sum_congr rfl fun l _ => (EReal.coe_mul _ _).symm

variable {R : RealGroup} {g : Group Ideal} (hg : R.Holds g)

theorem prods_apply (u v : FVec Ideal S256x128 .bf16) (s cl : Fin 256) : Group.prods u v (ix2 s cl) = ∑ l : Fin 128, u (ix2 s l) * v (ix2 cl l) := by
  pointwise [Group.prods]

include hg

theorem scores_apply (s cl : Fin 256) : g.scores (ix2 s cl) = masked (R.ok cl) (R.x cl) s := by
  unfold Group.scores
  have h := prods_apply g.keys g.q s cl
  generalize Group.prods g.keys g.q = z at h ⊢
  pointwise [k0_pay17]
  rw [hg.word]
  refine (mask_apply R.n hg.small cl s _ _).trans ?_
  rw [h]
  simp only [hg.keys, hg.q, coe_dot]
  rfl

theorem sink_apply (cl : Fin 256) : k0_pay19 Group.firstHead g.sinkA g.sinkB (ix2 0 cl) = (R.σ cl : EReal) := by
  have hc := cl.isLt
  pointwise [k0_pay19, Group.firstHead, k0_pay18]
  rw [hg.sinkA, hg.sinkB]
  show Scalar.select (IntOp.cmpi .slt (BitVec.ofNat 32 cl.val) (BitVec.ofNat 32 128)) _ _ = _
  rw [cmpi_slt_eq, toInt_ofNat_of_lt (by omega), toInt_ofNat_of_lt (by omega)]
  unfold RealGroup.σ
  by_cases h : cl.val < 128
  · rw [if_pos h, decide_eq_true (by omega)]; rfl
  · rw [if_neg h, decide_eq_false (by omega)]; rfl

theorem dprobs_apply (s cl : Fin 256) : g.dprobs (ix2 s cl) = (R.y cl s : EReal) := by
  unfold Group.dprobs
  rw [prods_apply]
  simp only [hg.values, hg.d, coe_dot]
  rfl

/-- The number that is subtracted in a column. -/
theorem shift_apply (cl : Fin 256) : ∃ M : ℝ, k0_pay20 g.scores Group.firstHead g.sinkA g.sinkB (ix2 0 cl) = (M : EReal) := by
  obtain ⟨M, hM⟩ := max_real (R.ok cl) (R.x cl) (R.σ cl)
  refine ⟨M, ?_⟩
  rw [← hM, ← sink_apply hg cl]
  have hz := scores_apply hg
  generalize g.scores = z at hz ⊢
  simp only [← hz]
  unfold k0_pay20
  generalize k0_pay19 Group.firstHead g.sinkA g.sinkB = w
  pointwise []
  rfl

variable {cl : Fin 256} {M : ℝ} (hM : k0_pay20 g.scores Group.firstHead g.sinkA g.sinkB (ix2 0 cl) = (M : EReal))
include hM

theorem weights_apply (s : Fin 256) : k0_pay21 g.scores Group.firstHead g.sinkA g.sinkB (ix2 s cl)
    = ((weight (R.ok cl) (R.x cl) s * Real.exp (-M) : ℝ) : EReal) := by
  have hz := scores_apply hg s cl
  unfold k0_pay21
  generalize k0_pay20 g.scores Group.firstHead g.sinkA g.sinkB = w at hM ⊢
  generalize g.scores = z at hz ⊢
  pointwise []
  rw [hz, hM]
  exact exp_masked _ _ M s

theorem sinkWeight_apply : k0_pay22 g.scores Group.firstHead g.sinkA g.sinkB (ix2 0 cl)
    = ((Real.exp (R.σ cl) * Real.exp (-M) : ℝ) : EReal) := by
  have hz := sink_apply hg cl
  unfold k0_pay22
  generalize k0_pay20 g.scores Group.firstHead g.sinkA g.sinkB = w at hM ⊢
  generalize k0_pay19 Group.firstHead g.sinkA g.sinkB = z at hz ⊢
  pointwise []
  rw [hz, hM]
  exact exp_sink _ M

theorem inverse_apply : k0_pay23 g.scores Group.firstHead g.sinkA g.sinkB (ix2 0 cl)
    = ((1 / (total (R.ok cl) (R.x cl) (R.σ cl) * Real.exp (-M)) : ℝ) : EReal) := by
  have h1 := weights_apply hg hM
  have h2 := sinkWeight_apply hg hM
  unfold k0_pay23
  generalize k0_pay21 g.scores Group.firstHead g.sinkA g.sinkB = w at h1 ⊢
  generalize k0_pay22 g.scores Group.firstHead g.sinkA g.sinkB = z at h2 ⊢
  pointwise []
  rw [h2]
  simp only [h1]
  rw [denominator]
  rw [← EReal.coe_one]
  exact div_real _ _ (shifted_ne _ _ _ _)

omit hM

theorem probs_apply (s cl : Fin 256) : g.probs (ix2 s cl) = (R.p cl s : EReal) := by
  obtain ⟨M, hM⟩ := shift_apply hg cl
  have h1 := weights_apply hg hM s
  have h2 := inverse_apply hg hM
  unfold Group.probs k0_pay24
  generalize k0_pay21 g.scores Group.firstHead g.sinkA g.sinkB = w at h1 ⊢
  generalize k0_pay23 g.scores Group.firstHead g.sinkA g.sinkB = z at h2 ⊢
  pointwise []
  rw [h1, h2, ← EReal.coe_mul, shifted_mul_inv]
  rfl

theorem products_apply (s cl : Fin 256) : k0_pay25 g.dprobs g.scores Group.firstHead g.sinkA g.sinkB (ix2 s cl) = ((R.p cl s * R.y cl s : ℝ) : EReal) := by
  have h1 := probs_apply hg s cl
  have h2 := dprobs_apply hg s cl
  unfold Group.probs at h1
  unfold k0_pay25
  generalize k0_pay24 g.scores Group.firstHead g.sinkA g.sinkB = w at h1 ⊢
  generalize g.dprobs = z at h2 ⊢
  pointwise []
  rw [h1, h2, ← EReal.coe_mul]

theorem mean_apply (cl : Fin 256) : k0_pay26 g.dprobs g.scores Group.firstHead g.sinkA g.sinkB (ix2 0 cl)
    = (mean (R.ok cl) (R.x cl) (R.σ cl) (R.y cl) : EReal) := by
  have h1 := fun s => products_apply hg s cl
  unfold k0_pay26
  generalize k0_pay25 g.dprobs g.scores Group.firstHead g.sinkA g.sinkB = w at h1 ⊢
  pointwise []
  simp only [h1]
  rw [coe_sum]
  rfl

theorem dscores_apply (s cl : Fin 256) : g.dscores (ix2 s cl) = (R.ds cl s : EReal) := by
  have h1 := products_apply hg s cl
  have h2 := mean_apply hg cl
  have h3 := probs_apply hg s cl
  unfold Group.probs at h3
  unfold Group.dscores k0_pay27
  generalize k0_pay25 g.dprobs g.scores Group.firstHead g.sinkA g.sinkB = w at h1 ⊢
  generalize k0_pay26 g.dprobs g.scores Group.firstHead g.sinkA g.sinkB = z at h2 ⊢
  generalize k0_pay24 g.scores Group.firstHead g.sinkA g.sinkB = u at h3 ⊢
  pointwise []
  rw [h1, h2, h3, ← EReal.coe_mul, ← EReal.coe_sub]
  rfl

theorem sinkRow_apply (cl : Fin 256) : g.sinkRow (ix2 0 cl) = (R.dsink cl : EReal) := by
  obtain ⟨M, hM⟩ := shift_apply hg cl
  have h1 := sinkWeight_apply hg hM
  have h2 := inverse_apply hg hM
  have h3 := mean_apply hg cl
  unfold Group.sinkRow
  generalize k0_pay22 g.scores Group.firstHead g.sinkA g.sinkB = w at h1 ⊢
  generalize k0_pay23 g.scores Group.firstHead g.sinkA g.sinkB = z at h2 ⊢
  generalize k0_pay26 g.dprobs g.scores Group.firstHead g.sinkA g.sinkB = u at h3 ⊢
  pointwise []
  rw [h1, h2, h3, ← EReal.coe_mul, ← EReal.coe_mul, shifted_mul_inv]
  rfl

theorem dk_apply (s : Fin 256) (l : Fin 128) : g.dk (ix2 s l) = ((∑ cl, R.ds cl s * R.q cl l : ℝ) : EReal) := by
  have h1 := dscores_apply hg
  unfold Group.dscores at h1
  unfold Group.dk k0_pay29
  generalize k0_pay27 g.dprobs g.scores Group.firstHead g.sinkA g.sinkB = w at h1 ⊢
  pointwise []
  simp only [h1, hg.q, coe_dot]

theorem dv_apply (s : Fin 256) (l : Fin 128) : g.dv (ix2 s l) = ((∑ cl, R.p cl s * R.d cl l : ℝ) : EReal) := by
  have h1 := probs_apply hg
  unfold Group.probs at h1
  unfold Group.dv k0_pay30
  generalize k0_pay24 g.scores Group.firstHead g.sinkA g.sinkB = w at h1 ⊢
  pointwise []
  simp only [h1, hg.d, coe_dot]

theorem dq_apply (cl : Fin 256) (l : Fin 128) : g.dq (ix2 cl l) = ((∑ s, R.ds cl s * R.keys s l : ℝ) : EReal) := by
  have h1 := dscores_apply hg
  unfold Group.dscores at h1
  unfold Group.dq k0_pay31
  generalize k0_pay27 g.dprobs g.scores Group.firstHead g.sinkA g.sinkB = w at h1 ⊢
  pointwise []
  simp only [h1, hg.keys, coe_dot]

end Cert.Band

end
-- ==== Proof.Band.RealPoint.lean ====
/-
  The groups of a point, over the real numbers: each computes, for two heads, the probabilities and the gradients at the
  scores of its block of queries, and its products over 128 lanes are the products over a head's 64 lanes.
-/
module

public import proofs.«01_k».proof.Proof.Band.GroupValue

@[expose] public section

noncomputable section

namespace Cert.Band

/-- A sum over 128 lanes of which one half is zero. -/
theorem sum_half (f : Fin 64 → ℝ) (half : Fin 2) :
    ∑ l : Fin 128, (if l.val / 64 = half.val then f ⟨l.val % 64, by omega⟩ else 0) = ∑ l, f l := by
  rw [Idealize.ShloMosaic.Fin.sum_univ_tiles 2 64 rfl, Finset.sum_eq_single half]
  · refine Finset.sum_congr rfl fun l _ => ?_
    rw [if_pos (by show (half.val * 64 + l.val) / 64 = _; omega)]
    exact congrArg f (Fin.ext (by show (half.val * 64 + l.val) % 64 = _; omega))
  · intro j _ hj
    refine Finset.sum_eq_zero fun l _ => if_neg fun h => hj (Fin.ext ?_)
    have h' : (j.val * 64 + l.val) / 64 = half.val := h
    omega
  · exact fun h => absurd (Finset.mem_univ _) h

/-- A sum over the rows of two heads. -/
theorem sum_two_heads (f : Fin 2 → Fin 128 → ℝ) :
    ∑ cl : Fin 256, f ⟨cl.val / 128, by omega⟩ ⟨cl.val % 128, by omega⟩ = ∑ i, ∑ r, f i r := by
  rw [Idealize.ShloMosaic.Fin.sum_univ_tiles 2 128 rfl]
  refine Finset.sum_congr rfl fun i _ => Finset.sum_congr rfl fun r _ => congrArg₂ f (Fin.ext ?_) (Fin.ext ?_)
  · show (i.val * 128 + r.val) / 128 = _; omega
  · show (i.val * 128 + r.val) % 128 = _; omega

/-- Block `blk` of point `n`. -/
def blockOf (n : Fin 16) (blk : Fin 2) : Fin 32 := ⟨2 * n.val + blk.val, by omega⟩
/-- The row of the arrays that key `s` of a block's band is read from: before the first block, one of the first block. -/
def keyRow (b : Fin 32) (s : Fin 256) : Fin 4096 := ⟨if b.val = 0 then s.val % 128 else 128 * b.val + s.val - 128, by split <;> omega⟩

theorem band_seen (a : Fin 4096 → Fin 4 → Fin 64 → ℝ) (b : Fin 32) (s : Fin 256) (j : Fin 4) (l : Fin 64) (r : ℕ) (h : Seen (b.val = 0) r s.val) :
    a (keyRow b s) j l = band a b s j l := by
  unfold Seen at h
  unfold band keyRow
  rw [dif_pos (by omega)]
  refine congrArg (fun x => a x j l) (Fin.ext ?_)
  show (if b.val = 0 then s.val % 128 else 128 * b.val + s.val - 128) = 128 * b.val + s.val - 128
  split <;> omega

namespace Data
variable (D : Data)

/-- A group's inputs. -/
def group (n : Fin 16) (blk : Fin 2) (kv : Fin 4) (half : Fin 2) : RealGroup where
  n := if blk.val = 0 then n.val else 1
  q cl l := if l.val / 64 = half.val then D.q (rowAt (blockOf n blk) ⟨cl.val % 128, by omega⟩) (head kv ⟨cl.val / 128, by omega⟩ half) ⟨l.val % 64, by omega⟩ * (1 / 8) else 0
  d cl l := if l.val / 64 = half.val then D.d (rowAt (blockOf n blk) ⟨cl.val % 128, by omega⟩) (head kv ⟨cl.val / 128, by omega⟩ half) ⟨l.val % 64, by omega⟩ else 0
  keys s l := D.k (keyRow (blockOf n blk) s) kv ⟨l.val % 64, by omega⟩
  values s l := D.v (keyRow (blockOf n blk) s) kv ⟨l.val % 64, by omega⟩
  sinkA := D.s (head kv 0 half)
  sinkB := D.s (head kv 1 half)

theorem kvOf_head (kv : Fin 4) (i half : Fin 2) : kvOf (head kv i half) = kv := Fin.ext (by show (4 * kv.val + 2 * i.val + half.val) / 4 = _; omega)

variable (n : Fin 16) (blk : Fin 2) (kv : Fin 4) (half : Fin 2) (cl s : Fin 256)

theorem group_ok : (D.group n blk kv half).ok cl s ↔ ok (blockOf n blk) ⟨cl.val % 128, by omega⟩ s := by
  show Seen ((if blk.val = 0 then n.val else 1) = 0) _ _ ↔ Seen (2 * n.val + blk.val = 0) _ _
  have hb := blk.isLt
  unfold Seen
  dsimp only
  constructor
  · rintro ⟨h1, h2, h3⟩
    refine ⟨h1, h2, h3.imp_left fun h h' => h ?_⟩
    rw [if_pos (by omega)]; omega
  · rintro ⟨h1, h2, h3⟩
    refine ⟨h1, h2, h3.imp_left fun h h' => h ?_⟩
    split at h' <;> omega

theorem group_σ : (D.group n blk kv half).σ cl = D.s (head kv ⟨cl.val / 128, by omega⟩ half) := by
  have := cl.isLt
  unfold RealGroup.σ
  split
  · exact congrArg (fun i => D.s (head kv i half)) (Fin.ext (by show 0 = cl.val / 128; omega))
  · exact congrArg (fun i => D.s (head kv i half)) (Fin.ext (by show 1 = cl.val / 128; omega))

theorem group_x (h : (D.group n blk kv half).ok cl s) : (D.group n blk kv half).x cl s
    = D.score (blockOf n blk) (head kv ⟨cl.val / 128, by omega⟩ half) ⟨cl.val % 128, by omega⟩ s := by
  have hs := (D.group_ok n blk kv half cl s).mp h
  unfold RealGroup.x score
  rw [kvOf_head, Finset.sum_mul, ← sum_half _ half]
  refine Finset.sum_congr rfl fun l _ => ?_
  show D.k _ _ _ * (if _ then _ else _) = _
  rw [mul_ite, mul_zero, band_seen D.k (blockOf n blk) s kv _ _ hs]
  refine if_congr Iff.rfl ?_ rfl
  ring

theorem group_y (h : (D.group n blk kv half).ok cl s) : (D.group n blk kv half).y cl s
    = D.dprob (blockOf n blk) (head kv ⟨cl.val / 128, by omega⟩ half) ⟨cl.val % 128, by omega⟩ s := by
  have hs := (D.group_ok n blk kv half cl s).mp h
  unfold RealGroup.y dprob
  rw [kvOf_head, ← sum_half _ half]
  refine Finset.sum_congr rfl fun l _ => ?_
  show D.v _ _ _ * (if _ then _ else _) = _
  rw [mul_ite, mul_zero, band_seen D.v (blockOf n blk) s kv _ _ hs]
  refine if_congr Iff.rfl ?_ rfl
  ring

theorem group_p : (D.group n blk kv half).p cl s = D.P (blockOf n blk) (head kv ⟨cl.val / 128, by omega⟩ half) ⟨cl.val % 128, by omega⟩ s := by
  unfold RealGroup.p P
  rw [group_σ]
  exact prob_congr (fun s => D.group_ok n blk kv half cl s) (fun s h => D.group_x n blk kv half cl s h) s

theorem group_ds : (D.group n blk kv half).ds cl s = D.G (blockOf n blk) (head kv ⟨cl.val / 128, by omega⟩ half) ⟨cl.val % 128, by omega⟩ s := by
  unfold RealGroup.ds G
  rw [group_σ]
  exact dscore_congr (fun s => D.group_ok n blk kv half cl s) (fun s h => D.group_x n blk kv half cl s h) (fun s h => D.group_y n blk kv half cl s h) s

theorem group_dsink : (D.group n blk kv half).dsink cl = D.GS (blockOf n blk) (head kv ⟨cl.val / 128, by omega⟩ half) ⟨cl.val % 128, by omega⟩ := by
  unfold RealGroup.dsink GS
  rw [group_σ]
  exact dsinkScore_congr (fun s => D.group_ok n blk kv half cl s) (fun s h => D.group_x n blk kv half cl s h) (fun s h => D.group_y n blk kv half cl s h)

/-- The queries' gradient of a group. -/
theorem group_dq (l : Fin 128) : ∑ s, (D.group n blk kv half).ds cl s * (D.group n blk kv half).keys s l
    = D.dQ (blockOf n blk) ⟨cl.val % 128, by omega⟩ (head kv ⟨cl.val / 128, by omega⟩ half) ⟨l.val % 64, by omega⟩ := by
  unfold dQ
  refine Finset.sum_congr rfl fun s _ => ?_
  rw [group_ds, kvOf_head]
  by_cases hs : ok (blockOf n blk) ⟨cl.val % 128, by omega⟩ s
  · rw [← band_seen D.k (blockOf n blk) s kv _ _ hs]; rfl
  · have : D.G (blockOf n blk) (head kv ⟨cl.val / 128, by omega⟩ half) ⟨cl.val % 128, by omega⟩ s = 0 := dscore_masked _ _ _ _ _ hs
    rw [this, zero_mul, zero_mul]

/-- The two halves' keys' gradients, with the half turn added, are the band's. -/
theorem sum_halves (f : Fin 2 → Fin 2 → ℝ) (j : Fin 4 → ℝ) (hf : ∀ i half : Fin 2, f i half = j ⟨2 * i.val + half.val, by omega⟩) :
    (∑ i, f i 0) + ∑ i, f i 1 = ∑ i, j i := by
  rw [Fin.sum_univ_two, Fin.sum_univ_two, Fin.sum_univ_four, hf, hf, hf, hf]
  show j 0 + j 2 + (j 1 + j 3) = _
  ring

/-- A product of one parity's two heads, in lane `l`. -/
def parity (W : Fin 16 → Fin 128 → ℝ) (Z : Fin 16 → Fin 128 → Fin 64 → ℝ) (kv : Fin 4) (half : Fin 2) (l : Fin 128) : ℝ :=
  ∑ cl : Fin 256, W (head kv ⟨cl.val / 128, by omega⟩ half) ⟨cl.val % 128, by omega⟩
    * (if l.val / 64 = half.val then Z (head kv ⟨cl.val / 128, by omega⟩ half) ⟨cl.val % 128, by omega⟩ ⟨l.val % 64, by omega⟩ else 0)

theorem parity_eq (W : Fin 16 → Fin 128 → ℝ) (Z : Fin 16 → Fin 128 → Fin 64 → ℝ) (kv : Fin 4) (half : Fin 2) (l : Fin 128) :
    parity W Z kv half l = if l.val / 64 = half.val then ∑ i, ∑ r, W (head kv i half) r * Z (head kv i half) r ⟨l.val % 64, by omega⟩ else 0 := by
  unfold parity
  split
  · exact sum_two_heads fun i r => W (head kv i half) r * Z (head kv i half) r ⟨l.val % 64, by omega⟩
  · simp only [mul_zero, Finset.sum_const_zero]

/-- The two parities' products, with the half turn added, are the sum over the four heads. -/
theorem parities (W : Fin 16 → Fin 128 → ℝ) (Z : Fin 16 → Fin 128 → Fin 64 → ℝ) (kv : Fin 4) (l : Fin 128) :
    parity W Z kv 0 l + parity W Z kv 1 l + (parity W Z kv 0 ⟨(l.val + 128 - 64) % 128, by omega⟩ + parity W Z kv 1 ⟨(l.val + 128 - 64) % 128, by omega⟩)
      = ∑ i, ∑ r, W (headOf kv i) r * Z (headOf kv i) r ⟨l.val % 64, by omega⟩ := by
  have hl := l.isLt
  rw [← sum_halves (fun i half => ∑ r, W (head kv i half) r * Z (head kv i half) r ⟨l.val % 64, by omega⟩)
    (fun i => ∑ r, W (headOf kv i) r * Z (headOf kv i) r ⟨l.val % 64, by omega⟩) fun i half => by
      have : head kv i half = headOf kv ⟨2 * i.val + half.val, by omega⟩ := Fin.ext (by show 4 * kv.val + 2 * i.val + half.val = 4 * kv.val + (2 * i.val + half.val); omega)
      rw [this]]
  rw [parity_eq, parity_eq, parity_eq, parity_eq]
  have e : (⟨(⟨(l.val + 128 - 64) % 128, by omega⟩ : Fin 128).val % 64, by omega⟩ : Fin 64) = ⟨l.val % 64, by omega⟩ :=
    Fin.ext (by show (l.val + 128 - 64) % 128 % 64 = l.val % 64; omega)
  rw [e]
  dsimp only
  have z0 : (0 : Fin 2).val = 0 := rfl
  have z1 : (1 : Fin 2).val = 1 := rfl
  by_cases h : l.val < 64
  · rw [if_pos (by omega), if_neg (by omega), if_neg (by omega), if_pos (by omega)]; ring
  · rw [if_neg (by omega), if_pos (by omega), if_pos (by omega), if_neg (by omega)]; ring

/-- The keys' gradient of the two groups of a block and a head of keys. -/
theorem group_dk (l : Fin 128) : ∑ cl, (D.group n blk kv half).ds cl s * (D.group n blk kv half).q cl l
    = parity (fun h r => D.G (blockOf n blk) h r s) (fun h r l => D.q (rowAt (blockOf n blk) r) h l * (1 / 8)) kv half l := by
  unfold parity
  simp only [group_ds]
  rfl

theorem group_dv (l : Fin 128) : ∑ cl, (D.group n blk kv half).p cl s * (D.group n blk kv half).d cl l
    = parity (fun h r => D.P (blockOf n blk) h r s) (fun h r l => D.d (rowAt (blockOf n blk) r) h l) kv half l := by
  unfold parity
  simp only [group_p]
  rfl

end Data

end Cert.Band

end
-- ==== Proof.Band.Point.lean ====
/-
  What a point of the attention gradient reads, as real numbers: each of its groups holds the numbers of one block of queries,
  one head of keys and two heads of queries.
-/
module

public import proofs.«01_k».proof.Proof.Band.Entry
public import proofs.«01_k».proof.Proof.Band.RealPoint
public import Idealize.ShloMosaic.Lib.Pipeline.Value
public import Idealize.ShloMosaic.Lib.Pipeline.ValueKit

@[expose] public section

noncomputable section

namespace Cert.Band

open Cert.Kernel2Ideal Cert.Kernel2Ideal.Gen
open Idealize.ShloMosaic Idealize.ShloMosaic.TcCoe Idealize.ShloMosaic.Tactic Idealize.SL.Sem

/-- An index of a rank-2 array is known by its two coordinates. -/
theorem at_rows {A B : ℕ} {α : Type*} (v : (⟨2, ![A, B]⟩ : Shape).Idx → α) (j : (⟨2, ![A, B]⟩ : Shape).Idx) (r : Fin A) (d : Fin B)
    (h0 : (j 0).val = r.val) (h1 : (j 1).val = d.val) : v j = v (ix2 r d) :=
  congrArg v (funext fun a => Fin.ext (match a with | ⟨0, _⟩ => h0 | ⟨1, _⟩ => h1))

/-- A load from a buffer that holds `X`. -/
theorem load_apply {κ : Kind} {sp : Space} {e : EltTy} {A B A' B' : ℕ} (M : Memref sig κ sp ⟨2, ![A, B]⟩ e) (hM : M.IsWhole)
    (X : (⟨2, ![A, B]⟩ : Shape).Idx → Elt Ideal e) (off : Fin 2 → ℕ) (inb : ∀ a, off a + (![A', B'] : Fin 2 → ℕ) a ≤ (![A, B] : Fin 2 → ℕ) a)
    (r : Fin A') (l : Fin B') (r' : Fin A) (l' : Fin B) (h0 : r'.val = off 0 + r.val) (h1 : l'.val = off 1 + l.val) :
    (View.readAt (Elt Ideal) M.view (Rect.unit (s := ⟨2, ![A, B]⟩) off ![A', B'] inb).toLoadRect (hM.unread X) : (⟨2, ![A', B']⟩ : Shape).Idx → Elt Ideal e) (ix2 r l)
      = X (ix2 r' l') := by
  rw [View.readAt_eq_ld, hM.read_unread, View.ld_unit]
  exact at_rows X _ _ _ h0.symm h1.symm

variable (m : (ℓ : Loc nD τ sig) → Buf (Elt Ideal) ℓ) (c : Dev nD)

theorem index_sinks : ∀ t : Fin cfg0.N, win0_0.index t 0 = 0 ∧ win0_0.index t 1 = 0 :=
  (by decide +kernel : ∀ t : Fin grid0.N, _)

theorem index_blocks : ∀ t : Fin cfg0.N, t.val < 16 →
    (win0_1.index t 0 = t.val ∧ win0_1.index t 1 = 0) ∧ (win0_2.index t 0 = t.val ∧ win0_2.index t 1 = 0)
    ∧ (win0_3.index t 0 = 2 * t.val - 1 ∧ win0_3.index t 1 = 0) ∧ (win0_4.index t 0 = t.val ∧ win0_4.index t 1 = 0)
    ∧ (win0_5.index t 0 = 2 * t.val - 1 ∧ win0_5.index t 1 = 0) ∧ (win0_6.index t 0 = t.val ∧ win0_6.index t 1 = 0) :=
  (by decide +kernel : ∀ t : Fin grid0.N, t.val < 16 → _)

variable (t : Fin cfg0.N)

section
variable (ht : t.val < 16)
include ht

theorem iblk1_apply (r : Fin 256) (l : Fin 2048) : (iblk m c 1 t : FVec Ideal S256x2048 .bf16) (ix2 r l) = (V m c main_v12 : FVec Ideal S4096x2048 .bf16) (ix2 ⟨256 * t.val + r.val, by omega⟩ l) :=
  at_rows (V m c main_v12) _ _ _
    (by show win0_1.index t 0 * 256 + 1 * r.val = 256 * t.val + r.val; rw [(index_blocks t ht).1.1]; omega)
    (by show win0_1.index t 1 * 2048 + 1 * l.val = l.val; rw [(index_blocks t ht).1.2]; omega)
theorem iblk2_apply (r : Fin 256) (l : Fin 2048) : (iblk m c 2 t : FVec Ideal S256x2048 .bf16) (ix2 r l) = (V m c main_v23 : FVec Ideal S4096x2048 .bf16) (ix2 ⟨256 * t.val + r.val, by omega⟩ l) :=
  at_rows (V m c main_v23) _ _ _
    (by show win0_2.index t 0 * 256 + 1 * r.val = 256 * t.val + r.val; rw [(index_blocks t ht).2.1.1]; omega)
    (by show win0_2.index t 1 * 2048 + 1 * l.val = l.val; rw [(index_blocks t ht).2.1.2]; omega)
theorem iblk3_apply (r : Fin 128) (l : Fin 512) : (iblk m c 3 t : FVec Ideal S128x512 .bf16) (ix2 r l) = (V m c main_v26 : FVec Ideal S4096x512 .bf16) (ix2 ⟨128 * (2 * t.val - 1) + r.val, by omega⟩ l) :=
  at_rows (V m c main_v26) _ _ _
    (by show win0_3.index t 0 * 128 + 1 * r.val = 128 * (2 * t.val - 1) + r.val; rw [(index_blocks t ht).2.2.1.1]; omega)
    (by show win0_3.index t 1 * 512 + 1 * l.val = l.val; rw [(index_blocks t ht).2.2.1.2]; omega)
theorem iblk4_apply (r : Fin 256) (l : Fin 512) : (iblk m c 4 t : FVec Ideal S256x512 .bf16) (ix2 r l) = (V m c main_v26 : FVec Ideal S4096x512 .bf16) (ix2 ⟨256 * t.val + r.val, by omega⟩ l) :=
  at_rows (V m c main_v26) _ _ _
    (by show win0_4.index t 0 * 256 + 1 * r.val = 256 * t.val + r.val; rw [(index_blocks t ht).2.2.2.1.1]; omega)
    (by show win0_4.index t 1 * 512 + 1 * l.val = l.val; rw [(index_blocks t ht).2.2.2.1.2]; omega)
theorem iblk5_apply (r : Fin 128) (l : Fin 512) : (iblk m c 5 t : FVec Ideal S128x512 .bf16) (ix2 r l) = (V m c main_v29 : FVec Ideal S4096x512 .bf16) (ix2 ⟨128 * (2 * t.val - 1) + r.val, by omega⟩ l) :=
  at_rows (V m c main_v29) _ _ _
    (by show win0_5.index t 0 * 128 + 1 * r.val = 128 * (2 * t.val - 1) + r.val; rw [(index_blocks t ht).2.2.2.2.1.1]; omega)
    (by show win0_5.index t 1 * 512 + 1 * l.val = l.val; rw [(index_blocks t ht).2.2.2.2.1.2]; omega)
theorem iblk6_apply (r : Fin 256) (l : Fin 512) : (iblk m c 6 t : FVec Ideal S256x512 .bf16) (ix2 r l) = (V m c main_v29 : FVec Ideal S4096x512 .bf16) (ix2 ⟨256 * t.val + r.val, by omega⟩ l) :=
  at_rows (V m c main_v29) _ _ _
    (by show win0_6.index t 0 * 256 + 1 * r.val = 256 * t.val + r.val; rw [(index_blocks t ht).2.2.2.2.2.1]; omega)
    (by show win0_6.index t 1 * 512 + 1 * l.val = l.val; rw [(index_blocks t ht).2.2.2.2.2.2]; omega)

end

/-- The program's arguments are these real numbers. -/
structure Data.Holds (D : Data) : Prop where
  q : ∀ r h d, argQ m c (ix3 r h d) = (D.q r h d : EReal)
  k : ∀ r j d, argK m c (ix3 r j d) = (D.k r j d : EReal)
  v : ∀ r j d, argV m c (ix3 r j d) = (D.v r j d : EReal)
  s : ∀ h, argS m c (ix2 1 h) = (D.s h : EReal)
  d : ∀ r h d, argD m c (ix3 r h d) = (D.d r h d : EReal)

variable {m c} {D : Data} (hD : D.Holds m c)
include hD

theorem inputs_sink (h : Fin 16) : (inputs m c t).sink h = (D.s h : EReal) := by
  have e : argS m c = V m c main_arg3 := (V_main_arg3 m c).symm
  rw [← hD.s, e]
  have e2 : Shape.Idx.first (show 0 < Shape.numel S1x1 by decide) = (ix2 0 0 : (⟨2, ![1, 1]⟩ : Shape).Idx) := funext fun a => by fin_cases a <;> rfl
  refine (congrArg (View.readAt (Elt Ideal) (stg0 t).view (Rect.unit (s := S2x16) ![1, h.val] S1x1.size (inb_sink h)).toLoadRect ((whole0 t).unread (iblk m c 0 t)) : Vec Ideal S1x1 .f32) e2).trans ?_
  refine (load_apply (A' := 1) (B' := 1) (stg0 t) (whole0 t) (iblk m c 0 t) ![1, h.val] (inb_sink h) 0 0 1 h rfl rfl).trans ?_
  refine at_rows (V m c main_arg3) _ _ _ ?_ ?_
  · show win0_0.index t 0 * 2 + 1 * 1 = 1
    rw [(index_sinks t).1]
  · show win0_0.index t 1 * 16 + 1 * h.val = h.val
    rw [(index_sinks t).2]; omega

theorem inputs_q (ht : t.val < 16) (blk : Fin 2) (h : Fin 16) (r l : Fin 128) : (inputs m c t).q blk h (ix2 r l)
    = ((if l.val / 64 = h.val % 2 then D.q (rowAt (blockOf ⟨t.val, ht⟩ blk) r) h ⟨l.val % 64, by omega⟩ * (1 / 8) else 0 : ℝ) : EReal) := by
  refine (load_apply (A' := 128) (B' := 128) (stg1 t) (whole1 t) (iblk m c 1 t) _ _ r l ⟨128 * blk.val + r.val, by omega⟩ ⟨128 * h.val + l.val, by omega⟩ rfl rfl).trans ?_
  rw [iblk1_apply m c t ht, query_entry, hD.q, ← EReal.coe_mul]
  split
  · exact congrArg (fun x => ((D.q x h _ * (1 / 8) : ℝ) : EReal)) (Fin.ext (by show 256 * t.val + (128 * blk.val + r.val) = 128 * (2 * t.val + blk.val) + r.val; omega))
  · rfl

theorem inputs_d (ht : t.val < 16) (blk : Fin 2) (h : Fin 16) (r l : Fin 128) : (inputs m c t).d blk h (ix2 r l)
    = ((if l.val / 64 = h.val % 2 then D.d (rowAt (blockOf ⟨t.val, ht⟩ blk) r) h ⟨l.val % 64, by omega⟩ else 0 : ℝ) : EReal) := by
  refine (load_apply (A' := 128) (B' := 128) (stg2 t) (whole2 t) (iblk m c 2 t) _ _ r l ⟨128 * blk.val + r.val, by omega⟩ ⟨128 * h.val + l.val, by omega⟩ rfl rfl).trans ?_
  rw [iblk2_apply m c t ht, cotangent_entry, hD.d]
  split
  · exact congrArg (fun x => ((D.d x h _ : ℝ) : EReal)) (Fin.ext (by show 256 * t.val + (128 * blk.val + r.val) = 128 * (2 * t.val + blk.val) + r.val; omega))
  · rfl

omit hD in
theorem seen_apply (ht : t.val < 16) (u v : Vec Ideal S128x128 .bf16) (w : Vec Ideal S256x128 .bf16) (a : Fin 4096 → EReal) (l : Fin 128)
    (hu : ∀ s : Fin 128, u (ix2 s l) = a ⟨128 * (2 * t.val - 1) + s.val, by omega⟩) (hv : ∀ s : Fin 128, v (ix2 s l) = a ⟨256 * t.val + s.val, by omega⟩)
    (hw : ∀ s : Fin 256, w (ix2 s l) = a ⟨256 * t.val + s.val, by omega⟩) (blk : Fin 2) (s : Fin 256) :
    seen u v w blk (ix2 s l) = a (keyRow (blockOf ⟨t.val, ht⟩ blk) s) := by
  have hs := s.isLt
  fin_cases blk
  · show k0_pay6 u v (ix2 s l) = _
    pointwise [k0_pay6]
    by_cases h : s.val < 128
    · rw [dif_pos h, hu]
      refine congrArg a (Fin.ext ?_)
      show 128 * (2 * t.val - 1) + s.val = if 2 * t.val + 0 = 0 then s.val % 128 else 128 * (2 * t.val + 0) + s.val - 128
      split <;> omega
    · rw [dif_neg h, hv]
      refine congrArg a (Fin.ext ?_)
      show 256 * t.val + (s.val - 128) = if 2 * t.val + 0 = 0 then s.val % 128 else 128 * (2 * t.val + 0) + s.val - 128
      split <;> omega
  · show shapeCast S256x128 w shapeCasts_S256x128_S256x128 (ix2 s l) = _
    pointwise []
    rw [hw]
    refine congrArg a (Fin.ext ?_)
    show 256 * t.val + s.val = if 2 * t.val + 1 = 0 then s.val % 128 else 128 * (2 * t.val + 1) + s.val - 128
    split <;> omega

theorem seen_keys (ht : t.val < 16) (blk : Fin 2) (kv : Fin 4) (s : Fin 256) (l : Fin 128) :
    seen ((inputs m c t).keysBefore kv) ((inputs m c t).keysFirst kv) ((inputs m c t).keysBoth kv) blk (ix2 s l)
      = (D.k (keyRow (blockOf ⟨t.val, ht⟩ blk) s) kv ⟨l.val % 64, by omega⟩ : EReal) :=
  seen_apply t ht _ _ _ (fun r => (D.k r kv ⟨l.val % 64, by omega⟩ : EReal)) l
    (fun s => (load_apply (A' := 128) (B' := 128) (stg3 t) (whole3 t) (iblk m c 3 t) _ _ s l s ⟨128 * kv.val + l.val, by omega⟩ (by show s.val = 0 + s.val; omega) rfl).trans
      ((iblk3_apply m c t ht _ _).trans ((keys_entry m c _ kv l).trans (hD.k _ _ _))))
    (fun s => (load_apply (A' := 128) (B' := 128) (stg4 t) (whole4 t) (iblk m c 4 t) _ _ s l ⟨s.val, by omega⟩ ⟨128 * kv.val + l.val, by omega⟩ (by show s.val = 0 + s.val; omega) rfl).trans
      ((iblk4_apply m c t ht _ _).trans ((keys_entry m c _ kv l).trans (hD.k _ _ _))))
    (fun s => (load_apply (A' := 256) (B' := 128) (stg4 t) (whole4 t) (iblk m c 4 t) _ _ s l s ⟨128 * kv.val + l.val, by omega⟩ (by show s.val = 0 + s.val; omega) rfl).trans
      ((iblk4_apply m c t ht _ _).trans ((keys_entry m c _ kv l).trans (hD.k _ _ _)))) blk s

theorem seen_values (ht : t.val < 16) (blk : Fin 2) (kv : Fin 4) (s : Fin 256) (l : Fin 128) :
    seen ((inputs m c t).valuesBefore kv) ((inputs m c t).valuesFirst kv) ((inputs m c t).valuesBoth kv) blk (ix2 s l)
      = (D.v (keyRow (blockOf ⟨t.val, ht⟩ blk) s) kv ⟨l.val % 64, by omega⟩ : EReal) :=
  seen_apply t ht _ _ _ (fun r => (D.v r kv ⟨l.val % 64, by omega⟩ : EReal)) l
    (fun s => (load_apply (A' := 128) (B' := 128) (stg5 t) (whole5 t) (iblk m c 5 t) _ _ s l s ⟨128 * kv.val + l.val, by omega⟩ (by show s.val = 0 + s.val; omega) rfl).trans
      ((iblk5_apply m c t ht _ _).trans ((values_entry m c _ kv l).trans (hD.v _ _ _))))
    (fun s => (load_apply (A' := 128) (B' := 128) (stg6 t) (whole6 t) (iblk m c 6 t) _ _ s l ⟨s.val, by omega⟩ ⟨128 * kv.val + l.val, by omega⟩ (by show s.val = 0 + s.val; omega) rfl).trans
      ((iblk6_apply m c t ht _ _).trans ((values_entry m c _ kv l).trans (hD.v _ _ _))))
    (fun s => (load_apply (A' := 256) (B' := 128) (stg6 t) (whole6 t) (iblk m c 6 t) _ _ s l s ⟨128 * kv.val + l.val, by omega⟩ (by show s.val = 0 + s.val; omega) rfl).trans
      ((iblk6_apply m c t ht _ _).trans ((values_entry m c _ kv l).trans (hD.v _ _ _)))) blk s

omit hD in
/-- Two heads' rows one below the other. -/
theorem stacked_apply (u v : Vec Ideal S128x128 .bf16) (a : Fin 2 → Fin 128 → ℝ) (l : Fin 128) (hu : ∀ r : Fin 128, u (ix2 r l) = (a 0 r : EReal))
    (hv : ∀ r : Fin 128, v (ix2 r l) = (a 1 r : EReal)) (cl : Fin 256) : k0_pay6 u v (ix2 cl l) = (a ⟨cl.val / 128, by omega⟩ ⟨cl.val % 128, by omega⟩ : EReal) := by
  have hc := cl.isLt
  pointwise [k0_pay6]
  by_cases h : cl.val < 128
  · rw [dif_pos h, hu]
    exact congrArg₂ (fun x y => (a x y : EReal)) (Fin.ext (by show 0 = cl.val / 128; omega)) (Fin.ext (by show cl.val = cl.val % 128; omega))
  · rw [dif_neg h, hv]
    exact congrArg₂ (fun x y => (a x y : EReal)) (Fin.ext (by show 1 = cl.val / 128; omega)) (Fin.ext (by show cl.val - 128 = cl.val % 128; omega))

omit hD in
theorem head_parity (kv : Fin 4) (i half : Fin 2) : (head kv i half).val % 2 = half.val := by
  show (4 * kv.val + 2 * i.val + half.val) % 2 = half.val; omega

/-- A group of a point holds the numbers of its block and its heads. -/
theorem inputs_group (ht : t.val < 16) (blk : Fin 2) (kv : Fin 4) (half : Fin 2) :
    (D.group ⟨t.val, ht⟩ blk kv half).Holds ((inputs m c t).group blk kv half) where
  word := by
    have hw : BitVec.ofNat 32 (grid0.coords t 0).val = BitVec.ofNat 32 t.val :=
      congrArg (BitVec.ofNat 32) ((by decide +kernel : ∀ t : Fin grid0.N, (grid0.coords t 0).val = t.val) t)
    fin_cases blk
    · exact hw
    · rfl
  small := by
    show (if blk.val = 0 then t.val else 1) < 2 ^ 31
    split <;> omega
  q cl l := by
    refine (stacked_apply _ _ (fun i r => if l.val / 64 = half.val then D.q (rowAt (blockOf ⟨t.val, ht⟩ blk) r) (head kv i half) ⟨l.val % 64, by omega⟩ * (1 / 8) else 0) l
      (fun r => ?_) (fun r => ?_) cl).trans rfl
    · rw [inputs_q t hD ht, head_parity]
    · rw [inputs_q t hD ht, head_parity]
  d cl l := by
    refine (stacked_apply _ _ (fun i r => if l.val / 64 = half.val then D.d (rowAt (blockOf ⟨t.val, ht⟩ blk) r) (head kv i half) ⟨l.val % 64, by omega⟩ else 0) l
      (fun r => ?_) (fun r => ?_) cl).trans rfl
    · rw [inputs_d t hD ht, head_parity]
    · rw [inputs_d t hD ht, head_parity]
  keys s l := seen_keys t hD ht blk kv s l
  values s l := seen_values t hD ht blk kv s l
  sinkA := inputs_sink t hD _
  sinkB := inputs_sink t hD _

end Cert.Band

end
-- ==== Proof.Band.Block.lean ====
/-
  What a point of the attention gradient leaves in its blocks and scratch buffers, in the uniform words.
-/
module

public import proofs.«01_k».proof.Proof.Band.Group
public import Idealize.ShloMosaic.Lib.Pipeline.Value
public import Idealize.ShloMosaic.Lib.Pipeline.ValueKit

@[expose] public section

set_option maxRecDepth 16384

noncomputable section

namespace Cert.Band

open Cert.Kernel2Ideal Cert.Kernel2Ideal.Gen
open Idealize.ShloMosaic Idealize.ShloMosaic.TcCoe Idealize.ShloMosaic.Tactic

variable {F : FTy → Type} [FloatOps F] [Named F]
variable (m : (ℓ : Loc nD τ sig) → Buf (Elt F) ℓ) (c : Dev nD) (t : Fin cfg0.N)

theorem zero2 : (![0, 0] : Fin 2 → Nat) = fun _ => 0 := funext fun a => by fin_cases a <;> rfl
theorem zero3 : (![0, 0, 0] : Fin 3 → Nat) = fun _ => 0 := funext fun a => by fin_cases a <;> rfl

namespace Inputs
variable (X : Inputs F)

/-- The keys' gradient of the first block, complete. -/
def evenK : FVec F S1x128x256 .f32 := shapeCast S1x128x256 (addf (rowsHere (X.dkFull 0)) (rowsBefore (X.dkFull 1))) shapeCasts_S128x256_S1x128x256
/-- The values' gradient of the first block, complete. -/
def evenV : FVec F S1x128x256 .bf16 :=
  shapeCast S1x128x256 (truncf .bf16 (addf (rowsHere (X.dvFull 0)) (rowsBefore (X.dvFull 1))) bitsLt_bf16_f32) shapeCasts_S128x256_S1x128x256
/-- The keys' gradient of the block before, from what the point before kept. -/
def oddK (old : FVec F S128x256 .f32) : FVec F S1x128x256 .f32 := shapeCast S1x128x256 (addf old (rowsBefore (X.dkFull 0))) shapeCasts_S128x256_S1x128x256
/-- The values' gradient of the block before, from what the point before kept. -/
def oddV (old : FVec F S128x256 .f32) : FVec F S1x128x256 .bf16 :=
  shapeCast S1x128x256 (truncf .bf16 (addf old (rowsBefore (X.dvFull 0))) bitsLt_bf16_f32) shapeCasts_S128x256_S1x128x256
/-- What is kept of the keys' gradient for the point after. -/
def keepK : FVec F S128x256 .f32 := shapeCast S128x256 (rowsHere (X.dkFull 1)) shapeCasts_S128x256_S128x256
/-- What is kept of the values' gradient for the point after. -/
def keepV : FVec F S128x256 .f32 := shapeCast S128x256 (rowsHere (X.dvFull 1)) shapeCasts_S128x256_S128x256

theorem inb_row (r : Fin 8) : ∀ a : Fin 2, (![r.val, 0] : Fin 2 → ℕ) a + S1x256.size a ≤ S8x256.size a := by
  have := r.isLt
  intro a; fin_cases a
  · show r.val + 1 ≤ 8; omega
  · show 0 + 256 ≤ 256; omega
/-- A row of the sinks' sums. -/
abbrev rowRect (r : Fin 8) : Rect S8x256 := Rect.unit (s := S8x256) ![r.val, 0] S1x256.size (inb_row r)
/-- A row of the sinks' sums after a block of queries. -/
def newRow (blk : Fin 2) (r : Fin 8) (old : Vec F S1x256 .f32) : FVec F S1x256 .f32 :=
  shapeCast S1x256 (subf old (X.group blk ⟨r.val / 2, by omega⟩ ⟨r.val % 2, by omega⟩).sinkRow) shapeCasts_S1x256_S1x256
/-- One more row stored, read back first. -/
def withRow (blk : Fin 2) (L : List (View.Piece (Elt F) S8x256 .f32)) (r : Fin 8) : List (View.Piece (Elt F) S8x256 .f32) :=
  ⟨rowRect r, X.newRow blk r (scr17.view.readCov L (rowRect r).toLoadRect)⟩ :: L
def rows : List (Fin 8) := [0, 1, 2, 3, 4, 5, 6, 7]
/-- The rows after the first block, last first, from the sums of the point before. -/
def firstRows (s : Vec F S8x256 .f32) : List (View.Piece (Elt F) S8x256 .f32) :=
  rows.reverse.map fun r => ⟨rowRect r, X.newRow 0 r (View.readAt (Elt F) scr17.view (rowRect r).toLoadRect ((Memref.isWhole_whole _).unread s))⟩

end Inputs

set_option maxHeartbeats 2000000

theorem pieces_first_dq (h : t.val = 0) : (atFirst m c t h).1 = Inputs.dqOrder.map (inputs m c t).dqPiece := by
  unfold atFirst runFirst; dsimp only; sl_kernel_rfl
theorem pieces_inside_dq (h : t.val ≠ 0) (h' : t.val < 16) (s : State F) :
    (atInside m c t h h' s).1 = Inputs.dqOrder.map (inputs m c t).dqPiece := by
  unfold atInside runInside; dsimp only; sl_kernel_rfl

theorem pieces_first_dkEven (h : t.val = 0) :
    (atFirst m c t h).2.1 = [⟨Rect.unit ![0, 0, 0] S1x128x256.size inb_S1x128x256_S1x128x256_0_0_0, (inputs m c t).evenK⟩] := by
  unfold atFirst runFirst; dsimp only; sl_kernel_rfl
theorem pieces_inside_dkEven (h : t.val ≠ 0) (h' : t.val < 16) (s : State F) :
    (atInside m c t h h' s).2.1 = [⟨Rect.unit ![0, 0, 0] S1x128x256.size inb_S1x128x256_S1x128x256_0_0_0, (inputs m c t).evenK⟩] := by
  unfold atInside runInside; dsimp only; sl_kernel_rfl

theorem pieces_inside_dkOdd (h : t.val ≠ 0) (h' : t.val < 16) (s : State F) :
    (atInside m c t h h' s).2.2.1 = [⟨Rect.unit ![0, 0, 0] S1x128x256.size inb_S1x128x256_S1x128x256_0_0_0,
      (inputs m c t).oddK (View.readAt (Elt F) scr15.view (Rect.unit (s := S128x256) ![0, 0] S128x256.size inb_S128x256_S128x256_0_0).toLoadRect ((Memref.isWhole_whole _).unread s.carryK))⟩] := by
  unfold atInside runInside; dsimp only; sl_kernel_rfl

theorem pieces_first_dvEven (h : t.val = 0) :
    (atFirst m c t h).2.2.2.1 = [⟨Rect.unit ![0, 0, 0] S1x128x256.size inb_S1x128x256_S1x128x256_0_0_0, (inputs m c t).evenV⟩] := by
  unfold atFirst runFirst; dsimp only; sl_kernel_rfl
theorem pieces_inside_dvEven (h : t.val ≠ 0) (h' : t.val < 16) (s : State F) :
    (atInside m c t h h' s).2.2.2.1 = [⟨Rect.unit ![0, 0, 0] S1x128x256.size inb_S1x128x256_S1x128x256_0_0_0, (inputs m c t).evenV⟩] := by
  unfold atInside runInside; dsimp only; sl_kernel_rfl

theorem pieces_inside_dvOdd (h : t.val ≠ 0) (h' : t.val < 16) (s : State F) :
    (atInside m c t h h' s).2.2.2.2.1 = [⟨Rect.unit ![0, 0, 0] S1x128x256.size inb_S1x128x256_S1x128x256_0_0_0,
      (inputs m c t).oddV (View.readAt (Elt F) scr16.view (Rect.unit (s := S128x256) ![0, 0] S128x256.size inb_S128x256_S128x256_0_0).toLoadRect ((Memref.isWhole_whole _).unread s.carryV))⟩] := by
  unfold atInside runInside; dsimp only; sl_kernel_rfl

theorem pieces_first_carryK (h : t.val = 0) :
    (atFirst m c t h).2.2.2.2.2.1 = ⟨Rect.unit ![0, 0] S128x256.size inb_S128x256_S128x256_0_0, (inputs m c t).keepK⟩ :: [⟨Rect.unit ![0, 0] S128x256.size inb_S128x256_S128x256_0_0, k0_pay1⟩] := by
  unfold atFirst runFirst; dsimp only; sl_kernel_rfl
theorem pieces_inside_carryK (h : t.val ≠ 0) (h' : t.val < 16) (s : State F) :
    (atInside m c t h h' s).2.2.2.2.2.1 = [⟨Rect.unit ![0, 0] S128x256.size inb_S128x256_S128x256_0_0, (inputs m c t).keepK⟩] := by
  unfold atInside runInside; dsimp only; sl_kernel_rfl
theorem pieces_first_carryV (h : t.val = 0) :
    (atFirst m c t h).2.2.2.2.2.2.1 = ⟨Rect.unit ![0, 0] S128x256.size inb_S128x256_S128x256_0_0, (inputs m c t).keepV⟩ :: [⟨Rect.unit ![0, 0] S128x256.size inb_S128x256_S128x256_0_0, k0_pay2⟩] := by
  unfold atFirst runFirst; dsimp only; sl_kernel_rfl
theorem pieces_inside_carryV (h : t.val ≠ 0) (h' : t.val < 16) (s : State F) :
    (atInside m c t h h' s).2.2.2.2.2.2.1 = [⟨Rect.unit ![0, 0] S128x256.size inb_S128x256_S128x256_0_0, (inputs m c t).keepV⟩] := by
  unfold atInside runInside; dsimp only; sl_kernel_rfl

theorem pieces_inside_sums (h : t.val ≠ 0) (h' : t.val < 16) (s : State F) :
    (atInside m c t h h' s).2.2.2.2.2.2.2.1 = Inputs.rows.foldl ((inputs m c t).withRow 1) ((inputs m c t).firstRows s.sums) := by
  unfold atInside runInside; dsimp only; sl_kernel_rfl
theorem pieces_first_sums (h : t.val = 0) :
    (atFirst m c t h).2.2.2.2.2.2.2.1 = Inputs.rows.foldl ((inputs m c t).withRow 1)
      (Inputs.rows.foldl ((inputs m c t).withRow 0) [⟨Rect.unit ![0, 0] S8x256.size inb_S8x256_S8x256_0_0, k0_pay3⟩]) := by
  unfold atFirst runFirst; dsimp only; sl_kernel_rfl

end Cert.Band

end
-- ==== Proof.Band.PointValue.lean ====
/-
  What a point of the attention gradient computes, as real numbers.
-/
module

public import proofs.«01_k».proof.Proof.Band.Point
public import proofs.«01_k».proof.Proof.Band.Block

@[expose] public section

noncomputable section

namespace Cert.Band

open Cert.Kernel2Ideal Cert.Kernel2Ideal.Gen
open Idealize.ShloMosaic Idealize.ShloMosaic.TcCoe Idealize.ShloMosaic.Tactic Idealize.SL.Sem

theorem low_apply (r l : Fin 128) {A : Type} (a b : A) : Scalar.select ((k0_pay5 : IVec S128x128 1) (ix2 r l)) a b = if l.val < 64 then a else b := by
  pointwise [k0_pay5]
  exact select_lt l.val l.isLt a b

/-- Choosing the half a lane lies in. -/
theorem choose_half (l : Fin 128) (f : Fin 2 → EReal) : (if l.val < 64 then f 0 else f 1) = f ⟨l.val / 64, by omega⟩ := by
  have := l.isLt
  split
  · exact congrArg f (Fin.ext (by show 0 = l.val / 64; omega))
  · exact congrArg f (Fin.ext (by show 1 = l.val / 64; omega))

/-- Choosing the head a lane lies in. -/
theorem choose_head (l : Fin 256) (f : Fin 4 → Fin 64 → EReal) :
    (if h : l.val < 128 then if l.val < 64 then f 0 ⟨l.val % 64, by omega⟩ else f 1 ⟨l.val % 64, by omega⟩
      else if l.val - 128 < 64 then f 2 ⟨(l.val - 128) % 64, by omega⟩ else f 3 ⟨(l.val - 128) % 64, by omega⟩) = f ⟨l.val / 64, by omega⟩ ⟨l.val % 64, by omega⟩ := by
  have hl := l.isLt
  have z : ∀ k : Fin 4, k.val = l.val / 64 → k = ⟨l.val / 64, by omega⟩ := fun k h => Fin.ext h
  split_ifs
  · exact congrArg₂ f (z 0 (by show 0 = _; omega)) rfl
  · exact congrArg₂ f (z 1 (by show 1 = _; omega)) rfl
  · exact congrArg₂ f (z 2 (by show 2 = _; omega)) (Fin.ext (by show (l.val - 128) % 64 = l.val % 64; omega))
  · exact congrArg₂ f (z 3 (by show 3 = _; omega)) (Fin.ext (by show (l.val - 128) % 64 = l.val % 64; omega))

/-- Four heads' lower halves side by side. -/
theorem rowsBefore_apply (p : Fin 4 → FVec Ideal S256x128 .f32) (f : Fin 4 → Fin 64 → Fin 256 → ℝ)
    (hp : ∀ kv s (l : Fin 128), p kv (ix2 s l) = (f kv ⟨l.val % 64, by omega⟩ s : EReal)) (r : Fin 128) (l : Fin 256) :
    Inputs.rowsBefore p (ix2 r l) = (f ⟨l.val / 64, by omega⟩ ⟨l.val % 64, by omega⟩ ⟨r.val, by omega⟩ : EReal) := by
  unfold Inputs.rowsBefore
  have h0 := hp 0
  have h1 := hp 1
  have h2 := hp 2
  have h3 := hp 3
  generalize p 0 = p0 at h0 ⊢
  generalize p 1 = p1 at h1 ⊢
  generalize p 2 = p2 at h2 ⊢
  generalize p 3 = p3 at h3 ⊢
  pointwise []
  simp only [low_apply, h0, h1, h2, h3]
  exact choose_head l fun j d => (f j d ⟨r.val, by omega⟩ : EReal)

/-- Four heads' upper halves side by side. -/
theorem rowsHere_apply (p : Fin 4 → FVec Ideal S256x128 .f32) (f : Fin 4 → Fin 64 → Fin 256 → ℝ)
    (hp : ∀ kv s (l : Fin 128), p kv (ix2 s l) = (f kv ⟨l.val % 64, by omega⟩ s : EReal)) (r : Fin 128) (l : Fin 256) :
    Inputs.rowsHere p (ix2 r l) = (f ⟨l.val / 64, by omega⟩ ⟨l.val % 64, by omega⟩ ⟨128 + r.val, by omega⟩ : EReal) := by
  unfold Inputs.rowsHere
  have h0 := hp 0
  have h1 := hp 1
  have h2 := hp 2
  have h3 := hp 3
  generalize p 0 = p0 at h0 ⊢
  generalize p 1 = p1 at h1 ⊢
  generalize p 2 = p2 at h2 ⊢
  generalize p 3 = p3 at h3 ⊢
  pointwise []
  simp only [low_apply, h0, h1, h2, h3]
  exact choose_head l fun j d => (f j d ⟨128 + r.val, by omega⟩ : EReal)

/-- The head and the lane of a lane of the keys' gradient. -/
abbrev headAt (l : Fin 256) : Fin 4 := ⟨l.val / 64, by omega⟩
abbrev laneAt (l : Fin 256) : Fin 64 := ⟨l.val % 64, by omega⟩

variable {m : (ℓ : Loc nD τ sig) → Buf (Elt Ideal) ℓ} {c : Dev nD} {D : Data} (hD : D.Holds m c) (t : Fin cfg0.N) (ht : t.val < 16)

include hD

/-- The queries' gradient, for a pair of heads. -/
theorem dqTile_apply (blk : Fin 2) (kv : Fin 4) (i : Fin 2) (r l : Fin 128) : (inputs m c t).dqTile blk kv i (ix2 r l)
    = (D.dQ (blockOf ⟨t.val, ht⟩ blk) r (head kv i ⟨l.val / 64, by omega⟩) ⟨l.val % 64, by omega⟩ : EReal) := by
  have hq : ∀ (half : Fin 2) (cl : Fin 256), ((inputs m c t).group blk kv half).dq (ix2 cl l)
      = (D.dQ (blockOf ⟨t.val, ht⟩ blk) ⟨cl.val % 128, by omega⟩ (head kv ⟨cl.val / 128, by omega⟩ half) ⟨l.val % 64, by omega⟩ : EReal) := fun half cl => by
    rw [dq_apply (inputs_group t hD ht blk kv half), D.group_dq]
  have h0 := hq 0
  have h1 := hq 1
  unfold Inputs.dqTile
  generalize ((inputs m c t).group blk kv 0).dq = u at h0 ⊢
  generalize ((inputs m c t).group blk kv 1).dq = v at h1 ⊢
  fin_cases i
  all_goals
    dsimp only
    pointwise []
    rw [low_apply, h0, h1]
    refine (choose_half l fun half => (D.dQ (blockOf ⟨t.val, ht⟩ blk) _ (head kv _ half) ⟨l.val % 64, by omega⟩ : EReal)).trans ?_
  on_goal 1 => exact congrArg₂ (fun a b => (D.dQ _ a (head kv b _) _ : EReal)) (Fin.ext (by show r.val % 128 = r.val; omega)) (Fin.ext (by show r.val / 128 = 0; omega))
  on_goal 1 => exact congrArg₂ (fun a b => (D.dQ _ a (head kv b _) _ : EReal)) (Fin.ext (by show (128 + r.val) % 128 = r.val; omega)) (Fin.ext (by show (128 + r.val) / 128 = 1; omega))

/-- The keys' gradient from a block of queries: the band's. -/
theorem dkFull_apply (blk : Fin 2) (kv : Fin 4) (s : Fin 256) (l : Fin 128) : (inputs m c t).dkFull blk kv (ix2 s l)
    = (D.bandK kv ⟨l.val % 64, by omega⟩ (blockOf ⟨t.val, ht⟩ blk) s : EReal) := by
  have h0 := fun l => (dk_apply (inputs_group t hD ht blk kv 0) s l).trans (congrArg Real.toEReal (D.group_dk _ blk kv 0 s l))
  have h1 := fun l => (dk_apply (inputs_group t hD ht blk kv 1) s l).trans (congrArg Real.toEReal (D.group_dk _ blk kv 1 s l))
  unfold Inputs.dkFull Inputs.bothHalves
  generalize ((inputs m c t).group blk kv 0).dk = u at h0 ⊢
  generalize ((inputs m c t).group blk kv 1).dk = v at h1 ⊢
  pointwise [k0_pay54]
  simp only [h0, h1, ← EReal.coe_add]
  rw [Data.parities]
  rfl

/-- The values' gradient from a block of queries: the band's. -/
theorem dvFull_apply (blk : Fin 2) (kv : Fin 4) (s : Fin 256) (l : Fin 128) : (inputs m c t).dvFull blk kv (ix2 s l)
    = (D.bandV kv ⟨l.val % 64, by omega⟩ (blockOf ⟨t.val, ht⟩ blk) s : EReal) := by
  have h0 := fun l => (dv_apply (inputs_group t hD ht blk kv 0) s l).trans (congrArg Real.toEReal (D.group_dv _ blk kv 0 s l))
  have h1 := fun l => (dv_apply (inputs_group t hD ht blk kv 1) s l).trans (congrArg Real.toEReal (D.group_dv _ blk kv 1 s l))
  unfold Inputs.dvFull Inputs.bothHalves
  generalize ((inputs m c t).group blk kv 0).dv = u at h0 ⊢
  generalize ((inputs m c t).group blk kv 1).dv = v at h1 ⊢
  pointwise [k0_pay54]
  simp only [h0, h1, ← EReal.coe_add]
  rw [Data.parities]
  rfl

theorem evenK_apply (r : Fin 128) (l : Fin 256) : (inputs m c t).evenK (ix3 0 r l)
    = (D.dK (blockOf ⟨t.val, ht⟩ 0) r (headAt l) (laneAt l) : EReal) := by
  have h0 := rowsHere_apply _ (fun j d s => D.bandK j d (blockOf ⟨t.val, ht⟩ 0) s) (dkFull_apply hD t ht 0) r l
  have h1 := rowsBefore_apply _ (fun j d s => D.bandK j d (blockOf ⟨t.val, ht⟩ 1) s) (dkFull_apply hD t ht 1) r l
  unfold Inputs.evenK
  generalize Inputs.rowsHere _ = u at h0 ⊢
  generalize Inputs.rowsBefore _ = v at h1 ⊢
  pointwise []
  rw [h0, h1, ← EReal.coe_add]
  unfold Data.dK folded
  rw [dif_pos (show (blockOf ⟨t.val, ht⟩ 0).val + 1 < 32 by show 2 * t.val + 0 + 1 < 32; omega)]
  rfl

theorem evenV_apply (r : Fin 128) (l : Fin 256) : (inputs m c t).evenV (ix3 0 r l)
    = (D.dV (blockOf ⟨t.val, ht⟩ 0) r (headAt l) (laneAt l) : EReal) := by
  have h0 := rowsHere_apply _ (fun j d s => D.bandV j d (blockOf ⟨t.val, ht⟩ 0) s) (dvFull_apply hD t ht 0) r l
  have h1 := rowsBefore_apply _ (fun j d s => D.bandV j d (blockOf ⟨t.val, ht⟩ 1) s) (dvFull_apply hD t ht 1) r l
  unfold Inputs.evenV
  generalize Inputs.rowsHere _ = u at h0 ⊢
  generalize Inputs.rowsBefore _ = v at h1 ⊢
  pointwise []
  rw [h0, h1, ← EReal.coe_add]
  unfold Data.dV folded
  rw [dif_pos (show (blockOf ⟨t.val, ht⟩ 0).val + 1 < 32 by show 2 * t.val + 0 + 1 < 32; omega)]
  rfl

theorem keepK_apply (r : Fin 128) (l : Fin 256) : (inputs m c t).keepK (ix2 r l)
    = (D.bandK (headAt l) (laneAt l) (blockOf ⟨t.val, ht⟩ 1) ⟨128 + r.val, by omega⟩ : EReal) := by
  have h0 := rowsHere_apply _ (fun j d s => D.bandK j d (blockOf ⟨t.val, ht⟩ 1) s) (dkFull_apply hD t ht 1) r l
  unfold Inputs.keepK
  generalize Inputs.rowsHere _ = u at h0 ⊢
  pointwise []
  exact h0

theorem keepV_apply (r : Fin 128) (l : Fin 256) : (inputs m c t).keepV (ix2 r l)
    = (D.bandV (headAt l) (laneAt l) (blockOf ⟨t.val, ht⟩ 1) ⟨128 + r.val, by omega⟩ : EReal) := by
  have h0 := rowsHere_apply _ (fun j d s => D.bandV j d (blockOf ⟨t.val, ht⟩ 1) s) (dvFull_apply hD t ht 1) r l
  unfold Inputs.keepV
  generalize Inputs.rowsHere _ = u at h0 ⊢
  pointwise []
  exact h0

theorem oddK_apply (old : FVec Ideal S128x256 .f32) (r : Fin 128) (l : Fin 256) (x : ℝ) (hx : old (ix2 r l) = (x : EReal)) : (inputs m c t).oddK old (ix3 0 r l)
    = ((x + D.bandK (headAt l) (laneAt l) (blockOf ⟨t.val, ht⟩ 0) ⟨r.val, by omega⟩ : ℝ) : EReal) := by
  have h1 := rowsBefore_apply _ (fun j d s => D.bandK j d (blockOf ⟨t.val, ht⟩ 0) s) (dkFull_apply hD t ht 0) r l
  unfold Inputs.oddK
  generalize Inputs.rowsBefore _ = v at h1 ⊢
  pointwise []
  rw [hx, h1, ← EReal.coe_add]

theorem oddV_apply (old : FVec Ideal S128x256 .f32) (r : Fin 128) (l : Fin 256) (x : ℝ) (hx : old (ix2 r l) = (x : EReal)) : (inputs m c t).oddV old (ix3 0 r l)
    = ((x + D.bandV (headAt l) (laneAt l) (blockOf ⟨t.val, ht⟩ 0) ⟨r.val, by omega⟩ : ℝ) : EReal) := by
  have h1 := rowsBefore_apply _ (fun j d s => D.bandV j d (blockOf ⟨t.val, ht⟩ 0) s) (dvFull_apply hD t ht 0) r l
  unfold Inputs.oddV
  generalize Inputs.rowsBefore _ = v at h1 ⊢
  pointwise []
  rw [hx, h1, ← EReal.coe_add]

/-- The sinks' gradient, minus: one row of 256 lanes for a head of keys and a parity, the two heads in the halves. -/
theorem newRow_apply (blk : Fin 2) (g : Fin 8) (old : Vec Ideal S1x256 .f32) (l : Fin 256) (x : ℝ) (hx : old (ix2 0 l) = (x : EReal)) :
    (inputs m c t).newRow blk g old (ix2 0 l)
      = ((x - D.GS (blockOf ⟨t.val, ht⟩ blk) (head ⟨g.val / 2, by omega⟩ ⟨l.val / 128, by omega⟩ ⟨g.val % 2, by omega⟩) ⟨l.val % 128, by omega⟩ : ℝ) : EReal) := by
  have h1 := sinkRow_apply (inputs_group t hD ht blk ⟨g.val / 2, by omega⟩ ⟨g.val % 2, by omega⟩) l
  rw [D.group_dsink] at h1
  unfold Inputs.newRow
  generalize ((inputs m c t).group blk ⟨g.val / 2, by omega⟩ ⟨g.val % 2, by omega⟩).sinkRow = u at h1 ⊢
  pointwise []
  rw [hx, h1, ← EReal.coe_sub]

end Cert.Band

end
-- ==== Proof.Band.Last.lean ====
/-
  What the last point of the attention gradient leaves: the last block of keys and values, and the sinks' gradient by heads.
-/
module

public import proofs.«01_k».proof.Proof.Band.Block

@[expose] public section

set_option maxRecDepth 16384

noncomputable section

namespace Cert.Band

open Cert.Kernel2Ideal Cert.Kernel2Ideal.Gen
open Idealize.ShloMosaic Idealize.ShloMosaic.TcCoe Idealize.ShloMosaic.Tactic

variable {F : FTy → Type} [FloatOps F] [Named F]

/-- The row of the sums that holds a head. -/
def sumRow (h : Fin 16) : Fin 8 := ⟨2 * (h.val / 4) + h.val % 2, by omega⟩
/-- The half of that row that holds it. -/
def sumHalf (h : Fin 16) : Fin 2 := ⟨h.val / 2 % 2, by omega⟩

theorem inb_part (h : Fin 16) : ∀ a : Fin 2, (![(sumRow h).val, 128 * (sumHalf h).val] : Fin 2 → ℕ) a + S1x128.size a ≤ S8x256.size a := by
  have h1 := (sumRow h).isLt
  have h2 := (sumHalf h).isLt
  intro a; fin_cases a
  · show (sumRow h).val + 1 ≤ 8; omega
  · show 128 * (sumHalf h).val + 128 ≤ 256; omega
/-- The part of the sums that holds a head. -/
abbrev partRect (h : Fin 16) : Rect S8x256 := Rect.unit (s := S8x256) ![(sumRow h).val, 128 * (sumHalf h).val] S1x128.size (inb_part h)

/-- The sum over a head's rows put into the head's lane. -/
def withHead (s : Vec F S8x256 .f32) (acc : FVec F S1x128 .f32) (h : Fin 16) : FVec F S1x128 .f32 :=
  select (cmpi .eq (iota .tc S1x128 32 [1] iota_S1x128_d1_w32) (broadcast S1x128 (BitVec.ofNat 32 h.val)))
    (broadcastTo S1x128 (shapeCast S1x1 (shapeCast S1x1 (multiReduction (F := F) .add [1] S1
      (View.readAt (Elt F) scr17.view (partRect h).toLoadRect ((Memref.isWhole_whole _).unread s)) 0x00000000#32 reduces_S1x128_S1 (.inl rfl) rfl) shapeCasts_S1_S1x1) shapeCasts_S1x1_S1x1) broadcasts_S1x1_S1x128)
    acc
def headOrder : List (Fin 16) := [0, 2, 1, 3, 4, 6, 5, 7, 8, 10, 9, 11, 12, 14, 13, 15]
/-- The sinks' gradient, a head in a lane. -/
def heads (s : Vec F S8x256 .f32) : FVec F S1x128 .f32 := headOrder.foldl (withHead s) (broadcast S1x128 (Scalar.ofBits .f32 0x00000000#32))

variable (m : (ℓ : Loc nD τ sig) → Buf (Elt F) ℓ) (c : Dev nD) (t : Fin cfg0.N)

set_option maxHeartbeats 2000000

theorem pieces_last_dkOdd (h : t.val = 16) (s : State F) :
    (atLast m c t h s).1 = [⟨Rect.unit ![0, 0, 0] S1x128x256.size inb_S1x128x256_S1x128x256_0_0_0,
      k0_pay358 (View.readAt (Elt F) scr15.view (Rect.unit (s := S128x256) ![0, 0] S128x256.size inb_S128x256_S128x256_0_0).toLoadRect ((Memref.isWhole_whole _).unread s.carryK))⟩] := by
  unfold atLast runLast; dsimp only
theorem pieces_last_dvOdd (h : t.val = 16) (s : State F) :
    (atLast m c t h s).2.1 = [⟨Rect.unit ![0, 0, 0] S1x128x256.size inb_S1x128x256_S1x128x256_0_0_0,
      k0_pay359 (View.readAt (Elt F) scr16.view (Rect.unit (s := S128x256) ![0, 0] S128x256.size inb_S128x256_S128x256_0_0).toLoadRect ((Memref.isWhole_whole _).unread s.carryV))⟩] := by
  unfold atLast runLast; dsimp only
theorem pieces_last_dsink (h : t.val = 16) (s : State F) :
    (atLast m c t h s).2.2.1 = [⟨Rect.unit ![0, 0] S1x128.size inb_S1x128_S1x128_0_0, heads s.sums⟩] := by
  unfold atLast runLast; dsimp only; sl_kernel_rfl

end Cert.Band

end
-- ==== Proof.Band.States.lean ====
/-
  What the attention gradient's blocks and scratch buffers hold after each point, as real numbers.
-/
module

public import proofs.«01_k».proof.Proof.Band.PointValue
public import proofs.«01_k».proof.Proof.Band.Last
public import proofs.«01_k».proof.Proof.Common.Sums

@[expose] public section

set_option maxRecDepth 16384

noncomputable section

namespace Cert.Band

open Cert.Kernel2Ideal Cert.Kernel2Ideal.Gen
open Idealize.ShloMosaic Idealize.ShloMosaic.TcCoe Idealize.ShloMosaic.Tactic Idealize.SL.Sem

/-- A row stored over other rows. -/
theorem row_stored (g r : Fin 8) (l : Fin 256) (w : FVec Ideal S1x256 .f32) (L : List (View.Piece (Elt Ideal) S8x256 .f32)) :
    View.canon (⟨Inputs.rowRect g, w⟩ :: L) (ix2 r l) = if r = g then w (ix2 0 l) else View.canon L (ix2 r l) := by
  split_ifs with h
  · subst h
    have e : (ix2 r l : S8x256.Idx) = (Inputs.rowRect r).emb (ix2 0 l : S1x256.Idx) :=
      funext fun a => Fin.ext (match a with
        | ⟨0, _⟩ => show r.val = r.val + 1 * 0 by omega
        | ⟨1, _⟩ => show l.val = 0 + 1 * l.val by omega)
    rw [e]
    exact View.canon_cons_emb (Inputs.rowRect r) w L (ix2 0 l : S1x256.Idx)
  · refine View.canon_cons_of_not_mem _ L fun hm => h ?_
    obtain ⟨x, hx⟩ := (Inputs.rowRect g).exists_idx_of_mem hm
    have h0 : g.val + 1 * (x 0).val = r.val := congrArg (fun y : S8x256.Idx => (y 0).val) hx
    have h1 : (x 0).val < 1 := (x 0).isLt
    exact Fin.ext (by omega)

theorem mem_rows (g : Fin 8) : g ∈ Inputs.rows := by
  unfold Inputs.rows; revert g; decide

theorem nodup_rows : Inputs.rows.Nodup := by
  unfold Inputs.rows; decide
namespace Data
/-- What a block of queries takes from the sums. -/
def part (D : Data) (b : Fin 32) (g : Fin 8) (l : Fin 256) : ℝ :=
  D.GS b (head ⟨g.val / 2, by omega⟩ ⟨l.val / 128, by omega⟩ ⟨g.val % 2, by omega⟩) ⟨l.val % 128, by omega⟩
end Data

section
variable {m : (ℓ : Loc nD τ sig) → Buf (Elt Ideal) ℓ} {c : Dev nD} {D : Data} (hD : D.Holds m c) (t : Fin cfg0.N) (ht : t.val < 16)

include hD ht

/-- Rows stored one after the other, each from what was there before. -/
theorem rows_stored (blk : Fin 2) : ∀ (rs : List (Fin 8)) (L : List (View.Piece (Elt Ideal) S8x256 .f32)) (x : Fin 8 → Fin 256 → ℝ) (_ : rs.Nodup)
    (_ : ∀ g l, View.canon L (ix2 g l) = (x g l : EReal)) (g : Fin 8) (l : Fin 256),
    View.canon (rs.foldl ((inputs m c t).withRow blk) L) (ix2 g l)
      = ((if g ∈ rs then x g l - D.part (blockOf ⟨t.val, ht⟩ blk) g l else x g l : ℝ) : EReal)
  | [], L, x, _, hL, g, l => by simpa using hL g l
  | r :: rs, L, x, hn, hL, g, l => by
    have hn' := List.nodup_cons.mp hn
    have step : ∀ g l, View.canon ((inputs m c t).withRow blk L r) (ix2 g l)
        = ((if g = r then x g l - D.part (blockOf ⟨t.val, ht⟩ blk) g l else x g l : ℝ) : EReal) := fun g l => by
      unfold Inputs.withRow
      rw [row_stored]
      split_ifs with h
      · subst h
        refine newRow_apply hD t ht blk g _ l (x g l) ?_
        rw [View.readCov_eq_canon']
        exact (at_rows _ _ g l (show g.val + 1 * 0 = g.val by omega) (show 0 + 1 * l.val = l.val by omega)).trans (hL g l)
      · exact hL g l
    rw [List.foldl_cons, rows_stored blk rs _ _ hn'.2 step g l]
    by_cases h : g = r
    · subst h
      simp [hn'.1]
    · simp [h]

/-- The rows stored from the sums of the point before. -/
theorem firstRows_apply (s : Vec Ideal S8x256 .f32) (x : Fin 8 → Fin 256 → ℝ) (hs : ∀ g l, s (ix2 g l) = (x g l : EReal)) :
    ∀ (rs : List (Fin 8)) (g : Fin 8) (l : Fin 256), g ∈ rs →
      View.canon (rs.map fun r => (⟨Inputs.rowRect r, (inputs m c t).newRow 0 r (View.readAt (Elt Ideal) scr17.view (Inputs.rowRect r).toLoadRect ((Memref.isWhole_whole _).unread s))⟩
        : View.Piece (Elt Ideal) S8x256 .f32)) (ix2 g l) = ((x g l - D.part (blockOf ⟨t.val, ht⟩ 0) g l : ℝ) : EReal)
  | [], g, l, h => by simp at h
  | r :: rs, g, l, h => by
    rw [List.map_cons, row_stored]
    split_ifs with e
    · subst e
      refine newRow_apply hD t ht 0 g _ l (x g l) ?_
      exact (load_apply scr17 (Memref.isWhole_whole _) s _ _ 0 l g l (by show g.val = g.val + 0; omega) (by show l.val = 0 + l.val; omega)).trans (hs g l)
    · exact firstRows_apply s x hs rs g l ((List.mem_cons.mp h).resolve_left e)

end

section
variable (m : (ℓ : Loc nD τ sig) → Buf (Elt Ideal) ℓ) (c : Dev nD) (D : Data)

/-- A block of queries' part of the sums; none outside the blocks. -/
def Data.partAt (D : Data) (g : Fin 8) (l : Fin 256) (b : ℕ) : ℝ := if h : b < 32 then D.part ⟨b, h⟩ g l else 0

/-- The sums after a point. -/
def Data.sumTo (D : Data) (n : ℕ) (g : Fin 8) (l : Fin 256) : ℝ := -∑ b ∈ Finset.range (2 * (n + 1)), D.partAt g l b

theorem Data.sumTo_succ (D : Data) (n : ℕ) (hn : n < 16) (g : Fin 8) (l : Fin 256) (x : ℝ) (hx : x = -∑ b ∈ Finset.range (2 * n), D.partAt g l b) :
    x - D.part (blockOf ⟨n, hn⟩ 0) g l - D.part (blockOf ⟨n, hn⟩ 1) g l = D.sumTo n g l := by
  have e0 : D.part (blockOf ⟨n, hn⟩ 0) g l = D.partAt g l (2 * n) := by
    unfold Data.partAt; rw [dif_pos (by omega)]; exact congrArg (fun b => D.part b g l) (Fin.ext (by show 2 * n + 0 = 2 * n; omega))
  have e1 : D.part (blockOf ⟨n, hn⟩ 1) g l = D.partAt g l (2 * n + 1) := by
    unfold Data.partAt; rw [dif_pos (by omega)]; exact congrArg (fun b => D.part b g l) (Fin.ext (by show 2 * n + 1 = 2 * n + 1; omega))
  rw [e0, e1, hx, Data.sumTo, show 2 * (n + 1) = 2 * n + 1 + 1 by ring, Finset.sum_range_succ, Finset.sum_range_succ]
  ring

/-! What is stored whole. -/

theorem first_dkEven (t : Fin cfg0.N) (h : t.val = 0) : (stateFirst m c t h).dkEven = (inputs m c t).evenK := by
  unfold stateFirst; dsimp only; rw [pieces_first_dkEven]
  exact View.canon_unit_zero (S := S1x128x256) zero3 _ _
theorem first_dvEven (t : Fin cfg0.N) (h : t.val = 0) : (stateFirst m c t h).dvEven = (inputs m c t).evenV := by
  unfold stateFirst; dsimp only; rw [pieces_first_dvEven]
  exact View.canon_unit_zero (S := S1x128x256) zero3 _ _
theorem first_carryK (t : Fin cfg0.N) (h : t.val = 0) : (stateFirst m c t h).carryK = (inputs m c t).keepK := by
  unfold stateFirst; dsimp only; rw [pieces_first_carryK]
  exact View.canon_cons_unit_zero (S := S128x256) zero2 _ _ _
theorem first_carryV (t : Fin cfg0.N) (h : t.val = 0) : (stateFirst m c t h).carryV = (inputs m c t).keepV := by
  unfold stateFirst; dsimp only; rw [pieces_first_carryV]
  exact View.canon_cons_unit_zero (S := S128x256) zero2 _ _ _
theorem inside_dkEven (t : Fin cfg0.N) (h : t.val ≠ 0) (h' : t.val < 16) (s : State Ideal) : (stateInside m c t h h' s).dkEven = (inputs m c t).evenK := by
  unfold stateInside; dsimp only; rw [pieces_inside_dkEven]
  exact View.canon_unit_zero (S := S1x128x256) zero3 _ _
theorem inside_dvEven (t : Fin cfg0.N) (h : t.val ≠ 0) (h' : t.val < 16) (s : State Ideal) : (stateInside m c t h h' s).dvEven = (inputs m c t).evenV := by
  unfold stateInside; dsimp only; rw [pieces_inside_dvEven]
  exact View.canon_unit_zero (S := S1x128x256) zero3 _ _
theorem inside_carryK (t : Fin cfg0.N) (h : t.val ≠ 0) (h' : t.val < 16) (s : State Ideal) : (stateInside m c t h h' s).carryK = (inputs m c t).keepK := by
  unfold stateInside; dsimp only; rw [pieces_inside_carryK]
  exact View.canon_unit_zero (S := S128x256) zero2 _ _
theorem inside_carryV (t : Fin cfg0.N) (h : t.val ≠ 0) (h' : t.val < 16) (s : State Ideal) : (stateInside m c t h h' s).carryV = (inputs m c t).keepV := by
  unfold stateInside; dsimp only; rw [pieces_inside_carryV]
  exact View.canon_unit_zero (S := S128x256) zero2 _ _
theorem inside_odd_keys (t : Fin cfg0.N) (h : t.val ≠ 0) (h' : t.val < 16) (s : State Ideal) : (stateInside m c t h h' s).dkOdd = (inputs m c t).oddK
    (View.readAt (Elt Ideal) scr15.view (Rect.unit (s := S128x256) ![0, 0] S128x256.size inb_S128x256_S128x256_0_0).toLoadRect ((Memref.isWhole_whole _).unread s.carryK)) := by
  unfold stateInside; dsimp only; rw [pieces_inside_dkOdd]
  exact View.canon_unit_zero (S := S1x128x256) zero3 _ _
theorem inside_odd_values (t : Fin cfg0.N) (h : t.val ≠ 0) (h' : t.val < 16) (s : State Ideal) : (stateInside m c t h h' s).dvOdd = (inputs m c t).oddV
    (View.readAt (Elt Ideal) scr16.view (Rect.unit (s := S128x256) ![0, 0] S128x256.size inb_S128x256_S128x256_0_0).toLoadRect ((Memref.isWhole_whole _).unread s.carryV)) := by
  unfold stateInside; dsimp only; rw [pieces_inside_dvOdd]
  exact View.canon_unit_zero (S := S1x128x256) zero3 _ _

variable {m c D} (hD : D.Holds m c)
include hD

theorem dqTiles_apply (t : Fin cfg0.N) (ht : t.val < 16) (y : S256x1024.Idx) (h : ∃ p ∈ Inputs.dqOrder.map (inputs m c t).dqPiece, y ∈ p.1.set) :
    View.canon (Inputs.dqOrder.map (inputs m c t).dqPiece) y
      = (D.dQ (blockOf ⟨t.val, ht⟩ ⟨(y 0).val / 128, Nat.div_lt_of_lt_mul (y 0).isLt⟩) ⟨(y 0).val % 128, Nat.mod_lt _ (by decide)⟩
          ⟨(y 1).val / 64, Nat.div_lt_of_lt_mul (y 1).isLt⟩ ⟨(y 1).val % 64, Nat.mod_lt _ (by decide)⟩ : EReal) := by
  refine View.canon_apply_of_pieces (Val := Elt Ideal) (e := .f32) (fun y : S256x1024.Idx => (D.dQ (blockOf ⟨t.val, ht⟩ ⟨(y 0).val / 128, Nat.div_lt_of_lt_mul (y 0).isLt⟩) ⟨(y 0).val % 128, Nat.mod_lt _ (by decide)⟩
          ⟨(y 1).val / 64, Nat.div_lt_of_lt_mul (y 1).isLt⟩ ⟨(y 1).val % 64, Nat.mod_lt _ (by decide)⟩ : EReal)) _ ?_ y h
  refine List.forall_mem_map.mpr fun p _ x => ?_
  obtain ⟨blk, kv, i⟩ := p
  obtain ⟨r, l, rfl⟩ := Cert.Step.idx2 (A := 128) (B := 128) x
  have e0 : ((((inputs m c t).dqPiece (blk, kv, i)).1.emb (ix2 r l) : S256x1024.Idx) 0).val = 128 * blk.val + r.val := by
    show 128 * blk.val + 1 * r.val = _; omega
  have e1 : ((((inputs m c t).dqPiece (blk, kv, i)).1.emb (ix2 r l) : S256x1024.Idx) 1).val = 128 * (2 * kv.val + i.val) + l.val := by
    show 128 * (2 * kv.val + i.val) + 1 * l.val = _; omega
  refine (dqTile_apply hD t ht blk kv i r l).trans (congrArg Real.toEReal ?_)
  have key : ∀ (b b' : Fin 2) (r r' : Fin 128) (h h' : Fin 16) (d d' : Fin 64), b.val = b'.val → r.val = r'.val → h.val = h'.val → d.val = d'.val →
      D.dQ (blockOf ⟨t.val, ht⟩ b) r h d = D.dQ (blockOf ⟨t.val, ht⟩ b') r' h' d' := fun b b' r r' h h' d d' hb hr hh hd => by
    rw [Fin.ext hb, Fin.ext hr, Fin.ext hh, Fin.ext hd]
  refine key _ _ _ _ _ _ _ _ ?_ ?_ ?_ ?_
  · show blk.val = _ / 128; rw [e0]; omega
  · show r.val = _ % 128; rw [e0]; omega
  · show 4 * kv.val + 2 * i.val + l.val / 64 = _ / 64; rw [e1]; omega
  · show l.val % 64 = _ % 64; rw [e1]; omega

/-- What the blocks and the scratch buffers hold after a point that has a block of queries. -/
structure Data.After (D : Data) (n : Fin 16) (s : State Ideal) : Prop where
  dq : ∀ (r : Fin 256) (l : Fin 1024), s.dq (ix2 r l) = (D.dQ (blockOf n ⟨r.val / 128, by omega⟩) ⟨r.val % 128, by omega⟩ ⟨l.val / 64, by omega⟩ ⟨l.val % 64, by omega⟩ : EReal)
  dkEven : ∀ (r : Fin 128) (l : Fin 256), s.dkEven (ix3 0 r l) = (D.dK (blockOf n 0) r (headAt l) (laneAt l) : EReal)
  dvEven : ∀ (r : Fin 128) (l : Fin 256), s.dvEven (ix3 0 r l) = (D.dV (blockOf n 0) r (headAt l) (laneAt l) : EReal)
  carryK : ∀ (r : Fin 128) (l : Fin 256), s.carryK (ix2 r l) = (D.bandK (headAt l) (laneAt l) (blockOf n 1) ⟨128 + r.val, by omega⟩ : EReal)
  carryV : ∀ (r : Fin 128) (l : Fin 256), s.carryV (ix2 r l) = (D.bandV (headAt l) (laneAt l) (blockOf n 1) ⟨128 + r.val, by omega⟩ : EReal)
  sums : ∀ (g : Fin 8) (l : Fin 256), s.sums (ix2 g l) = (D.sumTo n.val g l : EReal)

theorem first_holds (t : Fin cfg0.N) (h : t.val = 0) : D.After ⟨t.val, by omega⟩ (stateFirst m c t h) where
  dq r l := by
    show View.canon (atFirst m c t h).1 (ix2 r l) = _
    have hc := coverFirst_dq m c t h (ix2 r l)
    rw [pieces_first_dq] at hc ⊢
    exact dqTiles_apply hD t (by omega) _ hc
  dkEven r l := by
    rw [first_dkEven]
    exact evenK_apply hD t (by omega) r l
  dvEven r l := by
    rw [first_dvEven]
    exact evenV_apply hD t (by omega) r l
  carryK r l := by
    rw [first_carryK]
    exact keepK_apply hD t (by omega) r l
  carryV r l := by
    rw [first_carryV]
    exact keepV_apply hD t (by omega) r l
  sums g l := by
    show View.canon (atFirst m c t h).2.2.2.2.2.2.2.1 (ix2 g l) = _
    have z : ∀ (g : Fin 8) (l : Fin 256), View.canon [(⟨Rect.unit ![0, 0] S8x256.size inb_S8x256_S8x256_0_0, k0_pay3 (F := Ideal)⟩ : View.Piece (Elt Ideal) S8x256 .f32)] (ix2 g l)
        = (((fun _ _ => 0 : Fin 8 → Fin 256 → ℝ) g l : ℝ) : EReal) := fun g l => by
      rw [View.canon_unit_zero (S := S8x256) zero2]
      pointwise [k0_pay3]
      rfl
    have e0 := rows_stored hD t (by omega) 0 Inputs.rows _ _ nodup_rows z
    have e1 := rows_stored hD t (by omega) 1 Inputs.rows _ _ nodup_rows e0 g l
    rw [pieces_first_sums, e1, if_pos (mem_rows g), if_pos (mem_rows g)]
    refine congrArg Real.toEReal (D.sumTo_succ t.val (by omega) g l 0 ?_)
    rw [h]; simp

theorem inside_holds (t : Fin cfg0.N) (h : t.val ≠ 0) (h' : t.val < 16) (s : State Ideal) (hs : D.After ⟨t.val - 1, by omega⟩ s) :
    D.After ⟨t.val, h'⟩ (stateInside m c t h h' s) where
  dq r l := by
    show View.canon (atInside m c t h h' s).1 (ix2 r l) = _
    have hc := coverInside_dq m c t h h' s (ix2 r l)
    rw [pieces_inside_dq] at hc ⊢
    exact dqTiles_apply hD t h' _ hc
  dkEven r l := by
    rw [inside_dkEven]
    exact evenK_apply hD t h' r l
  dvEven r l := by
    rw [inside_dvEven]
    exact evenV_apply hD t h' r l
  carryK r l := by
    rw [inside_carryK]
    exact keepK_apply hD t h' r l
  carryV r l := by
    rw [inside_carryV]
    exact keepV_apply hD t h' r l
  sums g l := by
    show View.canon (atInside m c t h h' s).2.2.2.2.2.2.2.1 (ix2 g l) = _
    have e0 : ∀ (g : Fin 8) (l : Fin 256), View.canon ((inputs m c t).firstRows s.sums) (ix2 g l)
        = (((fun g l => D.sumTo (t.val - 1) g l - D.part (blockOf ⟨t.val, h'⟩ 0) g l : Fin 8 → Fin 256 → ℝ) g l : ℝ) : EReal) := fun g l =>
      firstRows_apply hD t h' s.sums _ hs.sums _ g l (List.mem_reverse.mpr (mem_rows g))
    have e1 := rows_stored hD t h' 1 Inputs.rows _ _ nodup_rows e0 g l
    rw [pieces_inside_sums, e1, if_pos (mem_rows g)]
    refine congrArg Real.toEReal (D.sumTo_succ t.val h' g l _ ?_)
    unfold Data.sumTo
    rw [show t.val - 1 + 1 = t.val by omega]

/-- The keys' gradient of the block before a point. -/
theorem inside_dkOdd (t : Fin cfg0.N) (h : t.val ≠ 0) (h' : t.val < 16) (s : State Ideal) (hs : D.After ⟨t.val - 1, by omega⟩ s) (r : Fin 128) (l : Fin 256) :
    (stateInside m c t h h' s).dkOdd (ix3 0 r l) = (D.dK (blockOf ⟨t.val - 1, by omega⟩ 1) r (headAt l) (laneAt l) : EReal) := by
  rw [inside_odd_keys]
  refine (oddK_apply hD t h' _ r l _ ((load_apply scr15 (Memref.isWhole_whole _) s.carryK _ _ r l r l (by show r.val = 0 + r.val; omega) (by show l.val = 0 + l.val; omega)).trans (hs.carryK r l))).trans (congrArg Real.toEReal ?_)
  unfold Data.dK folded
  rw [dif_pos (show (blockOf ⟨t.val - 1, _⟩ 1).val + 1 < 32 by show 2 * (t.val - 1) + 1 + 1 < 32; omega)]
  exact congrArg (fun b => _ + D.bandK (headAt l) (laneAt l) b _) (Fin.ext (by show 2 * t.val + 0 = 2 * (t.val - 1) + 1 + 1; omega))

theorem inside_dvOdd (t : Fin cfg0.N) (h : t.val ≠ 0) (h' : t.val < 16) (s : State Ideal) (hs : D.After ⟨t.val - 1, by omega⟩ s) (r : Fin 128) (l : Fin 256) :
    (stateInside m c t h h' s).dvOdd (ix3 0 r l) = (D.dV (blockOf ⟨t.val - 1, by omega⟩ 1) r (headAt l) (laneAt l) : EReal) := by
  rw [inside_odd_values]
  refine (oddV_apply hD t h' _ r l _ ((load_apply scr16 (Memref.isWhole_whole _) s.carryV _ _ r l r l (by show r.val = 0 + r.val; omega) (by show l.val = 0 + l.val; omega)).trans (hs.carryV r l))).trans (congrArg Real.toEReal ?_)
  unfold Data.dV folded
  rw [dif_pos (show (blockOf ⟨t.val - 1, _⟩ 1).val + 1 < 32 by show 2 * (t.val - 1) + 1 + 1 < 32; omega)]
  exact congrArg (fun b => _ + D.bandV (headAt l) (laneAt l) b _) (Fin.ext (by show 2 * t.val + 0 = 2 * (t.val - 1) + 1 + 1; omega))

theorem after_holds : ∀ (n : ℕ) (hn : n < cfg0.N) (h : n < 16), D.After ⟨n, h⟩ (after m c n hn)
  | 0, hn, _ => first_holds hD ⟨0, hn⟩ rfl
  | n + 1, hn, h => by
    rw [show after m c (n + 1) hn = stateInside m c ⟨n + 1, hn⟩ (Nat.succ_ne_zero n) h (after m c n (Nat.lt_of_succ_lt hn)) from dif_pos h]
    exact inside_holds hD ⟨n + 1, hn⟩ (Nat.succ_ne_zero n) h _ (after_holds n _ (by omega))
end

end Cert.Band

end
-- ==== Proof.Band.Frame.lean ====
module

public import proofs.«01_k».proof.Proof.Gen.Kernel2Ideal.Frame
public import proofs.«01_k».proof.Proof.Gen.Kernel2Ideal.Skeleton
public import Idealize.ShloMosaic.Lib.Ring
public import Idealize.ShloMosaic.Lib.Tactic
public import Idealize.ShloMosaic.Lib.WordCmp
public import proofs.«01_k».proof.Proof.Band.State
public import Idealize.ShloMosaic.Lib.Claim
public import Idealize.ShloMosaic.Lib.Pipeline.FrameBody

@[expose] public section

set_option maxRecDepth 16384

noncomputable section

/-! The frame of the attention gradient: the body at each point, and the run. -/

namespace Cert.Band

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Where the windows are idle and written back. -/

theorem live_early (w : Fin cfg0.W) (hw : w ≠ 12) (t : Fin cfg0.N) (h : t.val < 16) : cfg0.idle w (grid0.coords t) = false :=
  (by decide +kernel : ∀ w : Fin 13, w ≠ 12 → ∀ t : Fin grid0.N, t.val < 16 → idle0 w (grid0.coords t) = false) w hw t h
theorem idle_sinks (t : Fin cfg0.N) (h : t.val < 16) : cfg0.idle 12 (grid0.coords t) = true :=
  (by decide +kernel : ∀ t : Fin grid0.N, t.val < 16 → idle0 12 (grid0.coords t) = true) t h
theorem noFlush_sinks (t : Fin cfg0.N) (h : t.val < 16) : (cfg0.win 12).flush t = false :=
  Bool.eq_false_iff.mpr fun k => by have := (flush0_12 t).mp k; omega
theorem live_last (w : Fin cfg0.W) (hw : w ≠ 7 ∧ w ≠ 8 ∧ w ≠ 10) (t : Fin cfg0.N) (h : t.val = 16) : cfg0.idle w (grid0.coords t) = false :=
  (by decide +kernel : ∀ w : Fin 13, w ≠ 7 ∧ w ≠ 8 ∧ w ≠ 10 → ∀ t : Fin grid0.N, t.val = 16 → idle0 w (grid0.coords t) = false) w hw t h
theorem idle_last7 (t : Fin cfg0.N) (h : t.val = 16) : cfg0.idle 7 (grid0.coords t) = true :=
  (by decide +kernel : ∀ t : Fin grid0.N, t.val = 16 → idle0 7 (grid0.coords t) = true) t h
theorem flush_last7 (t : Fin cfg0.N) (h : t.val = 16) : (cfg0.win 7).flush t = true :=
  (by decide +kernel : ∀ t : Fin grid0.N, t.val = 16 → win0_7.flush t = true) t h
theorem noFlush_before_last7 (t : Fin cfg0.N) (h : t.val = 15) : (cfg0.win 7).flush t = false :=
  (by decide +kernel : ∀ t : Fin grid0.N, t.val = 15 → win0_7.flush t = false) t h
theorem idle_last8 (t : Fin cfg0.N) (h : t.val = 16) : cfg0.idle 8 (grid0.coords t) = true :=
  (by decide +kernel : ∀ t : Fin grid0.N, t.val = 16 → idle0 8 (grid0.coords t) = true) t h
theorem flush_last8 (t : Fin cfg0.N) (h : t.val = 16) : (cfg0.win 8).flush t = true :=
  (by decide +kernel : ∀ t : Fin grid0.N, t.val = 16 → win0_8.flush t = true) t h
theorem noFlush_before_last8 (t : Fin cfg0.N) (h : t.val = 15) : (cfg0.win 8).flush t = false :=
  (by decide +kernel : ∀ t : Fin grid0.N, t.val = 15 → win0_8.flush t = false) t h
theorem idle_last10 (t : Fin cfg0.N) (h : t.val = 16) : cfg0.idle 10 (grid0.coords t) = true :=
  (by decide +kernel : ∀ t : Fin grid0.N, t.val = 16 → idle0 10 (grid0.coords t) = true) t h
theorem flush_last10 (t : Fin cfg0.N) (h : t.val = 16) : (cfg0.win 10).flush t = true :=
  (by decide +kernel : ∀ t : Fin grid0.N, t.val = 16 → win0_10.flush t = true) t h
theorem noFlush_before_last10 (t : Fin cfg0.N) (h : t.val = 15) : (cfg0.win 10).flush t = false :=
  (by decide +kernel : ∀ t : Fin grid0.N, t.val = 15 → win0_10.flush t = false) t h

/-! What the points pass on: the scratch buffers and the generator's register. -/

/-- The scratch buffers before point `n`: at anything before the first, afterwards as the point before left them. -/
def carried (c : Dev nD) : (n : ℕ) → n ≤ cfg0.N → sProp 𝕄
  | 0, _ => Pipeline.ΦA spec0 c
  | n + 1, hn => iprop(iprop(owns (c : Thread nD τ) scr15 fullShare (after m c n hn).carryK ∗ owns (c : Thread nD τ) scr16 fullShare (after m c n hn).carryV ∗ owns (c : Thread nD τ) scr17 fullShare (after m c n hn).sums) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop(owns (c : Thread nD τ) scr15 fullShare (after m c (n - 1) (by omega)).carryK ∗ owns (c : Thread nD τ) scr16 fullShare (after m c (n - 1) (by omega)).carryV ∗ owns (c : Thread nD τ) scr17 fullShare (after m c (n - 1) (by omega)).sums) ∗ (∃ r, prngReg c r)) := by
  cases n with
  | zero => exact absurd rfl hz
  | succ n => rfl

theorem launch_scratch (c : Dev nD) :
    (Pipeline.ΦA spec0 c : sProp 𝕄)
      = iprop(iprop((∃ d, owns (c : Thread nD τ) scr15 fullShare d) ∗ (∃ d, owns (c : Thread nD τ) scr16 fullShare d) ∗ (∃ d, owns (c : Thread nD τ) scr17 fullShare d)) ∗ (∃ r, prngReg c r)) := by
  unfold Pipeline.ΦA; rw [scopedRest0_eq]; simp only [scr15, scr16, scr17, owns_whole]; try rfl

/-- What each window's buffer holds after each point: an input its block, an output what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (after m c t.val t.isLt).dq
    | ⟨8, _⟩ => (after m c t.val t.isLt).dkEven
    | ⟨9, _⟩ => (after m c t.val t.isLt).dkOdd
    | ⟨10, _⟩ => (after m c t.val t.isLt).dvEven
    | ⟨11, _⟩ => (after m c t.val t.isLt).dvOdd
    | ⟨12, _⟩ => (after m c t.val t.isLt).dsink
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem carried_castSucc (c : Dev nD) (t : Fin cfg0.N) : (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (after m c t.val t.isLt).dq := by dsimp only [dats]
theorem after_8 (c : Dev nD) (t : Fin cfg0.N) : (dats m 0 c).after 8 t = (after m c t.val t.isLt).dkEven := by dsimp only [dats]
theorem after_9 (c : Dev nD) (t : Fin cfg0.N) : (dats m 0 c).after 9 t = (after m c t.val t.isLt).dkOdd := by dsimp only [dats]
theorem after_10 (c : Dev nD) (t : Fin cfg0.N) : (dats m 0 c).after 10 t = (after m c t.val t.isLt).dvEven := by dsimp only [dats]
theorem after_11 (c : Dev nD) (t : Fin cfg0.N) : (dats m 0 c).after 11 t = (after m c t.val t.isLt).dvOdd := by dsimp only [dats]
theorem after_12 (c : Dev nD) (t : Fin cfg0.N) : (dats m 0 c).after 12 t = (after m c t.val t.isLt).dsink := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_last7 (c : Dev nD) (t : Fin cfg0.N) (h : t.val = 16) (d) :
    (dats m 0 c).before 7 t d = (after m c (t.val - 1) (pred t)).dq := by
  rw [Dat.before_of_pos _ 7 t (by omega) rfl, noFlush_before_last7 ⟨t.val - 1, pred t⟩ (by simp only; omega), if_neg Bool.false_ne_true]
  unfold Dat.left
  rw [live_early 7 (by decide) ⟨t.val - 1, pred t⟩ (by simp only; omega)]
  exact after_7 m c ⟨t.val - 1, pred t⟩
theorem before_last8 (c : Dev nD) (t : Fin cfg0.N) (h : t.val = 16) (d) :
    (dats m 0 c).before 8 t d = (after m c (t.val - 1) (pred t)).dkEven := by
  rw [Dat.before_of_pos _ 8 t (by omega) rfl, noFlush_before_last8 ⟨t.val - 1, pred t⟩ (by simp only; omega), if_neg Bool.false_ne_true]
  unfold Dat.left
  rw [live_early 8 (by decide) ⟨t.val - 1, pred t⟩ (by simp only; omega)]
  exact after_8 m c ⟨t.val - 1, pred t⟩
theorem before_last10 (c : Dev nD) (t : Fin cfg0.N) (h : t.val = 16) (d) :
    (dats m 0 c).before 10 t d = (after m c (t.val - 1) (pred t)).dvEven := by
  rw [Dat.before_of_pos _ 10 t (by omega) rfl, noFlush_before_last10 ⟨t.val - 1, pred t⟩ (by simp only; omega), if_neg Bool.false_ne_true]
  unfold Dat.left
  rw [live_early 10 (by decide) ⟨t.val - 1, pred t⟩ (by simp only; omega)]
  exact after_10 m c ⟨t.val - 1, pred t⟩

/-- An output that is live at a point is left at what the proof data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one that is idle at a point that writes it back. -/
theorem leaves_flushed (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- Stores that cover a buffer leave it at what they say, whatever it held. -/
theorem owns_writes (c : Dev nD) {sp : Space} {S : Shape} {e : EltTy} (a : Memref sig .tc sp S e) (L : List (View.Piece (Elt F) S e))
    (h : ∀ y, ∃ p ∈ L, y ∈ p.1.set) :
    iprop(∃ f, a.view.loc (c : Thread nD τ) ↦[a.view.set]{fullShare} a.view.writes (Elt F) f L) ⊢ (owns (c : Thread nD τ) a fullShare (View.canon L) : sProp 𝕄) := by
  iintro ⟨%f, H⟩
  unfold owns; iexists _; isplitr
  swap; · iexact H
  ipureintro; exact View.read_writes_eq_canon _ _ _ h

/-! The body at a point. -/

/-- What the body is handed at a point. -/
def bodyPre (c : Dev nD) (t : Fin cfg0.N) : sProp 𝕄 :=
  iprop((dats m 0 c).Φ t.castSucc ∗ (dats m 0 c).owesAt () t.castSucc ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)) ∗ (∃ d, owns (c : Thread nD τ) (stg8 t) fullShare ((dats m 0 c).before 8 t d)) ∗ (∃ d, owns (c : Thread nD τ) (stg9 t) fullShare ((dats m 0 c).before 9 t d)) ∗ (∃ d, owns (c : Thread nD τ) (stg10 t) fullShare ((dats m 0 c).before 10 t d)) ∗ (∃ d, owns (c : Thread nD τ) (stg11 t) fullShare ((dats m 0 c).before 11 t d)) ∗ (∃ d, owns (c : Thread nD τ) (stg12 t) fullShare ((dats m 0 c).before 12 t d)))
/-- What it hands back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

set_option maxHeartbeats 4000000 in
theorem soundFirst (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = carried m c (t.val + 1) t.isLt from rfl, carried_pos m c (t.val + 1) _ (Nat.succ_ne_zero _)]
  simp only [Nat.add_sub_cancel]
  rw [leaves_live m c 0 t (live_early 0 (by decide) t (by omega)), leaves_live m c 1 t (live_early 1 (by decide) t (by omega)), leaves_live m c 2 t (live_early 2 (by decide) t (by omega)), leaves_live m c 3 t (live_early 3 (by decide) t (by omega)), leaves_live m c 4 t (live_early 4 (by decide) t (by omega)), leaves_live m c 5 t (live_early 5 (by decide) t (by omega)), leaves_live m c 6 t (live_early 6 (by decide) t (by omega)), leaves_live m c 7 t (live_early 7 (by decide) t (by omega)), leaves_live m c 8 t (live_early 8 (by decide) t (by omega)), leaves_live m c 9 t (live_early 9 (by decide) t (by omega)), leaves_live m c 10 t (live_early 10 (by decide) t (by omega)), leaves_live m c 11 t (live_early 11 (by decide) t (by omega)), Dat.leavesExact_idle (dats m 0 c) 12 t (idle_sinks t (by omega)) (noFlush_sinks t (by omega))]
  rw [after_0, after_1, after_2, after_3, after_4, after_5, after_6, after_7, after_8, after_9, after_10, after_11, after_first m c t h, carried_castSucc, carried_zero m c _ _ h, launch_scratch]
  dsimp only [stateFirst]
  iintro ⟨⟨⟨HS15, HS16, HS17⟩, Hg⟩, Ho, ⟨%d1, H1⟩, ⟨%d2, H2⟩, ⟨%d3, H3⟩, ⟨%d4, H4⟩, ⟨%d5, H5⟩, ⟨%d6, H6⟩, ⟨%d7, H7⟩, ⟨%d9, H9⟩, ⟨%d10, H10⟩, ⟨%d11, H11⟩, ⟨%d12, H12⟩, ⟨%d13, H13⟩, ⟨%d14, H14⟩⟩
  iapply ((atFirst m c t h).2.2.2.2.2.2.2.2 _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [HS15]; · iexact HS15
  isplitl [HS16]; · iexact HS16
  isplitl [HS17]; · iexact HS17
  iintro ⟨H1, H2, H3, H4, H5, H6, H7, H9, H10, H11, H12, H13, H14, HS15, HS16, HS17⟩
  isplitl [HS15 HS16 HS17 Hg]
  · isplitl [HS15 HS16 HS17]
    · isplitl [HS15]
      · iapply (owns_writes c _ _ (coverFirst_carryK m c t h)); iexact HS15
      isplitl [HS16]
      · iapply (owns_writes c _ _ (coverFirst_carryV m c t h)); iexact HS16
      iapply (owns_writes c _ _ (coverFirst_sums m c t h)); iexact HS17
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iapply (owns_writes c _ _ (coverFirst_dq m c t h)); iexact H9
  isplitl [H10]; · iapply (owns_writes c _ _ (coverFirst_dkEven m c t h)); iexact H10
  isplitl [H11]; · iapply (owns_writes c _ _ (coverFirst_dkOdd m c t h)); iexact H11
  isplitl [H12]; · iapply (owns_writes c _ _ (coverFirst_dvEven m c t h)); iexact H12
  isplitl [H13]; · iapply (owns_writes c _ _ (coverFirst_dvOdd m c t h)); iexact H13
  iexists _; iexact H14

set_option maxHeartbeats 4000000 in
theorem soundInside (c : Dev nD) (t : Fin cfg0.N) (h : t.val ≠ 0) (h' : t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = carried m c (t.val + 1) t.isLt from rfl, carried_pos m c (t.val + 1) _ (Nat.succ_ne_zero _)]
  simp only [Nat.add_sub_cancel]
  rw [leaves_live m c 0 t (live_early 0 (by decide) t h'), leaves_live m c 1 t (live_early 1 (by decide) t h'), leaves_live m c 2 t (live_early 2 (by decide) t h'), leaves_live m c 3 t (live_early 3 (by decide) t h'), leaves_live m c 4 t (live_early 4 (by decide) t h'), leaves_live m c 5 t (live_early 5 (by decide) t h'), leaves_live m c 6 t (live_early 6 (by decide) t h'), leaves_live m c 7 t (live_early 7 (by decide) t h'), leaves_live m c 8 t (live_early 8 (by decide) t h'), leaves_live m c 9 t (live_early 9 (by decide) t h'), leaves_live m c 10 t (live_early 10 (by decide) t h'), leaves_live m c 11 t (live_early 11 (by decide) t h'), Dat.leavesExact_idle (dats m 0 c) 12 t (idle_sinks t h') (noFlush_sinks t h')]
  rw [after_0, after_1, after_2, after_3, after_4, after_5, after_6, after_7, after_8, after_9, after_10, after_11, after_inside m c t h h', carried_castSucc, carried_pos m c _ _ h]
  dsimp only [stateInside]
  iintro ⟨⟨⟨HS15, HS16, HS17⟩, Hg⟩, Ho, ⟨%d1, H1⟩, ⟨%d2, H2⟩, ⟨%d3, H3⟩, ⟨%d4, H4⟩, ⟨%d5, H5⟩, ⟨%d6, H6⟩, ⟨%d7, H7⟩, ⟨%d9, H9⟩, ⟨%d10, H10⟩, ⟨%d11, H11⟩, ⟨%d12, H12⟩, ⟨%d13, H13⟩, ⟨%d14, H14⟩⟩
  iapply ((atInside m c t h h' (after m c (t.val - 1) (pred t))).2.2.2.2.2.2.2.2 _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [HS15]; · iexact HS15
  isplitl [HS16]; · iexact HS16
  isplitl [HS17]; · iexact HS17
  iintro ⟨H1, H2, H3, H4, H5, H6, H7, H9, H10, H11, H12, H13, H14, HS15, HS16, HS17⟩
  isplitl [HS15 HS16 HS17 Hg]
  · isplitl [HS15 HS16 HS17]
    · isplitl [HS15]
      · iapply (owns_writes c _ _ (coverInside_carryK m c t h h' _)); iexact HS15
      isplitl [HS16]
      · iapply (owns_writes c _ _ (coverInside_carryV m c t h h' _)); iexact HS16
      iapply (owns_writes c _ _ (coverInside_sums m c t h h' _)); iexact HS17
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iapply (owns_writes c _ _ (coverInside_dq m c t h h' _)); iexact H9
  isplitl [H10]; · iapply (owns_writes c _ _ (coverInside_dkEven m c t h h' _)); iexact H10
  isplitl [H11]; · iapply (owns_writes c _ _ (coverInside_dkOdd m c t h h' _)); iexact H11
  isplitl [H12]; · iapply (owns_writes c _ _ (coverInside_dvEven m c t h h' _)); iexact H12
  isplitl [H13]; · iapply (owns_writes c _ _ (coverInside_dvOdd m c t h h' _)); iexact H13
  iexists _; iexact H14

set_option maxHeartbeats 4000000 in
theorem soundLast (c : Dev nD) (t : Fin cfg0.N) (h : t.val = 16) :
    bodyPre m c t ⊢ wp frame (wpE (defs₀ (F := F)) Variants.none c none) Set.univ (bodyAt0 t) (fun _ => bodyPost m c t) := by
  unfold bodyPre bodyPost bodyAt0
  simp only [before_last7 m c t h, before_last8 m c t h, before_last10 m c t h, before_0, before_1, before_2, before_3, before_4, before_5, before_6]
  rw [show (dats m 0 c).owesAt () t.succ = (dats m 0 c).owesAt () t.castSucc from rfl]
  rw [show (dats m 0 c).Φ t.succ = carried m c (t.val + 1) t.isLt from rfl, carried_pos m c (t.val + 1) _ (Nat.succ_ne_zero _)]
  simp only [Nat.add_sub_cancel]
  rw [leaves_live m c 0 t (live_last 0 (by decide) t h), leaves_live m c 1 t (live_last 1 (by decide) t h), leaves_live m c 2 t (live_last 2 (by decide) t h), leaves_live m c 3 t (live_last 3 (by decide) t h), leaves_live m c 4 t (live_last 4 (by decide) t h), leaves_live m c 5 t (live_last 5 (by decide) t h), leaves_live m c 6 t (live_last 6 (by decide) t h), leaves_flushed m c 7 t (idle_last7 t h) (flush_last7 t h), leaves_flushed m c 8 t (idle_last8 t h) (flush_last8 t h), leaves_live m c 9 t (live_last 9 (by decide) t h), leaves_flushed m c 10 t (idle_last10 t h) (flush_last10 t h), leaves_live m c 11 t (live_last 11 (by decide) t h), leaves_live m c 12 t (live_last 12 (by decide) t h)]
  rw [after_0, after_1, after_2, after_3, after_4, after_5, after_6, after_7, after_8, after_9, after_10, after_11, after_12, after_last m c t h, carried_castSucc, carried_pos m c _ _ (by omega)]
  dsimp only [stateLast]
  iintro ⟨⟨⟨HS15, HS16, HS17⟩, Hg⟩, Ho, ⟨%d1, H1⟩, ⟨%d2, H2⟩, ⟨%d3, H3⟩, ⟨%d4, H4⟩, ⟨%d5, H5⟩, ⟨%d6, H6⟩, ⟨%d7, H7⟩, ⟨%d9, H9⟩, ⟨%d10, H10⟩, ⟨%d11, H11⟩, ⟨%d12, H12⟩, ⟨%d13, H13⟩, ⟨%d14, H14⟩⟩
  iapply ((atLast m c t h (after m c (t.val - 1) (pred t))).2.2.2 _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexists _; iexact H11
  isplitl [H12]; · iexact H12
  isplitl [H13]; · iexists _; iexact H13
  isplitl [H14]; · iexists _; iexact H14
  isplitl [HS15]; · iexact HS15
  isplitl [HS16]; · iexact HS16
  isplitl [HS17]; · iexact HS17
  iintro ⟨H1, H2, H3, H4, H5, H6, H7, H9, H10, H11, H12, H13, H14, HS15, HS16, HS17⟩
  isplitl [HS15 HS16 HS17 Hg]
  · isplitl [HS15 HS16 HS17]
    · isplitl [HS15]
      · iexact HS15
      isplitl [HS16]
      · iexact HS16
      iexact HS17
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iapply (owns_writes c _ _ (coverLast_dkOdd m c t h _)); iexact H11
  isplitl [H12]; · iexact H12
  isplitl [H13]; · iapply (owns_writes c _ _ (coverLast_dvOdd m c t h _)); iexact H13
  iapply (owns_writes c _ _ (coverLast_dsink m c t h _)); iexact H14

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  have hN : t.val < 17 := lt_of_lt_of_eq t.isLt N_0
  have key : bodyPre m c t ⊢ wp frame (wpE (defs₀ (F := F)) Variants.none c none) Set.univ (bodyAt0 t) (fun _ => bodyPost m c t) := by
    by_cases h : t.val = 0
    · exact soundFirst m c t h
    by_cases h' : t.val < 16
    · exact soundInside m c t h h'
    · exact soundLast m c t (by omega)
  exact triple_restated key rfl .rfl fun _ => .rfl

theorem enter (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = carried m c cfg0.N (Nat.le_refl _) from rfl,
    carried_pos m c _ _ (by have : cfg0.N = 17 := N_0; omega), launch_scratch]
  iintro ⟨⟨H15, H16, H17⟩, Hg⟩
  isplitl [H15 H16 H17]
  · isplitl [H15]
    · iexists _; iexact H15
    isplitl [H16]
    · iexists _; iexact H16
    iexists _; iexact H17
  iexact Hg

set_option backward.isDefEq.respectTransparency.types false in
/-- Every execution ends, with every array at what the blocks written back make of it and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Band

end
-- ==== Proof.Band.Arrays.lean ====
/-
  The attention gradient's kernel: its six result arrays after the run.
-/
module

public import proofs.«01_k».proof.Proof.Band.States
public import proofs.«01_k».proof.Proof.Band.Frame
public import Idealize.ShloMosaic.Lib.Pipeline.ValueKit

@[expose] public section

set_option maxRecDepth 16384

noncomputable section

namespace Cert.Band

open Cert.Kernel2Ideal Cert.Kernel2Ideal.Gen
open Idealize.ShloMosaic Idealize.ShloMosaic.TcCoe Idealize.ShloMosaic.Tactic Idealize.SL.Sem
open Idealize.ShloMosaic.Pipeline (Dat)

theorem lane_eq : ∀ (l : Fin 128) (h : Fin 16), IntOp.cmpi .eq (BitVec.ofNat 32 l.val) (BitVec.ofNat 32 h.val) = if l.val = h.val then 1#1 else 0#1 := by
  decide +kernel

namespace Data
/-- The rows of keys and of values, by pairs of blocks. -/
def rowsK (D : Data) (p : Fin 2) (n : Fin 16) (r : Fin 128) (l : Fin 256) : EReal := (D.dK (blockOf n p) r (headAt l) (laneAt l) : EReal)
def rowsV (D : Data) (p : Fin 2) (n : Fin 16) (r : Fin 128) (l : Fin 256) : EReal := (D.dV (blockOf n p) r (headAt l) (laneAt l) : EReal)
end Data

theorem at_three (f : Fin 16 → Fin 128 → Fin 256 → EReal) {n n' : Fin 16} {r r' : Fin 128} {l l' : Fin 256} (hn : n.val = n'.val) (hr : r.val = r'.val) (hl : l.val = l'.val) :
    f n r l = f n' r' l' := by
  rw [Fin.ext hn, Fin.ext hr, Fin.ext hl]

/-- A head put into its lane. -/
theorem withHead_apply (s : Vec Ideal S8x256 .f32) (f : Fin 16 → EReal)
    (hf : ∀ h : Fin 16, (∑ k : Fin 128, s (ix2 (sumRow h) ⟨128 * (sumHalf h).val + k.val, by omega⟩)) = f h) (h : Fin 16)
    (acc : FVec Ideal S1x128 .f32) (l : Fin 128) : withHead s acc h (ix2 0 l) = if l.val = h.val then f h else acc (ix2 0 l) := by
  have e : ∀ k : Fin 128, (View.readAt (Elt Ideal) scr17.view (partRect h).toLoadRect ((Memref.isWhole_whole _).unread s) : FVec Ideal S1x128 .f32) (ix2 0 k)
      = s (ix2 (sumRow h) ⟨128 * (sumHalf h).val + k.val, by omega⟩) := fun k =>
    load_apply scr17 (Memref.isWhole_whole _) s _ _ 0 k _ _ (by show (sumRow h).val = (sumRow h).val + 0; omega) rfl
  have hc : (∑ k : Fin 128, (View.readAt (Elt Ideal) scr17.view (partRect h).toLoadRect ((Memref.isWhole_whole _).unread s) : FVec Ideal S1x128 .f32) (ix2 0 k)) = f h :=
    (Finset.sum_congr rfl fun k _ => e k).trans (hf h)
  unfold withHead
  generalize (View.readAt (Elt Ideal) scr17.view (partRect h).toLoadRect ((Memref.isWhole_whole _).unread s) : FVec Ideal S1x128 .f32) = u at hc ⊢
  pointwise []
  rw [hc, lane_eq l h]
  split_ifs <;> rfl

theorem withHeads_apply (s : Vec Ideal S8x256 .f32) (f : Fin 16 → EReal)
    (hf : ∀ h : Fin 16, (∑ k : Fin 128, s (ix2 (sumRow h) ⟨128 * (sumHalf h).val + k.val, by omega⟩)) = f h) (l : Fin 128) :
    ∀ (hs : List (Fin 16)) (acc : FVec Ideal S1x128 .f32),
      hs.foldl (withHead s) acc (ix2 0 l) = if h : l.val < 16 ∧ ∃ k ∈ hs, k.val = l.val then f ⟨l.val, h.1⟩ else acc (ix2 0 l)
  | [], acc => by simp
  | h :: hs, acc => by
    rw [List.foldl_cons, withHeads_apply s f hf l hs, withHead_apply s f hf h acc l]
    by_cases e : l.val = h.val
    · rw [dif_pos (show l.val < 16 ∧ ∃ k ∈ h :: hs, k.val = l.val from ⟨by omega, h, List.mem_cons_self, e.symm⟩), if_pos e]
      split_ifs
      · rfl
      · exact congrArg f (Fin.ext e.symm)
    · rw [if_neg e]
      by_cases k : l.val < 16 ∧ ∃ k ∈ hs, k.val = l.val
      · rw [dif_pos k, dif_pos ⟨k.1, by obtain ⟨_, a, b, d⟩ := k; exact ⟨a, List.mem_cons_of_mem _ b, d⟩⟩]
      · rw [dif_neg k, dif_neg]
        rintro ⟨a, b, d, z⟩
        rcases List.mem_cons.mp d with rfl | d
        · exact e z.symm
        · exact k ⟨a, b, d, z⟩

/-- The sinks' gradient, from the sums by heads. -/
theorem heads_apply (s : Vec Ideal S8x256 .f32) (f : Fin 16 → EReal)
    (hf : ∀ h : Fin 16, (∑ k : Fin 128, s (ix2 (sumRow h) ⟨128 * (sumHalf h).val + k.val, by omega⟩)) = f h) (l : Fin 128) :
    heads s (ix2 0 l) = if h : l.val < 16 then f ⟨l.val, h⟩ else 0 := by
  have hm : ∀ h : Fin 16, h ∈ headOrder := by unfold headOrder; decide
  unfold heads
  rw [withHeads_apply s f hf l]
  by_cases h : l.val < 16
  · rw [dif_pos ⟨h, ⟨l.val, h⟩, hm _, rfl⟩, dif_pos h]
  · rw [dif_neg (fun k => h k.1), dif_neg h]
    pointwise []

variable (m : (ℓ : Loc nD τ sig) → Buf (Elt Ideal) ℓ) (c : Dev nD)

/-- The sums after all blocks, by heads, are the sinks' gradient. -/
theorem Data.sum_heads (D : Data) (h : Fin 16) : (∑ k : Fin 128, D.sumTo 15 (sumRow h) ⟨128 * (sumHalf h).val + k.val, by omega⟩) = D.dS h := by
  unfold Data.sumTo Data.dS
  rw [Finset.sum_neg_distrib, Finset.sum_comm, Finset.sum_range]
  refine congrArg Neg.neg (Finset.sum_congr rfl fun b _ => Finset.sum_congr rfl fun k _ => ?_)
  have hb : b.val < 32 := b.isLt
  have hk := k.isLt
  unfold Data.partAt Data.part
  rw [dif_pos hb]
  have key : ∀ (x y : Fin 16) (k k' : Fin 128), x.val = y.val → k.val = k'.val → D.GS ⟨b.val, hb⟩ x k = D.GS ⟨b.val, hb⟩ y k' := fun x y k k' h1 h2 => by
    rw [Fin.ext h1, Fin.ext h2]
  refine key _ _ _ _ ?_ ?_
  · show 4 * ((2 * (h.val / 4) + h.val % 2) / 2) + 2 * ((128 * (h.val / 2 % 2) + k.val) / 128) + (2 * (h.val / 4) + h.val % 2) % 2 = h.val
    have := h.isLt
    omega
  · show (128 * (h.val / 2 % 2) + k.val) % 128 = k.val
    omega

theorem last_odd_keys (t : Fin cfg0.N) (h : t.val = 16) (s : State Ideal) : (stateLast m c t h s).dkOdd = k0_pay358
    (View.readAt (Elt Ideal) scr15.view (Rect.unit (s := S128x256) ![0, 0] S128x256.size inb_S128x256_S128x256_0_0).toLoadRect ((Memref.isWhole_whole _).unread s.carryK)) := by
  unfold stateLast; dsimp only; rw [pieces_last_dkOdd]
  exact View.canon_unit_zero (S := S1x128x256) zero3 _ _
theorem last_odd_values (t : Fin cfg0.N) (h : t.val = 16) (s : State Ideal) : (stateLast m c t h s).dvOdd = k0_pay359
    (View.readAt (Elt Ideal) scr16.view (Rect.unit (s := S128x256) ![0, 0] S128x256.size inb_S128x256_S128x256_0_0).toLoadRect ((Memref.isWhole_whole _).unread s.carryV)) := by
  unfold stateLast; dsimp only; rw [pieces_last_dvOdd]
  exact View.canon_unit_zero (S := S1x128x256) zero3 _ _
theorem last_dsink (t : Fin cfg0.N) (h : t.val = 16) (s : State Ideal) : (stateLast m c t h s).dsink = heads s.sums := by
  unfold stateLast; dsimp only; rw [pieces_last_dsink]
  exact View.canon_unit_zero (S := S1x128) zero2 _ _

variable {m c} {D : Data} (hD : D.Holds m c)
include hD

/-- What the point before the last leaves. -/
theorem before_last (t : Fin cfg0.N) (h : t.val = 16) : D.After ⟨15, by decide⟩ (after m c (t.val - 1) (pred t)) := by
  have e : ∀ (n : ℕ) (hn : n < cfg0.N), n = 15 → D.After ⟨15, by decide⟩ (after m c n hn) := fun n hn h => by
    subst h; exact after_holds hD 15 hn (by decide)
  exact e _ _ (by omega)

/-- The blocks that end at a point, at every point. -/
theorem even_holds (t : Fin cfg0.N) :
    (∀ (r : Fin 256) (l : Fin 1024), (after m c t.val t.isLt).dq (ix2 r l)
      = (D.dQ (blockOf ⟨min t.val 15, by omega⟩ ⟨r.val / 128, by omega⟩) ⟨r.val % 128, by omega⟩ ⟨l.val / 64, by omega⟩ ⟨l.val % 64, by omega⟩ : EReal))
    ∧ (∀ (r : Fin 128) (l : Fin 256), (after m c t.val t.isLt).dkEven (ix3 0 r l) = D.rowsK 0 ⟨min t.val 15, by omega⟩ r l)
    ∧ (∀ (r : Fin 128) (l : Fin 256), (after m c t.val t.isLt).dvEven (ix3 0 r l) = D.rowsV 0 ⟨min t.val 15, by omega⟩ r l) := by
  have ht : t.val < 17 := t.isLt.trans_eq N_0
  suffices key : ∃ s : State Ideal, D.After ⟨min t.val 15, by omega⟩ s ∧ (after m c t.val t.isLt).dq = s.dq
      ∧ (after m c t.val t.isLt).dkEven = s.dkEven ∧ (after m c t.val t.isLt).dvEven = s.dvEven by
    obtain ⟨s, hs, hq, hk, hv⟩ := key
    rw [hq, hk, hv]
    exact ⟨hs.dq, hs.dkEven, hs.dvEven⟩
  rcases Nat.lt_or_ge t.val 16 with h | h
  · rw [show (⟨min t.val 15, by omega⟩ : Fin 16) = ⟨t.val, h⟩ from Fin.ext (by show min t.val 15 = t.val; omega)]
    exact ⟨_, after_holds hD t.val t.isLt h, rfl, rfl, rfl⟩
  · have h16 : t.val = 16 := by omega
    rw [show (⟨min t.val 15, by omega⟩ : Fin 16) = ⟨15, by decide⟩ from Fin.ext (by show min t.val 15 = 15; omega), after_last m c t h16]
    refine ⟨_, before_last hD t h16, ?_, ?_, ?_⟩ <;> (unfold stateLast; dsimp only)

/-- The blocks that end one point later. -/
theorem odd_holds (t : Fin cfg0.N) (h : t.val ≠ 0) :
    (∀ (r : Fin 128) (l : Fin 256), (after m c t.val t.isLt).dkOdd (ix3 0 r l) = D.rowsK 1 ⟨t.val - 1, by have := t.isLt.trans_eq N_0; omega⟩ r l)
    ∧ (∀ (r : Fin 128) (l : Fin 256), (after m c t.val t.isLt).dvOdd (ix3 0 r l) = D.rowsV 1 ⟨t.val - 1, by have := t.isLt.trans_eq N_0; omega⟩ r l) := by
  have ht : t.val < 17 := t.isLt.trans_eq N_0
  rcases Nat.lt_or_ge t.val 16 with h' | h'
  · have hs := after_holds hD (t.val - 1) (pred t) (by omega)
    rw [after_inside m c t h h']
    exact ⟨inside_dkOdd hD t h h' _ hs, inside_dvOdd hD t h h' _ hs⟩
  · have h16 : t.val = 16 := by omega
    have hs := before_last hD t h16
    rw [after_last m c t h16]
    generalize after m c (t.val - 1) (pred t) = s at hs ⊢
    rw [show (⟨t.val - 1, by omega⟩ : Fin 16) = ⟨15, by decide⟩ from Fin.ext (by show t.val - 1 = 15; omega)]
    refine ⟨fun r l => ?_, fun r l => ?_⟩
    · rw [last_odd_keys]
      have e := (load_apply scr15 (Memref.isWhole_whole _) s.carryK _ inb_S128x256_S128x256_0_0 r l r l (by show r.val = 0 + r.val; omega) (by show l.val = 0 + l.val; omega)).trans (hs.carryK r l)
      generalize (View.readAt (Elt Ideal) scr15.view _ _) = u at e ⊢
      pointwise [k0_pay358]
      refine e.trans (congrArg Real.toEReal ?_)
      unfold Data.dK folded
      rw [dif_neg (show ¬(blockOf 15 1).val + 1 < 32 by decide), add_zero]
      rfl
    · rw [last_odd_values]
      have e := (load_apply scr16 (Memref.isWhole_whole _) s.carryV _ inb_S128x256_S128x256_0_0 r l r l (by show r.val = 0 + r.val; omega) (by show l.val = 0 + l.val; omega)).trans (hs.carryV r l)
      generalize (View.readAt (Elt Ideal) scr16.view _ _) = u at e ⊢
      pointwise [k0_pay359]
      refine e.trans (congrArg Real.toEReal ?_)
      unfold Data.dV folded
      rw [dif_neg (show ¬(blockOf 15 1).val + 1 < 32 by decide), add_zero]
      rfl

/-- The sinks' gradient after the last point. -/
theorem dsink_holds (t : Fin cfg0.N) (h : t.val = 16) (l : Fin 128) :
    (after m c t.val t.isLt).dsink (ix2 0 l) = if h : l.val < 16 then (D.dS ⟨l.val, h⟩ : EReal) else 0 := by
  rw [after_last m c t h, last_dsink]
  refine heads_apply _ (fun h => (D.dS h : EReal)) (fun h => ?_) l
  rw [← D.sum_heads h, ← coe_sum]
  exact Finset.sum_congr rfl fun k _ => (before_last hD t ‹_›).sums _ _
omit hD

theorem index_results : ∀ t : Fin cfg0.N,
    (win0_7.index t 0 = min t.val 15 ∧ win0_7.index t 1 = 0) ∧ (win0_8.index t 0 = min t.val 15 ∧ win0_8.index t 1 = 0 ∧ win0_8.index t 2 = 0)
    ∧ (win0_9.index t 0 = t.val - 1 ∧ win0_9.index t 1 = 0 ∧ win0_9.index t 2 = 0) ∧ (win0_10.index t 0 = min t.val 15 ∧ win0_10.index t 1 = 0 ∧ win0_10.index t 2 = 0)
    ∧ (win0_11.index t 0 = t.val - 1 ∧ win0_11.index t 1 = 0 ∧ win0_11.index t 2 = 0) ∧ win0_12.index t 1 = 0 :=
  (by decide +kernel : ∀ t : Fin grid0.N, _)
theorem flush_odd : ∀ t : Fin cfg0.N, ((cfg0.win 9).flush t = true → t.val ≠ 0) ∧ ((cfg0.win 11).flush t = true → t.val ≠ 0) :=
  (by decide +kernel : ∀ t : Fin grid0.N, _)

namespace Data
/-- The six results as arrays. -/
def dqR (D : Data) : FVec Ideal S4096x1024 .f32 := fun i =>
  (D.dQ ⟨(i 0).val / 128, Nat.div_lt_of_lt_mul (i 0).isLt⟩ ⟨(i 0).val % 128, Nat.mod_lt _ (by decide)⟩ ⟨(i 1).val / 64, Nat.div_lt_of_lt_mul (i 1).isLt⟩ ⟨(i 1).val % 64, Nat.mod_lt _ (by decide)⟩ : EReal)
def dkR (D : Data) (p : Fin 2) : FVec Ideal S16x128x256 .f32 := fun i => D.rowsK p (i 0) (i 1) (i 2)
def dvR (D : Data) (p : Fin 2) : FVec Ideal S16x128x256 .bf16 := fun i => D.rowsV p (i 0) (i 1) (i 2)
def dsinkR (D : Data) : FVec Ideal S1x128 .f32 := fun i => if h : (i 1).val < 16 then (D.dS ⟨(i 1).val, h⟩ : EReal) else 0
end Data

include hD

theorem arr7 : (dats m 0 c).arrAt 7 cfg0.N = D.dqR := by
  refine (dats m 0 c).arrAt_eq_of_covers 7 _ (by decide +kernel) fun t hf y => ?_
  blk_simp
  rw [after_7]
  obtain ⟨r, l, rfl⟩ := Cert.Step.idx2 (A := 256) (B := 1024) y
  refine ((even_holds hD t).1 r l).trans ?_
  have key : ∀ (b b' : Fin 32) (r r' : Fin 128) (h h' : Fin 16) (d d' : Fin 64), b.val = b'.val → r.val = r'.val → h.val = h'.val → d.val = d'.val →
      (D.dQ b r h d : EReal) = (D.dQ b' r' h' d' : EReal) := fun b b' r r' h h' d d' hb hr hh hd => by
    rw [Fin.ext hb, Fin.ext hr, Fin.ext hh, Fin.ext hd]
  have i0 := (index_results t).1.1
  have i1 := (index_results t).1.2
  refine key _ _ _ _ _ _ _ _ ?_ ?_ ?_ ?_
  · show 2 * min t.val 15 + r.val / 128 = (win0_7.index t 0 * 256 + 1 * r.val) / 128; rw [i0]; omega
  · show r.val % 128 = (win0_7.index t 0 * 256 + 1 * r.val) % 128; rw [i0]; omega
  · show l.val / 64 = (win0_7.index t 1 * 1024 + 1 * l.val) / 64; rw [i1]; omega
  · show l.val % 64 = (win0_7.index t 1 * 1024 + 1 * l.val) % 64; rw [i1]; omega

theorem arr8 : (dats m 0 c).arrAt 8 cfg0.N = D.dkR 0 := by
  refine (dats m 0 c).arrAt_eq_of_covers 8 _ (by decide +kernel) fun t hf y => ?_
  blk_simp
  rw [after_8]
  obtain ⟨z, r, l, rfl⟩ := Cert.Step.idx3 (A := 1) (B := 128) (C := 256) y
  obtain rfl := Fin.eq_zero z
  obtain ⟨i0, i1, i2⟩ := (index_results t).2.1
  refine ((even_holds hD t).2.1 r l).trans (at_three (D.rowsK 0) ?_ ?_ ?_)
  · show min t.val 15 = win0_8.index t 0 * 1 + 1 * 0; rw [i0]; omega
  · show r.val = win0_8.index t 1 * 128 + 1 * r.val; rw [i1]; omega
  · show l.val = win0_8.index t 2 * 256 + 1 * l.val; rw [i2]; omega

theorem arr9 : (dats m 0 c).arrAt 9 cfg0.N = D.dkR 1 := by
  refine (dats m 0 c).arrAt_eq_of_covers 9 _ (by decide +kernel) fun t hf y => ?_
  have h := (flush_odd t).1 hf
  blk_simp
  rw [after_9]
  obtain ⟨z, r, l, rfl⟩ := Cert.Step.idx3 (A := 1) (B := 128) (C := 256) y
  obtain rfl := Fin.eq_zero z
  obtain ⟨i0, i1, i2⟩ := (index_results t).2.2.1
  refine ((odd_holds hD t h).1 r l).trans (at_three (D.rowsK 1) ?_ ?_ ?_)
  · show t.val - 1 = win0_9.index t 0 * 1 + 1 * 0; rw [i0]; omega
  · show r.val = win0_9.index t 1 * 128 + 1 * r.val; rw [i1]; omega
  · show l.val = win0_9.index t 2 * 256 + 1 * l.val; rw [i2]; omega

theorem arr10 : (dats m 0 c).arrAt 10 cfg0.N = D.dvR 0 := by
  refine (dats m 0 c).arrAt_eq_of_covers 10 _ (by decide +kernel) fun t hf y => ?_
  blk_simp
  rw [after_10]
  obtain ⟨z, r, l, rfl⟩ := Cert.Step.idx3 (A := 1) (B := 128) (C := 256) y
  obtain rfl := Fin.eq_zero z
  obtain ⟨i0, i1, i2⟩ := (index_results t).2.2.2.1
  refine ((even_holds hD t).2.2 r l).trans (at_three (D.rowsV 0) ?_ ?_ ?_)
  · show min t.val 15 = win0_10.index t 0 * 1 + 1 * 0; rw [i0]; omega
  · show r.val = win0_10.index t 1 * 128 + 1 * r.val; rw [i1]; omega
  · show l.val = win0_10.index t 2 * 256 + 1 * l.val; rw [i2]; omega

theorem arr11 : (dats m 0 c).arrAt 11 cfg0.N = D.dvR 1 := by
  refine (dats m 0 c).arrAt_eq_of_covers 11 _ (by decide +kernel) fun t hf y => ?_
  have h := (flush_odd t).2 hf
  blk_simp
  rw [after_11]
  obtain ⟨z, r, l, rfl⟩ := Cert.Step.idx3 (A := 1) (B := 128) (C := 256) y
  obtain rfl := Fin.eq_zero z
  obtain ⟨i0, i1, i2⟩ := (index_results t).2.2.2.2.1
  refine ((odd_holds hD t h).2 r l).trans (at_three (D.rowsV 1) ?_ ?_ ?_)
  · show t.val - 1 = win0_11.index t 0 * 1 + 1 * 0; rw [i0]; omega
  · show r.val = win0_11.index t 1 * 128 + 1 * r.val; rw [i1]; omega
  · show l.val = win0_11.index t 2 * 256 + 1 * l.val; rw [i2]; omega

theorem arr12 : (dats m 0 c).arrAt 12 cfg0.N = D.dsinkR := by
  refine (dats m 0 c).arrAt_eq_of_covers 12 _ (by decide +kernel) fun t hf y => ?_
  have ht : t.val < 17 := t.isLt.trans_eq N_0
  have h : t.val = 16 := by have := (flush0_12 t).mp hf; omega
  blk_simp
  rw [after_12]
  obtain ⟨z, l, rfl⟩ := Cert.Step.idx2 (A := 1) (B := 128) y
  obtain rfl := Fin.eq_zero z
  refine (dsink_holds hD t h l).trans (congrArg (fun l : Fin 128 => if h : l.val < 16 then (D.dS ⟨l.val, h⟩ : EReal) else 0) (Fin.ext ?_))
  show l.val = win0_12.index t 1 * 128 + 1 * l.val; rw [(index_results t).2.2.2.2.2]; omega

end Cert.Band

end
-- ==== Proof.Band.RefArrays.lean ====
/-
  The reference's results are the gradient: the queries', the keys' and the values' by blocks, the sinks'.
-/
module

public import proofs.«01_k».proof.Proof.Band.RefGradient
public import proofs.«01_k».proof.Proof.Band.Arrays

@[expose] public section

noncomputable section

open Idealize.ShloMosaic Idealize.ShloMosaic.TcCoe Idealize.SL.Sem

namespace Cert.Band

/-- The two halves of the bands, shifted by a block and added, are the bands folded. -/
theorem fold_pick (f : Fin 32 → Fin 256 → ℝ) (m : Fin 4096) (p1 : ∀ h : 1 ≤ (128 + m.val) / 128 ∧ (128 + m.val) / 128 - 1 < 32, 128 + (128 + m.val) % 128 < 256)
    (p2 : ∀ h : (128 + m.val) / 128 < 32, (128 + m.val) % 128 < 256) :
    (if h : 1 ≤ (128 + m.val) / 128 ∧ (128 + m.val) / 128 - 1 < 32 then (f ⟨(128 + m.val) / 128 - 1, h.2⟩ ⟨128 + (128 + m.val) % 128, p1 h⟩ : EReal) else 0)
      + (if h : (128 + m.val) / 128 < 32 then (f ⟨(128 + m.val) / 128, h⟩ ⟨(128 + m.val) % 128, p2 h⟩ : EReal) else 0)
    = (folded f ⟨m.val / 128, by omega⟩ ⟨m.val % 128, by omega⟩ : EReal) := by
  have h1 : 1 ≤ (128 + m.val) / 128 ∧ (128 + m.val) / 128 - 1 < 32 := by omega
  rw [dif_pos h1]
  unfold folded
  have e1 : (⟨(128 + m.val) / 128 - 1, h1.2⟩ : Fin 32) = ⟨m.val / 128, by omega⟩ := Fin.ext (by show (128 + m.val) / 128 - 1 = m.val / 128; omega)
  have e2 : (⟨128 + (128 + m.val) % 128, p1 h1⟩ : Fin 256) = ⟨128 + m.val % 128, by omega⟩ := Fin.ext (by show 128 + (128 + m.val) % 128 = 128 + m.val % 128; omega)
  rw [e1, e2]
  by_cases h : (128 + m.val) / 128 < 32
  · have h' : m.val / 128 + 1 < 32 := by omega
    rw [dif_pos h, dif_pos h', EReal.coe_add]
    have e3 : (⟨(128 + m.val) / 128, h⟩ : Fin 32) = ⟨m.val / 128 + 1, h'⟩ := Fin.ext (by show (128 + m.val) / 128 = m.val / 128 + 1; omega)
    have e4 : (⟨(128 + m.val) % 128, p2 h⟩ : Fin 256) = ⟨m.val % 128, by omega⟩ := Fin.ext (by show (128 + m.val) % 128 = m.val % 128; omega)
    rw [e3, e4]
  · have h' : ¬m.val / 128 + 1 < 32 := by omega
    rw [dif_neg h, dif_neg h', EReal.coe_add, EReal.coe_zero]

theorem split_head (h : Fin 16) : headOf ⟨h.val / 4, by omega⟩ ⟨h.val % 4, by omega⟩ = h := Fin.ext (by show 4 * (h.val / 4) + h.val % 4 = h.val; omega)

namespace Ref

open Cert.Reference2Ideal Cert.Reference2Ideal.Gen Cert.Reference2Ideal.Read Cert.Step

theorem eight : Ideal.ofBits .f32 0x41000000#32 = ((8 : ℝ) : EReal) := by
  simp [Ideal.ofBits, Ideal.ieee, -EReal.coe_mul]; norm_num

variable {x0 : FVec Ideal S4096x16x64 .f32} {x1 x2 : FVec Ideal S4096x4x64 .f32} {x3 : FVec Ideal S2x16 .f32} {x4 : FVec Ideal S4096x16x64 .f32} {D : Data}
  (hD : Of D x0 x1 x2 x3 x4)
include hD

theorem dq_apply (m : Fin 4096) (L : Fin 1024) : (val_main_v167 (F := Ideal) x0 x1 x2 x3 x4) (ix2 m L)
    = (D.dQ ⟨m.val / 128, by omega⟩ ⟨m.val % 128, by omega⟩ ⟨L.val / 64, by omega⟩ ⟨L.val % 64, by omega⟩ : EReal) := by
  have h8 : (val_main_v166 (F := Ideal)) (ix2 m L) = ((8 : ℝ) : EReal) := by
    unfold val_main_v166
    pointwise [val_main_cst_32]
    exact eight
  rw [val_main_v167_apply, mul_eq, h8, op165, op161, op142, op141]
  simp only [op140, op139, score_gradient hD, keys_apply hD, eighth, ← EReal.coe_mul, coe_sum]
  rw [split_head ⟨L.val / 64, by omega⟩, Finset.sum_mul]
  exact congrArg Real.toEReal (Finset.sum_congr rfl fun s _ => by rw [show kvOf ⟨L.val / 64, by omega⟩ = ⟨L.val / 64 / 4, by omega⟩ from rfl]; ring)

theorem bandK_apply (b : Fin 32) (s : Fin 256) (j : Fin 4) (l : Fin 64) : (val_main_v144 (F := Ideal) x0 x1 x2 x3 x4) (ix4 b s j l) = (D.bandK j l b s : EReal) := by
  rw [op144, op143]
  simp only [op140, op139, score_gradient hD, q_apply hD, eighth, ← EReal.coe_mul, coe_sum]
  unfold Data.bandK
  rw [Finset.sum_comm]
  exact congrArg Real.toEReal (Finset.sum_congr rfl fun i _ => Finset.sum_congr rfl fun r _ => by ring)

theorem bandV_apply (b : Fin 32) (s : Fin 256) (j : Fin 4) (l : Fin 64) : (val_main_v104 (F := Ideal) x0 x1 x3 x4) (ix4 b s j l) = (D.bandV j l b s : EReal) := by
  rw [op104, op103]
  simp only [cotangent_apply hD, probability hD, ← EReal.coe_mul, coe_sum]
  unfold Data.bandV
  exact congrArg Real.toEReal (Finset.sum_congr rfl fun i _ => Finset.sum_congr rfl fun r _ => by ring)

theorem foldK_apply (m : Fin 4096) (j : Fin 4) (l : Fin 64) : (val_main_v160 (F := Ideal) x0 x1 x2 x3 x4) (ix3 m j l)
    = (D.dK ⟨m.val / 128, by omega⟩ ⟨m.val % 128, by omega⟩ j l : EReal) := by
  rw [op160, op158, val_main_v157_apply, add_eq, op155, op156]
  simp only [op153, op154, bandK_apply hD]
  exact fold_pick (D.bandK j l) m _ _

theorem foldV_apply (m : Fin 4096) (j : Fin 4) (l : Fin 64) : (val_main_v152 (F := Ideal) x0 x1 x3 x4) (ix3 m j l)
    = (D.dV ⟨m.val / 128, by omega⟩ ⟨m.val % 128, by omega⟩ j l : EReal) := by
  rw [op152, op150, val_main_v149_apply, add_eq, op147, op148]
  simp only [op145, op146, bandV_apply hD]
  exact fold_pick (D.bandV j l) m _ _

omit hD in
theorem place (p : Fin 16) (z : Fin 2) (r : Fin 128) (h1 h2 h3) : (⟨(⟨p.val * 256 + z.val * 128 + r.val, h1⟩ : Fin 4096).val / 128, h2⟩ : Fin 32) = blockOf p z
    ∧ (⟨(⟨p.val * 256 + z.val * 128 + r.val, h1⟩ : Fin 4096).val % 128, h3⟩ : Fin 128) = r :=
  ⟨Fin.ext (by show (p.val * 256 + z.val * 128 + r.val) / 128 = 2 * p.val + z.val; omega), Fin.ext (by show (p.val * 256 + z.val * 128 + r.val) % 128 = r.val; omega)⟩

theorem dk_apply (p : Fin 16) (z : Fin 2) (r : Fin 128) (s : Fin 256) : (val_main_v162 (F := Ideal) x0 x1 x2 x3 x4) (ix4 p z r s) = D.rowsK z p r s := by
  rw [op162, foldK_apply hD, (place p z r _ _ (by omega)).1, (place p z r _ (by omega) _).2]
  rfl

theorem dv_apply (p : Fin 16) (z : Fin 2) (r : Fin 128) (s : Fin 256) : (val_main_v164 (F := Ideal) x0 x1 x3 x4) (ix4 p z r s) = D.rowsV z p r s := by
  rw [op164, op163, foldV_apply hD, (place p z r _ _ (by omega)).1, (place p z r _ (by omega) _).2]
  rfl

theorem dsink_apply (h : Fin 16) : (val_main_v136 (F := Ideal) x0 x1 x2 x3 x4) (ix1 h) = (D.dS h : EReal) := by
  rw [op136, op135, val_main_v128_apply, add_eq, op115, op114, op127, op126]
  simp only [sink_gradient hD, sink_max_gradient hD, Finset.sum_const_zero, add_zero, coe_sum, split_head]
  unfold Data.dS
  simp only [Finset.sum_neg_distrib]

theorem dq_eq : val_main_v167 (F := Ideal) x0 x1 x2 x3 x4 = D.dqR := funext fun y => by
  obtain ⟨m, L, rfl⟩ := idx2 y
  exact dq_apply hD m L

theorem dk_even_eq : val_main_v169 (F := Ideal) x0 x1 x2 x3 x4 = D.dkR 0 := funext fun y => by
  obtain ⟨p, r, s, rfl⟩ := idx3 y
  rw [op169, op168, dk_apply hD]; rfl

theorem dk_odd_eq : val_main_v171 (F := Ideal) x0 x1 x2 x3 x4 = D.dkR 1 := funext fun y => by
  obtain ⟨p, r, s, rfl⟩ := idx3 y
  rw [op171, op170, dk_apply hD]; rfl

theorem dv_even_eq : val_main_v173 (F := Ideal) x0 x1 x3 x4 = D.dvR 0 := funext fun y => by
  obtain ⟨p, r, s, rfl⟩ := idx3 y
  rw [op173, op172, dv_apply hD]; rfl

theorem dv_odd_eq : val_main_v175 (F := Ideal) x0 x1 x3 x4 = D.dvR 1 := funext fun y => by
  obtain ⟨p, r, s, rfl⟩ := idx3 y
  rw [op175, op174, dv_apply hD]; rfl

theorem dsink_eq : val_main_v177 (F := Ideal) x0 x1 x2 x3 x4 = D.dsinkR := funext fun y => by
  obtain ⟨z, w, rfl⟩ := idx2 y
  obtain rfl : z = 0 := Subsingleton.elim _ _
  rw [op177]
  simp only [op176, dsink_apply hD]
  rfl

end Ref

end Cert.Band

end
-- ==== Proof.Band.Frames.lean ====
module

public import proofs.«01_k».proof.Proof.Gen.Kernel2
public import proofs.«01_k».proof.Proof.Band.Frame
public import proofs.«01_k».proof.Defs

@[expose] public section

set_option maxRecDepth 16384

noncomputable section

/-! The frame of the attention gradient's compiled program: its text is that of the idealized one with the mask's
literal where that has a name, so it is the same run with the name read as the literal. -/

namespace Cert.Band

open Idealize.ShloMosaic Idealize.ShloMosaic.TcCoe Idealize.ShloMosaic.Tactic Idealize.SL.Sem

/-- The mask's name read as its literal. -/
local instance literal : Named Bits where
  named _ _ {φ} bits := Scalar.ofBits (F := Bits) φ bits

theorem frame_kernel : Cert.quiescent_Kernel2 :=
  Eq.mp (by sl_kernel_rfl) (fun m ρ (_ : True) => Cert.Band.frame (F := Bits) m ρ)

theorem frame_ideal : Cert.quiescent_Kernel2Ideal := fun m ρ _ => Cert.Band.frame (F := Ideal) m ρ

end Cert.Band

end
-- ==== Proof.Band.Equation.lean ====
/-
  The precondition read at an index, the numbers the arguments hold, and the equation between the attention gradient's two
  programs.
-/
module

public import proofs.«01_k».proof.Defs
public import proofs.«01_k».proof.Proof.Band.RefArrays
public import proofs.«01_k».proof.Proof.Band.Frames
public import proofs.«01_k».proof.Proof.Gen.Pre_finite2
public import proofs.«01_k».proof.Proof.Gen.Reference2Ideal.Run

@[expose] public section

set_option maxRecDepth 16384

noncomputable section

open Idealize.ShloMosaic Idealize.ShloMosaic.TcCoe Idealize.SL.Sem

namespace Cert.Band

open Cert.Step

section Pre

variable (x0 : FVec Ideal Cert.Pre_finite2.S4096x16x64 .f32) (x1 x2 : FVec Ideal Cert.Pre_finite2.S4096x4x64 .f32)
  (x3 : FVec Ideal Cert.Pre_finite2.S2x16 .f32) (x4 : FVec Ideal Cert.Pre_finite2.S4096x16x64 .f32)

theorem pre_q (h : (Cert.Pre_finite2.fn (F := Ideal) x0 x1 x2 x3 x4).1 = fun _ => 1#1) (r : Fin 4096) (a : Fin 16) (l : Fin 64) : IsReal (x0 (ix3 r a l)) := by
  have := congrFun h (ix3 r a l)
  pointwise [Cert.Pre_finite2.fn] at this
  exact fin_of_lt _ this

theorem pre_k (h : (Cert.Pre_finite2.fn (F := Ideal) x0 x1 x2 x3 x4).2.1 = fun _ => 1#1) (r : Fin 4096) (a : Fin 4) (l : Fin 64) : IsReal (x1 (ix3 r a l)) := by
  have := congrFun h (ix3 r a l)
  pointwise [Cert.Pre_finite2.fn] at this
  exact fin_of_lt _ this

theorem pre_v (h : (Cert.Pre_finite2.fn (F := Ideal) x0 x1 x2 x3 x4).2.2.1 = fun _ => 1#1) (r : Fin 4096) (a : Fin 4) (l : Fin 64) : IsReal (x2 (ix3 r a l)) := by
  have := congrFun h (ix3 r a l)
  pointwise [Cert.Pre_finite2.fn] at this
  exact fin_of_lt _ this

theorem pre_s (h : (Cert.Pre_finite2.fn (F := Ideal) x0 x1 x2 x3 x4).2.2.2.1 = fun _ => 1#1) (a : Fin 16) : IsReal (x3 (ix2 1 a)) := by
  have := congrFun h (ix2 1 a)
  pointwise [Cert.Pre_finite2.fn] at this
  exact fin_of_lt _ this

theorem pre_d (h : (Cert.Pre_finite2.fn (F := Ideal) x0 x1 x2 x3 x4).2.2.2.2 = fun _ => 1#1) (r : Fin 4096) (a : Fin 16) (l : Fin 64) : IsReal (x4 (ix3 r a l)) := by
  have := congrFun h (ix3 r a l)
  pointwise [Cert.Pre_finite2.fn] at this
  exact fin_of_lt _ this

end Pre

open Cert.Kernel2Ideal Cert.Kernel2Ideal.Gen

theorem coe_of_real {x : EReal} (h : IsReal x) : x = ((x.toReal : ℝ) : EReal) := by
  obtain ⟨a, rfl⟩ := h
  rw [EReal.toReal_coe]

variable (m : (ℓ : Loc nD τ sig) → Buf (Elt Ideal) ℓ) (c : Dev nD)

/-- The numbers that the arguments hold. -/
def dataOf : Data where
  q r a l := EReal.toReal (argQ m c (ix3 r a l))
  k r a l := EReal.toReal (argK m c (ix3 r a l))
  v r a l := EReal.toReal (argV m c (ix3 r a l))
  s a := EReal.toReal (argS m c (ix2 1 a))
  d r a l := EReal.toReal (argD m c (ix3 r a l))

theorem holds (hpre : Cert.Pre_Kernel2Ideal_finite2 m) : (dataOf m c).Holds m c := by
  obtain ⟨hq, hk, hv, hs, hd⟩ := hpre c
  exact ⟨fun r a l => coe_of_real (pre_q _ _ _ _ _ hq r a l), fun r a l => coe_of_real (pre_k _ _ _ _ _ hk r a l), fun r a l => coe_of_real (pre_v _ _ _ _ _ hv r a l),
    fun a => coe_of_real (pre_s _ _ _ _ _ hs a), fun r a l => coe_of_real (pre_d _ _ _ _ _ hd r a l)⟩

variable {m c} in
theorem of_holds {D : Data} (h : D.Holds m c) : Ref.Of D (argQ m c) (argK m c) (argV m c) (argS m c) (argD m c) := ⟨h.q, h.k, h.v, h.s, h.d⟩

/-- The run with every result named. -/
theorem run_arrays (ρ : Dev nD → PrngReg) : θ_run defs (onTc (τ := τ) (main (F := Ideal))) ⟨m, fun _ => 0, ρ⟩ (fun r => ∀ c : Dev nD,
      (r.2.mem ((c.tc : Thread nD τ).loc main_v31_0) = (dats m 0 c).arrAt 7 cfg0.N
      ∧ r.2.mem ((c.tc : Thread nD τ).loc main_v31_1) = (dats m 0 c).arrAt 8 cfg0.N
      ∧ r.2.mem ((c.tc : Thread nD τ).loc main_v31_2) = (dats m 0 c).arrAt 9 cfg0.N
      ∧ r.2.mem ((c.tc : Thread nD τ).loc main_v31_3) = (dats m 0 c).arrAt 10 cfg0.N
      ∧ r.2.mem ((c.tc : Thread nD τ).loc main_v31_4) = (dats m 0 c).arrAt 11 cfg0.N
      ∧ r.2.mem ((c.tc : Thread nD τ).loc main_v31_5) = (dats m 0 c).arrAt 12 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨(h.1.1 c).1 7, (h.1.1 c).1 8, (h.1.1 c).1 9, (h.1.1 c).1 10, (h.1.1 c).1 11, (h.1.1 c).1 12⟩, h.2.1 c⟩)
    (θ_run_and (run m ρ) (frame m ρ))

theorem reference_frame : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem value : Cert.algebraic_Kernel2Ideal_Reference2Ideal_pre_finite2 := by
  intro m g m' g' hpre hag
  refine ⟨fun c => (dataOf m c).dqR, fun c => (dataOf m c).dkR 0, fun c => (dataOf m c).dkR 1, fun c => (dataOf m c).dvR 0, fun c => (dataOf m c).dvR 1,
    fun c => (dataOf m c).dsinkR, ?_, ?_⟩
  · refine (θ_run defs _ _).mono (fun r h c => ?_) (run_arrays m g)
    obtain ⟨⟨h7, h8, h9, h10, h11, h12⟩, hargs⟩ := h c
    have hD := holds m c hpre
    exact ⟨h7.trans (arr7 hD), h8.trans (arr8 hD), h9.trans (arr9 hD), h10.trans (arr10 hD), h11.trans (arr11 hD), h12.trans (arr12 hD), hargs⟩
  · refine (θ_run Cert.Reference2Ideal.defs _ _).mono (fun r h c => ?_) (Cert.Reference2Ideal.Value.run m' g')
    obtain ⟨h0, h1, h2, h3, h4, h5, hargs⟩ := h c
    obtain ⟨e0, e1, e2, e3, e4⟩ := hag c
    have hR := of_holds (holds m c hpre)
    have l0 : StableHlo.launchContents m' c (Proc.devRef .tc Cert.Reference2Ideal.main_arg0) = argQ m c := e0
    have l1 : StableHlo.launchContents m' c (Proc.devRef .tc Cert.Reference2Ideal.main_arg1) = argK m c := e1
    have l2 : StableHlo.launchContents m' c (Proc.devRef .tc Cert.Reference2Ideal.main_arg2) = argV m c := e2
    have l3 : StableHlo.launchContents m' c (Proc.devRef .tc Cert.Reference2Ideal.main_arg3) = argS m c := e3
    have l4 : StableHlo.launchContents m' c (Proc.devRef .tc Cert.Reference2Ideal.main_arg4) = argD m c := e4
    refine ⟨h0.trans ?_, h1.trans ?_, h2.trans ?_, h3.trans ?_, h4.trans ?_, h5.trans ?_, hargs⟩
    · rw [Cert.Reference2Ideal.Read.val_main_v167_eq, l0, l1, l2, l3, l4]; exact Ref.dq_eq hR
    · rw [Cert.Reference2Ideal.Read.val_main_v169_eq, l0, l1, l2, l3, l4]; exact Ref.dk_even_eq hR
    · rw [Cert.Reference2Ideal.Read.val_main_v171_eq, l0, l1, l2, l3, l4]; exact Ref.dk_odd_eq hR
    · rw [Cert.Reference2Ideal.Read.val_main_v173_eq, l0, l1, l3, l4]; exact Ref.dv_even_eq hR
    · rw [Cert.Reference2Ideal.Read.val_main_v175_eq, l0, l1, l3, l4]; exact Ref.dv_odd_eq hR
    · rw [Cert.Reference2Ideal.Read.val_main_v177_eq, l0, l1, l2, l3, l4]; exact Ref.dsink_eq hR

end Cert.Band

end
-- ==== Proof.Pool.Plan.lean ====
/-
  The pooling kernel's two planes of scratch rows: the writes of one grid point, the fill and ten steps of doubling, and the
  point's pooled rows, as payload terms of the point's input blocks, at any float values.
-/
module

public import proofs.«01_k».proof.Proof.Gen.Kernel3Ideal.Frame
public import Idealize.ShloMosaic.Lib.Pipeline.Value
public import Idealize.ShloMosaic.Lib.Tactic

@[expose] public section

noncomputable section

open Idealize.ShloMosaic Idealize.ShloMosaic.TcCoe Idealize.SL.Sem

namespace Cert.Kernel3Ideal.Pool

open Cert.Kernel3Ideal Cert.Kernel3Ideal.Gen

variable {F : FTy → Type} [FloatOps F]

abbrev Planes (F : FTy → Type) : Type := List (View.Piece (Elt F) S2x536x1024 .f32)

theorem box (p : Fin 2) (lo n c0 : ℕ) (h : lo + n ≤ 536) (hc : c0 + 256 ≤ 1024) :
    ∀ a, (![p.val, lo, c0] : Fin 3 → ℕ) a + (![1, n, 256] : Fin 3 → ℕ) a ≤ S2x536x1024.size a
  | ⟨0, _⟩ => p.isLt
  | ⟨1, _⟩ => h
  | ⟨2, _⟩ => hc

/-- The rows before the point's tile, and the tile. -/
def filled (tile : FVec F S1x512x1024 .f32) (halo : FVec F S1x16x1024 .f32) : Planes F :=
  [⟨Rect.unit ![0, 24, 0] S1x512x1024.size inb_S2x536x1024_S1x512x1024_0_24_0, tile⟩,
   ⟨Rect.unit ![0, 8, 0] S1x16x1024.size inb_S2x536x1024_S1x16x1024_0_8_0, halo⟩,
   ⟨Rect.unit ![1, 0, 0] S1x8x1024.size inb_S2x536x1024_S1x8x1024_1_0_0, k0_pay10⟩,
   ⟨Rect.unit ![0, 0, 0] S1x8x1024.size inb_S2x536x1024_S1x8x1024_0_0_0, k0_pay9⟩]

/-- The rows from `lo` of one plane's columns from `c0`. -/
def rows (L : Planes F) (q : Fin 2) (lo c0 : ℕ) (h : lo + 528 ≤ 536) (hc : c0 + 256 ≤ 1024) : Vec F S1x528x256 .f32 :=
  scM0_0.view.readCov L (Rect.unit (s := S2x536x1024) ![q.val, lo, c0] S1x528x256.size (box q lo 528 c0 h hc)).toLoadRect

/-- One step: into plane `p` the rows of plane `q` added to its rows moved down by `d`. -/
def doubled (L : Planes F) (q p : Fin 2) (d c0 : ℕ) (hc : c0 + 256 ≤ 1024 := by decide) : Planes F :=
  ⟨Rect.unit (s := S2x536x1024) ![p.val, 8, c0] S1x528x256.size (box p 8 528 c0 (by decide) hc),
    k0_pay14 (rows L q 8 c0 (by decide) hc) (rows L q (8 - d) c0 (by omega) hc)⟩ :: L

/-- The writes of one point. -/
def planes (tile : FVec F S1x512x1024 .f32) (halo : FVec F S1x16x1024 .f32) : Planes F :=
  let g0 := doubled (filled tile halo) 0 1 1 0
  let g1 := doubled (doubled g0 0 1 1 256) 1 0 2 256
  let g2 := doubled (doubled (doubled g1 0 1 1 512) 1 0 2 512) 0 1 4 512
  doubled (doubled (doubled (doubled g2 0 1 1 768) 1 0 2 768) 0 1 4 768) 1 0 8 768

/-- The tile's rows of one plane's columns from `c0`. -/
def tileRows (L : Planes F) (q : Fin 2) (c0 : ℕ) (hc : c0 + 256 ≤ 1024 := by decide) : Vec F S1x512x256 .f32 :=
  scM0_0.view.readCov L (Rect.unit (s := S2x536x1024) ![q.val, 24, c0] S1x512x256.size (box q 24 512 c0 (by decide) hc)).toLoadRect

variable (m : (ℓ : Loc nD τ sig) → Buf (Elt F) ℓ) (c : Dev nD) (t : Fin cfg0.N)

/-- The point's values, one group's columns. -/
abbrev colsB (c0 : ℕ) (h : c0 + 256 ≤ 1024 := by decide) : Vec F S512x256 .bf16 :=
  View.ld (iblk m c 2 t) (Rect.unit (s := S512x1024) ![0, c0] S512x256.size (fun a => match a with | ⟨0, _⟩ => le_rfl | ⟨1, _⟩ => h))

/-- The writes of point `t`. -/
def planesB : Planes F := planes (k0_pay12 (iblk m c 2 t)) (k0_pay11 (grid0.coords t) (iblk m c 3 t))

abbrev mean0 : FVec F S512x256 .f32 := k0_pay26 (k0_pay13 (grid0.coords t)) 1#32 (tileRows (planesB m c t) 1 0) (colsB m c t 0)
abbrev mean1 : FVec F S512x256 .f32 := k0_pay27 (k0_pay13 (grid0.coords t)) (tileRows (planesB m c t) 0 256) (colsB m c t 256)
abbrev mean2 : FVec F S512x256 .f32 := k0_pay28 (k0_pay13 (grid0.coords t)) (tileRows (planesB m c t) 1 512) (colsB m c t 512)

/-- The point's pooled rows. -/
def pooledB : FVec F S512x1024 .bf16 :=
  k0_pay29 (k0_pay13 (grid0.coords t)) (mean0 m c t) (mean1 m c t) (mean2 m c t) 1#32 (tileRows (planesB m c t) 0 768) (colsB m c t 768)

/-- One group's matrix. -/
abbrev wgB (g : Fin 4) : Vec F S1x256x256 .bf16 :=
  View.ld (iblk m c 5 t) (Rect.unit (s := S4x256x256) ![g.val, 0, 0] S1x256x256.size (fun a => match a with | ⟨0, _⟩ => g.isLt | ⟨1, _⟩ => le_rfl | ⟨2, _⟩ => le_rfl))

/-- The point's mixed rows. -/
def mixedB : FVec F S512x1024 .f32 :=
  k0_pay30 (k0_pay13 (grid0.coords t)) (mean0 m c t) (mean1 m c t) (mean2 m c t) 1#32 (tileRows (planesB m c t) 0 768) (colsB m c t 768)
    (wgB m c t 0) (wgB m c t 1) (wgB m c t 2) (wgB m c t 3)

/-- The point's row of the modulation table that holds the adaLN gate, and its row of the scales. -/
abbrev gateRow : Vec F S1x1x1024 .f32 :=
  View.ld (iblk m c 8 t) (Rect.unit ![0, 2, 0] S1x1x1024.size inb_S1x8x1024_S1x1x1024_0_2_0)
abbrev scaleB : FVec F S1x1024 .f32 := k0_pay31 (iblk m c 7 t)

/-- The gradients at the gated mix and at the mix. -/
def duB : FVec F S512x1024 .f32 := k0_pay38 (iblk m c 0 t) (gateRow m c t) (iblk m c 6 t)
def dmxB : FVec F S512x1024 .bf16 := k0_pay44 (scaleB m c t) (k0_pay35 (iblk m c 4 t)) (duB m c t)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point is the first one, the last one, or between them. -/
theorem three : (t.val % 8 = 0 ∧ ¬t.val % 8 = 7) ∨ (¬t.val % 8 = 0 ∧ ¬t.val % 8 = 7) ∨ (¬t.val % 8 = 0 ∧ t.val % 8 = 7) := by
  omega

end Cert.Kernel3Ideal.Pool
-- ==== Proof.Pool.Planes.lean ====
/-
  Two planes of rows in scratch memory, written in boxes of rows and columns one after another: what a box written last
  leaves at an index, what a box read finds, and what a step of the windows' doubling does.
-/
module

public import Idealize.ShloMosaic.Lib.Pipeline.Value
public import Idealize.ShloMosaic.Lib.Pipeline.FrameBody
public import proofs.«01_k».proof.Proof.Common.Sums

@[expose] public section

noncomputable section

open Idealize.ShloMosaic

namespace Cert.Pool

open Cert.Step

abbrev Two (N : ℕ) : Shape := ⟨3, ![2, N, 1024]⟩

variable {Val : EltTy → Type} [∀ e, Nonempty (Val e)] {N : ℕ} {e : EltTy}

/-- What the writes `L` leave at row `r` and column `k` of plane `q`. -/
def content (L : List (View.Piece Val (Two N) e)) (q : Fin 2) (r k : ℕ) : Val e :=
  if h : r < N ∧ k < 1024 then View.canon L (ix3 q ⟨r, h.1⟩ ⟨k, h.2⟩) else Classical.arbitrary _

variable {p : Fin 2} {lo c0 n w : ℕ} {inb : ∀ a, (![p.val, lo, c0] : Fin 3 → ℕ) a + (![1, n, w] : Fin 3 → ℕ) a ≤ (Two N).size a}

theorem content_hit (v : (⟨3, ![1, n, w]⟩ : Shape).Idx → Val e) (L : List (View.Piece Val (Two N) e)) (r k : ℕ)
    (h1 : lo ≤ r) (h2 : r < lo + n) (h3 : c0 ≤ k) (h4 : k < c0 + w) :
    content (⟨Rect.unit (s := Two N) ![p.val, lo, c0] ![1, n, w] inb, v⟩ :: L) p r k = v (ix3 0 ⟨r - lo, by omega⟩ ⟨k - c0, by omega⟩) := by
  have e1 : lo + n ≤ N := inb 1
  have e2 : c0 + w ≤ 1024 := inb 2
  unfold content
  rw [dif_pos ⟨by omega, by omega⟩]
  refine Eq.trans (congrArg _ (funext fun a => Fin.ext ?_)) (View.canon_cons_emb (Rect.unit (s := Two N) ![p.val, lo, c0] ![1, n, w] inb) v L
    (ix3 0 ⟨r - lo, by omega⟩ ⟨k - c0, by omega⟩))
  match a with
  | ⟨0, _⟩ => show p.val = p.val + 1 * 0; omega
  | ⟨1, _⟩ => show r = lo + 1 * (r - lo); omega
  | ⟨2, _⟩ => show k = c0 + 1 * (k - c0); omega

theorem content_miss (v : (⟨3, ![1, n, w]⟩ : Shape).Idx → Val e) (L : List (View.Piece Val (Two N) e)) (q : Fin 2) (r k : ℕ)
    (h : q = p → lo ≤ r → r < lo + n → c0 ≤ k → k < c0 + w → False) :
    content (⟨Rect.unit (s := Two N) ![p.val, lo, c0] ![1, n, w] inb, v⟩ :: L) q r k = content L q r k := by
  unfold content
  split
  · refine View.canon_cons_of_not_mem _ L fun hm => ?_
    have hm := (Rect.mem_set_unit (inb := inb)).mp hm
    have a0 : p.val ≤ q.val ∧ q.val < p.val + 1 := hm 0
    have a1 : lo ≤ r ∧ r < lo + n := hm 1
    have a2 : c0 ≤ k ∧ k < c0 + w := hm 2
    exact h (Fin.ext (by omega)) a1.1 a1.2 a2.1 a2.2
  · rfl

variable {sig : RefSig} {κ : Kind} {sp : Space} (view : View sig κ sp (Two N) e)

theorem read_content (L : List (View.Piece Val (Two N) e)) (i : Fin n) (j : Fin w) :
    view.readCov L (Rect.unit (s := Two N) ![p.val, lo, c0] ![1, n, w] inb).toLoadRect (ix3 0 i j : (⟨3, ![1, n, w]⟩ : Shape).Idx) = content L p (lo + i.val) (c0 + j.val) := by
  have e1 : lo + n ≤ N := inb 1
  have e2 : c0 + w ≤ 1024 := inb 2
  rw [View.readCov_eq_canon']
  unfold content
  rw [dif_pos ⟨by omega, by omega⟩]
  refine congrArg _ (funext fun a => Fin.ext ?_)
  match a with
  | ⟨0, _⟩ => show p.val + 1 * 0 = p.val; omega
  | ⟨1, _⟩ => show lo + 1 * i.val = lo + i.val; omega
  | ⟨2, _⟩ => show c0 + 1 * j.val = c0 + j.val; omega

end Cert.Pool

end
-- ==== Proof.Pool.Windows.lean ====
/-
  Sums over trailing windows of rows, by doubling: two planes of rows, each step writing into one plane the other
  plane's rows added to the same rows moved down by the window so far.
-/
module

public import Idealize.ShloMosaic.PureOps.Ideal
public import proofs.«01_k».proof.Proof.Pool.Planes

@[expose] public section

noncomputable section

open Idealize.ShloMosaic

namespace Cert.Pool

open Cert.Step

/-- The sum of the `w` values that end at row `r`; rows before the first count nothing. -/
def trail (e : ℕ → EReal) (w r : ℕ) : EReal := ∑ j ∈ Finset.range w, if j ≤ r then e (r - j) else 0

theorem trail_one (e : ℕ → EReal) (r : ℕ) : trail e 1 r = e r := by simp [trail]

theorem trail_double (e : ℕ → EReal) (w r : ℕ) (h : w ≤ r) : trail e w r + trail e w (r - w) = trail e (2 * w) r := by
  unfold trail
  rw [two_mul, Finset.sum_range_add]
  refine congrArg _ (Finset.sum_congr rfl fun j _ => ?_)
  by_cases hj : j ≤ r - w
  · rw [if_pos hj, if_pos (by omega), Nat.sub_sub]
  · rw [if_neg hj, if_neg (by omega)]

theorem trail_zero (e : ℕ → EReal) (w r : ℕ) (h : ∀ i, i ≤ r → e i = 0) : trail e w r = 0 :=
  Finset.sum_eq_zero fun j _ => by split <;> [exact h _ (by omega); rfl]

/-- On the columns of one group, plane `q` holds `s`. -/
def Holds (L : List (View.Piece (Elt Ideal) (Two 536) .f32)) (q : Fin 2) (c0 : ℕ) (s : ℕ → ℕ → EReal) : Prop :=
  ∀ r k, r < 536 → c0 ≤ k → k < c0 + 256 → (content L q r k : EReal) = s r k

/-- The state of one group's doubling: plane `q` holds the sums over windows of `w` rows, and the first rows of plane
    `p` are zero. -/
def State (L : List (View.Piece (Elt Ideal) (Two 536) .f32)) (e : ℕ → ℕ → EReal) (q p : Fin 2) (w c0 : ℕ) : Prop :=
  Holds L q c0 (fun r k => trail (fun i => e i k) w r) ∧ ∀ r k, r < 8 → c0 ≤ k → k < c0 + 256 → (content L p r k : EReal) = 0

variable {L : List (View.Piece (Elt Ideal) (Two 536) .f32)} {e : ℕ → ℕ → EReal} {q p : Fin 2} {w c0 : ℕ}
  {v : (⟨3, ![1, 528, 256]⟩ : Shape).Idx → Elt Ideal .f32}
  {inb : ∀ a, (![p.val, 8, c0] : Fin 3 → ℕ) a + (![1, 528, 256] : Fin 3 → ℕ) a ≤ (Two 536).size a}

theorem State.step (h : State L e q p w c0) (hne : q ≠ p) (hw : w ≤ 8) (he : ∀ r k, r < 8 → e r k = 0)
    (hv : ∀ (i : Fin 528) (j : Fin 256), (v (ix3 0 i j) : EReal) = content L q (8 + i.val) (c0 + j.val) + content L q (8 - w + i.val) (c0 + j.val)) :
    State (⟨Rect.unit (s := Two 536) ![p.val, 8, c0] ![1, 528, 256] inb, v⟩ :: L) e p q (2 * w) c0 := by
  refine ⟨fun r k hr h1 h2 => ?_, fun r k hr h1 h2 => ?_⟩
  · by_cases h8 : r < 8
    · rw [content_miss v L p r k (by omega), h.2 r k h8 h1 h2]
      exact (trail_zero _ _ _ fun i hi => he i k (by omega)).symm
    · rw [content_hit v L r k (by omega) (by omega) h1 h2, hv]
      show (content L q (8 + (r - 8)) (c0 + (k - c0)) : EReal) + content L q (8 - w + (r - 8)) (c0 + (k - c0)) = _
      rw [show 8 + (r - 8) = r by omega, show c0 + (k - c0) = k by omega, show 8 - w + (r - 8) = r - w by omega,
        h.1 r k hr h1 h2, h.1 (r - w) k (by omega) h1 h2]
      exact trail_double _ w r (by omega)
  · rw [content_miss v L q r k (fun e => absurd e hne), h.1 r k (by omega) h1 h2]
    exact trail_zero _ _ _ fun i hi => he i k (by omega)

theorem State.keep {q' p' : Fin 2} {w' c1 : ℕ} (h : State L e q' p' w' c1) (hc : c1 + 256 ≤ c0 ∨ c0 + 256 ≤ c1) :
    State (⟨Rect.unit (s := Two 536) ![p.val, 8, c0] ![1, 528, 256] inb, v⟩ :: L) e q' p' w' c1 :=
  ⟨fun r k hr h1 h2 => by rw [content_miss v L q' r k (by omega)]; exact h.1 r k hr h1 h2,
   fun r k hr h1 h2 => by rw [content_miss v L p' r k (by omega)]; exact h.2 r k hr h1 h2⟩

end Cert.Pool

end
-- ==== Proof.Pool.Formula.lean ====
/-
  The pooling layer's mix and its gradient, as functions of whole arrays: `V` the values, `Wg` the group matrices, `sc` the
  layer's scale; the gate and the output projection are those of `Gate.Formula`, with the scaled mix in the place of the
  attention's output.
-/
module

public import proofs.«01_k».proof.Proof.Gate.Formula
public import proofs.«01_k».proof.Proof.Common.Finite
public import proofs.«01_k».proof.Proof.Pool.Windows

@[expose] public section

noncomputable section

open Idealize.ShloMosaic

namespace Cert.Pool

open Cert.Step Cert.Step.Gate

/-- The window of a group. -/
def window (g : Fin 4) : ℕ := ![2, 4, 8, 16] g

/-- The number of rows in a window of `w` that ends at row `r`, as a program counts it. -/
def count (w r : ℕ) : EReal := FloatOps.sitofp (F := Ideal) .f32 (IntOp.minsi (BitVec.ofNat 32 (r + 1)) (BitVec.ofNat 32 w))

/-- A column's values by row, zero past the last. -/
def colOf (V : Fin 4096 → Fin 1024 → EReal) (k : Fin 1024) (i : ℕ) : EReal := if h : i < 4096 then V ⟨i, h⟩ k else 0

/-- The column `p` of group `g`. -/
def col (g : Fin 4) (p : Fin 256) : Fin 1024 := ⟨256 * g.val + p.val, by omega⟩

/-- A group's trailing mean less the row itself. -/
def pooled (V : Fin 4096 → Fin 1024 → EReal) (r : Fin 4096) (g : Fin 4) (p : Fin 256) : EReal :=
  Ideal.div (trail (colOf V (col g p)) (window g) r.val) (count (window g) r.val) - V r (col g p)

variable (X V G BR : Fin 4096 → Fin 1024 → EReal) (γ sc : Fin 1024 → EReal) (W : Fin 1024 → Fin 1024 → EReal) (Wg : Fin 4 → Fin 256 → Fin 256 → EReal)

/-- The mix of a group's columns. -/
def mixed (r : Fin 4096) (k : Fin 1024) : EReal :=
  ∑ p, pooled V r ⟨k.val / 256, by omega⟩ p * Wg ⟨k.val / 256, by omega⟩ p ⟨k.val % 256, by omega⟩

def scaled (r : Fin 4096) (k : Fin 1024) : EReal := mixed V Wg r k * sc k

/-- The gradient of the mix. -/
def dMix (r : Fin 4096) (k : Fin 1024) : EReal := dOut X G γ W r k * sc k

def dPool (r : Fin 4096) (k : Fin 1024) : EReal :=
  ∑ q, dMix X G γ sc W r (col ⟨k.val / 256, by omega⟩ q) * Wg ⟨k.val / 256, by omega⟩ ⟨k.val % 256, by omega⟩ q

def dGroup (g : Fin 4) (p q : Fin 256) : EReal := ∑ r, pooled V r g p * dMix X G γ sc W r (col g q)

def dScale (k : Fin 1024) : EReal := ∑ r, dOut X G γ W r k * mixed V Wg r k

/-! ### A column by its group and its place in it -/

theorem exists_col (k : Fin 1024) : ∃ g q, k = col g q := ⟨⟨k.val / 256, by omega⟩, ⟨k.val % 256, by omega⟩, Fin.ext (by show k.val = 256 * (k.val / 256) + k.val % 256; omega)⟩

theorem col_group (g : Fin 4) (q : Fin 256) (h) : (⟨(col g q).val / 256, h⟩ : Fin 4) = g := Fin.ext (by show (256 * g.val + q.val) / 256 = g.val; omega)
theorem col_place (g : Fin 4) (q : Fin 256) (h) : (⟨(col g q).val % 256, h⟩ : Fin 256) = q := Fin.ext (by show (256 * g.val + q.val) % 256 = q.val; omega)

theorem mixed_col (r : Fin 4096) (g : Fin 4) (q : Fin 256) :
    mixed V Wg r (col g q) = ∑ p, pooled V r g p * Wg g p q := by
  unfold mixed
  simp only [col_group, col_place]

/-! ### Real numbers -/

theorem count_real : ∀ (g : Fin 4) (r : Fin 4096), ∃ n : ℤ, n ≠ 0 ∧ count (window g) r.val = ((n : ℝ) : EReal) := fun g r =>
  ⟨(IntOp.minsi (BitVec.ofNat 32 (r.val + 1)) (BitVec.ofNat 32 (window g))).toInt,
   (by decide +kernel : ∀ (g : Fin 4) (r : Fin 4096), (IntOp.minsi (BitVec.ofNat 32 (r.val + 1)) (BitVec.ofNat 32 (window g))).toInt ≠ 0) g r, rfl⟩

theorem real_sub {x y : EReal} : IsReal x → IsReal y → IsReal (x - y)
  | ⟨a, ha⟩, ⟨b, hb⟩ => ⟨a - b, by rw [ha, hb, EReal.coe_sub]⟩

theorem real_zero : IsReal 0 := ⟨0, by simp⟩

theorem trail_real (e : ℕ → EReal) (he : ∀ i, IsReal (e i)) (w r : ℕ) : IsReal (trail e w r) :=
  IsReal.sum _ fun j => by split <;> [exact he _; exact real_zero]

variable {V} (hV : ∀ r k, IsReal (V r k))
include hV

theorem colOf_real (k : Fin 1024) (i : ℕ) : IsReal (colOf V k i) := by
  unfold colOf; split <;> [exact hV _ _; exact real_zero]

theorem pooled_real (r : Fin 4096) (g : Fin 4) (p : Fin 256) : IsReal (pooled V r g p) := by
  obtain ⟨n, hn, hc⟩ := count_real g r
  unfold pooled
  rw [hc, Ideal.div_coe (by exact_mod_cast hn)]
  exact real_sub ((trail_real _ (colOf_real hV _) _ _).mul ⟨_, rfl⟩) (hV _ _)

theorem mixed_real (hW : ∀ g p q, IsReal (Wg g p q)) (r : Fin 4096) (k : Fin 1024) : IsReal (mixed V Wg r k) :=
  IsReal.sum _ fun p => (pooled_real hV _ _ _).mul (hW _ _ _)

end Cert.Pool

end
-- ==== Proof.Pool.Pooled.lean ====
/-
  The pooling kernel on the extended reals: the blocks of its windows as rows of the arrays, the sums that its steps of
  doubling leave in scratch memory, and one point's pooled rows.
-/
module

public import proofs.«01_k».proof.Proof.Pool.Plan
public import proofs.«01_k».proof.Proof.Pool.Formula
public import proofs.«01_k».proof.Proof.Gen.Kernel3Ideal.Value
public import Idealize.ShloMosaic.Lib.Pointwise

@[expose] public section

noncomputable section

open Idealize.ShloMosaic Idealize.ShloMosaic.TcCoe Idealize.SL.Sem
open Idealize.ShloMosaic.Pipeline (Dat)

namespace Cert.Kernel3Ideal.Pool

open Cert.Kernel3Ideal Cert.Kernel3Ideal.Gen Cert.Step Cert.Pool

/-! ### The planes -/

theorem tileRows_apply (L : Planes Ideal) (q : Fin 2) (c0 : ℕ) (hc) (i : Fin 512) (j : Fin 256) :
    tileRows L q c0 hc (ix3 0 i j) = content L q (24 + i.val) (c0 + j.val) :=
  read_content (N := 536) (n := 512) (w := 256) _ L i j

theorem rows_apply (L : Planes Ideal) (q : Fin 2) (lo c0 : ℕ) (h hc) (i : Fin 528) (j : Fin 256) :
    rows L q lo c0 h hc (ix3 0 i j) = content L q (lo + i.val) (c0 + j.val) :=
  read_content (N := 536) (n := 528) (w := 256) _ L i j

theorem sum_apply (u v : FVec Ideal S1x528x256 .f32) (i : Fin 528) (j : Fin 256) :
    k0_pay14 u v (ix3 0 i j) = (u (ix3 0 i j) : EReal) + v (ix3 0 i j) := by
  pointwise [k0_pay14]

variable {L : Planes Ideal} {e : ℕ → ℕ → EReal} {q p : Fin 2} {w c0 : ℕ}

theorem doubled_step (he : ∀ r k, r < 8 → e r k = 0) (hne : q ≠ p) (hw : w ≤ 8) (hc) (h : State L e q p w c0) : State (doubled L q p w c0 hc) e p q (2 * w) c0 :=
  h.step hne hw he fun i j => by
    rw [sum_apply, rows_apply, rows_apply]

theorem doubled_keep {q' p' : Fin 2} {w' c1 : ℕ} (hc) (h : State L e q' p' w' c1) (hd : c1 + 256 ≤ c0 ∨ c0 + 256 ≤ c1) : State (doubled L q p w c0 hc) e q' p' w' c1 :=
  h.keep hd

/-- Rows of an array of columns with a halo before a tile of 512 rows, zero where there are none. -/
def ext (V : Fin 4096 → Fin 1024 → EReal) (t r k : ℕ) : EReal :=
  if h : k < 1024 then (if r < 8 ∨ 512 * t + r < 24 then 0 else colOf V ⟨k, h⟩ (512 * t + r - 24)) else 0

theorem ext_trail (V : Fin 4096 → Fin 1024 → EReal) (t : ℕ) (k : Fin 1024) (w r : ℕ) (hw : w ≤ 16) :
    trail (fun i => ext V t i k.val) w (24 + r) = trail (colOf V k) w (512 * t + r) := by
  unfold trail
  refine Finset.sum_congr rfl fun j hj => ?_
  have hj : j < w := Finset.mem_range.mp hj
  rw [if_pos (by omega)]
  unfold ext
  dsimp only
  rw [dif_pos k.isLt]
  by_cases h : j ≤ 512 * t + r
  · rw [if_pos h, if_neg (by omega)]
    exact congrArg (colOf V k) (by omega)
  · rw [if_neg h, if_pos (by omega)]

theorem fill (V : Fin 4096 → Fin 1024 → EReal) (t : ℕ) (ht : t < 8) (tile : FVec Ideal S1x512x1024 .f32) (halo : FVec Ideal S1x16x1024 .f32)
    (h1 : ∀ (r : Fin 512) (k : Fin 1024), tile (ix3 0 r k) = V ⟨512 * t + r.val, by omega⟩ k)
    (h2 : ∀ (r : Fin 16) (k : Fin 1024), halo (ix3 0 r k) = if t = 0 then 0 else V ⟨512 * t + r.val - 16, by omega⟩ k)
    (c0 : ℕ) (hc : c0 + 256 ≤ 1024) : State (filled tile halo) (ext V t) 0 1 1 c0 := by
  refine ⟨fun r k hr a b => ?_, fun r k hr a b => ?_⟩
  · show content (filled tile halo) 0 r k = trail (fun i => ext V t i k) 1 r
    rw [trail_one]
    unfold filled ext
    rw [dif_pos (show k < 1024 by omega)]
    by_cases g1 : 24 ≤ r
    · refine (content_hit (p := 0) (lo := 24) (c0 := 0) (n := 512) (w := 1024) (N := 536) (Val := Elt Ideal) (e := .f32) tile _ r k (by omega) (by omega) (by omega) (by omega)).trans ?_
      refine (h1 _ _).trans ?_
      rw [if_neg (by omega)]
      unfold colOf
      rw [dif_pos (by omega)]
      exact congrArg₂ V (Fin.ext (by dsimp only; omega)) (Fin.ext (by dsimp only; omega))
    refine (content_miss (p := 0) (lo := 24) (c0 := 0) (n := 512) (w := 1024) (N := 536) (Val := Elt Ideal) (e := .f32) tile _ 0 r k (by omega)).trans ?_
    by_cases g2 : 8 ≤ r
    · refine (content_hit (p := 0) (lo := 8) (c0 := 0) (n := 16) (w := 1024) (N := 536) (Val := Elt Ideal) (e := .f32) halo _ r k (by omega) (by omega) (by omega) (by omega)).trans ?_
      refine (h2 _ _).trans ?_
      by_cases g3 : t = 0
      · rw [if_pos g3, if_pos (by omega)]
      rw [if_neg g3, if_neg (by omega)]
      unfold colOf
      rw [dif_pos (by omega)]
      exact congrArg₂ V (Fin.ext (by dsimp only; omega)) (Fin.ext (by dsimp only; omega))
    refine (content_miss (p := 0) (lo := 8) (c0 := 0) (n := 16) (w := 1024) (N := 536) (Val := Elt Ideal) (e := .f32) halo _ 0 r k (by omega)).trans ?_
    refine (content_miss (p := 1) (lo := 0) (c0 := 0) (n := 8) (w := 1024) (N := 536) (Val := Elt Ideal) (e := .f32) (k0_pay10 (F := Ideal)) _ 0 r k (fun e => absurd e (by decide))).trans ?_
    refine (content_hit (p := 0) (lo := 0) (c0 := 0) (n := 8) (w := 1024) (N := 536) (Val := Elt Ideal) (e := .f32) (k0_pay9 (F := Ideal)) _ r k (by omega) (by omega) (by omega) (by omega)).trans ?_
    rw [if_pos (by omega)]
    pointwise [k0_pay9]
  · unfold filled
    refine (content_miss (p := 0) (lo := 24) (c0 := 0) (n := 512) (w := 1024) (N := 536) (Val := Elt Ideal) (e := .f32) tile _ 1 r k (fun e => absurd e (by decide))).trans ?_
    refine (content_miss (p := 0) (lo := 8) (c0 := 0) (n := 16) (w := 1024) (N := 536) (Val := Elt Ideal) (e := .f32) halo _ 1 r k (fun e => absurd e (by decide))).trans ?_
    refine (content_hit (p := 1) (lo := 0) (c0 := 0) (n := 8) (w := 1024) (N := 536) (Val := Elt Ideal) (e := .f32) (k0_pay10 (F := Ideal)) _ r k (by omega) (by omega) (by omega) (by omega)).trans ?_
    pointwise [k0_pay10]

/-- After the ten steps each group's columns hold the sums over the group's window. -/
theorem planes_state (tile : FVec Ideal S1x512x1024 .f32) (halo : FVec Ideal S1x16x1024 .f32) (he : ∀ r k, r < 8 → e r k = 0)
    (hf : ∀ c0, c0 + 256 ≤ 1024 → State (filled tile halo) e 0 1 1 c0) :
    State (planes tile halo) e 1 0 2 0 ∧ State (planes tile halo) e 0 1 4 256 ∧ State (planes tile halo) e 1 0 8 512 ∧ State (planes tile halo) e 0 1 16 768 := by
  have s0 := doubled_step he (by decide) (by decide) (by decide) (hf 0 (by decide))
  have keep : ∀ {L : Planes Ideal} {q p q' p' : Fin 2} {w c0 w' c1 : ℕ} {hc}, (c1 + 256 ≤ c0 ∨ c0 + 256 ≤ c1) → State L e q' p' w' c1 → State (doubled L q p w c0 hc) e q' p' w' c1 :=
    fun hd h => doubled_keep _ h hd
  have step : ∀ {L : Planes Ideal} {q p : Fin 2} {w c0 : ℕ} {hc}, q ≠ p → w ≤ 8 → State L e q p w c0 → State (doubled L q p w c0 hc) e p q (2 * w) c0 :=
    fun hne hw h => doubled_step he hne hw _ h
  have k1 : ∀ {L : Planes Ideal} {q' p' : Fin 2} {w' c1 : ℕ}, (c1 + 256 ≤ 256) → State L e q' p' w' c1 →
      State (doubled (doubled L 0 1 1 256) 1 0 2 256) e q' p' w' c1 := fun hd h => keep (.inl hd) (keep (.inl hd) h)
  have k2 : ∀ {L : Planes Ideal} {q' p' : Fin 2} {w' c1 : ℕ}, (c1 + 256 ≤ 512) → State L e q' p' w' c1 →
      State (doubled (doubled (doubled L 0 1 1 512) 1 0 2 512) 0 1 4 512) e q' p' w' c1 := fun hd h => keep (.inl hd) (keep (.inl hd) (keep (.inl hd) h))
  have k3 : ∀ {L : Planes Ideal} {q' p' : Fin 2} {w' c1 : ℕ}, (c1 + 256 ≤ 768) → State L e q' p' w' c1 →
      State (doubled (doubled (doubled (doubled L 0 1 1 768) 1 0 2 768) 0 1 4 768) 1 0 8 768) e q' p' w' c1 :=
    fun hd h => keep (.inl hd) (keep (.inl hd) (keep (.inl hd) (keep (.inl hd) h)))
  have f1 : State (doubled (filled tile halo) 0 1 1 0) e 0 1 1 256 := keep (.inr (by decide)) (hf 256 (by decide))
  have f2 : State (doubled (doubled (doubled (filled tile halo) 0 1 1 0) 0 1 1 256) 1 0 2 256) e 0 1 1 512 :=
    keep (.inr (by decide)) (keep (.inr (by decide)) (keep (.inr (by decide)) (hf 512 (by decide))))
  have f3 : State (doubled (doubled (doubled (doubled (doubled (doubled (filled tile halo) 0 1 1 0) 0 1 1 256) 1 0 2 256) 0 1 1 512) 1 0 2 512) 0 1 4 512) e 0 1 1 768 :=
    keep (.inr (by decide)) (keep (.inr (by decide)) (keep (.inr (by decide)) (keep (.inr (by decide)) (keep (.inr (by decide)) (keep (.inr (by decide)) (hf 768 (by decide)))))))
  refine ⟨k3 (by decide) (k2 (by decide) (k1 (by decide) s0)), k3 (by decide) (k2 (by decide) ?_), k3 (by decide) ?_, ?_⟩
  · exact step (by decide) (by decide) (step (by decide) (by decide) f1)
  · exact step (by decide) (by decide) (step (by decide) (by decide) (step (by decide) (by decide) f2))
  · exact step (by decide) (by decide) (step (by decide) (by decide) (step (by decide) (by decide) (step (by decide) (by decide) f3)))

/-! ### The arrays and the windows' blocks -/

variable (m : (ℓ : Loc nD τ sig) → Buf (Elt Ideal) ℓ) (c : Dev nD)

/-- The arrays the windows read: the cotangent, the branch, the values, the gate's input, the groups' matrices, the output
    projection, the layer's scale and its adaLN gate. -/
def xA (r : Fin 4096) (d : Fin 1024) : EReal := V m c main_arg0 (ix2 r d)
def brA (r : Fin 4096) (d : Fin 1024) : EReal := V m c main_v69 (ix2 r d)
def vA (r : Fin 4096) (d : Fin 1024) : EReal := V m c main_v21 (ix2 r d)
def gA (r : Fin 4096) (d : Fin 1024) : EReal := V m c main_v22 (ix2 r d)
def wgA (g : Fin 4) (p q : Fin 256) : EReal := V m c main_v23 (ix3 g p q)
def wA (k d : Fin 1024) : EReal := V m c main_v24 (ix2 k d)
def scA (d : Fin 1024) : EReal := V m c main_v20 (ix4 1 4 0 d)
def gamA (d : Fin 1024) : EReal := V m c main_v19 (ix3 1 2 d)

/-- Row `r` of point `t`'s block. -/
abbrev rowOf (t : Fin cfg0.N) (r : Fin 512) : Fin 4096 := row 512 8 rfl (t.cast N_0) r

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 32 * t.val - 1 ∧ win0_3.index t 1 = 0)
    ∧ (win0_4.index t 0 = t.val ∧ win0_4.index t 1 = 0)
    ∧ (win0_9.index t 0 = t.val ∧ win0_9.index t 1 = 0) ∧ (win0_10.index t 0 = t.val ∧ win0_10.index t 1 = 0) :=
  (by decide +kernel : ∀ t : Fin grid0.N, _)

theorem index_whole : ∀ t : Fin cfg0.N, (win0_5.index t 0 = 0 ∧ win0_5.index t 1 = 0 ∧ win0_5.index t 2 = 0)
    ∧ (win0_6.index t 0 = 0 ∧ win0_6.index t 1 = 0)
    ∧ (win0_7.index t 0 = 1 ∧ win0_7.index t 1 = 4 ∧ win0_7.index t 2 = 0 ∧ win0_7.index t 3 = 0)
    ∧ (win0_8.index t 0 = 1 ∧ win0_8.index t 1 = 0 ∧ win0_8.index t 2 = 0)
    ∧ (win0_11.index t 0 = 0 ∧ win0_11.index t 1 = 0) ∧ (win0_12.index t 0 = 0 ∧ win0_12.index t 1 = 0 ∧ win0_12.index t 2 = 0)
    ∧ (win0_13.index t 0 = 0 ∧ win0_13.index t 1 = 0) :=
  (by decide +kernel : ∀ t : Fin grid0.N, _)

theorem at_three {A B C : ℕ} {α : Type*} (v : (⟨3, ![A, B, C]⟩ : Shape).Idx → α) (j : (⟨3, ![A, B, C]⟩ : Shape).Idx) (a : Fin A) (b : Fin B) (d : Fin C)
    (h0 : (j 0).val = a.val) (h1 : (j 1).val = b.val) (h2 : (j 2).val = d.val) : v j = v (ix3 a b d) :=
  congrArg v (funext fun a => Fin.ext (match a with | ⟨0, _⟩ => h0 | ⟨1, _⟩ => h1 | ⟨2, _⟩ => h2))

theorem at_four {A B C D : ℕ} {α : Type*} (v : (⟨4, ![A, B, C, D]⟩ : Shape).Idx → α) (j : (⟨4, ![A, B, C, D]⟩ : Shape).Idx) (a : Fin A) (b : Fin B) (x : Fin C) (d : Fin D)
    (h0 : (j 0).val = a.val) (h1 : (j 1).val = b.val) (h2 : (j 2).val = x.val) (h3 : (j 3).val = d.val) : v j = v (ix4 a b x d) :=
  congrArg v (funext fun a => Fin.ext (match a with | ⟨0, _⟩ => h0 | ⟨1, _⟩ => h1 | ⟨2, _⟩ => h2 | ⟨3, _⟩ => h3))

/-- An index of a rank-2 array is known by its two coordinates. -/
theorem at_rows {A B : ℕ} {α : Type*} (v : (⟨2, ![A, B]⟩ : Shape).Idx → α) (j : (⟨2, ![A, B]⟩ : Shape).Idx) (r : Fin A) (d : Fin B)
    (h0 : (j 0).val = r.val) (h1 : (j 1).val = d.val) : v j = v (ix2 r d) :=
  congrArg v (funext fun a => Fin.ext (match a with | ⟨0, _⟩ => h0 | ⟨1, _⟩ => h1))

theorem iblk0_apply (t : Fin cfg0.N) (r : Fin 512) (d : Fin 1024) : iblk m c 0 t (ix2 r d) = xA m c (rowOf t r) d :=
  at_rows (V m c main_arg0) _ _ _
    (by show win0_0.index t 0 * 512 + 1 * r.val = 512 * t.val + r.val; rw [(index_rows t).1.1]; omega)
    (by show win0_0.index t 1 * 1024 + 1 * d.val = d.val; rw [(index_rows t).1.2]; omega)

theorem iblk1_apply (t : Fin cfg0.N) (r : Fin 512) (d : Fin 1024) : iblk m c 1 t (ix2 r d) = brA m c (rowOf t r) d :=
  at_rows (V m c main_v69) _ _ _
    (by show win0_1.index t 0 * 512 + 1 * r.val = 512 * t.val + r.val; rw [(index_rows t).2.1.1]; omega)
    (by show win0_1.index t 1 * 1024 + 1 * d.val = d.val; rw [(index_rows t).2.1.2]; omega)

theorem iblk2_apply (t : Fin cfg0.N) (r : Fin 512) (d : Fin 1024) : iblk m c 2 t (ix2 r d) = vA m c (rowOf t r) d :=
  at_rows (V m c main_v21) _ _ _
    (by show win0_2.index t 0 * 512 + 1 * r.val = 512 * t.val + r.val; rw [(index_rows t).2.2.1.1]; omega)
    (by show win0_2.index t 1 * 1024 + 1 * d.val = d.val; rw [(index_rows t).2.2.1.2]; omega)

theorem iblk3_apply (t : Fin cfg0.N) (ht : t.val ≠ 0) (hN : t.val < 8) (r : Fin 16) (d : Fin 1024) :
    iblk m c 3 t (ix2 r d) = vA m c ⟨512 * t.val + r.val - 16, by omega⟩ d :=
  at_rows (V m c main_v21) _ _ _
    (by show win0_3.index t 0 * 16 + 1 * r.val = 512 * t.val + r.val - 16; rw [(index_rows t).2.2.2.1.1]; omega)
    (by show win0_3.index t 1 * 1024 + 1 * d.val = d.val; rw [(index_rows t).2.2.2.1.2]; omega)

theorem iblk4_apply (t : Fin cfg0.N) (r : Fin 512) (d : Fin 1024) : iblk m c 4 t (ix2 r d) = gA m c (rowOf t r) d :=
  at_rows (V m c main_v22) _ _ _
    (by show win0_4.index t 0 * 512 + 1 * r.val = 512 * t.val + r.val; rw [(index_rows t).2.2.2.2.1.1]; omega)
    (by show win0_4.index t 1 * 1024 + 1 * d.val = d.val; rw [(index_rows t).2.2.2.2.1.2]; omega)

theorem iblk5_apply (t : Fin cfg0.N) (g : Fin 4) (p q : Fin 256) : iblk m c 5 t (ix3 g p q) = wgA m c g p q :=
  at_three (V m c main_v23) _ _ _ _
    (by show win0_5.index t 0 * 4 + 1 * g.val = g.val; rw [(index_whole t).1.1]; omega)
    (by show win0_5.index t 1 * 256 + 1 * p.val = p.val; rw [(index_whole t).1.2.1]; omega)
    (by show win0_5.index t 2 * 256 + 1 * q.val = q.val; rw [(index_whole t).1.2.2]; omega)

theorem iblk6_apply (t : Fin cfg0.N) (k d : Fin 1024) : iblk m c 6 t (ix2 k d) = wA m c k d :=
  at_rows (V m c main_v24) _ _ _
    (by show win0_6.index t 0 * 1024 + 1 * k.val = k.val; rw [(index_whole t).2.1.1]; omega)
    (by show win0_6.index t 1 * 1024 + 1 * d.val = d.val; rw [(index_whole t).2.1.2]; omega)

theorem iblk7_apply (t : Fin cfg0.N) (d : Fin 1024) : iblk m c 7 t (ix4 0 0 0 d) = scA m c d :=
  at_four (V m c main_v20) _ _ _ _ _
    (by show win0_7.index t 0 * 1 + 1 * 0 = 1; rw [(index_whole t).2.2.1.1])
    (by show win0_7.index t 1 * 1 + 1 * 0 = 4; rw [(index_whole t).2.2.1.2.1])
    (by show win0_7.index t 2 * 1 + 1 * 0 = 0; rw [(index_whole t).2.2.1.2.2.1])
    (by show win0_7.index t 3 * 1024 + 1 * d.val = d.val; rw [(index_whole t).2.2.1.2.2.2]; omega)

theorem iblk8_apply (t : Fin cfg0.N) (d : Fin 1024) : iblk m c 8 t (ix3 0 2 d) = gamA m c d :=
  at_three (V m c main_v19) _ _ _ _
    (by show win0_8.index t 0 * 1 + 1 * 0 = 1; rw [(index_whole t).2.2.2.1.1])
    (by show win0_8.index t 1 * 8 + 1 * 2 = 2; rw [(index_whole t).2.2.2.1.2.1])
    (by show win0_8.index t 2 * 1024 + 1 * d.val = d.val; rw [(index_whole t).2.2.2.1.2.2]; omega)

/-! ### One point's pooled rows -/

theorem coords0 : ∀ t : Fin cfg0.N, (grid0.coords t 0).val = t.val := (by decide +kernel : ∀ t : Fin grid0.N, _)

theorem halo_apply (t : Fin cfg0.N) (r : Fin 16) (k : Fin 1024) :
    k0_pay11 (grid0.coords t) (iblk m c 3 t) (ix3 0 r k) = if t.val = 0 then (0 : EReal) else iblk m c 3 t (ix2 r k) := by
  have hN : cfg0.N = 8 := N_0
  have ht := t.isLt
  have h := coords0 t
  generalize iblk m c 3 t = x
  have key : Scalar.cmpi .eq (BitVec.ofNat 32 (grid0.coords t 0).val) 0#32 = if t.val = 0 then 1#1 else 0#1 := by
    rw [h]; exact (by decide +kernel : ∀ n : Fin 8, Scalar.cmpi .eq (BitVec.ofNat 32 n.val) 0#32 = if n.val = 0 then 1#1 else 0#1) ⟨t.val, by omega⟩
  pointwise [k0_pay11]
  rw [key]
  split <;> rfl

theorem tile_apply (t : Fin cfg0.N) (r : Fin 512) (k : Fin 1024) : k0_pay12 (iblk m c 2 t) (ix3 0 r k) = vA m c (rowOf t r) k := by
  rw [← iblk2_apply]
  generalize iblk m c 2 t = x
  pointwise [k0_pay12]

theorem planesB_state (t : Fin cfg0.N) : let P := planesB m c t; let e := ext (vA m c) t.val
    State P e 1 0 2 0 ∧ State P e 0 1 4 256 ∧ State P e 1 0 8 512 ∧ State P e 0 1 16 768 := by
  have hN : cfg0.N = 8 := N_0
  have ht := t.isLt
  refine planes_state _ _ (fun r k hr => ?_) fun c0 hc => fill (vA m c) t.val (by omega) _ _ (fun r k => ?_) (fun r k => ?_) c0 hc
  · unfold ext; split <;> [exact if_pos (.inl hr); rfl]
  · exact tile_apply m c t r k
  · refine (halo_apply m c t r k).trans ?_
    split
    · rfl
    · next h => exact iblk3_apply m c t h (by omega) r k

/-- The number of rows in a window, as the kernel counts it. -/
theorem count_eq (t : Fin cfg0.N) (r : Fin 512) (w : ℕ) :
    (FloatOps.sitofp (F := Ideal) .f32 (IntOp.minsi (IntOp.addi (k0_pay13 (grid0.coords t) (ix2 r 0)) 1#32) (BitVec.ofNat 32 w)) : EReal) = Cert.Pool.count w (rowOf t r).val := by
  have h := coords0 t
  unfold Cert.Pool.count
  refine congrArg (fun b => (FloatOps.sitofp (F := Ideal) .f32 (IntOp.minsi b (BitVec.ofNat 32 w)) : EReal)) ?_
  pointwise [k0_pay13]
  rw [h]
  show BitVec.ofNat 32 t.val * BitVec.ofNat 32 512 + BitVec.ofNat 32 r.val + BitVec.ofNat 32 1 = BitVec.ofNat 32 (512 * t.val + r.val + 1)
  rw [← BitVec.ofNat_mul, ← BitVec.ofNat_add, ← BitVec.ofNat_add, Nat.mul_comm]

/-- One group's sums over the window, at the tile's rows. -/
theorem sums_apply (t : Fin cfg0.N) (g : Fin 4) (q p : Fin 2) (hs : State (planesB m c t) (ext (vA m c) t.val) q p (window g) (256 * g.val)) (hc) (r : Fin 512) (j : Fin 256) :
    (tileRows (planesB m c t) q (256 * g.val) hc (ix3 0 r j) : EReal) = trail (colOf (vA m c) (col g j)) (window g) (rowOf t r).val := by
  rw [tileRows_apply, hs.1 _ _ (by omega) (by omega) (by omega)]
  exact ext_trail (vA m c) t.val (col g j) (window g) r.val (by fin_cases g <;> decide)

theorem pooledB_apply (t : Fin cfg0.N) (r : Fin 512) (g : Fin 4) (p : Fin 256) : pooledB m c t (ix2 r (col g p)) = pooled (vA m c) (rowOf t r) g p := by
  obtain ⟨s0, s1, s2, s3⟩ := planesB_state m c t
  have e0 := sums_apply m c t 0 1 0 s0 (by decide) r p
  have e1 := sums_apply m c t 1 0 1 s1 (by decide) r p
  have e2 := sums_apply m c t 2 1 0 s2 (by decide) r p
  have e3 := sums_apply m c t 3 0 1 s3 (by decide) r p
  have n0 := count_eq t r 2
  have n1 := count_eq t r 4
  have n2 := count_eq t r 8
  have n3 := count_eq t r 16
  unfold pooledB mean0 mean1 mean2 colsB
  have b := fun k => iblk2_apply m c t r k
  generalize tileRows (planesB m c t) 1 0 = y0 at *
  generalize tileRows (planesB m c t) 0 256 = y1 at *
  generalize tileRows (planesB m c t) 1 512 = y2 at *
  generalize tileRows (planesB m c t) 0 768 = y3 at *
  generalize iblk m c 2 t = x at *
  generalize k0_pay13 (grid0.coords t) = i at *
  obtain rfl | rfl | rfl | rfl : g = 0 ∨ g = 1 ∨ g = 2 ∨ g = 3 := by omega
  · pointwise [k0_pay29, k0_pay26, col]
    exact congrArg₂ (fun a b : EReal => a - b) (congrArg₂ Ideal.div e0 n0) ((congrArg x (congrArg (ix2 r) (Fin.ext (by show p.val = 256 * 0 + p.val; omega)))).trans (b (col 0 p)))
  · pointwise [k0_pay29, k0_pay27, col]
    exact congrArg₂ (fun a b : EReal => a - b) (congrArg₂ Ideal.div e1 n1) (b (col 1 p))
  · pointwise [k0_pay29, k0_pay28, col]
    rw [dif_neg (by omega), dif_neg (by omega), dif_pos (by omega)]
    have hi : 512 + p.val - 256 - 256 = p.val := by omega
    exact congrArg₂ (fun a b : EReal => a - b) (congrArg₂ Ideal.div ((congrArg y2 (congrArg (ix3 0 r) (Fin.ext hi))).trans e2) n2)
      ((congrArg x (congrArg (ix2 r) (Fin.ext (congrArg (512 + ·) hi)))).trans (b (col 2 p)))
  · pointwise [k0_pay29, col]
    rw [dif_neg (by omega), dif_neg (by omega), dif_neg (by omega)]
    have hi : 768 + p.val - 256 - 256 - 256 = p.val := by omega
    exact congrArg₂ (fun a b : EReal => a - b) (congrArg₂ Ideal.div ((congrArg y3 (congrArg (ix3 0 r) (Fin.ext hi))).trans e3) n3)
      ((congrArg x (congrArg (ix2 r) (Fin.ext (congrArg (768 + ·) hi)))).trans (b (col 3 p)))

end Cert.Kernel3Ideal.Pool
-- ==== Proof.Pool.Run.lean ====
/-
  The run of the pooling kernel's body at the first point, between, and at the last point, as the plan's terms: its pooled rows and its mixed rows.
-/
module

public import proofs.«01_k».proof.Proof.Pool.Plan

@[expose] public section

noncomputable section

open Idealize.ShloMosaic Idealize.ShloMosaic.TcCoe Idealize.SL.Sem

namespace Cert.Kernel3Ideal.Pool

open Cert.Kernel3Ideal Cert.Kernel3Ideal.Gen

variable {F : FTy → Type} [FloatOps F]
variable (m : (ℓ : Loc nD τ sig) → Buf (Elt F) ℓ) (c : Dev nD) (t : Fin cfg0.N)

theorem planes_A (i : grid0.Coords) (arg3 : Memref sig .tc .vmem S512x1024 .bf16) (harg3 : arg3.IsWhole) (arg4 : Memref sig .tc .vmem S16x1024 .bf16)
    (harg4 : arg4.IsWhole) (x2 : Vec F S512x1024 .bf16) (x3 : Vec F S16x1024 .bf16) :
    kernelRun0_A.sl.HS0_14 c i arg3 harg3 arg4 harg4 scM0_0 x2 x3
      = planes (k0_pay12 (View.readAt (Elt F) arg3.view (Rect.unit ![0, 0] S512x1024.size inb_S512x1024_S512x1024_0_0).toLoadRect (harg3.unread x2)))
          (k0_pay11 i (View.readAt (Elt F) arg4.view (Rect.unit ![0, 0] S16x1024.size inb_S16x1024_S16x1024_0_0).toLoadRect (harg4.unread x3))) := by
  sl_kernel_rfl

theorem planesB_A : kernelRun0_A.sl.HS0_14 c (grid0.coords t) (ms0_2 t) (hs0_2 t) (ms0_3 t) (hs0_3 t) scM0_0 (iblk m c 2 t) (iblk m c 3 t) = planesB m c t := by
  rw [planes_A, View.readAt_eq_ld, View.readAt_eq_ld, (hs0_2 t).read_unread, (hs0_3 t).read_unread, View.ld_unit_zero (S := S512x1024) hz2,
    View.ld_unit_zero (S := S16x1024) hz2]
  rfl

theorem pooled_A : kernelRun0_A.sl.r_5 c (grid0.coords t) (ms0_2 t) (hs0_2 t) (ms0_3 t) (hs0_3 t) scM0_0 (iblk m c 2 t) (iblk m c 3 t) = pooledB m c t := by
  unfold kernelRun0_A.sl.r_5 kernelRun0_A.sl.r_4 kernelRun0_A.sl.r_3 kernelRun0_A.sl.r_2 kernelRun0_A.sl.v154 kernelRun0_A.sl.v141
    kernelRun0_A.sl.v128 kernelRun0_A.sl.v115
  rw [planesB_A]
  simp only [View.readAt_eq_ld, (hs0_2 t).read_unread]
  rfl

theorem mixed_A : kernelRun0_A.sl.r_6 c (grid0.coords t) (ms0_2 t) (hs0_2 t) (ms0_3 t) (hs0_3 t) (ms0_5 t) (hs0_5 t) scM0_0 (iblk m c 2 t) (iblk m c 3 t) (iblk m c 5 t)
    = mixedB m c t := by
  unfold kernelRun0_A.sl.r_6 kernelRun0_A.sl.r_4 kernelRun0_A.sl.r_3 kernelRun0_A.sl.r_2 kernelRun0_A.sl.v154 kernelRun0_A.sl.v141
    kernelRun0_A.sl.v128 kernelRun0_A.sl.v115
  rw [planesB_A]
  simp only [View.readAt_eq_ld, (hs0_2 t).read_unread, (hs0_5 t).read_unread]
  rfl

theorem scale_A : kernelRun0_A.sl.r_7 c (ms0_7 t) (hs0_7 t) (iblk m c 7 t) = scaleB m c t := by
  unfold kernelRun0_A.sl.r_7
  rw [View.readAt_eq_ld, (hs0_7 t).read_unread, View.ld_unit_zero (S := S1x1x1x1024) hz4]

theorem silu_A : kernelRun0_A.sl.r_11 c (ms0_4 t) (hs0_4 t) (iblk m c 4 t) = k0_pay35 (iblk m c 4 t) := by
  unfold kernelRun0_A.sl.r_11
  rw [View.readAt_eq_ld, (hs0_4 t).read_unread, View.ld_unit_zero (S := S512x1024) hz2]

theorem du_A : kernelRun0_A.sl.r_12 c (ms0_0 t) (hs0_0 t) (ms0_6 t) (hs0_6 t) (ms0_8 t) (hs0_8 t) (iblk m c 0 t) (iblk m c 6 t) (iblk m c 8 t) = duB m c t := by
  unfold kernelRun0_A.sl.r_12
  simp only [View.readAt_eq_ld, (hs0_0 t).read_unread, (hs0_6 t).read_unread, (hs0_8 t).read_unread, View.ld_unit_zero (S := S512x1024) hz2,
    View.ld_unit_zero (S := S1024x1024) hz2]
  rfl

theorem dmx_A : kernelRun0_A.sl.r_14 c (ms0_0 t) (hs0_0 t) (ms0_4 t) (hs0_4 t) (ms0_6 t) (hs0_6 t) (ms0_7 t) (hs0_7 t) (ms0_8 t) (hs0_8 t)
    (iblk m c 0 t) (iblk m c 4 t) (iblk m c 6 t) (iblk m c 7 t) (iblk m c 8 t) = dmxB m c t := by
  unfold kernelRun0_A.sl.r_14
  rw [scale_A, silu_A, du_A]
  rfl

theorem planes_B (i : grid0.Coords) (arg3 : Memref sig .tc .vmem S512x1024 .bf16) (harg3 : arg3.IsWhole) (arg4 : Memref sig .tc .vmem S16x1024 .bf16)
    (harg4 : arg4.IsWhole) (x2 : Vec F S512x1024 .bf16) (x3 : Vec F S16x1024 .bf16) :
    kernelRun0_B.sl.HS0_14 c i arg3 harg3 arg4 harg4 scM0_0 x2 x3
      = planes (k0_pay12 (View.readAt (Elt F) arg3.view (Rect.unit ![0, 0] S512x1024.size inb_S512x1024_S512x1024_0_0).toLoadRect (harg3.unread x2)))
          (k0_pay11 i (View.readAt (Elt F) arg4.view (Rect.unit ![0, 0] S16x1024.size inb_S16x1024_S16x1024_0_0).toLoadRect (harg4.unread x3))) := by
  sl_kernel_rfl

theorem planesB_B : kernelRun0_B.sl.HS0_14 c (grid0.coords t) (ms0_2 t) (hs0_2 t) (ms0_3 t) (hs0_3 t) scM0_0 (iblk m c 2 t) (iblk m c 3 t) = planesB m c t := by
  rw [planes_B, View.readAt_eq_ld, View.readAt_eq_ld, (hs0_2 t).read_unread, (hs0_3 t).read_unread, View.ld_unit_zero (S := S512x1024) hz2,
    View.ld_unit_zero (S := S16x1024) hz2]
  rfl

theorem pooled_B : kernelRun0_B.sl.r_5 c (grid0.coords t) (ms0_2 t) (hs0_2 t) (ms0_3 t) (hs0_3 t) scM0_0 (iblk m c 2 t) (iblk m c 3 t) = pooledB m c t := by
  unfold kernelRun0_B.sl.r_5 kernelRun0_B.sl.r_4 kernelRun0_B.sl.r_3 kernelRun0_B.sl.r_2 kernelRun0_B.sl.v154 kernelRun0_B.sl.v141
    kernelRun0_B.sl.v128 kernelRun0_B.sl.v115
  rw [planesB_B]
  simp only [View.readAt_eq_ld, (hs0_2 t).read_unread]
  rfl

theorem mixed_B : kernelRun0_B.sl.r_6 c (grid0.coords t) (ms0_2 t) (hs0_2 t) (ms0_3 t) (hs0_3 t) (ms0_5 t) (hs0_5 t) scM0_0 (iblk m c 2 t) (iblk m c 3 t) (iblk m c 5 t)
    = mixedB m c t := by
  unfold kernelRun0_B.sl.r_6 kernelRun0_B.sl.r_4 kernelRun0_B.sl.r_3 kernelRun0_B.sl.r_2 kernelRun0_B.sl.v154 kernelRun0_B.sl.v141
    kernelRun0_B.sl.v128 kernelRun0_B.sl.v115
  rw [planesB_B]
  simp only [View.readAt_eq_ld, (hs0_2 t).read_unread, (hs0_5 t).read_unread]
  rfl

theorem scale_B : kernelRun0_B.sl.r_7 c (ms0_7 t) (hs0_7 t) (iblk m c 7 t) = scaleB m c t := by
  unfold kernelRun0_B.sl.r_7
  rw [View.readAt_eq_ld, (hs0_7 t).read_unread, View.ld_unit_zero (S := S1x1x1x1024) hz4]

theorem silu_B : kernelRun0_B.sl.r_11 c (ms0_4 t) (hs0_4 t) (iblk m c 4 t) = k0_pay35 (iblk m c 4 t) := by
  unfold kernelRun0_B.sl.r_11
  rw [View.readAt_eq_ld, (hs0_4 t).read_unread, View.ld_unit_zero (S := S512x1024) hz2]

theorem du_B : kernelRun0_B.sl.r_12 c (ms0_0 t) (hs0_0 t) (ms0_6 t) (hs0_6 t) (ms0_8 t) (hs0_8 t) (iblk m c 0 t) (iblk m c 6 t) (iblk m c 8 t) = duB m c t := by
  unfold kernelRun0_B.sl.r_12
  simp only [View.readAt_eq_ld, (hs0_0 t).read_unread, (hs0_6 t).read_unread, (hs0_8 t).read_unread, View.ld_unit_zero (S := S512x1024) hz2,
    View.ld_unit_zero (S := S1024x1024) hz2]
  rfl

theorem dmx_B : kernelRun0_B.sl.r_15 c (ms0_0 t) (hs0_0 t) (ms0_4 t) (hs0_4 t) (ms0_6 t) (hs0_6 t) (ms0_7 t) (hs0_7 t) (ms0_8 t) (hs0_8 t)
    (iblk m c 0 t) (iblk m c 4 t) (iblk m c 6 t) (iblk m c 7 t) (iblk m c 8 t) = dmxB m c t := by
  unfold kernelRun0_B.sl.r_15
  rw [scale_B, silu_B, du_B]
  rfl

theorem planes_C (i : grid0.Coords) (arg3 : Memref sig .tc .vmem S512x1024 .bf16) (harg3 : arg3.IsWhole) (arg4 : Memref sig .tc .vmem S16x1024 .bf16)
    (harg4 : arg4.IsWhole) (x2 : Vec F S512x1024 .bf16) (x3 : Vec F S16x1024 .bf16) :
    kernelRun0_C.sl.HS0_14 c i arg3 harg3 arg4 harg4 scM0_0 x2 x3
      = planes (k0_pay12 (View.readAt (Elt F) arg3.view (Rect.unit ![0, 0] S512x1024.size inb_S512x1024_S512x1024_0_0).toLoadRect (harg3.unread x2)))
          (k0_pay11 i (View.readAt (Elt F) arg4.view (Rect.unit ![0, 0] S16x1024.size inb_S16x1024_S16x1024_0_0).toLoadRect (harg4.unread x3))) := by
  sl_kernel_rfl

theorem planesB_C : kernelRun0_C.sl.HS0_14 c (grid0.coords t) (ms0_2 t) (hs0_2 t) (ms0_3 t) (hs0_3 t) scM0_0 (iblk m c 2 t) (iblk m c 3 t) = planesB m c t := by
  rw [planes_C, View.readAt_eq_ld, View.readAt_eq_ld, (hs0_2 t).read_unread, (hs0_3 t).read_unread, View.ld_unit_zero (S := S512x1024) hz2,
    View.ld_unit_zero (S := S16x1024) hz2]
  rfl

theorem pooled_C : kernelRun0_C.sl.r_5 c (grid0.coords t) (ms0_2 t) (hs0_2 t) (ms0_3 t) (hs0_3 t) scM0_0 (iblk m c 2 t) (iblk m c 3 t) = pooledB m c t := by
  unfold kernelRun0_C.sl.r_5 kernelRun0_C.sl.r_4 kernelRun0_C.sl.r_3 kernelRun0_C.sl.r_2 kernelRun0_C.sl.v154 kernelRun0_C.sl.v141
    kernelRun0_C.sl.v128 kernelRun0_C.sl.v115
  rw [planesB_C]
  simp only [View.readAt_eq_ld, (hs0_2 t).read_unread]
  rfl

theorem mixed_C : kernelRun0_C.sl.r_6 c (grid0.coords t) (ms0_2 t) (hs0_2 t) (ms0_3 t) (hs0_3 t) (ms0_5 t) (hs0_5 t) scM0_0 (iblk m c 2 t) (iblk m c 3 t) (iblk m c 5 t)
    = mixedB m c t := by
  unfold kernelRun0_C.sl.r_6 kernelRun0_C.sl.r_4 kernelRun0_C.sl.r_3 kernelRun0_C.sl.r_2 kernelRun0_C.sl.v154 kernelRun0_C.sl.v141
    kernelRun0_C.sl.v128 kernelRun0_C.sl.v115
  rw [planesB_C]
  simp only [View.readAt_eq_ld, (hs0_2 t).read_unread, (hs0_5 t).read_unread]
  rfl

theorem scale_C : kernelRun0_C.sl.r_7 c (ms0_7 t) (hs0_7 t) (iblk m c 7 t) = scaleB m c t := by
  unfold kernelRun0_C.sl.r_7
  rw [View.readAt_eq_ld, (hs0_7 t).read_unread, View.ld_unit_zero (S := S1x1x1x1024) hz4]

theorem silu_C : kernelRun0_C.sl.r_11 c (ms0_4 t) (hs0_4 t) (iblk m c 4 t) = k0_pay35 (iblk m c 4 t) := by
  unfold kernelRun0_C.sl.r_11
  rw [View.readAt_eq_ld, (hs0_4 t).read_unread, View.ld_unit_zero (S := S512x1024) hz2]

theorem du_C : kernelRun0_C.sl.r_12 c (ms0_0 t) (hs0_0 t) (ms0_6 t) (hs0_6 t) (ms0_8 t) (hs0_8 t) (iblk m c 0 t) (iblk m c 6 t) (iblk m c 8 t) = duB m c t := by
  unfold kernelRun0_C.sl.r_12
  simp only [View.readAt_eq_ld, (hs0_0 t).read_unread, (hs0_6 t).read_unread, (hs0_8 t).read_unread, View.ld_unit_zero (S := S512x1024) hz2,
    View.ld_unit_zero (S := S1024x1024) hz2]
  rfl

theorem dmx_C : kernelRun0_C.sl.r_15 c (ms0_0 t) (hs0_0 t) (ms0_4 t) (hs0_4 t) (ms0_6 t) (hs0_6 t) (ms0_7 t) (hs0_7 t) (ms0_8 t) (hs0_8 t)
    (iblk m c 0 t) (iblk m c 4 t) (iblk m c 6 t) (iblk m c 7 t) (iblk m c 8 t) = dmxB m c t := by
  unfold kernelRun0_C.sl.r_15
  rw [scale_C, silu_C, du_C]
  rfl

end Cert.Kernel3Ideal.Pool
-- ==== Proof.Pool.Block.lean ====
/-
  What one grid point of the pooling kernel leaves in its output blocks and in its accumulators, as payload terms of the
  point's input blocks, at any float values.
-/
module

public import proofs.«01_k».proof.Proof.Pool.Run

@[expose] public section

noncomputable section

open Idealize.ShloMosaic Idealize.ShloMosaic.TcCoe Idealize.SL.Sem

namespace Cert.Kernel3Ideal.Pool

open Cert.Kernel3Ideal Cert.Kernel3Ideal.Gen

variable {F : FTy → Type} [FloatOps F]
variable (m : (ℓ : Loc nD τ sig) → Buf (Elt F) ℓ) (c : Dev nD) (t : Fin cfg0.N)

/-- The block of the mix's input gradient, by group. -/
theorem out9 : (outsAt0 m c t.val t.isLt).1
    = View.canon [⟨Rect.unit (s := S512x1024) ![0, 768] ![512, 256] inb_S512x1024_S512x256_0_768, k0_pay2 (dmxB m c t) (wgB m c t 3)⟩,
        ⟨Rect.unit (s := S512x1024) ![0, 512] S512x256.size inb_S512x1024_S512x256_0_512, k0_pay51 (dmxB m c t) (wgB m c t 2)⟩,
        ⟨Rect.unit (s := S512x1024) ![0, 256] S512x256.size inb_S512x1024_S512x256_0_256, k0_pay49 (dmxB m c t) (wgB m c t 1)⟩,
        ⟨Rect.unit (s := S512x1024) ![0, 0] S512x256.size inb_S512x1024_S512x256_0_0,
          k0_pay45 (scaleB m c t) (k0_pay35 (iblk m c 4 t)) (duB m c t) (wgB m c t 0)⟩] := by
  rcases three t with ⟨h0, h1⟩ | ⟨h0, h1⟩ | ⟨h0, h1⟩
  on_goal 1 =>
    rw [outsAt0_A m c t h0 h1]; dsimp only; unfold out0_A_9
    rw [View.read_writes_eq_canon _ _ _ (fun y => cover0_A_9 (y := y) ..)]; unfold kernelRun0_A
  on_goal 2 =>
    rw [outsAt0_B m c t h0 h1]; dsimp only; unfold out0_B_9
    rw [View.read_writes_eq_canon _ _ _ (fun y => cover0_B_9 (y := y) ..)]; unfold kernelRun0_B
  on_goal 3 =>
    rw [outsAt0_C m c t h0 h1]; dsimp only; unfold out0_C_9
    rw [View.read_writes_eq_canon _ _ _ (fun y => cover0_C_9 (y := y) ..)]; unfold kernelRun0_C
  all_goals
    dsimp only
    sl_unfold_words
    simp only [View.readAt_eq_ld, (hs0_0 t).read_unread, (hs0_4 t).read_unread, (hs0_5 t).read_unread, (hs0_6 t).read_unread,
      (hs0_7 t).read_unread, (hs0_8 t).read_unread, View.ld_unit_zero (S := S512x1024) hz2, View.ld_unit_zero (S := S1024x1024) hz2,
      View.ld_unit_zero (S := S1x1x1x1024) hz4]
    rfl

/-- The block of the gate input's gradient. -/
theorem out10 : (outsAt0 m c t.val t.isLt).2.1
    = k0_pay42 (k0_pay32 (mixedB m c t) (scaleB m c t)) (k0_pay33 (iblk m c 4 t)) (k0_pay34 (iblk m c 4 t)) (duB m c t) := by
  rcases three t with ⟨h0, h1⟩ | ⟨h0, h1⟩ | ⟨h0, h1⟩
  on_goal 1 =>
    rw [outsAt0_A m c t h0 h1]; dsimp only; unfold out0_A_10
    rw [View.read_writes_eq_canon _ _ _ (fun y => cover0_A_10 (y := y) ..)]; unfold kernelRun0_A; dsimp only
    unfold kernelRun0_A.sl.r_8
    rw [View.canon_unit_zero (S := S512x1024) hz2, mixed_A]
  on_goal 2 =>
    rw [outsAt0_B m c t h0 h1]; dsimp only; unfold out0_B_10
    rw [View.read_writes_eq_canon _ _ _ (fun y => cover0_B_10 (y := y) ..)]; unfold kernelRun0_B; dsimp only
    unfold kernelRun0_B.sl.r_8
    rw [View.canon_unit_zero (S := S512x1024) hz2, mixed_B]
  on_goal 3 =>
    rw [outsAt0_C m c t h0 h1]; dsimp only; unfold out0_C_10
    rw [View.read_writes_eq_canon _ _ _ (fun y => cover0_C_10 (y := y) ..)]; unfold kernelRun0_C; dsimp only
    unfold kernelRun0_C.sl.r_8
    rw [View.canon_unit_zero (S := S512x1024) hz2, mixed_C]
  all_goals
    sl_unfold_words
    simp only [View.readAt_eq_ld, (hs0_0 t).read_unread, (hs0_4 t).read_unread, (hs0_6 t).read_unread,
      (hs0_7 t).read_unread, (hs0_8 t).read_unread, View.ld_unit_zero (S := S512x1024) hz2, View.ld_unit_zero (S := S1024x1024) hz2,
      View.ld_unit_zero (S := S1x1x1x1024) hz4]
    rfl

/-- A point's product in the projection's gradient. -/
abbrev dwB : FVec F S1024x1024 .f32 := k0_pay39 (mixedB m c t) (scaleB m c t) (iblk m c 4 t) (iblk m c 0 t) (gateRow m c t)

/-- The projection gradient accumulated so far: the first point adds its product to zero. -/
theorem dw_zero (h0 : t.val % 8 = 0) : (outsAt0 m c t.val t.isLt).2.2.2.2.2.1 = k0_pay40 k0_pay6 (dwB m c t) := by
  rw [outsAt0_A m c t h0 (by omega)]; dsimp only; unfold sout0_A_1
  rw [View.read_writes_eq_canon _ _ _ (fun y => scover0_A_1 (y := y) ..)]; unfold kernelRun0_A
  dsimp only
  unfold kernelRun0_A.sl.r_13
  rw [mixed_A]
  sl_unfold_words
  rw [View.canon_cons_unit_zero (S := S1024x1024) hz2, View.readCov_unit_zero (S := S1024x1024) _ hz2]
  simp only [View.readAt_eq_ld, (hs0_0 t).read_unread, (hs0_4 t).read_unread, (hs0_7 t).read_unread, (hs0_8 t).read_unread,
    View.ld_unit_zero (S := S512x1024) hz2, View.ld_unit_zero (S := S1024x1024) hz2, View.ld_unit_zero (S := S1x1x1x1024) hz4]
  rfl

/-- A later point adds its product to what the point before left. -/
theorem dw_later (h0 : ¬t.val % 8 = 0) : (outsAt0 m c t.val t.isLt).2.2.2.2.2.1
    = k0_pay40 (outsAt0 m c (t.val - 1) (Nat.lt_of_le_of_lt (Nat.sub_le _ _) t.isLt)).2.2.2.2.2.1 (dwB m c t) := by
  by_cases h1 : t.val % 8 = 7
  on_goal 1 =>
    rw [outsAt0_C m c t h0 h1]; dsimp only; unfold sout0_C_1
    rw [View.read_writes_eq_canon _ _ _ (fun y => scover0_C_1 (y := y) ..)]; unfold kernelRun0_C; dsimp only
    unfold kernelRun0_C.sl.HS1_1 kernelRun0_C.sl.r_14
    rw [mixed_C]
  on_goal 2 =>
    rw [outsAt0_B m c t h0 h1]; dsimp only; unfold sout0_B_1
    rw [View.read_writes_eq_canon _ _ _ (fun y => scover0_B_1 (y := y) ..)]; unfold kernelRun0_B; dsimp only
    unfold kernelRun0_B.sl.r_14
    rw [mixed_B]
  all_goals
    sl_unfold_words
    rw [View.canon_unit_zero (S := S1024x1024) hz2]
    simp only [View.readAt_eq_ld, (hs0_0 t).read_unread, (hs0_4 t).read_unread, (hs0_7 t).read_unread, (hs0_8 t).read_unread, (Memref.isWhole_whole _).read_unread,
      View.ld_unit_zero (S := S512x1024) hz2, View.ld_unit_zero (S := S1024x1024) hz2, View.ld_unit_zero (S := S1x1x1x1024) hz4]
    rfl

end Cert.Kernel3Ideal.Pool
-- ==== Proof.Pool.Sums.lean ====
/-
  The pooling kernel's accumulators that are written in parts: the group matrices' gradients, one plane a group, and the table
  whose first two rows are the adaLN gate's and the scale's gradients; and the blocks its last point stores.
-/
module

public import proofs.«01_k».proof.Proof.Pool.Block
public import Idealize.ShloMosaic.Lib.VecWindow

@[expose] public section

noncomputable section

open Idealize.ShloMosaic Idealize.ShloMosaic.TcCoe Idealize.SL.Sem
open VecWindow (put)

namespace Cert.Kernel3Ideal.Pool

open Cert.Kernel3Ideal Cert.Kernel3Ideal.Gen

variable {F : FTy → Type} [FloatOps F]
variable (m : (ℓ : Loc nD τ sig) → Buf (Elt F) ℓ) (c : Dev nD) (t : Fin cfg0.N)

/-- A read of a place apart from the write finds what was there. -/
theorem ld_put {s : Shape} {e : EltTy} (x : s.Idx → Elt F e) {off size off' size' : Fin s.rank → ℕ} (inb' : ∀ a, off' a + size' a ≤ s.size a)
    (w : ((a : Fin s.rank) → Fin (size a)) → Elt F e) (a : Fin s.rank) (ha : off' a + size' a ≤ off a ∨ off a + size a ≤ off' a) :
    View.ld (put x off size w) (Rect.unit off' size' inb') = View.ld x (Rect.unit off' size' inb') :=
  VecWindow.window_put_of_disjoint x off size off' size' inb' w a ha

/-- One group's plane. -/
abbrev planeG (x : Vec F S4x256x256 .f32) (g : Fin 4) : Vec F S1x256x256 .f32 :=
  View.ld x (Rect.unit (s := S4x256x256) ![g.val, 0, 0] S1x256x256.size (fun a => match a with | ⟨0, _⟩ => g.isLt | ⟨1, _⟩ => le_rfl | ⟨2, _⟩ => le_rfl))

abbrev putG (x : Vec F S4x256x256 .f32) (g : Fin 4) (w : FVec F S1x256x256 .f32) : Vec F S4x256x256 .f32 := put x ![g.val, 0, 0] S1x256x256.size w

/-- A point's products added to what is there. -/
def addGroups (x : Vec F S4x256x256 .f32) : Vec F S4x256x256 .f32 :=
  putG (putG (putG (putG x 0 (k0_pay48 (k0_pay46 (planeG x 0)) (k0_pay47 (pooledB m c t) (scaleB m c t) (k0_pay35 (iblk m c 4 t)) (duB m c t))))
    1 (k0_pay50 (pooledB m c t) (dmxB m c t) (planeG x 1))) 2 (k0_pay1 (k0_pay52 (pooledB m c t) (dmxB m c t) (planeG x 2))))
    3 (k0_pay3 (pooledB m c t) (dmxB m c t) (planeG x 3))

theorem planeG_putG (x : Vec F S4x256x256 .f32) (p q : Fin 4) (w : FVec F S1x256x256 .f32) (h : p ≠ q) : planeG (putG x p w) q = planeG x q :=
  ld_put (s := S4x256x256) (e := .f32) (off := ![p.val, 0, 0]) x _ w 0 (by show q.val + 1 ≤ p.val ∨ p.val + 1 ≤ q.val; omega)

/-- Four writes, one a plane, over anything. -/
theorem read_four (v : View sig .tc .vmem S4x256x256 .f32) (f : v.ty.Contents (Elt F)) (L : List (View.Piece (Elt F) S4x256x256 .f32))
    (w0 w1 w2 w3 : FVec F S1x256x256 .f32) :
    v.read (Elt F) (v.writes (Elt F) f (⟨Rect.unit ![3, 0, 0] S1x256x256.size inb_S4x256x256_S1x256x256_3_0_0, w3⟩
      :: ⟨Rect.unit ![2, 0, 0] S1x256x256.size inb_S4x256x256_S1x256x256_2_0_0, w2⟩
      :: ⟨Rect.unit ![1, 0, 0] S1x256x256.size inb_S4x256x256_S1x256x256_1_0_0, w1⟩
      :: ⟨Rect.unit ![0, 0, 0] S1x256x256.size inb_S4x256x256_S1x256x256_0_0_0, w0⟩ :: L))
    = putG (putG (putG (putG (v.read (Elt F) (v.writes (Elt F) f L)) 0 w0) 1 w1) 2 w2) 3 w3 := by
  rw [View.read_writes_cons_put (s := S4x256x256) (size := S1x256x256.size) (h := rfl), View.read_writes_cons_put (s := S4x256x256) (size := S1x256x256.size) (h := rfl),
    View.read_writes_cons_put (s := S4x256x256) (size := S1x256x256.size) (h := rfl), View.read_writes_cons_put (s := S4x256x256) (size := S1x256x256.size) (h := rfl)]
  rfl

/-- Four planes written leave nothing of what was there. -/
theorem four_hide (x x' : Vec F S4x256x256 .f32) (w0 w1 w2 w3 : FVec F S1x256x256 .f32) :
    putG (putG (putG (putG x 0 w0) 1 w1) 2 w2) 3 w3 = putG (putG (putG (putG x' 0 w0) 1 w1) 2 w2) 3 w3 := by
  funext y
  have hit : ∀ g : Fin 4, (y 0).val = g.val → ∀ a, (![g.val, 0, 0] : Fin 3 → ℕ) a ≤ (y a).val ∧ (y a).val < (![g.val, 0, 0] : Fin 3 → ℕ) a + S1x256x256.size a := fun g hg a =>
    match a with
    | ⟨0, _⟩ => ⟨by show g.val ≤ (y 0).val; omega, by show (y 0).val < g.val + 1; omega⟩
    | ⟨1, _⟩ => ⟨Nat.zero_le _, by show (y 1).val < 0 + 256; have : (y 1).val < 256 := (y 1).isLt; omega⟩
    | ⟨2, _⟩ => ⟨Nat.zero_le _, by show (y 2).val < 0 + 256; have : (y 2).val < 256 := (y 2).isLt; omega⟩
  unfold putG put
  by_cases h3 : ∀ a, (![(3 : Fin 4).val, 0, 0] : Fin 3 → ℕ) a ≤ (y a).val ∧ (y a).val < (![(3 : Fin 4).val, 0, 0] : Fin 3 → ℕ) a + S1x256x256.size a
  · rw [dif_pos h3, dif_pos h3]
  rw [dif_neg h3, dif_neg h3]
  by_cases h2 : ∀ a, (![(2 : Fin 4).val, 0, 0] : Fin 3 → ℕ) a ≤ (y a).val ∧ (y a).val < (![(2 : Fin 4).val, 0, 0] : Fin 3 → ℕ) a + S1x256x256.size a
  · rw [dif_pos h2, dif_pos h2]
  rw [dif_neg h2, dif_neg h2]
  by_cases h1 : ∀ a, (![(1 : Fin 4).val, 0, 0] : Fin 3 → ℕ) a ≤ (y a).val ∧ (y a).val < (![(1 : Fin 4).val, 0, 0] : Fin 3 → ℕ) a + S1x256x256.size a
  · rw [dif_pos h1, dif_pos h1]
  rw [dif_neg h1, dif_neg h1]
  have h0 := hit 0 (by
    have h : (y 0).val < 4 := (y 0).isLt
    have n3 := mt (hit 3) h3
    have n2 := mt (hit 2) h2
    have n1 := mt (hit 1) h1
    show (y 0).val = 0
    simp only [show ((3 : Fin 4).val) = 3 from rfl, show ((2 : Fin 4).val) = 2 from rfl, show ((1 : Fin 4).val) = 1 from rfl] at n3 n2 n1
    omega)
  rw [dif_pos h0, dif_pos h0]

/-- A read of a plane past one write of another finds what was there. -/
theorem cov_put (v : View sig .tc .vmem S4x256x256 .f32) (L : List (View.Piece (Elt F) S4x256x256 .f32)) (p q : Fin 4) (hp hq) (w : FVec F S1x256x256 .f32) (h : p ≠ q) :
    v.readCov (⟨Rect.unit (s := S4x256x256) ![p.val, 0, 0] S1x256x256.size hp, w⟩ :: L) (Rect.unit (s := S4x256x256) ![q.val, 0, 0] S1x256x256.size hq).toLoadRect
      = v.readCov L (Rect.unit (s := S4x256x256) ![q.val, 0, 0] S1x256x256.size hq).toLoadRect := by
  unfold View.readCov
  rw [View.readAt_eq_ld, View.readAt_eq_ld, View.read_writes_cons_put (s := S4x256x256) (size := S1x256x256.size) (h := rfl)]
  exact planeG_putG _ p q w h

theorem cov_zero (v : View sig .tc .vmem S4x256x256 .f32) (q : Fin 4) (hp hq) (x : Vec F S4x256x256 .f32) :
    v.readCov [⟨Rect.unit (s := S4x256x256) ![0, 0, 0] S4x256x256.size hp, x⟩] (Rect.unit (s := S4x256x256) ![q.val, 0, 0] S1x256x256.size hq).toLoadRect
      = planeG x q := by
  unfold View.readCov
  rw [View.readAt_eq_ld, View.read_writes_full]

/-- The first point adds to zero. -/
theorem groups_zero (h0 : t.val % 8 = 0) : (outsAt0 m c t.val t.isLt).2.2.2.2.2.2 = addGroups m c t k0_pay7 := by
  rw [outsAt0_A m c t h0 (by omega)]; dsimp only; unfold sout0_A_2 kernelRun0_A; dsimp only
  unfold kernelRun0_A.sl.HS2_4 kernelRun0_A.sl.v291 kernelRun0_A.sl.HS2_4 kernelRun0_A.sl.r_17 kernelRun0_A.sl.v277 kernelRun0_A.sl.HS2_3
    kernelRun0_A.sl.v263 kernelRun0_A.sl.HS2_2 kernelRun0_A.sl.r_15 kernelRun0_A.sl.r_16 kernelRun0_A.sl.v249 kernelRun0_A.sl.HS2_1
  rw [pooled_A, dmx_A, scale_A, silu_A, du_A]
  refine (read_four _ _ _ _ _ _ _).trans ?_
  rw [View.read_writes_full]
  refine congrArg₂ (fun x y => putG x 3 (k0_pay3 _ _ y)) (congrArg₂ (fun x y => putG x 2 (k0_pay1 (k0_pay52 _ _ y))) (congrArg₂ (fun x y => putG x 1 (k0_pay50 _ _ y))
    (congrArg (fun y => putG k0_pay7 0 (k0_pay48 (k0_pay46 y) _)) ?_) ?_) ?_) ?_
  · exact cov_zero _ 0 _ _ _
  · exact (cov_put _ _ 0 1 _ _ _ (by decide)).trans (cov_zero _ 1 _ _ _)
  · exact (cov_put _ _ 1 2 _ _ _ (by decide)).trans ((cov_put _ _ 0 2 _ _ _ (by decide)).trans (cov_zero _ 2 _ _ _))
  · exact (cov_put _ _ 2 3 _ _ _ (by decide)).trans ((cov_put _ _ 1 3 _ _ _ (by decide)).trans ((cov_put _ _ 0 3 _ _ _ (by decide)).trans (cov_zero _ 3 _ _ _)))

/-- A later point adds to what the point before left. -/
theorem groups_later (h0 : ¬t.val % 8 = 0) : (outsAt0 m c t.val t.isLt).2.2.2.2.2.2
    = addGroups m c t (outsAt0 m c (t.val - 1) (Nat.lt_of_le_of_lt (Nat.sub_le _ _) t.isLt)).2.2.2.2.2.2 := by
  by_cases h1 : t.val % 8 = 7
  on_goal 1 =>
    rw [outsAt0_C m c t h0 h1]; dsimp only; unfold sout0_C_2 kernelRun0_C; dsimp only
    unfold kernelRun0_C.sl.HS2_4 kernelRun0_C.sl.v291 kernelRun0_C.sl.r_18 kernelRun0_C.sl.r_16 kernelRun0_C.sl.r_17 kernelRun0_C.sl.v277 kernelRun0_C.sl.v263
    rw [pooled_C, dmx_C, scale_C, silu_C, du_C]
  on_goal 2 =>
    rw [outsAt0_B m c t h0 h1]; dsimp only; unfold sout0_B_2 kernelRun0_B; dsimp only
    unfold kernelRun0_B.sl.r_18 kernelRun0_B.sl.r_16 kernelRun0_B.sl.r_17 kernelRun0_B.sl.v291 kernelRun0_B.sl.v277 kernelRun0_B.sl.v263
    rw [pooled_B, dmx_B, scale_B, silu_B, du_B]
  all_goals
    refine (read_four _ _ _ _ _ _ _).trans ?_
    simp only [View.readAt_eq_ld, (Memref.isWhole_whole _).read_unread]
    exact four_hide _ _ _ _ _ _
/-- A row of the table of sums. -/
abbrev rowR (x : Vec F S8x1024 .f32) (g : Fin 8) : Vec F S1x1024 .f32 :=
  View.ld x (Rect.unit (s := S8x1024) ![g.val, 0] S1x1024.size (fun a => match a with | ⟨0, _⟩ => g.isLt | ⟨1, _⟩ => le_rfl))

abbrev putR (x : Vec F S8x1024 .f32) (g : Fin 8) (w : FVec F S1x1024 .f32) : Vec F S8x1024 .f32 := put x ![g.val, 0] S1x1024.size w

/-- A point's sums added to the rows that are there. -/
def addRows (x : Vec F S8x1024 .f32) : Vec F S8x1024 .f32 :=
  putR (putR x 0 (k0_pay36 (iblk m c 0 t) (rowR x 0) (iblk m c 1 t))) 1
    (k0_pay43 (mixedB m c t) (k0_pay35 (iblk m c 4 t)) (duB m c t) (rowR x 1))

theorem read_two {sg : RefSig} (v : View sg .tc .vmem S8x1024 .f32) (f : v.ty.Contents (Elt F)) (L : List (View.Piece (Elt F) S8x1024 .f32)) (w0 w1 : FVec F S1x1024 .f32) :
    v.read (Elt F) (v.writes (Elt F) f (⟨Rect.unit ![1, 0] S1x1024.size inb_S8x1024_S1x1024_1_0, w1⟩
      :: ⟨Rect.unit ![0, 0] S1x1024.size inb_S8x1024_S1x1024_0_0, w0⟩ :: L))
    = putR (putR (v.read (Elt F) (v.writes (Elt F) f L)) 0 w0) 1 w1 := by
  rw [View.read_writes_cons_put (s := S8x1024) (size := S1x1024.size) (h := rfl), View.read_writes_cons_put (s := S8x1024) (size := S1x1024.size) (h := rfl)]
  rfl

theorem cov_row {sg : RefSig} (v : View sg .tc .vmem S8x1024 .f32) (q : Fin 8) (hp hq) (x : Vec F S8x1024 .f32) :
    v.readCov [⟨Rect.unit (s := S8x1024) ![0, 0] S8x1024.size hp, x⟩] (Rect.unit (s := S8x1024) ![q.val, 0] S1x1024.size hq).toLoadRect = rowR x q := by
  unfold View.readCov
  rw [View.readAt_eq_ld, View.read_writes_full]

theorem cov_row_put {sg : RefSig} (v : View sg .tc .vmem S8x1024 .f32) (hp h0 hq) (x : Vec F S8x1024 .f32) (w : FVec F S1x1024 .f32) :
    v.readCov [⟨Rect.unit (s := S8x1024) ![0, 0] S1x1024.size hp, w⟩, ⟨Rect.unit (s := S8x1024) ![0, 0] S8x1024.size h0, x⟩]
      (Rect.unit (s := S8x1024) ![1, 0] S1x1024.size hq).toLoadRect = rowR x 1 := by
  unfold View.readCov
  rw [View.readAt_eq_ld, View.read_writes_cons_put (s := S8x1024) (size := S1x1024.size) (h := rfl), View.read_writes_full]
  exact ld_put (s := S8x1024) (e := .f32) (off := ![0, 0]) x _ w 0 (.inr (by show 0 + 1 ≤ 1; omega))

theorem rows_zero (h0 : t.val % 8 = 0) : (outsAt0 m c t.val t.isLt).2.2.2.2.1 = addRows m c t k0_pay8 := by
  rw [outsAt0_A m c t h0 (by omega)]; dsimp only; unfold out0_A_13 kernelRun0_A; dsimp only
  unfold kernelRun0_A.sl.v234 kernelRun0_A.sl.H13_2 kernelRun0_A.sl.v197 kernelRun0_A.sl.H13_1
  rw [mixed_A, silu_A, du_A]
  refine (read_two _ _ _ _ _).trans ?_
  rw [View.read_writes_full, View.readAt_eq_ld, View.readAt_eq_ld, (hs0_0 t).read_unread, (hs0_1 t).read_unread, View.ld_unit_zero (S := S512x1024) hz2,
    View.ld_unit_zero (S := S512x1024) hz2]
  refine congrArg₂ (fun x y => putR x 1 (k0_pay43 _ _ _ y)) (congrArg (fun y => putR k0_pay8 0 (k0_pay36 _ y _)) ?_) ?_
  · exact cov_row _ 0 _ _ _
  · exact cov_row_put _ _ _ _ _ _

theorem rows_later (h0 : ¬t.val % 8 = 0) : (outsAt0 m c t.val t.isLt).2.2.2.2.1
    = addRows m c t (outsAt0 m c (t.val - 1) (Nat.lt_of_le_of_lt (Nat.sub_le _ _) t.isLt)).2.2.2.2.1 := by
  by_cases h1 : t.val % 8 = 7
  on_goal 1 =>
    rw [outsAt0_C m c t h0 h1]; dsimp only; unfold out0_C_13 kernelRun0_C; dsimp only
    unfold kernelRun0_C.sl.v234
    rw [mixed_C, silu_C, du_C]
  on_goal 2 =>
    rw [outsAt0_B m c t h0 h1]; dsimp only; unfold out0_B_13 kernelRun0_B; dsimp only
    unfold kernelRun0_B.sl.v234
    rw [mixed_B, silu_B, du_B]
  all_goals
    refine (read_two _ _ _ _ _).trans ?_
    rw [View.writes_nil]
    simp only [View.readAt_eq_ld, (hs0_0 t).read_unread, (hs0_1 t).read_unread, (hs0_13 t).read_unread, View.ld_unit_zero (S := S512x1024) hz2]
    rfl

/-- A block stored whole, of an accumulator read whole. -/
theorem stored {sg : RefSig} {S : Shape} {e e' : EltTy} {off off' : Fin S.rank → ℕ} (inb inb') (v : View sg .tc .vmem S e) (f : v.ty.Contents (Elt F))
    (v' : View sg .tc .vmem S e') (L : List (View.Piece (Elt F) S e')) (g : (S.Idx → Elt F e') → S.Idx → Elt F e) :
    v.read (Elt F) (v.writes (Elt F) f [⟨Rect.unit off S.size inb, g (v'.readCov L (Rect.unit off' S.size inb').toLoadRect)⟩])
      = g (v'.read (Elt F) (v'.writes (Elt F) v'.junk L)) := by
  rw [View.read_writes_full]
  unfold View.readCov
  rw [View.readAt_full]

/-- The projection gradient's block, stored at the last point: the accumulator, its own product included, rounded. -/
theorem out11 (h1 : t.val % 8 = 7) : (outsAt0 m c t.val t.isLt).2.2.1 = k0_pay4 (outsAt0 m c t.val t.isLt).2.2.2.2.2.1 := by
  have h0 : ¬t.val % 8 = 0 := by omega
  rw [outsAt0_C m c t h0 h1]; dsimp only; unfold out0_C_11 sout0_C_1 kernelRun0_C
  dsimp only
  unfold kernelRun0_C.sl.v303
  exact stored (S := S1024x1024) (e := .bf16) (e' := .f32) _ _ _ _ scM0_1.view _ k0_pay4

/-- The group matrices' gradients, stored at the last point, rounded. -/
theorem out12 (h1 : t.val % 8 = 7) : (outsAt0 m c t.val t.isLt).2.2.2.1 = k0_pay5 (outsAt0 m c t.val t.isLt).2.2.2.2.2.2 := by
  have h0 : ¬t.val % 8 = 0 := by omega
  rw [outsAt0_C m c t h0 h1]; dsimp only; unfold out0_C_12 sout0_C_2 kernelRun0_C
  dsimp only
  unfold kernelRun0_C.sl.v306
  exact stored (S := S4x256x256) (e := .bf16) (e' := .f32) _ _ _ _ scM0_2.view _ k0_pay5

end Cert.Kernel3Ideal.Pool
-- ==== Proof.Pool.Value.lean ====
/-
  The pooling kernel on the extended reals: one point's blocks at an index, and its three accumulators.
-/
module

public import proofs.«01_k».proof.Proof.Pool.Pooled
public import proofs.«01_k».proof.Proof.Pool.Sums

@[expose] public section

noncomputable section

open Idealize.ShloMosaic Idealize.ShloMosaic.TcCoe Idealize.SL.Sem
open Idealize.ShloMosaic.Pipeline (Dat)
open VecWindow (put)

namespace Cert.Kernel3Ideal.Pool

open Cert.Kernel3Ideal Cert.Kernel3Ideal.Gen Cert.Step Cert.Step.Gate Cert.Pool

variable (m : (ℓ : Loc nD τ sig) → Buf (Elt Ideal) ℓ) (c : Dev nD) (t : Fin cfg0.N)

theorem at_col (r : Fin 512) (g : Fin 4) (p : Fin 256) {n : ℕ} {h : n < 1024} (e : n = 256 * g.val + p.val) : (ix2 r ⟨n, h⟩ : S512x1024.Idx) = ix2 r (col g p) :=
  congrArg (ix2 r) (Fin.ext e)

/-! ### One point's arrays -/

theorem wgB_apply (g : Fin 4) (p q : Fin 256) : wgB m c t g (ix3 0 p q) = wgA m c g p q := by
  rw [← iblk5_apply m c t]
  exact congrArg (iblk m c 5 t) (funext fun a => Fin.ext (match a with
    | ⟨0, _⟩ => by show g.val + 1 * 0 = g.val; omega
    | ⟨1, _⟩ => by show 0 + 1 * p.val = p.val; omega
    | ⟨2, _⟩ => by show 0 + 1 * q.val = q.val; omega))

theorem scaleB_apply (z : Fin 1) (d : Fin 1024) : scaleB m c t (ix2 z d) = scA m c d := by
  have h := iblk7_apply m c t d
  unfold scaleB
  generalize iblk m c 7 t = x at *
  pointwise [k0_pay31]
  exact h

theorem gateRow_apply (d : Fin 1024) : gateRow m c t (ix3 0 0 d) = gamA m c d := by
  rw [← iblk8_apply m c t]
  exact congrArg (iblk m c 8 t) (funext fun a => Fin.ext (match a with
    | ⟨0, _⟩ => rfl
    | ⟨1, _⟩ => rfl
    | ⟨2, _⟩ => by show 0 + 1 * d.val = d.val; omega))

theorem sig_apply (r : Fin 512) (k : Fin 1024) : k0_pay34 (iblk m c 4 t) (ix2 r k) = Step.logistic (gA m c (rowOf t r) k) := by
  rw [← iblk4_apply]
  generalize iblk m c 4 t = x
  pointwise [k0_pay34, k0_pay33]
  rw [zero_sub]
  rfl

theorem silu_apply (r : Fin 512) (k : Fin 1024) : k0_pay35 (iblk m c 4 t) (ix2 r k) = silu (gA m c (rowOf t r) k) := by
  have h := sig_apply m c t r k
  rw [← iblk4_apply] at h ⊢
  generalize iblk m c 4 t = x at *
  generalize hs : k0_pay34 x = s at *
  pointwise [k0_pay35, k0_pay33]
  rw [hs, h]
  rfl

theorem duB_apply (r : Fin 512) (k : Fin 1024) : duB m c t (ix2 r k) = du (xA m c) (gamA m c) (wA m c) (rowOf t r) k := by
  have h0 := fun d => iblk0_apply m c t r d
  have h6 := fun d => iblk6_apply m c t k d
  have h8 := fun d => gateRow_apply m c t d
  unfold duB
  generalize gateRow m c t = y at *
  generalize iblk m c 0 t = x at *
  generalize iblk m c 6 t = w at *
  pointwise [k0_pay38, k0_pay37]
  simp only [h0, h6, h8]
  rfl

theorem mixedB_apply (r : Fin 512) (k : Fin 1024) : mixedB m c t (ix2 r k) = mixed (vA m c) (wgA m c) (rowOf t r) k := by
  obtain ⟨g, q, rfl⟩ := exists_col k
  rw [mixed_col]
  have hp := fun g p => pooledB_apply m c t r g p
  have hw := fun g p => wgB_apply m c t g p q
  unfold pooledB at hp
  unfold mixedB
  generalize mean0 m c t = y0 at *
  generalize mean1 m c t = y1 at *
  generalize mean2 m c t = y2 at *
  generalize tileRows (planesB m c t) 0 768 = y3 at *
  generalize colsB m c t 768 = y4 at *
  generalize k0_pay13 (grid0.coords t) = i at *
  generalize hP : k0_pay29 i y0 y1 y2 1#32 y3 y4 = P at *
  have hw0 := hw 0
  have hw1 := hw 1
  have hw2 := hw 2
  have hw3 := hw 3
  generalize wgB m c t 0 = w0 at *
  generalize wgB m c t 1 = w1 at *
  generalize wgB m c t 2 = w2 at *
  generalize wgB m c t 3 = w3 at *
  clear hw
  unfold k0_pay30
  rw [hP]
  obtain rfl | rfl | rfl | rfl : g = 0 ∨ g = 1 ∨ g = 2 ∨ g = 3 := by omega
  · pointwise [col]
    exact Finset.sum_congr rfl fun p _ => congrArg₂ (fun a b : EReal => a * b) ((congrArg P (at_col r 0 p (by show p.val = 256 * 0 + p.val; omega))).trans (hp 0 p)) (hw0 p)
  · pointwise [col]
    exact Finset.sum_congr rfl fun p _ => congrArg₂ (fun a b : EReal => a * b) (hp 1 p) (hw1 p)
  · pointwise [col]
    rw [dif_neg (by omega), dif_neg (by omega), dif_pos (by omega)]
    exact Finset.sum_congr rfl fun p _ => congrArg₂ (fun a b : EReal => a * b) (hp 2 p)
      ((congrArg w2 (congrArg (ix3 0 p) (Fin.ext (by show 512 + q.val - 256 - 256 = q.val; omega)))).trans (hw2 p))
  · pointwise [col]
    rw [dif_neg (by omega), dif_neg (by omega), dif_neg (by omega)]
    exact Finset.sum_congr rfl fun p _ => congrArg₂ (fun a b : EReal => a * b) (hp 3 p)
      ((congrArg w3 (congrArg (ix3 0 p) (Fin.ext (by show 768 + q.val - 256 - 256 - 256 = q.val; omega)))).trans (hw3 p))

theorem dmxB_apply (r : Fin 512) (k : Fin 1024) : dmxB m c t (ix2 r k) = dMix (xA m c) (gA m c) (gamA m c) (scA m c) (wA m c) (rowOf t r) k := by
  have h1 := silu_apply m c t r k
  have h2 := duB_apply m c t r k
  have h3 := scaleB_apply m c t 0 k
  unfold dmxB
  generalize k0_pay35 (iblk m c 4 t) = s at *
  generalize duB m c t = u at *
  generalize scaleB m c t = y at *
  pointwise [k0_pay44, k0_pay41]
  rw [h1, h2, h3]
  rfl

/-! ### The blocks stored at every point -/

theorem out10_apply (r : Fin 512) (k : Fin 1024) : (outsAt0 m c t.val t.isLt).2.1 (ix2 r k)
    = dGate (xA m c) (scaled (vA m c) (scA m c) (wgA m c)) (gA m c) (gamA m c) (wA m c) (rowOf t r) k := by
  have h1 := sig_apply m c t r k
  have h2 := duB_apply m c t r k
  have h3 := scaleB_apply m c t 0 k
  have h4 := mixedB_apply m c t r k
  have h5 : k0_pay33 (iblk m c 4 t) (ix2 r k) = gA m c (rowOf t r) k := by
    have h := iblk4_apply m c t r k
    generalize iblk m c 4 t = x at *
    pointwise [k0_pay33]
    exact h
  rw [out10]
  generalize k0_pay34 (iblk m c 4 t) = s at *
  generalize k0_pay33 (iblk m c 4 t) = g at *
  generalize duB m c t = u at *
  generalize scaleB m c t = y at *
  generalize mixedB m c t = x at *
  pointwise [k0_pay42, k0_pay32]
  rw [h1, h2, h3, h4, h5]
  rfl

/-- One group's product, at an index. -/
theorem group_piece (y : FVec Ideal S512x256 .f32) (g : Fin 4)
    (hy : ∀ (r : Fin 512) (p : Fin 256), y (ix2 r p) = ∑ q, (dmxB m c t (ix2 r (col g q)) : EReal) * wgB m c t g (ix3 0 p q)) (r : Fin 512) (p : Fin 256) :
    y (ix2 r p) = dPool (xA m c) (gA m c) (gamA m c) (scA m c) (wA m c) (wgA m c) (rowOf t r) (col g p) := by
  rw [hy]
  unfold dPool
  simp only [col_group, col_place, dmxB_apply, wgB_apply]

theorem piece0 (r : Fin 512) (p : Fin 256) : k0_pay45 (scaleB m c t) (k0_pay35 (iblk m c 4 t)) (duB m c t) (wgB m c t 0) (ix2 r p)
    = dPool (xA m c) (gA m c) (gamA m c) (scA m c) (wA m c) (wgA m c) (rowOf t r) (col 0 p) := by
  refine group_piece m c t _ 0 (fun r p => ?_) r p
  unfold k0_pay45
  show (matmul (F := Ideal) dot_S512x256_S256x256_S512x256_1_1_0_0_n_n none (extractStridedSlice S512x256 ![0, 0] (dmxB m c t) slices_S512x1024_o0_0_S512x256) _ _) (ix2 r p) = _
  generalize dmxB m c t = x
  generalize wgB m c t 0 = w
  pointwise
  exact Finset.sum_congr rfl fun q _ => congrArg₂ (fun a b : EReal => a * b) (congrArg x (at_col r 0 q (by show q.val = 256 * 0 + q.val; omega))) rfl

theorem piece1 (r : Fin 512) (p : Fin 256) : k0_pay49 (dmxB m c t) (wgB m c t 1) (ix2 r p)
    = dPool (xA m c) (gA m c) (gamA m c) (scA m c) (wA m c) (wgA m c) (rowOf t r) (col 1 p) := by
  refine group_piece m c t _ 1 (fun r p => ?_) r p
  generalize dmxB m c t = x
  generalize wgB m c t 1 = w
  pointwise [k0_pay49]
  rfl

theorem piece2 (r : Fin 512) (p : Fin 256) : k0_pay51 (dmxB m c t) (wgB m c t 2) (ix2 r p)
    = dPool (xA m c) (gA m c) (gamA m c) (scA m c) (wA m c) (wgA m c) (rowOf t r) (col 2 p) := by
  refine group_piece m c t _ 2 (fun r p => ?_) r p
  generalize dmxB m c t = x
  generalize wgB m c t 2 = w
  pointwise [k0_pay51]
  rfl

theorem piece3 (r : Fin 512) (p : Fin 256) : k0_pay2 (dmxB m c t) (wgB m c t 3) (ix2 r p)
    = dPool (xA m c) (gA m c) (gamA m c) (scA m c) (wA m c) (wgA m c) (rowOf t r) (col 3 p) := by
  refine group_piece m c t _ 3 (fun r p => ?_) r p
  generalize dmxB m c t = x
  generalize wgB m c t 3 = w
  pointwise [k0_pay2]
  rfl

theorem out9_apply (r : Fin 512) (k : Fin 1024) : (outsAt0 m c t.val t.isLt).1 (ix2 r k)
    = dPool (xA m c) (gA m c) (gamA m c) (scA m c) (wA m c) (wgA m c) (rowOf t r) k := by
  rw [out9]
  have p0 := piece0 m c t
  have p1 := piece1 m c t
  have p2 := piece2 m c t
  have p3 := piece3 m c t
  generalize k0_pay45 (scaleB m c t) (k0_pay35 (iblk m c 4 t)) (duB m c t) (wgB m c t 0) = y0 at *
  generalize k0_pay49 (dmxB m c t) (wgB m c t 1) = y1 at *
  generalize k0_pay51 (dmxB m c t) (wgB m c t 2) = y2 at *
  generalize k0_pay2 (dmxB m c t) (wgB m c t 3) = y3 at *
  let G : FVec Ideal S512x1024 .f32 := fun y => dPool (xA m c) (gA m c) (gamA m c) (scA m c) (wA m c) (wgA m c) (rowOf t (y 0)) (y 1)
  have at_G : ∀ (i : S512x1024.Idx) (x0 : Fin 512) (g : Fin 4) (x1 : Fin 256), (i 0).val = 0 + 1 * x0.val → (i 1).val = 256 * g.val + 1 * x1.val →
      G i = dPool (xA m c) (gA m c) (gamA m c) (scA m c) (wA m c) (wgA m c) (rowOf t x0) (col g x1) := fun i x0 g x1 h0 h1 =>
    congrArg₂ (fun a b => dPool (xA m c) (gA m c) (gamA m c) (scA m c) (wA m c) (wgA m c) (rowOf t a) b) (Fin.ext (by omega)) (Fin.ext (by rw [h1]; show _ = 256 * g.val + x1.val; omega))
  refine View.canon_apply_of_pieces (Val := Elt Ideal) (e := .f32) G _ ?_ (ix2 r k) ?_
  · refine List.forall_mem_cons.mpr ⟨fun x => ?_, List.forall_mem_cons.mpr ⟨fun x => ?_, List.forall_mem_cons.mpr ⟨fun x => ?_, List.forall_mem_cons.mpr ⟨fun x => ?_, List.forall_mem_nil _⟩⟩⟩⟩
    all_goals obtain ⟨x0, x1, rfl⟩ : ∃ (a : Fin 512) (b : Fin 256), x = ix2 a b := idx2 (A := 512) (B := 256) x
    · exact (p3 x0 x1).trans (at_G _ x0 3 x1 rfl rfl).symm
    · exact (p2 x0 x1).trans (at_G _ x0 2 x1 rfl rfl).symm
    · exact (p1 x0 x1).trans (at_G _ x0 1 x1 rfl rfl).symm
    · exact (p0 x0 x1).trans (at_G _ x0 0 x1 rfl rfl).symm
  · have box : ∀ (g : Fin 4) (q : Fin 256) (inb : ∀ a, (![0, 256 * g.val] : Fin 2 → ℕ) a + (![512, 256] : Fin 2 → ℕ) a ≤ S512x1024.size a),
        (ix2 r (col g q) : S512x1024.Idx) ∈ (Rect.unit (s := S512x1024) ![0, 256 * g.val] ![512, 256] inb).set := fun g q inb =>
      (Rect.mem_set_unit (inb := inb)).mpr fun a => match a with
        | ⟨0, _⟩ => ⟨Nat.zero_le _, by show r.val < 0 + 512; omega⟩
        | ⟨1, _⟩ => ⟨by show 256 * g.val ≤ 256 * g.val + q.val; omega, by show 256 * g.val + q.val < 256 * g.val + 256; omega⟩
    obtain ⟨g, q, rfl⟩ := exists_col k
    obtain rfl | rfl | rfl | rfl : g = 0 ∨ g = 1 ∨ g = 2 ∨ g = 3 := by omega
    · exact ⟨_, .tail _ (.tail _ (.tail _ (.head _))), box 0 q inb_S512x1024_S512x256_0_0⟩
    · exact ⟨_, .tail _ (.tail _ (.head _)), box 1 q inb_S512x1024_S512x256_0_256⟩
    · exact ⟨_, .tail _ (.head _), box 2 q inb_S512x1024_S512x256_0_512⟩
    · exact ⟨_, .head _, box 3 q inb_S512x1024_S512x256_0_768⟩

end Cert.Kernel3Ideal.Pool
-- ==== Proof.Pool.Accum.lean ====
/-
  The pooling kernel's accumulators on the extended reals: the projection's gradient, the group matrices' gradients and the
  table of sums, after every point.
-/
module

public import proofs.«01_k».proof.Proof.Pool.Value
public import proofs.«01_k».proof.Proof.Common.Sums

@[expose] public section

noncomputable section

open Idealize.ShloMosaic Idealize.ShloMosaic.TcCoe Idealize.SL.Sem
open VecWindow (put)

namespace Cert.Kernel3Ideal.Pool

open Cert.Kernel3Ideal Cert.Kernel3Ideal.Gen Cert.Step Cert.Step.Gate Cert.Pool

variable (m : (ℓ : Loc nD τ sig) → Buf (Elt Ideal) ℓ) (c : Dev nD) (t : Fin cfg0.N)

/-! ### The projection's gradient -/

/-- The rows of point `n` in the projection gradient. -/
def projPart (i j : Fin 1024) (n : ℕ) (h : n < cfg0.N) : EReal :=
  ∑ r : Fin 512, scaled (vA m c) (scA m c) (wgA m c) (rowOf ⟨n, h⟩ r) i * silu (gA m c (rowOf ⟨n, h⟩ r) i) * (xA m c (rowOf ⟨n, h⟩ r) j * gamA m c j)

theorem dwB_apply (i j : Fin 1024) : dwB m c t (ix2 i j) = projPart m c i j t.val t.isLt := by
  have h1 := fun r => silu_apply m c t r i
  have h2 := fun r => mixedB_apply m c t r i
  have h3 := scaleB_apply m c t 0 i
  have h0 := fun r => iblk0_apply m c t r j
  have h8 := gateRow_apply m c t j
  unfold dwB
  generalize mixedB m c t = y at *
  generalize scaleB m c t = s at *
  generalize gateRow m c t = γ at *
  generalize iblk m c 0 t = x at *
  generalize hz : k0_pay35 (iblk m c 4 t) = z at *
  unfold k0_pay39
  rw [hz]
  pointwise [k0_pay32, k0_pay37]
  simp only [h0, h1, h2, h3, h8]
  rfl

theorem dw_zero_apply (i j : Fin 1024) (h0 : t.val % 8 = 0) :
    (outsAt0 m c t.val t.isLt).2.2.2.2.2.1 (ix2 i j) = projPart m c i j t.val t.isLt := by
  rw [dw_zero m c t h0, ← dwB_apply]
  generalize dwB m c t = y
  pointwise [k0_pay40, k0_pay6]

theorem dw_later_apply (i j : Fin 1024) (h0 : ¬t.val % 8 = 0) (hp : t.val - 1 < cfg0.N) :
    (outsAt0 m c t.val t.isLt).2.2.2.2.2.1 (ix2 i j) = (outsAt0 m c (t.val - 1) hp).2.2.2.2.2.1 (ix2 i j) + projPart m c i j t.val t.isLt := by
  rw [dw_later m c t h0, ← dwB_apply]
  generalize dwB m c t = y
  generalize (outsAt0 m c (t.val - 1) _).2.2.2.2.2.1 = z
  pointwise [k0_pay40]

theorem dw_last (ht : t.val % 8 = 7) (i j : Fin 1024) : (outsAt0 m c t.val t.isLt).2.2.2.2.2.1 (ix2 i j)
    = dProj (xA m c) (scaled (vA m c) (scA m c) (wgA m c)) (gA m c) (gamA m c) i j := by
  have hN : cfg0.N = 8 := N_0
  obtain rfl : t = ⟨7, by rw [hN]; decide⟩ := Fin.ext (by have := t.isLt; show t.val = 7; omega)
  rw [fold_eq_sum (fun n h => (outsAt0 m c n h).2.2.2.2.2.1 (ix2 i j)) (projPart m c i j) (fun h => dw_zero_apply m c ⟨0, h⟩ i j rfl)
    (fun n h => dw_later_apply m c ⟨n + 1, h⟩ i j (by dsimp only; omega) _)]
  exact sum_rows 512 8 rfl (fun R => scaled (vA m c) (scA m c) (wgA m c) R i * silu (gA m c R i) * (xA m c R j * gamA m c j))

/-! ### The group matrices' gradients -/

/-- The rows of point `n` in a group's gradient. -/
def groupPart (g : Fin 4) (p q : Fin 256) (n : ℕ) (h : n < cfg0.N) : EReal :=
  ∑ r : Fin 512, pooled (vA m c) (rowOf ⟨n, h⟩ r) g p * dMix (xA m c) (gA m c) (gamA m c) (scA m c) (wA m c) (rowOf ⟨n, h⟩ r) (col g q)

theorem planeG_apply (x : Vec Ideal S4x256x256 .f32) (g : Fin 4) (p q : Fin 256) : planeG x g (ix3 0 p q) = x (ix3 g p q) :=
  at_three x _ _ _ _ (by show g.val + 1 * 0 = g.val; omega) (by show 0 + 1 * p.val = p.val; omega) (by show 0 + 1 * q.val = q.val; omega)

theorem putG_hit (x : Vec Ideal S4x256x256 .f32) (g : Fin 4) (w : FVec Ideal S1x256x256 .f32) (p q : Fin 256) : putG x g w (ix3 g p q) = w (ix3 0 p q) := by
  unfold putG put
  rw [dif_pos (fun a => match a with
    | ⟨0, _⟩ => ⟨le_rfl, Nat.lt_succ_self _⟩
    | ⟨1, _⟩ => ⟨Nat.zero_le _, by show p.val < 0 + 256; omega⟩
    | ⟨2, _⟩ => ⟨Nat.zero_le _, by show q.val < 0 + 256; omega⟩)]
  exact congrArg w (funext fun a => Fin.ext (match a with
    | ⟨0, _⟩ => by show g.val - g.val = 0; omega
    | ⟨1, _⟩ => rfl
    | ⟨2, _⟩ => rfl))

theorem putG_miss (x : Vec Ideal S4x256x256 .f32) (g g' : Fin 4) (hg : g ≠ g') (w : FVec Ideal S1x256x256 .f32) (p q : Fin 256) : putG x g w (ix3 g' p q) = x (ix3 g' p q) := by
  rw [← planeG_apply (putG x g w) g' p q, planeG_putG x g g' w hg, planeG_apply]

theorem addGroups_apply (x : Vec Ideal S4x256x256 .f32) (g : Fin 4) (p q : Fin 256) :
    addGroups m c t x (ix3 g p q) = (x (ix3 g p q) : EReal) + groupPart m c g p q t.val t.isLt := by
  have h1 := fun r => pooledB_apply m c t r g p
  have h2 := fun r => dmxB_apply m c t r (col g q)
  have h3 := planeG_apply x g p q
  unfold addGroups groupPart
  obtain rfl | rfl | rfl | rfl : g = 0 ∨ g = 1 ∨ g = 2 ∨ g = 3 := by omega
  · rw [putG_miss _ 3 0 (by decide), putG_miss _ 2 0 (by decide), putG_miss _ 1 0 (by decide), putG_hit]
    show k0_pay48 (k0_pay46 (planeG x 0)) (matmul (F := Ideal) dot_S512x256_S512x256_S256x256_0_0_1_1_n_n none
      (extractStridedSlice S512x256 ![0, 0] (pooledB m c t) slices_S512x1024_o0_0_S512x256) (extractStridedSlice S512x256 ![0, 0] (dmxB m c t) slices_S512x1024_o0_0_S512x256) _) (ix3 0 p q) = _
    generalize planeG x 0 = y at *
    generalize pooledB m c t = a at *
    generalize dmxB m c t = b at *
    pointwise [k0_pay48, k0_pay46]
    rw [h3]
    exact congrArg _ (Finset.sum_congr rfl fun r _ => congrArg₂ (fun a b : EReal => a * b)
      ((congrArg a (at_col r 0 p (by show p.val = 256 * 0 + p.val; omega))).trans (h1 r)) ((congrArg b (at_col r 0 q (by show q.val = 256 * 0 + q.val; omega))).trans (h2 r)))
  · rw [putG_miss _ 3 1 (by decide), putG_miss _ 2 1 (by decide), putG_hit]
    generalize planeG x 1 = y at *
    generalize pooledB m c t = a at *
    generalize dmxB m c t = b at *
    pointwise [k0_pay50]
    rw [h3]
    exact congrArg _ (Finset.sum_congr rfl fun r _ => congrArg₂ (fun a b : EReal => a * b) (h1 r) (h2 r))
  · rw [putG_miss _ 3 2 (by decide), putG_hit]
    generalize planeG x 2 = y at *
    generalize pooledB m c t = a at *
    generalize dmxB m c t = b at *
    pointwise [k0_pay1, k0_pay52]
    rw [h3]
    exact congrArg _ (Finset.sum_congr rfl fun r _ => congrArg₂ (fun a b : EReal => a * b) (h1 r) (h2 r))
  · rw [putG_hit]
    generalize planeG x 3 = y at *
    generalize pooledB m c t = a at *
    generalize dmxB m c t = b at *
    pointwise [k0_pay3]
    rw [h3]
    exact congrArg _ (Finset.sum_congr rfl fun r _ => congrArg₂ (fun a b : EReal => a * b) (h1 r) (h2 r))

theorem groups_last (ht : t.val % 8 = 7) (g : Fin 4) (p q : Fin 256) : (outsAt0 m c t.val t.isLt).2.2.2.2.2.2 (ix3 g p q)
    = dGroup (xA m c) (vA m c) (gA m c) (gamA m c) (scA m c) (wA m c) g p q := by
  have hN : cfg0.N = 8 := N_0
  obtain rfl : t = ⟨7, by rw [hN]; decide⟩ := Fin.ext (by have := t.isLt; show t.val = 7; omega)
  rw [fold_eq_sum (fun n h => (outsAt0 m c n h).2.2.2.2.2.2 (ix3 g p q)) (groupPart m c g p q) (fun h => ?_) (fun n h => ?_)]
  · exact sum_rows 512 8 rfl (fun R => pooled (vA m c) R g p * dMix (xA m c) (gA m c) (gamA m c) (scA m c) (wA m c) R (col g q))
  · refine (congrFun (groups_zero m c ⟨0, h⟩ rfl) _).trans ((addGroups_apply m c ⟨0, h⟩ _ g p q).trans ?_)
    rw [show (k0_pay7 (F := Ideal) (ix3 g p q) : EReal) = 0 by pointwise [k0_pay7], zero_add]
  · exact (congrFun (groups_later m c ⟨n + 1, h⟩ (by dsimp only; omega)) _).trans (addGroups_apply m c ⟨n + 1, h⟩ _ g p q)

/-! ### The table of sums -/

theorem rowR_apply (x : Vec Ideal S8x1024 .f32) (g : Fin 8) (z : Fin 1) (d : Fin 1024) : rowR x g (ix2 z d) = x (ix2 g d) :=
  at_rows x _ _ _ (by show g.val + 1 * z.val = g.val; omega) (by show 0 + 1 * d.val = d.val; omega)

theorem putR_hit (x : Vec Ideal S8x1024 .f32) (g : Fin 8) (w : FVec Ideal S1x1024 .f32) (d : Fin 1024) : putR x g w (ix2 g d) = w (ix2 0 d) := by
  unfold putR put
  rw [dif_pos (fun a => match a with
    | ⟨0, _⟩ => ⟨le_rfl, Nat.lt_succ_self _⟩
    | ⟨1, _⟩ => ⟨Nat.zero_le _, by show d.val < 0 + 1024; omega⟩)]
  exact congrArg w (funext fun a => Fin.ext (match a with
    | ⟨0, _⟩ => by show g.val - g.val = 0; omega
    | ⟨1, _⟩ => rfl))

theorem putR_miss (x : Vec Ideal S8x1024 .f32) (g g' : Fin 8) (hg : g ≠ g') (w : FVec Ideal S1x1024 .f32) (d : Fin 1024) : putR x g w (ix2 g' d) = x (ix2 g' d) := by
  rw [← rowR_apply (putR x g w) g' 0, ← rowR_apply x g' 0]
  exact congrFun (ld_put (s := S8x1024) (e := .f32) (off := ![g.val, 0]) x _ w 0 (by show g'.val + 1 ≤ g.val ∨ g.val + 1 ≤ g'.val; omega)) _

/-- What point `n` adds to row `i`: to the first the adaLN gate's gradient, to the second the scale's. -/
def rowPart (i : Fin 8) (d : Fin 1024) (n : ℕ) (h : n < cfg0.N) : EReal :=
  ∑ r : Fin 512, if i.val = 0 then xA m c (rowOf ⟨n, h⟩ r) d * brA m c (rowOf ⟨n, h⟩ r) d
    else if i.val = 1 then dOut (xA m c) (gA m c) (gamA m c) (wA m c) (rowOf ⟨n, h⟩ r) d * mixed (vA m c) (wgA m c) (rowOf ⟨n, h⟩ r) d else 0

theorem addRows_apply (x : Vec Ideal S8x1024 .f32) (i : Fin 8) (d : Fin 1024) :
    addRows m c t x (ix2 i d) = (x (ix2 i d) : EReal) + rowPart m c i d t.val t.isLt := by
  unfold addRows rowPart
  by_cases h0 : i = 0
  · subst h0
    have e0 := fun r => iblk0_apply m c t r d
    have e1 := fun r => iblk1_apply m c t r d
    have e2 := rowR_apply x 0 0 d
    rw [putR_miss _ 1 0 (by decide), putR_hit]
    generalize rowR x 0 = y at *
    generalize iblk m c 0 t = a at *
    generalize iblk m c 1 t = b at *
    pointwise [k0_pay36]
    simp only [e0, e1, e2, Fin.val_zero, if_true]
  by_cases h1 : i = 1
  · subst h1
    have e0 := fun r => mixedB_apply m c t r d
    have e1 := fun r => silu_apply m c t r d
    have e3 := fun r => duB_apply m c t r d
    have e2 := rowR_apply x 1 0 d
    rw [putR_hit]
    generalize rowR x 1 = y at *
    generalize mixedB m c t = a at *
    generalize k0_pay35 (iblk m c 4 t) = b at *
    generalize duB m c t = u at *
    pointwise [k0_pay43, k0_pay41]
    simp only [e0, e1, e2, e3]
    rfl
  rw [putR_miss _ 1 i (fun h => h1 h.symm), putR_miss _ 0 i (fun h => h0 h.symm), Finset.sum_eq_zero fun r _ => ?_, add_zero]
  rw [if_neg (show ¬i.val = 0 from fun h => h0 (Fin.ext h)), if_neg (show ¬i.val = 1 from fun h => h1 (Fin.ext h))]

theorem rows_last (ht : t.val % 8 = 7) (i : Fin 8) (d : Fin 1024) : (outsAt0 m c t.val t.isLt).2.2.2.2.1 (ix2 i d)
    = if i.val = 0 then dAda (xA m c) (brA m c) d
      else if i.val = 1 then dScale (xA m c) (vA m c) (gA m c) (gamA m c) (wA m c) (wgA m c) d else 0 := by
  have hN : cfg0.N = 8 := N_0
  obtain rfl : t = ⟨7, by rw [hN]; decide⟩ := Fin.ext (by have := t.isLt; show t.val = 7; omega)
  rw [fold_eq_sum (fun n h => (outsAt0 m c n h).2.2.2.2.1 (ix2 i d)) (rowPart m c i d) (fun h => ?_) (fun n h => ?_)]
  · refine (sum_rows 512 8 rfl (fun R => if i.val = 0 then xA m c R d * brA m c R d
      else if i.val = 1 then dOut (xA m c) (gA m c) (gamA m c) (wA m c) R d * mixed (vA m c) (wgA m c) R d else 0)).trans ?_
    split
    · rfl
    split
    · rfl
    · exact Finset.sum_const_zero
  · refine (congrFun (rows_zero m c ⟨0, h⟩ rfl) _).trans ((addRows_apply m c ⟨0, h⟩ _ i d).trans ?_)
    rw [show (k0_pay8 (F := Ideal) (ix2 i d) : EReal) = 0 by pointwise [k0_pay8], zero_add]
  · exact (congrFun (rows_later m c ⟨n + 1, h⟩ (by dsimp only; omega)) _).trans (addRows_apply m c ⟨n + 1, h⟩ _ i d)

end Cert.Kernel3Ideal.Pool
-- ==== Proof.Pool.Arrays.lean ====
/-
  The pooling kernel: its five result arrays after the run.
-/
module

public import proofs.«01_k».proof.Proof.Pool.Accum
public import Idealize.ShloMosaic.Lib.Pipeline.ValueKit

@[expose] public section

noncomputable section

open Idealize.ShloMosaic Idealize.ShloMosaic.TcCoe Idealize.SL.Sem
open Idealize.ShloMosaic.Pipeline (Dat)

namespace Cert.Kernel3Ideal.Pool

open Cert.Kernel3Ideal Cert.Kernel3Ideal.Gen Cert.Step Cert.Step.Gate Cert.Pool

variable (m : (ℓ : Loc nD τ sig) → Buf (Elt Ideal) ℓ) (c : Dev nD)

/-- The five results as functions of the arrays the windows read. -/
def dpoolR : FVec Ideal S4096x1024 .f32 := fun i => dPool (xA m c) (gA m c) (gamA m c) (scA m c) (wA m c) (wgA m c) (i 0) (i 1)
def dgR : FVec Ideal S4096x1024 .bf16 := fun i => dGate (xA m c) (scaled (vA m c) (scA m c) (wgA m c)) (gA m c) (gamA m c) (wA m c) (i 0) (i 1)
def dwR : FVec Ideal S1024x1024 .bf16 := fun i => dProj (xA m c) (scaled (vA m c) (scA m c) (wgA m c)) (gA m c) (gamA m c) (i 0) (i 1)
def dwgR : FVec Ideal S4x256x256 .bf16 := fun i => dGroup (xA m c) (vA m c) (gA m c) (gamA m c) (scA m c) (wA m c) (i 0) (i 1) (i 2)

/-- Row `i` of the table of sums. -/
def sumRow (i : Fin 8) (d : Fin 1024) : EReal :=
  if i.val = 0 then dAda (xA m c) (brA m c) d else if i.val = 1 then dScale (xA m c) (vA m c) (gA m c) (gamA m c) (wA m c) (wgA m c) d else 0
def vecR : FVec Ideal S8x1024 .f32 := fun i => sumRow m c (i 0) (i 1)

theorem arr9 : (dats m 0 c).arrAt 9 cfg0.N = dpoolR m c := by
  refine (dats m 0 c).arrAt_eq_of_covers 9 _ (by decide +kernel) fun t hf y => ?_
  blk_simp
  rw [after0_9]
  obtain ⟨r, k, rfl⟩ := idx2 (A := 512) (B := 1024) y
  refine (out9_apply m c t r k).trans (congrArg₂ (fun R q => dPool (xA m c) (gA m c) (gamA m c) (scA m c) (wA m c) (wgA m c) R q) (Fin.ext ?_) (Fin.ext ?_))
  · show 512 * t.val + r.val = win0_9.index t 0 * 512 + 1 * r.val; rw [(index_rows t).2.2.2.2.2.1.1]; omega
  · show k.val = win0_9.index t 1 * 1024 + 1 * k.val; rw [(index_rows t).2.2.2.2.2.1.2]; omega

theorem arr10 : (dats m 0 c).arrAt 10 cfg0.N = dgR m c := by
  refine (dats m 0 c).arrAt_eq_of_covers 10 _ (by decide +kernel) fun t hf y => ?_
  blk_simp
  rw [after0_10]
  obtain ⟨r, k, rfl⟩ := idx2 (A := 512) (B := 1024) y
  refine (out10_apply m c t r k).trans (congrArg₂ (fun R q => dGate (xA m c) (scaled (vA m c) (scA m c) (wgA m c)) (gA m c) (gamA m c) (wA m c) R q) (Fin.ext ?_) (Fin.ext ?_))
  · show 512 * t.val + r.val = win0_10.index t 0 * 512 + 1 * r.val; rw [(index_rows t).2.2.2.2.2.2.1]; omega
  · show k.val = win0_10.index t 1 * 1024 + 1 * k.val; rw [(index_rows t).2.2.2.2.2.2.2]; omega

theorem arr11 : (dats m 0 c).arrAt 11 cfg0.N = dwR m c := by
  refine (dats m 0 c).arrAt_eq_of_covers 11 _ (by decide +kernel) fun t hf y => ?_
  have h7 : t.val % 8 = 7 := (flush0_11 t).mp hf
  blk_simp
  rw [after0_11, out11 m c t h7]
  obtain ⟨i, j, rfl⟩ := idx2 (A := 1024) (B := 1024) y
  refine (dw_last m c t h7 i j).trans (congrArg₂ (fun i j => dProj (xA m c) (scaled (vA m c) (scA m c) (wgA m c)) (gA m c) (gamA m c) i j) (Fin.ext ?_) (Fin.ext ?_))
  · show i.val = win0_11.index t 0 * 1024 + 1 * i.val; rw [(index_whole t).2.2.2.2.1.1]; omega
  · show j.val = win0_11.index t 1 * 1024 + 1 * j.val; rw [(index_whole t).2.2.2.2.1.2]; omega

theorem arr12 : (dats m 0 c).arrAt 12 cfg0.N = dwgR m c := by
  refine (dats m 0 c).arrAt_eq_of_covers 12 _ (by decide +kernel) fun t hf y => ?_
  have h7 : t.val % 8 = 7 := (flush0_12 t).mp hf
  blk_simp
  rw [after0_12, out12 m c t h7]
  obtain ⟨g, p, q, rfl⟩ := idx3 (A := 4) (B := 256) (C := 256) y
  exact (groups_last m c t h7 g p q).trans (at_three (dwgR m c) _ g p q
    (by show win0_12.index t 0 * 4 + 1 * g.val = g.val; rw [(index_whole t).2.2.2.2.2.1.1]; omega)
    (by show win0_12.index t 1 * 256 + 1 * p.val = p.val; rw [(index_whole t).2.2.2.2.2.1.2.1]; omega)
    (by show win0_12.index t 2 * 256 + 1 * q.val = q.val; rw [(index_whole t).2.2.2.2.2.1.2.2]; omega)).symm

theorem arr13 : (dats m 0 c).arrAt 13 cfg0.N = vecR m c := by
  refine (dats m 0 c).arrAt_eq_of_covers 13 _ (by decide +kernel) fun t hf y => ?_
  have h7 : t.val % 8 = 7 := (flush0_13 t).mp hf
  blk_simp
  rw [after0_13]
  obtain ⟨i, d, rfl⟩ := idx2 (A := 8) (B := 1024) y
  refine (rows_last m c t h7 i d).trans (congrArg₂ (sumRow m c) (Fin.ext ?_) (Fin.ext ?_))
  · show i.val = win0_13.index t 0 * 8 + 1 * i.val; rw [(index_whole t).2.2.2.2.2.2.1]; omega
  · show d.val = win0_13.index t 1 * 1024 + 1 * d.val; rw [(index_whole t).2.2.2.2.2.2.2]; omega

end Cert.Kernel3Ideal.Pool
-- ==== Proof.Pool.Cumsum.lean ====
/-
  A running sum over rows as the host states it, a window as long as the array padded below, and its differences.
-/
module

public import proofs.«01_k».proof.Proof.Pool.Formula
public import Idealize.ShloMosaic.Lib.Pointwise

@[expose] public section

noncomputable section

open Idealize.ShloMosaic

namespace Cert.Pool

open Cert.Step

theorem foldl_add {ι : Type*} (f : ι → EReal) (l : List ι) (v : EReal) : l.foldl (fun a n => a + f n) v = v + (l.map f).sum := by
  induction l generalizing v with
  | nil => simp
  | cons x l ih => rw [List.foldl_cons, ih, List.map_cons, List.sum_cons, add_assoc]

/-- Past the first row a longer window counts nothing more. -/
theorem trail_long (e : ℕ → EReal) (n r : ℕ) (h : r < n) : trail e n r = trail e (r + 1) r := by
  unfold trail
  refine (Finset.sum_subset (Finset.range_mono (by omega)) fun j _ hj => ?_).symm
  rw [if_neg]
  simpa using hj

theorem trail_append (e : ℕ → EReal) (w n r : ℕ) (h : w ≤ r) : trail e w r + trail e n (r - w) = trail e (w + n) r := by
  unfold trail
  rw [Finset.sum_range_add]
  refine congrArg _ (Finset.sum_congr rfl fun j _ => ?_)
  by_cases hj : j ≤ r - w
  · rw [if_pos hj, if_pos (by omega), Nat.sub_sub]
  · rw [if_neg hj, if_neg (by omega)]

/-- The difference of two running sums of real numbers is the sum over the window between them. -/
theorem running_sub (e : ℕ → EReal) (he : ∀ i, IsReal (e i)) (w r N : ℕ) (hr : r < N) :
    trail e N r - (if w ≤ r then trail e N (r - w) else 0) = trail e w r := by
  split
  case isTrue h =>
    have h1 : trail e N r = trail e w r + trail e N (r - w) := by
      rw [trail_append e w N r h, trail_long e N r hr, trail_long e (w + N) r (by omega)]
    obtain ⟨b, hb⟩ := trail_real e he N (r - w)
    rw [h1, hb, EReal.add_sub_cancel_right]
  case isFalse h =>
    rw [sub_zero, trail_long e N r hr, trail_long e w r (by omega)]

/-- A host's window sum is the initial value plus, over the window's positions, the operand's element, or the initial
    value where the position is padding. -/
theorem window_sum {s t u : Shape} {φ : FTy} (window strides lo hi : Fin s.rank → ℕ) (x : FVec Ideal s φ) (v : u.Idx → Ideal φ)
    (h : s.ReduceWindows window strides lo hi t) (hu : 0 < u.numel) (j : t.Idx) :
    (Host.reduceWindowAdd window strides lo hi x v h hu j : EReal) = (v (Shape.Idx.first hu) : EReal) + ∑ p : (⟨s.rank, window⟩ : Shape).Idx,
      (if hin : ∀ a, lo a ≤ (j (a.cast h.1.symm)).val * strides a + (p a).val ∧ (j (a.cast h.1.symm)).val * strides a + (p a).val - lo a < s.size a
        then (x (fun a => ⟨(j (a.cast h.1.symm)).val * strides a + (p a).val - lo a, (hin a).2⟩) : EReal) else v (Shape.Idx.first hu)) := by
  rw [← Equiv.sum_comp (⟨s.rank, window⟩ : Shape).rowMajor.symm, Fin.sum_univ_def]
  refine Eq.trans ?_ (foldl_add _ _ _)
  unfold Host.reduceWindowAdd
  rw [Ideal.hostReduceWindowAdd_def]
  unfold Ideal.hostReduceWindowAdd Host.reduceWindow
  refine congrArg (fun f => List.foldl f _ _) (funext₂ fun a n => ?_)
  dsimp only
  congr

abbrev S4096x4x256 : Shape := ⟨3, ![4096, 4, 256]⟩

/-- The running sum of the rows, at an index. -/
theorem cumsum_apply (x : FVec Ideal S4096x4x256 .f32) (v : FVec Ideal ⟨0, ![]⟩ .f32) (hv : ∀ i, v i = (0 : EReal))
    (h : S4096x4x256.ReduceWindows ![4096, 1, 1] ![1, 1, 1] ![4095, 0, 0] ![0, 0, 0] S4096x4x256) (hu) (r : Fin 4096) (g : Fin 4) (k : Fin 256) :
    Host.reduceWindowAdd (F := Ideal) (s := S4096x4x256) ![4096, 1, 1] ![1, 1, 1] ![4095, 0, 0] ![0, 0, 0] x v h hu (ix3 r g k)
      = trail (fun i => if hi : i < 4096 then x (ix3 ⟨i, hi⟩ g k) else 0) 4096 r.val := by
  refine (window_sum (s := S4096x4x256) ![4096, 1, 1] ![1, 1, 1] ![4095, 0, 0] ![0, 0, 0] x v h hu (ix3 r g k)).trans ?_
  rw [hv, zero_add]
  unfold trail
  rw [Finset.sum_range]
  refine (Finset.sum_bij (fun (j : Fin 4096) _ => (ix3 (Fin.rev j) 0 0 : (⟨3, ![4096, 1, 1]⟩ : Shape).Idx)) (fun _ _ => Finset.mem_univ _) (fun a _ b _ hab => ?_) (fun y _ => ?_) (fun j _ => ?_)).symm
  · exact Fin.rev_injective (congrFun hab 0)
  · obtain ⟨a, b, c, rfl⟩ := idx3 y
    obtain rfl : b = 0 := Subsingleton.elim _ _
    obtain rfl : c = 0 := Subsingleton.elim _ _
    exact ⟨Fin.rev a, Finset.mem_univ _, by rw [Fin.rev_rev]⟩
  · by_cases hj : j.val ≤ r.val
    · rw [if_pos hj]
      dsimp only
      rw [dif_pos (show r.val - j.val < 4096 by omega), dif_pos]
      · refine congrArg x (funext fun a => Fin.ext ?_)
        match a with
        | ⟨0, _⟩ => show r.val - j.val = r.val * 1 + (4096 - (j.val + 1)) - 4095; omega
        | ⟨1, _⟩ => show g.val = g.val * 1 + 0 - 0; omega
        | ⟨2, _⟩ => show k.val = k.val * 1 + 0 - 0; omega
      · intro a
        match a with
        | ⟨0, _⟩ => show 4095 ≤ r.val * 1 + (4096 - (j.val + 1)) ∧ r.val * 1 + (4096 - (j.val + 1)) - 4095 < 4096; omega
        | ⟨1, _⟩ => show 0 ≤ g.val * 1 + 0 ∧ g.val * 1 + 0 - 0 < 4; omega
        | ⟨2, _⟩ => show 0 ≤ k.val * 1 + 0 ∧ k.val * 1 + 0 - 0 < 256; omega
    · rw [if_neg hj, dif_neg]
      intro hin
      have h0 : 4095 ≤ r.val * 1 + (4096 - (j.val + 1)) := (hin 0).1
      omega

end Cert.Pool

end
-- ==== Proof.Pool.Reference.lean ====
/-
  The pooling layer's gradients as the reference computes them, read at an index.
-/
module

public import proofs.«01_k».proof.Proof.Pool.Cumsum
public import proofs.«01_k».proof.Proof.Gen.Reference3Ideal.Read

@[expose] public section

noncomputable section

open Idealize.ShloMosaic Idealize.ShloMosaic.TcCoe Idealize.SL.Sem

namespace Cert.Reference3Ideal.Pool

open Cert.Reference3Ideal Cert.Reference3Ideal.Gen Cert.Reference3Ideal.Read Cert.Step Cert.Step.Gate
open Cert.Pool (trail colOf col window pooled mixed scaled dMix dPool dGroup dScale mixed_col exists_col running_sub colOf_real cumsum_apply)

variable (x0 x1 x2 : FVec Ideal S4096x1024 .f32) (x3 : FVec Ideal S4x256x256 .f32) (x4 : FVec Ideal S1024x1024 .f32) (x5 : FVec Ideal S2x1024 .f32)
  (x6 : FVec Ideal S4x3072 .f32)

/-- The arrays as functions of their coordinates, the layer's scale and its adaLN gate. -/
def mat {A B : ℕ} (x : FVec Ideal ⟨2, ![A, B]⟩ .f32) (r : Fin A) (d : Fin B) : EReal := x (ix2 r d)
def mats (x : FVec Ideal S4x256x256 .f32) (g : Fin 4) (p q : Fin 256) : EReal := x (ix3 g p q)
def scaleOf (x : FVec Ideal S2x1024 .f32) (d : Fin 1024) : EReal := x (ix2 0 d)
def gateOf (x : FVec Ideal S4x3072 .f32) (d : Fin 1024) : EReal := x (ix2 1 ⟨2048 + d.val, by omega⟩)

/-! ### The pooled values -/

theorem zero_bits : (FloatOps.ofBits (F := Ideal) .f32 0x00000000#32 : EReal) = 0 := by pointwise

theorem grouped_apply (r : Fin 4096) (g : Fin 4) (k : Fin 256) : val_main_v2 (F := Ideal) x1 (ix3 r g k) = mat x1 r (col g k) := by
  pointwise [val_main_v2]
  exact congrArg x1 (congrArg₂ ix2 (Fin.ext (by dsimp only)) (Fin.ext (by show _ = 256 * g.val + k.val; dsimp only; omega)))

/-- The running sum of the rows. -/
theorem running_apply (r : Fin 4096) (g : Fin 4) (k : Fin 256) : val_main_v3 (F := Ideal) x1 (ix3 r g k) = trail (colOf (mat x1) (col g k)) 4096 r.val := by
  have h := grouped_apply x1
  unfold val_main_v3
  generalize val_main_v2 (F := Ideal) x1 = y at *
  refine (cumsum_apply y _ (fun i => zero_bits) _ _ r g k).trans (congrArg (fun e => trail e 4096 r.val) (funext fun i => ?_))
  unfold colOf
  split
  · exact h _ g k
  · rfl

theorem lower_if {y : FVec Ideal S4096x4x256 .f32} {e : Fin 4 → Fin 256 → ℕ → EReal} (h : ∀ r g k, (y (ix3 r g k) : EReal) = trail (e g k) 4096 r.val) (r : Fin 4096) (g : Fin 4)
    (k : Fin 256) {w n : ℕ} (hw : window g = w) (hn : n + w = 4096) :
    (if hh : w ≤ r.val ∧ r.val - w < n then (y (ix3 ⟨r.val - w, by omega⟩ g k) : EReal) else 0) = if window g ≤ r.val then trail (e g k) 4096 (r.val - window g) else 0 := by
  subst hw
  by_cases hr : window g ≤ r.val
  · rw [dif_pos ⟨hr, by omega⟩, if_pos hr]
    exact h _ g k
  · rw [dif_neg (fun hh => hr hh.1), if_neg hr]

/-- The running sum a window below, zero where the window starts before the first row. -/
theorem lower_apply (r : Fin 4096) (g : Fin 4) (k : Fin 256) :
    val_main_v29 (F := Ideal) x1 (ix3 r g k) = if window g ≤ r.val then trail (colOf (mat x1) (col g k)) 4096 (r.val - window g) else 0 := by
  have h := running_apply x1
  unfold val_main_v29 val_main_v5 val_main_v7 val_main_v9 val_main_v11 val_main_v4 val_main_v6 val_main_v8 val_main_v10
  generalize val_main_v3 (F := Ideal) x1 = y at *
  obtain rfl | rfl | rfl | rfl : g = 0 ∨ g = 1 ∨ g = 2 ∨ g = 3 := by omega
  · pointwise [val_main_cst, val_main_cst_0, val_main_cst_1, val_main_cst_2]
    exact lower_if h r 0 k rfl rfl
  · pointwise [val_main_cst, val_main_cst_0, val_main_cst_1, val_main_cst_2]
    exact lower_if h r 1 k rfl rfl
  · pointwise [val_main_cst, val_main_cst_0, val_main_cst_1, val_main_cst_2]
    exact lower_if h r 2 k rfl rfl
  · pointwise [val_main_cst, val_main_cst_0, val_main_cst_1, val_main_cst_2]
    exact lower_if h r 3 k rfl rfl

theorem count_apply (r : Fin 4096) (g : Fin 4) : val_main_v28 (F := Ideal) (ix2 r g) = Cert.Pool.count (window g) r.val := by
  obtain rfl | rfl | rfl | rfl : g = 0 ∨ g = 1 ∨ g = 2 ∨ g = 3 := by omega
  all_goals
    pointwise [val_main_v28, val_main_v27, val_main_v23, val_main_v24, val_main_v25, val_main_v26, val_main_v16, val_main_v18, val_main_v20, val_main_v22,
      val_main_v14, val_main_v13, val_main_v12, val_main_c, val_main_v15, val_main_v17, val_main_v19, val_main_v21, val_main_c_3, val_main_c_4, val_main_c_5, val_main_c_6]
    rw [show IntOp.addi (1#32) (BitVec.ofNat 32 r.val) = BitVec.ofNat 32 (r.val + 1) from (BitVec.add_comm _ _).trans (BitVec.ofNat_add_ofNat _ _)]
    rfl

section Finite

variable (h1 : ∀ r k, IsReal (mat x1 r k))
include h1

theorem pooled_apply (r : Fin 4096) (g : Fin 4) (k : Fin 256) : val_main_v34 (F := Ideal) x1 (ix3 r g k) = pooled (mat x1) r g k := by
  have e1 := running_apply x1 r g k
  have e2 := lower_apply x1 r g k
  have e3 := count_apply r g
  have e4 := grouped_apply x1 r g k
  unfold val_main_v34 val_main_v33 val_main_v30 val_main_v32 val_main_v31
  generalize val_main_v3 (F := Ideal) x1 = a at *
  generalize val_main_v29 (F := Ideal) x1 = b at *
  generalize val_main_v28 (F := Ideal) = n at *
  generalize val_main_v2 (F := Ideal) x1 = y at *
  pointwise
  rw [e1, e2, e3, e4, running_sub _ (colOf_real h1 _) _ _ _ r.isLt]
  rfl

theorem mixed_apply (r : Fin 4096) (k : Fin 1024) : val_main_v39 (F := Ideal) x1 x3 (ix2 r k) = mixed (mat x1) (mats x3) r k := by
  have e := pooled_apply x1 h1 r
  unfold val_main_v39 val_main_v38 val_main_v37
  generalize val_main_v34 (F := Ideal) x1 = y at *
  pointwise
  unfold mixed
  exact Finset.sum_congr rfl fun p _ => (mul_comm _ _).trans (congrArg₂ (fun a b : EReal => a * b) ((congrArg y (congrArg (fun g => ix3 r g p) (Fin.ext (by dsimp only)))).trans (e _ p))
    (congrArg x3 (congrArg₂ (fun g q => ix3 g p q) (Fin.ext (by dsimp only)) (Fin.ext (by dsimp only)))))

theorem scaled_apply (r : Fin 4096) (k : Fin 1024) : val_main_v43 (F := Ideal) x1 x3 x5 (ix2 r k) = scaled (mat x1) (scaleOf x5) (mats x3) r k := by
  have e := mixed_apply x1 x3 h1 r k
  unfold val_main_v43
  generalize val_main_v39 (F := Ideal) x1 x3 = y at *
  pointwise [val_main_v42, val_main_v41, val_main_v36, val_main_v35]
  rw [e]
  rfl

end Finite

/-! ### The gate, the projection and what reaches the mix -/

theorem sig_apply (r : Fin 4096) (k : Fin 1024) : val_main_v49 (F := Ideal) x2 (ix2 r k) = Step.logistic (mat x2 r k) := by
  pointwise [val_main_v49, val_main_v48, val_main_cst_8, val_main_v47, val_main_v46, val_main_cst_7, val_main_v45, val_main_v44]
  rfl

theorem silu_apply (r : Fin 4096) (k : Fin 1024) : val_main_v53 (F := Ideal) x2 (ix2 r k) = silu (mat x2 r k) := by
  pointwise [val_main_v53]
  rw [sig_apply]
  rfl

theorem dbr_apply (r : Fin 4096) (d : Fin 1024) : val_main_v59 (F := Ideal) x0 x6 (ix2 r d) = mat x0 r d * gateOf x6 d := by
  pointwise [val_main_v59, val_main_v58, val_main_v40, val_main_v1, val_main_v0]
  rw [mul_comm]
  rfl

theorem du_apply (r : Fin 4096) (k : Fin 1024) : val_main_v65 (F := Ideal) x0 x4 x6 (ix2 r k) = du (mat x0) (gateOf x6) (mat x4) r k := by
  pointwise [val_main_v65]
  exact Finset.sum_congr rfl fun d _ => by rw [dbr_apply]; rfl

theorem dout_apply (r : Fin 4096) (k : Fin 1024) : val_main_v67 (F := Ideal) x0 x2 x4 x6 (ix2 r k) = dOut (mat x0) (mat x2) (gateOf x6) (mat x4) r k := by
  pointwise [val_main_v67]
  rw [du_apply, silu_apply]
  rfl

theorem dmix_apply (r : Fin 4096) (k : Fin 1024) : val_main_v76 (F := Ideal) x0 x2 x4 x5 x6 (ix2 r k)
    = dMix (mat x0) (mat x2) (gateOf x6) (scaleOf x5) (mat x4) r k := by
  have e := dout_apply x0 x2 x4 x6 r k
  unfold val_main_v76
  generalize val_main_v67 (F := Ideal) x0 x2 x4 x6 = y at *
  pointwise [val_main_v75, val_main_v41, val_main_v36, val_main_v35]
  rw [e]
  rfl

/-- The same by group, rows last. -/
theorem dmixT_apply (g : Fin 4) (q : Fin 256) (r : Fin 4096) : val_main_v80 (F := Ideal) x0 x2 x4 x5 x6 (ix3 g q r)
    = dMix (mat x0) (mat x2) (gateOf x6) (scaleOf x5) (mat x4) r (col g q) := by
  have e := dmix_apply x0 x2 x4 x5 x6 r (col g q)
  unfold val_main_v80 val_main_v79
  generalize val_main_v76 (F := Ideal) x0 x2 x4 x5 x6 = y at *
  pointwise
  exact (congrArg y (congrArg₂ ix2 (Fin.ext (by dsimp only)) (Fin.ext (by show _ = 256 * g.val + q.val; dsimp only; omega)))).trans e

theorem dpool_apply (r : Fin 4096) (k : Fin 1024) : val_main_v89 (F := Ideal) x0 x2 x3 x4 x5 x6 (ix2 r k)
    = dPool (mat x0) (mat x2) (gateOf x6) (scaleOf x5) (mat x4) (mats x3) r k := by
  have e := dmixT_apply x0 x2 x4 x5 x6
  unfold val_main_v89 val_main_v82 val_main_v81
  generalize val_main_v80 (F := Ideal) x0 x2 x4 x5 x6 = y at *
  pointwise
  simp only [e]
  unfold dPool
  refine Finset.sum_congr rfl fun q _ => ?_
  exact congrArg₂ (fun a b : EReal => a * b) (congrArg₂ (fun r g => dMix (mat x0) (mat x2) (gateOf x6) (scaleOf x5) (mat x4) r (col g q)) (Fin.ext (by dsimp only)) (Fin.ext (by dsimp only)))
    (congrArg x3 (congrArg₂ (fun g p => ix3 g p q) (Fin.ext (by dsimp only)) (Fin.ext (by dsimp only))))

/-! ### The results that read the pooled values -/

section Finite

variable (h1 : ∀ r k, IsReal (mat x1 r k))
include h1

theorem branch_apply (r : Fin 4096) (j : Fin 1024) : val_main_v55 (F := Ideal) x1 x2 x3 x4 x5 (ix2 r j)
    = branch (scaled (mat x1) (scaleOf x5) (mats x3)) (mat x2) (mat x4) r j := by
  have e1 := scaled_apply x1 x3 x5 h1
  have e2 := silu_apply x2
  unfold val_main_v55 val_main_v54
  generalize val_main_v43 (F := Ideal) x1 x3 x5 = y at *
  generalize val_main_v53 (F := Ideal) x2 = s at *
  pointwise
  simp only [e1, e2]
  rfl

/-- The gate input's gradient by the product rule. -/
theorem dg_apply (r : Fin 4096) (k : Fin 1024) : val_main_v90 (F := Ideal) x0 x1 x2 x3 x4 x5 x6 (ix2 r k)
    = scaled (mat x1) (scaleOf x5) (mats x3) r k * du (mat x0) (gateOf x6) (mat x4) r k * Step.logistic (mat x2 r k)
      + mat x2 r k * (scaled (mat x1) (scaleOf x5) (mats x3) r k * du (mat x0) (gateOf x6) (mat x4) r k) * (Step.logistic (mat x2 r k) * (1 - Step.logistic (mat x2 r k))) := by
  have e1 := scaled_apply x1 x3 x5 h1 r k
  have e2 := sig_apply x2 r k
  have e3 := du_apply x0 x4 x6 r k
  unfold val_main_v90 val_main_v71 val_main_v70 val_main_v69 val_main_v68 val_main_v66 val_main_v52 val_main_v51
  generalize val_main_v43 (F := Ideal) x1 x3 x5 = y at *
  generalize val_main_v49 (F := Ideal) x2 = s at *
  generalize val_main_v65 (F := Ideal) x0 x4 x6 = u at *
  pointwise [val_main_v50, val_main_cst_9]
  rw [e1, e2, e3]
  rfl

theorem dw_apply (i j : Fin 1024) : val_main_v91 (F := Ideal) x0 x1 x2 x3 x5 x6 (ix2 i j)
    = dProj (mat x0) (scaled (mat x1) (scaleOf x5) (mats x3)) (mat x2) (gateOf x6) i j := by
  have e1 := scaled_apply x1 x3 x5 h1
  have e2 := silu_apply x2
  have e3 := dbr_apply x0 x6
  unfold val_main_v91 val_main_v64 val_main_v63 val_main_v54
  generalize val_main_v43 (F := Ideal) x1 x3 x5 = y at *
  generalize val_main_v53 (F := Ideal) x2 = s at *
  generalize val_main_v59 (F := Ideal) x0 x6 = u at *
  pointwise
  simp only [e1, e2, e3]
  exact Finset.sum_congr rfl fun r _ => mul_comm _ _

theorem dwg_apply (g : Fin 4) (p q : Fin 256) : val_main_v92 (F := Ideal) x0 x1 x2 x4 x5 x6 (ix3 g p q)
    = dGroup (mat x0) (mat x1) (mat x2) (gateOf x6) (scaleOf x5) (mat x4) g p q := by
  have e1 := dmixT_apply x0 x2 x4 x5 x6
  have e2 := pooled_apply x1 h1
  unfold val_main_v92 val_main_v84 val_main_v83
  generalize val_main_v80 (F := Ideal) x0 x2 x4 x5 x6 = y at *
  generalize val_main_v34 (F := Ideal) x1 = z at *
  pointwise
  simp only [e1, e2]
  exact Finset.sum_congr rfl fun r _ => mul_comm _ _

theorem dgate_apply (d : Fin 1024) : val_main_v78 (F := Ideal) x0 x1 x2 x3 x4 x5 (ix1 d)
    = dAda (mat x0) (branch (scaled (mat x1) (scaleOf x5) (mats x3)) (mat x2) (mat x4)) d := by
  have e := branch_apply x1 x2 x3 x4 x5 h1
  unfold val_main_v78 val_main_v62 val_main_v61 val_main_v60
  generalize val_main_v55 (F := Ideal) x1 x2 x3 x4 x5 = y at *
  pointwise [val_main_cst_10, val_main_cst_13]
  simp only [e]
  exact Fin.sum_univ_one _

theorem dscale_apply (d : Fin 1024) : val_main_v77 (F := Ideal) x0 x1 x2 x3 x4 x6 (ix1 d)
    = dScale (mat x0) (mat x1) (mat x2) (gateOf x6) (mat x4) (mats x3) d := by
  have e1 := mixed_apply x1 x3 h1
  have e2 := dout_apply x0 x2 x4 x6
  unfold val_main_v77 val_main_v74 val_main_v73 val_main_v72
  generalize val_main_v39 (F := Ideal) x1 x3 = y at *
  generalize val_main_v67 (F := Ideal) x0 x2 x4 x6 = z at *
  pointwise [val_main_cst_11, val_main_cst_12]
  simp only [e1, e2]
  exact (Fin.sum_univ_one _).trans (Finset.sum_congr rfl fun r _ => mul_comm _ _)

/-- The table of sums: the adaLN gate's gradient, the scale's, and six rows of zero. -/
theorem vec_apply (i : Fin 8) (d : Fin 1024) : val_main_v88 (F := Ideal) x0 x1 x2 x3 x4 x5 x6 (ix2 i d)
    = if i.val = 0 then dAda (mat x0) (branch (scaled (mat x1) (scaleOf x5) (mats x3)) (mat x2) (mat x4)) d
      else if i.val = 1 then dScale (mat x0) (mat x1) (mat x2) (gateOf x6) (mat x4) (mats x3) d else 0 := by
  have e1 := dgate_apply x0 x1 x2 x3 x4 x5 h1 d
  have e2 := dscale_apply x0 x1 x2 x3 x4 x6 h1 d
  unfold val_main_v88 val_main_v86 val_main_v85
  generalize val_main_v78 (F := Ideal) x0 x1 x2 x3 x4 x5 = y at *
  generalize val_main_v77 (F := Ideal) x0 x1 x2 x3 x4 x6 = z at *
  pointwise [val_main_v87, val_main_cst_14]
  by_cases h0 : i.val = 0
  · rw [dif_pos (by omega), if_pos h0]
    exact e1
  rw [dif_neg (by omega), if_neg h0]
  by_cases h1 : i.val = 1
  · rw [dif_pos (by omega), if_pos h1]
    exact e2
  · rw [dif_neg (by omega), if_neg h1]

end Finite

end Cert.Reference3Ideal.Pool
-- ==== Proof.Pool.Entry.lean ====
/-
  The arrays the pooling kernel reads, as functions of the program's arguments: what the host prepared before the call.
-/
module

public import proofs.«01_k».proof.Proof.Pool.Arrays
public import proofs.«01_k».proof.Proof.Pool.Reference

@[expose] public section

noncomputable section

open Idealize.ShloMosaic Idealize.ShloMosaic.TcCoe Idealize.SL.Sem

namespace Cert.Kernel3Ideal.Pool

open Cert.Kernel3Ideal Cert.Kernel3Ideal.Gen Cert.Step Cert.Step.Gate Cert.Pool
open Cert.Reference3Ideal.Pool (mat mats scaleOf gateOf)

variable (m : (ℓ : Loc nD τ sig) → Buf (Elt Ideal) ℓ) (c : Dev nD)

/-- The program's arguments. -/
abbrev a0 : FVec Ideal S4096x1024 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)
abbrev a3 : FVec Ideal S4x256x256 .f32 := m ((c : Thread nD τ).loc main_arg3)
abbrev a4 : FVec Ideal S1024x1024 .f32 := m ((c : Thread nD τ).loc main_arg4)
abbrev a5 : FVec Ideal S2x1024 .f32 := m ((c : Thread nD τ).loc main_arg5)
abbrev a6 : FVec Ideal S4x3072 .f32 := m ((c : Thread nD τ).loc main_arg6)
abbrev a7 : FVec Ideal S4x1024 .f32 := m ((c : Thread nD τ).loc main_arg7)

theorem xA_eq (r : Fin 4096) (d : Fin 1024) : xA m c r d = mat (a0 m c) r d := by
  unfold xA; rw [V_main_arg0]; rfl

theorem vA_eq (r : Fin 4096) (d : Fin 1024) : vA m c r d = mat (a1 m c) r d := by
  unfold vA
  simp only [V, hostOps0, hostOps0_1, hostOps0_2, hostOps0_3, hostOps0_4, List.flatten_cons, List.flatten_nil, List.append_nil, List.cons_append, List.nil_append]
  after_results_simp
  pointwise
  rfl

theorem gA_eq (r : Fin 4096) (d : Fin 1024) : gA m c r d = mat (a2 m c) r d := by
  unfold gA
  simp only [V, hostOps0, hostOps0_1, hostOps0_2, hostOps0_3, hostOps0_4, List.flatten_cons, List.flatten_nil, List.append_nil, List.cons_append, List.nil_append]
  after_results_simp
  pointwise
  rfl

theorem wgA_eq (g : Fin 4) (p q : Fin 256) : wgA m c g p q = mats (a3 m c) g p q := by
  unfold wgA
  simp only [V, hostOps0, hostOps0_1, hostOps0_2, hostOps0_3, hostOps0_4, List.flatten_cons, List.flatten_nil, List.append_nil, List.cons_append, List.nil_append]
  after_results_simp
  pointwise
  rfl

theorem wA_eq (k d : Fin 1024) : wA m c k d = mat (a4 m c) k d := by
  unfold wA
  simp only [V, hostOps0, hostOps0_1, hostOps0_2, hostOps0_3, hostOps0_4, List.flatten_cons, List.flatten_nil, List.append_nil, List.cons_append, List.nil_append]
  after_results_simp
  pointwise
  rfl

theorem gamA_eq (d : Fin 1024) : gamA m c d = gateOf (a6 m c) d := by
  unfold gamA
  simp only [V, hostOps0, hostOps0_1, hostOps0_2, hostOps0_3, hostOps0_4, List.flatten_cons, List.flatten_nil, List.append_nil, List.cons_append, List.nil_append]
  after_results_simp
  pointwise
  after_results_simp
  pointwise
  rfl

theorem scA_eq (d : Fin 1024) : scA m c d = scaleOf (a5 m c) d := by
  unfold scA
  simp only [V, hostOps0, hostOps0_1, hostOps0_2, hostOps0_3, hostOps0_4, List.flatten_cons, List.flatten_nil, List.append_nil, List.cons_append, List.nil_append]
  after_results_simp
  pointwise
  after_results_simp
  pointwise
  after_results_simp
  pointwise
  rfl

open Cert.Reference3Ideal.Read in
/-- The saved branch is the reference's own. -/
theorem brA_eq (h1 : ∀ r k, IsReal (mat (a1 m c) r k)) (r : Fin 4096) (d : Fin 1024) :
    brA m c r d = branch (scaled (mat (a1 m c)) (scaleOf (a5 m c)) (mats (a3 m c))) (mat (a2 m c)) (mat (a4 m c)) r d := by
  refine Eq.trans ?_ (Cert.Reference3Ideal.Pool.branch_apply (a1 m c) (a2 m c) (a3 m c) (a4 m c) (a5 m c) h1 r d)
  unfold brA
  simp only [V, hostOps0, hostOps0_1, hostOps0_2, hostOps0_3, hostOps0_4, List.flatten_cons, List.flatten_nil, List.append_nil, List.cons_append, List.nil_append]
  simp only [StableHlo.TRef.binary, StableHlo.TRef.nullary, StableHlo.TRef.unary, StableHlo.TRef.toBuf, StableHlo.TRef.ofBuf, cast_eq]
  after_results_simp
  rfl

end Cert.Kernel3Ideal.Pool
-- ==== Proof.Pool.Equation.lean ====
/-
  The pooling layer's gradients: the precondition read at an index, the equation between the kernel's results and the
  reference's, and the two claims about the programs that rest on it.
-/
module

public import proofs.«01_k».proof.Proof.Pool.Entry
public import proofs.«01_k».proof.Proof.Gate.Equation
public import proofs.«01_k».proof.Proof.Gen.Pre_finite3
public import proofs.«01_k».proof.Proof.Gen.Kernel3Ideal.Value
public import proofs.«01_k».proof.Proof.Gen.Reference3Ideal.Run

@[expose] public section

noncomputable section

open Idealize.ShloMosaic Idealize.ShloMosaic.TcCoe Idealize.SL.Sem

namespace Cert.Pool

open Cert.Step Cert.Step.Gate
open Cert.Reference3Ideal.Pool (mat mats scaleOf gateOf)

section Pre

variable (x0 x1 x2 : FVec Ideal Cert.Pre_finite3.S4096x1024 .f32) (x3 : FVec Ideal Cert.Pre_finite3.S4x256x256 .f32) (x4 : FVec Ideal Cert.Pre_finite3.S1024x1024 .f32)
  (x5 : FVec Ideal Cert.Pre_finite3.S2x1024 .f32) (x6 : FVec Ideal Cert.Pre_finite3.S4x3072 .f32) (x7 : FVec Ideal Cert.Pre_finite3.S4x1024 .f32)

theorem real_x (h : (Cert.Pre_finite3.fn (F := Ideal) x0 x1 x2 x3 x4 x5 x6 x7).1 = fun _ => 1#1) (r : Fin 4096) (d : Fin 1024) : IsReal (mat x0 r d) := by
  have := congrFun h (ix2 r d)
  pointwise [Cert.Pre_finite3.fn, Cert.Pre_finite3.fn_part1] at this
  exact fin_of_lt _ this

theorem real_v (h : (Cert.Pre_finite3.fn (F := Ideal) x0 x1 x2 x3 x4 x5 x6 x7).2.1 = fun _ => 1#1) (r : Fin 4096) (d : Fin 1024) : IsReal (mat x1 r d) := by
  have := congrFun h (ix2 r d)
  pointwise [Cert.Pre_finite3.fn, Cert.Pre_finite3.fn_part1] at this
  exact fin_of_lt _ this

theorem real_groups (h : (Cert.Pre_finite3.fn (F := Ideal) x0 x1 x2 x3 x4 x5 x6 x7).2.2.1 = fun _ => 1#1) (g : Fin 4) (p q : Fin 256) : IsReal (mats x3 g p q) := by
  have := congrFun h (ix3 g p q)
  pointwise [Cert.Pre_finite3.fn, Cert.Pre_finite3.fn_part1] at this
  exact fin_of_lt _ this

theorem real_w (h : (Cert.Pre_finite3.fn (F := Ideal) x0 x1 x2 x3 x4 x5 x6 x7).2.2.2.1 = fun _ => 1#1) (k d : Fin 1024) : IsReal (mat x4 k d) := by
  have := congrFun h (ix2 k d)
  pointwise [Cert.Pre_finite3.fn, Cert.Pre_finite3.fn_part1] at this
  exact fin_of_lt _ this

theorem real_scale (h : (Cert.Pre_finite3.fn (F := Ideal) x0 x1 x2 x3 x4 x5 x6 x7).2.2.2.2.1 = fun _ => 1#1) (d : Fin 1024) : IsReal (scaleOf x5 d) := by
  have := congrFun h (ix1 d)
  pointwise [Cert.Pre_finite3.fn, Cert.Pre_finite3.fn_part1] at this
  exact fin_of_lt _ this

theorem real_gate (h : (Cert.Pre_finite3.fn (F := Ideal) x0 x1 x2 x3 x4 x5 x6 x7).2.2.2.2.2 = fun _ => 1#1) (d : Fin 1024) : IsReal (gateOf x6 d) := by
  have := congrFun h (ix1 d)
  pointwise [Cert.Pre_finite3.fn, Cert.Pre_finite3.fn_part1] at this
  exact fin_of_lt _ this

end Pre

section Final

open Cert.Kernel3Ideal Cert.Kernel3Ideal.Pool
open Cert.Reference3Ideal.Read Cert.Reference3Ideal.Pool

variable (m : (ℓ : Loc nD τ sig) → Buf (Elt Ideal) ℓ) (c : Dev nD)

/-- The arrays the kernel reads are the arguments. -/
theorem arrays : xA m c = mat (a0 m c) ∧ vA m c = mat (a1 m c) ∧ gA m c = mat (a2 m c) ∧ wgA m c = mats (a3 m c) ∧ wA m c = mat (a4 m c)
    ∧ scA m c = scaleOf (a5 m c) ∧ gamA m c = gateOf (a6 m c) :=
  ⟨funext₂ (xA_eq m c), funext₂ (vA_eq m c), funext₂ (gA_eq m c), funext fun g => funext₂ (wgA_eq m c g), funext₂ (wA_eq m c), funext (scA_eq m c), funext (gamA_eq m c)⟩

theorem dpool_eq : dpoolR m c = val_main_v89 (F := Ideal) (a0 m c) (a2 m c) (a3 m c) (a4 m c) (a5 m c) (a6 m c) := by
  obtain ⟨hx, hv, hg, hwg, hw, hs, hγ⟩ := arrays m c
  funext i
  obtain ⟨r, k, rfl⟩ := idx2 (A := 4096) (B := 1024) i
  refine Eq.trans ?_ (dpool_apply _ _ _ _ _ _ r k).symm
  show dPool (xA m c) (gA m c) (gamA m c) (scA m c) (wA m c) (wgA m c) r k = _
  rw [hx, hg, hwg, hw, hs, hγ]

section Finite

variable (h1 : ∀ r k, IsReal (mat (a1 m c) r k))
include h1

theorem dw_eq : dwR m c = val_main_v91 (F := Ideal) (a0 m c) (a1 m c) (a2 m c) (a3 m c) (a5 m c) (a6 m c) := by
  obtain ⟨hx, hv, hg, hwg, hw, hs, hγ⟩ := arrays m c
  funext i
  obtain ⟨i, j, rfl⟩ := idx2 (A := 1024) (B := 1024) i
  refine Eq.trans ?_ (dw_apply _ _ _ _ _ _ h1 i j).symm
  show dProj (xA m c) (scaled (vA m c) (scA m c) (wgA m c)) (gA m c) (gamA m c) i j = _
  rw [hx, hv, hg, hwg, hs, hγ]

theorem dwg_eq : dwgR m c = val_main_v92 (F := Ideal) (a0 m c) (a1 m c) (a2 m c) (a4 m c) (a5 m c) (a6 m c) := by
  obtain ⟨hx, hv, hg, hwg, hw, hs, hγ⟩ := arrays m c
  funext i
  obtain ⟨g, p, q, rfl⟩ := idx3 (A := 4) (B := 256) (C := 256) i
  refine Eq.trans ?_ (dwg_apply _ _ _ _ _ _ h1 g p q).symm
  show dGroup (xA m c) (vA m c) (gA m c) (gamA m c) (scA m c) (wA m c) g p q = _
  rw [hx, hv, hg, hw, hs, hγ]

theorem vec_eq : vecR m c = val_main_v88 (F := Ideal) (a0 m c) (a1 m c) (a2 m c) (a3 m c) (a4 m c) (a5 m c) (a6 m c) := by
  obtain ⟨hx, hv, hg, hwg, hw, hs, hγ⟩ := arrays m c
  have hb : brA m c = branch (scaled (mat (a1 m c)) (scaleOf (a5 m c)) (mats (a3 m c))) (mat (a2 m c)) (mat (a4 m c)) := funext₂ (brA_eq m c h1)
  funext i
  obtain ⟨i, d, rfl⟩ := idx2 (A := 8) (B := 1024) i
  refine Eq.trans ?_ (vec_apply _ _ _ _ _ _ _ h1 i d).symm
  show sumRow m c i d = _
  unfold sumRow
  rw [hb, hx, hv, hg, hwg, hw, hγ]

end Finite

theorem real_values (hpre : Cert.Pre_Kernel3Ideal_finite3 m) (r : Fin 4096) (k : Fin 1024) : IsReal (mat (a1 m c) r k) := by
  obtain ⟨p0, p1, _⟩ := hpre c
  exact real_v _ _ _ _ _ _ _ _ p1 r k

theorem dg_eq (hpre : Cert.Pre_Kernel3Ideal_finite3 m) :
    dgR m c = val_main_v90 (F := Ideal) (a0 m c) (a1 m c) (a2 m c) (a3 m c) (a4 m c) (a5 m c) (a6 m c) := by
  obtain ⟨hx, hv, hg, hwg, hw, hs, hγ⟩ := arrays m c
  obtain ⟨p0, p1, p3, p4, p5, p6⟩ := hpre c
  have h1 := real_values m c hpre
  funext i
  obtain ⟨r, k, rfl⟩ := idx2 (A := 4096) (B := 1024) i
  refine Eq.trans ?_ (dg_apply _ _ _ _ _ _ _ h1 r k).symm
  show dGate (xA m c) (scaled (vA m c) (scA m c) (wgA m c)) (gA m c) (gamA m c) (wA m c) r k = _
  rw [hx, hv, hg, hwg, hw, hs, hγ]
  exact dGate_eq _ _ _ _ _ (real_x _ _ _ _ _ _ _ _ p0) (fun r k => (mixed_real _ h1 (real_groups _ _ _ _ _ _ _ _ p3) r k).mul (real_scale _ _ _ _ _ _ _ _ p5 k))
    (real_gate _ _ _ _ _ _ _ _ p6) (real_w _ _ _ _ _ _ _ _ p4) r k

end Final

theorem reference_frame : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

set_option maxHeartbeats 4000000 in
theorem value : Cert.algebraic_Kernel3Ideal_Reference3Ideal_pre_finite3 := by
  intro m g m' g' hpre hag
  refine ⟨fun c => Cert.Kernel3Ideal.Pool.dpoolR m c, fun c => Cert.Kernel3Ideal.Pool.dgR m c, fun c => Cert.Kernel3Ideal.Pool.dwR m c,
    fun c => Cert.Kernel3Ideal.Pool.dwgR m c, fun c => Cert.Kernel3Ideal.Pool.vecR m c, ?_, ?_⟩
  · refine (θ_run Cert.Kernel3Ideal.defs _ _).mono (fun r h c => ?_) (Cert.Kernel3Ideal.Value.run_blocks m g)
    obtain ⟨h9, h10, h11, h12, h13, hargs⟩ := h c
    exact ⟨h9.trans (Cert.Kernel3Ideal.Pool.arr9 m c), h10.trans (Cert.Kernel3Ideal.Pool.arr10 m c), h11.trans (Cert.Kernel3Ideal.Pool.arr11 m c),
      h12.trans (Cert.Kernel3Ideal.Pool.arr12 m c), h13.trans (Cert.Kernel3Ideal.Pool.arr13 m c), hargs⟩
  · refine (θ_run Cert.Reference3Ideal.defs _ _).mono (fun r h c => ?_) (Cert.Reference3Ideal.Value.run m' g')
    obtain ⟨h0, h1, h2, h3, h4, hargs⟩ := h c
    obtain ⟨e0, e1, e2, e3, e4, e5, e6, _⟩ := hag c
    have hv := real_values m c hpre
    refine ⟨h0.trans ?_, h1.trans ?_, h2.trans ?_, h3.trans ?_, h4.trans ?_, hargs⟩
    · rw [e0, e2, e3, e4, e5, e6]; exact (Cert.Reference3Ideal.Read.val_main_v89_eq _ _ _ _ _ _).trans (dpool_eq m c).symm
    · rw [Cert.Reference3Ideal.Read.val_main_v90_eq, e0, e1, e2, e3, e4, e5, e6]; exact (dg_eq m c hpre).symm
    · rw [Cert.Reference3Ideal.Read.val_main_v91_eq, e0, e1, e2, e3, e5, e6]; exact (dw_eq m c hv).symm
    · rw [Cert.Reference3Ideal.Read.val_main_v92_eq, e0, e1, e2, e4, e5, e6]; exact (dwg_eq m c hv).symm
    · rw [Cert.Reference3Ideal.Read.val_main_v88_eq, e0, e1, e2, e3, e4, e5, e6]; exact (vec_eq m c hv).symm

end Cert.Pool

end
-- ==== Proof.Lead.Plan.lean ====
/-
  The pooling gradient kernel's two planes of scratch rows: the writes of one grid point, the fill and ten steps of
  doubling, and what the point computes from them, as payload terms of the point's input blocks, at any float values.
-/
module

public import proofs.«01_k».proof.Proof.Gen.Kernel4Ideal.Frame
public import Idealize.ShloMosaic.Lib.Pipeline.Value
public import Idealize.ShloMosaic.Lib.Tactic

@[expose] public section

noncomputable section

open Idealize.ShloMosaic Idealize.ShloMosaic.TcCoe Idealize.SL.Sem

namespace Cert.Kernel4Ideal.Lead

open Cert.Kernel4Ideal Cert.Kernel4Ideal.Gen

variable {F : FTy → Type} [FloatOps F]

abbrev Planes (F : FTy → Type) : Type := List (View.Piece (Elt F) S2x280x1024 .f32)

theorem box (p : Fin 2) (lo n c0 : ℕ) (h : lo + n ≤ 280) (hc : c0 + 256 ≤ 1024) :
    ∀ a, (![p.val, lo, c0] : Fin 3 → ℕ) a + (![1, n, 256] : Fin 3 → ℕ) a ≤ S2x280x1024.size a
  | ⟨0, _⟩ => p.isLt
  | ⟨1, _⟩ => h
  | ⟨2, _⟩ => hc

/-- The zero rows after the last, in both planes. -/
def ends : Planes F :=
  [⟨Rect.unit ![1, 272, 0] S1x8x1024.size inb_S2x280x1024_S1x8x1024_1_272_0, k0_pay9⟩,
   ⟨Rect.unit ![0, 272, 0] S1x8x1024.size inb_S2x280x1024_S1x8x1024_0_272_0, k0_pay8⟩]

/-- One group's columns of the point's tile, and of the rows after it. -/
def filled (L : Planes F) (c0 : ℕ) (tile : FVec F S1x256x256 .f32) (halo : FVec F S1x16x256 .f32) (hc : c0 + 256 ≤ 1024 := by decide) : Planes F :=
  ⟨Rect.unit (s := S2x280x1024) ![(0 : Fin 2).val, 256, c0] S1x16x256.size (box 0 256 16 c0 (by decide) hc), halo⟩
    :: ⟨Rect.unit (s := S2x280x1024) ![(0 : Fin 2).val, 0, c0] S1x256x256.size (box 0 0 256 c0 (by decide) hc), tile⟩ :: L

/-- The rows from `lo` of one plane's columns from `c0`. -/
def rows (L : Planes F) (q : Fin 2) (lo c0 : ℕ) (h : lo + 272 ≤ 280) (hc : c0 + 256 ≤ 1024) : Vec F S1x272x256 .f32 :=
  scM0_0.view.readCov L (Rect.unit (s := S2x280x1024) ![q.val, lo, c0] S1x272x256.size (box q lo 272 c0 h hc)).toLoadRect

/-- One step: into plane `p` the rows of plane `q` added to its rows moved up by `d`. -/
def doubled (L : Planes F) (q p : Fin 2) (d c0 : ℕ) (hc : c0 + 256 ≤ 1024 := by decide) (hd : d ≤ 8 := by decide) : Planes F :=
  ⟨Rect.unit (s := S2x280x1024) ![p.val, 0, c0] S1x272x256.size (box p 0 272 c0 (by decide) hc),
    k0_pay21 (rows L q 0 c0 (by decide) hc) (rows L q d c0 (by omega) hc)⟩ :: L

/-- The ten steps. -/
def steps (L : Planes F) : Planes F :=
  let g0 := doubled L 0 1 1 0
  let g1 := doubled (doubled g0 0 1 1 256) 1 0 2 256
  let g2 := doubled (doubled (doubled g1 0 1 1 512) 1 0 2 512) 0 1 4 512
  doubled (doubled (doubled (doubled g2 0 1 1 768) 1 0 2 768) 0 1 4 768) 1 0 8 768

/-- The tile's rows of one plane's columns from `c0`. -/
def tileRows (L : Planes F) (q : Fin 2) (c0 : ℕ) (hc : c0 + 256 ≤ 1024 := by decide) : Vec F S1x256x256 .f32 :=
  scM0_0.view.readCov L (Rect.unit (s := S2x280x1024) ![q.val, 0, c0] S1x256x256.size (box q 0 256 c0 (by decide) hc)).toLoadRect

/-- One group's columns of a block, and of the block of rows after it. -/
abbrev cols (x : Vec F S256x1024 .f32) (c0 : ℕ) (h : c0 + 256 ≤ 1024 := by decide) : Vec F S256x256 .f32 :=
  View.ld x (Rect.unit (s := S256x1024) ![0, c0] S256x256.size (fun a => match a with | ⟨0, _⟩ => le_rfl | ⟨1, _⟩ => h))
abbrev colsH (x : Vec F S16x1024 .f32) (c0 : ℕ) (h : c0 + 256 ≤ 1024 := by decide) : Vec F S16x256 .f32 :=
  View.ld x (Rect.unit (s := S16x1024) ![0, c0] S16x256.size (fun a => match a with | ⟨0, _⟩ => le_rfl | ⟨1, _⟩ => h))

/-- Whether the point is the last one. -/
abbrev isLast (i : grid0.Coords) : BitVec 1 := Scalar.cmpi .eq (BitVec.ofNat 32 (i 0).val) 15#32

/-- The writes of one point before the steps. -/
def fills (i : grid0.Coords) (x2 : Fin 4 → Vec F S256x256 .f32) (x3 : Fin 4 → Vec F S16x256 .f32) : Planes F :=
  let f0 := filled ends 0 (k0_pay10 i (x2 0)) (k0_pay12 (k0_pay11 i (x3 0)))
  let f1 := filled f0 256 (k0_pay13 (k0_pay7 i) (x2 1)) (k0_pay14 (isLast i) (x3 1))
  let f2 := filled f1 512 (k0_pay15 (k0_pay7 i) (x2 2)) (k0_pay16 (isLast i) (x3 2))
  filled f2 768 (k0_pay17 (k0_pay7 i) (x2 3)) (k0_pay18 (isLast i) (x3 3))

variable (m : (ℓ : Loc nD τ sig) → Buf (Elt F) ℓ) (c : Dev nD) (t : Fin cfg0.N)

/-- One group's columns of the point's cotangent, and of the rows after it. -/
def colsB : Fin 4 → Vec F S256x256 .f32
  | 0 => cols (iblk m c 2 t) 0 | 1 => cols (iblk m c 2 t) 256 | 2 => cols (iblk m c 2 t) 512 | 3 => cols (iblk m c 2 t) 768
def colsHB : Fin 4 → Vec F S16x256 .f32
  | 0 => colsH (iblk m c 3 t) 0 | 1 => colsH (iblk m c 3 t) 256 | 2 => colsH (iblk m c 3 t) 512 | 3 => colsH (iblk m c 3 t) 768

/-- The same columns, read through a buffer that holds the block. -/
def colsM (a : Memref sig .tc .vmem S256x1024 .f32) (f : a.view.ty.Contents (Elt F)) : Fin 4 → Vec F S256x256 .f32
  | 0 => View.readAt (Elt F) a.view (Rect.unit (s := S256x1024) ![0, 0] S256x256.size inb_S256x1024_S256x256_0_0).toLoadRect f
  | 1 => View.readAt (Elt F) a.view (Rect.unit (s := S256x1024) ![0, 256] S256x256.size inb_S256x1024_S256x256_0_256).toLoadRect f
  | 2 => View.readAt (Elt F) a.view (Rect.unit (s := S256x1024) ![0, 512] S256x256.size inb_S256x1024_S256x256_0_512).toLoadRect f
  | 3 => View.readAt (Elt F) a.view (Rect.unit (s := S256x1024) ![0, 768] S256x256.size inb_S256x1024_S256x256_0_768).toLoadRect f
def colsHM (a : Memref sig .tc .vmem S16x1024 .f32) (f : a.view.ty.Contents (Elt F)) : Fin 4 → Vec F S16x256 .f32
  | 0 => View.readAt (Elt F) a.view (Rect.unit (s := S16x1024) ![0, 0] S16x256.size inb_S16x1024_S16x256_0_0).toLoadRect f
  | 1 => View.readAt (Elt F) a.view (Rect.unit (s := S16x1024) ![0, 256] S16x256.size inb_S16x1024_S16x256_0_256).toLoadRect f
  | 2 => View.readAt (Elt F) a.view (Rect.unit (s := S16x1024) ![0, 512] S16x256.size inb_S16x1024_S16x256_0_512).toLoadRect f
  | 3 => View.readAt (Elt F) a.view (Rect.unit (s := S16x1024) ![0, 768] S16x256.size inb_S16x1024_S16x256_0_768).toLoadRect f

theorem colsM_eq : colsM (ms0_2 t) ((hs0_2 t).unread (iblk m c 2 t)) = colsB m c t := by
  funext g
  obtain rfl | rfl | rfl | rfl : g = 0 ∨ g = 1 ∨ g = 2 ∨ g = 3 := by omega
  all_goals
    unfold colsM colsB
    dsimp only
    rw [View.readAt_eq_ld, (hs0_2 t).read_unread]

theorem colsHM_eq : colsHM (ms0_3 t) ((hs0_3 t).unread (iblk m c 3 t)) = colsHB m c t := by
  funext g
  obtain rfl | rfl | rfl | rfl : g = 0 ∨ g = 1 ∨ g = 2 ∨ g = 3 := by omega
  all_goals
    unfold colsHM colsHB
    dsimp only
    rw [View.readAt_eq_ld, (hs0_3 t).read_unread]

/-- The writes of point `t`. -/
def planesB : Planes F := steps (fills (grid0.coords t) (colsB m c t) (colsHB m c t))

/-- The gradient of the projection's rows at point `t`, as it is written: a group at a time, then the gate's columns. -/
def dprojP : List (View.Piece (Elt F) S256x2048 .bf16) :=
  [⟨Rect.unit (s := S256x2048) ![0, 1024] S256x1024.size inb_S256x2048_S256x1024_0_1024, k0_pay37 (k0_pay36 (iblk m c 4 t))⟩,
   ⟨Rect.unit (s := S256x2048) ![0, 768] S256x256.size inb_S256x2048_S256x256_0_768, k0_pay35 (tileRows (planesB m c t) 0 768) (cols (iblk m c 2 t) 768)⟩,
   ⟨Rect.unit (s := S256x2048) ![0, 512] S256x256.size inb_S256x2048_S256x256_0_512, k0_pay34 (tileRows (planesB m c t) 1 512) (cols (iblk m c 2 t) 512)⟩,
   ⟨Rect.unit (s := S256x2048) ![0, 256] S256x256.size inb_S256x2048_S256x256_0_256, k0_pay33 (tileRows (planesB m c t) 0 256) (cols (iblk m c 2 t) 256)⟩,
   ⟨Rect.unit (s := S256x2048) ![0, 0] S256x256.size inb_S256x2048_S256x256_0_0, k0_pay32 (k0_pay31 (tileRows (planesB m c t) 1 0)) (cols (iblk m c 2 t) 0)⟩]

def dprojB : FVec F S256x2048 .bf16 :=
  scM0_1.view.readCov (dprojP m c t) (Rect.unit ![0, 0] S256x2048.size inb_S256x2048_S256x2048_0_0).toLoadRect

/-- The point's rows of the modulation table: the shift and the scale. -/
abbrev shiftRow : Vec F S1x1x1024 .f32 :=
  View.ld (iblk m c 6 t) (Rect.unit ![0, 0, 0] S1x1x1024.size inb_S1x8x1024_S1x1x1024_0_0_0)
abbrev scaleRow : Vec F S1x1x1024 .f32 :=
  View.ld (iblk m c 6 t) (Rect.unit ![0, 1, 0] S1x1x1024.size inb_S1x8x1024_S1x1x1024_0_1_0)

/-- The gradient of the normed rows, and the normed rows. -/
def dhB : FVec F S256x1024 .f32 := k0_pay42 (dprojB m c t) (iblk m c 7 t)
def hB : FVec F S256x1024 .bf16 := k0_pay43 (iblk m c 5 t) (scaleRow m c t) (shiftRow m c t) (iblk m c 0 t)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point is the first one, the last one, or between them. -/
theorem three : (t.val % 16 = 0 ∧ ¬t.val % 16 = 15) ∨ (¬t.val % 16 = 0 ∧ ¬t.val % 16 = 15) ∨ (¬t.val % 16 = 0 ∧ t.val % 16 = 15) := by
  omega

end Cert.Kernel4Ideal.Lead
-- ==== Proof.Norm.Formula.lean ====
/-
  An RMS norm with a gain, scaled and shifted by a row of the modulation, and its gradient, as functions of whole arrays:
  `X` the rows, `H` the gradient of the normed rows, `ng` the gain, `sc` the scale, `sh` the shift.
-/
module

public import Idealize.ShloMosaic.PureOps.Ideal
public import proofs.«01_k».proof.Proof.Common.Finite

@[expose] public section

noncomputable section

open Idealize.ShloMosaic

namespace Cert.Step.Norm

/-- The mean of squares, with the small constant added, and one over its root. -/
def mean (f : Fin 1024 → EReal) : EReal := Ideal.div (∑ d, f d) (FloatOps.ofBits (F := Ideal) .f32 0x44800000#32)
def power (x : Fin 1024 → EReal) : EReal := mean (fun d => x d * x d) + FloatOps.ofBits (F := Ideal) .f32 0x358637BD#32
def rs (x : Fin 1024 → EReal) : EReal := Ideal.rsqrt (power x)

variable (X H Y : Fin 4096 → Fin 1024 → EReal) (ng sc sh : Fin 1024 → EReal)

/-- The normed rows, and the rows that the projection takes. -/
def unit (r : Fin 4096) (d : Fin 1024) : EReal := X r d * rs (X r)
def normed (r : Fin 4096) (d : Fin 1024) : EReal := unit X r d * ng d * (1 + sc d) + sh d

/-- The gradient of the unit rows. -/
def dUnit (r : Fin 4096) (d : Fin 1024) : EReal := H r d * (ng d * (1 + sc d))

/-- The gradient of the rows: what is left of the unit rows' gradient across the row, scaled, on top of what came past the layer. -/
def dRows (r : Fin 4096) (d : Fin 1024) : EReal :=
  Y r d + rs (X r) * (dUnit H ng sc r d - unit X r d * mean (fun j => dUnit H ng sc r j * unit X r j))

/-- The sums over rows: the shift's gradient, and what the scale's and the gain's have in common. -/
def dShift (d : Fin 1024) : EReal := ∑ r, H r d
def dBoth (d : Fin 1024) : EReal := ∑ r, H r d * unit X r d

/-! ### The same from the derivative of each operation -/

/-- The gradient of the unit rows, and of the root's argument. -/
def dUnit' (r : Fin 4096) (d : Fin 1024) : EReal := H r d * (1 + sc d) * ng d
def dPower (r : Fin 4096) : EReal :=
  Ideal.div ((∑ d, X r d * dUnit' H ng sc r d) * (FloatOps.ofBits (F := Ideal) .f32 0xBF000000#32 * Ideal.div (rs (X r)) (power (X r))))
    (FloatOps.ofBits (F := Ideal) .f32 0x44800000#32)
def dRows' (r : Fin 4096) (d : Fin 1024) : EReal :=
  Y r d + dUnit' H ng sc r d * rs (X r) + X r d * dPower X H ng sc r + dPower X H ng sc r * X r d

/-! ### Real numbers -/

theorem len_eq : (FloatOps.ofBits (F := Ideal) .f32 0x44800000#32 : EReal) = ((1024 : ℝ) : EReal) := by
  show Ideal.ofBits .f32 0x44800000#32 = _
  simp [Ideal.ofBits, Ideal.ieee, -EReal.coe_mul]; norm_num
theorem half_eq : (FloatOps.ofBits (F := Ideal) .f32 0xBF000000#32 : EReal) = ((-(1 / 2) : ℝ) : EReal) := by
  show Ideal.ofBits .f32 0xBF000000#32 = _
  simp [Ideal.ofBits, Ideal.ieee, -EReal.coe_mul, -EReal.coe_neg]; norm_num
theorem eps_eq : ∃ e : ℝ, 0 < e ∧ (FloatOps.ofBits (F := Ideal) .f32 0x358637BD#32 : EReal) = (e : EReal) := by
  refine ⟨8796093 * 2 ^ (-43 : ℤ), by positivity, ?_⟩
  show Ideal.ofBits .f32 0x358637BD#32 = _
  simp [Ideal.ofBits, Ideal.ieee, -EReal.coe_mul]; try norm_num

theorem coe_sum {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem mean_coe (f : Fin 1024 → ℝ) : mean (fun d => (f d : EReal)) = (((∑ d, f d) * (1 / 1024 : ℝ) : ℝ) : EReal) := by
  unfold mean
  rw [len_eq, coe_sum, Ideal.div_coe (by norm_num), EReal.coe_mul]

theorem power_coe (x : Fin 1024 → ℝ) : ∃ s : ℝ, 0 < s ∧ power (fun d => (x d : EReal)) = (s : EReal) := by
  obtain ⟨e, he, h⟩ := eps_eq
  refine ⟨(∑ d, x d * x d) * (1 / 1024 : ℝ) + e, ?_, ?_⟩
  · have : 0 ≤ ∑ d, x d * x d := Finset.sum_nonneg fun d _ => mul_self_nonneg _
    positivity
  · unfold power
    simp only [← EReal.coe_mul]
    rw [mean_coe, h, EReal.coe_add]

theorem rs_coe (x : Fin 1024 → ℝ) : ∃ s : ℝ, 0 < s ∧ power (fun d => (x d : EReal)) = (s : EReal) ∧ rs (fun d => (x d : EReal)) = (((Real.sqrt s)⁻¹ : ℝ) : EReal) := by
  obtain ⟨s, hs, h⟩ := power_coe x
  refine ⟨s, hs, h, ?_⟩
  unfold rs
  rw [h, Ideal.rsqrt_coe, if_neg (by linarith), if_neg hs.ne']

/-- Of a function with real values, the values as real numbers. -/
theorem reals {ι : Type*} {f : ι → EReal} (h : ∀ i, IsReal (f i)) : ∃ g : ι → ℝ, f = fun i => (g i : EReal) :=
  ⟨fun i => (h i).choose, funext fun i => (h i).choose_spec⟩

variable {X H ng sc} (hX : ∀ r d, IsReal (X r d)) (hH : ∀ r d, IsReal (H r d)) (hng : ∀ d, IsReal (ng d)) (hsc : ∀ d, IsReal (sc d))

include hX in
theorem rs_real (r : Fin 4096) : IsReal (rs (X r)) := by
  obtain ⟨x, hx⟩ := reals (hX r)
  obtain ⟨s, _, _, h⟩ := rs_coe x
  exact ⟨_, by rw [hx]; exact h⟩

include hX in
theorem unit_real (r : Fin 4096) (d : Fin 1024) : IsReal (unit X r d) := (hX r d).mul (rs_real hX r)

theorem real_one_add {y : EReal} (h : IsReal y) : IsReal (1 + y) := IsReal.add ⟨1, by simp⟩ h

include hng hsc in
theorem dUnit_eq (r : Fin 4096) (d : Fin 1024) : dUnit' H ng sc r d = dUnit H ng sc r d := by
  unfold dUnit' dUnit
  rw [mul_assoc, mul_comm (1 + sc d)]

include hX hH hng hsc in
theorem dRows_eq (r : Fin 4096) (d : Fin 1024) : dRows' X H Y ng sc r d = dRows X H Y ng sc r d := by
  have hU : dUnit' H ng sc = dUnit H ng sc := funext₂ (dUnit_eq hng hsc)
  obtain ⟨x, hx⟩ := reals (hX r)
  obtain ⟨a, ha⟩ := reals (f := dUnit H ng sc r) (fun d => (hH r d).mul ((hng d).mul (real_one_add (hsc d))))
  obtain ⟨s, hs, hp, hr⟩ := rs_coe x
  unfold dRows' dRows dPower unit
  rw [hU, hx, ha, hp, hr, len_eq, half_eq]
  simp only [← EReal.coe_mul]
  rw [mean_coe, coe_sum, Ideal.div_coe hs.ne', Ideal.div_coe (by norm_num)]
  simp only [← EReal.coe_mul, ← EReal.coe_sub, add_assoc, ← EReal.coe_add]
  refine congrArg (fun y : ℝ => Y r d + (y : EReal)) ?_
  have hq : (Real.sqrt s)⁻¹ * (Real.sqrt s)⁻¹ = 1 / s := by rw [← mul_inv, Real.mul_self_sqrt hs.le, one_div]
  have hm : ∑ j, a j * (x j * (Real.sqrt s)⁻¹) = (∑ j, x j * a j) * (Real.sqrt s)⁻¹ := by
    rw [Finset.sum_mul]; exact Finset.sum_congr rfl fun j _ => by ring
  rw [hm, ← hq]
  ring

include hX hH hng in
theorem scale_eq (d : Fin 1024) : ∑ r, unit X r d * ng d * H r d = dBoth X H d * ng d := by
  unfold dBoth
  obtain ⟨f, hf⟩ := reals (f := fun r => H r d * unit X r d) (fun r => (hH r d).mul (unit_real hX r d))
  obtain ⟨n, hn⟩ := hng d
  have : ∀ r, unit X r d * ng d * H r d = ((f r * n : ℝ) : EReal) := fun r => by
    rw [EReal.coe_mul, ← hn, ← congrFun hf r, mul_comm, mul_assoc]
  simp only [this, congrFun hf]
  rw [hn, coe_sum, coe_sum, ← EReal.coe_mul, Finset.sum_mul]

include hX hH hsc in
theorem gain_eq (d : Fin 1024) : ∑ r, unit X r d * (H r d * (1 + sc d)) = dBoth X H d * (1 + sc d) := by
  unfold dBoth
  obtain ⟨f, hf⟩ := reals (f := fun r => H r d * unit X r d) (fun r => (hH r d).mul (unit_real hX r d))
  obtain ⟨n, hn⟩ := real_one_add (hsc d)
  have : ∀ r, unit X r d * (H r d * (1 + sc d)) = ((f r * n : ℝ) : EReal) := fun r => by
    rw [EReal.coe_mul, ← hn, ← congrFun hf r, mul_left_comm, mul_assoc]
  simp only [this, congrFun hf]
  rw [hn, coe_sum, coe_sum, ← EReal.coe_mul, Finset.sum_mul]

end Cert.Step.Norm
-- ==== Proof.Lead.Windows.lean ====
/-
  Sums over leading windows of rows, by doubling: two planes of rows, each step writing into one plane the other
  plane's rows added to the same rows moved up by the window so far.
-/
module

public import Idealize.ShloMosaic.PureOps.Ideal
public import proofs.«01_k».proof.Proof.Pool.Cumsum
public import proofs.«01_k».proof.Proof.Pool.Planes

@[expose] public section

noncomputable section

open Idealize.ShloMosaic

namespace Cert.Lead

open Cert.Step Cert.Pool

/-- The sum of the `w` values that begin at row `r`. -/
def lead (e : ℕ → EReal) (w r : ℕ) : EReal := ∑ j ∈ Finset.range w, e (r + j)

theorem lead_one (e : ℕ → EReal) (r : ℕ) : lead e 1 r = e r := by simp [lead]

theorem lead_append (e : ℕ → EReal) (w n r : ℕ) : lead e w r + lead e n (r + w) = lead e (w + n) r := by
  unfold lead
  rw [Finset.sum_range_add]
  exact congrArg _ (Finset.sum_congr rfl fun j _ => by rw [add_assoc])

theorem lead_zero (e : ℕ → EReal) (w r : ℕ) (h : ∀ i, r ≤ i → e i = 0) : lead e w r = 0 := Finset.sum_eq_zero fun j _ => h _ (by omega)

/-- The state of one group's doubling: plane `q` holds the sums over windows of `w` rows, and the last rows of plane
    `p` are zero. -/
def State (L : List (View.Piece (Elt Ideal) (Two 280) .f32)) (e : ℕ → ℕ → EReal) (q p : Fin 2) (w c0 : ℕ) : Prop :=
  (∀ r k, r < 280 → c0 ≤ k → k < c0 + 256 → (content L q r k : EReal) = lead (fun i => e i k) w r)
  ∧ ∀ r k, 272 ≤ r → r < 280 → c0 ≤ k → k < c0 + 256 → (content L p r k : EReal) = 0

variable {L : List (View.Piece (Elt Ideal) (Two 280) .f32)} {e : ℕ → ℕ → EReal} {q p : Fin 2} {w c0 : ℕ}
  {v : (⟨3, ![1, 272, 256]⟩ : Shape).Idx → Elt Ideal .f32}
  {inb : ∀ a, (![p.val, 0, c0] : Fin 3 → ℕ) a + (![1, 272, 256] : Fin 3 → ℕ) a ≤ (Two 280).size a}

theorem State.step (h : State L e q p w c0) (hne : q ≠ p) (hw : w ≤ 8) (he : ∀ r k, 272 ≤ r → e r k = 0)
    (hv : ∀ (i : Fin 272) (j : Fin 256), (v (ix3 0 i j) : EReal) = content L q (0 + i.val) (c0 + j.val) + content L q (w + i.val) (c0 + j.val)) :
    State (⟨Rect.unit (s := Two 280) ![p.val, 0, c0] ![1, 272, 256] inb, v⟩ :: L) e p q (2 * w) c0 := by
  refine ⟨fun r k hr h1 h2 => ?_, fun r k hr0 hr h1 h2 => ?_⟩
  · by_cases h8 : 272 ≤ r
    · rw [content_miss (N := 280) (Val := Elt Ideal) (e := .f32) v L p r k (by omega), h.2 r k h8 hr h1 h2]
      exact (lead_zero _ _ _ fun i hi => he i k (by omega)).symm
    · rw [content_hit (N := 280) (Val := Elt Ideal) (e := .f32) v L r k (by omega) (by omega) h1 h2, hv]
      show (content L q (0 + (r - 0)) (c0 + (k - c0)) : EReal) + content L q (w + (r - 0)) (c0 + (k - c0)) = _
      rw [show 0 + (r - 0) = r by omega, show c0 + (k - c0) = k by omega, show w + (r - 0) = r + w by omega,
        h.1 r k hr h1 h2, h.1 (r + w) k (by omega) h1 h2, two_mul]
      exact lead_append _ w w r
  · rw [content_miss (N := 280) (Val := Elt Ideal) (e := .f32) v L q r k (fun e => absurd e hne), h.1 r k hr h1 h2]
    exact lead_zero _ _ _ fun i hi => he i k (by omega)

theorem State.keep {q' p' : Fin 2} {w' c1 : ℕ} (h : State L e q' p' w' c1) (hc : c1 + 256 ≤ c0 ∨ c0 + 256 ≤ c1) :
    State (⟨Rect.unit (s := Two 280) ![p.val, 0, c0] ![1, 272, 256] inb, v⟩ :: L) e q' p' w' c1 :=
  ⟨fun r k hr h1 h2 => by rw [content_miss (N := 280) (Val := Elt Ideal) (e := .f32) v L q' r k (by omega)]; exact h.1 r k hr h1 h2,
   fun r k hr0 hr h1 h2 => by rw [content_miss (N := 280) (Val := Elt Ideal) (e := .f32) v L p' r k (by omega)]; exact h.2 r k hr0 hr h1 h2⟩

/-! ### A running sum from the last row back -/

/-- The sum from a row on, of differences a window apart, is the window's sum. -/
theorem running_sub (e : ℕ → EReal) (he : ∀ i, IsReal (e i)) (w r N : ℕ) (hN : ∀ i, N ≤ i → e i = 0) (hr : r < N) :
    lead (fun i => e i + -e (i + w)) N r = lead e w r := by
  obtain ⟨f, hf⟩ : ∃ f : ℕ → ℝ, e = fun i => (f i : EReal) := ⟨fun i => (he i).choose, funext fun i => (he i).choose_spec⟩
  have h1 : lead e w r + lead e N (r + w) = lead e N r + lead e w (r + N) := by rw [lead_append, lead_append, add_comm]
  rw [lead_zero e w (r + N) fun i hi => hN i (by omega), add_zero] at h1
  have h2 : lead (fun i => e i + -e (i + w)) N r + lead e N (r + w) = lead e N r := by
    unfold lead
    rw [← Finset.sum_add_distrib]
    refine Finset.sum_congr rfl fun j _ => ?_
    rw [hf]
    dsimp only
    rw [show r + w + j = r + j + w by omega, ← EReal.coe_neg, ← EReal.coe_add, ← EReal.coe_add]
    exact congrArg _ (by ring)
  obtain ⟨b, hb⟩ : IsReal (lead e N (r + w)) := IsReal.sum _ fun j => he _
  rw [hb] at h1 h2
  have := congrArg (fun y => y - (b : EReal)) (h2.trans h1.symm)
  simpa only [EReal.add_sub_cancel_right] using this

/-- The running sum of the rows from the last back, at an index. -/
theorem cumsum_apply (x : FVec Ideal S4096x4x256 .f32) (v : FVec Ideal ⟨0, ![]⟩ .f32) (hv : ∀ i, v i = (0 : EReal))
    (h : S4096x4x256.ReduceWindows ![4096, 1, 1] ![1, 1, 1] ![0, 0, 0] ![4095, 0, 0] S4096x4x256) (hu) (r : Fin 4096) (g : Fin 4) (k : Fin 256) :
    Host.reduceWindowAdd (F := Ideal) (s := S4096x4x256) ![4096, 1, 1] ![1, 1, 1] ![0, 0, 0] ![4095, 0, 0] x v h hu (ix3 r g k)
      = lead (fun i => if hi : i < 4096 then x (ix3 ⟨i, hi⟩ g k) else 0) 4096 r.val := by
  refine (window_sum (s := S4096x4x256) ![4096, 1, 1] ![1, 1, 1] ![0, 0, 0] ![4095, 0, 0] x v h hu (ix3 r g k)).trans ?_
  rw [hv, zero_add]
  unfold lead
  rw [Finset.sum_range]
  refine (Finset.sum_bij (fun (j : Fin 4096) _ => (ix3 j 0 0 : (⟨3, ![4096, 1, 1]⟩ : Shape).Idx)) (fun _ _ => Finset.mem_univ _) (fun a _ b _ hab => congrFun hab 0) (fun y _ => ?_)
    (fun j _ => ?_)).symm
  · obtain ⟨a, b, c, rfl⟩ := idx3 y
    obtain rfl : b = 0 := Subsingleton.elim _ _
    obtain rfl : c = 0 := Subsingleton.elim _ _
    exact ⟨a, Finset.mem_univ _, rfl⟩
  · by_cases hj : r.val + j.val < 4096
    · dsimp only
      rw [dif_pos hj, dif_pos]
      · refine congrArg x (funext fun a => Fin.ext ?_)
        match a with
        | ⟨0, _⟩ => show r.val + j.val = r.val * 1 + j.val - 0; omega
        | ⟨1, _⟩ => show g.val = g.val * 1 + 0 - 0; omega
        | ⟨2, _⟩ => show k.val = k.val * 1 + 0 - 0; omega
      · intro a
        match a with
        | ⟨0, _⟩ => show 0 ≤ r.val * 1 + j.val ∧ r.val * 1 + j.val - 0 < 4096; omega
        | ⟨1, _⟩ => show 0 ≤ g.val * 1 + 0 ∧ g.val * 1 + 0 - 0 < 4; omega
        | ⟨2, _⟩ => show 0 ≤ k.val * 1 + 0 ∧ k.val * 1 + 0 - 0 < 256; omega
    · dsimp only
      rw [dif_neg hj, dif_neg]
      intro hin
      have h0 : r.val * 1 + j.val - 0 < 4096 := (hin 0).2
      omega

end Cert.Lead

end
-- ==== Proof.Lead.Formula.lean ====
/-
  The pooling layer's gradient down to the layer's input, as functions of whole arrays: `P` the gradient of the pooled values,
  `Q` that of the gate's input, `W` the projection, `X` the layer's input and `ng`, `sc`, `sh` its norm's gain, scale and shift.
-/
module

public import proofs.«01_k».proof.Proof.Pool.Formula
public import proofs.«01_k».proof.Proof.Norm.Formula
public import proofs.«01_k».proof.Proof.Lead.Windows

@[expose] public section

noncomputable section

open Idealize.ShloMosaic

namespace Cert.Lead

open Cert.Step Cert.Pool
open Cert.Step.Norm (normed)

variable (P Q X : Fin 4096 → Fin 1024 → EReal) (W : Fin 2048 → Fin 1024 → EReal) (ng sc sh : Fin 1024 → EReal)

/-- A row's part in the means of a group's windows, zero past the last row. -/
def part (g : Fin 4) (p : Fin 256) (i : ℕ) : EReal := if h : i < 4096 then Ideal.div (P ⟨i, h⟩ (col g p)) (count (window g) i) else 0

/-- The gradient of a value: its part in the windows that begin at it, less the row itself. -/
def dValue (r : Fin 4096) (g : Fin 4) (p : Fin 256) : EReal := lead (part P g p) (window g) r.val - P r (col g p)

/-- The gradient of the projection's rows. -/
def dProj (r : Fin 4096) (k : Fin 2048) : EReal :=
  if h : k.val < 1024 then dValue P r ⟨k.val / 256, by omega⟩ ⟨k.val % 256, by omega⟩ else Q r ⟨k.val - 1024, by omega⟩

/-- The gradients of the normed rows and of the projection. -/
def dIn (r : Fin 4096) (d : Fin 1024) : EReal := ∑ k, dProj P Q r k * W k d
def dWeight (k : Fin 2048) (d : Fin 1024) : EReal := ∑ r, dProj P Q r k * normed X ng sc sh r d

/-- The two halves of the projection's columns. -/
def valueCol (g : Fin 4) (p : Fin 256) : Fin 2048 := ⟨256 * g.val + p.val, by omega⟩
def gateCol (k : Fin 1024) : Fin 2048 := ⟨1024 + k.val, by omega⟩

theorem halves (k : Fin 2048) : (∃ g p, k = valueCol g p) ∨ ∃ d, k = gateCol d := by
  by_cases h : k.val < 1024
  · exact .inl ⟨⟨k.val / 256, by omega⟩, ⟨k.val % 256, by omega⟩, Fin.ext (by show k.val = 256 * (k.val / 256) + k.val % 256; omega)⟩
  · exact .inr ⟨⟨k.val - 1024, by omega⟩, Fin.ext (by show k.val = 1024 + (k.val - 1024); omega)⟩

theorem dProj_value (r : Fin 4096) (g : Fin 4) (p : Fin 256) : dProj P Q r (valueCol g p) = dValue P r g p := by
  unfold dProj
  rw [dif_pos (by show 256 * g.val + p.val < 1024; omega)]
  exact congrArg₂ (dValue P r) (Fin.ext (by show (256 * g.val + p.val) / 256 = g.val; omega)) (Fin.ext (by show (256 * g.val + p.val) % 256 = p.val; omega))

theorem dProj_gate (r : Fin 4096) (k : Fin 1024) : dProj P Q r (gateCol k) = Q r k := by
  unfold dProj
  rw [dif_neg (by show ¬1024 + k.val < 1024; omega)]
  exact congrArg (Q r) (Fin.ext (by show 1024 + k.val - 1024 = k.val; omega))

/-! ### A window's length past the first rows -/

theorem count_full : ∀ (g : Fin 4) (r : Fin 4096), 16 ≤ r.val → count (window g) r.val = ((window g : ℝ) : EReal) := fun g r hr => by
  have h := (by decide +kernel : ∀ (g : Fin 4) (r : Fin 4096), 16 ≤ r.val → (IntOp.minsi (BitVec.ofNat 32 (r.val + 1)) (BitVec.ofNat 32 (window g))).toInt = (window g : ℤ)) g r hr
  unfold Cert.Pool.count
  show (((IntOp.minsi (BitVec.ofNat 32 (r.val + 1)) (BitVec.ofNat 32 (window g))).toInt : ℝ) : EReal) = _
  rw [h]
  norm_cast

/-! ### Real numbers -/

variable {P Q W} (hP : ∀ r k, IsReal (P r k))
include hP

theorem part_real (g : Fin 4) (p : Fin 256) (i : ℕ) : IsReal (part P g p i) := by
  unfold part
  split
  case isTrue h =>
    obtain ⟨n, hn, hc⟩ := count_real g ⟨i, h⟩
    rw [show count (window g) i = ((n : ℝ) : EReal) from hc, Ideal.div_coe (by exact_mod_cast hn)]
    exact (hP _ _).mul ⟨_, rfl⟩
  case isFalse => exact real_zero

theorem dProj_real (hQ : ∀ r k, IsReal (Q r k)) (r : Fin 4096) (k : Fin 2048) : IsReal (dProj P Q r k) := by
  obtain ⟨g, p, rfl⟩ | ⟨d, rfl⟩ := halves k
  · rw [dProj_value]
    exact real_sub (IsReal.sum _ fun j => part_real hP _ _ _) (hP _ _)
  · rw [dProj_gate]
    exact hQ _ _

theorem dIn_real (hQ : ∀ r k, IsReal (Q r k)) (hW : ∀ k d, IsReal (W k d)) (r : Fin 4096) (d : Fin 1024) : IsReal (dIn P Q W r d) :=
  IsReal.sum _ fun k => (dProj_real hP hQ r k).mul (hW k d)

end Cert.Lead

end
-- ==== Proof.Lead.Pooled.lean ====
/-
  The pooling gradient kernel on the extended reals: the blocks of its windows as rows of the arrays, the sums that its steps
  of doubling leave in scratch memory, and one point's gradient of the projection's rows.
-/
module

public import proofs.«01_k».proof.Proof.Lead.Plan
public import proofs.«01_k».proof.Proof.Lead.Formula
public import proofs.«01_k».proof.Proof.Pool.Arrays
public import proofs.«01_k».proof.Proof.Gen.Kernel4Ideal.Value
public import Idealize.ShloMosaic.Lib.Pointwise

@[expose] public section

noncomputable section

open Idealize.ShloMosaic Idealize.ShloMosaic.TcCoe Idealize.SL.Sem
open Idealize.ShloMosaic.Pipeline (Dat)

namespace Cert.Kernel4Ideal.Lead

open Cert.Kernel4Ideal Cert.Kernel4Ideal.Gen Cert.Step Cert.Lead
open Cert.Pool (content content_hit content_miss read_content window count col)
open Cert.Kernel3Ideal.Pool (at_rows at_three at_four)

/-! ### The planes -/

theorem tileRows_apply (L : Planes Ideal) (q : Fin 2) (c0 : ℕ) (hc) (i : Fin 256) (j : Fin 256) :
    tileRows L q c0 hc (ix3 0 i j) = content L q (0 + i.val) (c0 + j.val) :=
  read_content (N := 280) (n := 256) (w := 256) _ L i j

theorem rows_apply (L : Planes Ideal) (q : Fin 2) (lo c0 : ℕ) (h hc) (i : Fin 272) (j : Fin 256) :
    rows L q lo c0 h hc (ix3 0 i j) = content L q (lo + i.val) (c0 + j.val) :=
  read_content (N := 280) (n := 272) (w := 256) _ L i j

theorem sum_apply (u v : FVec Ideal S1x272x256 .f32) (i : Fin 272) (j : Fin 256) :
    k0_pay21 u v (ix3 0 i j) = (u (ix3 0 i j) : EReal) + v (ix3 0 i j) := by
  pointwise [k0_pay21]

variable {L : Planes Ideal} {e : ℕ → ℕ → EReal} {q p : Fin 2} {w c0 : ℕ}

theorem doubled_step (he : ∀ r k, 272 ≤ r → e r k = 0) (hne : q ≠ p) (hw : w ≤ 8) (hc) (h : State L e q p w c0) : State (doubled L q p w c0 hc hw) e p q (2 * w) c0 :=
  h.step hne hw he fun i j => by
    rw [sum_apply, rows_apply, rows_apply]

theorem doubled_keep {q' p' : Fin 2} {w' c1 : ℕ} (hc hw) (h : State L e q' p' w' c1) (hd : c1 + 256 ≤ c0 ∨ c0 + 256 ≤ c1) : State (doubled L q p w c0 hc hw) e q' p' w' c1 :=
  h.keep hd

/-- After the ten steps each group's columns hold the sums over the group's window. -/
theorem steps_state {L : Planes Ideal} (he : ∀ r k, 272 ≤ r → e r k = 0) (hf : ∀ g : Fin 4, State L e 0 1 1 (256 * g.val)) :
    State (steps L) e 1 0 2 0 ∧ State (steps L) e 0 1 4 256 ∧ State (steps L) e 1 0 8 512 ∧ State (steps L) e 0 1 16 768 := by
  have keep : ∀ {L : Planes Ideal} {q p q' p' : Fin 2} {w c0 w' c1 : ℕ} {hc hw}, (c1 + 256 ≤ c0 ∨ c0 + 256 ≤ c1) → State L e q' p' w' c1 → State (doubled L q p w c0 hc hw) e q' p' w' c1 :=
    fun hd h => doubled_keep _ _ h hd
  have step : ∀ {L : Planes Ideal} {q p : Fin 2} {w c0 : ℕ} {hc hw}, q ≠ p → State L e q p w c0 → State (doubled L q p w c0 hc hw) e p q (2 * w) c0 :=
    fun {_ _ _ _ _ _ hw} hne h => doubled_step he hne hw _ h
  have k1 : ∀ {L : Planes Ideal} {q' p' : Fin 2} {w' c1 : ℕ}, (c1 + 256 ≤ 256 ∨ 256 + 256 ≤ c1) → State L e q' p' w' c1 →
      State (doubled (doubled L 0 1 1 256) 1 0 2 256) e q' p' w' c1 := fun hd h => keep hd (keep hd h)
  have k2 : ∀ {L : Planes Ideal} {q' p' : Fin 2} {w' c1 : ℕ}, (c1 + 256 ≤ 512 ∨ 512 + 256 ≤ c1) → State L e q' p' w' c1 →
      State (doubled (doubled (doubled L 0 1 1 512) 1 0 2 512) 0 1 4 512) e q' p' w' c1 := fun hd h => keep hd (keep hd (keep hd h))
  have k3 : ∀ {L : Planes Ideal} {q' p' : Fin 2} {w' c1 : ℕ}, (c1 + 256 ≤ 768) → State L e q' p' w' c1 →
      State (doubled (doubled (doubled (doubled L 0 1 1 768) 1 0 2 768) 0 1 4 768) 1 0 8 768) e q' p' w' c1 :=
    fun hd h => keep (.inl hd) (keep (.inl hd) (keep (.inl hd) (keep (.inl hd) h)))
  refine ⟨k3 (by decide) (k2 (by decide) (k1 (by decide) (step (by decide) (hf 0)))), k3 (by decide) (k2 (by decide) ?_), k3 (by decide) ?_, ?_⟩
  · exact step (by decide) (step (by decide) (keep (by decide) (hf 1)))
  · exact step (by decide) (step (by decide) (step (by decide) (k1 (by decide) (keep (by decide) (hf 2)))))
  · exact step (hw := le_rfl) (by decide) (step (by decide) (step (by decide) (step (by decide) (k2 (by decide) (k1 (by decide) (keep (by decide) (hf 3)))))))

/-! ### The fill -/

theorem filled_miss {tile : FVec Ideal S1x256x256 .f32} {halo : FVec Ideal S1x16x256 .f32} (hc) (q : Fin 2) (r k : ℕ) (h : q = 0 → r < 272 → c0 ≤ k → k < c0 + 256 → False) :
    content (filled L c0 tile halo hc) q r k = content L q r k :=
  (content_miss (p := 0) (lo := 256) (n := 16) (w := 256) (N := 280) (Val := Elt Ideal) (e := .f32) halo _ q r k fun a _ b c d => h a (by omega) c d).trans
    (content_miss (p := 0) (lo := 0) (n := 256) (w := 256) (N := 280) (Val := Elt Ideal) (e := .f32) tile L q r k fun a _ b c d => h a (by omega) c d)

/-- After the fill of its group a column holds what the tile and the rows after it hold. -/
theorem filled_hit {tile : FVec Ideal S1x256x256 .f32} {halo : FVec Ideal S1x16x256 .f32} {f : Fin 256 → ℕ → EReal} (hc)
    (h1 : ∀ (r : Fin 256) (j : Fin 256), (tile (ix3 0 r j) : EReal) = f j r.val) (h2 : ∀ (r : Fin 16) (j : Fin 256), (halo (ix3 0 r j) : EReal) = f j (256 + r.val))
    (r k : ℕ) (hr : r < 272) (a : c0 ≤ k) (b : k < c0 + 256) : (content (filled L c0 tile halo hc) 0 r k : EReal) = f ⟨k - c0, by omega⟩ r := by
  by_cases h : 256 ≤ r
  · refine (content_hit (p := 0) (lo := 256) (n := 16) (w := 256) (N := 280) (Val := Elt Ideal) (e := .f32) halo _ r k h (by omega) a b).trans ((h2 _ _).trans ?_)
    exact congrArg (f _) (by dsimp only; omega)
  · refine (content_miss (p := 0) (lo := 256) (n := 16) (w := 256) (N := 280) (Val := Elt Ideal) (e := .f32) halo _ 0 r k (by omega)).trans ?_
    refine (content_hit (p := 0) (lo := 0) (n := 256) (w := 256) (N := 280) (Val := Elt Ideal) (e := .f32) tile L r k (by omega) (by omega) a b).trans ((h1 _ _).trans ?_)
    exact congrArg (f _) (by dsimp only; omega)

theorem ends_zero (q : Fin 2) (r k : ℕ) (hr : 272 ≤ r) (hr' : r < 280) (hk : k < 1024) : (content (ends : Planes Ideal) q r k : EReal) = 0 := by
  unfold ends
  obtain rfl | rfl : q = 0 ∨ q = 1 := by omega
  · refine (content_miss (p := 1) (lo := 272) (c0 := 0) (n := 8) (w := 1024) (N := 280) (Val := Elt Ideal) (e := .f32) (k0_pay9 (F := Ideal)) _ 0 r k (fun e => absurd e (by decide))).trans ?_
    refine (content_hit (p := 0) (lo := 272) (c0 := 0) (n := 8) (w := 1024) (N := 280) (Val := Elt Ideal) (e := .f32) (k0_pay8 (F := Ideal)) _ r k (by omega) (by omega) (by omega) (by omega)).trans ?_
    pointwise [k0_pay8]
  · refine (content_hit (p := 1) (lo := 272) (c0 := 0) (n := 8) (w := 1024) (N := 280) (Val := Elt Ideal) (e := .f32) (k0_pay9 (F := Ideal)) _ r k (by omega) (by omega) (by omega) (by omega)).trans ?_
    pointwise [k0_pay9]

/-- A column's parts from the first row of the point's tile on, zero past the rows after it. -/
def ext (P : Fin 4096 → Fin 1024 → EReal) (t r k : ℕ) : EReal :=
  if h : k < 1024 ∧ r < 272 then part P ⟨k / 256, by omega⟩ ⟨k % 256, by omega⟩ (256 * t + r) else 0

theorem ext_zero (P : Fin 4096 → Fin 1024 → EReal) (t r k : ℕ) (hr : 272 ≤ r) : ext P t r k = 0 := dif_neg (by omega)

theorem ext_lead (P : Fin 4096 → Fin 1024 → EReal) (t : ℕ) (g : Fin 4) (p : Fin 256) (w r : ℕ) (hr : r < 256) (hw : w ≤ 16) :
    lead (fun i => ext P t i (col g p).val) w r = lead (part P g p) w (256 * t + r) := by
  unfold lead
  refine Finset.sum_congr rfl fun j hj => ?_
  have hj : j < w := Finset.mem_range.mp hj
  unfold ext
  dsimp only
  rw [dif_pos ⟨(col g p).isLt, by omega⟩, Cert.Pool.col_group, Cert.Pool.col_place, add_assoc]

theorem fills_state (P : Fin 4096 → Fin 1024 → EReal) (t : ℕ) (i : grid0.Coords) (x2 : Fin 4 → Vec Ideal S256x256 .f32) (x3 : Fin 4 → Vec Ideal S16x256 .f32)
    (h1 : ∀ (r : Fin 256) (j : Fin 256), (k0_pay10 i (x2 0) (ix3 0 r j) : EReal) = part P 0 j (256 * t + r.val)
      ∧ (k0_pay13 (k0_pay7 i) (x2 1) (ix3 0 r j) : EReal) = part P 1 j (256 * t + r.val) ∧ (k0_pay15 (k0_pay7 i) (x2 2) (ix3 0 r j) : EReal) = part P 2 j (256 * t + r.val)
      ∧ (k0_pay17 (k0_pay7 i) (x2 3) (ix3 0 r j) : EReal) = part P 3 j (256 * t + r.val))
    (h2 : ∀ (r : Fin 16) (j : Fin 256), (k0_pay12 (k0_pay11 i (x3 0)) (ix3 0 r j) : EReal) = part P 0 j (256 * t + (256 + r.val))
      ∧ (k0_pay14 (isLast i) (x3 1) (ix3 0 r j) : EReal) = part P 1 j (256 * t + (256 + r.val)) ∧ (k0_pay16 (isLast i) (x3 2) (ix3 0 r j) : EReal) = part P 2 j (256 * t + (256 + r.val))
      ∧ (k0_pay18 (isLast i) (x3 3) (ix3 0 r j) : EReal) = part P 3 j (256 * t + (256 + r.val)))
    (g : Fin 4) : State (fills i x2 x3) (ext P t) 0 1 1 (256 * g.val) := by
  have low : ∀ (q : Fin 2) (r k : ℕ), (q = 1 ∨ 272 ≤ r) → content (fills i x2 x3) q r k = content ends q r k := fun q r k h => by
    have no : ∀ c, q = 0 → r < 272 → c ≤ k → k < c + 256 → False := fun c a b _ _ => by rcases h with h | h <;> omega
    unfold fills
    exact (filled_miss _ q r k (no _)).trans ((filled_miss _ q r k (no _)).trans ((filled_miss _ q r k (no _)).trans (filled_miss _ q r k (no _))))
  refine ⟨fun r k hr a b => ?_, fun r k hr0 hr a b => ?_⟩
  · have hk : k < 1024 := by omega
    rw [lead_one]
    by_cases h : 272 ≤ r
    · rw [low 0 r k (.inr h), ends_zero 0 r k h hr hk, ext_zero _ _ _ _ h]
    have fin : ∀ (g : Fin 4) (hg : 256 * g.val ≤ k) (hk' : k < 256 * g.val + 256), part P g ⟨k - 256 * g.val, by omega⟩ (256 * t + r) = ext P t r k := fun g hg hk' => by
      unfold ext
      rw [dif_pos ⟨hk, by omega⟩]
      exact congrArg₂ (fun g p => part P g p (256 * t + r)) (Fin.ext (by dsimp only; omega)) (Fin.ext (by dsimp only; omega))
    unfold fills
    obtain rfl | rfl | rfl | rfl : g = 0 ∨ g = 1 ∨ g = 2 ∨ g = 3 := by omega
    · change 0 ≤ k at a
      change k < 256 at b
      refine (filled_miss _ 0 r k (by omega)).trans ((filled_miss _ 0 r k (by omega)).trans ((filled_miss _ 0 r k (by omega)).trans ?_))
      exact (filled_hit (f := fun j r => part P 0 j (256 * t + r)) _ (fun r j => (h1 r j).1) (fun r j => (h2 r j).1) r k (by omega) a (by omega)).trans (fin 0 a b)
    · change 256 ≤ k at a
      change k < 512 at b
      refine (filled_miss _ 0 r k (by omega)).trans ((filled_miss _ 0 r k (by omega)).trans ?_)
      exact (filled_hit (f := fun j r => part P 1 j (256 * t + r)) _ (fun r j => (h1 r j).2.1) (fun r j => (h2 r j).2.1) r k (by omega) a (by omega)).trans (fin 1 a b)
    · change 512 ≤ k at a
      change k < 768 at b
      refine (filled_miss _ 0 r k (by omega)).trans ?_
      exact (filled_hit (f := fun j r => part P 2 j (256 * t + r)) _ (fun r j => (h1 r j).2.2.1) (fun r j => (h2 r j).2.2.1) r k (by omega) a (by omega)).trans (fin 2 a b)
    · change 768 ≤ k at a
      change k < 1024 at b
      exact (filled_hit (f := fun j r => part P 3 j (256 * t + r)) _ (fun r j => (h1 r j).2.2.2) (fun r j => (h2 r j).2.2.2) r k (by omega) a (by omega)).trans (fin 3 a b)
  · rw [low 1 r k (.inl rfl), ends_zero 1 r k hr0 hr (by omega)]

/-! ### The arrays and the windows' blocks -/

variable (m : (ℓ : Loc nD τ sig) → Buf (Elt Ideal) ℓ) (c : Dev nD)

/-- The arrays the windows read: the layer's input, what came past the layer, the cotangents of the pooled values and of the
    gate's input, the projection, the norm's gain and the layer's adaLN scale and shift. -/
def xA (r : Fin 4096) (d : Fin 1024) : EReal := V m c main_arg0 (ix2 r d)
def yA (r : Fin 4096) (d : Fin 1024) : EReal := V m c main_arg1 (ix2 r d)
def pA (r : Fin 4096) (d : Fin 1024) : EReal := V m c main_arg2 (ix2 r d)
def qA (r : Fin 4096) (d : Fin 1024) : EReal := V m c main_v21 (ix2 r d)
def wA (k : Fin 2048) (d : Fin 1024) : EReal := V m c main_v23 (ix2 k d)
def ngA (d : Fin 1024) : EReal := V m c main_v20 (ix4 1 3 0 d)
def scA (d : Fin 1024) : EReal := V m c main_v19 (ix3 1 1 d)
def shA (d : Fin 1024) : EReal := V m c main_v19 (ix3 1 0 d)

/-- Row `r` of point `t`'s block. -/
abbrev rowOf (t : Fin cfg0.N) (r : Fin 256) : Fin 4096 := row 256 16 rfl (t.cast N_0) r

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = min (16 * t.val + 16) 255 ∧ win0_3.index t 1 = 0)
    ∧ (win0_4.index t 0 = t.val ∧ win0_4.index t 1 = 0) ∧ (win0_8.index t 0 = t.val ∧ win0_8.index t 1 = 0) :=
  (by decide +kernel : ∀ t : Fin grid0.N, _)

theorem index_whole : ∀ t : Fin cfg0.N, (win0_5.index t 0 = 1 ∧ win0_5.index t 1 = 3 ∧ win0_5.index t 2 = 0 ∧ win0_5.index t 3 = 0)
    ∧ (win0_6.index t 0 = 1 ∧ win0_6.index t 1 = 0 ∧ win0_6.index t 2 = 0) ∧ (win0_7.index t 0 = 0 ∧ win0_7.index t 1 = 0)
    ∧ (win0_9.index t 0 = 0 ∧ win0_9.index t 1 = 0) ∧ (win0_10.index t 0 = 0 ∧ win0_10.index t 1 = 0) :=
  (by decide +kernel : ∀ t : Fin grid0.N, _)

theorem iblk0_apply (t : Fin cfg0.N) (r : Fin 256) (d : Fin 1024) : iblk m c 0 t (ix2 r d) = xA m c (rowOf t r) d :=
  at_rows (V m c main_arg0) _ _ _
    (by show win0_0.index t 0 * 256 + 1 * r.val = 256 * t.val + r.val; rw [(index_rows t).1.1]; omega)
    (by show win0_0.index t 1 * 1024 + 1 * d.val = d.val; rw [(index_rows t).1.2]; omega)

theorem iblk1_apply (t : Fin cfg0.N) (r : Fin 256) (d : Fin 1024) : iblk m c 1 t (ix2 r d) = yA m c (rowOf t r) d :=
  at_rows (V m c main_arg1) _ _ _
    (by show win0_1.index t 0 * 256 + 1 * r.val = 256 * t.val + r.val; rw [(index_rows t).2.1.1]; omega)
    (by show win0_1.index t 1 * 1024 + 1 * d.val = d.val; rw [(index_rows t).2.1.2]; omega)

theorem iblk2_apply (t : Fin cfg0.N) (r : Fin 256) (d : Fin 1024) : iblk m c 2 t (ix2 r d) = pA m c (rowOf t r) d :=
  at_rows (V m c main_arg2) _ _ _
    (by show win0_2.index t 0 * 256 + 1 * r.val = 256 * t.val + r.val; rw [(index_rows t).2.2.1.1]; omega)
    (by show win0_2.index t 1 * 1024 + 1 * d.val = d.val; rw [(index_rows t).2.2.1.2]; omega)

theorem iblk3_apply (t : Fin cfg0.N) (ht : t.val < 15) (r : Fin 16) (d : Fin 1024) :
    iblk m c 3 t (ix2 r d) = pA m c ⟨256 * t.val + (256 + r.val), by omega⟩ d :=
  at_rows (V m c main_arg2) _ _ _
    (by show win0_3.index t 0 * 16 + 1 * r.val = 256 * t.val + (256 + r.val); rw [(index_rows t).2.2.2.1.1]; omega)
    (by show win0_3.index t 1 * 1024 + 1 * d.val = d.val; rw [(index_rows t).2.2.2.1.2]; omega)

theorem iblk4_apply (t : Fin cfg0.N) (r : Fin 256) (d : Fin 1024) : iblk m c 4 t (ix2 r d) = qA m c (rowOf t r) d :=
  at_rows (V m c main_v21) _ _ _
    (by show win0_4.index t 0 * 256 + 1 * r.val = 256 * t.val + r.val; rw [(index_rows t).2.2.2.2.1.1]; omega)
    (by show win0_4.index t 1 * 1024 + 1 * d.val = d.val; rw [(index_rows t).2.2.2.2.1.2]; omega)

theorem iblk5_apply (t : Fin cfg0.N) (d : Fin 1024) : iblk m c 5 t (ix4 0 0 0 d) = ngA m c d :=
  at_four (V m c main_v20) _ _ _ _ _
    (by show win0_5.index t 0 * 1 + 1 * 0 = 1; rw [(index_whole t).1.1])
    (by show win0_5.index t 1 * 1 + 1 * 0 = 3; rw [(index_whole t).1.2.1])
    (by show win0_5.index t 2 * 1 + 1 * 0 = 0; rw [(index_whole t).1.2.2.1])
    (by show win0_5.index t 3 * 1024 + 1 * d.val = d.val; rw [(index_whole t).1.2.2.2]; omega)

theorem scaleRow_apply (t : Fin cfg0.N) (d : Fin 1024) : scaleRow m c t (ix3 0 0 d) = scA m c d :=
  at_three (V m c main_v19) _ _ _ _
    (by show win0_6.index t 0 * 1 + 1 * (0 + 1 * 0) = 1; rw [(index_whole t).2.1.1])
    (by show win0_6.index t 1 * 8 + 1 * (1 + 1 * 0) = 1; rw [(index_whole t).2.1.2.1])
    (by show win0_6.index t 2 * 1024 + 1 * (0 + 1 * d.val) = d.val; rw [(index_whole t).2.1.2.2]; omega)

theorem shiftRow_apply (t : Fin cfg0.N) (d : Fin 1024) : shiftRow m c t (ix3 0 0 d) = shA m c d :=
  at_three (V m c main_v19) _ _ _ _
    (by show win0_6.index t 0 * 1 + 1 * (0 + 1 * 0) = 1; rw [(index_whole t).2.1.1])
    (by show win0_6.index t 1 * 8 + 1 * (0 + 1 * 0) = 0; rw [(index_whole t).2.1.2.1])
    (by show win0_6.index t 2 * 1024 + 1 * (0 + 1 * d.val) = d.val; rw [(index_whole t).2.1.2.2]; omega)

theorem iblk7_apply (t : Fin cfg0.N) (k : Fin 2048) (d : Fin 1024) : iblk m c 7 t (ix2 k d) = wA m c k d :=
  at_rows (V m c main_v23) _ _ _
    (by show win0_7.index t 0 * 2048 + 1 * k.val = k.val; rw [(index_whole t).2.2.1.1]; omega)
    (by show win0_7.index t 1 * 1024 + 1 * d.val = d.val; rw [(index_whole t).2.2.1.2]; omega)

/-! ### One point's sums over leading windows -/

theorem coords0 : ∀ t : Fin cfg0.N, (grid0.coords t 0).val = t.val := (by decide +kernel : ∀ t : Fin grid0.N, _)

theorem isLast_eq (t : Fin cfg0.N) : isLast (grid0.coords t) = if t.val = 15 then 1#1 else 0#1 := by
  have hN : cfg0.N = 16 := N_0
  have ht := t.isLt
  unfold isLast
  rw [coords0]
  exact (by decide +kernel : ∀ n : Fin 16, Scalar.cmpi .eq (BitVec.ofNat 32 n.val) 15#32 = if n.val = 15 then 1#1 else 0#1) ⟨t.val, by omega⟩

/-- The number of rows in a window, as the kernel counts it. -/
theorem count_eq (t : Fin cfg0.N) (r : Fin 256) (w : ℕ) :
    (FloatOps.sitofp (F := Ideal) .f32 (IntOp.minsi (IntOp.addi (k0_pay7 (grid0.coords t) (ix2 r 0)) 1#32) (BitVec.ofNat 32 w)) : EReal) = count w (256 * t.val + r.val) := by
  have h := coords0 t
  unfold Cert.Pool.count
  refine congrArg (fun b => (FloatOps.sitofp (F := Ideal) .f32 (IntOp.minsi b (BitVec.ofNat 32 w)) : EReal)) ?_
  pointwise [k0_pay7]
  rw [h]
  show BitVec.ofNat 32 t.val * BitVec.ofNat 32 256 + BitVec.ofNat 32 r.val + BitVec.ofNat 32 1 = BitVec.ofNat 32 (256 * t.val + r.val + 1)
  rw [← BitVec.ofNat_mul, ← BitVec.ofNat_add, ← BitVec.ofNat_add, Nat.mul_comm]

theorem cols_apply (x : Vec Ideal S256x1024 .f32) (g : Fin 4) (h) (r p : Fin 256) : cols x (256 * g.val) h (ix2 r p) = x (ix2 r (col g p)) :=
  at_rows x _ _ _ (by show 0 + 1 * r.val = r.val; omega) (by show 256 * g.val + 1 * p.val = 256 * g.val + p.val; omega)

theorem colsH_apply (x : Vec Ideal S16x1024 .f32) (g : Fin 4) (h) (r : Fin 16) (p : Fin 256) : colsH x (256 * g.val) h (ix2 r p) = x (ix2 r (col g p)) :=
  at_rows x _ _ _ (by show 0 + 1 * r.val = r.val; omega) (by show 256 * g.val + 1 * p.val = 256 * g.val + p.val; omega)

theorem colsB_apply (t : Fin cfg0.N) (g : Fin 4) (r p : Fin 256) : colsB m c t g (ix2 r p) = pA m c (rowOf t r) (col g p) := by
  rw [← iblk2_apply]
  obtain rfl | rfl | rfl | rfl : g = 0 ∨ g = 1 ∨ g = 2 ∨ g = 3 := by omega
  · exact cols_apply (iblk m c 2 t) 0 (by decide) r p
  · exact cols_apply (iblk m c 2 t) 1 (by decide) r p
  · exact cols_apply (iblk m c 2 t) 2 (by decide) r p
  · exact cols_apply (iblk m c 2 t) 3 (by decide) r p

theorem colsHB_apply (t : Fin cfg0.N) (ht : t.val < 15) (g : Fin 4) (r : Fin 16) (p : Fin 256) :
    colsHB m c t g (ix2 r p) = pA m c ⟨256 * t.val + (256 + r.val), by omega⟩ (col g p) := by
  rw [← iblk3_apply m c t ht]
  obtain rfl | rfl | rfl | rfl : g = 0 ∨ g = 1 ∨ g = 2 ∨ g = 3 := by omega
  · exact colsH_apply (iblk m c 3 t) 0 (by decide) r p
  · exact colsH_apply (iblk m c 3 t) 1 (by decide) r p
  · exact colsH_apply (iblk m c 3 t) 2 (by decide) r p
  · exact colsH_apply (iblk m c 3 t) 3 (by decide) r p

theorem row_lt (t : Fin cfg0.N) (r : Fin 256) : 256 * t.val + r.val < 4096 := (rowOf t r).isLt

/-- A tile's quotient is the row's part. -/
theorem part_tile (t : Fin cfg0.N) (g : Fin 4) (r p : Fin 256) : Ideal.div (colsB m c t g (ix2 r p) : EReal) (count (window g) (256 * t.val + r.val)) = part (pA m c) g p (256 * t.val + r.val) := by
  unfold part
  rw [dif_pos (row_lt t r), colsB_apply]
  rfl

/-- What the rows after the tile hold: nothing past the last point, else the product with one over the window's length. -/
theorem part_halo (t : Fin cfg0.N) (g : Fin 4) (r : Fin 16) (p : Fin 256) (b : EReal) (hb : b = ((1 / (window g : ℝ) : ℝ) : EReal)) :
    Scalar.select (isLast (grid0.coords t)) (0 : EReal) (colsHB m c t g (ix2 r p) * b) = part (pA m c) g p (256 * t.val + (256 + r.val)) := by
  have hN : cfg0.N = 16 := N_0
  have ht := t.isLt
  have hw : (window g : ℝ) ≠ 0 := Nat.cast_ne_zero.mpr ((by decide : ∀ g, window g ≠ 0) g)
  rw [isLast_eq]
  unfold part
  by_cases h : t.val = 15
  · rw [if_pos h, dif_neg (by omega)]; rfl
  · rw [if_neg h, dif_pos (by omega), count_full g ⟨256 * t.val + (256 + r.val), by omega⟩ (by dsimp only; omega), Ideal.div_coe hw, ← colsHB_apply m c t (by omega), hb]
    rfl

theorem planesB_state (t : Fin cfg0.N) : let L := planesB m c t; let e := ext (pA m c) t.val
    State L e 1 0 2 0 ∧ State L e 0 1 4 256 ∧ State L e 1 0 8 512 ∧ State L e 0 1 16 768 := by
  refine steps_state (ext_zero _ _) (fills_state (pA m c) t.val _ _ _ (fun r j => ?_) (fun r j => ?_))
  · have e := fun g => part_tile m c t g r j
    have n0 := count_eq t r 2
    have n1 := count_eq t r 4
    have n2 := count_eq t r 8
    have n3 := count_eq t r 16
    generalize colsB m c t = x at *
    refine ⟨(?_ : _ = _).trans (e 0), (?_ : _ = _).trans (e 1), (?_ : _ = _).trans (e 2), (?_ : _ = _).trans (e 3)⟩
    · pointwise [k0_pay10]
      exact congrArg (Ideal.div _) n0
    · generalize k0_pay7 (grid0.coords t) = i at *
      pointwise [k0_pay13]
      exact congrArg (Ideal.div _) n1
    · generalize k0_pay7 (grid0.coords t) = i at *
      pointwise [k0_pay15]
      exact congrArg (Ideal.div _) n2
    · generalize k0_pay7 (grid0.coords t) = i at *
      pointwise [k0_pay17]
      exact congrArg (Ideal.div _) n3
  · have e := fun g => part_halo m c t g r j
    generalize colsHB m c t = x at *
    refine ⟨?_, ?_, ?_, ?_⟩
    · refine Eq.trans ?_ (e 0 _ (?_ : FloatOps.ofBits (F := Ideal) .f32 0x3F000000#32 = _))
      · generalize x 0 = y
        pointwise [k0_pay12, k0_pay11]
      · show Ideal.ofBits .f32 0x3F000000#32 = _
        simp [Ideal.ofBits, Ideal.ieee, window, -EReal.coe_mul]; norm_num
    · refine Eq.trans ?_ (e 1 _ (?_ : FloatOps.ofBits (F := Ideal) .f32 0x3E800000#32 = _))
      · generalize x 1 = y
        generalize isLast (grid0.coords t) = b
        pointwise [k0_pay14]
      · show Ideal.ofBits .f32 0x3E800000#32 = _
        simp [Ideal.ofBits, Ideal.ieee, window, -EReal.coe_mul]; norm_num
    · refine Eq.trans ?_ (e 2 _ (?_ : FloatOps.ofBits (F := Ideal) .f32 0x3E000000#32 = _))
      · generalize x 2 = y
        generalize isLast (grid0.coords t) = b
        pointwise [k0_pay16]
      · show Ideal.ofBits .f32 0x3E000000#32 = _
        simp [Ideal.ofBits, Ideal.ieee, window, -EReal.coe_mul]; norm_num
    · refine Eq.trans ?_ (e 3 _ (?_ : FloatOps.ofBits (F := Ideal) .f32 0x3D800000#32 = _))
      · generalize x 3 = y
        generalize isLast (grid0.coords t) = b
        pointwise [k0_pay18]
      · show Ideal.ofBits .f32 0x3D800000#32 = _
        simp [Ideal.ofBits, Ideal.ieee, window, -EReal.coe_mul]; norm_num

/-- One group's sums over the window, at the tile's rows. -/
theorem sums_apply (t : Fin cfg0.N) (g : Fin 4) (q p : Fin 2) (hs : State (planesB m c t) (ext (pA m c) t.val) q p (window g) (256 * g.val)) (hc) (r j : Fin 256) :
    (tileRows (planesB m c t) q (256 * g.val) hc (ix3 0 r j) : EReal) = lead (part (pA m c) g j) (window g) (rowOf t r).val := by
  rw [tileRows_apply, hs.1 _ _ (by omega) (by omega) (by omega), zero_add]
  exact ext_lead (pA m c) t.val g j (window g) r.val r.isLt (by fin_cases g <;> decide)

end Cert.Kernel4Ideal.Lead
-- ==== Proof.Lead.Run.lean ====
/-
  The run of the pooling gradient kernel's body at the first point, between, and at the last point, as the plan's terms: the
  gradient of the projection's rows, that of the normed rows, and the layer's rows.
-/
module

public import proofs.«01_k».proof.Proof.Lead.Plan

@[expose] public section

noncomputable section

open Idealize.ShloMosaic Idealize.ShloMosaic.TcCoe Idealize.SL.Sem

namespace Cert.Kernel4Ideal.Lead

open Cert.Kernel4Ideal Cert.Kernel4Ideal.Gen

variable {F : FTy → Type} [FloatOps F]
variable (m : (ℓ : Loc nD τ sig) → Buf (Elt F) ℓ) (c : Dev nD) (t : Fin cfg0.N)

/-- A point's gradient of the layer's rows. -/
def dxB : FVec F S256x1024 .f32 :=
  k0_pay47 (k0_pay38 (iblk m c 5 t)) (k0_pay39 (scaleRow m c t)) (k0_pay40 (iblk m c 0 t)) (k0_pay41 (iblk m c 0 t)) (dhB m c t) (iblk m c 1 t)

theorem planes_A (i : grid0.Coords) (arg3 : Memref sig .tc .vmem S256x1024 .f32) (harg3 : arg3.IsWhole) (arg4 : Memref sig .tc .vmem S16x1024 .f32)
    (harg4 : arg4.IsWhole) (x2 : Vec F S256x1024 .f32) (x3 : Vec F S16x1024 .f32) :
    kernelRun0_A.sl.HS0_20 c i arg3 harg3 arg4 harg4 scM0_0 x2 x3 = steps (fills i (colsM arg3 (harg3.unread x2)) (colsHM arg4 (harg4.unread x3))) := by
  sl_kernel_rfl

theorem planesB_A : kernelRun0_A.sl.HS0_20 c (grid0.coords t) (ms0_2 t) (hs0_2 t) (ms0_3 t) (hs0_3 t) scM0_0 (iblk m c 2 t) (iblk m c 3 t) = planesB m c t := by
  rw [planes_A, colsM_eq, colsHM_eq]
  rfl

theorem dproj_A : kernelRun0_A.sl.v209 c (grid0.coords t) (ms0_2 t) (hs0_2 t) (ms0_3 t) (hs0_3 t) (ms0_4 t) (hs0_4 t) scM0_0 scM0_1 (iblk m c 2 t) (iblk m c 3 t) (iblk m c 4 t)
    = dprojB m c t := by
  unfold kernelRun0_A.sl.v209 kernelRun0_A.sl.HS1_5 kernelRun0_A.sl.r_4 kernelRun0_A.sl.r_5 kernelRun0_A.sl.r_6 kernelRun0_A.sl.v172 kernelRun0_A.sl.v180 kernelRun0_A.sl.v188
    kernelRun0_A.sl.v196
  rw [planesB_A]
  simp only [View.readAt_eq_ld, (hs0_2 t).read_unread, (hs0_4 t).read_unread, View.ld_unit_zero (S := S256x1024) hz2]
  rfl

theorem dh_A : kernelRun0_A.sl.r_11 c (grid0.coords t) (ms0_2 t) (hs0_2 t) (ms0_3 t) (hs0_3 t) (ms0_4 t) (hs0_4 t) (ms0_7 t) (hs0_7 t) scM0_0 scM0_1
    (iblk m c 2 t) (iblk m c 3 t) (iblk m c 4 t) (iblk m c 7 t) = dhB m c t := by
  unfold kernelRun0_A.sl.r_11
  rw [dproj_A, View.readAt_eq_ld, (hs0_7 t).read_unread, View.ld_unit_zero (S := S2048x1024) hz2]
  rfl

theorem unit_A : kernelRun0_A.sl.r_10 c (ms0_0 t) (hs0_0 t) (iblk m c 0 t) = k0_pay41 (iblk m c 0 t) := by
  unfold kernelRun0_A.sl.r_10
  rw [View.readAt_eq_ld, (hs0_0 t).read_unread, View.ld_unit_zero (S := S256x1024) hz2]

theorem h_A : kernelRun0_A.sl.r_12 c (ms0_0 t) (hs0_0 t) (ms0_5 t) (hs0_5 t) (ms0_6 t) (hs0_6 t) (iblk m c 0 t) (iblk m c 5 t) (iblk m c 6 t) = hB m c t := by
  unfold kernelRun0_A.sl.r_12
  simp only [View.readAt_eq_ld, (hs0_0 t).read_unread, (hs0_5 t).read_unread, (hs0_6 t).read_unread, View.ld_unit_zero (S := S256x1024) hz2, View.ld_unit_zero (S := S1x1x1x1024) hz4]
  rfl

theorem dx_A : kernelRun0_A.sl.r_13 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t)
    = dxB m c t := by
  unfold kernelRun0_A.sl.r_13 kernelRun0_A.sl.r_7 kernelRun0_A.sl.r_8 kernelRun0_A.sl.r_9
  rw [unit_A, dh_A]
  simp only [View.readAt_eq_ld, (hs0_0 t).read_unread, (hs0_1 t).read_unread, (hs0_5 t).read_unread, (hs0_6 t).read_unread, View.ld_unit_zero (S := S256x1024) hz2,
    View.ld_unit_zero (S := S1x1x1x1024) hz4]
  rfl

theorem planes_B (i : grid0.Coords) (arg3 : Memref sig .tc .vmem S256x1024 .f32) (harg3 : arg3.IsWhole) (arg4 : Memref sig .tc .vmem S16x1024 .f32)
    (harg4 : arg4.IsWhole) (x2 : Vec F S256x1024 .f32) (x3 : Vec F S16x1024 .f32) :
    kernelRun0_B.sl.HS0_20 c i arg3 harg3 arg4 harg4 scM0_0 x2 x3 = steps (fills i (colsM arg3 (harg3.unread x2)) (colsHM arg4 (harg4.unread x3))) := by
  sl_kernel_rfl

theorem planesB_B : kernelRun0_B.sl.HS0_20 c (grid0.coords t) (ms0_2 t) (hs0_2 t) (ms0_3 t) (hs0_3 t) scM0_0 (iblk m c 2 t) (iblk m c 3 t) = planesB m c t := by
  rw [planes_B, colsM_eq, colsHM_eq]
  rfl

theorem dproj_B : kernelRun0_B.sl.v209 c (grid0.coords t) (ms0_2 t) (hs0_2 t) (ms0_3 t) (hs0_3 t) (ms0_4 t) (hs0_4 t) scM0_0 scM0_1 (iblk m c 2 t) (iblk m c 3 t) (iblk m c 4 t)
    = dprojB m c t := by
  unfold kernelRun0_B.sl.v209 kernelRun0_B.sl.HS1_5 kernelRun0_B.sl.r_4 kernelRun0_B.sl.r_5 kernelRun0_B.sl.r_6 kernelRun0_B.sl.v172 kernelRun0_B.sl.v180 kernelRun0_B.sl.v188
    kernelRun0_B.sl.v196
  rw [planesB_B]
  simp only [View.readAt_eq_ld, (hs0_2 t).read_unread, (hs0_4 t).read_unread, View.ld_unit_zero (S := S256x1024) hz2]
  rfl

theorem dh_B : kernelRun0_B.sl.r_11 c (grid0.coords t) (ms0_2 t) (hs0_2 t) (ms0_3 t) (hs0_3 t) (ms0_4 t) (hs0_4 t) (ms0_7 t) (hs0_7 t) scM0_0 scM0_1
    (iblk m c 2 t) (iblk m c 3 t) (iblk m c 4 t) (iblk m c 7 t) = dhB m c t := by
  unfold kernelRun0_B.sl.r_11
  rw [dproj_B, View.readAt_eq_ld, (hs0_7 t).read_unread, View.ld_unit_zero (S := S2048x1024) hz2]
  rfl

theorem unit_B : kernelRun0_B.sl.r_10 c (ms0_0 t) (hs0_0 t) (iblk m c 0 t) = k0_pay41 (iblk m c 0 t) := by
  unfold kernelRun0_B.sl.r_10
  rw [View.readAt_eq_ld, (hs0_0 t).read_unread, View.ld_unit_zero (S := S256x1024) hz2]

theorem h_B : kernelRun0_B.sl.r_13 c (ms0_0 t) (hs0_0 t) (ms0_5 t) (hs0_5 t) (ms0_6 t) (hs0_6 t) (iblk m c 0 t) (iblk m c 5 t) (iblk m c 6 t) = hB m c t := by
  unfold kernelRun0_B.sl.r_13
  simp only [View.readAt_eq_ld, (hs0_0 t).read_unread, (hs0_5 t).read_unread, (hs0_6 t).read_unread, View.ld_unit_zero (S := S256x1024) hz2, View.ld_unit_zero (S := S1x1x1x1024) hz4]
  rfl

theorem dx_B : kernelRun0_B.sl.r_14 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t)
    = dxB m c t := by
  unfold kernelRun0_B.sl.r_14 kernelRun0_B.sl.r_7 kernelRun0_B.sl.r_8 kernelRun0_B.sl.r_9
  rw [unit_B, dh_B]
  simp only [View.readAt_eq_ld, (hs0_0 t).read_unread, (hs0_1 t).read_unread, (hs0_5 t).read_unread, (hs0_6 t).read_unread, View.ld_unit_zero (S := S256x1024) hz2,
    View.ld_unit_zero (S := S1x1x1x1024) hz4]
  rfl

theorem planes_C (i : grid0.Coords) (arg3 : Memref sig .tc .vmem S256x1024 .f32) (harg3 : arg3.IsWhole) (arg4 : Memref sig .tc .vmem S16x1024 .f32)
    (harg4 : arg4.IsWhole) (x2 : Vec F S256x1024 .f32) (x3 : Vec F S16x1024 .f32) :
    kernelRun0_C.sl.HS0_20 c i arg3 harg3 arg4 harg4 scM0_0 x2 x3 = steps (fills i (colsM arg3 (harg3.unread x2)) (colsHM arg4 (harg4.unread x3))) := by
  sl_kernel_rfl

theorem planesB_C : kernelRun0_C.sl.HS0_20 c (grid0.coords t) (ms0_2 t) (hs0_2 t) (ms0_3 t) (hs0_3 t) scM0_0 (iblk m c 2 t) (iblk m c 3 t) = planesB m c t := by
  rw [planes_C, colsM_eq, colsHM_eq]
  rfl

theorem dproj_C : kernelRun0_C.sl.v209 c (grid0.coords t) (ms0_2 t) (hs0_2 t) (ms0_3 t) (hs0_3 t) (ms0_4 t) (hs0_4 t) scM0_0 scM0_1 (iblk m c 2 t) (iblk m c 3 t) (iblk m c 4 t)
    = dprojB m c t := by
  unfold kernelRun0_C.sl.v209 kernelRun0_C.sl.HS1_5 kernelRun0_C.sl.r_4 kernelRun0_C.sl.r_5 kernelRun0_C.sl.r_6 kernelRun0_C.sl.v172 kernelRun0_C.sl.v180 kernelRun0_C.sl.v188
    kernelRun0_C.sl.v196
  rw [planesB_C]
  simp only [View.readAt_eq_ld, (hs0_2 t).read_unread, (hs0_4 t).read_unread, View.ld_unit_zero (S := S256x1024) hz2]
  rfl

theorem dh_C : kernelRun0_C.sl.r_11 c (grid0.coords t) (ms0_2 t) (hs0_2 t) (ms0_3 t) (hs0_3 t) (ms0_4 t) (hs0_4 t) (ms0_7 t) (hs0_7 t) scM0_0 scM0_1
    (iblk m c 2 t) (iblk m c 3 t) (iblk m c 4 t) (iblk m c 7 t) = dhB m c t := by
  unfold kernelRun0_C.sl.r_11
  rw [dproj_C, View.readAt_eq_ld, (hs0_7 t).read_unread, View.ld_unit_zero (S := S2048x1024) hz2]
  rfl

theorem unit_C : kernelRun0_C.sl.r_10 c (ms0_0 t) (hs0_0 t) (iblk m c 0 t) = k0_pay41 (iblk m c 0 t) := by
  unfold kernelRun0_C.sl.r_10
  rw [View.readAt_eq_ld, (hs0_0 t).read_unread, View.ld_unit_zero (S := S256x1024) hz2]

theorem h_C : kernelRun0_C.sl.r_13 c (ms0_0 t) (hs0_0 t) (ms0_5 t) (hs0_5 t) (ms0_6 t) (hs0_6 t) (iblk m c 0 t) (iblk m c 5 t) (iblk m c 6 t) = hB m c t := by
  unfold kernelRun0_C.sl.r_13
  simp only [View.readAt_eq_ld, (hs0_0 t).read_unread, (hs0_5 t).read_unread, (hs0_6 t).read_unread, View.ld_unit_zero (S := S256x1024) hz2, View.ld_unit_zero (S := S1x1x1x1024) hz4]
  rfl

theorem dx_C : kernelRun0_C.sl.r_14 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 scM0_1 (iblk m c 0 t) (iblk m c 1 t) (iblk m c 2 t) (iblk m c 3 t) (iblk m c 4 t) (iblk m c 5 t) (iblk m c 6 t) (iblk m c 7 t)
    = dxB m c t := by
  unfold kernelRun0_C.sl.r_14 kernelRun0_C.sl.r_7 kernelRun0_C.sl.r_8 kernelRun0_C.sl.r_9
  rw [unit_C, dh_C]
  simp only [View.readAt_eq_ld, (hs0_0 t).read_unread, (hs0_1 t).read_unread, (hs0_5 t).read_unread, (hs0_6 t).read_unread, View.ld_unit_zero (S := S256x1024) hz2,
    View.ld_unit_zero (S := S1x1x1x1024) hz4]
  rfl

end Cert.Kernel4Ideal.Lead
-- ==== Proof.Lead.Sums.lean ====
/-
  What one grid point of the pooling gradient kernel leaves in its output blocks and in its accumulators: the projection's
  gradient, and the table whose first two rows are sums over rows.
-/
module

public import proofs.«01_k».proof.Proof.Lead.Run
public import proofs.«01_k».proof.Proof.Pool.Sums

@[expose] public section

noncomputable section

open Idealize.ShloMosaic Idealize.ShloMosaic.TcCoe Idealize.SL.Sem

namespace Cert.Kernel4Ideal.Lead

open Cert.Kernel4Ideal Cert.Kernel4Ideal.Gen
open Cert.Kernel3Ideal.Pool (rowR putR read_two cov_row cov_row_put stored ld_put)

variable {F : FTy → Type} [FloatOps F]
variable (m : (ℓ : Loc nD τ sig) → Buf (Elt F) ℓ) (c : Dev nD) (t : Fin cfg0.N)

/-- The block of the layer's gradient. -/
theorem out8 : (outsAt0 m c t.val t.isLt).1 = dxB m c t := by
  rcases three t with ⟨h0, h1⟩ | ⟨h0, h1⟩ | ⟨h0, h1⟩
  · rw [outsAt0_A m c t h0 h1]; dsimp only; unfold out0_A_8
    rw [View.read_writes_eq_canon _ _ _ (fun y => cover0_A_8 (y := y) ..)]; unfold kernelRun0_A; dsimp only
    rw [View.canon_unit_zero (S := S256x1024) hz2, dx_A]
  · rw [outsAt0_B m c t h0 h1]; dsimp only; unfold out0_B_8
    rw [View.read_writes_eq_canon _ _ _ (fun y => cover0_B_8 (y := y) ..)]; unfold kernelRun0_B; dsimp only
    rw [View.canon_unit_zero (S := S256x1024) hz2, dx_B]
  · rw [outsAt0_C m c t h0 h1]; dsimp only; unfold out0_C_8
    rw [View.read_writes_eq_canon _ _ _ (fun y => cover0_C_8 (y := y) ..)]; unfold kernelRun0_C; dsimp only
    rw [View.canon_unit_zero (S := S256x1024) hz2, dx_C]

/-- The projection gradient accumulated so far: the first point adds its product to zero. -/
theorem dw_zero (h0 : t.val % 16 = 0) : (outsAt0 m c t.val t.isLt).2.2.2.1 = k0_pay44 (dprojB m c t) k0_pay5 (hB m c t) := by
  rw [outsAt0_A m c t h0 (by omega)]; dsimp only; unfold sout0_A_2
  rw [View.read_writes_eq_canon _ _ _ (fun y => scover0_A_2 (y := y) ..)]; unfold kernelRun0_A
  dsimp only
  rw [dproj_A, h_A]
  unfold kernelRun0_A.sl.v238 kernelRun0_A.sl.HS2_1
  rw [View.canon_cons_unit_zero (S := S2048x1024) hz2, View.readCov_unit_zero (S := S2048x1024) _ hz2]

/-- A later point adds its product to what the point before left. -/
theorem dw_later (h0 : ¬t.val % 16 = 0) : (outsAt0 m c t.val t.isLt).2.2.2.1
    = k0_pay44 (dprojB m c t) (outsAt0 m c (t.val - 1) (Nat.lt_of_le_of_lt (Nat.sub_le _ _) t.isLt)).2.2.2.1 (hB m c t) := by
  by_cases h1 : t.val % 16 = 15
  on_goal 1 =>
    rw [outsAt0_C m c t h0 h1]; dsimp only; unfold sout0_C_2
    rw [View.read_writes_eq_canon _ _ _ (fun y => scover0_C_2 (y := y) ..)]; unfold kernelRun0_C; dsimp only
    unfold kernelRun0_C.sl.HS2_1 kernelRun0_C.sl.r_12
    rw [dproj_C, h_C]
  on_goal 2 =>
    rw [outsAt0_B m c t h0 h1]; dsimp only; unfold sout0_B_2
    rw [View.read_writes_eq_canon _ _ _ (fun y => scover0_B_2 (y := y) ..)]; unfold kernelRun0_B; dsimp only
    unfold kernelRun0_B.sl.r_12
    rw [dproj_B, h_B]
  all_goals
    rw [View.canon_unit_zero (S := S2048x1024) hz2]
    simp only [View.readAt_eq_ld, (Memref.isWhole_whole _).read_unread, View.ld_unit_zero (S := S2048x1024) hz2]

/-- A point's sums added to the rows that are there. -/
def addRows (x : Vec F S8x1024 .f32) : Vec F S8x1024 .f32 :=
  putR (putR x 0 (k0_pay45 (dhB m c t) (rowR x 0))) 1 (k0_pay46 (k0_pay41 (iblk m c 0 t)) (dhB m c t) (rowR x 1))

theorem rows_zero (h0 : t.val % 16 = 0) : (outsAt0 m c t.val t.isLt).2.2.2.2 = addRows m c t k0_pay6 := by
  rw [outsAt0_A m c t h0 (by omega)]; dsimp only; unfold sout0_A_3 kernelRun0_A; dsimp only
  unfold kernelRun0_A.sl.v252 kernelRun0_A.sl.HS3_2 kernelRun0_A.sl.v245 kernelRun0_A.sl.HS3_1
  rw [unit_A, dh_A]
  refine (read_two _ _ _ _ _).trans ?_
  rw [View.read_writes_full]
  refine congrArg₂ (fun x y => putR x 1 (k0_pay46 _ _ y)) (congrArg (fun y => putR k0_pay6 0 (k0_pay45 _ y)) ?_) ?_
  · exact cov_row _ 0 _ _ _
  · exact cov_row_put _ _ _ _ _ _

theorem rows_later (h0 : ¬t.val % 16 = 0) : (outsAt0 m c t.val t.isLt).2.2.2.2
    = addRows m c t (outsAt0 m c (t.val - 1) (Nat.lt_of_le_of_lt (Nat.sub_le _ _) t.isLt)).2.2.2.2 := by
  by_cases h1 : t.val % 16 = 15
  on_goal 1 =>
    rw [outsAt0_C m c t h0 h1]; dsimp only; unfold sout0_C_3 kernelRun0_C; dsimp only
    unfold kernelRun0_C.sl.HS3_2 kernelRun0_C.sl.v252
    rw [unit_C, dh_C]
  on_goal 2 =>
    rw [outsAt0_B m c t h0 h1]; dsimp only; unfold sout0_B_3 kernelRun0_B; dsimp only
    unfold kernelRun0_B.sl.v252
    rw [unit_B, dh_B]
  all_goals
    refine (read_two _ _ _ _ _).trans ?_
    rw [View.writes_nil]
    simp only [View.readAt_eq_ld, (Memref.isWhole_whole _).read_unread]
    rfl

/-- The projection gradient's block, stored at the last point: the accumulator, its own product included, rounded. -/
theorem out9 (h1 : t.val % 16 = 15) : (outsAt0 m c t.val t.isLt).2.1 = k0_pay1 (outsAt0 m c t.val t.isLt).2.2.2.1 := by
  have h0 : ¬t.val % 16 = 0 := by omega
  rw [outsAt0_C m c t h0 h1]; dsimp only; unfold out0_C_9 sout0_C_2 kernelRun0_C
  dsimp only
  unfold kernelRun0_C.sl.v280
  exact stored (S := S2048x1024) (e := .bf16) (e' := .f32) _ _ _ _ scM0_2.view _ k0_pay1

/-- The table of the vectors' gradients, from the sums over rows. -/
def finish (x : Vec F S8x1024 .f32) : Vec F S8x1024 .f32 :=
  putR (putR (putR k0_pay2 0 (rowR x 0)) 1 (k0_pay3 (rowR x 1) (iblk m c 5 t))) 3 (k0_pay4 (rowR x 1) (scaleRow m c t))

theorem read_three (v : View sig .tc .vmem S8x1024 .f32) (f : v.ty.Contents (Elt F)) (x : Vec F S8x1024 .f32) (hp) (w0 w1 w3 : FVec F S1x1024 .f32) :
    v.read (Elt F) (v.writes (Elt F) f [⟨Rect.unit ![3, 0] S1x1024.size inb_S8x1024_S1x1024_3_0, w3⟩, ⟨Rect.unit ![1, 0] S1x1024.size inb_S8x1024_S1x1024_1_0, w1⟩,
      ⟨Rect.unit ![0, 0] S1x1024.size inb_S8x1024_S1x1024_0_0, w0⟩, ⟨Rect.unit (s := S8x1024) ![0, 0] S8x1024.size hp, x⟩])
    = putR (putR (putR x 0 w0) 1 w1) 3 w3 := by
  rw [View.read_writes_cons_put (s := S8x1024) (size := S1x1024.size) (h := rfl), View.read_writes_cons_put (s := S8x1024) (size := S1x1024.size) (h := rfl),
    View.read_writes_cons_put (s := S8x1024) (size := S1x1024.size) (h := rfl), View.read_writes_full]
  rfl

/-- A row just written, read back. -/
theorem ld_put_self (x : Vec F S8x1024 .f32) (g : Fin 8) (w : FVec F S1x1024 .f32) : rowR (putR x g w) g = w :=
  VecWindow.window_put_same x _ _ _ w

/-- The two rows of sums, read back, whatever the table held. -/
theorem cov_two (v : View sig .tc .vmem S8x1024 .f32) (x : Vec F S8x1024 .f32) (w0 w1 : FVec F S1x1024 .f32) (q : Fin 8) (hq : q = 0 ∨ q = 1) (hp) :
    v.readCov [⟨Rect.unit ![1, 0] S1x1024.size inb_S8x1024_S1x1024_1_0, w1⟩, ⟨Rect.unit ![0, 0] S1x1024.size inb_S8x1024_S1x1024_0_0, w0⟩]
      (Rect.unit (s := S8x1024) ![q.val, 0] S1x1024.size hp).toLoadRect = rowR (putR (putR x 0 w0) 1 w1) q := by
  unfold View.readCov
  rw [View.readAt_eq_ld, read_two]
  obtain rfl | rfl := hq
  · exact (ld_put (s := S8x1024) (e := .f32) (off := ![1, 0]) _ _ w1 0 (.inl (by show 0 + 1 ≤ 1; omega))).trans ((ld_put_self _ 0 w0).trans
      ((ld_put (s := S8x1024) (e := .f32) (off := ![1, 0]) _ _ w1 0 (.inl (by show 0 + 1 ≤ 1; omega))).trans (ld_put_self _ 0 w0)).symm)
  · exact (ld_put_self _ 1 w1).trans (ld_put_self _ 1 w1).symm

/-- The table's block, stored at the last point. -/
theorem out10 (h1 : t.val % 16 = 15) : (outsAt0 m c t.val t.isLt).2.2.1 = finish m c t (outsAt0 m c t.val t.isLt).2.2.2.2 := by
  have h0 : ¬t.val % 16 = 0 := by omega
  rw [outsAt0_C m c t h0 h1]; dsimp only; unfold out0_C_10 sout0_C_3 kernelRun0_C
  dsimp only
  refine (read_three _ _ _ _ _ _ _).trans ?_
  unfold kernelRun0_C.sl.v286 kernelRun0_C.sl.v283 kernelRun0_C.sl.v288 kernelRun0_C.sl.HS3_2 finish
  rw [read_two]
  simp only [View.readAt_eq_ld, (hs0_5 t).read_unread, (hs0_6 t).read_unread, View.ld_unit_zero (S := S1x1x1x1024) hz4]
  refine congrArg₂ (fun x y => putR (putR (putR k0_pay2 0 x) 1 (k0_pay3 y _)) 3 (k0_pay4 y _)) ?_ ?_
  · exact cov_two _ _ _ _ 0 (.inl rfl) _
  · exact cov_two _ _ _ _ 1 (.inr rfl) _

end Cert.Kernel4Ideal.Lead
-- ==== Proof.Lead.Value.lean ====
/-
  One point of the pooling gradient kernel on the extended reals: the gradient of the projection's rows, that of the normed
  rows, the rows' norm, and the block of the layer's rows.
-/
module

public import proofs.«01_k».proof.Proof.Lead.Pooled
public import proofs.«01_k».proof.Proof.Lead.Sums

@[expose] public section

noncomputable section

open Idealize.ShloMosaic Idealize.ShloMosaic.TcCoe Idealize.SL.Sem

namespace Cert.Kernel4Ideal.Lead

open Cert.Kernel4Ideal Cert.Kernel4Ideal.Gen Cert.Step Cert.Lead
open Cert.Pool (window col)
open Cert.Step.Norm (rs unit normed dRows dShift dBoth)

variable (m : (ℓ : Loc nD τ sig) → Buf (Elt Ideal) ℓ) (c : Dev nD) (t : Fin cfg0.N)

/-! ### The gradient of the projection's rows -/

/-- A group's difference, at an index. -/
theorem group_value (y : FVec Ideal S1x256x256 .f32) (z : FVec Ideal S256x256 .f32) (g : Fin 4) (r p : Fin 256)
    (hy : (y (ix3 0 r p) : EReal) = lead (part (pA m c) g p) (window g) (rowOf t r).val) (hz : z (ix2 r p) = pA m c (rowOf t r) (col g p)) :
    (y (ix3 0 r p) : EReal) - z (ix2 r p) = dProj (pA m c) (qA m c) (rowOf t r) (valueCol g p) := by
  rw [dProj_value, hy, hz]
  rfl

theorem value0 (r p : Fin 256) : (k0_pay32 (k0_pay31 (tileRows (planesB m c t) 1 0)) (cols (iblk m c 2 t) 0) (ix2 r p) : EReal)
    = dProj (pA m c) (qA m c) (rowOf t r) (valueCol 0 p) := by
  have h := group_value m c t _ _ 0 r p (sums_apply m c t 0 1 0 (planesB_state m c t).1 (by decide) r p) ((cols_apply (iblk m c 2 t) 0 (by decide) r p).trans (iblk2_apply m c t r (col 0 p)))
  rw [← h]
  change (k0_pay32 (k0_pay31 (tileRows (planesB m c t) 1 (256 * (0 : Fin 4).val))) (cols (iblk m c 2 t) (256 * (0 : Fin 4).val)) (ix2 r p) : EReal) = _
  generalize tileRows (planesB m c t) 1 (256 * (0 : Fin 4).val) = y
  generalize cols (iblk m c 2 t) (256 * (0 : Fin 4).val) = z
  pointwise [k0_pay32, k0_pay31]

theorem value1 (r p : Fin 256) : (k0_pay33 (tileRows (planesB m c t) 0 256) (cols (iblk m c 2 t) 256) (ix2 r p) : EReal)
    = dProj (pA m c) (qA m c) (rowOf t r) (valueCol 1 p) := by
  have h := group_value m c t _ _ 1 r p (sums_apply m c t 1 0 1 (planesB_state m c t).2.1 (by decide) r p) ((cols_apply (iblk m c 2 t) 1 (by decide) r p).trans (iblk2_apply m c t r (col 1 p)))
  rw [← h]
  change (k0_pay33 (tileRows (planesB m c t) 0 (256 * (1 : Fin 4).val)) (cols (iblk m c 2 t) (256 * (1 : Fin 4).val)) (ix2 r p) : EReal) = _
  generalize tileRows (planesB m c t) 0 (256 * (1 : Fin 4).val) = y
  generalize cols (iblk m c 2 t) (256 * (1 : Fin 4).val) = z
  pointwise [k0_pay33]

theorem value2 (r p : Fin 256) : (k0_pay34 (tileRows (planesB m c t) 1 512) (cols (iblk m c 2 t) 512) (ix2 r p) : EReal)
    = dProj (pA m c) (qA m c) (rowOf t r) (valueCol 2 p) := by
  have h := group_value m c t _ _ 2 r p (sums_apply m c t 2 1 0 (planesB_state m c t).2.2.1 (by decide) r p) ((cols_apply (iblk m c 2 t) 2 (by decide) r p).trans (iblk2_apply m c t r (col 2 p)))
  rw [← h]
  change (k0_pay34 (tileRows (planesB m c t) 1 (256 * (2 : Fin 4).val)) (cols (iblk m c 2 t) (256 * (2 : Fin 4).val)) (ix2 r p) : EReal) = _
  generalize tileRows (planesB m c t) 1 (256 * (2 : Fin 4).val) = y
  generalize cols (iblk m c 2 t) (256 * (2 : Fin 4).val) = z
  pointwise [k0_pay34]

theorem value3 (r p : Fin 256) : (k0_pay35 (tileRows (planesB m c t) 0 768) (cols (iblk m c 2 t) 768) (ix2 r p) : EReal)
    = dProj (pA m c) (qA m c) (rowOf t r) (valueCol 3 p) := by
  have h := group_value m c t _ _ 3 r p (sums_apply m c t 3 0 1 (planesB_state m c t).2.2.2 (by decide) r p) ((cols_apply (iblk m c 2 t) 3 (by decide) r p).trans (iblk2_apply m c t r (col 3 p)))
  rw [← h]
  change (k0_pay35 (tileRows (planesB m c t) 0 (256 * (3 : Fin 4).val)) (cols (iblk m c 2 t) (256 * (3 : Fin 4).val)) (ix2 r p) : EReal) = _
  generalize tileRows (planesB m c t) 0 (256 * (3 : Fin 4).val) = y
  generalize cols (iblk m c 2 t) (256 * (3 : Fin 4).val) = z
  pointwise [k0_pay35]

theorem gate_value (r : Fin 256) (k : Fin 1024) : (k0_pay37 (k0_pay36 (iblk m c 4 t)) (ix2 r k) : EReal) = dProj (pA m c) (qA m c) (rowOf t r) (gateCol k) := by
  rw [dProj_gate, ← iblk4_apply]
  generalize iblk m c 4 t = x
  pointwise [k0_pay37, k0_pay36]

theorem dprojB_apply (r : Fin 256) (k : Fin 2048) : (dprojB m c t (ix2 r k) : EReal) = dProj (pA m c) (qA m c) (rowOf t r) k := by
  have p0 := value0 m c t
  have p1 := value1 m c t
  have p2 := value2 m c t
  have p3 := value3 m c t
  have p4 := gate_value m c t
  unfold dprojB
  rw [View.readCov_eq_canon']
  have self : (Rect.unit (s := S256x2048) ![0, 0] S256x2048.size inb_S256x2048_S256x2048_0_0).toLoadRect.idx (ix2 r k) = ix2 r k :=
    funext fun a => Fin.ext (match a with
      | ⟨0, _⟩ => by show 0 + 1 * r.val = r.val; omega
      | ⟨1, _⟩ => by show 0 + 1 * k.val = k.val; omega)
  show View.canon (dprojP m c t) _ = _
  rw [self]
  unfold dprojP
  generalize k0_pay32 (k0_pay31 (tileRows (planesB m c t) 1 0)) (cols (iblk m c 2 t) 0) = y0 at *
  generalize k0_pay33 (tileRows (planesB m c t) 0 256) (cols (iblk m c 2 t) 256) = y1 at *
  generalize k0_pay34 (tileRows (planesB m c t) 1 512) (cols (iblk m c 2 t) 512) = y2 at *
  generalize k0_pay35 (tileRows (planesB m c t) 0 768) (cols (iblk m c 2 t) 768) = y3 at *
  generalize k0_pay37 (k0_pay36 (iblk m c 4 t)) = y4 at *
  let G : FVec Ideal S256x2048 .bf16 := fun y => dProj (pA m c) (qA m c) (rowOf t (y 0)) (y 1)
  have at_G : ∀ (i : S256x2048.Idx) (x0 : Fin 256) (k : Fin 2048), (i 0).val = 0 + 1 * x0.val → (i 1).val = k.val →
      G i = dProj (pA m c) (qA m c) (rowOf t x0) k := fun i x0 k h0 h1 =>
    congrArg₂ (fun a b => dProj (pA m c) (qA m c) (rowOf t a) b) (Fin.ext (by omega)) (Fin.ext h1)
  have at_V : ∀ (i : S256x2048.Idx) (x0 : Fin 256) (g : Fin 4) (x1 : Fin 256), (i 0).val = 0 + 1 * x0.val → (i 1).val = 256 * g.val + 1 * x1.val →
      G i = dProj (pA m c) (qA m c) (rowOf t x0) (valueCol g x1) := fun i x0 g x1 h0 h1 =>
    at_G i x0 _ h0 (by rw [h1]; show _ = 256 * g.val + x1.val; omega)
  refine View.canon_apply_of_pieces (Val := Elt Ideal) (e := .bf16) G _ ?_ (ix2 r k) ?_
  · refine List.forall_mem_cons.mpr ⟨fun x => ?_, List.forall_mem_cons.mpr ⟨fun x => ?_, List.forall_mem_cons.mpr ⟨fun x => ?_, List.forall_mem_cons.mpr ⟨fun x => ?_,
      List.forall_mem_cons.mpr ⟨fun x => ?_, List.forall_mem_nil _⟩⟩⟩⟩⟩
    on_goal 1 =>
      obtain ⟨x0, x1, rfl⟩ : ∃ (a : Fin 256) (b : Fin 1024), x = ix2 a b := idx2 (A := 256) (B := 1024) x
      exact (p4 x0 x1).trans (at_G _ x0 (gateCol x1) rfl (by show 1024 + 1 * x1.val = 1024 + x1.val; omega)).symm
    all_goals obtain ⟨x0, x1, rfl⟩ : ∃ (a : Fin 256) (b : Fin 256), x = ix2 a b := idx2 (A := 256) (B := 256) x
    · exact (p3 x0 x1).trans (at_V _ x0 3 x1 rfl rfl).symm
    · exact (p2 x0 x1).trans (at_V _ x0 2 x1 rfl rfl).symm
    · exact (p1 x0 x1).trans (at_V _ x0 1 x1 rfl rfl).symm
    · exact (p0 x0 x1).trans (at_V _ x0 0 x1 rfl rfl).symm
  · have box : ∀ (lo n : ℕ) (k : Fin 2048) (inb : ∀ a, (![0, lo] : Fin 2 → ℕ) a + (![256, n] : Fin 2 → ℕ) a ≤ S256x2048.size a), lo ≤ k.val → k.val < lo + n →
        (ix2 r k : S256x2048.Idx) ∈ (Rect.unit (s := S256x2048) ![0, lo] ![256, n] inb).set := fun lo n k inb h h' =>
      (Rect.mem_set_unit (inb := inb)).mpr fun a => match a with
        | ⟨0, _⟩ => ⟨Nat.zero_le _, by show r.val < 0 + 256; omega⟩
        | ⟨1, _⟩ => ⟨h, h'⟩
    by_cases h4 : 1024 ≤ k.val
    · exact ⟨_, .head _, box 1024 1024 k inb_S256x2048_S256x1024_0_1024 h4 (by omega)⟩
    by_cases h3 : 768 ≤ k.val
    · exact ⟨_, .tail _ (.head _), box 768 256 k inb_S256x2048_S256x256_0_768 h3 (by omega)⟩
    by_cases h2 : 512 ≤ k.val
    · exact ⟨_, .tail _ (.tail _ (.head _)), box 512 256 k inb_S256x2048_S256x256_0_512 h2 (by omega)⟩
    by_cases h1 : 256 ≤ k.val
    · exact ⟨_, .tail _ (.tail _ (.tail _ (.head _))), box 256 256 k inb_S256x2048_S256x256_0_256 h1 (by omega)⟩
    · exact ⟨_, .tail _ (.tail _ (.tail _ (.tail _ (.head _)))), box 0 256 k inb_S256x2048_S256x256_0_0 (by omega) (by omega)⟩

theorem dhB_apply (r : Fin 256) (d : Fin 1024) : (dhB m c t (ix2 r d) : EReal) = dIn (pA m c) (qA m c) (wA m c) (rowOf t r) d := by
  have h := fun k => dprojB_apply m c t r k
  have h7 := fun k => iblk7_apply m c t k d
  unfold dhB
  generalize dprojB m c t = x at *
  generalize iblk m c 7 t = w at *
  pointwise [k0_pay42]
  simp only [h, h7]
  rfl

/-! ### The norm -/

theorem rs_apply (r : Fin 256) (z : Fin 1) : (k0_pay40 (iblk m c 0 t) (ix2 r z) : EReal) = rs (xA m c (rowOf t r)) := by
  have h := fun d => iblk0_apply m c t r d
  generalize iblk m c 0 t = x at *
  pointwise [k0_pay40]
  simp only [h]
  rfl

theorem unit_apply (r : Fin 256) (d : Fin 1024) : (k0_pay41 (iblk m c 0 t) (ix2 r d) : EReal) = unit (xA m c) (rowOf t r) d := by
  have h := iblk0_apply m c t r d
  have hr := rs_apply m c t r 0
  generalize iblk m c 0 t = x at *
  generalize hs : k0_pay40 x = s at *
  unfold k0_pay41
  rw [hs]
  pointwise
  rw [h, hr]
  rfl

theorem hB_apply (r : Fin 256) (d : Fin 1024) : (hB m c t (ix2 r d) : EReal) = normed (xA m c) (ngA m c) (scA m c) (shA m c) (rowOf t r) d := by
  have hu := unit_apply m c t r d
  have h5 := iblk5_apply m c t d
  have h1 := scaleRow_apply m c t d
  have h2 := shiftRow_apply m c t d
  unfold hB
  generalize iblk m c 5 t = n at *
  generalize scaleRow m c t = y at *
  generalize shiftRow m c t = z at *
  generalize iblk m c 0 t = x at *
  generalize hs : k0_pay41 x = s at *
  unfold k0_pay43
  rw [hs]
  pointwise [k0_pay38, k0_pay39]
  rw [hu, h5, h1, h2]
  rfl

/-! ### The block of the layer's rows -/

theorem out8_apply (r : Fin 256) (d : Fin 1024) : ((outsAt0 m c t.val t.isLt).1 (ix2 r d) : EReal)
    = dRows (xA m c) (dIn (pA m c) (qA m c) (wA m c)) (yA m c) (ngA m c) (scA m c) (rowOf t r) d := by
  have h5 := fun d => iblk5_apply m c t d
  have h6 := fun d => scaleRow_apply m c t d
  have hr := rs_apply m c t r 0
  have hu := fun d => unit_apply m c t r d
  have hh := fun d => dhB_apply m c t r d
  have h1 := iblk1_apply m c t r d
  rw [out8]
  unfold dxB
  generalize iblk m c 5 t = n at *
  generalize scaleRow m c t = y at *
  generalize k0_pay40 (iblk m c 0 t) = s at *
  generalize k0_pay41 (iblk m c 0 t) = u at *
  generalize dhB m c t = H at *
  generalize iblk m c 1 t = z at *
  pointwise [k0_pay47, k0_pay38, k0_pay39]
  simp only [h5, h6, hr, hu, hh, h1]
  rfl

end Cert.Kernel4Ideal.Lead
-- ==== Proof.Lead.Accum.lean ====
/-
  The pooling gradient kernel's accumulators on the extended reals: the projection's gradient and the table of sums, after
  the last point, and the table of the vectors' gradients.
-/
module

public import proofs.«01_k».proof.Proof.Lead.Value
public import proofs.«01_k».proof.Proof.Common.Sums

@[expose] public section

noncomputable section

open Idealize.ShloMosaic Idealize.ShloMosaic.TcCoe Idealize.SL.Sem

namespace Cert.Kernel4Ideal.Lead

open Cert.Kernel4Ideal Cert.Kernel4Ideal.Gen Cert.Step Cert.Lead
open Cert.Kernel3Ideal.Pool (rowR putR rowR_apply putR_hit putR_miss)
open Cert.Step.Norm (rs unit normed dRows dShift dBoth)

variable (m : (ℓ : Loc nD τ sig) → Buf (Elt Ideal) ℓ) (c : Dev nD) (t : Fin cfg0.N)

/-- The gradient of the normed rows, and the normed rows, of the arrays the windows read. -/
abbrev dInA : Fin 4096 → Fin 1024 → EReal := dIn (pA m c) (qA m c) (wA m c)
abbrev normA : Fin 4096 → Fin 1024 → EReal := normed (xA m c) (ngA m c) (scA m c) (shA m c)

/-! ### The projection's gradient -/

/-- The rows of point `n` in the projection's gradient. -/
def projPart (k : Fin 2048) (d : Fin 1024) (n : ℕ) (h : n < cfg0.N) : EReal :=
  ∑ r : Fin 256, dProj (pA m c) (qA m c) (rowOf ⟨n, h⟩ r) k * normA m c (rowOf ⟨n, h⟩ r) d

theorem add_apply (x : Vec Ideal S2048x1024 .f32) (k : Fin 2048) (d : Fin 1024) :
    (k0_pay44 (dprojB m c t) x (hB m c t) (ix2 k d) : EReal) = x (ix2 k d) + projPart m c k d t.val t.isLt := by
  have h1 := fun r => dprojB_apply m c t r k
  have h2 := fun r => hB_apply m c t r d
  generalize dprojB m c t = y at *
  generalize hB m c t = z at *
  pointwise [k0_pay44]
  simp only [h1, h2]
  rfl

theorem dw_last (ht : t.val % 16 = 15) (k : Fin 2048) (d : Fin 1024) : ((outsAt0 m c t.val t.isLt).2.2.2.1 (ix2 k d) : EReal)
    = dWeight (pA m c) (qA m c) (xA m c) (ngA m c) (scA m c) (shA m c) k d := by
  have hN : cfg0.N = 16 := N_0
  obtain rfl : t = ⟨15, by rw [hN]; decide⟩ := Fin.ext (by have := t.isLt; show t.val = 15; omega)
  rw [fold_eq_sum (fun n h => (outsAt0 m c n h).2.2.2.1 (ix2 k d)) (projPart m c k d) (fun h => ?_)
    (fun n h => (congrFun (dw_later m c ⟨n + 1, h⟩ (by dsimp only; omega)) _).trans (add_apply m c ⟨n + 1, h⟩ _ k d))]
  · exact sum_rows 256 16 rfl (fun R => dProj (pA m c) (qA m c) R k * normA m c R d)
  · refine (congrFun (dw_zero m c ⟨0, h⟩ rfl) _).trans ((add_apply m c ⟨0, h⟩ _ k d).trans ?_)
    rw [show (k0_pay5 (F := Ideal) (ix2 k d) : EReal) = 0 by pointwise [k0_pay5], zero_add]

/-! ### The table of sums -/

/-- What point `n` adds to row `i`: to the first the shift's gradient, to the second what the scale's and the gain's share. -/
def rowPart (i : Fin 8) (d : Fin 1024) (n : ℕ) (h : n < cfg0.N) : EReal :=
  ∑ r : Fin 256, if i.val = 0 then dInA m c (rowOf ⟨n, h⟩ r) d
    else if i.val = 1 then dInA m c (rowOf ⟨n, h⟩ r) d * unit (xA m c) (rowOf ⟨n, h⟩ r) d else 0

theorem addRows_apply (x : Vec Ideal S8x1024 .f32) (i : Fin 8) (d : Fin 1024) :
    addRows m c t x (ix2 i d) = (x (ix2 i d) : EReal) + rowPart m c i d t.val t.isLt := by
  have hh := fun r => dhB_apply m c t r d
  have hu := fun r => unit_apply m c t r d
  unfold addRows rowPart
  by_cases h0 : i = 0
  · subst h0
    have e := rowR_apply x 0 0 d
    rw [putR_miss _ 1 0 (by decide), putR_hit]
    generalize rowR x 0 = y at *
    generalize dhB m c t = u at *
    pointwise [k0_pay45]
    simp only [e, hh, Fin.val_zero, if_true]
  by_cases h1 : i = 1
  · subst h1
    have e := rowR_apply x 1 0 d
    rw [putR_hit]
    generalize rowR x 1 = y at *
    generalize dhB m c t = u at *
    generalize k0_pay41 (iblk m c 0 t) = s at *
    pointwise [k0_pay46]
    simp only [e, hh, hu]
  rw [putR_miss _ 1 i (fun h => h1 h.symm), putR_miss _ 0 i (fun h => h0 h.symm), Finset.sum_eq_zero fun r _ => ?_, add_zero]
  rw [if_neg (show ¬i.val = 0 from fun h => h0 (Fin.ext h)), if_neg (show ¬i.val = 1 from fun h => h1 (Fin.ext h))]

theorem rows_last (ht : t.val % 16 = 15) (i : Fin 8) (d : Fin 1024) : ((outsAt0 m c t.val t.isLt).2.2.2.2 (ix2 i d) : EReal)
    = if i.val = 0 then dShift (dInA m c) d else if i.val = 1 then dBoth (xA m c) (dInA m c) d else 0 := by
  have hN : cfg0.N = 16 := N_0
  obtain rfl : t = ⟨15, by rw [hN]; decide⟩ := Fin.ext (by have := t.isLt; show t.val = 15; omega)
  rw [fold_eq_sum (fun n h => (outsAt0 m c n h).2.2.2.2 (ix2 i d)) (rowPart m c i d) (fun h => ?_) (fun n h => ?_)]
  · refine (sum_rows 256 16 rfl (fun R => if i.val = 0 then dInA m c R d else if i.val = 1 then dInA m c R d * unit (xA m c) R d else 0)).trans ?_
    split
    · rfl
    split
    · rfl
    · exact Finset.sum_const_zero
  · refine (congrFun (rows_zero m c ⟨0, h⟩ rfl) _).trans ((addRows_apply m c ⟨0, h⟩ _ i d).trans ?_)
    rw [show (k0_pay6 (F := Ideal) (ix2 i d) : EReal) = 0 by pointwise [k0_pay6], zero_add]
  · exact (congrFun (rows_later m c ⟨n + 1, h⟩ (by dsimp only; omega)) _).trans (addRows_apply m c ⟨n + 1, h⟩ _ i d)

/-- Row `i` of the table of the vectors' gradients: the shift, the scale and the gain. -/
def sumRow (i : Fin 8) (d : Fin 1024) : EReal :=
  if i.val = 0 then dShift (dInA m c) d else if i.val = 1 then dBoth (xA m c) (dInA m c) d * ngA m c d
    else if i.val = 3 then dBoth (xA m c) (dInA m c) d * (1 + scA m c d) else 0

theorem finish_last (ht : t.val % 16 = 15) (i : Fin 8) (d : Fin 1024) : ((outsAt0 m c t.val t.isLt).2.2.1 (ix2 i d) : EReal) = sumRow m c i d := by
  have e0 := rows_last m c t ht 0 d
  have e1 := rows_last m c t ht 1 d
  have h5 := iblk5_apply m c t d
  have h6 := scaleRow_apply m c t d
  rw [out10 m c t ht]
  generalize (outsAt0 m c t.val t.isLt).2.2.2.2 = x at *
  have r0 := (rowR_apply x 0 0 d).trans e0
  have r1 := (rowR_apply x 1 0 d).trans e1
  rw [if_pos (by rfl)] at r0
  rw [if_neg (by decide), if_pos (by rfl)] at r1
  unfold finish sumRow
  by_cases i0 : i = 0
  · subst i0
    rw [putR_miss _ 3 0 (by decide), putR_miss _ 1 0 (by decide), putR_hit, if_pos (by rfl)]
    exact r0
  by_cases i1 : i = 1
  · subst i1
    rw [putR_miss _ 3 1 (by decide), putR_hit, if_neg (by decide), if_pos (by rfl)]
    generalize rowR x 1 = y at *
    generalize iblk m c 5 t = n at *
    pointwise [k0_pay3]
    rw [r1, h5]
  by_cases i3 : i = 3
  · subst i3
    rw [putR_hit, if_neg (by decide), if_neg (by decide), if_pos (by rfl)]
    generalize rowR x 1 = y at *
    generalize scaleRow m c t = n at *
    pointwise [k0_pay4]
    rw [r1, h6]
  rw [putR_miss _ 3 i (fun h => i3 h.symm), putR_miss _ 1 i (fun h => i1 h.symm), putR_miss _ 0 i (fun h => i0 h.symm),
    if_neg (show ¬i.val = 0 from fun h => i0 (Fin.ext h)), if_neg (show ¬i.val = 1 from fun h => i1 (Fin.ext h)), if_neg (show ¬i.val = 3 from fun h => i3 (Fin.ext h))]
  pointwise [k0_pay2]

end Cert.Kernel4Ideal.Lead
-- ==== Proof.Lead.Arrays.lean ====
/-
  The pooling gradient kernel's result arrays after the run, as functions of the arrays its windows read.
-/
module

public import proofs.«01_k».proof.Proof.Lead.Accum
public import Idealize.ShloMosaic.Lib.Pipeline.ValueKit

@[expose] public section

noncomputable section

open Idealize.ShloMosaic Idealize.ShloMosaic.TcCoe Idealize.SL.Sem
open Idealize.ShloMosaic.Pipeline (Dat)

namespace Cert.Kernel4Ideal.Lead

open Cert.Kernel4Ideal Cert.Kernel4Ideal.Gen Cert.Step Cert.Lead
open Cert.Step.Norm (dRows)

variable (m : (ℓ : Loc nD τ sig) → Buf (Elt Ideal) ℓ) (c : Dev nD)

/-- The three results. -/
def dxR : FVec Ideal S4096x1024 .f32 := fun i => dRows (xA m c) (dInA m c) (yA m c) (ngA m c) (scA m c) (i 0) (i 1)
def dwR : FVec Ideal S2048x1024 .bf16 := fun i => dWeight (pA m c) (qA m c) (xA m c) (ngA m c) (scA m c) (shA m c) (i 0) (i 1)
def vecR : FVec Ideal S8x1024 .f32 := fun i => sumRow m c (i 0) (i 1)

theorem arr8 : (dats m 0 c).arrAt 8 cfg0.N = dxR m c := by
  refine (dats m 0 c).arrAt_eq_of_covers 8 _ (by decide +kernel) fun t hf y => ?_
  blk_simp
  rw [after0_8]
  obtain ⟨r, d, rfl⟩ := idx2 (A := 256) (B := 1024) y
  refine (out8_apply m c t r d).trans (congrArg₂ (fun R q => dRows (xA m c) (dInA m c) (yA m c) (ngA m c) (scA m c) R q) (Fin.ext ?_) (Fin.ext ?_))
  · show 256 * t.val + r.val = win0_8.index t 0 * 256 + 1 * r.val; rw [(index_rows t).2.2.2.2.2.1]; omega
  · show d.val = win0_8.index t 1 * 1024 + 1 * d.val; rw [(index_rows t).2.2.2.2.2.2]; omega

theorem arr9 : (dats m 0 c).arrAt 9 cfg0.N = dwR m c := by
  refine (dats m 0 c).arrAt_eq_of_covers 9 _ (by decide +kernel) fun t hf y => ?_
  have h15 : t.val % 16 = 15 := (flush0_9 t).mp hf
  have e := dw_last m c t h15
  blk_simp
  rw [after0_9, out9 m c t h15]
  generalize (outsAt0 m c t.val t.isLt).2.2.2.1 = x at *
  obtain ⟨k, d, rfl⟩ := idx2 (A := 2048) (B := 1024) y
  have p : (k0_pay1 x (ix2 k d) : EReal) = x (ix2 k d) := by pointwise [k0_pay1]
  refine (p.trans (e k d)).trans (congrArg₂ (fun k d => dWeight (pA m c) (qA m c) (xA m c) (ngA m c) (scA m c) (shA m c) k d) (Fin.ext ?_) (Fin.ext ?_))
  · show k.val = win0_9.index t 0 * 2048 + 1 * k.val; rw [(index_whole t).2.2.2.1.1]; omega
  · show d.val = win0_9.index t 1 * 1024 + 1 * d.val; rw [(index_whole t).2.2.2.1.2]; omega

theorem arr10 : (dats m 0 c).arrAt 10 cfg0.N = vecR m c := by
  refine (dats m 0 c).arrAt_eq_of_covers 10 _ (by decide +kernel) fun t hf y => ?_
  have h15 : t.val % 16 = 15 := (flush0_10 t).mp hf
  blk_simp
  rw [after0_10]
  obtain ⟨i, d, rfl⟩ := idx2 (A := 8) (B := 1024) y
  refine (finish_last m c t h15 i d).trans (congrArg₂ (sumRow m c) (Fin.ext ?_) (Fin.ext ?_))
  · show i.val = win0_10.index t 0 * 8 + 1 * i.val; rw [(index_whole t).2.2.2.2.1]; omega
  · show d.val = win0_10.index t 1 * 1024 + 1 * d.val; rw [(index_whole t).2.2.2.2.2]; omega

end Cert.Kernel4Ideal.Lead
-- ==== Proof.Lead.Reference.lean ====
/-
  The pooling layer's gradients down to its input as the reference computes them, read at an index.
-/
module

public import proofs.«01_k».proof.Proof.Lead.Formula
public import proofs.«01_k».proof.Proof.Gen.Reference4Ideal.Read
public import Idealize.ShloMosaic.Lib.Pointwise
public import Idealize.ShloMosaic.Lib.KernelVsHost

@[expose] public section

noncomputable section

open Idealize.ShloMosaic Idealize.ShloMosaic.TcCoe Idealize.SL.Sem

namespace Cert.Reference4Ideal.Lead

open Cert.Reference4Ideal Cert.Reference4Ideal.Gen Cert.Reference4Ideal.Read Cert.Step Cert.Lead
open Cert.Pool (window col count)
open Cert.Step.Norm (mean power rs unit normed dUnit' dPower dRows' dShift dBoth)

variable (x0 x1 x2 x3 : FVec Ideal S4096x1024 .f32) (x4 : FVec Ideal S1024x2048 .f32) (x5 : FVec Ideal S4x3072 .f32) (x6 : FVec Ideal S4x1024 .f32)

/-- The arrays as functions of their coordinates, the norm's gain, and the layer's adaLN shift and scale. -/
def mat (x : FVec Ideal S4096x1024 .f32) (r : Fin 4096) (d : Fin 1024) : EReal := x (ix2 r d)
def wOf (x : FVec Ideal S1024x2048 .f32) (k : Fin 2048) (d : Fin 1024) : EReal := x (ix2 d k)
def gainOf (x : FVec Ideal S4x1024 .f32) (d : Fin 1024) : EReal := x (ix2 1 d)
def shiftOf (x : FVec Ideal S4x3072 .f32) (d : Fin 1024) : EReal := x (ix2 1 ⟨d.val, by omega⟩)
def scaleOf (x : FVec Ideal S4x3072 .f32) (d : Fin 1024) : EReal := x (ix2 1 ⟨1024 + d.val, by omega⟩)

/-! ### The gradient of the projection's rows -/

theorem count_apply (r : Fin 4096) (g : Fin 4) : val_main_v60 (F := Ideal) (ix2 r g) = count (window g) r.val := by
  obtain rfl | rfl | rfl | rfl : g = 0 ∨ g = 1 ∨ g = 2 ∨ g = 3 := by omega
  all_goals
    pointwise [val_main_v60, val_main_v59, val_main_v58, val_main_v57, val_main_v56, val_main_v55, val_main_v54, val_main_v53, val_main_v52, val_main_v51, val_main_v50,
      val_main_v49, val_main_v48, val_main_v47, val_main_v46, val_main_v45, val_main_v44, val_main_c, val_main_c_12, val_main_c_13, val_main_c_14, val_main_c_15]
    rw [show IntOp.addi (1#32) (BitVec.ofNat 32 r.val) = BitVec.ofNat 32 (r.val + 1) from (BitVec.add_comm _ _).trans (BitVec.ofNat_add_ofNat _ _)]
    rfl

theorem grouped_apply (r : Fin 4096) (g : Fin 4) (p : Fin 256) : val_main_v68 (F := Ideal) x2 (ix3 r g p) = mat x2 r (col g p) := by
  pointwise [val_main_v68]
  exact congrArg x2 (congrArg₂ ix2 (Fin.ext (by dsimp only)) (Fin.ext (by show _ = 256 * g.val + p.val; dsimp only; omega)))

theorem part_apply (r : Fin 4096) (g : Fin 4) (p : Fin 256) : val_main_v72 (F := Ideal) x2 (ix3 r g p) = part (mat x2) g p r.val := by
  have e1 := grouped_apply x2 r g p
  have e2 := count_apply r g
  unfold val_main_v72 val_main_v71 val_main_v63
  generalize val_main_v68 (F := Ideal) x2 = a at *
  generalize val_main_v60 (F := Ideal) = n at *
  pointwise
  rw [e1, e2]
  unfold part
  rw [dif_pos r.isLt]

/-- Rows of one group set into the four groups from the first row on, zero elsewhere: at an index. -/
theorem pad_group {n w l b : ℕ} (z : FVec Ideal ⟨3, ![n, 1, 256]⟩ .f32) (v : FVec Ideal S_ .f32) (hv : ∀ i, (v i : EReal) = 0)
    (h : (⟨3, ![n, 1, 256]⟩ : Shape).Pads ![0, l, 0] ![w, b, 0] ![0, 0, 0] S4096x4x256) (hu : 0 < S_.numel) (r : Fin 4096) (g : Fin 4) (p : Fin 256) :
    (pad S4096x4x256 ![0, l, 0] ![w, b, 0] ![0, 0, 0] z v h hu (ix3 r g p) : EReal) = if hh : g.val = l ∧ r.val < n then z (ix3 ⟨r.val, hh.2⟩ 0 p) else 0 := by
  by_cases hh : g.val = l ∧ r.val < n
  · rw [dif_pos hh]
    refine pad_apply_of_inside _ _ _ z v h hu _ (ix3 ⟨r.val, hh.2⟩ 0 p) fun a => ?_
    fin_cases a
    · show r.val = 0 + r.val * (0 + 1); omega
    · show g.val = l + 0 * (0 + 1); omega
    · show p.val = 0 + p.val * (0 + 1); omega
  · rw [dif_neg hh]
    refine Eq.trans ?_ (hv (Shape.Idx.first hu))
    by_cases hg : g.val = l
    · refine pad_apply_of_not_inside _ _ _ z v h hu _ 0 fun q => hh ⟨hg, ?_⟩
      have : (r.val - 0) / (0 + 1) < n := q.2.2
      omega
    · refine pad_apply_of_not_inside _ _ _ z v h hu _ 1 fun q => hg ?_
      have h1 : l ≤ g.val := q.1
      have h2 : (g.val - l) / (0 + 1) < 1 := q.2.2
      omega

/-- One group's rows, a window later and with the sign turned, set into the four groups. -/
theorem later_group {y : FVec Ideal S4096x4x256 .f32} {P : Fin 4096 → Fin 1024 → EReal} {p : Fin 256} (h : ∀ r g, (y (ix3 r g p) : EReal) = part P g p r.val)
    {n w : ℕ} {l : Fin 4} (hw : window l = w) (hn : n + w = 4096) {z : FVec Ideal ⟨3, ![n, 1, 256]⟩ .f32}
    (hz : ∀ r : Fin n, (z (ix3 r 0 p) : EReal) = -(y (ix3 ⟨w + r.val, by omega⟩ l p) : EReal)) (r : Fin 4096) (g : Fin 4) :
    (if hh : g.val = l.val ∧ r.val < n then (z (ix3 ⟨r.val, hh.2⟩ 0 p) : EReal) else 0) = if g = l then -part P g p (r.val + window g) else 0 := by
  subst hw
  by_cases hg : g = l
  · subst hg
    rw [if_pos rfl]
    by_cases hr : r.val < n
    · rw [dif_pos ⟨rfl, hr⟩, hz, h]
      exact congrArg (fun i => -part P g p i) (Nat.add_comm _ _)
    · rw [dif_neg fun q => hr q.2]
      unfold part
      rw [dif_neg (by omega), neg_zero]
  · rw [if_neg hg, dif_neg fun q => hg (Fin.ext q.1)]

/-- The running sum's cotangent: a row's part, less the part of the row a window later. -/
theorem diff_apply (r : Fin 4096) (g : Fin 4) (p : Fin 256) :
    val_main_v93 (F := Ideal) x2 (ix3 r g p) = part (mat x2) g p r.val + -part (mat x2) g p (r.val + window g) := by
  have e := fun r g => part_apply x2 r g p
  have l3 : val_main_v80 (F := Ideal) x2 (ix3 r g p) = if g = 3 then -part (mat x2) g p (r.val + window g) else 0 := by
    unfold val_main_v80 val_main_v79 val_main_v77 val_main_v73
    generalize val_main_v72 (F := Ideal) x2 = y at *
    exact (pad_group _ _ (fun i => by pointwise [val_main_cst_17]) _ _ r g p).trans (later_group (w := 16) (l := 3) e rfl rfl (fun r => by pointwise) r g)
  have l2 : val_main_v84 (F := Ideal) x2 (ix3 r g p) = if g = 2 then -part (mat x2) g p (r.val + window g) else 0 := by
    unfold val_main_v84 val_main_v83 val_main_v76 val_main_v73
    generalize val_main_v72 (F := Ideal) x2 = y at *
    exact (pad_group _ _ (fun i => by pointwise [val_main_cst_18]) _ _ r g p).trans (later_group (w := 8) (l := 2) e rfl rfl (fun r => by pointwise) r g)
  have l1 : val_main_v88 (F := Ideal) x2 (ix3 r g p) = if g = 1 then -part (mat x2) g p (r.val + window g) else 0 := by
    unfold val_main_v88 val_main_v87 val_main_v75 val_main_v73
    generalize val_main_v72 (F := Ideal) x2 = y at *
    exact (pad_group _ _ (fun i => by pointwise [val_main_cst_19]) _ _ r g p).trans (later_group (w := 4) (l := 1) e rfl rfl (fun r => by pointwise) r g)
  have l0 : val_main_v92 (F := Ideal) x2 (ix3 r g p) = if g = 0 then -part (mat x2) g p (r.val + window g) else 0 := by
    unfold val_main_v92 val_main_v91 val_main_v74 val_main_v73
    generalize val_main_v72 (F := Ideal) x2 = y at *
    exact (pad_group _ _ (fun i => by pointwise [val_main_cst_20]) _ _ r g p).trans (later_group (w := 2) (l := 0) e rfl rfl (fun r => by pointwise) r g)
  unfold val_main_v93 val_main_v89 val_main_v85 val_main_v81
  generalize val_main_v72 (F := Ideal) x2 = y at *
  generalize val_main_v80 (F := Ideal) x2 = z3 at *
  generalize val_main_v84 (F := Ideal) x2 = z2 at *
  generalize val_main_v88 (F := Ideal) x2 = z1 at *
  generalize val_main_v92 (F := Ideal) x2 = z0 at *
  pointwise
  rw [e, l3, l2, l1, l0]
  obtain rfl | rfl | rfl | rfl : g = 0 ∨ g = 1 ∨ g = 2 ∨ g = 3 := by omega
  all_goals simp

section Finite

variable (h2 : ∀ r k, IsReal (mat x2 r k))

include h2 in
theorem value_apply (r : Fin 4096) (g : Fin 4) (p : Fin 256) : val_main_v95 (F := Ideal) x2 (ix3 r g p) = dValue (mat x2) r g p := by
  have e1 := diff_apply x2
  have e2 := grouped_apply x2 r g p
  have e3 : val_main_v94 (F := Ideal) x2 (ix3 r g p) = lead (part (mat x2) g p) (window g) r.val := by
    unfold val_main_v94
    generalize val_main_v93 (F := Ideal) x2 = y at *
    refine (cumsum_apply y _ (fun i => by pointwise [val_main_call1_v0, val_main_call1_cst]) _ _ r g p).trans ?_
    rw [← running_sub (part (mat x2) g p) (part_real h2 g p) (window g) r.val 4096 (fun i hi => dif_neg (by omega)) r.isLt]
    refine congrArg (fun e => lead e 4096 r.val) (funext fun i => ?_)
    split
    · exact e1 _ g p
    · unfold part
      rw [dif_neg (by omega), dif_neg (by omega), neg_zero, add_zero]
  unfold val_main_v95 val_main_v70
  generalize val_main_v94 (F := Ideal) x2 = a at *
  generalize val_main_v68 (F := Ideal) x2 = b at *
  pointwise
  rw [e2, e3, add_comm]
  rfl

include h2 in
theorem dproj_apply (r : Fin 4096) (k : Fin 2048) : val_main_v98 (F := Ideal) x2 x3 (ix2 r k) = dProj (mat x2) (mat x3) r k := by
  have e := value_apply x2 h2 r
  unfold val_main_v98 val_main_v97 val_main_v96 val_main_v69
  generalize val_main_v95 (F := Ideal) x2 = y at *
  pointwise [val_main_cst_16, val_main_cst_21]
  unfold dProj
  by_cases h : k.val < 1024
  · rw [dif_neg (by omega), dif_pos h, dif_pos h, zero_add]
    exact e _ _
  · rw [dif_pos ⟨by omega, by omega⟩, dif_neg h, dif_neg h, add_zero]
    rfl

/-! ### The norm -/

theorem power_apply (r : Fin 4096) (z : Fin 1) : val_main_v9 (F := Ideal) x0 (ix2 r z) = power (mat x0 r) := by
  pointwise [val_main_v9, val_main_v8, val_main_v7, val_main_v6, val_main_v5, val_main_v4, val_main_v3, val_main_cst, val_main_cst_0, val_main_cst_1]
  rfl

theorem rs_apply (r : Fin 4096) (z : Fin 1) : val_main_v10 (F := Ideal) x0 (ix2 r z) = rs (mat x0 r) := by
  have e := power_apply x0 r z
  unfold val_main_v10
  generalize val_main_v9 (F := Ideal) x0 = y at *
  pointwise
  rw [e]
  rfl

theorem unit_apply (r : Fin 4096) (d : Fin 1024) : val_main_v15 (F := Ideal) x0 (ix2 r d) = unit (mat x0) r d := by
  have e := rs_apply x0 r 0
  unfold val_main_v15 val_main_v14
  generalize val_main_v10 (F := Ideal) x0 = y at *
  pointwise
  rw [e]
  rfl

theorem gained_apply (r : Fin 4096) (d : Fin 1024) : val_main_v17 (F := Ideal) x0 x6 (ix2 r d) = unit (mat x0) r d * gainOf x6 d := by
  have e := unit_apply x0 r d
  unfold val_main_v17
  generalize val_main_v15 (F := Ideal) x0 = y at *
  pointwise [val_main_v16, val_main_v2]
  rw [e]
  rfl

theorem scale_apply (z : Fin 1) (d : Fin 1024) : val_main_v19 (F := Ideal) x5 (ix2 z d) = 1 + scaleOf x5 d := by
  pointwise [val_main_v19, val_main_v18, val_main_v1, val_main_cst_3]
  rfl

theorem normed_apply (r : Fin 4096) (d : Fin 1024) : val_main_v23 (F := Ideal) x0 x5 x6 (ix2 r d) = normed (mat x0) (gainOf x6) (scaleOf x5) (shiftOf x5) r d := by
  have e1 := gained_apply x0 x6 r d
  have e2 := scale_apply x5 0 d
  unfold val_main_v23 val_main_v22 val_main_v21 val_main_v20
  generalize val_main_v17 (F := Ideal) x0 x6 = y at *
  generalize val_main_v19 (F := Ideal) x5 = z at *
  pointwise [val_main_v0]
  rw [e1, e2]
  rfl

/-! ### The gradients of the normed rows and of the projection -/

include h2

theorem dh_apply (r : Fin 4096) (d : Fin 1024) : val_main_v101 (F := Ideal) x2 x3 x4 (ix2 r d) = dIn (mat x2) (mat x3) (wOf x4) r d := by
  have e := dproj_apply x2 x3 h2 r
  unfold val_main_v101
  generalize val_main_v98 (F := Ideal) x2 x3 = y at *
  pointwise
  simp only [e]
  rfl

theorem dw_apply (k : Fin 2048) (d : Fin 1024) : val_main_v133 (F := Ideal) x0 x2 x3 x5 x6 (ix2 k d)
    = dWeight (mat x2) (mat x3) (mat x0) (gainOf x6) (scaleOf x5) (shiftOf x5) k d := by
  have e1 := fun r => dproj_apply x2 x3 h2 r k
  have e2 := fun r => normed_apply x0 x5 x6 r d
  unfold val_main_v133 val_main_v132 val_main_v100 val_main_v99
  generalize val_main_v98 (F := Ideal) x2 x3 = y at *
  generalize val_main_v23 (F := Ideal) x0 x5 x6 = z at *
  pointwise
  simp only [e1, e2]
  rfl

/-! ### The sums over rows -/

theorem dshift_apply (z : Fin 1) (d : Fin 1024) : val_main_v103 (F := Ideal) x2 x3 x4 (ix2 z d) = dShift (dIn (mat x2) (mat x3) (wOf x4)) d := by
  have e := fun r => dh_apply x2 x3 x4 h2 r d
  unfold val_main_v103 val_main_v102
  generalize val_main_v101 (F := Ideal) x2 x3 x4 = y at *
  pointwise [val_main_cst_22]
  simp only [e]
  rfl

theorem dscale_apply (z : Fin 1) (d : Fin 1024) : val_main_v106 (F := Ideal) x0 x2 x3 x4 x6 (ix2 z d)
    = ∑ r, unit (mat x0) r d * gainOf x6 d * dIn (mat x2) (mat x3) (wOf x4) r d := by
  have e := fun r => dh_apply x2 x3 x4 h2 r d
  have e' := fun r => gained_apply x0 x6 r d
  unfold val_main_v106 val_main_v105 val_main_v104
  generalize val_main_v101 (F := Ideal) x2 x3 x4 = y at *
  generalize val_main_v17 (F := Ideal) x0 x6 = y' at *
  pointwise [val_main_cst_23]
  simp only [e, e']

theorem scaled_apply (r : Fin 4096) (d : Fin 1024) : val_main_v108 (F := Ideal) x2 x3 x4 x5 (ix2 r d) = dIn (mat x2) (mat x3) (wOf x4) r d * (1 + scaleOf x5 d) := by
  have e := dh_apply x2 x3 x4 h2 r d
  have e' := scale_apply x5 0 d
  unfold val_main_v108 val_main_v107
  generalize val_main_v101 (F := Ideal) x2 x3 x4 = y at *
  generalize val_main_v19 (F := Ideal) x5 = y' at *
  pointwise
  rw [e, e']

theorem dgain_apply (z : Fin 1) (d : Fin 1024) : val_main_v111 (F := Ideal) x0 x2 x3 x4 x5 (ix2 z d)
    = ∑ r, unit (mat x0) r d * (dIn (mat x2) (mat x3) (wOf x4) r d * (1 + scaleOf x5 d)) := by
  have e := fun r => scaled_apply x2 x3 x4 x5 h2 r d
  have e' := fun r => unit_apply x0 r d
  unfold val_main_v111 val_main_v110 val_main_v109
  generalize val_main_v108 (F := Ideal) x2 x3 x4 x5 = y at *
  generalize val_main_v15 (F := Ideal) x0 = y' at *
  pointwise [val_main_cst_24]
  simp only [e, e']

/-- The table: the shift's gradient, the scale's, the gain's in the fourth row, and five rows of zero. -/
theorem vec_apply (i : Fin 8) (d : Fin 1024) : val_main_v131 (F := Ideal) x0 x2 x3 x4 x5 x6 (ix2 i d)
    = if i.val = 0 then dShift (dIn (mat x2) (mat x3) (wOf x4)) d
      else if i.val = 1 then ∑ r, unit (mat x0) r d * gainOf x6 d * dIn (mat x2) (mat x3) (wOf x4) r d
      else if i.val = 3 then ∑ r, unit (mat x0) r d * (dIn (mat x2) (mat x3) (wOf x4) r d * (1 + scaleOf x5 d)) else 0 := by
  have e0 := dshift_apply x2 x3 x4 h2 0 d
  have e1 := dscale_apply x0 x2 x3 x4 x6 h2 0 d
  have e3 := dgain_apply x0 x2 x3 x4 x5 h2 0 d
  unfold val_main_v131
  generalize val_main_v103 (F := Ideal) x2 x3 x4 = y0 at *
  generalize val_main_v106 (F := Ideal) x0 x2 x3 x4 x6 = y1 at *
  generalize val_main_v111 (F := Ideal) x0 x2 x3 x4 x5 = y3 at *
  pointwise [val_main_v129, val_main_v130, val_main_cst_28, val_main_cst_29]
  by_cases i0 : i.val = 0
  · rw [dif_pos (by omega), if_pos i0]
    refine Eq.trans (congrArg y0 ?_) e0
    exact congrArg (fun j => ix2 j d) (Fin.ext i0)
  rw [dif_neg (by omega), if_neg i0]
  by_cases i1 : i.val = 1
  · rw [dif_pos (by omega), if_pos i1]
    refine Eq.trans (congrArg y1 ?_) e1
    exact congrArg (fun j => ix2 j d) (Fin.ext (show i.val - 1 = 0 by omega))
  rw [dif_neg (by omega), if_neg i1]
  by_cases i3 : i.val = 3
  · rw [dif_neg (by omega), dif_pos (by omega), if_pos i3]
    refine Eq.trans (congrArg y3 ?_) e3
    exact congrArg (fun j => ix2 j d) (Fin.ext (show i.val - 1 - 1 - 1 = 0 by omega))
  rw [if_neg i3]
  by_cases i2 : i.val - 1 - 1 < 1
  · rw [dif_pos i2]
  · rw [dif_neg i2, dif_neg (by omega)]

/-! ### The layer's rows -/

theorem dunit_apply (r : Fin 4096) (d : Fin 1024) : val_main_v113 (F := Ideal) x2 x3 x4 x5 x6 (ix2 r d)
    = dUnit' (dIn (mat x2) (mat x3) (wOf x4)) (gainOf x6) (scaleOf x5) r d := by
  have e := scaled_apply x2 x3 x4 x5 h2 r d
  unfold val_main_v113 val_main_v112
  generalize val_main_v108 (F := Ideal) x2 x3 x4 x5 = y at *
  pointwise [val_main_v2]
  rw [e]
  rfl

theorem dpower_apply (r : Fin 4096) (d : Fin 1024) : val_main_v124 (F := Ideal) x0 x2 x3 x4 x5 x6 (ix2 r d)
    = dPower (mat x0) (dIn (mat x2) (mat x3) (wOf x4)) (gainOf x6) (scaleOf x5) r := by
  have e := fun d => dunit_apply x2 x3 x4 x5 x6 h2 r d
  have e' := rs_apply x0 r 0
  have e'' := power_apply x0 r 0
  unfold val_main_v124 val_main_v123 val_main_v122 val_main_v121 val_main_v120 val_main_v116 val_main_v115 val_main_v114 val_main_v13 val_main_v12 val_main_v11
  generalize val_main_v113 (F := Ideal) x2 x3 x4 x5 x6 = y at *
  generalize val_main_v10 (F := Ideal) x0 = y' at *
  generalize val_main_v9 (F := Ideal) x0 = y'' at *
  pointwise [val_main_cst_25, val_main_cst_26, val_main_cst_27, val_main_cst_2]
  unfold dPower
  exact (Fin.sum_univ_one _).trans (congrArg₂ (fun a b : EReal => Ideal.div (a * (Ideal.ofBits FTy.f32 0xBF000000#32 * b)) (Ideal.ofBits FTy.f32 0x44800000#32))
    (Finset.sum_congr rfl fun k _ => congrArg (fun a : EReal => x0 (ix2 r k) * a) (e k)) (congrArg₂ Ideal.div e' e''))

theorem dx_apply (r : Fin 4096) (d : Fin 1024) : val_main_v128 (F := Ideal) x0 x1 x2 x3 x4 x5 x6 (ix2 r d)
    = dRows' (mat x0) (dIn (mat x2) (mat x3) (wOf x4)) (mat x1) (gainOf x6) (scaleOf x5) r d := by
  have e := dunit_apply x2 x3 x4 x5 x6 h2 r d
  have e' := rs_apply x0 r 0
  have e'' := dpower_apply x0 x2 x3 x4 x5 x6 h2 r d
  unfold val_main_v128 val_main_v127 val_main_v126 val_main_v125 val_main_v119 val_main_v118 val_main_v117
  generalize val_main_v124 (F := Ideal) x0 x2 x3 x4 x5 x6 = z at *
  generalize val_main_v113 (F := Ideal) x2 x3 x4 x5 x6 = y at *
  generalize val_main_v10 (F := Ideal) x0 = y' at *
  pointwise
  rw [e, e', e'']
  rfl

end Finite

end Cert.Reference4Ideal.Lead
-- ==== Proof.Lead.Entry.lean ====
/-
  The arrays the kernel reads, as functions of the program's arguments: what the host prepared before the call.
-/
module

public import proofs.«01_k».proof.Proof.Lead.Arrays
public import proofs.«01_k».proof.Proof.Lead.Reference

@[expose] public section

noncomputable section

open Idealize.ShloMosaic Idealize.ShloMosaic.TcCoe Idealize.SL.Sem

namespace Cert.Kernel4Ideal.Lead

open Cert.Kernel4Ideal Cert.Kernel4Ideal.Gen Cert.Step Cert.Lead
open Cert.Reference4Ideal.Lead (mat wOf gainOf shiftOf scaleOf)

variable (m : (ℓ : Loc nD τ sig) → Buf (Elt Ideal) ℓ) (c : Dev nD)

/-- The program's arguments. -/
abbrev a0 : FVec Ideal S4096x1024 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)
abbrev a3 : FVec Ideal S4096x1024 .f32 := m ((c : Thread nD τ).loc main_arg3)
abbrev a4 : FVec Ideal S1024x2048 .f32 := m ((c : Thread nD τ).loc main_arg4)
abbrev a5 : FVec Ideal S4x3072 .f32 := m ((c : Thread nD τ).loc main_arg5)
abbrev a6 : FVec Ideal S4x1024 .f32 := m ((c : Thread nD τ).loc main_arg6)

theorem xA_eq (r : Fin 4096) (d : Fin 1024) : xA m c r d = mat (a0 m c) r d := by
  unfold xA; rw [V_main_arg0]; rfl

theorem yA_eq (r : Fin 4096) (d : Fin 1024) : yA m c r d = mat (a1 m c) r d := by
  unfold yA; rw [V_main_arg1]; rfl

theorem pA_eq (r : Fin 4096) (d : Fin 1024) : pA m c r d = mat (a2 m c) r d := by
  unfold pA; rw [V_main_arg2]; rfl

theorem qA_eq (r : Fin 4096) (d : Fin 1024) : qA m c r d = mat (a3 m c) r d := by
  unfold qA
  simp only [V, hostOps0]
  after_results_simp
  pointwise
  rfl

theorem wA_eq (k : Fin 2048) (d : Fin 1024) : wA m c k d = wOf (a4 m c) k d := by
  unfold wA
  simp only [V, hostOps0]
  after_results_simp
  pointwise
  rfl

theorem ngA_eq (d : Fin 1024) : ngA m c d = gainOf (a6 m c) d := by
  unfold ngA
  simp only [V, hostOps0]
  after_results_simp
  pointwise
  after_results_simp
  pointwise
  rfl

theorem scA_eq (d : Fin 1024) : scA m c d = scaleOf (a5 m c) d := by
  unfold scA
  simp only [V, hostOps0]
  after_results_simp
  pointwise
  after_results_simp
  pointwise
  rfl

theorem shA_eq (d : Fin 1024) : shA m c d = shiftOf (a5 m c) d := by
  unfold shA
  simp only [V, hostOps0]
  after_results_simp
  pointwise
  after_results_simp
  pointwise
  rfl

end Cert.Kernel4Ideal.Lead
-- ==== Proof.Lead.Equation.lean ====
/-
  The gradients down to the pooling layer's input: the precondition read at an index, the equation between the kernel's
  results and the reference's, and the two claims about the programs that rest on it.
-/
module

public import proofs.«01_k».proof.Proof.Lead.Entry
public import proofs.«01_k».proof.Proof.Gate.Equation
public import proofs.«01_k».proof.Proof.Gen.Pre_finite4
public import proofs.«01_k».proof.Proof.Gen.Kernel4Ideal.Value
public import proofs.«01_k».proof.Proof.Gen.Reference4Ideal.Run

@[expose] public section

noncomputable section

open Idealize.ShloMosaic Idealize.ShloMosaic.TcCoe Idealize.SL.Sem

namespace Cert.Lead

open Cert.Step Cert.Step.Gate
open Cert.Step.Norm (dRows dRows_eq scale_eq gain_eq)
open Cert.Reference4Ideal.Lead (mat wOf gainOf shiftOf scaleOf)

section Pre

variable (x0 x1 x2 x3 : FVec Ideal Cert.Pre_finite4.S4096x1024 .f32) (x4 : FVec Ideal Cert.Pre_finite4.S1024x2048 .f32)
  (x5 : FVec Ideal Cert.Pre_finite4.S4x3072 .f32) (x6 : FVec Ideal Cert.Pre_finite4.S4x1024 .f32) (x7 : FVec Ideal Cert.Pre_finite4.S2x1024 .f32)

theorem real_x (h : (Cert.Pre_finite4.fn (F := Ideal) x0 x1 x2 x3 x4 x5 x6 x7).1 = fun _ => 1#1) (r : Fin 4096) (d : Fin 1024) : IsReal (mat x0 r d) := by
  have := congrFun h (ix2 r d)
  pointwise [Cert.Pre_finite4.fn, Cert.Pre_finite4.fn_part1] at this
  exact fin_of_lt _ this

theorem real_pool (h : (Cert.Pre_finite4.fn (F := Ideal) x0 x1 x2 x3 x4 x5 x6 x7).2.1 = fun _ => 1#1) (r : Fin 4096) (d : Fin 1024) : IsReal (mat x2 r d) := by
  have := congrFun h (ix2 r d)
  pointwise [Cert.Pre_finite4.fn, Cert.Pre_finite4.fn_part1] at this
  exact fin_of_lt _ this

theorem real_gate (h : (Cert.Pre_finite4.fn (F := Ideal) x0 x1 x2 x3 x4 x5 x6 x7).2.2.1 = fun _ => 1#1) (r : Fin 4096) (d : Fin 1024) : IsReal (mat x3 r d) := by
  have := congrFun h (ix2 r d)
  pointwise [Cert.Pre_finite4.fn, Cert.Pre_finite4.fn_part1] at this
  exact fin_of_lt _ this

theorem real_w (h : (Cert.Pre_finite4.fn (F := Ideal) x0 x1 x2 x3 x4 x5 x6 x7).2.2.2.1 = fun _ => 1#1) (k : Fin 2048) (d : Fin 1024) : IsReal (wOf x4 k d) := by
  have := congrFun h (ix2 d k)
  pointwise [Cert.Pre_finite4.fn, Cert.Pre_finite4.fn_part1] at this
  exact fin_of_lt _ this

theorem real_gain (h : (Cert.Pre_finite4.fn (F := Ideal) x0 x1 x2 x3 x4 x5 x6 x7).2.2.2.2.1 = fun _ => 1#1) (d : Fin 1024) : IsReal (gainOf x6 d) := by
  have := congrFun h (ix1 d)
  pointwise [Cert.Pre_finite4.fn, Cert.Pre_finite4.fn_part1] at this
  exact fin_of_lt _ this

theorem real_scale (h : (Cert.Pre_finite4.fn (F := Ideal) x0 x1 x2 x3 x4 x5 x6 x7).2.2.2.2.2 = fun _ => 1#1) (d : Fin 1024) : IsReal (scaleOf x5 d) := by
  have := congrFun h (ix1 d)
  pointwise [Cert.Pre_finite4.fn, Cert.Pre_finite4.fn_part1] at this
  exact fin_of_lt _ this

end Pre

section Final

open Cert.Kernel4Ideal Cert.Kernel4Ideal.Lead
open Cert.Reference4Ideal.Read Cert.Reference4Ideal.Lead

variable (m : (ℓ : Loc nD τ sig) → Buf (Elt Ideal) ℓ) (c : Dev nD)

/-- The arrays the kernel reads are the arguments. -/
theorem arrays : xA m c = mat (a0 m c) ∧ yA m c = mat (a1 m c) ∧ pA m c = mat (a2 m c) ∧ qA m c = mat (a3 m c) ∧ wA m c = wOf (a4 m c)
    ∧ ngA m c = gainOf (a6 m c) ∧ scA m c = scaleOf (a5 m c) ∧ shA m c = shiftOf (a5 m c) :=
  ⟨funext₂ (xA_eq m c), funext₂ (yA_eq m c), funext₂ (pA_eq m c), funext₂ (qA_eq m c), funext₂ (wA_eq m c), funext (ngA_eq m c), funext (scA_eq m c), funext (shA_eq m c)⟩

variable (hpre : Cert.Pre_Kernel4Ideal_finite4 m)
include hpre

theorem real_values (r : Fin 4096) (k : Fin 1024) : IsReal (mat (a2 m c) r k) := by
  obtain ⟨p0, p1, _⟩ := hpre c
  exact real_pool _ _ _ _ _ _ _ _ p1 r k

/-- The gradient of the normed rows is real. -/
theorem real_in (r : Fin 4096) (d : Fin 1024) : IsReal (dIn (mat (a2 m c)) (mat (a3 m c)) (wOf (a4 m c)) r d) := by
  obtain ⟨p0, p1, p2, p3, _⟩ := hpre c
  exact dIn_real (real_pool _ _ _ _ _ _ _ _ p1) (real_gate _ _ _ _ _ _ _ _ p2) (real_w _ _ _ _ _ _ _ _ p3) r d

theorem dx_eq : dxR m c = val_main_v128 (F := Ideal) (a0 m c) (a1 m c) (a2 m c) (a3 m c) (a4 m c) (a5 m c) (a6 m c) := by
  obtain ⟨hx, hy, hp, hq, hw, hn, hs, ht⟩ := arrays m c
  have hin := real_in m c hpre
  have hv := real_values m c hpre
  obtain ⟨p0, p1, p2, p3, p4, p5⟩ := hpre c
  funext i
  obtain ⟨r, d, rfl⟩ := idx2 (A := 4096) (B := 1024) i
  refine Eq.trans ?_ (dx_apply _ _ _ _ _ _ _ hv r d).symm
  show dRows (xA m c) (dIn (pA m c) (qA m c) (wA m c)) (yA m c) (ngA m c) (scA m c) r d = _
  rw [hx, hy, hp, hq, hw, hn, hs]
  exact (dRows_eq _ (real_x _ _ _ _ _ _ _ _ p0) hin (real_gain _ _ _ _ _ _ _ _ p4) (real_scale _ _ _ _ _ _ _ _ p5) r d).symm

theorem dw_eq : dwR m c = val_main_v133 (F := Ideal) (a0 m c) (a2 m c) (a3 m c) (a5 m c) (a6 m c) := by
  obtain ⟨hx, hy, hp, hq, hw, hn, hs, ht⟩ := arrays m c
  have hv := real_values m c hpre
  funext i
  obtain ⟨k, d, rfl⟩ := idx2 (A := 2048) (B := 1024) i
  refine Eq.trans ?_ (dw_apply _ _ _ _ _ hv k d).symm
  show dWeight (pA m c) (qA m c) (xA m c) (ngA m c) (scA m c) (shA m c) k d = _
  rw [hx, hp, hq, hn, hs, ht]

theorem vec_eq : vecR m c = val_main_v131 (F := Ideal) (a0 m c) (a2 m c) (a3 m c) (a4 m c) (a5 m c) (a6 m c) := by
  obtain ⟨hx, hy, hp, hq, hw, hn, hs, ht⟩ := arrays m c
  have hin := real_in m c hpre
  have hv := real_values m c hpre
  obtain ⟨p0, p1, p2, p3, p4, p5⟩ := hpre c
  have hX := real_x _ _ _ _ _ _ _ _ p0
  funext i
  obtain ⟨i, d, rfl⟩ := idx2 (A := 8) (B := 1024) i
  refine Eq.trans ?_ (vec_apply _ _ _ _ _ _ hv i d).symm
  show sumRow m c i d = _
  unfold sumRow dInA
  rw [hx, hp, hq, hw, hn, hs, scale_eq hX hin (real_gain _ _ _ _ _ _ _ _ p4), gain_eq hX hin (real_scale _ _ _ _ _ _ _ _ p5)]

end Final

theorem reference_frame : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

set_option maxHeartbeats 4000000 in
theorem value : Cert.algebraic_Kernel4Ideal_Reference4Ideal_pre_finite4 := by
  intro m g m' g' hpre hag
  refine ⟨fun c => Cert.Kernel4Ideal.Lead.dxR m c, fun c => Cert.Kernel4Ideal.Lead.dwR m c, fun c => Cert.Kernel4Ideal.Lead.vecR m c, ?_, ?_⟩
  · refine (θ_run Cert.Kernel4Ideal.defs _ _).mono (fun r h c => ?_) (Cert.Kernel4Ideal.Value.run_blocks m g)
    obtain ⟨h8, h9, h10, hargs⟩ := h c
    exact ⟨h8.trans (Cert.Kernel4Ideal.Lead.arr8 m c), h9.trans (Cert.Kernel4Ideal.Lead.arr9 m c), h10.trans (Cert.Kernel4Ideal.Lead.arr10 m c), hargs⟩
  · refine (θ_run Cert.Reference4Ideal.defs _ _).mono (fun r h c => ?_) (Cert.Reference4Ideal.Value.run m' g')
    obtain ⟨h0, h1, h2, hargs⟩ := h c
    obtain ⟨e0, e1, e2, e3, e4, e5, e6, _⟩ := hag c
    refine ⟨h0.trans ?_, h1.trans ?_, h2.trans ?_, hargs⟩
    · rw [Cert.Reference4Ideal.Read.val_main_v128_eq, e0, e1, e2, e3, e4, e5, e6]; exact (dx_eq m c hpre).symm
    · rw [Cert.Reference4Ideal.Read.val_main_v133_eq, e0, e2, e3, e5, e6]; exact (dw_eq m c hpre).symm
    · rw [Cert.Reference4Ideal.Read.val_main_v131_eq, e0, e2, e3, e4, e5, e6]; exact (vec_eq m c hpre).symm

end Cert.Lead

end
-- ==== Proof.Heads.lean ====
/-
  The gradients of the attention layer's norms, rope and input projection: the reference's frame.
-/
module

public import proofs.«01_k».proof.Proof.Gen.Reference5Ideal
public import proofs.«01_k».proof.Proof.Gen.Reference5Ideal.Run
public import proofs.«01_k».proof.Defs

@[expose] public section

noncomputable section

open Idealize.ShloMosaic Idealize.ShloMosaic.TcCoe Idealize.SL.Sem

namespace Cert.Heads

theorem reference_frame : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

end Cert.Heads

end
-- ==== Proof.Out.Value.lean ====
/-
  The attention layer's gate and output projection, forward: the kernel's two result arrays, on the extended reals, as
  functions of the arrays its windows read.
-/
module

public import proofs.«01_k».proof.Proof.Gate.Formula
public import proofs.«01_k».proof.Proof.Common.Sums
public import proofs.«01_k».proof.Proof.Gen.Kernel6Ideal.Value
public import Idealize.ShloMosaic.Lib.Pipeline.Value
public import Idealize.ShloMosaic.Lib.Pipeline.ValueKit
public import Idealize.ShloMosaic.Lib.Pointwise
public import Idealize.ShloMosaic.Lib.Tactic

@[expose] public section

noncomputable section

open Idealize.ShloMosaic Idealize.ShloMosaic.TcCoe Idealize.SL.Sem

namespace Cert.Kernel6Ideal.Out

open Cert.Kernel6Ideal Cert.Kernel6Ideal.Gen Cert.Step Cert.Step.Gate

variable (m : (ℓ : Loc nD τ sig) → Buf (Elt Ideal) ℓ) (c : Dev nD)

/-- The arrays the windows read: the rows, the attention output, the gate's input, the projection and the adaLN gate. -/
def xA (r : Fin 4096) (d : Fin 1024) : EReal := V m c main_arg0 (ix2 r d)
def oA (r : Fin 4096) (d : Fin 1024) : EReal := V m c main_v0 (ix2 r d)
def gA (r : Fin 4096) (d : Fin 1024) : EReal := V m c main_v1 (ix2 r d)
def wA (k d : Fin 1024) : EReal := V m c main_v2 (ix2 k d)
def gamA (d : Fin 1024) : EReal := V m c main_v22 (ix3 2 2 d)

/-- Row `r` of point `t`'s block. -/
abbrev rowOf (t : Fin cfg0.N) (r : Fin 512) : Fin 4096 := row 512 8 rfl (t.cast N_0) r

/-! ### The windows' blocks -/

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0)
    ∧ (win0_5.index t 0 = t.val ∧ win0_5.index t 1 = 0) ∧ (win0_6.index t 0 = t.val ∧ win0_6.index t 1 = 0) :=
  (by decide +kernel : ∀ t : Fin grid0.N, _)

theorem index_whole : ∀ t : Fin cfg0.N, (win0_3.index t 0 = 0 ∧ win0_3.index t 1 = 0)
    ∧ (win0_4.index t 0 = 2 ∧ win0_4.index t 1 = 0 ∧ win0_4.index t 2 = 0) :=
  (by decide +kernel : ∀ t : Fin grid0.N, _)

/-- An index of a rank-2 array is known by its two coordinates. -/
theorem at_rows {A B : ℕ} {α : Type*} (v : (⟨2, ![A, B]⟩ : Shape).Idx → α) (j : (⟨2, ![A, B]⟩ : Shape).Idx) (r : Fin A) (d : Fin B)
    (h0 : (j 0).val = r.val) (h1 : (j 1).val = d.val) : v j = v (ix2 r d) :=
  congrArg v (funext fun a => Fin.ext (match a with | ⟨0, _⟩ => h0 | ⟨1, _⟩ => h1))

theorem iblk0_apply (t : Fin cfg0.N) (r : Fin 512) (d : Fin 1024) : (iblk m c 0 t (ix2 r d) : EReal) = xA m c (rowOf t r) d :=
  at_rows (V m c main_arg0) _ _ _
    (by show win0_0.index t 0 * 512 + 1 * r.val = 512 * t.val + r.val; rw [(index_rows t).1.1]; omega)
    (by show win0_0.index t 1 * 1024 + 1 * d.val = d.val; rw [(index_rows t).1.2]; omega)

theorem iblk1_apply (t : Fin cfg0.N) (r : Fin 512) (d : Fin 1024) : (iblk m c 1 t (ix2 r d) : EReal) = oA m c (rowOf t r) d :=
  at_rows (V m c main_v0) _ _ _
    (by show win0_1.index t 0 * 512 + 1 * r.val = 512 * t.val + r.val; rw [(index_rows t).2.1.1]; omega)
    (by show win0_1.index t 1 * 1024 + 1 * d.val = d.val; rw [(index_rows t).2.1.2]; omega)

theorem iblk2_apply (t : Fin cfg0.N) (r : Fin 512) (d : Fin 1024) : (iblk m c 2 t (ix2 r d) : EReal) = gA m c (rowOf t r) d :=
  at_rows (V m c main_v1) _ _ _
    (by show win0_2.index t 0 * 512 + 1 * r.val = 512 * t.val + r.val; rw [(index_rows t).2.2.1.1]; omega)
    (by show win0_2.index t 1 * 1024 + 1 * d.val = d.val; rw [(index_rows t).2.2.1.2]; omega)

theorem iblk3_apply (t : Fin cfg0.N) (k d : Fin 1024) : (iblk m c 3 t (ix2 k d) : EReal) = wA m c k d :=
  at_rows (V m c main_v2) _ _ _
    (by show win0_3.index t 0 * 1024 + 1 * k.val = k.val; rw [(index_whole t).1.1]; omega)
    (by show win0_3.index t 1 * 1024 + 1 * d.val = d.val; rw [(index_whole t).1.2]; omega)

/-- The row of the modulation table that holds the adaLN gate. -/
abbrev gateRow (t : Fin cfg0.N) : Vec Ideal S1x1x1024 .f32 := View.ld (iblk m c 4 t) r0_2

theorem gateRow_apply (t : Fin cfg0.N) (d : Fin 1024) : (gateRow m c t (ix3 0 0 d) : EReal) = gamA m c d :=
  congrArg (V m c main_v22) (funext fun a => Fin.ext (match a with
    | ⟨0, _⟩ => by show win0_4.index t 0 * 1 + 1 * (0 + 1 * 0) = 2; rw [(index_whole t).2.1]
    | ⟨1, _⟩ => by show win0_4.index t 1 * 8 + 1 * (2 + 1 * 0) = 2; rw [(index_whole t).2.2.1]
    | ⟨2, _⟩ => by show win0_4.index t 2 * 1024 + 1 * (0 + 1 * d.val) = d.val; rw [(index_whole t).2.2.2]; omega))

/-! ### One point's values at an index -/

theorem hz2 : (![0, 0] : Fin 2 → Nat) = fun _ => 0 := funext fun a => by fin_cases a <;> rfl

theorem out6_eq (t : Fin cfg0.N) : out0_6 (iblk m c 0 t) (iblk m c 1 t) (iblk m c 2 t) (iblk m c 3 t) (iblk m c 4 t)
    = k0_pay2 (iblk m c 2 t) (iblk m c 1 t) (iblk m c 3 t) := by
  unfold out0_6
  rw [View.canon_unit_zero hz2, View.ld_unit_zero (S := S512x1024) hz2, View.ld_unit_zero (S := S512x1024) hz2, View.ld_unit_zero (S := S1024x1024) hz2]

theorem out5_eq (t : Fin cfg0.N) : out0_5 (iblk m c 0 t) (iblk m c 1 t) (iblk m c 2 t) (iblk m c 3 t) (iblk m c 4 t)
    = k0_pay3 (iblk m c 2 t) (iblk m c 1 t) (iblk m c 3 t) (iblk m c 0 t) (gateRow m c t) := by
  unfold out0_5
  rw [View.canon_unit_zero hz2, View.ld_unit_zero (S := S512x1024) hz2, View.ld_unit_zero (S := S512x1024) hz2, View.ld_unit_zero (S := S1024x1024) hz2,
    View.ld_unit_zero (S := S512x1024) hz2]
  rfl

theorem branch_apply (t : Fin cfg0.N) (r : Fin 512) (d : Fin 1024) : (k0_pay1 (iblk m c 2 t) (iblk m c 1 t) (iblk m c 3 t) (ix2 r d) : EReal)
    = branch (oA m c) (gA m c) (wA m c) (rowOf t r) d := by
  have h1 := fun k => iblk1_apply m c t r k
  have h2 := fun k => iblk2_apply m c t r k
  have h3 := fun k => iblk3_apply m c t k d
  generalize iblk m c 1 t = o at *
  generalize iblk m c 2 t = g at *
  generalize iblk m c 3 t = w at *
  pointwise [k0_pay1]
  simp only [h1, h2, h3, zero_sub]
  rfl

theorem out6_apply (t : Fin cfg0.N) (r : Fin 512) (d : Fin 1024) : (out0_6 (iblk m c 0 t) (iblk m c 1 t) (iblk m c 2 t) (iblk m c 3 t) (iblk m c 4 t) (ix2 r d) : EReal)
    = branch (oA m c) (gA m c) (wA m c) (rowOf t r) d := by
  have h := branch_apply m c t r d
  rw [out6_eq]
  unfold k0_pay2
  generalize k0_pay1 (iblk m c 2 t) (iblk m c 1 t) (iblk m c 3 t) = y at *
  pointwise
  exact h

/-- A layer's output: its input and the gated branch. -/
def layer (r : Fin 4096) (d : Fin 1024) : EReal := xA m c r d + gamA m c d * branch (oA m c) (gA m c) (wA m c) r d

theorem out5_apply (t : Fin cfg0.N) (r : Fin 512) (d : Fin 1024) : (out0_5 (iblk m c 0 t) (iblk m c 1 t) (iblk m c 2 t) (iblk m c 3 t) (iblk m c 4 t) (ix2 r d) : EReal)
    = layer m c (rowOf t r) d := by
  have h := branch_apply m c t r d
  have h0 := iblk0_apply m c t r d
  have h4 := gateRow_apply m c t d
  rw [out5_eq]
  unfold k0_pay3
  generalize k0_pay1 (iblk m c 2 t) (iblk m c 1 t) (iblk m c 3 t) = y at *
  generalize iblk m c 0 t = x at *
  generalize gateRow m c t = z at *
  pointwise
  rw [h, h0, h4]
  rfl

/-! ### The result arrays -/

def xoR : FVec Ideal S4096x1024 .f32 := fun i => layer m c (i 0) (i 1)
def brR : FVec Ideal S4096x1024 .bf16 := fun i => branch (oA m c) (gA m c) (wA m c) (i 0) (i 1)

theorem arr5 : (dats m 0 c).arrAt 5 cfg0.N = xoR m c := by
  refine (dats m 0 c).arrAt_eq_of_covers 5 _ (by decide +kernel) fun t hf y => ?_
  blk_simp
  rw [after0_5]
  obtain ⟨r, d, rfl⟩ := idx2 (A := 512) (B := 1024) y
  refine (out5_apply m c t r d).trans (congrArg₂ (fun R q => layer m c R q) (Fin.ext ?_) (Fin.ext ?_))
  · show 512 * t.val + r.val = win0_5.index t 0 * 512 + 1 * r.val; rw [(index_rows t).2.2.2.1.1]; omega
  · show d.val = win0_5.index t 1 * 1024 + 1 * d.val; rw [(index_rows t).2.2.2.1.2]; omega

theorem arr6 : (dats m 0 c).arrAt 6 cfg0.N = brR m c := by
  refine (dats m 0 c).arrAt_eq_of_covers 6 _ (by decide +kernel) fun t hf y => ?_
  blk_simp
  rw [after0_6]
  obtain ⟨r, d, rfl⟩ := idx2 (A := 512) (B := 1024) y
  refine (out6_apply m c t r d).trans (congrArg₂ (fun R q => branch (oA m c) (gA m c) (wA m c) R q) (Fin.ext ?_) (Fin.ext ?_))
  · show 512 * t.val + r.val = win0_6.index t 0 * 512 + 1 * r.val; rw [(index_rows t).2.2.2.2.1]; omega
  · show d.val = win0_6.index t 1 * 1024 + 1 * d.val; rw [(index_rows t).2.2.2.2.2]; omega

end Cert.Kernel6Ideal.Out

end
-- ==== Proof.Out.Equation.lean ====
/-
  The attention layer's gate and output projection, forward: the reference read at an index, the arrays the kernel reads
  as functions of the arguments, and the two claims that rest on the equation between them.
-/
module

public import proofs.«01_k».proof.Proof.Out.Value
public import proofs.«01_k».proof.Proof.Gen.Reference6Ideal.Read
public import proofs.«01_k».proof.Proof.Gen.Reference6Ideal.Run
public import proofs.«01_k».proof.Defs

@[expose] public section

noncomputable section

open Idealize.ShloMosaic Idealize.ShloMosaic.TcCoe Idealize.SL.Sem

namespace Cert.Reference6Ideal.Out

open Cert.Reference6Ideal Cert.Reference6Ideal.Gen Cert.Reference6Ideal.Read Cert.Step Cert.Step.Gate

variable (x0 x1 x2 : FVec Ideal S4096x1024 .f32) (x3 : FVec Ideal S1024x1024 .f32) (x4 : FVec Ideal S4x3072 .f32)

/-- The arrays as functions of their two coordinates, and the layer's adaLN gate. -/
def mat {A B : ℕ} (x : FVec Ideal ⟨2, ![A, B]⟩ .f32) (r : Fin A) (d : Fin B) : EReal := x (ix2 r d)
def gateOf (x : FVec Ideal S4x3072 .f32) (d : Fin 1024) : EReal := x (ix2 2 ⟨2048 + d.val, by omega⟩)

theorem gate_apply (d : Fin 1024) : val_main_v4 (F := Ideal) x4 (ix1 d) = gateOf x4 d := by
  pointwise [val_main_v4, val_main_v3, val_main_v2]
  rfl

theorem sig_apply (r : Fin 4096) (d : Fin 1024) : val_main_call0_v5 (F := Ideal) x2 (ix2 r d) = Step.logistic (mat x2 r d) := by
  pointwise [val_main_call0_v5, val_main_call0_v4, val_main_call0_cst_0, val_main_call0_v3, val_main_call0_v2, val_main_call0_v1, val_main_call0_v0, val_main_call0_cst]
  rfl

theorem branch_apply (r : Fin 4096) (d : Fin 1024) : val_main_v7 (F := Ideal) x1 x2 x3 (ix2 r d) = branch (mat x1) (mat x2) (mat x3) r d := by
  have e := fun k => sig_apply x2 r k
  unfold val_main_v7 val_main_v6 val_main_v5
  generalize val_main_call0_v5 (F := Ideal) x2 = y at *
  pointwise
  simp only [e]
  rfl

theorem br_apply (r : Fin 4096) (d : Fin 1024) : (val_main_v12 (F := Ideal) x1 x2 x3 (ix2 r d) : EReal) = branch (mat x1) (mat x2) (mat x3) r d := by
  have e := branch_apply x1 x2 x3 r d
  unfold val_main_v12
  generalize val_main_v7 (F := Ideal) x1 x2 x3 = y at *
  pointwise
  exact e

theorem xo_apply (r : Fin 4096) (d : Fin 1024) : val_main_v11 (F := Ideal) x0 x1 x2 x3 x4 (ix2 r d)
    = mat x0 r d + gateOf x4 d * branch (mat x1) (mat x2) (mat x3) r d := by
  have e := branch_apply x1 x2 x3 r d
  have e' := gate_apply x4 d
  unfold val_main_v11 val_main_v10 val_main_v9 val_main_v8
  generalize val_main_v7 (F := Ideal) x1 x2 x3 = y at *
  generalize val_main_v4 (F := Ideal) x4 = z at *
  pointwise
  rw [e, e']
  rfl

end Cert.Reference6Ideal.Out

namespace Cert.Kernel6Ideal.Out

open Cert.Kernel6Ideal Cert.Kernel6Ideal.Gen Cert.Step Cert.Step.Gate
open Cert.Reference6Ideal.Out (mat gateOf xo_apply br_apply)
open Cert.Reference6Ideal.Read

variable (m : (ℓ : Loc nD τ sig) → Buf (Elt Ideal) ℓ) (c : Dev nD)

/-- The program's arguments. -/
abbrev a0 : FVec Ideal S4096x1024 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)
abbrev a3 : FVec Ideal S1024x1024 .f32 := m ((c : Thread nD τ).loc main_arg3)
abbrev a4 : FVec Ideal S4x3072 .f32 := m ((c : Thread nD τ).loc main_arg4)

theorem xA_eq (r : Fin 4096) (d : Fin 1024) : xA m c r d = mat (a0 m c) r d := by
  unfold xA; rw [V_main_arg0]; rfl

theorem oA_eq (r : Fin 4096) (d : Fin 1024) : oA m c r d = mat (a1 m c) r d := by
  unfold oA
  simp only [V, hostOps0]
  after_results_simp
  pointwise
  rfl

theorem gA_eq (r : Fin 4096) (d : Fin 1024) : gA m c r d = mat (a2 m c) r d := by
  unfold gA
  simp only [V, hostOps0]
  after_results_simp
  pointwise
  rfl

theorem wA_eq (k d : Fin 1024) : wA m c k d = mat (a3 m c) k d := by
  unfold wA
  simp only [V, hostOps0]
  after_results_simp
  pointwise
  rfl

theorem gamA_eq (d : Fin 1024) : gamA m c d = gateOf (a4 m c) d := by
  unfold gamA
  simp only [V, hostOps0]
  after_results_simp
  pointwise
  after_results_simp
  pointwise
  rfl

theorem branch_eq : branch (oA m c) (gA m c) (wA m c) = branch (mat (a1 m c)) (mat (a2 m c)) (mat (a3 m c)) := by
  rw [funext₂ (oA_eq m c), funext₂ (gA_eq m c), funext₂ (wA_eq m c)]

theorem br_eq : brR m c = val_main_v12 (F := Ideal) (a1 m c) (a2 m c) (a3 m c) := by
  funext i
  obtain ⟨r, d, rfl⟩ := idx2 (A := 4096) (B := 1024) i
  exact (congrFun₂ (branch_eq m c) r d).trans (br_apply _ _ _ r d).symm

theorem xo_eq : xoR m c = val_main_v11 (F := Ideal) (a0 m c) (a1 m c) (a2 m c) (a3 m c) (a4 m c) := by
  funext i
  obtain ⟨r, d, rfl⟩ := idx2 (A := 4096) (B := 1024) i
  refine Eq.trans ?_ (xo_apply _ _ _ _ _ r d).symm
  show layer m c r d = _
  unfold layer
  rw [xA_eq, gamA_eq, branch_eq]

end Cert.Kernel6Ideal.Out

namespace Cert.Out

open Cert.Kernel6Ideal.Out

theorem reference_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

set_option maxHeartbeats 4000000 in
theorem value : Cert.algebraic_Kernel6Ideal_Reference6Ideal := by
  intro m g m' g' _ hag
  refine ⟨fun c => xoR m c, fun c => brR m c, ?_, ?_⟩
  · refine (θ_run Cert.Kernel6Ideal.defs _ _).mono (fun r h c => ?_) (Cert.Kernel6Ideal.Value.run_blocks m g)
    obtain ⟨h5, h6, hargs⟩ := h c
    exact ⟨h5.trans (arr5 m c), h6.trans (arr6 m c), hargs⟩
  · refine (θ_run Cert.Reference6Ideal.defs _ _).mono (fun r h c => ?_) (Cert.Reference6Ideal.Value.run m' g')
    obtain ⟨h0, h1, hargs⟩ := h c
    obtain ⟨e0, e1, e2, e3, e4, _⟩ := hag c
    refine ⟨h0.trans ?_, h1.trans ?_, hargs⟩
    · rw [e0, e1, e2, e3, e4]; exact (Cert.Reference6Ideal.Read.val_main_v11_eq _ _ _ _ _).trans (xo_eq m c).symm
    · rw [e1, e2, e3]; exact (Cert.Reference6Ideal.Read.val_main_v12_eq _ _ _).trans (br_eq m c).symm

end Cert.Out

end
-- ==== Proof.In.Value.lean ====
/-
  The pooling layer's norm and input projection, forward: the kernel's two result arrays, on the extended reals, as
  functions of the arrays its windows read.
-/
module

public import proofs.«01_k».proof.Proof.Norm.Formula
public import proofs.«01_k».proof.Proof.Common.Sums
public import proofs.«01_k».proof.Proof.Gen.Kernel7Ideal.Value
public import Idealize.ShloMosaic.Lib.Pipeline.Value
public import Idealize.ShloMosaic.Lib.Pipeline.ValueKit
public import Idealize.ShloMosaic.Lib.Pointwise
public import Idealize.ShloMosaic.Lib.Tactic

@[expose] public section

noncomputable section

open Idealize.ShloMosaic Idealize.ShloMosaic.TcCoe Idealize.SL.Sem

namespace Cert.In

open Cert.Step.Norm (normed)

/-- The projection of the normed rows `H`: its column `k`, for the columns' rows `W`. -/
def proj (H : Fin 4096 → Fin 1024 → EReal) (W : Fin 2048 → Fin 1024 → EReal) (r : Fin 4096) (k : Fin 2048) : EReal := ∑ d, H r d * W k d

/-- A column of the value, and one of the gate. -/
abbrev valueCol (k : Fin 1024) : Fin 2048 := ⟨k.val, by omega⟩
abbrev gateCol (k : Fin 1024) : Fin 2048 := ⟨1024 + k.val, by omega⟩

end Cert.In

namespace Cert.Kernel7Ideal.In

open Cert.Kernel7Ideal Cert.Kernel7Ideal.Gen Cert.Step Cert.In
open Cert.Step.Norm (normed)

variable (m : (ℓ : Loc nD τ sig) → Buf (Elt Ideal) ℓ) (c : Dev nD)

/-- The arrays the windows read: the rows, the norm's gain, the layer's shift and scale, the projection by columns. -/
def xA (r : Fin 4096) (d : Fin 1024) : EReal := V m c main_arg0 (ix2 r d)
def ngA (d : Fin 1024) : EReal := V m c main_v20 (ix4 1 3 0 d)
def shA (d : Fin 1024) : EReal := V m c main_v19 (ix3 1 0 d)
def scA (d : Fin 1024) : EReal := V m c main_v19 (ix3 1 1 d)
def wA (k : Fin 2048) (d : Fin 1024) : EReal := V m c main_v22 (ix2 k d)

/-- The normed rows. -/
abbrev hA : Fin 4096 → Fin 1024 → EReal := normed (xA m c) (ngA m c) (scA m c) (shA m c)

/-- Row `r` of point `t`'s block. -/
abbrev rowOf (t : Fin cfg0.N) (r : Fin 512) : Fin 4096 := row 512 8 rfl (t.cast N_0) r

/-! ### The windows' blocks -/

theorem index_rows : ∀ t : Fin cfg0.N, (win0_0.index t 0 = t.val ∧ win0_0.index t 1 = 0)
    ∧ (win0_4.index t 0 = t.val ∧ win0_4.index t 1 = 0) ∧ (win0_5.index t 0 = t.val ∧ win0_5.index t 1 = 0) :=
  (by decide +kernel : ∀ t : Fin grid0.N, _)

theorem index_whole : ∀ t : Fin cfg0.N, (win0_3.index t 0 = 0 ∧ win0_3.index t 1 = 0)
    ∧ (win0_1.index t 0 = 1 ∧ win0_1.index t 1 = 3 ∧ win0_1.index t 2 = 0 ∧ win0_1.index t 3 = 0)
    ∧ (win0_2.index t 0 = 1 ∧ win0_2.index t 1 = 0 ∧ win0_2.index t 2 = 0) :=
  (by decide +kernel : ∀ t : Fin grid0.N, _)

/-- An index of a rank-2 array is known by its two coordinates. -/
theorem at_rows {A B : ℕ} {α : Type*} (v : (⟨2, ![A, B]⟩ : Shape).Idx → α) (j : (⟨2, ![A, B]⟩ : Shape).Idx) (r : Fin A) (d : Fin B)
    (h0 : (j 0).val = r.val) (h1 : (j 1).val = d.val) : v j = v (ix2 r d) :=
  congrArg v (funext fun a => Fin.ext (match a with | ⟨0, _⟩ => h0 | ⟨1, _⟩ => h1))

theorem iblk0_apply (t : Fin cfg0.N) (r : Fin 512) (d : Fin 1024) : (iblk m c 0 t (ix2 r d) : EReal) = xA m c (rowOf t r) d :=
  at_rows (V m c main_arg0) _ _ _
    (by show win0_0.index t 0 * 512 + 1 * r.val = 512 * t.val + r.val; rw [(index_rows t).1.1]; omega)
    (by show win0_0.index t 1 * 1024 + 1 * d.val = d.val; rw [(index_rows t).1.2]; omega)

theorem iblk1_apply (t : Fin cfg0.N) (d : Fin 1024) : (iblk m c 1 t (ix4 0 0 0 d) : EReal) = ngA m c d :=
  congrArg (V m c main_v20) (funext fun a => Fin.ext (match a with
    | ⟨0, _⟩ => by show win0_1.index t 0 * 1 + 1 * 0 = 1; rw [(index_whole t).2.1.1]
    | ⟨1, _⟩ => by show win0_1.index t 1 * 1 + 1 * 0 = 3; rw [(index_whole t).2.1.2.1]
    | ⟨2, _⟩ => by show win0_1.index t 2 * 1 + 1 * 0 = 0; rw [(index_whole t).2.1.2.2.1]
    | ⟨3, _⟩ => by show win0_1.index t 3 * 1024 + 1 * d.val = d.val; rw [(index_whole t).2.1.2.2.2]; omega))

theorem iblk3_apply (t : Fin cfg0.N) (k : Fin 2048) (d : Fin 1024) : (iblk m c 3 t (ix2 k d) : EReal) = wA m c k d :=
  at_rows (V m c main_v22) _ _ _
    (by show win0_3.index t 0 * 2048 + 1 * k.val = k.val; rw [(index_whole t).1.1]; omega)
    (by show win0_3.index t 1 * 1024 + 1 * d.val = d.val; rw [(index_whole t).1.2]; omega)

/-- The rows of the modulation table that hold the scale and the shift. -/
abbrev scaleRow (t : Fin cfg0.N) : Vec Ideal S1x1x1024 .f32 := View.ld (iblk m c 2 t) r0_2
abbrev shiftRow (t : Fin cfg0.N) : Vec Ideal S1x1x1024 .f32 := View.ld (iblk m c 2 t) r0_3

theorem scaleRow_apply (t : Fin cfg0.N) (d : Fin 1024) : (scaleRow m c t (ix3 0 0 d) : EReal) = scA m c d :=
  congrArg (V m c main_v19) (funext fun a => Fin.ext (match a with
    | ⟨0, _⟩ => by show win0_2.index t 0 * 1 + 1 * (0 + 1 * 0) = 1; rw [(index_whole t).2.2.1]
    | ⟨1, _⟩ => by show win0_2.index t 1 * 8 + 1 * (1 + 1 * 0) = 1; rw [(index_whole t).2.2.2.1]
    | ⟨2, _⟩ => by show win0_2.index t 2 * 1024 + 1 * (0 + 1 * d.val) = d.val; rw [(index_whole t).2.2.2.2]; omega))

theorem shiftRow_apply (t : Fin cfg0.N) (d : Fin 1024) : (shiftRow m c t (ix3 0 0 d) : EReal) = shA m c d :=
  congrArg (V m c main_v19) (funext fun a => Fin.ext (match a with
    | ⟨0, _⟩ => by show win0_2.index t 0 * 1 + 1 * (0 + 1 * 0) = 1; rw [(index_whole t).2.2.1]
    | ⟨1, _⟩ => by show win0_2.index t 1 * 8 + 1 * (0 + 1 * 0) = 0; rw [(index_whole t).2.2.2.1]
    | ⟨2, _⟩ => by show win0_2.index t 2 * 1024 + 1 * (0 + 1 * d.val) = d.val; rw [(index_whole t).2.2.2.2]; omega))

/-! ### One point's values at an index -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The point's projected rows. -/
abbrev projB (t : Fin cfg0.N) : FVec Ideal S512x2048 .f32 := k0_pay1 (iblk m c 0 t) (iblk m c 1 t) (scaleRow m c t) (shiftRow m c t) (iblk m c 3 t)

theorem out4_eq (t : Fin cfg0.N) : out0_4 (iblk m c 0 t) (iblk m c 1 t) (iblk m c 2 t) (iblk m c 3 t)
    = k0_pay2 (iblk m c 0 t) (iblk m c 1 t) (scaleRow m c t) (shiftRow m c t) (iblk m c 3 t) := by
  unfold out0_4
  rw [View.canon_unit_zero hz2, View.ld_unit_zero (S := S512x1024) hz2, View.ld_unit_zero (S := S1x1x1x1024) hz4, View.ld_unit_zero (S := S2048x1024) hz2]
  rfl

theorem out5_eq (t : Fin cfg0.N) : out0_5 (iblk m c 0 t) (iblk m c 1 t) (iblk m c 2 t) (iblk m c 3 t)
    = k0_pay3 (iblk m c 0 t) (iblk m c 1 t) (scaleRow m c t) (shiftRow m c t) (iblk m c 3 t) := by
  unfold out0_5
  rw [View.canon_unit_zero hz2, View.ld_unit_zero (S := S512x1024) hz2, View.ld_unit_zero (S := S1x1x1x1024) hz4, View.ld_unit_zero (S := S2048x1024) hz2]
  rfl

theorem projB_apply (t : Fin cfg0.N) (r : Fin 512) (k : Fin 2048) : (projB m c t (ix2 r k) : EReal) = proj (hA m c) (wA m c) (rowOf t r) k := by
  have h0 := fun d => iblk0_apply m c t r d
  have h1 := fun d => iblk1_apply m c t d
  have h2 := fun d => scaleRow_apply m c t d
  have h3 := fun d => shiftRow_apply m c t d
  have h4 := fun d => iblk3_apply m c t k d
  unfold projB
  generalize scaleRow m c t = sc at *
  generalize shiftRow m c t = sh at *
  generalize iblk m c 0 t = x at *
  generalize iblk m c 1 t = n at *
  generalize iblk m c 3 t = w at *
  pointwise [k0_pay1]
  simp only [h0, h1, h2, h3, h4]
  rfl

theorem out4_apply (t : Fin cfg0.N) (r : Fin 512) (k : Fin 1024) : (out0_4 (iblk m c 0 t) (iblk m c 1 t) (iblk m c 2 t) (iblk m c 3 t) (ix2 r k) : EReal)
    = proj (hA m c) (wA m c) (rowOf t r) (valueCol k) := by
  have h := projB_apply m c t r (valueCol k)
  rw [out4_eq]
  unfold k0_pay2
  unfold projB at h
  generalize k0_pay1 (iblk m c 0 t) (iblk m c 1 t) (scaleRow m c t) (shiftRow m c t) (iblk m c 3 t) = y at *
  pointwise
  exact h

theorem out5_apply (t : Fin cfg0.N) (r : Fin 512) (k : Fin 1024) : (out0_5 (iblk m c 0 t) (iblk m c 1 t) (iblk m c 2 t) (iblk m c 3 t) (ix2 r k) : EReal)
    = proj (hA m c) (wA m c) (rowOf t r) (gateCol k) := by
  have h := projB_apply m c t r (gateCol k)
  rw [out5_eq]
  unfold k0_pay3
  unfold projB at h
  generalize k0_pay1 (iblk m c 0 t) (iblk m c 1 t) (scaleRow m c t) (shiftRow m c t) (iblk m c 3 t) = y at *
  pointwise
  exact h

/-! ### The result arrays -/

def vR : FVec Ideal S4096x1024 .bf16 := fun i => proj (hA m c) (wA m c) (i 0) (valueCol (i 1))
def gR : FVec Ideal S4096x1024 .bf16 := fun i => proj (hA m c) (wA m c) (i 0) (gateCol (i 1))

theorem arr4 : (dats m 0 c).arrAt 4 cfg0.N = vR m c := by
  refine (dats m 0 c).arrAt_eq_of_covers 4 _ (by decide +kernel) fun t hf y => ?_
  blk_simp
  rw [after0_4]
  obtain ⟨r, k, rfl⟩ := idx2 (A := 512) (B := 1024) y
  refine (out4_apply m c t r k).trans (congrArg₂ (fun R q => proj (hA m c) (wA m c) R (valueCol q)) (Fin.ext ?_) (Fin.ext ?_))
  · show 512 * t.val + r.val = win0_4.index t 0 * 512 + 1 * r.val; rw [(index_rows t).2.1.1]; omega
  · show k.val = win0_4.index t 1 * 1024 + 1 * k.val; rw [(index_rows t).2.1.2]; omega

theorem arr5 : (dats m 0 c).arrAt 5 cfg0.N = gR m c := by
  refine (dats m 0 c).arrAt_eq_of_covers 5 _ (by decide +kernel) fun t hf y => ?_
  blk_simp
  rw [after0_5]
  obtain ⟨r, k, rfl⟩ := idx2 (A := 512) (B := 1024) y
  refine (out5_apply m c t r k).trans (congrArg₂ (fun R q => proj (hA m c) (wA m c) R (gateCol q)) (Fin.ext ?_) (Fin.ext ?_))
  · show 512 * t.val + r.val = win0_5.index t 0 * 512 + 1 * r.val; rw [(index_rows t).2.2.1]; omega
  · show k.val = win0_5.index t 1 * 1024 + 1 * k.val; rw [(index_rows t).2.2.2]; omega

end Cert.Kernel7Ideal.In

end
-- ==== Proof.In.Equation.lean ====
/-
  The pooling layer's norm and input projection, forward: the reference read at an index, the arrays the kernel reads as
  functions of the arguments, and the two claims that rest on the equation between them.
-/
module

public import proofs.«01_k».proof.Proof.In.Value
public import proofs.«01_k».proof.Proof.Gen.Reference7Ideal.Read
public import proofs.«01_k».proof.Proof.Gen.Reference7Ideal.Run
public import proofs.«01_k».proof.Defs

@[expose] public section

noncomputable section

open Idealize.ShloMosaic Idealize.ShloMosaic.TcCoe Idealize.SL.Sem

namespace Cert.Reference7Ideal.In

open Cert.Reference7Ideal Cert.Reference7Ideal.Gen Cert.Reference7Ideal.Read Cert.Step Cert.In
open Cert.Step.Norm (power rs unit normed)

variable (x0 : FVec Ideal S4096x1024 .f32) (x1 : FVec Ideal S1024x2048 .f32) (x2 : FVec Ideal S4x3072 .f32) (x3 : FVec Ideal S4x1024 .f32)

/-- The arrays as functions of their coordinates, the norm's gain, and the layer's adaLN shift and scale. -/
def mat (x : FVec Ideal S4096x1024 .f32) (r : Fin 4096) (d : Fin 1024) : EReal := x (ix2 r d)
def wOf (x : FVec Ideal S1024x2048 .f32) (k : Fin 2048) (d : Fin 1024) : EReal := x (ix2 d k)
def gainOf (x : FVec Ideal S4x1024 .f32) (d : Fin 1024) : EReal := x (ix2 1 d)
def shiftOf (x : FVec Ideal S4x3072 .f32) (d : Fin 1024) : EReal := x (ix2 1 ⟨d.val, by omega⟩)
def scaleOf (x : FVec Ideal S4x3072 .f32) (d : Fin 1024) : EReal := x (ix2 1 ⟨1024 + d.val, by omega⟩)

theorem rs_apply (r : Fin 4096) (z : Fin 1) : val_main_v9 (F := Ideal) x0 (ix2 r z) = rs (mat x0 r) := by
  pointwise [val_main_v9, val_main_v8, val_main_v7, val_main_v6, val_main_v5, val_main_v4, val_main_v3, val_main_v2, val_main_cst, val_main_cst_0, val_main_cst_1]
  rfl

theorem unit_apply (r : Fin 4096) (d : Fin 1024) : val_main_v11 (F := Ideal) x0 (ix2 r d) = unit (mat x0) r d := by
  have e := rs_apply x0 r 0
  unfold val_main_v11 val_main_v10
  generalize val_main_v9 (F := Ideal) x0 = y at *
  pointwise
  rw [e]
  rfl

theorem normed_apply (r : Fin 4096) (d : Fin 1024) : val_main_v20 (F := Ideal) x0 x2 x3 (ix2 r d) = normed (mat x0) (gainOf x3) (scaleOf x2) (shiftOf x2) r d := by
  have e := unit_apply x0 r d
  unfold val_main_v20 val_main_v18 val_main_v14
  generalize val_main_v11 (F := Ideal) x0 = y at *
  pointwise [val_main_v19, val_main_v17, val_main_v16, val_main_v15, val_main_v13, val_main_v12, val_main_v0, val_main_v1, val_main_cst_2]
  rw [e]
  rfl

theorem proj_apply (r : Fin 4096) (k : Fin 2048) : val_main_v21 (F := Ideal) x0 x1 x2 x3 (ix2 r k)
    = proj (normed (mat x0) (gainOf x3) (scaleOf x2) (shiftOf x2)) (wOf x1) r k := by
  have e := fun d => normed_apply x0 x2 x3 r d
  unfold val_main_v21
  generalize val_main_v20 (F := Ideal) x0 x2 x3 = y at *
  pointwise
  simp only [e]
  rfl

theorem v_apply (r : Fin 4096) (k : Fin 1024) : (val_main_v24 (F := Ideal) x0 x1 x2 x3 (ix2 r k) : EReal)
    = proj (normed (mat x0) (gainOf x3) (scaleOf x2) (shiftOf x2)) (wOf x1) r (valueCol k) := by
  have e := proj_apply x0 x1 x2 x3 r (valueCol k)
  unfold val_main_v24 val_main_v22
  generalize val_main_v21 (F := Ideal) x0 x1 x2 x3 = y at *
  pointwise
  exact e

theorem g_apply (r : Fin 4096) (k : Fin 1024) : (val_main_v25 (F := Ideal) x0 x1 x2 x3 (ix2 r k) : EReal)
    = proj (normed (mat x0) (gainOf x3) (scaleOf x2) (shiftOf x2)) (wOf x1) r (gateCol k) := by
  have e := proj_apply x0 x1 x2 x3 r (gateCol k)
  unfold val_main_v25 val_main_v23
  generalize val_main_v21 (F := Ideal) x0 x1 x2 x3 = y at *
  pointwise
  exact e

end Cert.Reference7Ideal.In

namespace Cert.Kernel7Ideal.In

open Cert.Kernel7Ideal Cert.Kernel7Ideal.Gen Cert.Step Cert.In
open Cert.Step.Norm (normed)
open Cert.Reference7Ideal.In (mat wOf gainOf shiftOf scaleOf v_apply g_apply)
open Cert.Reference7Ideal.Read

variable (m : (ℓ : Loc nD τ sig) → Buf (Elt Ideal) ℓ) (c : Dev nD)

/-- The program's arguments. -/
abbrev a0 : FVec Ideal S4096x1024 .f32 := m ((c : Thread nD τ).loc main_arg0)
abbrev a1 : FVec Ideal S1024x2048 .f32 := m ((c : Thread nD τ).loc main_arg1)
abbrev a2 : FVec Ideal S4x3072 .f32 := m ((c : Thread nD τ).loc main_arg2)
abbrev a3 : FVec Ideal S4x1024 .f32 := m ((c : Thread nD τ).loc main_arg3)

theorem xA_eq (r : Fin 4096) (d : Fin 1024) : xA m c r d = mat (a0 m c) r d := by
  unfold xA; rw [V_main_arg0]; rfl

theorem wA_eq (k : Fin 2048) (d : Fin 1024) : wA m c k d = wOf (a1 m c) k d := by
  unfold wA
  simp only [V, hostOps0]
  after_results_simp
  pointwise
  rfl

theorem ngA_eq (d : Fin 1024) : ngA m c d = gainOf (a3 m c) d := by
  unfold ngA
  simp only [V, hostOps0]
  after_results_simp
  pointwise
  after_results_simp
  pointwise
  rfl

theorem scA_eq (d : Fin 1024) : scA m c d = scaleOf (a2 m c) d := by
  unfold scA
  simp only [V, hostOps0]
  after_results_simp
  pointwise
  after_results_simp
  pointwise
  rfl

theorem shA_eq (d : Fin 1024) : shA m c d = shiftOf (a2 m c) d := by
  unfold shA
  simp only [V, hostOps0]
  after_results_simp
  pointwise
  after_results_simp
  pointwise
  rfl

theorem proj_eq : proj (hA m c) (wA m c) = proj (normed (mat (a0 m c)) (gainOf (a3 m c)) (scaleOf (a2 m c)) (shiftOf (a2 m c))) (wOf (a1 m c)) := by
  unfold hA
  rw [funext₂ (xA_eq m c), funext₂ (wA_eq m c), funext (ngA_eq m c), funext (scA_eq m c), funext (shA_eq m c)]

theorem v_eq : vR m c = val_main_v24 (F := Ideal) (a0 m c) (a1 m c) (a2 m c) (a3 m c) := by
  funext i
  obtain ⟨r, k, rfl⟩ := idx2 (A := 4096) (B := 1024) i
  exact (congrFun₂ (proj_eq m c) r (valueCol k)).trans (v_apply _ _ _ _ r k).symm

theorem g_eq : gR m c = val_main_v25 (F := Ideal) (a0 m c) (a1 m c) (a2 m c) (a3 m c) := by
  funext i
  obtain ⟨r, k, rfl⟩ := idx2 (A := 4096) (B := 1024) i
  exact (congrFun₂ (proj_eq m c) r (gateCol k)).trans (g_apply _ _ _ _ r k).symm

end Cert.Kernel7Ideal.In

namespace Cert.In

open Cert.Kernel7Ideal.In

theorem reference_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

set_option maxHeartbeats 4000000 in
theorem value : Cert.algebraic_Kernel7Ideal_Reference7Ideal := by
  intro m g m' g' _ hag
  refine ⟨fun c => vR m c, fun c => gR m c, ?_, ?_⟩
  · refine (θ_run Cert.Kernel7Ideal.defs _ _).mono (fun r h c => ?_) (Cert.Kernel7Ideal.Value.run_blocks m g)
    obtain ⟨h4, h5, hargs⟩ := h c
    exact ⟨h4.trans (arr4 m c), h5.trans (arr5 m c), hargs⟩
  · refine (θ_run Cert.Reference7Ideal.defs _ _).mono (fun r h c => ?_) (Cert.Reference7Ideal.Value.run m' g')
    obtain ⟨h0, h1, hargs⟩ := h c
    obtain ⟨e0, e1, e2, e3, _⟩ := hag c
    refine ⟨h0.trans ?_, h1.trans ?_, hargs⟩
    · rw [e0, e1, e2, e3]; exact (Cert.Reference7Ideal.Read.val_main_v24_eq _ _ _ _).trans (v_eq m c).symm
    · rw [e0, e1, e2, e3]; exact (Cert.Reference7Ideal.Read.val_main_v25_eq _ _ _ _).trans (g_eq m c).symm

end Cert.In

end
-- ==== Proof.lean ====
/-
  The claims of the certificate, assembled from the modules under Proof.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Pre_finite2
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import Idealize.ShloMosaic.Adequacy
public import Idealize.ShloMosaic.Init
public import Idealize.ShloMosaic.Lib.Claim
public import proofs.«01_k».proof.Proof.Gate.Equation
public import proofs.«01_k».proof.Proof.Band.Equation
public import proofs.«01_k».proof.Proof.Pool.Equation
public import proofs.«01_k».proof.Proof.Lead.Equation
public import proofs.«01_k».proof.Proof.Heads
public import proofs.«01_k».proof.Proof.Out.Equation
public import proofs.«01_k».proof.Proof.In.Equation

@[expose] public section

noncomputable section

namespace Cert.Proof

open Idealize.ShloMosaic Idealize.SL.Sem Cert.Kernel

theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem gate_value : Cert.algebraic_KernelIdeal_ReferenceIdeal_pre_finite := by
  intro m g m' g' hpre hag
  refine ⟨fun c => Cert.KernelIdeal.Gate.dosR m c, fun c => Cert.KernelIdeal.Gate.dgR m c, fun c => Cert.KernelIdeal.Gate.dwR m c,
    fun c => Cert.KernelIdeal.Gate.dgateR m c, ?_, ?_⟩
  · refine (θ_run Cert.KernelIdeal.defs _ _).mono (fun r h c => ?_) (Cert.KernelIdeal.Value.run_blocks m g)
    obtain ⟨h6, h7, h8, h9, hargs⟩ := h c
    exact ⟨h6.trans (Cert.KernelIdeal.Gate.arr6 m c), h7.trans (Cert.KernelIdeal.Gate.arr7 m c), h8.trans (Cert.KernelIdeal.Gate.arr8 m c),
      h9.trans (Cert.KernelIdeal.Gate.arr9 m c), hargs⟩
  · refine (θ_run Cert.ReferenceIdeal.defs _ _).mono (fun r h c => ?_) (Cert.ReferenceIdeal.Value.run m' g')
    obtain ⟨h0, h1, h2, h3, hargs⟩ := h c
    obtain ⟨e0, e1, e2, e3, e4, _, _⟩ := hag c
    refine ⟨h0.trans ?_, h1.trans ?_, h2.trans ?_, h3.trans ?_, hargs⟩
    · rw [Cert.ReferenceIdeal.Read.val_main_v34_eq, e0, e2, e3, e4]; exact (Cert.Step.Gate.dos_eq m c).symm
    · rw [Cert.ReferenceIdeal.Read.val_main_v35_eq, e0, e1, e2, e3, e4]; exact (Cert.Step.Gate.dg_eq m c hpre).symm
    · rw [Cert.ReferenceIdeal.Read.val_main_v36_eq, e0, e1, e2, e4]; exact (Cert.Step.Gate.dw_eq m c).symm
    · rw [Cert.ReferenceIdeal.Read.val_main_v37_eq, e0, e1, e2, e3]; exact (Cert.Step.Gate.dgate_eq m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts,
  Cert.Pre_finite.Gen.facts, Cert.Pre_finite2.Gen.facts, Cert.Pre_finite3.Gen.facts, Cert.Pre_finite4.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  Cert.Band.frame_kernel, Cert.Band.frame_ideal, fun m ρ _ => Cert.Band.frame_ideal m ρ trivial,
  Cert.Band.reference_frame, fun m ρ _ => Cert.Band.reference_frame m ρ trivial,
  fun m ρ _ => Cert.Kernel3.Gen.frame m ρ, fun m ρ _ => Cert.Kernel3Ideal.Gen.frame m ρ, fun m ρ _ => Cert.Kernel3Ideal.Gen.frame m ρ,
  Cert.Pool.reference_frame, fun m ρ _ => Cert.Pool.reference_frame m ρ trivial,
  fun m ρ _ => Cert.Kernel4.Gen.frame m ρ, fun m ρ _ => Cert.Kernel4Ideal.Gen.frame m ρ, fun m ρ _ => Cert.Kernel4Ideal.Gen.frame m ρ,
  Cert.Lead.reference_frame, fun m ρ _ => Cert.Lead.reference_frame m ρ trivial,
  fun m ρ _ => Cert.Kernel5.Gen.frame m ρ, fun m ρ _ => Cert.Kernel5Ideal.Gen.frame m ρ, Cert.Heads.reference_frame,
  fun m ρ _ => Cert.Kernel6.Gen.frame m ρ, fun m ρ _ => Cert.Kernel6Ideal.Gen.frame m ρ, Cert.Out.reference_frame,
  fun m ρ _ => Cert.Kernel7.Gen.frame m ρ, fun m ρ _ => Cert.Kernel7Ideal.Gen.frame m ρ, Cert.In.reference_frame,
  trivial, gate_value, IdealRules.named_const.statement Cert.Kernel2Ideal.κ "mask" .f32 0xF149F2CA#32 ⊥ rfl, Cert.Band.value,
  trivial, Cert.Pool.value, trivial, Cert.Lead.value, trivial, trivial, Cert.Out.value, trivial, Cert.In.value⟩

end Cert.Proof

end
